-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactRefIdeal (m : (ℓ : Loc Cert.FfnDactRefIdeal.nD Cert.FfnDactRefIdeal.τ Cert.FfnDactRefIdeal.sig) → Buf (Elt Ideal) ℓ) : Prop :=
  True

def Pre_FfnDin (m : (ℓ : Loc Cert.FfnDin.nD Cert.FfnDin.τ Cert.FfnDin.sig) → Buf (Elt Bits) ℓ) : Prop :=
  True

def Pre_FfnDinIdeal (m : (ℓ : Loc Cert.FfnDinIdeal.nD Cert.FfnDinIdeal.τ Cert.FfnDinIdeal.sig) → Buf (Elt Ideal) ℓ) : Prop :=
  True

def Pre_FfnDinRefIdeal (m : (ℓ : Loc Cert.FfnDinRefIdeal.nD Cert.FfnDinRefIdeal.τ Cert.FfnDinRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvXbc (m : (ℓ : Loc Cert.EvXbc.nD Cert.EvXbc.τ Cert.EvXbc.sig) → Buf (Elt Bits) ℓ) : Prop :=
  True

def Pre_EvXbcIdeal (m : (ℓ : Loc Cert.EvXbcIdeal.nD Cert.EvXbcIdeal.τ Cert.EvXbcIdeal.sig) → Buf (Elt Ideal) ℓ) : Prop :=
  True

def Pre_EvXbcRefIdeal (m : (ℓ : Loc Cert.EvXbcRefIdeal.nD Cert.EvXbcRefIdeal.τ Cert.EvXbcRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_OdU (m : (ℓ : Loc Cert.OdU.nD Cert.OdU.τ Cert.OdU.sig) → Buf (Elt Bits) ℓ) : Prop :=
  True

def Pre_OdUIdeal (m : (ℓ : Loc Cert.OdUIdeal.nD Cert.OdUIdeal.τ Cert.OdUIdeal.sig) → Buf (Elt Ideal) ℓ) : Prop :=
  True

def Pre_OdURefIdeal (m : (ℓ : Loc Cert.OdURefIdeal.nD Cert.OdURefIdeal.τ Cert.OdURefIdeal.sig) → Buf (Elt Ideal) ℓ) : Prop :=
  True

def Pre_EvMix (m : (ℓ : Loc Cert.EvMix.nD Cert.EvMix.τ Cert.EvMix.sig) → Buf (Elt Bits) ℓ) : Prop :=
  True

def Pre_EvMixIdeal (m : (ℓ : Loc Cert.EvMixIdeal.nD Cert.EvMixIdeal.τ Cert.EvMixIdeal.sig) → Buf (Elt Ideal) ℓ) : Prop :=
  True

def Pre_EvMixRefIdeal (m : (ℓ : Loc Cert.EvMixRefIdeal.nD Cert.EvMixRefIdeal.τ Cert.EvMixRefIdeal.sig) → Buf (Elt Ideal) ℓ) : Prop :=
  True

def Pre_OdMix (m : (ℓ : Loc Cert.OdMix.nD Cert.OdMix.τ Cert.OdMix.sig) → Buf (Elt Bits) ℓ) : Prop :=
  True

def Pre_OdMixIdeal (m : (ℓ : Loc Cert.OdMixIdeal.nD Cert.OdMixIdeal.τ Cert.OdMixIdeal.sig) → Buf (Elt Ideal) ℓ) : Prop :=
  True

def Pre_OdMixRefIdeal (m : (ℓ : Loc Cert.OdMixRefIdeal.nD Cert.OdMixRefIdeal.τ Cert.OdMixRefIdeal.sig) → Buf (Elt Ideal) ℓ) : Prop :=
  True

def Pre_EvDout (m : (ℓ : Loc Cert.EvDout.nD Cert.EvDout.τ Cert.EvDout.sig) → Buf (Elt Bits) ℓ) : Prop :=
  True

def Pre_EvDoutIdeal (m : (ℓ : Loc Cert.EvDoutIdeal.nD Cert.EvDoutIdeal.τ Cert.EvDoutIdeal.sig) → Buf (Elt Ideal) ℓ) : Prop :=
  True

def Pre_EvDoutRefIdeal (m : (ℓ : Loc Cert.EvDoutRefIdeal.nD Cert.EvDoutRefIdeal.τ Cert.EvDoutRefIdeal.sig) → Buf (Elt Ideal) ℓ) : Prop :=
  True

def Pre_OdDout (m : (ℓ : Loc Cert.OdDout.nD Cert.OdDout.τ Cert.OdDout.sig) → Buf (Elt Bits) ℓ) : Prop :=
  True

def Pre_OdDoutIdeal (m : (ℓ : Loc Cert.OdDoutIdeal.nD Cert.OdDoutIdeal.τ Cert.OdDoutIdeal.sig) → Buf (Elt Ideal) ℓ) : Prop :=
  True

def Pre_OdDoutRefIdeal (m : (ℓ : Loc Cert.OdDoutRefIdeal.nD Cert.OdDoutRefIdeal.τ Cert.OdDoutRefIdeal.sig) → Buf (Elt Ideal) ℓ) : Prop :=
  True

def Pre_OdDoutU (m : (ℓ : Loc Cert.OdDoutU.nD Cert.OdDoutU.τ Cert.OdDoutU.sig) → Buf (Elt Bits) ℓ) : Prop :=
  True

def Pre_OdDoutUIdeal (m : (ℓ : Loc Cert.OdDoutUIdeal.nD Cert.OdDoutUIdeal.τ Cert.OdDoutUIdeal.sig) → Buf (Elt Ideal) ℓ) : Prop :=
  True

def Pre_OdDoutURefIdeal (m : (ℓ : Loc Cert.OdDoutURefIdeal.nD Cert.OdDoutURefIdeal.τ Cert.OdDoutURefIdeal.sig) → Buf (Elt Ideal) ℓ) : Prop :=
  True

def Pre_EvDw (m : (ℓ : Loc Cert.EvDw.nD Cert.EvDw.τ Cert.EvDw.sig) → Buf (Elt Bits) ℓ) : Prop :=
  True

def Pre_EvDwIdeal (m : (ℓ : Loc Cert.EvDwIdeal.nD Cert.EvDwIdeal.τ Cert.EvDwIdeal.sig) → Buf (Elt Ideal) ℓ) : Prop :=
  True

def Pre_EvDwRefIdeal (m : (ℓ : Loc Cert.EvDwRefIdeal.nD Cert.EvDwRefIdeal.τ Cert.EvDwRefIdeal.sig) → Buf (Elt Ideal) ℓ) : Prop :=
  True

def Pre_EvDwXbc (m : (ℓ : Loc Cert.EvDwXbc.nD Cert.EvDwXbc.τ Cert.EvDwXbc.sig) → Buf (Elt Bits) ℓ) : Prop :=
  True

def Pre_EvDwXbcIdeal (m : (ℓ : Loc Cert.EvDwXbcIdeal.nD Cert.EvDwXbcIdeal.τ Cert.EvDwXbcIdeal.sig) → Buf (Elt Ideal) ℓ) : Prop :=
  True

def Pre_EvDwXbcRefIdeal (m : (ℓ : Loc Cert.EvDwXbcRefIdeal.nD Cert.EvDwXbcRefIdeal.τ Cert.EvDwXbcRefIdeal.sig) → Buf (Elt Ideal) ℓ) : Prop :=
  True

def Pre_OdDw (m : (ℓ : Loc Cert.OdDw.nD Cert.OdDw.τ Cert.OdDw.sig) → Buf (Elt Bits) ℓ) : Prop :=
  True

def Pre_OdDwIdeal (m : (ℓ : Loc Cert.OdDwIdeal.nD Cert.OdDwIdeal.τ Cert.OdDwIdeal.sig) → Buf (Elt Ideal) ℓ) : Prop :=
  True

def Pre_OdDwRefIdeal (m : (ℓ : Loc Cert.OdDwRefIdeal.nD Cert.OdDwRefIdeal.τ Cert.OdDwRefIdeal.sig) → Buf (Elt Ideal) ℓ) : Prop :=
  True

def Pre_OdDwV (m : (ℓ : Loc Cert.OdDwV.nD Cert.OdDwV.τ Cert.OdDwV.sig) → Buf (Elt Bits) ℓ) : Prop :=
  True

def Pre_OdDwVIdeal (m : (ℓ : Loc Cert.OdDwVIdeal.nD Cert.OdDwVIdeal.τ Cert.OdDwVIdeal.sig) → Buf (Elt Ideal) ℓ) : Prop :=
  True

def Pre_OdDwVRefIdeal (m : (ℓ : Loc Cert.OdDwVRefIdeal.nD Cert.OdDwVRefIdeal.τ Cert.OdDwVRefIdeal.sig) → Buf (Elt Ideal) ℓ) : Prop :=
  True

def Pre_OdDwU (m : (ℓ : Loc Cert.OdDwU.nD Cert.OdDwU.τ Cert.OdDwU.sig) → Buf (Elt Bits) ℓ) : Prop :=
  True

def Pre_OdDwUIdeal (m : (ℓ : Loc Cert.OdDwUIdeal.nD Cert.OdDwUIdeal.τ Cert.OdDwUIdeal.sig) → Buf (Elt Ideal) ℓ) : Prop :=
  True

def Pre_OdDwURefIdeal (m : (ℓ : Loc Cert.OdDwURefIdeal.nD Cert.OdDwURefIdeal.τ Cert.OdDwURefIdeal.sig) → Buf (Elt Ideal) ℓ) : Prop :=
  True

def Pre_OdDwOut (m : (ℓ : Loc Cert.OdDwOut.nD Cert.OdDwOut.τ Cert.OdDwOut.sig) → Buf (Elt Bits) ℓ) : Prop :=
  True

def Pre_OdDwOutIdeal (m : (ℓ : Loc Cert.OdDwOutIdeal.nD Cert.OdDwOutIdeal.τ Cert.OdDwOutIdeal.sig) → Buf (Elt Ideal) ℓ) : Prop :=
  True

def Pre_OdDwOutRefIdeal (m : (ℓ : Loc Cert.OdDwOutRefIdeal.nD Cert.OdDwOutRefIdeal.τ Cert.OdDwOutRefIdeal.sig) → Buf (Elt Ideal) ℓ) : Prop :=
  True

def Pre_OdDwOutU (m : (ℓ : Loc Cert.OdDwOutU.nD Cert.OdDwOutU.τ Cert.OdDwOutU.sig) → Buf (Elt Bits) ℓ) : Prop :=
  True

def Pre_OdDwOutUIdeal (m : (ℓ : Loc Cert.OdDwOutUIdeal.nD Cert.OdDwOutUIdeal.τ Cert.OdDwOutUIdeal.sig) → Buf (Elt Ideal) ℓ) : Prop :=
  True

def Pre_OdDwOutURefIdeal (m : (ℓ : Loc Cert.OdDwOutURefIdeal.nD Cert.OdDwOutURefIdeal.τ Cert.OdDwOutURefIdeal.sig) → Buf (Elt Ideal) ℓ) : Prop :=
  True

def Pre_EvDhn (m : (ℓ : Loc Cert.EvDhn.nD Cert.EvDhn.τ Cert.EvDhn.sig) → Buf (Elt Bits) ℓ) : Prop :=
  True

def Pre_EvDhnIdeal (m : (ℓ : Loc Cert.EvDhnIdeal.nD Cert.EvDhnIdeal.τ Cert.EvDhnIdeal.sig) → Buf (Elt Ideal) ℓ) : Prop :=
  True

def Pre_EvDhnRefIdeal (m : (ℓ : Loc Cert.EvDhnRefIdeal.nD Cert.EvDhnRefIdeal.τ Cert.EvDhnRefIdeal.sig) → Buf (Elt Ideal) ℓ) : Prop :=
  True

def Pre_OdDhn (m : (ℓ : Loc Cert.OdDhn.nD Cert.OdDhn.τ Cert.OdDhn.sig) → Buf (Elt Bits) ℓ) : Prop :=
  True

def Pre_OdDhnIdeal (m : (ℓ : Loc Cert.OdDhnIdeal.nD Cert.OdDhnIdeal.τ Cert.OdDhnIdeal.sig) → Buf (Elt Ideal) ℓ) : Prop :=
  True

def Pre_OdDhnRefIdeal (m : (ℓ : Loc Cert.OdDhnRefIdeal.nD Cert.OdDhnRefIdeal.τ Cert.OdDhnRefIdeal.sig) → Buf (Elt Ideal) ℓ) : Prop :=
  True

def Pre_LruConvBwd (m : (ℓ : Loc Cert.LruConvBwd.nD Cert.LruConvBwd.τ Cert.LruConvBwd.sig) → Buf (Elt Bits) ℓ) : Prop :=
  True

def Pre_LruConvBwdIdeal (m : (ℓ : Loc Cert.LruConvBwdIdeal.nD Cert.LruConvBwdIdeal.τ Cert.LruConvBwdIdeal.sig) → Buf (Elt Ideal) ℓ) : Prop :=
  True

def Pre_LruConvBwdRefIdeal (m : (ℓ : Loc Cert.LruConvBwdRefIdeal.nD Cert.LruConvBwdRefIdeal.τ Cert.LruConvBwdRefIdeal.sig) → Buf (Elt Ideal) ℓ) : Prop :=
  True

def Pre_SsdConvBwd (m : (ℓ : Loc Cert.SsdConvBwd.nD Cert.SsdConvBwd.τ Cert.SsdConvBwd.sig) → Buf (Elt Bits) ℓ) : Prop :=
  True

def Pre_SsdConvBwdIdeal (m : (ℓ : Loc Cert.SsdConvBwdIdeal.nD Cert.SsdConvBwdIdeal.τ Cert.SsdConvBwdIdeal.sig) → Buf (Elt Ideal) ℓ) : Prop :=
  True

def Pre_SsdConvBwdIdeal_finite_line [hPre_finite_line : Cert.Pre_finite_line.Facts] (m : (ℓ : Loc Cert.SsdConvBwdIdeal.nD Cert.SsdConvBwdIdeal.τ Cert.SsdConvBwdIdeal.sig) → Buf (Elt Ideal) ℓ) : Prop :=
  ∀ c : Dev Cert.SsdConvBwdIdeal.nD,
    (Cert.Pre_finite_line.fn (F := Ideal) (m ((c.tc : Thread Cert.SsdConvBwdIdeal.nD Cert.SsdConvBwdIdeal.τ).loc Cert.SsdConvBwdIdeal.main_arg0)) (m ((c.tc : Thread Cert.SsdConvBwdIdeal.nD Cert.SsdConvBwdIdeal.τ).loc Cert.SsdConvBwdIdeal.main_arg1)) (m ((c.tc : Thread Cert.SsdConvBwdIdeal.nD Cert.SsdConvBwdIdeal.τ).loc Cert.SsdConvBwdIdeal.main_arg2)) (m ((c.tc : Thread Cert.SsdConvBwdIdeal.nD Cert.SsdConvBwdIdeal.τ).loc Cert.SsdConvBwdIdeal.main_arg3))) = (fun _ => 1#1)

def Pre_SsdConvBwdRefIdeal (m : (ℓ : Loc Cert.SsdConvBwdRefIdeal.nD Cert.SsdConvBwdRefIdeal.τ Cert.SsdConvBwdRefIdeal.sig) → Buf (Elt Ideal) ℓ) : Prop :=
  True

def Pre_SsdConvBwdRefIdeal_finite_line [hPre_finite_line : Cert.Pre_finite_line.Facts] (m : (ℓ : Loc Cert.SsdConvBwdRefIdeal.nD Cert.SsdConvBwdRefIdeal.τ Cert.SsdConvBwdRefIdeal.sig) → Buf (Elt Ideal) ℓ) : Prop :=
  ∀ c : Dev Cert.SsdConvBwdRefIdeal.nD,
    (Cert.Pre_finite_line.fn (F := Ideal) (m ((c.tc : Thread Cert.SsdConvBwdRefIdeal.nD Cert.SsdConvBwdRefIdeal.τ).loc Cert.SsdConvBwdRefIdeal.main_arg0)) (m ((c.tc : Thread Cert.SsdConvBwdRefIdeal.nD Cert.SsdConvBwdRefIdeal.τ).loc Cert.SsdConvBwdRefIdeal.main_arg1)) (m ((c.tc : Thread Cert.SsdConvBwdRefIdeal.nD Cert.SsdConvBwdRefIdeal.τ).loc Cert.SsdConvBwdRefIdeal.main_arg2)) (m ((c.tc : Thread Cert.SsdConvBwdRefIdeal.nD Cert.SsdConvBwdRefIdeal.τ).loc Cert.SsdConvBwdRefIdeal.main_arg3))) = (fun _ => 1#1)

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvRefIdeal (m : (ℓ : Loc Cert.LruConvRefIdeal.nD Cert.LruConvRefIdeal.τ Cert.LruConvRefIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_SsdConvRefIdeal (m : (ℓ : Loc Cert.SsdConvRefIdeal.nD Cert.SsdConvRefIdeal.τ Cert.SsdConvRefIdeal.sig) → Buf (Elt Ideal) ℓ) : Prop :=
  True

def Pre_FfnConv (m : (ℓ : Loc Cert.FfnConv.nD Cert.FfnConv.τ Cert.FfnConv.sig) → Buf (Elt Bits) ℓ) : Prop :=
  True

def Pre_FfnConvIdeal (m : (ℓ : Loc Cert.FfnConvIdeal.nD Cert.FfnConvIdeal.τ Cert.FfnConvIdeal.sig) → Buf (Elt Ideal) ℓ) : Prop :=
  True

def Pre_FfnConvRefIdeal (m : (ℓ : Loc Cert.FfnConvRefIdeal.nD Cert.FfnConvRefIdeal.τ Cert.FfnConvRefIdeal.sig) → Buf (Elt Ideal) ℓ) : Prop :=
  True

def Pre_EvDt (m : (ℓ : Loc Cert.EvDt.nD Cert.EvDt.τ Cert.EvDt.sig) → Buf (Elt Bits) ℓ) : Prop :=
  True

def Pre_EvDtIdeal (m : (ℓ : Loc Cert.EvDtIdeal.nD Cert.EvDtIdeal.τ Cert.EvDtIdeal.sig) → Buf (Elt Ideal) ℓ) : Prop :=
  True

def Pre_EvDtRefIdeal (m : (ℓ : Loc Cert.EvDtRefIdeal.nD Cert.EvDtRefIdeal.τ Cert.EvDtRefIdeal.sig) → Buf (Elt Ideal) ℓ) : Prop :=
  True

def Pre_EvDwDt (m : (ℓ : Loc Cert.EvDwDt.nD Cert.EvDwDt.τ Cert.EvDwDt.sig) → Buf (Elt Bits) ℓ) : Prop :=
  True

def Pre_EvDwDtIdeal (m : (ℓ : Loc Cert.EvDwDtIdeal.nD Cert.EvDwDtIdeal.τ Cert.EvDwDtIdeal.sig) → Buf (Elt Ideal) ℓ) : Prop :=
  True

def Pre_EvDwDtRefIdeal (m : (ℓ : Loc Cert.EvDwDtRefIdeal.nD Cert.EvDwDtRefIdeal.τ Cert.EvDwDtRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_ModDctx (m : (ℓ : Loc Cert.ModDctx.nD Cert.ModDctx.τ Cert.ModDctx.sig) → Buf (Elt Bits) ℓ) : Prop :=
  True

def Pre_ModDctxIdeal (m : (ℓ : Loc Cert.ModDctxIdeal.nD Cert.ModDctxIdeal.τ Cert.ModDctxIdeal.sig) → Buf (Elt Ideal) ℓ) : Prop :=
  True

def Pre_ModDctxRefIdeal (m : (ℓ : Loc Cert.ModDctxRefIdeal.nD Cert.ModDctxRefIdeal.τ Cert.ModDctxRefIdeal.sig) → Buf (Elt Ideal) ℓ) : Prop :=
  True

def Pre_ModSilu (m : (ℓ : Loc Cert.ModSilu.nD Cert.ModSilu.τ Cert.ModSilu.sig) → Buf (Elt Bits) ℓ) : Prop :=
  True

def Pre_ModSiluIdeal (m : (ℓ : Loc Cert.ModSiluIdeal.nD Cert.ModSiluIdeal.τ Cert.ModSiluIdeal.sig) → Buf (Elt Ideal) ℓ) : Prop :=
  True

def Pre_ModSiluRefIdeal (m : (ℓ : Loc Cert.ModSiluRefIdeal.nD Cert.ModSiluRefIdeal.τ Cert.ModSiluRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ResA (m : (ℓ : Loc Cert.ResA.nD Cert.ResA.τ Cert.ResA.sig) → Buf (Elt Bits) ℓ) : Prop :=
  True

def Pre_ResAIdeal (m : (ℓ : Loc Cert.ResAIdeal.nD Cert.ResAIdeal.τ Cert.ResAIdeal.sig) → Buf (Elt Ideal) ℓ) : Prop :=
  True

def Pre_ResARefIdeal (m : (ℓ : Loc Cert.ResARefIdeal.nD Cert.ResARefIdeal.τ Cert.ResARefIdeal.sig) → Buf (Elt Ideal) ℓ) : Prop :=
  True

def Pre_ResB (m : (ℓ : Loc Cert.ResB.nD Cert.ResB.τ Cert.ResB.sig) → Buf (Elt Bits) ℓ) : Prop :=
  True

def Pre_ResBIdeal (m : (ℓ : Loc Cert.ResBIdeal.nD Cert.ResBIdeal.τ Cert.ResBIdeal.sig) → Buf (Elt Ideal) ℓ) : Prop :=
  True

def Pre_ResBRefIdeal (m : (ℓ : Loc Cert.ResBRefIdeal.nD Cert.ResBRefIdeal.τ Cert.ResBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1))
      ∧ r.2.sem = fun _ => 0)

def quiescent_FfnDin [hFfnDin : Cert.FfnDin.Facts] : Prop :=
  ∀ (m : (ℓ : Loc Cert.FfnDin.nD Cert.FfnDin.τ Cert.FfnDin.sig) → Buf (Elt Bits) ℓ) (g : Dev Cert.FfnDin.nD → PrngReg), Pre_FfnDin m →
    θ_run (Cert.FfnDin.defs (F := Bits)) (onTc (τ := Cert.FfnDin.τ) (Cert.FfnDin.main (F := Bits))) ⟨m, fun _ => 0, g⟩ (fun r => (∀ c : Dev Cert.FfnDin.nD,
      r.2.mem ((c.tc : Thread Cert.FfnDin.nD Cert.FfnDin.τ).loc Cert.FfnDin.main_arg0) = m ((c.tc : Thread Cert.FfnDin.nD Cert.FfnDin.τ).loc Cert.FfnDin.main_arg0)
      ∧ r.2.mem ((c.tc : Thread Cert.FfnDin.nD Cert.FfnDin.τ).loc Cert.FfnDin.main_arg1) = m ((c.tc : Thread Cert.FfnDin.nD Cert.FfnDin.τ).loc Cert.FfnDin.main_arg1)
      ∧ r.2.mem ((c.tc : Thread Cert.FfnDin.nD Cert.FfnDin.τ).loc Cert.FfnDin.main_arg2) = m ((c.tc : Thread Cert.FfnDin.nD Cert.FfnDin.τ).loc Cert.FfnDin.main_arg2)
      ∧ r.2.mem ((c.tc : Thread Cert.FfnDin.nD Cert.FfnDin.τ).loc Cert.FfnDin.main_arg3) = m ((c.tc : Thread Cert.FfnDin.nD Cert.FfnDin.τ).loc Cert.FfnDin.main_arg3))
      ∧ r.2.sem = fun _ => 0)

def quiescent_FfnDinIdeal [hFfnDinIdeal : Cert.FfnDinIdeal.Facts] : Prop :=
  ∀ (m : (ℓ : Loc Cert.FfnDinIdeal.nD Cert.FfnDinIdeal.τ Cert.FfnDinIdeal.sig) → Buf (Elt Ideal) ℓ) (g : Dev Cert.FfnDinIdeal.nD → PrngReg), Pre_FfnDinIdeal m →
    θ_run (Cert.FfnDinIdeal.defs (F := Ideal)) (onTc (τ := Cert.FfnDinIdeal.τ) (Cert.FfnDinIdeal.main (F := Ideal))) ⟨m, fun _ => 0, g⟩ (fun r => (∀ c : Dev Cert.FfnDinIdeal.nD,
      r.2.mem ((c.tc : Thread Cert.FfnDinIdeal.nD Cert.FfnDinIdeal.τ).loc Cert.FfnDinIdeal.main_arg0) = m ((c.tc : Thread Cert.FfnDinIdeal.nD Cert.FfnDinIdeal.τ).loc Cert.FfnDinIdeal.main_arg0)
      ∧ r.2.mem ((c.tc : Thread Cert.FfnDinIdeal.nD Cert.FfnDinIdeal.τ).loc Cert.FfnDinIdeal.main_arg1) = m ((c.tc : Thread Cert.FfnDinIdeal.nD Cert.FfnDinIdeal.τ).loc Cert.FfnDinIdeal.main_arg1)
      ∧ r.2.mem ((c.tc : Thread Cert.FfnDinIdeal.nD Cert.FfnDinIdeal.τ).loc Cert.FfnDinIdeal.main_arg2) = m ((c.tc : Thread Cert.FfnDinIdeal.nD Cert.FfnDinIdeal.τ).loc Cert.FfnDinIdeal.main_arg2)
      ∧ r.2.mem ((c.tc : Thread Cert.FfnDinIdeal.nD Cert.FfnDinIdeal.τ).loc Cert.FfnDinIdeal.main_arg3) = m ((c.tc : Thread Cert.FfnDinIdeal.nD Cert.FfnDinIdeal.τ).loc Cert.FfnDinIdeal.main_arg3))
      ∧ r.2.sem = fun _ => 0)

def quiescent_FfnDinRefIdeal [hFfnDinRefIdeal : Cert.FfnDinRefIdeal.Facts] : Prop :=
  ∀ (m : (ℓ : Loc Cert.FfnDinRefIdeal.nD Cert.FfnDinRefIdeal.τ Cert.FfnDinRefIdeal.sig) → Buf (Elt Ideal) ℓ) (g : Dev Cert.FfnDinRefIdeal.nD → PrngReg), Pre_FfnDinRefIdeal m →
    θ_run (Cert.FfnDinRefIdeal.defs (F := Ideal)) (onTc (τ := Cert.FfnDinRefIdeal.τ) (Cert.FfnDinRefIdeal.main (F := Ideal))) ⟨m, fun _ => 0, g⟩ (fun r => (∀ c : Dev Cert.FfnDinRefIdeal.nD,
      r.2.mem ((c.tc : Thread Cert.FfnDinRefIdeal.nD Cert.FfnDinRefIdeal.τ).loc Cert.FfnDinRefIdeal.main_arg0) = m ((c.tc : Thread Cert.FfnDinRefIdeal.nD Cert.FfnDinRefIdeal.τ).loc Cert.FfnDinRefIdeal.main_arg0)
      ∧ r.2.mem ((c.tc : Thread Cert.FfnDinRefIdeal.nD Cert.FfnDinRefIdeal.τ).loc Cert.FfnDinRefIdeal.main_arg1) = m ((c.tc : Thread Cert.FfnDinRefIdeal.nD Cert.FfnDinRefIdeal.τ).loc Cert.FfnDinRefIdeal.main_arg1)
      ∧ r.2.mem ((c.tc : Thread Cert.FfnDinRefIdeal.nD Cert.FfnDinRefIdeal.τ).loc Cert.FfnDinRefIdeal.main_arg2) = m ((c.tc : Thread Cert.FfnDinRefIdeal.nD Cert.FfnDinRefIdeal.τ).loc Cert.FfnDinRefIdeal.main_arg2)
      ∧ r.2.mem ((c.tc : Thread Cert.FfnDinRefIdeal.nD Cert.FfnDinRefIdeal.τ).loc Cert.FfnDinRefIdeal.main_arg3) = m ((c.tc : Thread Cert.FfnDinRefIdeal.nD Cert.FfnDinRefIdeal.τ).loc Cert.FfnDinRefIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvXbc [hEvXbc : Cert.EvXbc.Facts] : Prop :=
  ∀ (m : (ℓ : Loc Cert.EvXbc.nD Cert.EvXbc.τ Cert.EvXbc.sig) → Buf (Elt Bits) ℓ) (g : Dev Cert.EvXbc.nD → PrngReg), Pre_EvXbc m →
    θ_run (Cert.EvXbc.defs (F := Bits)) (onTc (τ := Cert.EvXbc.τ) (Cert.EvXbc.main (F := Bits))) ⟨m, fun _ => 0, g⟩ (fun r => (∀ c : Dev Cert.EvXbc.nD,
      r.2.mem ((c.tc : Thread Cert.EvXbc.nD Cert.EvXbc.τ).loc Cert.EvXbc.main_arg0) = m ((c.tc : Thread Cert.EvXbc.nD Cert.EvXbc.τ).loc Cert.EvXbc.main_arg0)
      ∧ r.2.mem ((c.tc : Thread Cert.EvXbc.nD Cert.EvXbc.τ).loc Cert.EvXbc.main_arg1) = m ((c.tc : Thread Cert.EvXbc.nD Cert.EvXbc.τ).loc Cert.EvXbc.main_arg1))
      ∧ r.2.sem = fun _ => 0)

def quiescent_EvXbcIdeal [hEvXbcIdeal : Cert.EvXbcIdeal.Facts] : Prop :=
  ∀ (m : (ℓ : Loc Cert.EvXbcIdeal.nD Cert.EvXbcIdeal.τ Cert.EvXbcIdeal.sig) → Buf (Elt Ideal) ℓ) (g : Dev Cert.EvXbcIdeal.nD → PrngReg), Pre_EvXbcIdeal m →
    θ_run (Cert.EvXbcIdeal.defs (F := Ideal)) (onTc (τ := Cert.EvXbcIdeal.τ) (Cert.EvXbcIdeal.main (F := Ideal))) ⟨m, fun _ => 0, g⟩ (fun r => (∀ c : Dev Cert.EvXbcIdeal.nD,
      r.2.mem ((c.tc : Thread Cert.EvXbcIdeal.nD Cert.EvXbcIdeal.τ).loc Cert.EvXbcIdeal.main_arg0) = m ((c.tc : Thread Cert.EvXbcIdeal.nD Cert.EvXbcIdeal.τ).loc Cert.EvXbcIdeal.main_arg0)
      ∧ r.2.mem ((c.tc : Thread Cert.EvXbcIdeal.nD Cert.EvXbcIdeal.τ).loc Cert.EvXbcIdeal.main_arg1) = m ((c.tc : Thread Cert.EvXbcIdeal.nD Cert.EvXbcIdeal.τ).loc Cert.EvXbcIdeal.main_arg1))
      ∧ r.2.sem = fun _ => 0)

def quiescent_EvXbcRefIdeal [hEvXbcRefIdeal : Cert.EvXbcRefIdeal.Facts] : Prop :=
  ∀ (m : (ℓ : Loc Cert.EvXbcRefIdeal.nD Cert.EvXbcRefIdeal.τ Cert.EvXbcRefIdeal.sig) → Buf (Elt Ideal) ℓ) (g : Dev Cert.EvXbcRefIdeal.nD → PrngReg), Pre_EvXbcRefIdeal m →
    θ_run (Cert.EvXbcRefIdeal.defs (F := Ideal)) (onTc (τ := Cert.EvXbcRefIdeal.τ) (Cert.EvXbcRefIdeal.main (F := Ideal))) ⟨m, fun _ => 0, g⟩ (fun r => (∀ c : Dev Cert.EvXbcRefIdeal.nD,
      r.2.mem ((c.tc : Thread Cert.EvXbcRefIdeal.nD Cert.EvXbcRefIdeal.τ).loc Cert.EvXbcRefIdeal.main_arg0) = m ((c.tc : Thread Cert.EvXbcRefIdeal.nD Cert.EvXbcRefIdeal.τ).loc Cert.EvXbcRefIdeal.main_arg0)
      ∧ r.2.mem ((c.tc : Thread Cert.EvXbcRefIdeal.nD Cert.EvXbcRefIdeal.τ).loc Cert.EvXbcRefIdeal.main_arg1) = m ((c.tc : Thread Cert.EvXbcRefIdeal.nD Cert.EvXbcRefIdeal.τ).loc Cert.EvXbcRefIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_OdU [hOdU : Cert.OdU.Facts] : Prop :=
  ∀ (m : (ℓ : Loc Cert.OdU.nD Cert.OdU.τ Cert.OdU.sig) → Buf (Elt Bits) ℓ) (g : Dev Cert.OdU.nD → PrngReg), Pre_OdU m →
    θ_run (Cert.OdU.defs (F := Bits)) (onTc (τ := Cert.OdU.τ) (Cert.OdU.main (F := Bits))) ⟨m, fun _ => 0, g⟩ (fun r => (∀ c : Dev Cert.OdU.nD,
      r.2.mem ((c.tc : Thread Cert.OdU.nD Cert.OdU.τ).loc Cert.OdU.main_arg0) = m ((c.tc : Thread Cert.OdU.nD Cert.OdU.τ).loc Cert.OdU.main_arg0)
      ∧ r.2.mem ((c.tc : Thread Cert.OdU.nD Cert.OdU.τ).loc Cert.OdU.main_arg1) = m ((c.tc : Thread Cert.OdU.nD Cert.OdU.τ).loc Cert.OdU.main_arg1))
      ∧ r.2.sem = fun _ => 0)

def quiescent_OdUIdeal [hOdUIdeal : Cert.OdUIdeal.Facts] : Prop :=
  ∀ (m : (ℓ : Loc Cert.OdUIdeal.nD Cert.OdUIdeal.τ Cert.OdUIdeal.sig) → Buf (Elt Ideal) ℓ) (g : Dev Cert.OdUIdeal.nD → PrngReg), Pre_OdUIdeal m →
    θ_run (Cert.OdUIdeal.defs (F := Ideal)) (onTc (τ := Cert.OdUIdeal.τ) (Cert.OdUIdeal.main (F := Ideal))) ⟨m, fun _ => 0, g⟩ (fun r => (∀ c : Dev Cert.OdUIdeal.nD,
      r.2.mem ((c.tc : Thread Cert.OdUIdeal.nD Cert.OdUIdeal.τ).loc Cert.OdUIdeal.main_arg0) = m ((c.tc : Thread Cert.OdUIdeal.nD Cert.OdUIdeal.τ).loc Cert.OdUIdeal.main_arg0)
      ∧ r.2.mem ((c.tc : Thread Cert.OdUIdeal.nD Cert.OdUIdeal.τ).loc Cert.OdUIdeal.main_arg1) = m ((c.tc : Thread Cert.OdUIdeal.nD Cert.OdUIdeal.τ).loc Cert.OdUIdeal.main_arg1))
      ∧ r.2.sem = fun _ => 0)

def quiescent_OdURefIdeal [hOdURefIdeal : Cert.OdURefIdeal.Facts] : Prop :=
  ∀ (m : (ℓ : Loc Cert.OdURefIdeal.nD Cert.OdURefIdeal.τ Cert.OdURefIdeal.sig) → Buf (Elt Ideal) ℓ) (g : Dev Cert.OdURefIdeal.nD → PrngReg), Pre_OdURefIdeal m →
    θ_run (Cert.OdURefIdeal.defs (F := Ideal)) (onTc (τ := Cert.OdURefIdeal.τ) (Cert.OdURefIdeal.main (F := Ideal))) ⟨m, fun _ => 0, g⟩ (fun r => (∀ c : Dev Cert.OdURefIdeal.nD,
      r.2.mem ((c.tc : Thread Cert.OdURefIdeal.nD Cert.OdURefIdeal.τ).loc Cert.OdURefIdeal.main_arg0) = m ((c.tc : Thread Cert.OdURefIdeal.nD Cert.OdURefIdeal.τ).loc Cert.OdURefIdeal.main_arg0)
      ∧ r.2.mem ((c.tc : Thread Cert.OdURefIdeal.nD Cert.OdURefIdeal.τ).loc Cert.OdURefIdeal.main_arg1) = m ((c.tc : Thread Cert.OdURefIdeal.nD Cert.OdURefIdeal.τ).loc Cert.OdURefIdeal.main_arg1))
      ∧ r.2.sem = fun _ => 0)

def quiescent_EvMix [hEvMix : Cert.EvMix.Facts] : Prop :=
  ∀ (m : (ℓ : Loc Cert.EvMix.nD Cert.EvMix.τ Cert.EvMix.sig) → Buf (Elt Bits) ℓ) (g : Dev Cert.EvMix.nD → PrngReg), Pre_EvMix m →
    θ_run (Cert.EvMix.defs (F := Bits)) (onTc (τ := Cert.EvMix.τ) (Cert.EvMix.main (F := Bits))) ⟨m, fun _ => 0, g⟩ (fun r => (∀ c : Dev Cert.EvMix.nD,
      r.2.mem ((c.tc : Thread Cert.EvMix.nD Cert.EvMix.τ).loc Cert.EvMix.main_arg0) = m ((c.tc : Thread Cert.EvMix.nD Cert.EvMix.τ).loc Cert.EvMix.main_arg0)
      ∧ r.2.mem ((c.tc : Thread Cert.EvMix.nD Cert.EvMix.τ).loc Cert.EvMix.main_arg1) = m ((c.tc : Thread Cert.EvMix.nD Cert.EvMix.τ).loc Cert.EvMix.main_arg1)
      ∧ r.2.mem ((c.tc : Thread Cert.EvMix.nD Cert.EvMix.τ).loc Cert.EvMix.main_arg2) = m ((c.tc : Thread Cert.EvMix.nD Cert.EvMix.τ).loc Cert.EvMix.main_arg2))
      ∧ r.2.sem = fun _ => 0)

def quiescent_EvMixIdeal [hEvMixIdeal : Cert.EvMixIdeal.Facts] : Prop :=
  ∀ (m : (ℓ : Loc Cert.EvMixIdeal.nD Cert.EvMixIdeal.τ Cert.EvMixIdeal.sig) → Buf (Elt Ideal) ℓ) (g : Dev Cert.EvMixIdeal.nD → PrngReg), Pre_EvMixIdeal m →
    θ_run (Cert.EvMixIdeal.defs (F := Ideal)) (onTc (τ := Cert.EvMixIdeal.τ) (Cert.EvMixIdeal.main (F := Ideal))) ⟨m, fun _ => 0, g⟩ (fun r => (∀ c : Dev Cert.EvMixIdeal.nD,
      r.2.mem ((c.tc : Thread Cert.EvMixIdeal.nD Cert.EvMixIdeal.τ).loc Cert.EvMixIdeal.main_arg0) = m ((c.tc : Thread Cert.EvMixIdeal.nD Cert.EvMixIdeal.τ).loc Cert.EvMixIdeal.main_arg0)
      ∧ r.2.mem ((c.tc : Thread Cert.EvMixIdeal.nD Cert.EvMixIdeal.τ).loc Cert.EvMixIdeal.main_arg1) = m ((c.tc : Thread Cert.EvMixIdeal.nD Cert.EvMixIdeal.τ).loc Cert.EvMixIdeal.main_arg1)
      ∧ r.2.mem ((c.tc : Thread Cert.EvMixIdeal.nD Cert.EvMixIdeal.τ).loc Cert.EvMixIdeal.main_arg2) = m ((c.tc : Thread Cert.EvMixIdeal.nD Cert.EvMixIdeal.τ).loc Cert.EvMixIdeal.main_arg2))
      ∧ r.2.sem = fun _ => 0)

def quiescent_EvMixRefIdeal [hEvMixRefIdeal : Cert.EvMixRefIdeal.Facts] : Prop :=
  ∀ (m : (ℓ : Loc Cert.EvMixRefIdeal.nD Cert.EvMixRefIdeal.τ Cert.EvMixRefIdeal.sig) → Buf (Elt Ideal) ℓ) (g : Dev Cert.EvMixRefIdeal.nD → PrngReg), Pre_EvMixRefIdeal m →
    θ_run (Cert.EvMixRefIdeal.defs (F := Ideal)) (onTc (τ := Cert.EvMixRefIdeal.τ) (Cert.EvMixRefIdeal.main (F := Ideal))) ⟨m, fun _ => 0, g⟩ (fun r => (∀ c : Dev Cert.EvMixRefIdeal.nD,
      r.2.mem ((c.tc : Thread Cert.EvMixRefIdeal.nD Cert.EvMixRefIdeal.τ).loc Cert.EvMixRefIdeal.main_arg0) = m ((c.tc : Thread Cert.EvMixRefIdeal.nD Cert.EvMixRefIdeal.τ).loc Cert.EvMixRefIdeal.main_arg0)
      ∧ r.2.mem ((c.tc : Thread Cert.EvMixRefIdeal.nD Cert.EvMixRefIdeal.τ).loc Cert.EvMixRefIdeal.main_arg1) = m ((c.tc : Thread Cert.EvMixRefIdeal.nD Cert.EvMixRefIdeal.τ).loc Cert.EvMixRefIdeal.main_arg1)
      ∧ r.2.mem ((c.tc : Thread Cert.EvMixRefIdeal.nD Cert.EvMixRefIdeal.τ).loc Cert.EvMixRefIdeal.main_arg2) = m ((c.tc : Thread Cert.EvMixRefIdeal.nD Cert.EvMixRefIdeal.τ).loc Cert.EvMixRefIdeal.main_arg2))
      ∧ r.2.sem = fun _ => 0)

def quiescent_OdMix [hOdMix : Cert.OdMix.Facts] : Prop :=
  ∀ (m : (ℓ : Loc Cert.OdMix.nD Cert.OdMix.τ Cert.OdMix.sig) → Buf (Elt Bits) ℓ) (g : Dev Cert.OdMix.nD → PrngReg), Pre_OdMix m →
    θ_run (Cert.OdMix.defs (F := Bits)) (onTc (τ := Cert.OdMix.τ) (Cert.OdMix.main (F := Bits))) ⟨m, fun _ => 0, g⟩ (fun r => (∀ c : Dev Cert.OdMix.nD,
      r.2.mem ((c.tc : Thread Cert.OdMix.nD Cert.OdMix.τ).loc Cert.OdMix.main_arg0) = m ((c.tc : Thread Cert.OdMix.nD Cert.OdMix.τ).loc Cert.OdMix.main_arg0)
      ∧ r.2.mem ((c.tc : Thread Cert.OdMix.nD Cert.OdMix.τ).loc Cert.OdMix.main_arg1) = m ((c.tc : Thread Cert.OdMix.nD Cert.OdMix.τ).loc Cert.OdMix.main_arg1)
      ∧ r.2.mem ((c.tc : Thread Cert.OdMix.nD Cert.OdMix.τ).loc Cert.OdMix.main_arg2) = m ((c.tc : Thread Cert.OdMix.nD Cert.OdMix.τ).loc Cert.OdMix.main_arg2))
      ∧ r.2.sem = fun _ => 0)

def quiescent_OdMixIdeal [hOdMixIdeal : Cert.OdMixIdeal.Facts] : Prop :=
  ∀ (m : (ℓ : Loc Cert.OdMixIdeal.nD Cert.OdMixIdeal.τ Cert.OdMixIdeal.sig) → Buf (Elt Ideal) ℓ) (g : Dev Cert.OdMixIdeal.nD → PrngReg), Pre_OdMixIdeal m →
    θ_run (Cert.OdMixIdeal.defs (F := Ideal)) (onTc (τ := Cert.OdMixIdeal.τ) (Cert.OdMixIdeal.main (F := Ideal))) ⟨m, fun _ => 0, g⟩ (fun r => (∀ c : Dev Cert.OdMixIdeal.nD,
      r.2.mem ((c.tc : Thread Cert.OdMixIdeal.nD Cert.OdMixIdeal.τ).loc Cert.OdMixIdeal.main_arg0) = m ((c.tc : Thread Cert.OdMixIdeal.nD Cert.OdMixIdeal.τ).loc Cert.OdMixIdeal.main_arg0)
      ∧ r.2.mem ((c.tc : Thread Cert.OdMixIdeal.nD Cert.OdMixIdeal.τ).loc Cert.OdMixIdeal.main_arg1) = m ((c.tc : Thread Cert.OdMixIdeal.nD Cert.OdMixIdeal.τ).loc Cert.OdMixIdeal.main_arg1)
      ∧ r.2.mem ((c.tc : Thread Cert.OdMixIdeal.nD Cert.OdMixIdeal.τ).loc Cert.OdMixIdeal.main_arg2) = m ((c.tc : Thread Cert.OdMixIdeal.nD Cert.OdMixIdeal.τ).loc Cert.OdMixIdeal.main_arg2))
      ∧ r.2.sem = fun _ => 0)

def quiescent_OdMixRefIdeal [hOdMixRefIdeal : Cert.OdMixRefIdeal.Facts] : Prop :=
  ∀ (m : (ℓ : Loc Cert.OdMixRefIdeal.nD Cert.OdMixRefIdeal.τ Cert.OdMixRefIdeal.sig) → Buf (Elt Ideal) ℓ) (g : Dev Cert.OdMixRefIdeal.nD → PrngReg), Pre_OdMixRefIdeal m →
    θ_run (Cert.OdMixRefIdeal.defs (F := Ideal)) (onTc (τ := Cert.OdMixRefIdeal.τ) (Cert.OdMixRefIdeal.main (F := Ideal))) ⟨m, fun _ => 0, g⟩ (fun r => (∀ c : Dev Cert.OdMixRefIdeal.nD,
      r.2.mem ((c.tc : Thread Cert.OdMixRefIdeal.nD Cert.OdMixRefIdeal.τ).loc Cert.OdMixRefIdeal.main_arg0) = m ((c.tc : Thread Cert.OdMixRefIdeal.nD Cert.OdMixRefIdeal.τ).loc Cert.OdMixRefIdeal.main_arg0)
      ∧ r.2.mem ((c.tc : Thread Cert.OdMixRefIdeal.nD Cert.OdMixRefIdeal.τ).loc Cert.OdMixRefIdeal.main_arg1) = m ((c.tc : Thread Cert.OdMixRefIdeal.nD Cert.OdMixRefIdeal.τ).loc Cert.OdMixRefIdeal.main_arg1)
      ∧ r.2.mem ((c.tc : Thread Cert.OdMixRefIdeal.nD Cert.OdMixRefIdeal.τ).loc Cert.OdMixRefIdeal.main_arg2) = m ((c.tc : Thread Cert.OdMixRefIdeal.nD Cert.OdMixRefIdeal.τ).loc Cert.OdMixRefIdeal.main_arg2))
      ∧ r.2.sem = fun _ => 0)

def quiescent_EvDout [hEvDout : Cert.EvDout.Facts] : Prop :=
  ∀ (m : (ℓ : Loc Cert.EvDout.nD Cert.EvDout.τ Cert.EvDout.sig) → Buf (Elt Bits) ℓ) (g : Dev Cert.EvDout.nD → PrngReg), Pre_EvDout m →
    θ_run (Cert.EvDout.defs (F := Bits)) (onTc (τ := Cert.EvDout.τ) (Cert.EvDout.main (F := Bits))) ⟨m, fun _ => 0, g⟩ (fun r => (∀ c : Dev Cert.EvDout.nD,
      r.2.mem ((c.tc : Thread Cert.EvDout.nD Cert.EvDout.τ).loc Cert.EvDout.main_arg0) = m ((c.tc : Thread Cert.EvDout.nD Cert.EvDout.τ).loc Cert.EvDout.main_arg0)
      ∧ r.2.mem ((c.tc : Thread Cert.EvDout.nD Cert.EvDout.τ).loc Cert.EvDout.main_arg1) = m ((c.tc : Thread Cert.EvDout.nD Cert.EvDout.τ).loc Cert.EvDout.main_arg1))
      ∧ r.2.sem = fun _ => 0)

def quiescent_EvDoutIdeal [hEvDoutIdeal : Cert.EvDoutIdeal.Facts] : Prop :=
  ∀ (m : (ℓ : Loc Cert.EvDoutIdeal.nD Cert.EvDoutIdeal.τ Cert.EvDoutIdeal.sig) → Buf (Elt Ideal) ℓ) (g : Dev Cert.EvDoutIdeal.nD → PrngReg), Pre_EvDoutIdeal m →
    θ_run (Cert.EvDoutIdeal.defs (F := Ideal)) (onTc (τ := Cert.EvDoutIdeal.τ) (Cert.EvDoutIdeal.main (F := Ideal))) ⟨m, fun _ => 0, g⟩ (fun r => (∀ c : Dev Cert.EvDoutIdeal.nD,
      r.2.mem ((c.tc : Thread Cert.EvDoutIdeal.nD Cert.EvDoutIdeal.τ).loc Cert.EvDoutIdeal.main_arg0) = m ((c.tc : Thread Cert.EvDoutIdeal.nD Cert.EvDoutIdeal.τ).loc Cert.EvDoutIdeal.main_arg0)
      ∧ r.2.mem ((c.tc : Thread Cert.EvDoutIdeal.nD Cert.EvDoutIdeal.τ).loc Cert.EvDoutIdeal.main_arg1) = m ((c.tc : Thread Cert.EvDoutIdeal.nD Cert.EvDoutIdeal.τ).loc Cert.EvDoutIdeal.main_arg1))
      ∧ r.2.sem = fun _ => 0)

def quiescent_EvDoutRefIdeal [hEvDoutRefIdeal : Cert.EvDoutRefIdeal.Facts] : Prop :=
  ∀ (m : (ℓ : Loc Cert.EvDoutRefIdeal.nD Cert.EvDoutRefIdeal.τ Cert.EvDoutRefIdeal.sig) → Buf (Elt Ideal) ℓ) (g : Dev Cert.EvDoutRefIdeal.nD → PrngReg), Pre_EvDoutRefIdeal m →
    θ_run (Cert.EvDoutRefIdeal.defs (F := Ideal)) (onTc (τ := Cert.EvDoutRefIdeal.τ) (Cert.EvDoutRefIdeal.main (F := Ideal))) ⟨m, fun _ => 0, g⟩ (fun r => (∀ c : Dev Cert.EvDoutRefIdeal.nD,
      r.2.mem ((c.tc : Thread Cert.EvDoutRefIdeal.nD Cert.EvDoutRefIdeal.τ).loc Cert.EvDoutRefIdeal.main_arg0) = m ((c.tc : Thread Cert.EvDoutRefIdeal.nD Cert.EvDoutRefIdeal.τ).loc Cert.EvDoutRefIdeal.main_arg0)
      ∧ r.2.mem ((c.tc : Thread Cert.EvDoutRefIdeal.nD Cert.EvDoutRefIdeal.τ).loc Cert.EvDoutRefIdeal.main_arg1) = m ((c.tc : Thread Cert.EvDoutRefIdeal.nD Cert.EvDoutRefIdeal.τ).loc Cert.EvDoutRefIdeal.main_arg1))
      ∧ r.2.sem = fun _ => 0)

def quiescent_OdDout [hOdDout : Cert.OdDout.Facts] : Prop :=
  ∀ (m : (ℓ : Loc Cert.OdDout.nD Cert.OdDout.τ Cert.OdDout.sig) → Buf (Elt Bits) ℓ) (g : Dev Cert.OdDout.nD → PrngReg), Pre_OdDout m →
    θ_run (Cert.OdDout.defs (F := Bits)) (onTc (τ := Cert.OdDout.τ) (Cert.OdDout.main (F := Bits))) ⟨m, fun _ => 0, g⟩ (fun r => (∀ c : Dev Cert.OdDout.nD,
      r.2.mem ((c.tc : Thread Cert.OdDout.nD Cert.OdDout.τ).loc Cert.OdDout.main_arg0) = m ((c.tc : Thread Cert.OdDout.nD Cert.OdDout.τ).loc Cert.OdDout.main_arg0)
      ∧ r.2.mem ((c.tc : Thread Cert.OdDout.nD Cert.OdDout.τ).loc Cert.OdDout.main_arg1) = m ((c.tc : Thread Cert.OdDout.nD Cert.OdDout.τ).loc Cert.OdDout.main_arg1))
      ∧ r.2.sem = fun _ => 0)

def quiescent_OdDoutIdeal [hOdDoutIdeal : Cert.OdDoutIdeal.Facts] : Prop :=
  ∀ (m : (ℓ : Loc Cert.OdDoutIdeal.nD Cert.OdDoutIdeal.τ Cert.OdDoutIdeal.sig) → Buf (Elt Ideal) ℓ) (g : Dev Cert.OdDoutIdeal.nD → PrngReg), Pre_OdDoutIdeal m →
    θ_run (Cert.OdDoutIdeal.defs (F := Ideal)) (onTc (τ := Cert.OdDoutIdeal.τ) (Cert.OdDoutIdeal.main (F := Ideal))) ⟨m, fun _ => 0, g⟩ (fun r => (∀ c : Dev Cert.OdDoutIdeal.nD,
      r.2.mem ((c.tc : Thread Cert.OdDoutIdeal.nD Cert.OdDoutIdeal.τ).loc Cert.OdDoutIdeal.main_arg0) = m ((c.tc : Thread Cert.OdDoutIdeal.nD Cert.OdDoutIdeal.τ).loc Cert.OdDoutIdeal.main_arg0)
      ∧ r.2.mem ((c.tc : Thread Cert.OdDoutIdeal.nD Cert.OdDoutIdeal.τ).loc Cert.OdDoutIdeal.main_arg1) = m ((c.tc : Thread Cert.OdDoutIdeal.nD Cert.OdDoutIdeal.τ).loc Cert.OdDoutIdeal.main_arg1))
      ∧ r.2.sem = fun _ => 0)

def quiescent_OdDoutRefIdeal [hOdDoutRefIdeal : Cert.OdDoutRefIdeal.Facts] : Prop :=
  ∀ (m : (ℓ : Loc Cert.OdDoutRefIdeal.nD Cert.OdDoutRefIdeal.τ Cert.OdDoutRefIdeal.sig) → Buf (Elt Ideal) ℓ) (g : Dev Cert.OdDoutRefIdeal.nD → PrngReg), Pre_OdDoutRefIdeal m →
    θ_run (Cert.OdDoutRefIdeal.defs (F := Ideal)) (onTc (τ := Cert.OdDoutRefIdeal.τ) (Cert.OdDoutRefIdeal.main (F := Ideal))) ⟨m, fun _ => 0, g⟩ (fun r => (∀ c : Dev Cert.OdDoutRefIdeal.nD,
      r.2.mem ((c.tc : Thread Cert.OdDoutRefIdeal.nD Cert.OdDoutRefIdeal.τ).loc Cert.OdDoutRefIdeal.main_arg0) = m ((c.tc : Thread Cert.OdDoutRefIdeal.nD Cert.OdDoutRefIdeal.τ).loc Cert.OdDoutRefIdeal.main_arg0)
      ∧ r.2.mem ((c.tc : Thread Cert.OdDoutRefIdeal.nD Cert.OdDoutRefIdeal.τ).loc Cert.OdDoutRefIdeal.main_arg1) = m ((c.tc : Thread Cert.OdDoutRefIdeal.nD Cert.OdDoutRefIdeal.τ).loc Cert.OdDoutRefIdeal.main_arg1))
      ∧ r.2.sem = fun _ => 0)

def quiescent_OdDoutU [hOdDoutU : Cert.OdDoutU.Facts] : Prop :=
  ∀ (m : (ℓ : Loc Cert.OdDoutU.nD Cert.OdDoutU.τ Cert.OdDoutU.sig) → Buf (Elt Bits) ℓ) (g : Dev Cert.OdDoutU.nD → PrngReg), Pre_OdDoutU m →
    θ_run (Cert.OdDoutU.defs (F := Bits)) (onTc (τ := Cert.OdDoutU.τ) (Cert.OdDoutU.main (F := Bits))) ⟨m, fun _ => 0, g⟩ (fun r => (∀ c : Dev Cert.OdDoutU.nD,
      r.2.mem ((c.tc : Thread Cert.OdDoutU.nD Cert.OdDoutU.τ).loc Cert.OdDoutU.main_arg0) = m ((c.tc : Thread Cert.OdDoutU.nD Cert.OdDoutU.τ).loc Cert.OdDoutU.main_arg0)
      ∧ r.2.mem ((c.tc : Thread Cert.OdDoutU.nD Cert.OdDoutU.τ).loc Cert.OdDoutU.main_arg1) = m ((c.tc : Thread Cert.OdDoutU.nD Cert.OdDoutU.τ).loc Cert.OdDoutU.main_arg1))
      ∧ r.2.sem = fun _ => 0)

def quiescent_OdDoutUIdeal [hOdDoutUIdeal : Cert.OdDoutUIdeal.Facts] : Prop :=
  ∀ (m : (ℓ : Loc Cert.OdDoutUIdeal.nD Cert.OdDoutUIdeal.τ Cert.OdDoutUIdeal.sig) → Buf (Elt Ideal) ℓ) (g : Dev Cert.OdDoutUIdeal.nD → PrngReg), Pre_OdDoutUIdeal m →
    θ_run (Cert.OdDoutUIdeal.defs (F := Ideal)) (onTc (τ := Cert.OdDoutUIdeal.τ) (Cert.OdDoutUIdeal.main (F := Ideal))) ⟨m, fun _ => 0, g⟩ (fun r => (∀ c : Dev Cert.OdDoutUIdeal.nD,
      r.2.mem ((c.tc : Thread Cert.OdDoutUIdeal.nD Cert.OdDoutUIdeal.τ).loc Cert.OdDoutUIdeal.main_arg0) = m ((c.tc : Thread Cert.OdDoutUIdeal.nD Cert.OdDoutUIdeal.τ).loc Cert.OdDoutUIdeal.main_arg0)
      ∧ r.2.mem ((c.tc : Thread Cert.OdDoutUIdeal.nD Cert.OdDoutUIdeal.τ).loc Cert.OdDoutUIdeal.main_arg1) = m ((c.tc : Thread Cert.OdDoutUIdeal.nD Cert.OdDoutUIdeal.τ).loc Cert.OdDoutUIdeal.main_arg1))
      ∧ r.2.sem = fun _ => 0)

def quiescent_OdDoutURefIdeal [hOdDoutURefIdeal : Cert.OdDoutURefIdeal.Facts] : Prop :=
  ∀ (m : (ℓ : Loc Cert.OdDoutURefIdeal.nD Cert.OdDoutURefIdeal.τ Cert.OdDoutURefIdeal.sig) → Buf (Elt Ideal) ℓ) (g : Dev Cert.OdDoutURefIdeal.nD → PrngReg), Pre_OdDoutURefIdeal m →
    θ_run (Cert.OdDoutURefIdeal.defs (F := Ideal)) (onTc (τ := Cert.OdDoutURefIdeal.τ) (Cert.OdDoutURefIdeal.main (F := Ideal))) ⟨m, fun _ => 0, g⟩ (fun r => (∀ c : Dev Cert.OdDoutURefIdeal.nD,
      r.2.mem ((c.tc : Thread Cert.OdDoutURefIdeal.nD Cert.OdDoutURefIdeal.τ).loc Cert.OdDoutURefIdeal.main_arg0) = m ((c.tc : Thread Cert.OdDoutURefIdeal.nD Cert.OdDoutURefIdeal.τ).loc Cert.OdDoutURefIdeal.main_arg0)
      ∧ r.2.mem ((c.tc : Thread Cert.OdDoutURefIdeal.nD Cert.OdDoutURefIdeal.τ).loc Cert.OdDoutURefIdeal.main_arg1) = m ((c.tc : Thread Cert.OdDoutURefIdeal.nD Cert.OdDoutURefIdeal.τ).loc Cert.OdDoutURefIdeal.main_arg1))
      ∧ r.2.sem = fun _ => 0)

def quiescent_EvDw [hEvDw : Cert.EvDw.Facts] : Prop :=
  ∀ (m : (ℓ : Loc Cert.EvDw.nD Cert.EvDw.τ Cert.EvDw.sig) → Buf (Elt Bits) ℓ) (g : Dev Cert.EvDw.nD → PrngReg), Pre_EvDw m →
    θ_run (Cert.EvDw.defs (F := Bits)) (onTc (τ := Cert.EvDw.τ) (Cert.EvDw.main (F := Bits))) ⟨m, fun _ => 0, g⟩ (fun r => (∀ c : Dev Cert.EvDw.nD,
      r.2.mem ((c.tc : Thread Cert.EvDw.nD Cert.EvDw.τ).loc Cert.EvDw.main_arg0) = m ((c.tc : Thread Cert.EvDw.nD Cert.EvDw.τ).loc Cert.EvDw.main_arg0)
      ∧ r.2.mem ((c.tc : Thread Cert.EvDw.nD Cert.EvDw.τ).loc Cert.EvDw.main_arg1) = m ((c.tc : Thread Cert.EvDw.nD Cert.EvDw.τ).loc Cert.EvDw.main_arg1))
      ∧ r.2.sem = fun _ => 0)

def quiescent_EvDwIdeal [hEvDwIdeal : Cert.EvDwIdeal.Facts] : Prop :=
  ∀ (m : (ℓ : Loc Cert.EvDwIdeal.nD Cert.EvDwIdeal.τ Cert.EvDwIdeal.sig) → Buf (Elt Ideal) ℓ) (g : Dev Cert.EvDwIdeal.nD → PrngReg), Pre_EvDwIdeal m →
    θ_run (Cert.EvDwIdeal.defs (F := Ideal)) (onTc (τ := Cert.EvDwIdeal.τ) (Cert.EvDwIdeal.main (F := Ideal))) ⟨m, fun _ => 0, g⟩ (fun r => (∀ c : Dev Cert.EvDwIdeal.nD,
      r.2.mem ((c.tc : Thread Cert.EvDwIdeal.nD Cert.EvDwIdeal.τ).loc Cert.EvDwIdeal.main_arg0) = m ((c.tc : Thread Cert.EvDwIdeal.nD Cert.EvDwIdeal.τ).loc Cert.EvDwIdeal.main_arg0)
      ∧ r.2.mem ((c.tc : Thread Cert.EvDwIdeal.nD Cert.EvDwIdeal.τ).loc Cert.EvDwIdeal.main_arg1) = m ((c.tc : Thread Cert.EvDwIdeal.nD Cert.EvDwIdeal.τ).loc Cert.EvDwIdeal.main_arg1))
      ∧ r.2.sem = fun _ => 0)

def quiescent_EvDwRefIdeal [hEvDwRefIdeal : Cert.EvDwRefIdeal.Facts] : Prop :=
  ∀ (m : (ℓ : Loc Cert.EvDwRefIdeal.nD Cert.EvDwRefIdeal.τ Cert.EvDwRefIdeal.sig) → Buf (Elt Ideal) ℓ) (g : Dev Cert.EvDwRefIdeal.nD → PrngReg), Pre_EvDwRefIdeal m →
    θ_run (Cert.EvDwRefIdeal.defs (F := Ideal)) (onTc (τ := Cert.EvDwRefIdeal.τ) (Cert.EvDwRefIdeal.main (F := Ideal))) ⟨m, fun _ => 0, g⟩ (fun r => (∀ c : Dev Cert.EvDwRefIdeal.nD,
      r.2.mem ((c.tc : Thread Cert.EvDwRefIdeal.nD Cert.EvDwRefIdeal.τ).loc Cert.EvDwRefIdeal.main_arg0) = m ((c.tc : Thread Cert.EvDwRefIdeal.nD Cert.EvDwRefIdeal.τ).loc Cert.EvDwRefIdeal.main_arg0)
      ∧ r.2.mem ((c.tc : Thread Cert.EvDwRefIdeal.nD Cert.EvDwRefIdeal.τ).loc Cert.EvDwRefIdeal.main_arg1) = m ((c.tc : Thread Cert.EvDwRefIdeal.nD Cert.EvDwRefIdeal.τ).loc Cert.EvDwRefIdeal.main_arg1))
      ∧ r.2.sem = fun _ => 0)

def quiescent_EvDwXbc [hEvDwXbc : Cert.EvDwXbc.Facts] : Prop :=
  ∀ (m : (ℓ : Loc Cert.EvDwXbc.nD Cert.EvDwXbc.τ Cert.EvDwXbc.sig) → Buf (Elt Bits) ℓ) (g : Dev Cert.EvDwXbc.nD → PrngReg), Pre_EvDwXbc m →
    θ_run (Cert.EvDwXbc.defs (F := Bits)) (onTc (τ := Cert.EvDwXbc.τ) (Cert.EvDwXbc.main (F := Bits))) ⟨m, fun _ => 0, g⟩ (fun r => (∀ c : Dev Cert.EvDwXbc.nD,
      r.2.mem ((c.tc : Thread Cert.EvDwXbc.nD Cert.EvDwXbc.τ).loc Cert.EvDwXbc.main_arg0) = m ((c.tc : Thread Cert.EvDwXbc.nD Cert.EvDwXbc.τ).loc Cert.EvDwXbc.main_arg0)
      ∧ r.2.mem ((c.tc : Thread Cert.EvDwXbc.nD Cert.EvDwXbc.τ).loc Cert.EvDwXbc.main_arg1) = m ((c.tc : Thread Cert.EvDwXbc.nD Cert.EvDwXbc.τ).loc Cert.EvDwXbc.main_arg1))
      ∧ r.2.sem = fun _ => 0)

def quiescent_EvDwXbcIdeal [hEvDwXbcIdeal : Cert.EvDwXbcIdeal.Facts] : Prop :=
  ∀ (m : (ℓ : Loc Cert.EvDwXbcIdeal.nD Cert.EvDwXbcIdeal.τ Cert.EvDwXbcIdeal.sig) → Buf (Elt Ideal) ℓ) (g : Dev Cert.EvDwXbcIdeal.nD → PrngReg), Pre_EvDwXbcIdeal m →
    θ_run (Cert.EvDwXbcIdeal.defs (F := Ideal)) (onTc (τ := Cert.EvDwXbcIdeal.τ) (Cert.EvDwXbcIdeal.main (F := Ideal))) ⟨m, fun _ => 0, g⟩ (fun r => (∀ c : Dev Cert.EvDwXbcIdeal.nD,
      r.2.mem ((c.tc : Thread Cert.EvDwXbcIdeal.nD Cert.EvDwXbcIdeal.τ).loc Cert.EvDwXbcIdeal.main_arg0) = m ((c.tc : Thread Cert.EvDwXbcIdeal.nD Cert.EvDwXbcIdeal.τ).loc Cert.EvDwXbcIdeal.main_arg0)
      ∧ r.2.mem ((c.tc : Thread Cert.EvDwXbcIdeal.nD Cert.EvDwXbcIdeal.τ).loc Cert.EvDwXbcIdeal.main_arg1) = m ((c.tc : Thread Cert.EvDwXbcIdeal.nD Cert.EvDwXbcIdeal.τ).loc Cert.EvDwXbcIdeal.main_arg1))
      ∧ r.2.sem = fun _ => 0)

def quiescent_EvDwXbcRefIdeal [hEvDwXbcRefIdeal : Cert.EvDwXbcRefIdeal.Facts] : Prop :=
  ∀ (m : (ℓ : Loc Cert.EvDwXbcRefIdeal.nD Cert.EvDwXbcRefIdeal.τ Cert.EvDwXbcRefIdeal.sig) → Buf (Elt Ideal) ℓ) (g : Dev Cert.EvDwXbcRefIdeal.nD → PrngReg), Pre_EvDwXbcRefIdeal m →
    θ_run (Cert.EvDwXbcRefIdeal.defs (F := Ideal)) (onTc (τ := Cert.EvDwXbcRefIdeal.τ) (Cert.EvDwXbcRefIdeal.main (F := Ideal))) ⟨m, fun _ => 0, g⟩ (fun r => (∀ c : Dev Cert.EvDwXbcRefIdeal.nD,
      r.2.mem ((c.tc : Thread Cert.EvDwXbcRefIdeal.nD Cert.EvDwXbcRefIdeal.τ).loc Cert.EvDwXbcRefIdeal.main_arg0) = m ((c.tc : Thread Cert.EvDwXbcRefIdeal.nD Cert.EvDwXbcRefIdeal.τ).loc Cert.EvDwXbcRefIdeal.main_arg0)
      ∧ r.2.mem ((c.tc : Thread Cert.EvDwXbcRefIdeal.nD Cert.EvDwXbcRefIdeal.τ).loc Cert.EvDwXbcRefIdeal.main_arg1) = m ((c.tc : Thread Cert.EvDwXbcRefIdeal.nD Cert.EvDwXbcRefIdeal.τ).loc Cert.EvDwXbcRefIdeal.main_arg1))
      ∧ r.2.sem = fun _ => 0)

def quiescent_OdDw [hOdDw : Cert.OdDw.Facts] : Prop :=
  ∀ (m : (ℓ : Loc Cert.OdDw.nD Cert.OdDw.τ Cert.OdDw.sig) → Buf (Elt Bits) ℓ) (g : Dev Cert.OdDw.nD → PrngReg), Pre_OdDw m →
    θ_run (Cert.OdDw.defs (F := Bits)) (onTc (τ := Cert.OdDw.τ) (Cert.OdDw.main (F := Bits))) ⟨m, fun _ => 0, g⟩ (fun r => (∀ c : Dev Cert.OdDw.nD,
      r.2.mem ((c.tc : Thread Cert.OdDw.nD Cert.OdDw.τ).loc Cert.OdDw.main_arg0) = m ((c.tc : Thread Cert.OdDw.nD Cert.OdDw.τ).loc Cert.OdDw.main_arg0)
      ∧ r.2.mem ((c.tc : Thread Cert.OdDw.nD Cert.OdDw.τ).loc Cert.OdDw.main_arg1) = m ((c.tc : Thread Cert.OdDw.nD Cert.OdDw.τ).loc Cert.OdDw.main_arg1))
      ∧ r.2.sem = fun _ => 0)

def quiescent_OdDwIdeal [hOdDwIdeal : Cert.OdDwIdeal.Facts] : Prop :=
  ∀ (m : (ℓ : Loc Cert.OdDwIdeal.nD Cert.OdDwIdeal.τ Cert.OdDwIdeal.sig) → Buf (Elt Ideal) ℓ) (g : Dev Cert.OdDwIdeal.nD → PrngReg), Pre_OdDwIdeal m →
    θ_run (Cert.OdDwIdeal.defs (F := Ideal)) (onTc (τ := Cert.OdDwIdeal.τ) (Cert.OdDwIdeal.main (F := Ideal))) ⟨m, fun _ => 0, g⟩ (fun r => (∀ c : Dev Cert.OdDwIdeal.nD,
      r.2.mem ((c.tc : Thread Cert.OdDwIdeal.nD Cert.OdDwIdeal.τ).loc Cert.OdDwIdeal.main_arg0) = m ((c.tc : Thread Cert.OdDwIdeal.nD Cert.OdDwIdeal.τ).loc Cert.OdDwIdeal.main_arg0)
      ∧ r.2.mem ((c.tc : Thread Cert.OdDwIdeal.nD Cert.OdDwIdeal.τ).loc Cert.OdDwIdeal.main_arg1) = m ((c.tc : Thread Cert.OdDwIdeal.nD Cert.OdDwIdeal.τ).loc Cert.OdDwIdeal.main_arg1))
      ∧ r.2.sem = fun _ => 0)

def quiescent_OdDwRefIdeal [hOdDwRefIdeal : Cert.OdDwRefIdeal.Facts] : Prop :=
  ∀ (m : (ℓ : Loc Cert.OdDwRefIdeal.nD Cert.OdDwRefIdeal.τ Cert.OdDwRefIdeal.sig) → Buf (Elt Ideal) ℓ) (g : Dev Cert.OdDwRefIdeal.nD → PrngReg), Pre_OdDwRefIdeal m →
    θ_run (Cert.OdDwRefIdeal.defs (F := Ideal)) (onTc (τ := Cert.OdDwRefIdeal.τ) (Cert.OdDwRefIdeal.main (F := Ideal))) ⟨m, fun _ => 0, g⟩ (fun r => (∀ c : Dev Cert.OdDwRefIdeal.nD,
      r.2.mem ((c.tc : Thread Cert.OdDwRefIdeal.nD Cert.OdDwRefIdeal.τ).loc Cert.OdDwRefIdeal.main_arg0) = m ((c.tc : Thread Cert.OdDwRefIdeal.nD Cert.OdDwRefIdeal.τ).loc Cert.OdDwRefIdeal.main_arg0)
      ∧ r.2.mem ((c.tc : Thread Cert.OdDwRefIdeal.nD Cert.OdDwRefIdeal.τ).loc Cert.OdDwRefIdeal.main_arg1) = m ((c.tc : Thread Cert.OdDwRefIdeal.nD Cert.OdDwRefIdeal.τ).loc Cert.OdDwRefIdeal.main_arg1))
      ∧ r.2.sem = fun _ => 0)

def quiescent_OdDwV [hOdDwV : Cert.OdDwV.Facts] : Prop :=
  ∀ (m : (ℓ : Loc Cert.OdDwV.nD Cert.OdDwV.τ Cert.OdDwV.sig) → Buf (Elt Bits) ℓ) (g : Dev Cert.OdDwV.nD → PrngReg), Pre_OdDwV m →
    θ_run (Cert.OdDwV.defs (F := Bits)) (onTc (τ := Cert.OdDwV.τ) (Cert.OdDwV.main (F := Bits))) ⟨m, fun _ => 0, g⟩ (fun r => (∀ c : Dev Cert.OdDwV.nD,
      r.2.mem ((c.tc : Thread Cert.OdDwV.nD Cert.OdDwV.τ).loc Cert.OdDwV.main_arg0) = m ((c.tc : Thread Cert.OdDwV.nD Cert.OdDwV.τ).loc Cert.OdDwV.main_arg0)
      ∧ r.2.mem ((c.tc : Thread Cert.OdDwV.nD Cert.OdDwV.τ).loc Cert.OdDwV.main_arg1) = m ((c.tc : Thread Cert.OdDwV.nD Cert.OdDwV.τ).loc Cert.OdDwV.main_arg1))
      ∧ r.2.sem = fun _ => 0)

def quiescent_OdDwVIdeal [hOdDwVIdeal : Cert.OdDwVIdeal.Facts] : Prop :=
  ∀ (m : (ℓ : Loc Cert.OdDwVIdeal.nD Cert.OdDwVIdeal.τ Cert.OdDwVIdeal.sig) → Buf (Elt Ideal) ℓ) (g : Dev Cert.OdDwVIdeal.nD → PrngReg), Pre_OdDwVIdeal m →
    θ_run (Cert.OdDwVIdeal.defs (F := Ideal)) (onTc (τ := Cert.OdDwVIdeal.τ) (Cert.OdDwVIdeal.main (F := Ideal))) ⟨m, fun _ => 0, g⟩ (fun r => (∀ c : Dev Cert.OdDwVIdeal.nD,
      r.2.mem ((c.tc : Thread Cert.OdDwVIdeal.nD Cert.OdDwVIdeal.τ).loc Cert.OdDwVIdeal.main_arg0) = m ((c.tc : Thread Cert.OdDwVIdeal.nD Cert.OdDwVIdeal.τ).loc Cert.OdDwVIdeal.main_arg0)
      ∧ r.2.mem ((c.tc : Thread Cert.OdDwVIdeal.nD Cert.OdDwVIdeal.τ).loc Cert.OdDwVIdeal.main_arg1) = m ((c.tc : Thread Cert.OdDwVIdeal.nD Cert.OdDwVIdeal.τ).loc Cert.OdDwVIdeal.main_arg1))
      ∧ r.2.sem = fun _ => 0)

def quiescent_OdDwVRefIdeal [hOdDwVRefIdeal : Cert.OdDwVRefIdeal.Facts] : Prop :=
  ∀ (m : (ℓ : Loc Cert.OdDwVRefIdeal.nD Cert.OdDwVRefIdeal.τ Cert.OdDwVRefIdeal.sig) → Buf (Elt Ideal) ℓ) (g : Dev Cert.OdDwVRefIdeal.nD → PrngReg), Pre_OdDwVRefIdeal m →
    θ_run (Cert.OdDwVRefIdeal.defs (F := Ideal)) (onTc (τ := Cert.OdDwVRefIdeal.τ) (Cert.OdDwVRefIdeal.main (F := Ideal))) ⟨m, fun _ => 0, g⟩ (fun r => (∀ c : Dev Cert.OdDwVRefIdeal.nD,
      r.2.mem ((c.tc : Thread Cert.OdDwVRefIdeal.nD Cert.OdDwVRefIdeal.τ).loc Cert.OdDwVRefIdeal.main_arg0) = m ((c.tc : Thread Cert.OdDwVRefIdeal.nD Cert.OdDwVRefIdeal.τ).loc Cert.OdDwVRefIdeal.main_arg0)
      ∧ r.2.mem ((c.tc : Thread Cert.OdDwVRefIdeal.nD Cert.OdDwVRefIdeal.τ).loc Cert.OdDwVRefIdeal.main_arg1) = m ((c.tc : Thread Cert.OdDwVRefIdeal.nD Cert.OdDwVRefIdeal.τ).loc Cert.OdDwVRefIdeal.main_arg1))
      ∧ r.2.sem = fun _ => 0)

def quiescent_OdDwU [hOdDwU : Cert.OdDwU.Facts] : Prop :=
  ∀ (m : (ℓ : Loc Cert.OdDwU.nD Cert.OdDwU.τ Cert.OdDwU.sig) → Buf (Elt Bits) ℓ) (g : Dev Cert.OdDwU.nD → PrngReg), Pre_OdDwU m →
    θ_run (Cert.OdDwU.defs (F := Bits)) (onTc (τ := Cert.OdDwU.τ) (Cert.OdDwU.main (F := Bits))) ⟨m, fun _ => 0, g⟩ (fun r => (∀ c : Dev Cert.OdDwU.nD,
      r.2.mem ((c.tc : Thread Cert.OdDwU.nD Cert.OdDwU.τ).loc Cert.OdDwU.main_arg0) = m ((c.tc : Thread Cert.OdDwU.nD Cert.OdDwU.τ).loc Cert.OdDwU.main_arg0)
      ∧ r.2.mem ((c.tc : Thread Cert.OdDwU.nD Cert.OdDwU.τ).loc Cert.OdDwU.main_arg1) = m ((c.tc : Thread Cert.OdDwU.nD Cert.OdDwU.τ).loc Cert.OdDwU.main_arg1))
      ∧ r.2.sem = fun _ => 0)

def quiescent_OdDwUIdeal [hOdDwUIdeal : Cert.OdDwUIdeal.Facts] : Prop :=
  ∀ (m : (ℓ : Loc Cert.OdDwUIdeal.nD Cert.OdDwUIdeal.τ Cert.OdDwUIdeal.sig) → Buf (Elt Ideal) ℓ) (g : Dev Cert.OdDwUIdeal.nD → PrngReg), Pre_OdDwUIdeal m →
    θ_run (Cert.OdDwUIdeal.defs (F := Ideal)) (onTc (τ := Cert.OdDwUIdeal.τ) (Cert.OdDwUIdeal.main (F := Ideal))) ⟨m, fun _ => 0, g⟩ (fun r => (∀ c : Dev Cert.OdDwUIdeal.nD,
      r.2.mem ((c.tc : Thread Cert.OdDwUIdeal.nD Cert.OdDwUIdeal.τ).loc Cert.OdDwUIdeal.main_arg0) = m ((c.tc : Thread Cert.OdDwUIdeal.nD Cert.OdDwUIdeal.τ).loc Cert.OdDwUIdeal.main_arg0)
      ∧ r.2.mem ((c.tc : Thread Cert.OdDwUIdeal.nD Cert.OdDwUIdeal.τ).loc Cert.OdDwUIdeal.main_arg1) = m ((c.tc : Thread Cert.OdDwUIdeal.nD Cert.OdDwUIdeal.τ).loc Cert.OdDwUIdeal.main_arg1))
      ∧ r.2.sem = fun _ => 0)

def quiescent_OdDwURefIdeal [hOdDwURefIdeal : Cert.OdDwURefIdeal.Facts] : Prop :=
  ∀ (m : (ℓ : Loc Cert.OdDwURefIdeal.nD Cert.OdDwURefIdeal.τ Cert.OdDwURefIdeal.sig) → Buf (Elt Ideal) ℓ) (g : Dev Cert.OdDwURefIdeal.nD → PrngReg), Pre_OdDwURefIdeal m →
    θ_run (Cert.OdDwURefIdeal.defs (F := Ideal)) (onTc (τ := Cert.OdDwURefIdeal.τ) (Cert.OdDwURefIdeal.main (F := Ideal))) ⟨m, fun _ => 0, g⟩ (fun r => (∀ c : Dev Cert.OdDwURefIdeal.nD,
      r.2.mem ((c.tc : Thread Cert.OdDwURefIdeal.nD Cert.OdDwURefIdeal.τ).loc Cert.OdDwURefIdeal.main_arg0) = m ((c.tc : Thread Cert.OdDwURefIdeal.nD Cert.OdDwURefIdeal.τ).loc Cert.OdDwURefIdeal.main_arg0)
      ∧ r.2.mem ((c.tc : Thread Cert.OdDwURefIdeal.nD Cert.OdDwURefIdeal.τ).loc Cert.OdDwURefIdeal.main_arg1) = m ((c.tc : Thread Cert.OdDwURefIdeal.nD Cert.OdDwURefIdeal.τ).loc Cert.OdDwURefIdeal.main_arg1))
      ∧ r.2.sem = fun _ => 0)

def quiescent_OdDwOut [hOdDwOut : Cert.OdDwOut.Facts] : Prop :=
  ∀ (m : (ℓ : Loc Cert.OdDwOut.nD Cert.OdDwOut.τ Cert.OdDwOut.sig) → Buf (Elt Bits) ℓ) (g : Dev Cert.OdDwOut.nD → PrngReg), Pre_OdDwOut m →
    θ_run (Cert.OdDwOut.defs (F := Bits)) (onTc (τ := Cert.OdDwOut.τ) (Cert.OdDwOut.main (F := Bits))) ⟨m, fun _ => 0, g⟩ (fun r => (∀ c : Dev Cert.OdDwOut.nD,
      r.2.mem ((c.tc : Thread Cert.OdDwOut.nD Cert.OdDwOut.τ).loc Cert.OdDwOut.main_arg0) = m ((c.tc : Thread Cert.OdDwOut.nD Cert.OdDwOut.τ).loc Cert.OdDwOut.main_arg0)
      ∧ r.2.mem ((c.tc : Thread Cert.OdDwOut.nD Cert.OdDwOut.τ).loc Cert.OdDwOut.main_arg1) = m ((c.tc : Thread Cert.OdDwOut.nD Cert.OdDwOut.τ).loc Cert.OdDwOut.main_arg1))
      ∧ r.2.sem = fun _ => 0)

def quiescent_OdDwOutIdeal [hOdDwOutIdeal : Cert.OdDwOutIdeal.Facts] : Prop :=
  ∀ (m : (ℓ : Loc Cert.OdDwOutIdeal.nD Cert.OdDwOutIdeal.τ Cert.OdDwOutIdeal.sig) → Buf (Elt Ideal) ℓ) (g : Dev Cert.OdDwOutIdeal.nD → PrngReg), Pre_OdDwOutIdeal m →
    θ_run (Cert.OdDwOutIdeal.defs (F := Ideal)) (onTc (τ := Cert.OdDwOutIdeal.τ) (Cert.OdDwOutIdeal.main (F := Ideal))) ⟨m, fun _ => 0, g⟩ (fun r => (∀ c : Dev Cert.OdDwOutIdeal.nD,
      r.2.mem ((c.tc : Thread Cert.OdDwOutIdeal.nD Cert.OdDwOutIdeal.τ).loc Cert.OdDwOutIdeal.main_arg0) = m ((c.tc : Thread Cert.OdDwOutIdeal.nD Cert.OdDwOutIdeal.τ).loc Cert.OdDwOutIdeal.main_arg0)
      ∧ r.2.mem ((c.tc : Thread Cert.OdDwOutIdeal.nD Cert.OdDwOutIdeal.τ).loc Cert.OdDwOutIdeal.main_arg1) = m ((c.tc : Thread Cert.OdDwOutIdeal.nD Cert.OdDwOutIdeal.τ).loc Cert.OdDwOutIdeal.main_arg1))
      ∧ r.2.sem = fun _ => 0)

def quiescent_OdDwOutRefIdeal [hOdDwOutRefIdeal : Cert.OdDwOutRefIdeal.Facts] : Prop :=
  ∀ (m : (ℓ : Loc Cert.OdDwOutRefIdeal.nD Cert.OdDwOutRefIdeal.τ Cert.OdDwOutRefIdeal.sig) → Buf (Elt Ideal) ℓ) (g : Dev Cert.OdDwOutRefIdeal.nD → PrngReg), Pre_OdDwOutRefIdeal m →
    θ_run (Cert.OdDwOutRefIdeal.defs (F := Ideal)) (onTc (τ := Cert.OdDwOutRefIdeal.τ) (Cert.OdDwOutRefIdeal.main (F := Ideal))) ⟨m, fun _ => 0, g⟩ (fun r => (∀ c : Dev Cert.OdDwOutRefIdeal.nD,
      r.2.mem ((c.tc : Thread Cert.OdDwOutRefIdeal.nD Cert.OdDwOutRefIdeal.τ).loc Cert.OdDwOutRefIdeal.main_arg0) = m ((c.tc : Thread Cert.OdDwOutRefIdeal.nD Cert.OdDwOutRefIdeal.τ).loc Cert.OdDwOutRefIdeal.main_arg0)
      ∧ r.2.mem ((c.tc : Thread Cert.OdDwOutRefIdeal.nD Cert.OdDwOutRefIdeal.τ).loc Cert.OdDwOutRefIdeal.main_arg1) = m ((c.tc : Thread Cert.OdDwOutRefIdeal.nD Cert.OdDwOutRefIdeal.τ).loc Cert.OdDwOutRefIdeal.main_arg1))
      ∧ r.2.sem = fun _ => 0)

def quiescent_OdDwOutU [hOdDwOutU : Cert.OdDwOutU.Facts] : Prop :=
  ∀ (m : (ℓ : Loc Cert.OdDwOutU.nD Cert.OdDwOutU.τ Cert.OdDwOutU.sig) → Buf (Elt Bits) ℓ) (g : Dev Cert.OdDwOutU.nD → PrngReg), Pre_OdDwOutU m →
    θ_run (Cert.OdDwOutU.defs (F := Bits)) (onTc (τ := Cert.OdDwOutU.τ) (Cert.OdDwOutU.main (F := Bits))) ⟨m, fun _ => 0, g⟩ (fun r => (∀ c : Dev Cert.OdDwOutU.nD,
      r.2.mem ((c.tc : Thread Cert.OdDwOutU.nD Cert.OdDwOutU.τ).loc Cert.OdDwOutU.main_arg0) = m ((c.tc : Thread Cert.OdDwOutU.nD Cert.OdDwOutU.τ).loc Cert.OdDwOutU.main_arg0)
      ∧ r.2.mem ((c.tc : Thread Cert.OdDwOutU.nD Cert.OdDwOutU.τ).loc Cert.OdDwOutU.main_arg1) = m ((c.tc : Thread Cert.OdDwOutU.nD Cert.OdDwOutU.τ).loc Cert.OdDwOutU.main_arg1))
      ∧ r.2.sem = fun _ => 0)

def quiescent_OdDwOutUIdeal [hOdDwOutUIdeal : Cert.OdDwOutUIdeal.Facts] : Prop :=
  ∀ (m : (ℓ : Loc Cert.OdDwOutUIdeal.nD Cert.OdDwOutUIdeal.τ Cert.OdDwOutUIdeal.sig) → Buf (Elt Ideal) ℓ) (g : Dev Cert.OdDwOutUIdeal.nD → PrngReg), Pre_OdDwOutUIdeal m →
    θ_run (Cert.OdDwOutUIdeal.defs (F := Ideal)) (onTc (τ := Cert.OdDwOutUIdeal.τ) (Cert.OdDwOutUIdeal.main (F := Ideal))) ⟨m, fun _ => 0, g⟩ (fun r => (∀ c : Dev Cert.OdDwOutUIdeal.nD,
      r.2.mem ((c.tc : Thread Cert.OdDwOutUIdeal.nD Cert.OdDwOutUIdeal.τ).loc Cert.OdDwOutUIdeal.main_arg0) = m ((c.tc : Thread Cert.OdDwOutUIdeal.nD Cert.OdDwOutUIdeal.τ).loc Cert.OdDwOutUIdeal.main_arg0)
      ∧ r.2.mem ((c.tc : Thread Cert.OdDwOutUIdeal.nD Cert.OdDwOutUIdeal.τ).loc Cert.OdDwOutUIdeal.main_arg1) = m ((c.tc : Thread Cert.OdDwOutUIdeal.nD Cert.OdDwOutUIdeal.τ).loc Cert.OdDwOutUIdeal.main_arg1))
      ∧ r.2.sem = fun _ => 0)

def quiescent_OdDwOutURefIdeal [hOdDwOutURefIdeal : Cert.OdDwOutURefIdeal.Facts] : Prop :=
  ∀ (m : (ℓ : Loc Cert.OdDwOutURefIdeal.nD Cert.OdDwOutURefIdeal.τ Cert.OdDwOutURefIdeal.sig) → Buf (Elt Ideal) ℓ) (g : Dev Cert.OdDwOutURefIdeal.nD → PrngReg), Pre_OdDwOutURefIdeal m →
    θ_run (Cert.OdDwOutURefIdeal.defs (F := Ideal)) (onTc (τ := Cert.OdDwOutURefIdeal.τ) (Cert.OdDwOutURefIdeal.main (F := Ideal))) ⟨m, fun _ => 0, g⟩ (fun r => (∀ c : Dev Cert.OdDwOutURefIdeal.nD,
      r.2.mem ((c.tc : Thread Cert.OdDwOutURefIdeal.nD Cert.OdDwOutURefIdeal.τ).loc Cert.OdDwOutURefIdeal.main_arg0) = m ((c.tc : Thread Cert.OdDwOutURefIdeal.nD Cert.OdDwOutURefIdeal.τ).loc Cert.OdDwOutURefIdeal.main_arg0)
      ∧ r.2.mem ((c.tc : Thread Cert.OdDwOutURefIdeal.nD Cert.OdDwOutURefIdeal.τ).loc Cert.OdDwOutURefIdeal.main_arg1) = m ((c.tc : Thread Cert.OdDwOutURefIdeal.nD Cert.OdDwOutURefIdeal.τ).loc Cert.OdDwOutURefIdeal.main_arg1))
      ∧ r.2.sem = fun _ => 0)

def quiescent_EvDhn [hEvDhn : Cert.EvDhn.Facts] : Prop :=
  ∀ (m : (ℓ : Loc Cert.EvDhn.nD Cert.EvDhn.τ Cert.EvDhn.sig) → Buf (Elt Bits) ℓ) (g : Dev Cert.EvDhn.nD → PrngReg), Pre_EvDhn m →
    θ_run (Cert.EvDhn.defs (F := Bits)) (onTc (τ := Cert.EvDhn.τ) (Cert.EvDhn.main (F := Bits))) ⟨m, fun _ => 0, g⟩ (fun r => (∀ c : Dev Cert.EvDhn.nD,
      r.2.mem ((c.tc : Thread Cert.EvDhn.nD Cert.EvDhn.τ).loc Cert.EvDhn.main_arg0) = m ((c.tc : Thread Cert.EvDhn.nD Cert.EvDhn.τ).loc Cert.EvDhn.main_arg0)
      ∧ r.2.mem ((c.tc : Thread Cert.EvDhn.nD Cert.EvDhn.τ).loc Cert.EvDhn.main_arg1) = m ((c.tc : Thread Cert.EvDhn.nD Cert.EvDhn.τ).loc Cert.EvDhn.main_arg1)
      ∧ r.2.mem ((c.tc : Thread Cert.EvDhn.nD Cert.EvDhn.τ).loc Cert.EvDhn.main_arg2) = m ((c.tc : Thread Cert.EvDhn.nD Cert.EvDhn.τ).loc Cert.EvDhn.main_arg2)
      ∧ r.2.mem ((c.tc : Thread Cert.EvDhn.nD Cert.EvDhn.τ).loc Cert.EvDhn.main_arg3) = m ((c.tc : Thread Cert.EvDhn.nD Cert.EvDhn.τ).loc Cert.EvDhn.main_arg3)
      ∧ r.2.mem ((c.tc : Thread Cert.EvDhn.nD Cert.EvDhn.τ).loc Cert.EvDhn.main_arg4) = m ((c.tc : Thread Cert.EvDhn.nD Cert.EvDhn.τ).loc Cert.EvDhn.main_arg4)
      ∧ r.2.mem ((c.tc : Thread Cert.EvDhn.nD Cert.EvDhn.τ).loc Cert.EvDhn.main_arg5) = m ((c.tc : Thread Cert.EvDhn.nD Cert.EvDhn.τ).loc Cert.EvDhn.main_arg5))
      ∧ r.2.sem = fun _ => 0)

def quiescent_EvDhnIdeal [hEvDhnIdeal : Cert.EvDhnIdeal.Facts] : Prop :=
  ∀ (m : (ℓ : Loc Cert.EvDhnIdeal.nD Cert.EvDhnIdeal.τ Cert.EvDhnIdeal.sig) → Buf (Elt Ideal) ℓ) (g : Dev Cert.EvDhnIdeal.nD → PrngReg), Pre_EvDhnIdeal m →
    θ_run (Cert.EvDhnIdeal.defs (F := Ideal)) (onTc (τ := Cert.EvDhnIdeal.τ) (Cert.EvDhnIdeal.main (F := Ideal))) ⟨m, fun _ => 0, g⟩ (fun r => (∀ c : Dev Cert.EvDhnIdeal.nD,
      r.2.mem ((c.tc : Thread Cert.EvDhnIdeal.nD Cert.EvDhnIdeal.τ).loc Cert.EvDhnIdeal.main_arg0) = m ((c.tc : Thread Cert.EvDhnIdeal.nD Cert.EvDhnIdeal.τ).loc Cert.EvDhnIdeal.main_arg0)
      ∧ r.2.mem ((c.tc : Thread Cert.EvDhnIdeal.nD Cert.EvDhnIdeal.τ).loc Cert.EvDhnIdeal.main_arg1) = m ((c.tc : Thread Cert.EvDhnIdeal.nD Cert.EvDhnIdeal.τ).loc Cert.EvDhnIdeal.main_arg1)
      ∧ r.2.mem ((c.tc : Thread Cert.EvDhnIdeal.nD Cert.EvDhnIdeal.τ).loc Cert.EvDhnIdeal.main_arg2) = m ((c.tc : Thread Cert.EvDhnIdeal.nD Cert.EvDhnIdeal.τ).loc Cert.EvDhnIdeal.main_arg2)
      ∧ r.2.mem ((c.tc : Thread Cert.EvDhnIdeal.nD Cert.EvDhnIdeal.τ).loc Cert.EvDhnIdeal.main_arg3) = m ((c.tc : Thread Cert.EvDhnIdeal.nD Cert.EvDhnIdeal.τ).loc Cert.EvDhnIdeal.main_arg3)
      ∧ r.2.mem ((c.tc : Thread Cert.EvDhnIdeal.nD Cert.EvDhnIdeal.τ).loc Cert.EvDhnIdeal.main_arg4) = m ((c.tc : Thread Cert.EvDhnIdeal.nD Cert.EvDhnIdeal.τ).loc Cert.EvDhnIdeal.main_arg4)
      ∧ r.2.mem ((c.tc : Thread Cert.EvDhnIdeal.nD Cert.EvDhnIdeal.τ).loc Cert.EvDhnIdeal.main_arg5) = m ((c.tc : Thread Cert.EvDhnIdeal.nD Cert.EvDhnIdeal.τ).loc Cert.EvDhnIdeal.main_arg5))
      ∧ r.2.sem = fun _ => 0)

def quiescent_EvDhnRefIdeal [hEvDhnRefIdeal : Cert.EvDhnRefIdeal.Facts] : Prop :=
  ∀ (m : (ℓ : Loc Cert.EvDhnRefIdeal.nD Cert.EvDhnRefIdeal.τ Cert.EvDhnRefIdeal.sig) → Buf (Elt Ideal) ℓ) (g : Dev Cert.EvDhnRefIdeal.nD → PrngReg), Pre_EvDhnRefIdeal m →
    θ_run (Cert.EvDhnRefIdeal.defs (F := Ideal)) (onTc (τ := Cert.EvDhnRefIdeal.τ) (Cert.EvDhnRefIdeal.main (F := Ideal))) ⟨m, fun _ => 0, g⟩ (fun r => (∀ c : Dev Cert.EvDhnRefIdeal.nD,
      r.2.mem ((c.tc : Thread Cert.EvDhnRefIdeal.nD Cert.EvDhnRefIdeal.τ).loc Cert.EvDhnRefIdeal.main_arg0) = m ((c.tc : Thread Cert.EvDhnRefIdeal.nD Cert.EvDhnRefIdeal.τ).loc Cert.EvDhnRefIdeal.main_arg0)
      ∧ r.2.mem ((c.tc : Thread Cert.EvDhnRefIdeal.nD Cert.EvDhnRefIdeal.τ).loc Cert.EvDhnRefIdeal.main_arg1) = m ((c.tc : Thread Cert.EvDhnRefIdeal.nD Cert.EvDhnRefIdeal.τ).loc Cert.EvDhnRefIdeal.main_arg1)
      ∧ r.2.mem ((c.tc : Thread Cert.EvDhnRefIdeal.nD Cert.EvDhnRefIdeal.τ).loc Cert.EvDhnRefIdeal.main_arg2) = m ((c.tc : Thread Cert.EvDhnRefIdeal.nD Cert.EvDhnRefIdeal.τ).loc Cert.EvDhnRefIdeal.main_arg2)
      ∧ r.2.mem ((c.tc : Thread Cert.EvDhnRefIdeal.nD Cert.EvDhnRefIdeal.τ).loc Cert.EvDhnRefIdeal.main_arg3) = m ((c.tc : Thread Cert.EvDhnRefIdeal.nD Cert.EvDhnRefIdeal.τ).loc Cert.EvDhnRefIdeal.main_arg3)
      ∧ r.2.mem ((c.tc : Thread Cert.EvDhnRefIdeal.nD Cert.EvDhnRefIdeal.τ).loc Cert.EvDhnRefIdeal.main_arg4) = m ((c.tc : Thread Cert.EvDhnRefIdeal.nD Cert.EvDhnRefIdeal.τ).loc Cert.EvDhnRefIdeal.main_arg4)
      ∧ r.2.mem ((c.tc : Thread Cert.EvDhnRefIdeal.nD Cert.EvDhnRefIdeal.τ).loc Cert.EvDhnRefIdeal.main_arg5) = m ((c.tc : Thread Cert.EvDhnRefIdeal.nD Cert.EvDhnRefIdeal.τ).loc Cert.EvDhnRefIdeal.main_arg5))
      ∧ r.2.sem = fun _ => 0)

def quiescent_OdDhn [hOdDhn : Cert.OdDhn.Facts] : Prop :=
  ∀ (m : (ℓ : Loc Cert.OdDhn.nD Cert.OdDhn.τ Cert.OdDhn.sig) → Buf (Elt Bits) ℓ) (g : Dev Cert.OdDhn.nD → PrngReg), Pre_OdDhn m →
    θ_run (Cert.OdDhn.defs (F := Bits)) (onTc (τ := Cert.OdDhn.τ) (Cert.OdDhn.main (F := Bits))) ⟨m, fun _ => 0, g⟩ (fun r => (∀ c : Dev Cert.OdDhn.nD,
      r.2.mem ((c.tc : Thread Cert.OdDhn.nD Cert.OdDhn.τ).loc Cert.OdDhn.main_arg0) = m ((c.tc : Thread Cert.OdDhn.nD Cert.OdDhn.τ).loc Cert.OdDhn.main_arg0)
      ∧ r.2.mem ((c.tc : Thread Cert.OdDhn.nD Cert.OdDhn.τ).loc Cert.OdDhn.main_arg1) = m ((c.tc : Thread Cert.OdDhn.nD Cert.OdDhn.τ).loc Cert.OdDhn.main_arg1)
      ∧ r.2.mem ((c.tc : Thread Cert.OdDhn.nD Cert.OdDhn.τ).loc Cert.OdDhn.main_arg2) = m ((c.tc : Thread Cert.OdDhn.nD Cert.OdDhn.τ).loc Cert.OdDhn.main_arg2)
      ∧ r.2.mem ((c.tc : Thread Cert.OdDhn.nD Cert.OdDhn.τ).loc Cert.OdDhn.main_arg3) = m ((c.tc : Thread Cert.OdDhn.nD Cert.OdDhn.τ).loc Cert.OdDhn.main_arg3)
      ∧ r.2.mem ((c.tc : Thread Cert.OdDhn.nD Cert.OdDhn.τ).loc Cert.OdDhn.main_arg4) = m ((c.tc : Thread Cert.OdDhn.nD Cert.OdDhn.τ).loc Cert.OdDhn.main_arg4)
      ∧ r.2.mem ((c.tc : Thread Cert.OdDhn.nD Cert.OdDhn.τ).loc Cert.OdDhn.main_arg5) = m ((c.tc : Thread Cert.OdDhn.nD Cert.OdDhn.τ).loc Cert.OdDhn.main_arg5)
      ∧ r.2.mem ((c.tc : Thread Cert.OdDhn.nD Cert.OdDhn.τ).loc Cert.OdDhn.main_arg6) = m ((c.tc : Thread Cert.OdDhn.nD Cert.OdDhn.τ).loc Cert.OdDhn.main_arg6))
      ∧ r.2.sem = fun _ => 0)

def quiescent_OdDhnIdeal [hOdDhnIdeal : Cert.OdDhnIdeal.Facts] : Prop :=
  ∀ (m : (ℓ : Loc Cert.OdDhnIdeal.nD Cert.OdDhnIdeal.τ Cert.OdDhnIdeal.sig) → Buf (Elt Ideal) ℓ) (g : Dev Cert.OdDhnIdeal.nD → PrngReg), Pre_OdDhnIdeal m →
    θ_run (Cert.OdDhnIdeal.defs (F := Ideal)) (onTc (τ := Cert.OdDhnIdeal.τ) (Cert.OdDhnIdeal.main (F := Ideal))) ⟨m, fun _ => 0, g⟩ (fun r => (∀ c : Dev Cert.OdDhnIdeal.nD,
      r.2.mem ((c.tc : Thread Cert.OdDhnIdeal.nD Cert.OdDhnIdeal.τ).loc Cert.OdDhnIdeal.main_arg0) = m ((c.tc : Thread Cert.OdDhnIdeal.nD Cert.OdDhnIdeal.τ).loc Cert.OdDhnIdeal.main_arg0)
      ∧ r.2.mem ((c.tc : Thread Cert.OdDhnIdeal.nD Cert.OdDhnIdeal.τ).loc Cert.OdDhnIdeal.main_arg1) = m ((c.tc : Thread Cert.OdDhnIdeal.nD Cert.OdDhnIdeal.τ).loc Cert.OdDhnIdeal.main_arg1)
      ∧ r.2.mem ((c.tc : Thread Cert.OdDhnIdeal.nD Cert.OdDhnIdeal.τ).loc Cert.OdDhnIdeal.main_arg2) = m ((c.tc : Thread Cert.OdDhnIdeal.nD Cert.OdDhnIdeal.τ).loc Cert.OdDhnIdeal.main_arg2)
      ∧ r.2.mem ((c.tc : Thread Cert.OdDhnIdeal.nD Cert.OdDhnIdeal.τ).loc Cert.OdDhnIdeal.main_arg3) = m ((c.tc : Thread Cert.OdDhnIdeal.nD Cert.OdDhnIdeal.τ).loc Cert.OdDhnIdeal.main_arg3)
      ∧ r.2.mem ((c.tc : Thread Cert.OdDhnIdeal.nD Cert.OdDhnIdeal.τ).loc Cert.OdDhnIdeal.main_arg4) = m ((c.tc : Thread Cert.OdDhnIdeal.nD Cert.OdDhnIdeal.τ).loc Cert.OdDhnIdeal.main_arg4)
      ∧ r.2.mem ((c.tc : Thread Cert.OdDhnIdeal.nD Cert.OdDhnIdeal.τ).loc Cert.OdDhnIdeal.main_arg5) = m ((c.tc : Thread Cert.OdDhnIdeal.nD Cert.OdDhnIdeal.τ).loc Cert.OdDhnIdeal.main_arg5)
      ∧ r.2.mem ((c.tc : Thread Cert.OdDhnIdeal.nD Cert.OdDhnIdeal.τ).loc Cert.OdDhnIdeal.main_arg6) = m ((c.tc : Thread Cert.OdDhnIdeal.nD Cert.OdDhnIdeal.τ).loc Cert.OdDhnIdeal.main_arg6))
      ∧ r.2.sem = fun _ => 0)

def quiescent_OdDhnRefIdeal [hOdDhnRefIdeal : Cert.OdDhnRefIdeal.Facts] : Prop :=
  ∀ (m : (ℓ : Loc Cert.OdDhnRefIdeal.nD Cert.OdDhnRefIdeal.τ Cert.OdDhnRefIdeal.sig) → Buf (Elt Ideal) ℓ) (g : Dev Cert.OdDhnRefIdeal.nD → PrngReg), Pre_OdDhnRefIdeal m →
    θ_run (Cert.OdDhnRefIdeal.defs (F := Ideal)) (onTc (τ := Cert.OdDhnRefIdeal.τ) (Cert.OdDhnRefIdeal.main (F := Ideal))) ⟨m, fun _ => 0, g⟩ (fun r => (∀ c : Dev Cert.OdDhnRefIdeal.nD,
      r.2.mem ((c.tc : Thread Cert.OdDhnRefIdeal.nD Cert.OdDhnRefIdeal.τ).loc Cert.OdDhnRefIdeal.main_arg0) = m ((c.tc : Thread Cert.OdDhnRefIdeal.nD Cert.OdDhnRefIdeal.τ).loc Cert.OdDhnRefIdeal.main_arg0)
      ∧ r.2.mem ((c.tc : Thread Cert.OdDhnRefIdeal.nD Cert.OdDhnRefIdeal.τ).loc Cert.OdDhnRefIdeal.main_arg1) = m ((c.tc : Thread Cert.OdDhnRefIdeal.nD Cert.OdDhnRefIdeal.τ).loc Cert.OdDhnRefIdeal.main_arg1)
      ∧ r.2.mem ((c.tc : Thread Cert.OdDhnRefIdeal.nD Cert.OdDhnRefIdeal.τ).loc Cert.OdDhnRefIdeal.main_arg2) = m ((c.tc : Thread Cert.OdDhnRefIdeal.nD Cert.OdDhnRefIdeal.τ).loc Cert.OdDhnRefIdeal.main_arg2)
      ∧ r.2.mem ((c.tc : Thread Cert.OdDhnRefIdeal.nD Cert.OdDhnRefIdeal.τ).loc Cert.OdDhnRefIdeal.main_arg3) = m ((c.tc : Thread Cert.OdDhnRefIdeal.nD Cert.OdDhnRefIdeal.τ).loc Cert.OdDhnRefIdeal.main_arg3)
      ∧ r.2.mem ((c.tc : Thread Cert.OdDhnRefIdeal.nD Cert.OdDhnRefIdeal.τ).loc Cert.OdDhnRefIdeal.main_arg4) = m ((c.tc : Thread Cert.OdDhnRefIdeal.nD Cert.OdDhnRefIdeal.τ).loc Cert.OdDhnRefIdeal.main_arg4)
      ∧ r.2.mem ((c.tc : Thread Cert.OdDhnRefIdeal.nD Cert.OdDhnRefIdeal.τ).loc Cert.OdDhnRefIdeal.main_arg5) = m ((c.tc : Thread Cert.OdDhnRefIdeal.nD Cert.OdDhnRefIdeal.τ).loc Cert.OdDhnRefIdeal.main_arg5)
      ∧ r.2.mem ((c.tc : Thread Cert.OdDhnRefIdeal.nD Cert.OdDhnRefIdeal.τ).loc Cert.OdDhnRefIdeal.main_arg6) = m ((c.tc : Thread Cert.OdDhnRefIdeal.nD Cert.OdDhnRefIdeal.τ).loc Cert.OdDhnRefIdeal.main_arg6))
      ∧ r.2.sem = fun _ => 0)

def quiescent_LruConvBwd [hLruConvBwd : Cert.LruConvBwd.Facts] : Prop :=
  ∀ (m : (ℓ : Loc Cert.LruConvBwd.nD Cert.LruConvBwd.τ Cert.LruConvBwd.sig) → Buf (Elt Bits) ℓ) (g : Dev Cert.LruConvBwd.nD → PrngReg), Pre_LruConvBwd m →
    θ_run (Cert.LruConvBwd.defs (F := Bits)) (onTc (τ := Cert.LruConvBwd.τ) (Cert.LruConvBwd.main (F := Bits))) ⟨m, fun _ => 0, g⟩ (fun r => (∀ c : Dev Cert.LruConvBwd.nD,
      r.2.mem ((c.tc : Thread Cert.LruConvBwd.nD Cert.LruConvBwd.τ).loc Cert.LruConvBwd.main_arg0) = m ((c.tc : Thread Cert.LruConvBwd.nD Cert.LruConvBwd.τ).loc Cert.LruConvBwd.main_arg0)
      ∧ r.2.mem ((c.tc : Thread Cert.LruConvBwd.nD Cert.LruConvBwd.τ).loc Cert.LruConvBwd.main_arg1) = m ((c.tc : Thread Cert.LruConvBwd.nD Cert.LruConvBwd.τ).loc Cert.LruConvBwd.main_arg1)
      ∧ r.2.mem ((c.tc : Thread Cert.LruConvBwd.nD Cert.LruConvBwd.τ).loc Cert.LruConvBwd.main_arg2) = m ((c.tc : Thread Cert.LruConvBwd.nD Cert.LruConvBwd.τ).loc Cert.LruConvBwd.main_arg2)
      ∧ r.2.mem ((c.tc : Thread Cert.LruConvBwd.nD Cert.LruConvBwd.τ).loc Cert.LruConvBwd.main_arg3) = m ((c.tc : Thread Cert.LruConvBwd.nD Cert.LruConvBwd.τ).loc Cert.LruConvBwd.main_arg3))
      ∧ r.2.sem = fun _ => 0)

def quiescent_LruConvBwdIdeal [hLruConvBwdIdeal : Cert.LruConvBwdIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg), Pre_LruConvBwdIdeal m →
    θ_run (Cert.LruConvBwdIdeal.defs (F := Ideal)) (onTc (τ := Cert.LruConvBwdIdeal.τ) (Cert.LruConvBwdIdeal.main (F := Ideal))) ⟨m, fun _ => 0, g⟩ (fun r => (∀ c : Dev Cert.LruConvBwdIdeal.nD,
      r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
      ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
      ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2)
      ∧ r.2.mem ((c.tc : Thread Cert.LruConvBwdIdeal.nD Cert.LruConvBwdIdeal.τ).loc Cert.LruConvBwdIdeal.main_arg3) = m ((c.tc : Thread Cert.LruConvBwdIdeal.nD Cert.LruConvBwdIdeal.τ).loc Cert.LruConvBwdIdeal.main_arg3))
      ∧ r.2.sem = fun _ => 0)

def quiescent_LruConvBwdRefIdeal [hLruConvBwdRefIdeal : Cert.LruConvBwdRefIdeal.Facts] : Prop :=
  ∀ (m : (ℓ : Loc Cert.LruConvBwdRefIdeal.nD Cert.LruConvBwdRefIdeal.τ Cert.LruConvBwdRefIdeal.sig) → Buf (Elt Ideal) ℓ) (g : Dev Cert.LruConvBwdRefIdeal.nD → PrngReg), Pre_LruConvBwdRefIdeal m →
    θ_run (Cert.LruConvBwdRefIdeal.defs (F := Ideal)) (onTc (τ := Cert.LruConvBwdRefIdeal.τ) (Cert.LruConvBwdRefIdeal.main (F := Ideal))) ⟨m, fun _ => 0, g⟩ (fun r => (∀ c : Dev Cert.LruConvBwdRefIdeal.nD,
      r.2.mem ((c.tc : Thread Cert.LruConvBwdRefIdeal.nD Cert.LruConvBwdRefIdeal.τ).loc Cert.LruConvBwdRefIdeal.main_arg0) = m ((c.tc : Thread Cert.LruConvBwdRefIdeal.nD Cert.LruConvBwdRefIdeal.τ).loc Cert.LruConvBwdRefIdeal.main_arg0)
      ∧ r.2.mem ((c.tc : Thread Cert.LruConvBwdRefIdeal.nD Cert.LruConvBwdRefIdeal.τ).loc Cert.LruConvBwdRefIdeal.main_arg1) = m ((c.tc : Thread Cert.LruConvBwdRefIdeal.nD Cert.LruConvBwdRefIdeal.τ).loc Cert.LruConvBwdRefIdeal.main_arg1)
      ∧ r.2.mem ((c.tc : Thread Cert.LruConvBwdRefIdeal.nD Cert.LruConvBwdRefIdeal.τ).loc Cert.LruConvBwdRefIdeal.main_arg2) = m ((c.tc : Thread Cert.LruConvBwdRefIdeal.nD Cert.LruConvBwdRefIdeal.τ).loc Cert.LruConvBwdRefIdeal.main_arg2)
      ∧ r.2.mem ((c.tc : Thread Cert.LruConvBwdRefIdeal.nD Cert.LruConvBwdRefIdeal.τ).loc Cert.LruConvBwdRefIdeal.main_arg3) = m ((c.tc : Thread Cert.LruConvBwdRefIdeal.nD Cert.LruConvBwdRefIdeal.τ).loc Cert.LruConvBwdRefIdeal.main_arg3))
      ∧ r.2.sem = fun _ => 0)

def quiescent_SsdConvBwd [hSsdConvBwd : Cert.SsdConvBwd.Facts] : Prop :=
  ∀ (m : (ℓ : Loc Cert.SsdConvBwd.nD Cert.SsdConvBwd.τ Cert.SsdConvBwd.sig) → Buf (Elt Bits) ℓ) (g : Dev Cert.SsdConvBwd.nD → PrngReg), Pre_SsdConvBwd m →
    θ_run (Cert.SsdConvBwd.defs (F := Bits)) (onTc (τ := Cert.SsdConvBwd.τ) (Cert.SsdConvBwd.main (F := Bits))) ⟨m, fun _ => 0, g⟩ (fun r => (∀ c : Dev Cert.SsdConvBwd.nD,
      r.2.mem ((c.tc : Thread Cert.SsdConvBwd.nD Cert.SsdConvBwd.τ).loc Cert.SsdConvBwd.main_arg0) = m ((c.tc : Thread Cert.SsdConvBwd.nD Cert.SsdConvBwd.τ).loc Cert.SsdConvBwd.main_arg0)
      ∧ r.2.mem ((c.tc : Thread Cert.SsdConvBwd.nD Cert.SsdConvBwd.τ).loc Cert.SsdConvBwd.main_arg1) = m ((c.tc : Thread Cert.SsdConvBwd.nD Cert.SsdConvBwd.τ).loc Cert.SsdConvBwd.main_arg1)
      ∧ r.2.mem ((c.tc : Thread Cert.SsdConvBwd.nD Cert.SsdConvBwd.τ).loc Cert.SsdConvBwd.main_arg2) = m ((c.tc : Thread Cert.SsdConvBwd.nD Cert.SsdConvBwd.τ).loc Cert.SsdConvBwd.main_arg2)
      ∧ r.2.mem ((c.tc : Thread Cert.SsdConvBwd.nD Cert.SsdConvBwd.τ).loc Cert.SsdConvBwd.main_arg3) = m ((c.tc : Thread Cert.SsdConvBwd.nD Cert.SsdConvBwd.τ).loc Cert.SsdConvBwd.main_arg3))
      ∧ r.2.sem = fun _ => 0)

def quiescent_SsdConvBwdIdeal [hSsdConvBwdIdeal : Cert.SsdConvBwdIdeal.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg), Pre_SsdConvBwdIdeal m →
    θ_run (Cert.SsdConvBwdIdeal.defs (F := Ideal)) (onTc (τ := Cert.SsdConvBwdIdeal.τ) (Cert.SsdConvBwdIdeal.main (F := Ideal))) ⟨m, fun _ => 0, g⟩ (fun r => (∀ c : Dev Cert.SsdConvBwdIdeal.nD,
      r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
      ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
      ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
      ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3))
      ∧ r.2.sem = fun _ => 0)

def quiescent_SsdConvBwdIdeal_pre_finite_line [hSsdConvBwdIdeal : Cert.SsdConvBwdIdeal.Facts] [hPre_finite_line : Cert.Pre_finite_line.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg), Pre_SsdConvBwdIdeal_finite_line m →
    θ_run (Cert.SsdConvBwdIdeal.defs (F := Ideal)) (onTc (τ := Cert.SsdConvBwdIdeal.τ) (Cert.SsdConvBwdIdeal.main (F := Ideal))) ⟨m, fun _ => 0, g⟩ (fun r => (∀ c : Dev Cert.SsdConvBwdIdeal.nD,
      r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
      ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
      ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
      ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3))
      ∧ r.2.sem = fun _ => 0)

def quiescent_SsdConvBwdRefIdeal [hSsdConvBwdRefIdeal : Cert.SsdConvBwdRefIdeal.Facts] : Prop :=
  ∀ (m : (ℓ : Loc Cert.SsdConvBwdRefIdeal.nD Cert.SsdConvBwdRefIdeal.τ Cert.SsdConvBwdRefIdeal.sig) → Buf (Elt Ideal) ℓ) (g : Dev Cert.SsdConvBwdRefIdeal.nD → PrngReg), Pre_SsdConvBwdRefIdeal m →
    θ_run (Cert.SsdConvBwdRefIdeal.defs (F := Ideal)) (onTc (τ := Cert.SsdConvBwdRefIdeal.τ) (Cert.SsdConvBwdRefIdeal.main (F := Ideal))) ⟨m, fun _ => 0, g⟩ (fun r => (∀ c : Dev Cert.SsdConvBwdRefIdeal.nD,
      r.2.mem ((c.tc : Thread Cert.SsdConvBwdRefIdeal.nD Cert.SsdConvBwdRefIdeal.τ).loc Cert.SsdConvBwdRefIdeal.main_arg0) = m ((c.tc : Thread Cert.SsdConvBwdRefIdeal.nD Cert.SsdConvBwdRefIdeal.τ).loc Cert.SsdConvBwdRefIdeal.main_arg0)
      ∧ r.2.mem ((c.tc : Thread Cert.SsdConvBwdRefIdeal.nD Cert.SsdConvBwdRefIdeal.τ).loc Cert.SsdConvBwdRefIdeal.main_arg1) = m ((c.tc : Thread Cert.SsdConvBwdRefIdeal.nD Cert.SsdConvBwdRefIdeal.τ).loc Cert.SsdConvBwdRefIdeal.main_arg1)
      ∧ r.2.mem ((c.tc : Thread Cert.SsdConvBwdRefIdeal.nD Cert.SsdConvBwdRefIdeal.τ).loc Cert.SsdConvBwdRefIdeal.main_arg2) = m ((c.tc : Thread Cert.SsdConvBwdRefIdeal.nD Cert.SsdConvBwdRefIdeal.τ).loc Cert.SsdConvBwdRefIdeal.main_arg2)
      ∧ r.2.mem ((c.tc : Thread Cert.SsdConvBwdRefIdeal.nD Cert.SsdConvBwdRefIdeal.τ).loc Cert.SsdConvBwdRefIdeal.main_arg3) = m ((c.tc : Thread Cert.SsdConvBwdRefIdeal.nD Cert.SsdConvBwdRefIdeal.τ).loc Cert.SsdConvBwdRefIdeal.main_arg3))
      ∧ r.2.sem = fun _ => 0)

def quiescent_SsdConvBwdRefIdeal_pre_finite_line [hSsdConvBwdRefIdeal : Cert.SsdConvBwdRefIdeal.Facts] [hPre_finite_line : Cert.Pre_finite_line.Facts] : Prop :=
  ∀ (m : (ℓ : Loc Cert.SsdConvBwdRefIdeal.nD Cert.SsdConvBwdRefIdeal.τ Cert.SsdConvBwdRefIdeal.sig) → Buf (Elt Ideal) ℓ) (g : Dev Cert.SsdConvBwdRefIdeal.nD → PrngReg), Pre_SsdConvBwdRefIdeal_finite_line m →
    θ_run (Cert.SsdConvBwdRefIdeal.defs (F := Ideal)) (onTc (τ := Cert.SsdConvBwdRefIdeal.τ) (Cert.SsdConvBwdRefIdeal.main (F := Ideal))) ⟨m, fun _ => 0, g⟩ (fun r => (∀ c : Dev Cert.SsdConvBwdRefIdeal.nD,
      r.2.mem ((c.tc : Thread Cert.SsdConvBwdRefIdeal.nD Cert.SsdConvBwdRefIdeal.τ).loc Cert.SsdConvBwdRefIdeal.main_arg0) = m ((c.tc : Thread Cert.SsdConvBwdRefIdeal.nD Cert.SsdConvBwdRefIdeal.τ).loc Cert.SsdConvBwdRefIdeal.main_arg0)
      ∧ r.2.mem ((c.tc : Thread Cert.SsdConvBwdRefIdeal.nD Cert.SsdConvBwdRefIdeal.τ).loc Cert.SsdConvBwdRefIdeal.main_arg1) = m ((c.tc : Thread Cert.SsdConvBwdRefIdeal.nD Cert.SsdConvBwdRefIdeal.τ).loc Cert.SsdConvBwdRefIdeal.main_arg1)
      ∧ r.2.mem ((c.tc : Thread Cert.SsdConvBwdRefIdeal.nD Cert.SsdConvBwdRefIdeal.τ).loc Cert.SsdConvBwdRefIdeal.main_arg2) = m ((c.tc : Thread Cert.SsdConvBwdRefIdeal.nD Cert.SsdConvBwdRefIdeal.τ).loc Cert.SsdConvBwdRefIdeal.main_arg2)
      ∧ r.2.mem ((c.tc : Thread Cert.SsdConvBwdRefIdeal.nD Cert.SsdConvBwdRefIdeal.τ).loc Cert.SsdConvBwdRefIdeal.main_arg3) = m ((c.tc : Thread Cert.SsdConvBwdRefIdeal.nD Cert.SsdConvBwdRefIdeal.τ).loc Cert.SsdConvBwdRefIdeal.main_arg3))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ r.2.sem = fun _ => 0)

def quiescent_LruConvRefIdeal [hLruConvRefIdeal : Cert.LruConvRefIdeal.Facts] : Prop :=
  ∀ (m : (ℓ : Loc Cert.LruConvRefIdeal.nD Cert.LruConvRefIdeal.τ Cert.LruConvRefIdeal.sig) → Buf (Elt Ideal) ℓ) (g : Dev Cert.LruConvRefIdeal.nD → PrngReg), Pre_LruConvRefIdeal m →
    θ_run (Cert.LruConvRefIdeal.defs (F := Ideal)) (onTc (τ := Cert.LruConvRefIdeal.τ) (Cert.LruConvRefIdeal.main (F := Ideal))) ⟨m, fun _ => 0, g⟩ (fun r => (∀ c : Dev Cert.LruConvRefIdeal.nD,
      r.2.mem ((c.tc : Thread Cert.LruConvRefIdeal.nD Cert.LruConvRefIdeal.τ).loc Cert.LruConvRefIdeal.main_arg0) = m ((c.tc : Thread Cert.LruConvRefIdeal.nD Cert.LruConvRefIdeal.τ).loc Cert.LruConvRefIdeal.main_arg0)
      ∧ r.2.mem ((c.tc : Thread Cert.LruConvRefIdeal.nD Cert.LruConvRefIdeal.τ).loc Cert.LruConvRefIdeal.main_arg1) = m ((c.tc : Thread Cert.LruConvRefIdeal.nD Cert.LruConvRefIdeal.τ).loc Cert.LruConvRefIdeal.main_arg1)
      ∧ r.2.mem ((c.tc : Thread Cert.LruConvRefIdeal.nD Cert.LruConvRefIdeal.τ).loc Cert.LruConvRefIdeal.main_arg2) = m ((c.tc : Thread Cert.LruConvRefIdeal.nD Cert.LruConvRefIdeal.τ).loc Cert.LruConvRefIdeal.main_arg2))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ r.2.sem = fun _ => 0)

def quiescent_SsdConvRefIdeal [hSsdConvRefIdeal : Cert.SsdConvRefIdeal.Facts] : Prop :=
  ∀ (m : (ℓ : Loc Cert.SsdConvRefIdeal.nD Cert.SsdConvRefIdeal.τ Cert.SsdConvRefIdeal.sig) → Buf (Elt Ideal) ℓ) (g : Dev Cert.SsdConvRefIdeal.nD → PrngReg), Pre_SsdConvRefIdeal m →
    θ_run (Cert.SsdConvRefIdeal.defs (F := Ideal)) (onTc (τ := Cert.SsdConvRefIdeal.τ) (Cert.SsdConvRefIdeal.main (F := Ideal))) ⟨m, fun _ => 0, g⟩ (fun r => (∀ c : Dev Cert.SsdConvRefIdeal.nD,
      r.2.mem ((c.tc : Thread Cert.SsdConvRefIdeal.nD Cert.SsdConvRefIdeal.τ).loc Cert.SsdConvRefIdeal.main_arg0) = m ((c.tc : Thread Cert.SsdConvRefIdeal.nD Cert.SsdConvRefIdeal.τ).loc Cert.SsdConvRefIdeal.main_arg0)
      ∧ r.2.mem ((c.tc : Thread Cert.SsdConvRefIdeal.nD Cert.SsdConvRefIdeal.τ).loc Cert.SsdConvRefIdeal.main_arg1) = m ((c.tc : Thread Cert.SsdConvRefIdeal.nD Cert.SsdConvRefIdeal.τ).loc Cert.SsdConvRefIdeal.main_arg1)
      ∧ r.2.mem ((c.tc : Thread Cert.SsdConvRefIdeal.nD Cert.SsdConvRefIdeal.τ).loc Cert.SsdConvRefIdeal.main_arg2) = m ((c.tc : Thread Cert.SsdConvRefIdeal.nD Cert.SsdConvRefIdeal.τ).loc Cert.SsdConvRefIdeal.main_arg2))
      ∧ r.2.sem = fun _ => 0)

def quiescent_FfnConv [hFfnConv : Cert.FfnConv.Facts] : Prop :=
  ∀ (m : (ℓ : Loc Cert.FfnConv.nD Cert.FfnConv.τ Cert.FfnConv.sig) → Buf (Elt Bits) ℓ) (g : Dev Cert.FfnConv.nD → PrngReg), Pre_FfnConv m →
    θ_run (Cert.FfnConv.defs (F := Bits)) (onTc (τ := Cert.FfnConv.τ) (Cert.FfnConv.main (F := Bits))) ⟨m, fun _ => 0, g⟩ (fun r => (∀ c : Dev Cert.FfnConv.nD,
      r.2.mem ((c.tc : Thread Cert.FfnConv.nD Cert.FfnConv.τ).loc Cert.FfnConv.main_arg0) = m ((c.tc : Thread Cert.FfnConv.nD Cert.FfnConv.τ).loc Cert.FfnConv.main_arg0)
      ∧ r.2.mem ((c.tc : Thread Cert.FfnConv.nD Cert.FfnConv.τ).loc Cert.FfnConv.main_arg1) = m ((c.tc : Thread Cert.FfnConv.nD Cert.FfnConv.τ).loc Cert.FfnConv.main_arg1)
      ∧ r.2.mem ((c.tc : Thread Cert.FfnConv.nD Cert.FfnConv.τ).loc Cert.FfnConv.main_arg2) = m ((c.tc : Thread Cert.FfnConv.nD Cert.FfnConv.τ).loc Cert.FfnConv.main_arg2)
      ∧ r.2.mem ((c.tc : Thread Cert.FfnConv.nD Cert.FfnConv.τ).loc Cert.FfnConv.main_arg3) = m ((c.tc : Thread Cert.FfnConv.nD Cert.FfnConv.τ).loc Cert.FfnConv.main_arg3))
      ∧ r.2.sem = fun _ => 0)

def quiescent_FfnConvIdeal [hFfnConvIdeal : Cert.FfnConvIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg), Pre_FfnConvIdeal m →
    θ_run (Cert.FfnConvIdeal.defs (F := Ideal)) (onTc (τ := Cert.FfnConvIdeal.τ) (Cert.FfnConvIdeal.main (F := Ideal))) ⟨m, fun _ => 0, g⟩ (fun r => (∀ c : Dev Cert.FfnConvIdeal.nD,
      r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
      ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
      ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
      ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ r.2.sem = fun _ => 0)

def quiescent_FfnConvRefIdeal [hFfnConvRefIdeal : Cert.FfnConvRefIdeal.Facts] : Prop :=
  ∀ (m : (ℓ : Loc Cert.FfnConvRefIdeal.nD Cert.FfnConvRefIdeal.τ Cert.FfnConvRefIdeal.sig) → Buf (Elt Ideal) ℓ) (g : Dev Cert.FfnConvRefIdeal.nD → PrngReg), Pre_FfnConvRefIdeal m →
    θ_run (Cert.FfnConvRefIdeal.defs (F := Ideal)) (onTc (τ := Cert.FfnConvRefIdeal.τ) (Cert.FfnConvRefIdeal.main (F := Ideal))) ⟨m, fun _ => 0, g⟩ (fun r => (∀ c : Dev Cert.FfnConvRefIdeal.nD,
      r.2.mem ((c.tc : Thread Cert.FfnConvRefIdeal.nD Cert.FfnConvRefIdeal.τ).loc Cert.FfnConvRefIdeal.main_arg0) = m ((c.tc : Thread Cert.FfnConvRefIdeal.nD Cert.FfnConvRefIdeal.τ).loc Cert.FfnConvRefIdeal.main_arg0)
      ∧ r.2.mem ((c.tc : Thread Cert.FfnConvRefIdeal.nD Cert.FfnConvRefIdeal.τ).loc Cert.FfnConvRefIdeal.main_arg1) = m ((c.tc : Thread Cert.FfnConvRefIdeal.nD Cert.FfnConvRefIdeal.τ).loc Cert.FfnConvRefIdeal.main_arg1)
      ∧ r.2.mem ((c.tc : Thread Cert.FfnConvRefIdeal.nD Cert.FfnConvRefIdeal.τ).loc Cert.FfnConvRefIdeal.main_arg2) = m ((c.tc : Thread Cert.FfnConvRefIdeal.nD Cert.FfnConvRefIdeal.τ).loc Cert.FfnConvRefIdeal.main_arg2)
      ∧ r.2.mem ((c.tc : Thread Cert.FfnConvRefIdeal.nD Cert.FfnConvRefIdeal.τ).loc Cert.FfnConvRefIdeal.main_arg3) = m ((c.tc : Thread Cert.FfnConvRefIdeal.nD Cert.FfnConvRefIdeal.τ).loc Cert.FfnConvRefIdeal.main_arg3))
      ∧ r.2.sem = fun _ => 0)

def quiescent_EvDt [hEvDt : Cert.EvDt.Facts] : Prop :=
  ∀ (m : (ℓ : Loc Cert.EvDt.nD Cert.EvDt.τ Cert.EvDt.sig) → Buf (Elt Bits) ℓ) (g : Dev Cert.EvDt.nD → PrngReg), Pre_EvDt m →
    θ_run (Cert.EvDt.defs (F := Bits)) (onTc (τ := Cert.EvDt.τ) (Cert.EvDt.main (F := Bits))) ⟨m, fun _ => 0, g⟩ (fun r => (∀ c : Dev Cert.EvDt.nD,
      r.2.mem ((c.tc : Thread Cert.EvDt.nD Cert.EvDt.τ).loc Cert.EvDt.main_arg0) = m ((c.tc : Thread Cert.EvDt.nD Cert.EvDt.τ).loc Cert.EvDt.main_arg0)
      ∧ r.2.mem ((c.tc : Thread Cert.EvDt.nD Cert.EvDt.τ).loc Cert.EvDt.main_arg1) = m ((c.tc : Thread Cert.EvDt.nD Cert.EvDt.τ).loc Cert.EvDt.main_arg1))
      ∧ r.2.sem = fun _ => 0)

def quiescent_EvDtIdeal [hEvDtIdeal : Cert.EvDtIdeal.Facts] : Prop :=
  ∀ (m : (ℓ : Loc Cert.EvDtIdeal.nD Cert.EvDtIdeal.τ Cert.EvDtIdeal.sig) → Buf (Elt Ideal) ℓ) (g : Dev Cert.EvDtIdeal.nD → PrngReg), Pre_EvDtIdeal m →
    θ_run (Cert.EvDtIdeal.defs (F := Ideal)) (onTc (τ := Cert.EvDtIdeal.τ) (Cert.EvDtIdeal.main (F := Ideal))) ⟨m, fun _ => 0, g⟩ (fun r => (∀ c : Dev Cert.EvDtIdeal.nD,
      r.2.mem ((c.tc : Thread Cert.EvDtIdeal.nD Cert.EvDtIdeal.τ).loc Cert.EvDtIdeal.main_arg0) = m ((c.tc : Thread Cert.EvDtIdeal.nD Cert.EvDtIdeal.τ).loc Cert.EvDtIdeal.main_arg0)
      ∧ r.2.mem ((c.tc : Thread Cert.EvDtIdeal.nD Cert.EvDtIdeal.τ).loc Cert.EvDtIdeal.main_arg1) = m ((c.tc : Thread Cert.EvDtIdeal.nD Cert.EvDtIdeal.τ).loc Cert.EvDtIdeal.main_arg1))
      ∧ r.2.sem = fun _ => 0)

def quiescent_EvDtRefIdeal [hEvDtRefIdeal : Cert.EvDtRefIdeal.Facts] : Prop :=
  ∀ (m : (ℓ : Loc Cert.EvDtRefIdeal.nD Cert.EvDtRefIdeal.τ Cert.EvDtRefIdeal.sig) → Buf (Elt Ideal) ℓ) (g : Dev Cert.EvDtRefIdeal.nD → PrngReg), Pre_EvDtRefIdeal m →
    θ_run (Cert.EvDtRefIdeal.defs (F := Ideal)) (onTc (τ := Cert.EvDtRefIdeal.τ) (Cert.EvDtRefIdeal.main (F := Ideal))) ⟨m, fun _ => 0, g⟩ (fun r => (∀ c : Dev Cert.EvDtRefIdeal.nD,
      r.2.mem ((c.tc : Thread Cert.EvDtRefIdeal.nD Cert.EvDtRefIdeal.τ).loc Cert.EvDtRefIdeal.main_arg0) = m ((c.tc : Thread Cert.EvDtRefIdeal.nD Cert.EvDtRefIdeal.τ).loc Cert.EvDtRefIdeal.main_arg0)
      ∧ r.2.mem ((c.tc : Thread Cert.EvDtRefIdeal.nD Cert.EvDtRefIdeal.τ).loc Cert.EvDtRefIdeal.main_arg1) = m ((c.tc : Thread Cert.EvDtRefIdeal.nD Cert.EvDtRefIdeal.τ).loc Cert.EvDtRefIdeal.main_arg1))
      ∧ r.2.sem = fun _ => 0)

def quiescent_EvDwDt [hEvDwDt : Cert.EvDwDt.Facts] : Prop :=
  ∀ (m : (ℓ : Loc Cert.EvDwDt.nD Cert.EvDwDt.τ Cert.EvDwDt.sig) → Buf (Elt Bits) ℓ) (g : Dev Cert.EvDwDt.nD → PrngReg), Pre_EvDwDt m →
    θ_run (Cert.EvDwDt.defs (F := Bits)) (onTc (τ := Cert.EvDwDt.τ) (Cert.EvDwDt.main (F := Bits))) ⟨m, fun _ => 0, g⟩ (fun r => (∀ c : Dev Cert.EvDwDt.nD,
      r.2.mem ((c.tc : Thread Cert.EvDwDt.nD Cert.EvDwDt.τ).loc Cert.EvDwDt.main_arg0) = m ((c.tc : Thread Cert.EvDwDt.nD Cert.EvDwDt.τ).loc Cert.EvDwDt.main_arg0)
      ∧ r.2.mem ((c.tc : Thread Cert.EvDwDt.nD Cert.EvDwDt.τ).loc Cert.EvDwDt.main_arg1) = m ((c.tc : Thread Cert.EvDwDt.nD Cert.EvDwDt.τ).loc Cert.EvDwDt.main_arg1))
      ∧ r.2.sem = fun _ => 0)

def quiescent_EvDwDtIdeal [hEvDwDtIdeal : Cert.EvDwDtIdeal.Facts] : Prop :=
  ∀ (m : (ℓ : Loc Cert.EvDwDtIdeal.nD Cert.EvDwDtIdeal.τ Cert.EvDwDtIdeal.sig) → Buf (Elt Ideal) ℓ) (g : Dev Cert.EvDwDtIdeal.nD → PrngReg), Pre_EvDwDtIdeal m →
    θ_run (Cert.EvDwDtIdeal.defs (F := Ideal)) (onTc (τ := Cert.EvDwDtIdeal.τ) (Cert.EvDwDtIdeal.main (F := Ideal))) ⟨m, fun _ => 0, g⟩ (fun r => (∀ c : Dev Cert.EvDwDtIdeal.nD,
      r.2.mem ((c.tc : Thread Cert.EvDwDtIdeal.nD Cert.EvDwDtIdeal.τ).loc Cert.EvDwDtIdeal.main_arg0) = m ((c.tc : Thread Cert.EvDwDtIdeal.nD Cert.EvDwDtIdeal.τ).loc Cert.EvDwDtIdeal.main_arg0)
      ∧ r.2.mem ((c.tc : Thread Cert.EvDwDtIdeal.nD Cert.EvDwDtIdeal.τ).loc Cert.EvDwDtIdeal.main_arg1) = m ((c.tc : Thread Cert.EvDwDtIdeal.nD Cert.EvDwDtIdeal.τ).loc Cert.EvDwDtIdeal.main_arg1))
      ∧ r.2.sem = fun _ => 0)

def quiescent_EvDwDtRefIdeal [hEvDwDtRefIdeal : Cert.EvDwDtRefIdeal.Facts] : Prop :=
  ∀ (m : (ℓ : Loc Cert.EvDwDtRefIdeal.nD Cert.EvDwDtRefIdeal.τ Cert.EvDwDtRefIdeal.sig) → Buf (Elt Ideal) ℓ) (g : Dev Cert.EvDwDtRefIdeal.nD → PrngReg), Pre_EvDwDtRefIdeal m →
    θ_run (Cert.EvDwDtRefIdeal.defs (F := Ideal)) (onTc (τ := Cert.EvDwDtRefIdeal.τ) (Cert.EvDwDtRefIdeal.main (F := Ideal))) ⟨m, fun _ => 0, g⟩ (fun r => (∀ c : Dev Cert.EvDwDtRefIdeal.nD,
      r.2.mem ((c.tc : Thread Cert.EvDwDtRefIdeal.nD Cert.EvDwDtRefIdeal.τ).loc Cert.EvDwDtRefIdeal.main_arg0) = m ((c.tc : Thread Cert.EvDwDtRefIdeal.nD Cert.EvDwDtRefIdeal.τ).loc Cert.EvDwDtRefIdeal.main_arg0)
      ∧ r.2.mem ((c.tc : Thread Cert.EvDwDtRefIdeal.nD Cert.EvDwDtRefIdeal.τ).loc Cert.EvDwDtRefIdeal.main_arg1) = m ((c.tc : Thread Cert.EvDwDtRefIdeal.nD Cert.EvDwDtRefIdeal.τ).loc Cert.EvDwDtRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_ModDctx [hModDctx : Cert.ModDctx.Facts] : Prop :=
  ∀ (m : (ℓ : Loc Cert.ModDctx.nD Cert.ModDctx.τ Cert.ModDctx.sig) → Buf (Elt Bits) ℓ) (g : Dev Cert.ModDctx.nD → PrngReg), Pre_ModDctx m →
    θ_run (Cert.ModDctx.defs (F := Bits)) (onTc (τ := Cert.ModDctx.τ) (Cert.ModDctx.main (F := Bits))) ⟨m, fun _ => 0, g⟩ (fun r => (∀ c : Dev Cert.ModDctx.nD,
      r.2.mem ((c.tc : Thread Cert.ModDctx.nD Cert.ModDctx.τ).loc Cert.ModDctx.main_arg0) = m ((c.tc : Thread Cert.ModDctx.nD Cert.ModDctx.τ).loc Cert.ModDctx.main_arg0)
      ∧ r.2.mem ((c.tc : Thread Cert.ModDctx.nD Cert.ModDctx.τ).loc Cert.ModDctx.main_arg1) = m ((c.tc : Thread Cert.ModDctx.nD Cert.ModDctx.τ).loc Cert.ModDctx.main_arg1))
      ∧ r.2.sem = fun _ => 0)

def quiescent_ModDctxIdeal [hModDctxIdeal : Cert.ModDctxIdeal.Facts] : Prop :=
  ∀ (m : (ℓ : Loc Cert.ModDctxIdeal.nD Cert.ModDctxIdeal.τ Cert.ModDctxIdeal.sig) → Buf (Elt Ideal) ℓ) (g : Dev Cert.ModDctxIdeal.nD → PrngReg), Pre_ModDctxIdeal m →
    θ_run (Cert.ModDctxIdeal.defs (F := Ideal)) (onTc (τ := Cert.ModDctxIdeal.τ) (Cert.ModDctxIdeal.main (F := Ideal))) ⟨m, fun _ => 0, g⟩ (fun r => (∀ c : Dev Cert.ModDctxIdeal.nD,
      r.2.mem ((c.tc : Thread Cert.ModDctxIdeal.nD Cert.ModDctxIdeal.τ).loc Cert.ModDctxIdeal.main_arg0) = m ((c.tc : Thread Cert.ModDctxIdeal.nD Cert.ModDctxIdeal.τ).loc Cert.ModDctxIdeal.main_arg0)
      ∧ r.2.mem ((c.tc : Thread Cert.ModDctxIdeal.nD Cert.ModDctxIdeal.τ).loc Cert.ModDctxIdeal.main_arg1) = m ((c.tc : Thread Cert.ModDctxIdeal.nD Cert.ModDctxIdeal.τ).loc Cert.ModDctxIdeal.main_arg1))
      ∧ r.2.sem = fun _ => 0)

def quiescent_ModDctxRefIdeal [hModDctxRefIdeal : Cert.ModDctxRefIdeal.Facts] : Prop :=
  ∀ (m : (ℓ : Loc Cert.ModDctxRefIdeal.nD Cert.ModDctxRefIdeal.τ Cert.ModDctxRefIdeal.sig) → Buf (Elt Ideal) ℓ) (g : Dev Cert.ModDctxRefIdeal.nD → PrngReg), Pre_ModDctxRefIdeal m →
    θ_run (Cert.ModDctxRefIdeal.defs (F := Ideal)) (onTc (τ := Cert.ModDctxRefIdeal.τ) (Cert.ModDctxRefIdeal.main (F := Ideal))) ⟨m, fun _ => 0, g⟩ (fun r => (∀ c : Dev Cert.ModDctxRefIdeal.nD,
      r.2.mem ((c.tc : Thread Cert.ModDctxRefIdeal.nD Cert.ModDctxRefIdeal.τ).loc Cert.ModDctxRefIdeal.main_arg0) = m ((c.tc : Thread Cert.ModDctxRefIdeal.nD Cert.ModDctxRefIdeal.τ).loc Cert.ModDctxRefIdeal.main_arg0)
      ∧ r.2.mem ((c.tc : Thread Cert.ModDctxRefIdeal.nD Cert.ModDctxRefIdeal.τ).loc Cert.ModDctxRefIdeal.main_arg1) = m ((c.tc : Thread Cert.ModDctxRefIdeal.nD Cert.ModDctxRefIdeal.τ).loc Cert.ModDctxRefIdeal.main_arg1))
      ∧ r.2.sem = fun _ => 0)

def quiescent_ModSilu [hModSilu : Cert.ModSilu.Facts] : Prop :=
  ∀ (m : (ℓ : Loc Cert.ModSilu.nD Cert.ModSilu.τ Cert.ModSilu.sig) → Buf (Elt Bits) ℓ) (g : Dev Cert.ModSilu.nD → PrngReg), Pre_ModSilu m →
    θ_run (Cert.ModSilu.defs (F := Bits)) (onTc (τ := Cert.ModSilu.τ) (Cert.ModSilu.main (F := Bits))) ⟨m, fun _ => 0, g⟩ (fun r => (∀ c : Dev Cert.ModSilu.nD,
      r.2.mem ((c.tc : Thread Cert.ModSilu.nD Cert.ModSilu.τ).loc Cert.ModSilu.main_arg0) = m ((c.tc : Thread Cert.ModSilu.nD Cert.ModSilu.τ).loc Cert.ModSilu.main_arg0))
      ∧ r.2.sem = fun _ => 0)

def quiescent_ModSiluIdeal [hModSiluIdeal : Cert.ModSiluIdeal.Facts] : Prop :=
  ∀ (m : (ℓ : Loc Cert.ModSiluIdeal.nD Cert.ModSiluIdeal.τ Cert.ModSiluIdeal.sig) → Buf (Elt Ideal) ℓ) (g : Dev Cert.ModSiluIdeal.nD → PrngReg), Pre_ModSiluIdeal m →
    θ_run (Cert.ModSiluIdeal.defs (F := Ideal)) (onTc (τ := Cert.ModSiluIdeal.τ) (Cert.ModSiluIdeal.main (F := Ideal))) ⟨m, fun _ => 0, g⟩ (fun r => (∀ c : Dev Cert.ModSiluIdeal.nD,
      r.2.mem ((c.tc : Thread Cert.ModSiluIdeal.nD Cert.ModSiluIdeal.τ).loc Cert.ModSiluIdeal.main_arg0) = m ((c.tc : Thread Cert.ModSiluIdeal.nD Cert.ModSiluIdeal.τ).loc Cert.ModSiluIdeal.main_arg0))
      ∧ r.2.sem = fun _ => 0)

def quiescent_ModSiluRefIdeal [hModSiluRefIdeal : Cert.ModSiluRefIdeal.Facts] : Prop :=
  ∀ (m : (ℓ : Loc Cert.ModSiluRefIdeal.nD Cert.ModSiluRefIdeal.τ Cert.ModSiluRefIdeal.sig) → Buf (Elt Ideal) ℓ) (g : Dev Cert.ModSiluRefIdeal.nD → PrngReg), Pre_ModSiluRefIdeal m →
    θ_run (Cert.ModSiluRefIdeal.defs (F := Ideal)) (onTc (τ := Cert.ModSiluRefIdeal.τ) (Cert.ModSiluRefIdeal.main (F := Ideal))) ⟨m, fun _ => 0, g⟩ (fun r => (∀ c : Dev Cert.ModSiluRefIdeal.nD,
      r.2.mem ((c.tc : Thread Cert.ModSiluRefIdeal.nD Cert.ModSiluRefIdeal.τ).loc Cert.ModSiluRefIdeal.main_arg0) = m ((c.tc : Thread Cert.ModSiluRefIdeal.nD Cert.ModSiluRefIdeal.τ).loc Cert.ModSiluRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_ResA [hResA : Cert.ResA.Facts] : Prop :=
  ∀ (m : (ℓ : Loc Cert.ResA.nD Cert.ResA.τ Cert.ResA.sig) → Buf (Elt Bits) ℓ) (g : Dev Cert.ResA.nD → PrngReg), Pre_ResA m →
    θ_run (Cert.ResA.defs (F := Bits)) (onTc (τ := Cert.ResA.τ) (Cert.ResA.main (F := Bits))) ⟨m, fun _ => 0, g⟩ (fun r => (∀ c : Dev Cert.ResA.nD,
      r.2.mem ((c.tc : Thread Cert.ResA.nD Cert.ResA.τ).loc Cert.ResA.main_arg0) = m ((c.tc : Thread Cert.ResA.nD Cert.ResA.τ).loc Cert.ResA.main_arg0)
      ∧ r.2.mem ((c.tc : Thread Cert.ResA.nD Cert.ResA.τ).loc Cert.ResA.main_arg1) = m ((c.tc : Thread Cert.ResA.nD Cert.ResA.τ).loc Cert.ResA.main_arg1)
      ∧ r.2.mem ((c.tc : Thread Cert.ResA.nD Cert.ResA.τ).loc Cert.ResA.main_arg2) = m ((c.tc : Thread Cert.ResA.nD Cert.ResA.τ).loc Cert.ResA.main_arg2)
      ∧ r.2.mem ((c.tc : Thread Cert.ResA.nD Cert.ResA.τ).loc Cert.ResA.main_arg3) = m ((c.tc : Thread Cert.ResA.nD Cert.ResA.τ).loc Cert.ResA.main_arg3))
      ∧ r.2.sem = fun _ => 0)

def quiescent_ResAIdeal [hResAIdeal : Cert.ResAIdeal.Facts] : Prop :=
  ∀ (m : (ℓ : Loc Cert.ResAIdeal.nD Cert.ResAIdeal.τ Cert.ResAIdeal.sig) → Buf (Elt Ideal) ℓ) (g : Dev Cert.ResAIdeal.nD → PrngReg), Pre_ResAIdeal m →
    θ_run (Cert.ResAIdeal.defs (F := Ideal)) (onTc (τ := Cert.ResAIdeal.τ) (Cert.ResAIdeal.main (F := Ideal))) ⟨m, fun _ => 0, g⟩ (fun r => (∀ c : Dev Cert.ResAIdeal.nD,
      r.2.mem ((c.tc : Thread Cert.ResAIdeal.nD Cert.ResAIdeal.τ).loc Cert.ResAIdeal.main_arg0) = m ((c.tc : Thread Cert.ResAIdeal.nD Cert.ResAIdeal.τ).loc Cert.ResAIdeal.main_arg0)
      ∧ r.2.mem ((c.tc : Thread Cert.ResAIdeal.nD Cert.ResAIdeal.τ).loc Cert.ResAIdeal.main_arg1) = m ((c.tc : Thread Cert.ResAIdeal.nD Cert.ResAIdeal.τ).loc Cert.ResAIdeal.main_arg1)
      ∧ r.2.mem ((c.tc : Thread Cert.ResAIdeal.nD Cert.ResAIdeal.τ).loc Cert.ResAIdeal.main_arg2) = m ((c.tc : Thread Cert.ResAIdeal.nD Cert.ResAIdeal.τ).loc Cert.ResAIdeal.main_arg2)
      ∧ r.2.mem ((c.tc : Thread Cert.ResAIdeal.nD Cert.ResAIdeal.τ).loc Cert.ResAIdeal.main_arg3) = m ((c.tc : Thread Cert.ResAIdeal.nD Cert.ResAIdeal.τ).loc Cert.ResAIdeal.main_arg3))
      ∧ r.2.sem = fun _ => 0)

def quiescent_ResARefIdeal [hResARefIdeal : Cert.ResARefIdeal.Facts] : Prop :=
  ∀ (m : (ℓ : Loc Cert.ResARefIdeal.nD Cert.ResARefIdeal.τ Cert.ResARefIdeal.sig) → Buf (Elt Ideal) ℓ) (g : Dev Cert.ResARefIdeal.nD → PrngReg), Pre_ResARefIdeal m →
    θ_run (Cert.ResARefIdeal.defs (F := Ideal)) (onTc (τ := Cert.ResARefIdeal.τ) (Cert.ResARefIdeal.main (F := Ideal))) ⟨m, fun _ => 0, g⟩ (fun r => (∀ c : Dev Cert.ResARefIdeal.nD,
      r.2.mem ((c.tc : Thread Cert.ResARefIdeal.nD Cert.ResARefIdeal.τ).loc Cert.ResARefIdeal.main_arg0) = m ((c.tc : Thread Cert.ResARefIdeal.nD Cert.ResARefIdeal.τ).loc Cert.ResARefIdeal.main_arg0)
      ∧ r.2.mem ((c.tc : Thread Cert.ResARefIdeal.nD Cert.ResARefIdeal.τ).loc Cert.ResARefIdeal.main_arg1) = m ((c.tc : Thread Cert.ResARefIdeal.nD Cert.ResARefIdeal.τ).loc Cert.ResARefIdeal.main_arg1)
      ∧ r.2.mem ((c.tc : Thread Cert.ResARefIdeal.nD Cert.ResARefIdeal.τ).loc Cert.ResARefIdeal.main_arg2) = m ((c.tc : Thread Cert.ResARefIdeal.nD Cert.ResARefIdeal.τ).loc Cert.ResARefIdeal.main_arg2)
      ∧ r.2.mem ((c.tc : Thread Cert.ResARefIdeal.nD Cert.ResARefIdeal.τ).loc Cert.ResARefIdeal.main_arg3) = m ((c.tc : Thread Cert.ResARefIdeal.nD Cert.ResARefIdeal.τ).loc Cert.ResARefIdeal.main_arg3))
      ∧ r.2.sem = fun _ => 0)

def quiescent_ResB [hResB : Cert.ResB.Facts] : Prop :=
  ∀ (m : (ℓ : Loc Cert.ResB.nD Cert.ResB.τ Cert.ResB.sig) → Buf (Elt Bits) ℓ) (g : Dev Cert.ResB.nD → PrngReg), Pre_ResB m →
    θ_run (Cert.ResB.defs (F := Bits)) (onTc (τ := Cert.ResB.τ) (Cert.ResB.main (F := Bits))) ⟨m, fun _ => 0, g⟩ (fun r => (∀ c : Dev Cert.ResB.nD,
      r.2.mem ((c.tc : Thread Cert.ResB.nD Cert.ResB.τ).loc Cert.ResB.main_arg0) = m ((c.tc : Thread Cert.ResB.nD Cert.ResB.τ).loc Cert.ResB.main_arg0)
      ∧ r.2.mem ((c.tc : Thread Cert.ResB.nD Cert.ResB.τ).loc Cert.ResB.main_arg1) = m ((c.tc : Thread Cert.ResB.nD Cert.ResB.τ).loc Cert.ResB.main_arg1)
      ∧ r.2.mem ((c.tc : Thread Cert.ResB.nD Cert.ResB.τ).loc Cert.ResB.main_arg2) = m ((c.tc : Thread Cert.ResB.nD Cert.ResB.τ).loc Cert.ResB.main_arg2)
      ∧ r.2.mem ((c.tc : Thread Cert.ResB.nD Cert.ResB.τ).loc Cert.ResB.main_arg3) = m ((c.tc : Thread Cert.ResB.nD Cert.ResB.τ).loc Cert.ResB.main_arg3))
      ∧ r.2.sem = fun _ => 0)

def quiescent_ResBIdeal [hResBIdeal : Cert.ResBIdeal.Facts] : Prop :=
  ∀ (m : (ℓ : Loc Cert.ResBIdeal.nD Cert.ResBIdeal.τ Cert.ResBIdeal.sig) → Buf (Elt Ideal) ℓ) (g : Dev Cert.ResBIdeal.nD → PrngReg), Pre_ResBIdeal m →
    θ_run (Cert.ResBIdeal.defs (F := Ideal)) (onTc (τ := Cert.ResBIdeal.τ) (Cert.ResBIdeal.main (F := Ideal))) ⟨m, fun _ => 0, g⟩ (fun r => (∀ c : Dev Cert.ResBIdeal.nD,
      r.2.mem ((c.tc : Thread Cert.ResBIdeal.nD Cert.ResBIdeal.τ).loc Cert.ResBIdeal.main_arg0) = m ((c.tc : Thread Cert.ResBIdeal.nD Cert.ResBIdeal.τ).loc Cert.ResBIdeal.main_arg0)
      ∧ r.2.mem ((c.tc : Thread Cert.ResBIdeal.nD Cert.ResBIdeal.τ).loc Cert.ResBIdeal.main_arg1) = m ((c.tc : Thread Cert.ResBIdeal.nD Cert.ResBIdeal.τ).loc Cert.ResBIdeal.main_arg1)
      ∧ r.2.mem ((c.tc : Thread Cert.ResBIdeal.nD Cert.ResBIdeal.τ).loc Cert.ResBIdeal.main_arg2) = m ((c.tc : Thread Cert.ResBIdeal.nD Cert.ResBIdeal.τ).loc Cert.ResBIdeal.main_arg2)
      ∧ r.2.mem ((c.tc : Thread Cert.ResBIdeal.nD Cert.ResBIdeal.τ).loc Cert.ResBIdeal.main_arg3) = m ((c.tc : Thread Cert.ResBIdeal.nD Cert.ResBIdeal.τ).loc Cert.ResBIdeal.main_arg3))
      ∧ r.2.sem = fun _ => 0)

def quiescent_ResBRefIdeal [hResBRefIdeal : Cert.ResBRefIdeal.Facts] : Prop :=
  ∀ (m : (ℓ : Loc Cert.ResBRefIdeal.nD Cert.ResBRefIdeal.τ Cert.ResBRefIdeal.sig) → Buf (Elt Ideal) ℓ) (g : Dev Cert.ResBRefIdeal.nD → PrngReg), Pre_ResBRefIdeal m →
    θ_run (Cert.ResBRefIdeal.defs (F := Ideal)) (onTc (τ := Cert.ResBRefIdeal.τ) (Cert.ResBRefIdeal.main (F := Ideal))) ⟨m, fun _ => 0, g⟩ (fun r => (∀ c : Dev Cert.ResBRefIdeal.nD,
      r.2.mem ((c.tc : Thread Cert.ResBRefIdeal.nD Cert.ResBRefIdeal.τ).loc Cert.ResBRefIdeal.main_arg0) = m ((c.tc : Thread Cert.ResBRefIdeal.nD Cert.ResBRefIdeal.τ).loc Cert.ResBRefIdeal.main_arg0)
      ∧ r.2.mem ((c.tc : Thread Cert.ResBRefIdeal.nD Cert.ResBRefIdeal.τ).loc Cert.ResBRefIdeal.main_arg1) = m ((c.tc : Thread Cert.ResBRefIdeal.nD Cert.ResBRefIdeal.τ).loc Cert.ResBRefIdeal.main_arg1)
      ∧ r.2.mem ((c.tc : Thread Cert.ResBRefIdeal.nD Cert.ResBRefIdeal.τ).loc Cert.ResBRefIdeal.main_arg2) = m ((c.tc : Thread Cert.ResBRefIdeal.nD Cert.ResBRefIdeal.τ).loc Cert.ResBRefIdeal.main_arg2)
      ∧ r.2.mem ((c.tc : Thread Cert.ResBRefIdeal.nD Cert.ResBRefIdeal.τ).loc Cert.ResBRefIdeal.main_arg3) = m ((c.tc : Thread Cert.ResBRefIdeal.nD Cert.ResBRefIdeal.τ).loc Cert.ResBRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnDact_FfnDactIdeal : Prop :=
  True

def algebraic_FfnDactIdeal_FfnDactRefIdeal [hFfnDactIdeal : Cert.FfnDactIdeal.Facts] [hFfnDactRefIdeal : Cert.FfnDactRefIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)) →
    ∃ (v0 : (c : Dev Cert.FfnDactIdeal.nD) → Buf (Elt Ideal) ((c.tc : Thread Cert.FfnDactIdeal.nD Cert.FfnDactIdeal.τ).loc Cert.FfnDactIdeal.main_v2)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v2) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v5) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1))

def preserves_FfnDin_FfnDinIdeal : Prop :=
  True

def algebraic_FfnDinIdeal_FfnDinRefIdeal [hFfnDinIdeal : Cert.FfnDinIdeal.Facts] [hFfnDinRefIdeal : Cert.FfnDinRefIdeal.Facts] : Prop :=
  ∀ (m : (ℓ : Loc Cert.FfnDinIdeal.nD Cert.FfnDinIdeal.τ Cert.FfnDinIdeal.sig) → Buf (Elt Ideal) ℓ) (g : Dev Cert.FfnDinIdeal.nD → PrngReg)
    (m' : (ℓ : Loc Cert.FfnDinRefIdeal.nD Cert.FfnDinRefIdeal.τ Cert.FfnDinRefIdeal.sig) → Buf (Elt Ideal) ℓ) (g' : Dev Cert.FfnDinRefIdeal.nD → PrngReg), Pre_FfnDinIdeal m →
    (∀ c : Dev Cert.FfnDinIdeal.nD,
      m' ((c.tc : Thread Cert.FfnDinRefIdeal.nD Cert.FfnDinRefIdeal.τ).loc Cert.FfnDinRefIdeal.main_arg0) = m ((c.tc : Thread Cert.FfnDinIdeal.nD Cert.FfnDinIdeal.τ).loc Cert.FfnDinIdeal.main_arg0)
      ∧ m' ((c.tc : Thread Cert.FfnDinRefIdeal.nD Cert.FfnDinRefIdeal.τ).loc Cert.FfnDinRefIdeal.main_arg1) = m ((c.tc : Thread Cert.FfnDinIdeal.nD Cert.FfnDinIdeal.τ).loc Cert.FfnDinIdeal.main_arg1)
      ∧ m' ((c.tc : Thread Cert.FfnDinRefIdeal.nD Cert.FfnDinRefIdeal.τ).loc Cert.FfnDinRefIdeal.main_arg2) = m ((c.tc : Thread Cert.FfnDinIdeal.nD Cert.FfnDinIdeal.τ).loc Cert.FfnDinIdeal.main_arg2)
      ∧ m' ((c.tc : Thread Cert.FfnDinRefIdeal.nD Cert.FfnDinRefIdeal.τ).loc Cert.FfnDinRefIdeal.main_arg3) = m ((c.tc : Thread Cert.FfnDinIdeal.nD Cert.FfnDinIdeal.τ).loc Cert.FfnDinIdeal.main_arg3)) →
    ∃ (v0 : (c : Dev Cert.FfnDinIdeal.nD) → Buf (Elt Ideal) ((c.tc : Thread Cert.FfnDinIdeal.nD Cert.FfnDinIdeal.τ).loc Cert.FfnDinIdeal.main_v4)),
      θ_run (Cert.FfnDinIdeal.defs (F := Ideal)) (onTc (τ := Cert.FfnDinIdeal.τ) (Cert.FfnDinIdeal.main (F := Ideal))) ⟨m, fun _ => 0, g⟩ (fun r => ∀ c : Dev Cert.FfnDinIdeal.nD,
          r.2.mem ((c.tc : Thread Cert.FfnDinIdeal.nD Cert.FfnDinIdeal.τ).loc Cert.FfnDinIdeal.main_v4) = v0 c
          ∧ r.2.mem ((c.tc : Thread Cert.FfnDinIdeal.nD Cert.FfnDinIdeal.τ).loc Cert.FfnDinIdeal.main_arg0) = m ((c.tc : Thread Cert.FfnDinIdeal.nD Cert.FfnDinIdeal.τ).loc Cert.FfnDinIdeal.main_arg0)
          ∧ r.2.mem ((c.tc : Thread Cert.FfnDinIdeal.nD Cert.FfnDinIdeal.τ).loc Cert.FfnDinIdeal.main_arg1) = m ((c.tc : Thread Cert.FfnDinIdeal.nD Cert.FfnDinIdeal.τ).loc Cert.FfnDinIdeal.main_arg1)
          ∧ r.2.mem ((c.tc : Thread Cert.FfnDinIdeal.nD Cert.FfnDinIdeal.τ).loc Cert.FfnDinIdeal.main_arg2) = m ((c.tc : Thread Cert.FfnDinIdeal.nD Cert.FfnDinIdeal.τ).loc Cert.FfnDinIdeal.main_arg2)
          ∧ r.2.mem ((c.tc : Thread Cert.FfnDinIdeal.nD Cert.FfnDinIdeal.τ).loc Cert.FfnDinIdeal.main_arg3) = m ((c.tc : Thread Cert.FfnDinIdeal.nD Cert.FfnDinIdeal.τ).loc Cert.FfnDinIdeal.main_arg3))
      ∧ θ_run (Cert.FfnDinRefIdeal.defs (F := Ideal)) (onTc (τ := Cert.FfnDinRefIdeal.τ) (Cert.FfnDinRefIdeal.main (F := Ideal))) ⟨m', fun _ => 0, g'⟩ (fun r => ∀ c : Dev Cert.FfnDinRefIdeal.nD,
          r.2.mem ((c.tc : Thread Cert.FfnDinRefIdeal.nD Cert.FfnDinRefIdeal.τ).loc Cert.FfnDinRefIdeal.main_v10) = v0 c
          ∧ r.2.mem ((c.tc : Thread Cert.FfnDinRefIdeal.nD Cert.FfnDinRefIdeal.τ).loc Cert.FfnDinRefIdeal.main_arg0) = m' ((c.tc : Thread Cert.FfnDinRefIdeal.nD Cert.FfnDinRefIdeal.τ).loc Cert.FfnDinRefIdeal.main_arg0)
          ∧ r.2.mem ((c.tc : Thread Cert.FfnDinRefIdeal.nD Cert.FfnDinRefIdeal.τ).loc Cert.FfnDinRefIdeal.main_arg1) = m' ((c.tc : Thread Cert.FfnDinRefIdeal.nD Cert.FfnDinRefIdeal.τ).loc Cert.FfnDinRefIdeal.main_arg1)
          ∧ r.2.mem ((c.tc : Thread Cert.FfnDinRefIdeal.nD Cert.FfnDinRefIdeal.τ).loc Cert.FfnDinRefIdeal.main_arg2) = m' ((c.tc : Thread Cert.FfnDinRefIdeal.nD Cert.FfnDinRefIdeal.τ).loc Cert.FfnDinRefIdeal.main_arg2)
          ∧ r.2.mem ((c.tc : Thread Cert.FfnDinRefIdeal.nD Cert.FfnDinRefIdeal.τ).loc Cert.FfnDinRefIdeal.main_arg3) = m' ((c.tc : Thread Cert.FfnDinRefIdeal.nD Cert.FfnDinRefIdeal.τ).loc Cert.FfnDinRefIdeal.main_arg3))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v2)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v2) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v5) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v2)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v2) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v5) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v1)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v1) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v3) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvXbc_EvXbcIdeal : Prop :=
  True

def algebraic_EvXbcIdeal_EvXbcRefIdeal [hEvXbcIdeal : Cert.EvXbcIdeal.Facts] [hEvXbcRefIdeal : Cert.EvXbcRefIdeal.Facts] : Prop :=
  ∀ (m : (ℓ : Loc Cert.EvXbcIdeal.nD Cert.EvXbcIdeal.τ Cert.EvXbcIdeal.sig) → Buf (Elt Ideal) ℓ) (g : Dev Cert.EvXbcIdeal.nD → PrngReg)
    (m' : (ℓ : Loc Cert.EvXbcRefIdeal.nD Cert.EvXbcRefIdeal.τ Cert.EvXbcRefIdeal.sig) → Buf (Elt Ideal) ℓ) (g' : Dev Cert.EvXbcRefIdeal.nD → PrngReg), Pre_EvXbcIdeal m →
    (∀ c : Dev Cert.EvXbcIdeal.nD,
      m' ((c.tc : Thread Cert.EvXbcRefIdeal.nD Cert.EvXbcRefIdeal.τ).loc Cert.EvXbcRefIdeal.main_arg0) = m ((c.tc : Thread Cert.EvXbcIdeal.nD Cert.EvXbcIdeal.τ).loc Cert.EvXbcIdeal.main_arg0)
      ∧ m' ((c.tc : Thread Cert.EvXbcRefIdeal.nD Cert.EvXbcRefIdeal.τ).loc Cert.EvXbcRefIdeal.main_arg1) = m ((c.tc : Thread Cert.EvXbcIdeal.nD Cert.EvXbcIdeal.τ).loc Cert.EvXbcIdeal.main_arg1)) →
    ∃ (v0 : (c : Dev Cert.EvXbcIdeal.nD) → Buf (Elt Ideal) ((c.tc : Thread Cert.EvXbcIdeal.nD Cert.EvXbcIdeal.τ).loc Cert.EvXbcIdeal.main_v1)),
      θ_run (Cert.EvXbcIdeal.defs (F := Ideal)) (onTc (τ := Cert.EvXbcIdeal.τ) (Cert.EvXbcIdeal.main (F := Ideal))) ⟨m, fun _ => 0, g⟩ (fun r => ∀ c : Dev Cert.EvXbcIdeal.nD,
          r.2.mem ((c.tc : Thread Cert.EvXbcIdeal.nD Cert.EvXbcIdeal.τ).loc Cert.EvXbcIdeal.main_v1) = v0 c
          ∧ r.2.mem ((c.tc : Thread Cert.EvXbcIdeal.nD Cert.EvXbcIdeal.τ).loc Cert.EvXbcIdeal.main_arg0) = m ((c.tc : Thread Cert.EvXbcIdeal.nD Cert.EvXbcIdeal.τ).loc Cert.EvXbcIdeal.main_arg0)
          ∧ r.2.mem ((c.tc : Thread Cert.EvXbcIdeal.nD Cert.EvXbcIdeal.τ).loc Cert.EvXbcIdeal.main_arg1) = m ((c.tc : Thread Cert.EvXbcIdeal.nD Cert.EvXbcIdeal.τ).loc Cert.EvXbcIdeal.main_arg1))
      ∧ θ_run (Cert.EvXbcRefIdeal.defs (F := Ideal)) (onTc (τ := Cert.EvXbcRefIdeal.τ) (Cert.EvXbcRefIdeal.main (F := Ideal))) ⟨m', fun _ => 0, g'⟩ (fun r => ∀ c : Dev Cert.EvXbcRefIdeal.nD,
          r.2.mem ((c.tc : Thread Cert.EvXbcRefIdeal.nD Cert.EvXbcRefIdeal.τ).loc Cert.EvXbcRefIdeal.main_v3) = v0 c
          ∧ r.2.mem ((c.tc : Thread Cert.EvXbcRefIdeal.nD Cert.EvXbcRefIdeal.τ).loc Cert.EvXbcRefIdeal.main_arg0) = m' ((c.tc : Thread Cert.EvXbcRefIdeal.nD Cert.EvXbcRefIdeal.τ).loc Cert.EvXbcRefIdeal.main_arg0)
          ∧ r.2.mem ((c.tc : Thread Cert.EvXbcRefIdeal.nD Cert.EvXbcRefIdeal.τ).loc Cert.EvXbcRefIdeal.main_arg1) = m' ((c.tc : Thread Cert.EvXbcRefIdeal.nD Cert.EvXbcRefIdeal.τ).loc Cert.EvXbcRefIdeal.main_arg1))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v1)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v1) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v3) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_OdU_OdUIdeal : Prop :=
  True

def algebraic_OdUIdeal_OdURefIdeal [hOdUIdeal : Cert.OdUIdeal.Facts] [hOdURefIdeal : Cert.OdURefIdeal.Facts] : Prop :=
  ∀ (m : (ℓ : Loc Cert.OdUIdeal.nD Cert.OdUIdeal.τ Cert.OdUIdeal.sig) → Buf (Elt Ideal) ℓ) (g : Dev Cert.OdUIdeal.nD → PrngReg)
    (m' : (ℓ : Loc Cert.OdURefIdeal.nD Cert.OdURefIdeal.τ Cert.OdURefIdeal.sig) → Buf (Elt Ideal) ℓ) (g' : Dev Cert.OdURefIdeal.nD → PrngReg), Pre_OdUIdeal m →
    (∀ c : Dev Cert.OdUIdeal.nD,
      m' ((c.tc : Thread Cert.OdURefIdeal.nD Cert.OdURefIdeal.τ).loc Cert.OdURefIdeal.main_arg0) = m ((c.tc : Thread Cert.OdUIdeal.nD Cert.OdUIdeal.τ).loc Cert.OdUIdeal.main_arg0)
      ∧ m' ((c.tc : Thread Cert.OdURefIdeal.nD Cert.OdURefIdeal.τ).loc Cert.OdURefIdeal.main_arg1) = m ((c.tc : Thread Cert.OdUIdeal.nD Cert.OdUIdeal.τ).loc Cert.OdUIdeal.main_arg1)) →
    ∃ (v0 : (c : Dev Cert.OdUIdeal.nD) → Buf (Elt Ideal) ((c.tc : Thread Cert.OdUIdeal.nD Cert.OdUIdeal.τ).loc Cert.OdUIdeal.main_v1)),
      θ_run (Cert.OdUIdeal.defs (F := Ideal)) (onTc (τ := Cert.OdUIdeal.τ) (Cert.OdUIdeal.main (F := Ideal))) ⟨m, fun _ => 0, g⟩ (fun r => ∀ c : Dev Cert.OdUIdeal.nD,
          r.2.mem ((c.tc : Thread Cert.OdUIdeal.nD Cert.OdUIdeal.τ).loc Cert.OdUIdeal.main_v1) = v0 c
          ∧ r.2.mem ((c.tc : Thread Cert.OdUIdeal.nD Cert.OdUIdeal.τ).loc Cert.OdUIdeal.main_arg0) = m ((c.tc : Thread Cert.OdUIdeal.nD Cert.OdUIdeal.τ).loc Cert.OdUIdeal.main_arg0)
          ∧ r.2.mem ((c.tc : Thread Cert.OdUIdeal.nD Cert.OdUIdeal.τ).loc Cert.OdUIdeal.main_arg1) = m ((c.tc : Thread Cert.OdUIdeal.nD Cert.OdUIdeal.τ).loc Cert.OdUIdeal.main_arg1))
      ∧ θ_run (Cert.OdURefIdeal.defs (F := Ideal)) (onTc (τ := Cert.OdURefIdeal.τ) (Cert.OdURefIdeal.main (F := Ideal))) ⟨m', fun _ => 0, g'⟩ (fun r => ∀ c : Dev Cert.OdURefIdeal.nD,
          r.2.mem ((c.tc : Thread Cert.OdURefIdeal.nD Cert.OdURefIdeal.τ).loc Cert.OdURefIdeal.main_v3) = v0 c
          ∧ r.2.mem ((c.tc : Thread Cert.OdURefIdeal.nD Cert.OdURefIdeal.τ).loc Cert.OdURefIdeal.main_arg0) = m' ((c.tc : Thread Cert.OdURefIdeal.nD Cert.OdURefIdeal.τ).loc Cert.OdURefIdeal.main_arg0)
          ∧ r.2.mem ((c.tc : Thread Cert.OdURefIdeal.nD Cert.OdURefIdeal.τ).loc Cert.OdURefIdeal.main_arg1) = m' ((c.tc : Thread Cert.OdURefIdeal.nD Cert.OdURefIdeal.τ).loc Cert.OdURefIdeal.main_arg1))

def preserves_EvMix_EvMixIdeal : Prop :=
  True

def algebraic_EvMixIdeal_EvMixRefIdeal [hEvMixIdeal : Cert.EvMixIdeal.Facts] [hEvMixRefIdeal : Cert.EvMixRefIdeal.Facts] : Prop :=
  ∀ (m : (ℓ : Loc Cert.EvMixIdeal.nD Cert.EvMixIdeal.τ Cert.EvMixIdeal.sig) → Buf (Elt Ideal) ℓ) (g : Dev Cert.EvMixIdeal.nD → PrngReg)
    (m' : (ℓ : Loc Cert.EvMixRefIdeal.nD Cert.EvMixRefIdeal.τ Cert.EvMixRefIdeal.sig) → Buf (Elt Ideal) ℓ) (g' : Dev Cert.EvMixRefIdeal.nD → PrngReg), Pre_EvMixIdeal m →
    (∀ c : Dev Cert.EvMixIdeal.nD,
      m' ((c.tc : Thread Cert.EvMixRefIdeal.nD Cert.EvMixRefIdeal.τ).loc Cert.EvMixRefIdeal.main_arg0) = m ((c.tc : Thread Cert.EvMixIdeal.nD Cert.EvMixIdeal.τ).loc Cert.EvMixIdeal.main_arg0)
      ∧ m' ((c.tc : Thread Cert.EvMixRefIdeal.nD Cert.EvMixRefIdeal.τ).loc Cert.EvMixRefIdeal.main_arg1) = m ((c.tc : Thread Cert.EvMixIdeal.nD Cert.EvMixIdeal.τ).loc Cert.EvMixIdeal.main_arg1)
      ∧ m' ((c.tc : Thread Cert.EvMixRefIdeal.nD Cert.EvMixRefIdeal.τ).loc Cert.EvMixRefIdeal.main_arg2) = m ((c.tc : Thread Cert.EvMixIdeal.nD Cert.EvMixIdeal.τ).loc Cert.EvMixIdeal.main_arg2)) →
    ∃ (v0 : (c : Dev Cert.EvMixIdeal.nD) → Buf (Elt Ideal) ((c.tc : Thread Cert.EvMixIdeal.nD Cert.EvMixIdeal.τ).loc Cert.EvMixIdeal.main_v4)),
      θ_run (Cert.EvMixIdeal.defs (F := Ideal)) (onTc (τ := Cert.EvMixIdeal.τ) (Cert.EvMixIdeal.main (F := Ideal))) ⟨m, fun _ => 0, g⟩ (fun r => ∀ c : Dev Cert.EvMixIdeal.nD,
          r.2.mem ((c.tc : Thread Cert.EvMixIdeal.nD Cert.EvMixIdeal.τ).loc Cert.EvMixIdeal.main_v4) = v0 c
          ∧ r.2.mem ((c.tc : Thread Cert.EvMixIdeal.nD Cert.EvMixIdeal.τ).loc Cert.EvMixIdeal.main_arg0) = m ((c.tc : Thread Cert.EvMixIdeal.nD Cert.EvMixIdeal.τ).loc Cert.EvMixIdeal.main_arg0)
          ∧ r.2.mem ((c.tc : Thread Cert.EvMixIdeal.nD Cert.EvMixIdeal.τ).loc Cert.EvMixIdeal.main_arg1) = m ((c.tc : Thread Cert.EvMixIdeal.nD Cert.EvMixIdeal.τ).loc Cert.EvMixIdeal.main_arg1)
          ∧ r.2.mem ((c.tc : Thread Cert.EvMixIdeal.nD Cert.EvMixIdeal.τ).loc Cert.EvMixIdeal.main_arg2) = m ((c.tc : Thread Cert.EvMixIdeal.nD Cert.EvMixIdeal.τ).loc Cert.EvMixIdeal.main_arg2))
      ∧ θ_run (Cert.EvMixRefIdeal.defs (F := Ideal)) (onTc (τ := Cert.EvMixRefIdeal.τ) (Cert.EvMixRefIdeal.main (F := Ideal))) ⟨m', fun _ => 0, g'⟩ (fun r => ∀ c : Dev Cert.EvMixRefIdeal.nD,
          r.2.mem ((c.tc : Thread Cert.EvMixRefIdeal.nD Cert.EvMixRefIdeal.τ).loc Cert.EvMixRefIdeal.main_v4) = v0 c
          ∧ r.2.mem ((c.tc : Thread Cert.EvMixRefIdeal.nD Cert.EvMixRefIdeal.τ).loc Cert.EvMixRefIdeal.main_arg0) = m' ((c.tc : Thread Cert.EvMixRefIdeal.nD Cert.EvMixRefIdeal.τ).loc Cert.EvMixRefIdeal.main_arg0)
          ∧ r.2.mem ((c.tc : Thread Cert.EvMixRefIdeal.nD Cert.EvMixRefIdeal.τ).loc Cert.EvMixRefIdeal.main_arg1) = m' ((c.tc : Thread Cert.EvMixRefIdeal.nD Cert.EvMixRefIdeal.τ).loc Cert.EvMixRefIdeal.main_arg1)
          ∧ r.2.mem ((c.tc : Thread Cert.EvMixRefIdeal.nD Cert.EvMixRefIdeal.τ).loc Cert.EvMixRefIdeal.main_arg2) = m' ((c.tc : Thread Cert.EvMixRefIdeal.nD Cert.EvMixRefIdeal.τ).loc Cert.EvMixRefIdeal.main_arg2))

def preserves_OdMix_OdMixIdeal : Prop :=
  True

def algebraic_OdMixIdeal_OdMixRefIdeal [hOdMixIdeal : Cert.OdMixIdeal.Facts] [hOdMixRefIdeal : Cert.OdMixRefIdeal.Facts] : Prop :=
  ∀ (m : (ℓ : Loc Cert.OdMixIdeal.nD Cert.OdMixIdeal.τ Cert.OdMixIdeal.sig) → Buf (Elt Ideal) ℓ) (g : Dev Cert.OdMixIdeal.nD → PrngReg)
    (m' : (ℓ : Loc Cert.OdMixRefIdeal.nD Cert.OdMixRefIdeal.τ Cert.OdMixRefIdeal.sig) → Buf (Elt Ideal) ℓ) (g' : Dev Cert.OdMixRefIdeal.nD → PrngReg), Pre_OdMixIdeal m →
    (∀ c : Dev Cert.OdMixIdeal.nD,
      m' ((c.tc : Thread Cert.OdMixRefIdeal.nD Cert.OdMixRefIdeal.τ).loc Cert.OdMixRefIdeal.main_arg0) = m ((c.tc : Thread Cert.OdMixIdeal.nD Cert.OdMixIdeal.τ).loc Cert.OdMixIdeal.main_arg0)
      ∧ m' ((c.tc : Thread Cert.OdMixRefIdeal.nD Cert.OdMixRefIdeal.τ).loc Cert.OdMixRefIdeal.main_arg1) = m ((c.tc : Thread Cert.OdMixIdeal.nD Cert.OdMixIdeal.τ).loc Cert.OdMixIdeal.main_arg1)
      ∧ m' ((c.tc : Thread Cert.OdMixRefIdeal.nD Cert.OdMixRefIdeal.τ).loc Cert.OdMixRefIdeal.main_arg2) = m ((c.tc : Thread Cert.OdMixIdeal.nD Cert.OdMixIdeal.τ).loc Cert.OdMixIdeal.main_arg2)) →
    ∃ (v0 : (c : Dev Cert.OdMixIdeal.nD) → Buf (Elt Ideal) ((c.tc : Thread Cert.OdMixIdeal.nD Cert.OdMixIdeal.τ).loc Cert.OdMixIdeal.main_v4)),
      θ_run (Cert.OdMixIdeal.defs (F := Ideal)) (onTc (τ := Cert.OdMixIdeal.τ) (Cert.OdMixIdeal.main (F := Ideal))) ⟨m, fun _ => 0, g⟩ (fun r => ∀ c : Dev Cert.OdMixIdeal.nD,
          r.2.mem ((c.tc : Thread Cert.OdMixIdeal.nD Cert.OdMixIdeal.τ).loc Cert.OdMixIdeal.main_v4) = v0 c
          ∧ r.2.mem ((c.tc : Thread Cert.OdMixIdeal.nD Cert.OdMixIdeal.τ).loc Cert.OdMixIdeal.main_arg0) = m ((c.tc : Thread Cert.OdMixIdeal.nD Cert.OdMixIdeal.τ).loc Cert.OdMixIdeal.main_arg0)
          ∧ r.2.mem ((c.tc : Thread Cert.OdMixIdeal.nD Cert.OdMixIdeal.τ).loc Cert.OdMixIdeal.main_arg1) = m ((c.tc : Thread Cert.OdMixIdeal.nD Cert.OdMixIdeal.τ).loc Cert.OdMixIdeal.main_arg1)
          ∧ r.2.mem ((c.tc : Thread Cert.OdMixIdeal.nD Cert.OdMixIdeal.τ).loc Cert.OdMixIdeal.main_arg2) = m ((c.tc : Thread Cert.OdMixIdeal.nD Cert.OdMixIdeal.τ).loc Cert.OdMixIdeal.main_arg2))
      ∧ θ_run (Cert.OdMixRefIdeal.defs (F := Ideal)) (onTc (τ := Cert.OdMixRefIdeal.τ) (Cert.OdMixRefIdeal.main (F := Ideal))) ⟨m', fun _ => 0, g'⟩ (fun r => ∀ c : Dev Cert.OdMixRefIdeal.nD,
          r.2.mem ((c.tc : Thread Cert.OdMixRefIdeal.nD Cert.OdMixRefIdeal.τ).loc Cert.OdMixRefIdeal.main_v4) = v0 c
          ∧ r.2.mem ((c.tc : Thread Cert.OdMixRefIdeal.nD Cert.OdMixRefIdeal.τ).loc Cert.OdMixRefIdeal.main_arg0) = m' ((c.tc : Thread Cert.OdMixRefIdeal.nD Cert.OdMixRefIdeal.τ).loc Cert.OdMixRefIdeal.main_arg0)
          ∧ r.2.mem ((c.tc : Thread Cert.OdMixRefIdeal.nD Cert.OdMixRefIdeal.τ).loc Cert.OdMixRefIdeal.main_arg1) = m' ((c.tc : Thread Cert.OdMixRefIdeal.nD Cert.OdMixRefIdeal.τ).loc Cert.OdMixRefIdeal.main_arg1)
          ∧ r.2.mem ((c.tc : Thread Cert.OdMixRefIdeal.nD Cert.OdMixRefIdeal.τ).loc Cert.OdMixRefIdeal.main_arg2) = m' ((c.tc : Thread Cert.OdMixRefIdeal.nD Cert.OdMixRefIdeal.τ).loc Cert.OdMixRefIdeal.main_arg2))

def preserves_EvDout_EvDoutIdeal : Prop :=
  True

def algebraic_EvDoutIdeal_EvDoutRefIdeal [hEvDoutIdeal : Cert.EvDoutIdeal.Facts] [hEvDoutRefIdeal : Cert.EvDoutRefIdeal.Facts] : Prop :=
  ∀ (m : (ℓ : Loc Cert.EvDoutIdeal.nD Cert.EvDoutIdeal.τ Cert.EvDoutIdeal.sig) → Buf (Elt Ideal) ℓ) (g : Dev Cert.EvDoutIdeal.nD → PrngReg)
    (m' : (ℓ : Loc Cert.EvDoutRefIdeal.nD Cert.EvDoutRefIdeal.τ Cert.EvDoutRefIdeal.sig) → Buf (Elt Ideal) ℓ) (g' : Dev Cert.EvDoutRefIdeal.nD → PrngReg), Pre_EvDoutIdeal m →
    (∀ c : Dev Cert.EvDoutIdeal.nD,
      m' ((c.tc : Thread Cert.EvDoutRefIdeal.nD Cert.EvDoutRefIdeal.τ).loc Cert.EvDoutRefIdeal.main_arg0) = m ((c.tc : Thread Cert.EvDoutIdeal.nD Cert.EvDoutIdeal.τ).loc Cert.EvDoutIdeal.main_arg0)
      ∧ m' ((c.tc : Thread Cert.EvDoutRefIdeal.nD Cert.EvDoutRefIdeal.τ).loc Cert.EvDoutRefIdeal.main_arg1) = m ((c.tc : Thread Cert.EvDoutIdeal.nD Cert.EvDoutIdeal.τ).loc Cert.EvDoutIdeal.main_arg1)) →
    ∃ (v0 : (c : Dev Cert.EvDoutIdeal.nD) → Buf (Elt Ideal) ((c.tc : Thread Cert.EvDoutIdeal.nD Cert.EvDoutIdeal.τ).loc Cert.EvDoutIdeal.main_v2)),
      θ_run (Cert.EvDoutIdeal.defs (F := Ideal)) (onTc (τ := Cert.EvDoutIdeal.τ) (Cert.EvDoutIdeal.main (F := Ideal))) ⟨m, fun _ => 0, g⟩ (fun r => ∀ c : Dev Cert.EvDoutIdeal.nD,
          r.2.mem ((c.tc : Thread Cert.EvDoutIdeal.nD Cert.EvDoutIdeal.τ).loc Cert.EvDoutIdeal.main_v2) = v0 c
          ∧ r.2.mem ((c.tc : Thread Cert.EvDoutIdeal.nD Cert.EvDoutIdeal.τ).loc Cert.EvDoutIdeal.main_arg0) = m ((c.tc : Thread Cert.EvDoutIdeal.nD Cert.EvDoutIdeal.τ).loc Cert.EvDoutIdeal.main_arg0)
          ∧ r.2.mem ((c.tc : Thread Cert.EvDoutIdeal.nD Cert.EvDoutIdeal.τ).loc Cert.EvDoutIdeal.main_arg1) = m ((c.tc : Thread Cert.EvDoutIdeal.nD Cert.EvDoutIdeal.τ).loc Cert.EvDoutIdeal.main_arg1))
      ∧ θ_run (Cert.EvDoutRefIdeal.defs (F := Ideal)) (onTc (τ := Cert.EvDoutRefIdeal.τ) (Cert.EvDoutRefIdeal.main (F := Ideal))) ⟨m', fun _ => 0, g'⟩ (fun r => ∀ c : Dev Cert.EvDoutRefIdeal.nD,
          r.2.mem ((c.tc : Thread Cert.EvDoutRefIdeal.nD Cert.EvDoutRefIdeal.τ).loc Cert.EvDoutRefIdeal.main_v5) = v0 c
          ∧ r.2.mem ((c.tc : Thread Cert.EvDoutRefIdeal.nD Cert.EvDoutRefIdeal.τ).loc Cert.EvDoutRefIdeal.main_arg0) = m' ((c.tc : Thread Cert.EvDoutRefIdeal.nD Cert.EvDoutRefIdeal.τ).loc Cert.EvDoutRefIdeal.main_arg0)
          ∧ r.2.mem ((c.tc : Thread Cert.EvDoutRefIdeal.nD Cert.EvDoutRefIdeal.τ).loc Cert.EvDoutRefIdeal.main_arg1) = m' ((c.tc : Thread Cert.EvDoutRefIdeal.nD Cert.EvDoutRefIdeal.τ).loc Cert.EvDoutRefIdeal.main_arg1))

def preserves_OdDout_OdDoutIdeal : Prop :=
  True

def algebraic_OdDoutIdeal_OdDoutRefIdeal [hOdDoutIdeal : Cert.OdDoutIdeal.Facts] [hOdDoutRefIdeal : Cert.OdDoutRefIdeal.Facts] : Prop :=
  ∀ (m : (ℓ : Loc Cert.OdDoutIdeal.nD Cert.OdDoutIdeal.τ Cert.OdDoutIdeal.sig) → Buf (Elt Ideal) ℓ) (g : Dev Cert.OdDoutIdeal.nD → PrngReg)
    (m' : (ℓ : Loc Cert.OdDoutRefIdeal.nD Cert.OdDoutRefIdeal.τ Cert.OdDoutRefIdeal.sig) → Buf (Elt Ideal) ℓ) (g' : Dev Cert.OdDoutRefIdeal.nD → PrngReg), Pre_OdDoutIdeal m →
    (∀ c : Dev Cert.OdDoutIdeal.nD,
      m' ((c.tc : Thread Cert.OdDoutRefIdeal.nD Cert.OdDoutRefIdeal.τ).loc Cert.OdDoutRefIdeal.main_arg0) = m ((c.tc : Thread Cert.OdDoutIdeal.nD Cert.OdDoutIdeal.τ).loc Cert.OdDoutIdeal.main_arg0)
      ∧ m' ((c.tc : Thread Cert.OdDoutRefIdeal.nD Cert.OdDoutRefIdeal.τ).loc Cert.OdDoutRefIdeal.main_arg1) = m ((c.tc : Thread Cert.OdDoutIdeal.nD Cert.OdDoutIdeal.τ).loc Cert.OdDoutIdeal.main_arg1)) →
    ∃ (v0 : (c : Dev Cert.OdDoutIdeal.nD) → Buf (Elt Ideal) ((c.tc : Thread Cert.OdDoutIdeal.nD Cert.OdDoutIdeal.τ).loc Cert.OdDoutIdeal.main_v2)),
      θ_run (Cert.OdDoutIdeal.defs (F := Ideal)) (onTc (τ := Cert.OdDoutIdeal.τ) (Cert.OdDoutIdeal.main (F := Ideal))) ⟨m, fun _ => 0, g⟩ (fun r => ∀ c : Dev Cert.OdDoutIdeal.nD,
          r.2.mem ((c.tc : Thread Cert.OdDoutIdeal.nD Cert.OdDoutIdeal.τ).loc Cert.OdDoutIdeal.main_v2) = v0 c
          ∧ r.2.mem ((c.tc : Thread Cert.OdDoutIdeal.nD Cert.OdDoutIdeal.τ).loc Cert.OdDoutIdeal.main_arg0) = m ((c.tc : Thread Cert.OdDoutIdeal.nD Cert.OdDoutIdeal.τ).loc Cert.OdDoutIdeal.main_arg0)
          ∧ r.2.mem ((c.tc : Thread Cert.OdDoutIdeal.nD Cert.OdDoutIdeal.τ).loc Cert.OdDoutIdeal.main_arg1) = m ((c.tc : Thread Cert.OdDoutIdeal.nD Cert.OdDoutIdeal.τ).loc Cert.OdDoutIdeal.main_arg1))
      ∧ θ_run (Cert.OdDoutRefIdeal.defs (F := Ideal)) (onTc (τ := Cert.OdDoutRefIdeal.τ) (Cert.OdDoutRefIdeal.main (F := Ideal))) ⟨m', fun _ => 0, g'⟩ (fun r => ∀ c : Dev Cert.OdDoutRefIdeal.nD,
          r.2.mem ((c.tc : Thread Cert.OdDoutRefIdeal.nD Cert.OdDoutRefIdeal.τ).loc Cert.OdDoutRefIdeal.main_v5) = v0 c
          ∧ r.2.mem ((c.tc : Thread Cert.OdDoutRefIdeal.nD Cert.OdDoutRefIdeal.τ).loc Cert.OdDoutRefIdeal.main_arg0) = m' ((c.tc : Thread Cert.OdDoutRefIdeal.nD Cert.OdDoutRefIdeal.τ).loc Cert.OdDoutRefIdeal.main_arg0)
          ∧ r.2.mem ((c.tc : Thread Cert.OdDoutRefIdeal.nD Cert.OdDoutRefIdeal.τ).loc Cert.OdDoutRefIdeal.main_arg1) = m' ((c.tc : Thread Cert.OdDoutRefIdeal.nD Cert.OdDoutRefIdeal.τ).loc Cert.OdDoutRefIdeal.main_arg1))

def preserves_OdDoutU_OdDoutUIdeal : Prop :=
  True

def algebraic_OdDoutUIdeal_OdDoutURefIdeal [hOdDoutUIdeal : Cert.OdDoutUIdeal.Facts] [hOdDoutURefIdeal : Cert.OdDoutURefIdeal.Facts] : Prop :=
  ∀ (m : (ℓ : Loc Cert.OdDoutUIdeal.nD Cert.OdDoutUIdeal.τ Cert.OdDoutUIdeal.sig) → Buf (Elt Ideal) ℓ) (g : Dev Cert.OdDoutUIdeal.nD → PrngReg)
    (m' : (ℓ : Loc Cert.OdDoutURefIdeal.nD Cert.OdDoutURefIdeal.τ Cert.OdDoutURefIdeal.sig) → Buf (Elt Ideal) ℓ) (g' : Dev Cert.OdDoutURefIdeal.nD → PrngReg), Pre_OdDoutUIdeal m →
    (∀ c : Dev Cert.OdDoutUIdeal.nD,
      m' ((c.tc : Thread Cert.OdDoutURefIdeal.nD Cert.OdDoutURefIdeal.τ).loc Cert.OdDoutURefIdeal.main_arg0) = m ((c.tc : Thread Cert.OdDoutUIdeal.nD Cert.OdDoutUIdeal.τ).loc Cert.OdDoutUIdeal.main_arg0)
      ∧ m' ((c.tc : Thread Cert.OdDoutURefIdeal.nD Cert.OdDoutURefIdeal.τ).loc Cert.OdDoutURefIdeal.main_arg1) = m ((c.tc : Thread Cert.OdDoutUIdeal.nD Cert.OdDoutUIdeal.τ).loc Cert.OdDoutUIdeal.main_arg1)) →
    ∃ (v0 : (c : Dev Cert.OdDoutUIdeal.nD) → Buf (Elt Ideal) ((c.tc : Thread Cert.OdDoutUIdeal.nD Cert.OdDoutUIdeal.τ).loc Cert.OdDoutUIdeal.main_v2)),
      θ_run (Cert.OdDoutUIdeal.defs (F := Ideal)) (onTc (τ := Cert.OdDoutUIdeal.τ) (Cert.OdDoutUIdeal.main (F := Ideal))) ⟨m, fun _ => 0, g⟩ (fun r => ∀ c : Dev Cert.OdDoutUIdeal.nD,
          r.2.mem ((c.tc : Thread Cert.OdDoutUIdeal.nD Cert.OdDoutUIdeal.τ).loc Cert.OdDoutUIdeal.main_v2) = v0 c
          ∧ r.2.mem ((c.tc : Thread Cert.OdDoutUIdeal.nD Cert.OdDoutUIdeal.τ).loc Cert.OdDoutUIdeal.main_arg0) = m ((c.tc : Thread Cert.OdDoutUIdeal.nD Cert.OdDoutUIdeal.τ).loc Cert.OdDoutUIdeal.main_arg0)
          ∧ r.2.mem ((c.tc : Thread Cert.OdDoutUIdeal.nD Cert.OdDoutUIdeal.τ).loc Cert.OdDoutUIdeal.main_arg1) = m ((c.tc : Thread Cert.OdDoutUIdeal.nD Cert.OdDoutUIdeal.τ).loc Cert.OdDoutUIdeal.main_arg1))
      ∧ θ_run (Cert.OdDoutURefIdeal.defs (F := Ideal)) (onTc (τ := Cert.OdDoutURefIdeal.τ) (Cert.OdDoutURefIdeal.main (F := Ideal))) ⟨m', fun _ => 0, g'⟩ (fun r => ∀ c : Dev Cert.OdDoutURefIdeal.nD,
          r.2.mem ((c.tc : Thread Cert.OdDoutURefIdeal.nD Cert.OdDoutURefIdeal.τ).loc Cert.OdDoutURefIdeal.main_v5) = v0 c
          ∧ r.2.mem ((c.tc : Thread Cert.OdDoutURefIdeal.nD Cert.OdDoutURefIdeal.τ).loc Cert.OdDoutURefIdeal.main_arg0) = m' ((c.tc : Thread Cert.OdDoutURefIdeal.nD Cert.OdDoutURefIdeal.τ).loc Cert.OdDoutURefIdeal.main_arg0)
          ∧ r.2.mem ((c.tc : Thread Cert.OdDoutURefIdeal.nD Cert.OdDoutURefIdeal.τ).loc Cert.OdDoutURefIdeal.main_arg1) = m' ((c.tc : Thread Cert.OdDoutURefIdeal.nD Cert.OdDoutURefIdeal.τ).loc Cert.OdDoutURefIdeal.main_arg1))

def preserves_EvDw_EvDwIdeal : Prop :=
  True

def algebraic_EvDwIdeal_EvDwRefIdeal [hEvDwIdeal : Cert.EvDwIdeal.Facts] [hEvDwRefIdeal : Cert.EvDwRefIdeal.Facts] : Prop :=
  ∀ (m : (ℓ : Loc Cert.EvDwIdeal.nD Cert.EvDwIdeal.τ Cert.EvDwIdeal.sig) → Buf (Elt Ideal) ℓ) (g : Dev Cert.EvDwIdeal.nD → PrngReg)
    (m' : (ℓ : Loc Cert.EvDwRefIdeal.nD Cert.EvDwRefIdeal.τ Cert.EvDwRefIdeal.sig) → Buf (Elt Ideal) ℓ) (g' : Dev Cert.EvDwRefIdeal.nD → PrngReg), Pre_EvDwIdeal m →
    (∀ c : Dev Cert.EvDwIdeal.nD,
      m' ((c.tc : Thread Cert.EvDwRefIdeal.nD Cert.EvDwRefIdeal.τ).loc Cert.EvDwRefIdeal.main_arg0) = m ((c.tc : Thread Cert.EvDwIdeal.nD Cert.EvDwIdeal.τ).loc Cert.EvDwIdeal.main_arg0)
      ∧ m' ((c.tc : Thread Cert.EvDwRefIdeal.nD Cert.EvDwRefIdeal.τ).loc Cert.EvDwRefIdeal.main_arg1) = m ((c.tc : Thread Cert.EvDwIdeal.nD Cert.EvDwIdeal.τ).loc Cert.EvDwIdeal.main_arg1)) →
    ∃ (v0 : (c : Dev Cert.EvDwIdeal.nD) → Buf (Elt Ideal) ((c.tc : Thread Cert.EvDwIdeal.nD Cert.EvDwIdeal.τ).loc Cert.EvDwIdeal.main_v2)),
      θ_run (Cert.EvDwIdeal.defs (F := Ideal)) (onTc (τ := Cert.EvDwIdeal.τ) (Cert.EvDwIdeal.main (F := Ideal))) ⟨m, fun _ => 0, g⟩ (fun r => ∀ c : Dev Cert.EvDwIdeal.nD,
          r.2.mem ((c.tc : Thread Cert.EvDwIdeal.nD Cert.EvDwIdeal.τ).loc Cert.EvDwIdeal.main_v2) = v0 c
          ∧ r.2.mem ((c.tc : Thread Cert.EvDwIdeal.nD Cert.EvDwIdeal.τ).loc Cert.EvDwIdeal.main_arg0) = m ((c.tc : Thread Cert.EvDwIdeal.nD Cert.EvDwIdeal.τ).loc Cert.EvDwIdeal.main_arg0)
          ∧ r.2.mem ((c.tc : Thread Cert.EvDwIdeal.nD Cert.EvDwIdeal.τ).loc Cert.EvDwIdeal.main_arg1) = m ((c.tc : Thread Cert.EvDwIdeal.nD Cert.EvDwIdeal.τ).loc Cert.EvDwIdeal.main_arg1))
      ∧ θ_run (Cert.EvDwRefIdeal.defs (F := Ideal)) (onTc (τ := Cert.EvDwRefIdeal.τ) (Cert.EvDwRefIdeal.main (F := Ideal))) ⟨m', fun _ => 0, g'⟩ (fun r => ∀ c : Dev Cert.EvDwRefIdeal.nD,
          r.2.mem ((c.tc : Thread Cert.EvDwRefIdeal.nD Cert.EvDwRefIdeal.τ).loc Cert.EvDwRefIdeal.main_v5) = v0 c
          ∧ r.2.mem ((c.tc : Thread Cert.EvDwRefIdeal.nD Cert.EvDwRefIdeal.τ).loc Cert.EvDwRefIdeal.main_arg0) = m' ((c.tc : Thread Cert.EvDwRefIdeal.nD Cert.EvDwRefIdeal.τ).loc Cert.EvDwRefIdeal.main_arg0)
          ∧ r.2.mem ((c.tc : Thread Cert.EvDwRefIdeal.nD Cert.EvDwRefIdeal.τ).loc Cert.EvDwRefIdeal.main_arg1) = m' ((c.tc : Thread Cert.EvDwRefIdeal.nD Cert.EvDwRefIdeal.τ).loc Cert.EvDwRefIdeal.main_arg1))

def preserves_EvDwXbc_EvDwXbcIdeal : Prop :=
  True

def algebraic_EvDwXbcIdeal_EvDwXbcRefIdeal [hEvDwXbcIdeal : Cert.EvDwXbcIdeal.Facts] [hEvDwXbcRefIdeal : Cert.EvDwXbcRefIdeal.Facts] : Prop :=
  ∀ (m : (ℓ : Loc Cert.EvDwXbcIdeal.nD Cert.EvDwXbcIdeal.τ Cert.EvDwXbcIdeal.sig) → Buf (Elt Ideal) ℓ) (g : Dev Cert.EvDwXbcIdeal.nD → PrngReg)
    (m' : (ℓ : Loc Cert.EvDwXbcRefIdeal.nD Cert.EvDwXbcRefIdeal.τ Cert.EvDwXbcRefIdeal.sig) → Buf (Elt Ideal) ℓ) (g' : Dev Cert.EvDwXbcRefIdeal.nD → PrngReg), Pre_EvDwXbcIdeal m →
    (∀ c : Dev Cert.EvDwXbcIdeal.nD,
      m' ((c.tc : Thread Cert.EvDwXbcRefIdeal.nD Cert.EvDwXbcRefIdeal.τ).loc Cert.EvDwXbcRefIdeal.main_arg0) = m ((c.tc : Thread Cert.EvDwXbcIdeal.nD Cert.EvDwXbcIdeal.τ).loc Cert.EvDwXbcIdeal.main_arg0)
      ∧ m' ((c.tc : Thread Cert.EvDwXbcRefIdeal.nD Cert.EvDwXbcRefIdeal.τ).loc Cert.EvDwXbcRefIdeal.main_arg1) = m ((c.tc : Thread Cert.EvDwXbcIdeal.nD Cert.EvDwXbcIdeal.τ).loc Cert.EvDwXbcIdeal.main_arg1)) →
    ∃ (v0 : (c : Dev Cert.EvDwXbcIdeal.nD) → Buf (Elt Ideal) ((c.tc : Thread Cert.EvDwXbcIdeal.nD Cert.EvDwXbcIdeal.τ).loc Cert.EvDwXbcIdeal.main_v2)),
      θ_run (Cert.EvDwXbcIdeal.defs (F := Ideal)) (onTc (τ := Cert.EvDwXbcIdeal.τ) (Cert.EvDwXbcIdeal.main (F := Ideal))) ⟨m, fun _ => 0, g⟩ (fun r => ∀ c : Dev Cert.EvDwXbcIdeal.nD,
          r.2.mem ((c.tc : Thread Cert.EvDwXbcIdeal.nD Cert.EvDwXbcIdeal.τ).loc Cert.EvDwXbcIdeal.main_v2) = v0 c
          ∧ r.2.mem ((c.tc : Thread Cert.EvDwXbcIdeal.nD Cert.EvDwXbcIdeal.τ).loc Cert.EvDwXbcIdeal.main_arg0) = m ((c.tc : Thread Cert.EvDwXbcIdeal.nD Cert.EvDwXbcIdeal.τ).loc Cert.EvDwXbcIdeal.main_arg0)
          ∧ r.2.mem ((c.tc : Thread Cert.EvDwXbcIdeal.nD Cert.EvDwXbcIdeal.τ).loc Cert.EvDwXbcIdeal.main_arg1) = m ((c.tc : Thread Cert.EvDwXbcIdeal.nD Cert.EvDwXbcIdeal.τ).loc Cert.EvDwXbcIdeal.main_arg1))
      ∧ θ_run (Cert.EvDwXbcRefIdeal.defs (F := Ideal)) (onTc (τ := Cert.EvDwXbcRefIdeal.τ) (Cert.EvDwXbcRefIdeal.main (F := Ideal))) ⟨m', fun _ => 0, g'⟩ (fun r => ∀ c : Dev Cert.EvDwXbcRefIdeal.nD,
          r.2.mem ((c.tc : Thread Cert.EvDwXbcRefIdeal.nD Cert.EvDwXbcRefIdeal.τ).loc Cert.EvDwXbcRefIdeal.main_v5) = v0 c
          ∧ r.2.mem ((c.tc : Thread Cert.EvDwXbcRefIdeal.nD Cert.EvDwXbcRefIdeal.τ).loc Cert.EvDwXbcRefIdeal.main_arg0) = m' ((c.tc : Thread Cert.EvDwXbcRefIdeal.nD Cert.EvDwXbcRefIdeal.τ).loc Cert.EvDwXbcRefIdeal.main_arg0)
          ∧ r.2.mem ((c.tc : Thread Cert.EvDwXbcRefIdeal.nD Cert.EvDwXbcRefIdeal.τ).loc Cert.EvDwXbcRefIdeal.main_arg1) = m' ((c.tc : Thread Cert.EvDwXbcRefIdeal.nD Cert.EvDwXbcRefIdeal.τ).loc Cert.EvDwXbcRefIdeal.main_arg1))

def preserves_OdDw_OdDwIdeal : Prop :=
  True

def algebraic_OdDwIdeal_OdDwRefIdeal [hOdDwIdeal : Cert.OdDwIdeal.Facts] [hOdDwRefIdeal : Cert.OdDwRefIdeal.Facts] : Prop :=
  ∀ (m : (ℓ : Loc Cert.OdDwIdeal.nD Cert.OdDwIdeal.τ Cert.OdDwIdeal.sig) → Buf (Elt Ideal) ℓ) (g : Dev Cert.OdDwIdeal.nD → PrngReg)
    (m' : (ℓ : Loc Cert.OdDwRefIdeal.nD Cert.OdDwRefIdeal.τ Cert.OdDwRefIdeal.sig) → Buf (Elt Ideal) ℓ) (g' : Dev Cert.OdDwRefIdeal.nD → PrngReg), Pre_OdDwIdeal m →
    (∀ c : Dev Cert.OdDwIdeal.nD,
      m' ((c.tc : Thread Cert.OdDwRefIdeal.nD Cert.OdDwRefIdeal.τ).loc Cert.OdDwRefIdeal.main_arg0) = m ((c.tc : Thread Cert.OdDwIdeal.nD Cert.OdDwIdeal.τ).loc Cert.OdDwIdeal.main_arg0)
      ∧ m' ((c.tc : Thread Cert.OdDwRefIdeal.nD Cert.OdDwRefIdeal.τ).loc Cert.OdDwRefIdeal.main_arg1) = m ((c.tc : Thread Cert.OdDwIdeal.nD Cert.OdDwIdeal.τ).loc Cert.OdDwIdeal.main_arg1)) →
    ∃ (v0 : (c : Dev Cert.OdDwIdeal.nD) → Buf (Elt Ideal) ((c.tc : Thread Cert.OdDwIdeal.nD Cert.OdDwIdeal.τ).loc Cert.OdDwIdeal.main_v2)),
      θ_run (Cert.OdDwIdeal.defs (F := Ideal)) (onTc (τ := Cert.OdDwIdeal.τ) (Cert.OdDwIdeal.main (F := Ideal))) ⟨m, fun _ => 0, g⟩ (fun r => ∀ c : Dev Cert.OdDwIdeal.nD,
          r.2.mem ((c.tc : Thread Cert.OdDwIdeal.nD Cert.OdDwIdeal.τ).loc Cert.OdDwIdeal.main_v2) = v0 c
          ∧ r.2.mem ((c.tc : Thread Cert.OdDwIdeal.nD Cert.OdDwIdeal.τ).loc Cert.OdDwIdeal.main_arg0) = m ((c.tc : Thread Cert.OdDwIdeal.nD Cert.OdDwIdeal.τ).loc Cert.OdDwIdeal.main_arg0)
          ∧ r.2.mem ((c.tc : Thread Cert.OdDwIdeal.nD Cert.OdDwIdeal.τ).loc Cert.OdDwIdeal.main_arg1) = m ((c.tc : Thread Cert.OdDwIdeal.nD Cert.OdDwIdeal.τ).loc Cert.OdDwIdeal.main_arg1))
      ∧ θ_run (Cert.OdDwRefIdeal.defs (F := Ideal)) (onTc (τ := Cert.OdDwRefIdeal.τ) (Cert.OdDwRefIdeal.main (F := Ideal))) ⟨m', fun _ => 0, g'⟩ (fun r => ∀ c : Dev Cert.OdDwRefIdeal.nD,
          r.2.mem ((c.tc : Thread Cert.OdDwRefIdeal.nD Cert.OdDwRefIdeal.τ).loc Cert.OdDwRefIdeal.main_v5) = v0 c
          ∧ r.2.mem ((c.tc : Thread Cert.OdDwRefIdeal.nD Cert.OdDwRefIdeal.τ).loc Cert.OdDwRefIdeal.main_arg0) = m' ((c.tc : Thread Cert.OdDwRefIdeal.nD Cert.OdDwRefIdeal.τ).loc Cert.OdDwRefIdeal.main_arg0)
          ∧ r.2.mem ((c.tc : Thread Cert.OdDwRefIdeal.nD Cert.OdDwRefIdeal.τ).loc Cert.OdDwRefIdeal.main_arg1) = m' ((c.tc : Thread Cert.OdDwRefIdeal.nD Cert.OdDwRefIdeal.τ).loc Cert.OdDwRefIdeal.main_arg1))

def preserves_OdDwV_OdDwVIdeal : Prop :=
  True

def algebraic_OdDwVIdeal_OdDwVRefIdeal [hOdDwVIdeal : Cert.OdDwVIdeal.Facts] [hOdDwVRefIdeal : Cert.OdDwVRefIdeal.Facts] : Prop :=
  ∀ (m : (ℓ : Loc Cert.OdDwVIdeal.nD Cert.OdDwVIdeal.τ Cert.OdDwVIdeal.sig) → Buf (Elt Ideal) ℓ) (g : Dev Cert.OdDwVIdeal.nD → PrngReg)
    (m' : (ℓ : Loc Cert.OdDwVRefIdeal.nD Cert.OdDwVRefIdeal.τ Cert.OdDwVRefIdeal.sig) → Buf (Elt Ideal) ℓ) (g' : Dev Cert.OdDwVRefIdeal.nD → PrngReg), Pre_OdDwVIdeal m →
    (∀ c : Dev Cert.OdDwVIdeal.nD,
      m' ((c.tc : Thread Cert.OdDwVRefIdeal.nD Cert.OdDwVRefIdeal.τ).loc Cert.OdDwVRefIdeal.main_arg0) = m ((c.tc : Thread Cert.OdDwVIdeal.nD Cert.OdDwVIdeal.τ).loc Cert.OdDwVIdeal.main_arg0)
      ∧ m' ((c.tc : Thread Cert.OdDwVRefIdeal.nD Cert.OdDwVRefIdeal.τ).loc Cert.OdDwVRefIdeal.main_arg1) = m ((c.tc : Thread Cert.OdDwVIdeal.nD Cert.OdDwVIdeal.τ).loc Cert.OdDwVIdeal.main_arg1)) →
    ∃ (v0 : (c : Dev Cert.OdDwVIdeal.nD) → Buf (Elt Ideal) ((c.tc : Thread Cert.OdDwVIdeal.nD Cert.OdDwVIdeal.τ).loc Cert.OdDwVIdeal.main_v2)),
      θ_run (Cert.OdDwVIdeal.defs (F := Ideal)) (onTc (τ := Cert.OdDwVIdeal.τ) (Cert.OdDwVIdeal.main (F := Ideal))) ⟨m, fun _ => 0, g⟩ (fun r => ∀ c : Dev Cert.OdDwVIdeal.nD,
          r.2.mem ((c.tc : Thread Cert.OdDwVIdeal.nD Cert.OdDwVIdeal.τ).loc Cert.OdDwVIdeal.main_v2) = v0 c
          ∧ r.2.mem ((c.tc : Thread Cert.OdDwVIdeal.nD Cert.OdDwVIdeal.τ).loc Cert.OdDwVIdeal.main_arg0) = m ((c.tc : Thread Cert.OdDwVIdeal.nD Cert.OdDwVIdeal.τ).loc Cert.OdDwVIdeal.main_arg0)
          ∧ r.2.mem ((c.tc : Thread Cert.OdDwVIdeal.nD Cert.OdDwVIdeal.τ).loc Cert.OdDwVIdeal.main_arg1) = m ((c.tc : Thread Cert.OdDwVIdeal.nD Cert.OdDwVIdeal.τ).loc Cert.OdDwVIdeal.main_arg1))
      ∧ θ_run (Cert.OdDwVRefIdeal.defs (F := Ideal)) (onTc (τ := Cert.OdDwVRefIdeal.τ) (Cert.OdDwVRefIdeal.main (F := Ideal))) ⟨m', fun _ => 0, g'⟩ (fun r => ∀ c : Dev Cert.OdDwVRefIdeal.nD,
          r.2.mem ((c.tc : Thread Cert.OdDwVRefIdeal.nD Cert.OdDwVRefIdeal.τ).loc Cert.OdDwVRefIdeal.main_v4) = v0 c
          ∧ r.2.mem ((c.tc : Thread Cert.OdDwVRefIdeal.nD Cert.OdDwVRefIdeal.τ).loc Cert.OdDwVRefIdeal.main_arg0) = m' ((c.tc : Thread Cert.OdDwVRefIdeal.nD Cert.OdDwVRefIdeal.τ).loc Cert.OdDwVRefIdeal.main_arg0)
          ∧ r.2.mem ((c.tc : Thread Cert.OdDwVRefIdeal.nD Cert.OdDwVRefIdeal.τ).loc Cert.OdDwVRefIdeal.main_arg1) = m' ((c.tc : Thread Cert.OdDwVRefIdeal.nD Cert.OdDwVRefIdeal.τ).loc Cert.OdDwVRefIdeal.main_arg1))

def preserves_OdDwU_OdDwUIdeal : Prop :=
  True

def algebraic_OdDwUIdeal_OdDwURefIdeal [hOdDwUIdeal : Cert.OdDwUIdeal.Facts] [hOdDwURefIdeal : Cert.OdDwURefIdeal.Facts] : Prop :=
  ∀ (m : (ℓ : Loc Cert.OdDwUIdeal.nD Cert.OdDwUIdeal.τ Cert.OdDwUIdeal.sig) → Buf (Elt Ideal) ℓ) (g : Dev Cert.OdDwUIdeal.nD → PrngReg)
    (m' : (ℓ : Loc Cert.OdDwURefIdeal.nD Cert.OdDwURefIdeal.τ Cert.OdDwURefIdeal.sig) → Buf (Elt Ideal) ℓ) (g' : Dev Cert.OdDwURefIdeal.nD → PrngReg), Pre_OdDwUIdeal m →
    (∀ c : Dev Cert.OdDwUIdeal.nD,
      m' ((c.tc : Thread Cert.OdDwURefIdeal.nD Cert.OdDwURefIdeal.τ).loc Cert.OdDwURefIdeal.main_arg0) = m ((c.tc : Thread Cert.OdDwUIdeal.nD Cert.OdDwUIdeal.τ).loc Cert.OdDwUIdeal.main_arg0)
      ∧ m' ((c.tc : Thread Cert.OdDwURefIdeal.nD Cert.OdDwURefIdeal.τ).loc Cert.OdDwURefIdeal.main_arg1) = m ((c.tc : Thread Cert.OdDwUIdeal.nD Cert.OdDwUIdeal.τ).loc Cert.OdDwUIdeal.main_arg1)) →
    ∃ (v0 : (c : Dev Cert.OdDwUIdeal.nD) → Buf (Elt Ideal) ((c.tc : Thread Cert.OdDwUIdeal.nD Cert.OdDwUIdeal.τ).loc Cert.OdDwUIdeal.main_v2)),
      θ_run (Cert.OdDwUIdeal.defs (F := Ideal)) (onTc (τ := Cert.OdDwUIdeal.τ) (Cert.OdDwUIdeal.main (F := Ideal))) ⟨m, fun _ => 0, g⟩ (fun r => ∀ c : Dev Cert.OdDwUIdeal.nD,
          r.2.mem ((c.tc : Thread Cert.OdDwUIdeal.nD Cert.OdDwUIdeal.τ).loc Cert.OdDwUIdeal.main_v2) = v0 c
          ∧ r.2.mem ((c.tc : Thread Cert.OdDwUIdeal.nD Cert.OdDwUIdeal.τ).loc Cert.OdDwUIdeal.main_arg0) = m ((c.tc : Thread Cert.OdDwUIdeal.nD Cert.OdDwUIdeal.τ).loc Cert.OdDwUIdeal.main_arg0)
          ∧ r.2.mem ((c.tc : Thread Cert.OdDwUIdeal.nD Cert.OdDwUIdeal.τ).loc Cert.OdDwUIdeal.main_arg1) = m ((c.tc : Thread Cert.OdDwUIdeal.nD Cert.OdDwUIdeal.τ).loc Cert.OdDwUIdeal.main_arg1))
      ∧ θ_run (Cert.OdDwURefIdeal.defs (F := Ideal)) (onTc (τ := Cert.OdDwURefIdeal.τ) (Cert.OdDwURefIdeal.main (F := Ideal))) ⟨m', fun _ => 0, g'⟩ (fun r => ∀ c : Dev Cert.OdDwURefIdeal.nD,
          r.2.mem ((c.tc : Thread Cert.OdDwURefIdeal.nD Cert.OdDwURefIdeal.τ).loc Cert.OdDwURefIdeal.main_v4) = v0 c
          ∧ r.2.mem ((c.tc : Thread Cert.OdDwURefIdeal.nD Cert.OdDwURefIdeal.τ).loc Cert.OdDwURefIdeal.main_arg0) = m' ((c.tc : Thread Cert.OdDwURefIdeal.nD Cert.OdDwURefIdeal.τ).loc Cert.OdDwURefIdeal.main_arg0)
          ∧ r.2.mem ((c.tc : Thread Cert.OdDwURefIdeal.nD Cert.OdDwURefIdeal.τ).loc Cert.OdDwURefIdeal.main_arg1) = m' ((c.tc : Thread Cert.OdDwURefIdeal.nD Cert.OdDwURefIdeal.τ).loc Cert.OdDwURefIdeal.main_arg1))

def preserves_OdDwOut_OdDwOutIdeal : Prop :=
  True

def algebraic_OdDwOutIdeal_OdDwOutRefIdeal [hOdDwOutIdeal : Cert.OdDwOutIdeal.Facts] [hOdDwOutRefIdeal : Cert.OdDwOutRefIdeal.Facts] : Prop :=
  ∀ (m : (ℓ : Loc Cert.OdDwOutIdeal.nD Cert.OdDwOutIdeal.τ Cert.OdDwOutIdeal.sig) → Buf (Elt Ideal) ℓ) (g : Dev Cert.OdDwOutIdeal.nD → PrngReg)
    (m' : (ℓ : Loc Cert.OdDwOutRefIdeal.nD Cert.OdDwOutRefIdeal.τ Cert.OdDwOutRefIdeal.sig) → Buf (Elt Ideal) ℓ) (g' : Dev Cert.OdDwOutRefIdeal.nD → PrngReg), Pre_OdDwOutIdeal m →
    (∀ c : Dev Cert.OdDwOutIdeal.nD,
      m' ((c.tc : Thread Cert.OdDwOutRefIdeal.nD Cert.OdDwOutRefIdeal.τ).loc Cert.OdDwOutRefIdeal.main_arg0) = m ((c.tc : Thread Cert.OdDwOutIdeal.nD Cert.OdDwOutIdeal.τ).loc Cert.OdDwOutIdeal.main_arg0)
      ∧ m' ((c.tc : Thread Cert.OdDwOutRefIdeal.nD Cert.OdDwOutRefIdeal.τ).loc Cert.OdDwOutRefIdeal.main_arg1) = m ((c.tc : Thread Cert.OdDwOutIdeal.nD Cert.OdDwOutIdeal.τ).loc Cert.OdDwOutIdeal.main_arg1)) →
    ∃ (v0 : (c : Dev Cert.OdDwOutIdeal.nD) → Buf (Elt Ideal) ((c.tc : Thread Cert.OdDwOutIdeal.nD Cert.OdDwOutIdeal.τ).loc Cert.OdDwOutIdeal.main_v2)),
      θ_run (Cert.OdDwOutIdeal.defs (F := Ideal)) (onTc (τ := Cert.OdDwOutIdeal.τ) (Cert.OdDwOutIdeal.main (F := Ideal))) ⟨m, fun _ => 0, g⟩ (fun r => ∀ c : Dev Cert.OdDwOutIdeal.nD,
          r.2.mem ((c.tc : Thread Cert.OdDwOutIdeal.nD Cert.OdDwOutIdeal.τ).loc Cert.OdDwOutIdeal.main_v2) = v0 c
          ∧ r.2.mem ((c.tc : Thread Cert.OdDwOutIdeal.nD Cert.OdDwOutIdeal.τ).loc Cert.OdDwOutIdeal.main_arg0) = m ((c.tc : Thread Cert.OdDwOutIdeal.nD Cert.OdDwOutIdeal.τ).loc Cert.OdDwOutIdeal.main_arg0)
          ∧ r.2.mem ((c.tc : Thread Cert.OdDwOutIdeal.nD Cert.OdDwOutIdeal.τ).loc Cert.OdDwOutIdeal.main_arg1) = m ((c.tc : Thread Cert.OdDwOutIdeal.nD Cert.OdDwOutIdeal.τ).loc Cert.OdDwOutIdeal.main_arg1))
      ∧ θ_run (Cert.OdDwOutRefIdeal.defs (F := Ideal)) (onTc (τ := Cert.OdDwOutRefIdeal.τ) (Cert.OdDwOutRefIdeal.main (F := Ideal))) ⟨m', fun _ => 0, g'⟩ (fun r => ∀ c : Dev Cert.OdDwOutRefIdeal.nD,
          r.2.mem ((c.tc : Thread Cert.OdDwOutRefIdeal.nD Cert.OdDwOutRefIdeal.τ).loc Cert.OdDwOutRefIdeal.main_v5) = v0 c
          ∧ r.2.mem ((c.tc : Thread Cert.OdDwOutRefIdeal.nD Cert.OdDwOutRefIdeal.τ).loc Cert.OdDwOutRefIdeal.main_arg0) = m' ((c.tc : Thread Cert.OdDwOutRefIdeal.nD Cert.OdDwOutRefIdeal.τ).loc Cert.OdDwOutRefIdeal.main_arg0)
          ∧ r.2.mem ((c.tc : Thread Cert.OdDwOutRefIdeal.nD Cert.OdDwOutRefIdeal.τ).loc Cert.OdDwOutRefIdeal.main_arg1) = m' ((c.tc : Thread Cert.OdDwOutRefIdeal.nD Cert.OdDwOutRefIdeal.τ).loc Cert.OdDwOutRefIdeal.main_arg1))

def preserves_OdDwOutU_OdDwOutUIdeal : Prop :=
  True

def algebraic_OdDwOutUIdeal_OdDwOutURefIdeal [hOdDwOutUIdeal : Cert.OdDwOutUIdeal.Facts] [hOdDwOutURefIdeal : Cert.OdDwOutURefIdeal.Facts] : Prop :=
  ∀ (m : (ℓ : Loc Cert.OdDwOutUIdeal.nD Cert.OdDwOutUIdeal.τ Cert.OdDwOutUIdeal.sig) → Buf (Elt Ideal) ℓ) (g : Dev Cert.OdDwOutUIdeal.nD → PrngReg)
    (m' : (ℓ : Loc Cert.OdDwOutURefIdeal.nD Cert.OdDwOutURefIdeal.τ Cert.OdDwOutURefIdeal.sig) → Buf (Elt Ideal) ℓ) (g' : Dev Cert.OdDwOutURefIdeal.nD → PrngReg), Pre_OdDwOutUIdeal m →
    (∀ c : Dev Cert.OdDwOutUIdeal.nD,
      m' ((c.tc : Thread Cert.OdDwOutURefIdeal.nD Cert.OdDwOutURefIdeal.τ).loc Cert.OdDwOutURefIdeal.main_arg0) = m ((c.tc : Thread Cert.OdDwOutUIdeal.nD Cert.OdDwOutUIdeal.τ).loc Cert.OdDwOutUIdeal.main_arg0)
      ∧ m' ((c.tc : Thread Cert.OdDwOutURefIdeal.nD Cert.OdDwOutURefIdeal.τ).loc Cert.OdDwOutURefIdeal.main_arg1) = m ((c.tc : Thread Cert.OdDwOutUIdeal.nD Cert.OdDwOutUIdeal.τ).loc Cert.OdDwOutUIdeal.main_arg1)) →
    ∃ (v0 : (c : Dev Cert.OdDwOutUIdeal.nD) → Buf (Elt Ideal) ((c.tc : Thread Cert.OdDwOutUIdeal.nD Cert.OdDwOutUIdeal.τ).loc Cert.OdDwOutUIdeal.main_v2)),
      θ_run (Cert.OdDwOutUIdeal.defs (F := Ideal)) (onTc (τ := Cert.OdDwOutUIdeal.τ) (Cert.OdDwOutUIdeal.main (F := Ideal))) ⟨m, fun _ => 0, g⟩ (fun r => ∀ c : Dev Cert.OdDwOutUIdeal.nD,
          r.2.mem ((c.tc : Thread Cert.OdDwOutUIdeal.nD Cert.OdDwOutUIdeal.τ).loc Cert.OdDwOutUIdeal.main_v2) = v0 c
          ∧ r.2.mem ((c.tc : Thread Cert.OdDwOutUIdeal.nD Cert.OdDwOutUIdeal.τ).loc Cert.OdDwOutUIdeal.main_arg0) = m ((c.tc : Thread Cert.OdDwOutUIdeal.nD Cert.OdDwOutUIdeal.τ).loc Cert.OdDwOutUIdeal.main_arg0)
          ∧ r.2.mem ((c.tc : Thread Cert.OdDwOutUIdeal.nD Cert.OdDwOutUIdeal.τ).loc Cert.OdDwOutUIdeal.main_arg1) = m ((c.tc : Thread Cert.OdDwOutUIdeal.nD Cert.OdDwOutUIdeal.τ).loc Cert.OdDwOutUIdeal.main_arg1))
      ∧ θ_run (Cert.OdDwOutURefIdeal.defs (F := Ideal)) (onTc (τ := Cert.OdDwOutURefIdeal.τ) (Cert.OdDwOutURefIdeal.main (F := Ideal))) ⟨m', fun _ => 0, g'⟩ (fun r => ∀ c : Dev Cert.OdDwOutURefIdeal.nD,
          r.2.mem ((c.tc : Thread Cert.OdDwOutURefIdeal.nD Cert.OdDwOutURefIdeal.τ).loc Cert.OdDwOutURefIdeal.main_v5) = v0 c
          ∧ r.2.mem ((c.tc : Thread Cert.OdDwOutURefIdeal.nD Cert.OdDwOutURefIdeal.τ).loc Cert.OdDwOutURefIdeal.main_arg0) = m' ((c.tc : Thread Cert.OdDwOutURefIdeal.nD Cert.OdDwOutURefIdeal.τ).loc Cert.OdDwOutURefIdeal.main_arg0)
          ∧ r.2.mem ((c.tc : Thread Cert.OdDwOutURefIdeal.nD Cert.OdDwOutURefIdeal.τ).loc Cert.OdDwOutURefIdeal.main_arg1) = m' ((c.tc : Thread Cert.OdDwOutURefIdeal.nD Cert.OdDwOutURefIdeal.τ).loc Cert.OdDwOutURefIdeal.main_arg1))

def preserves_EvDhn_EvDhnIdeal : Prop :=
  True

def algebraic_EvDhnIdeal_EvDhnRefIdeal [hEvDhnIdeal : Cert.EvDhnIdeal.Facts] [hEvDhnRefIdeal : Cert.EvDhnRefIdeal.Facts] : Prop :=
  ∀ (m : (ℓ : Loc Cert.EvDhnIdeal.nD Cert.EvDhnIdeal.τ Cert.EvDhnIdeal.sig) → Buf (Elt Ideal) ℓ) (g : Dev Cert.EvDhnIdeal.nD → PrngReg)
    (m' : (ℓ : Loc Cert.EvDhnRefIdeal.nD Cert.EvDhnRefIdeal.τ Cert.EvDhnRefIdeal.sig) → Buf (Elt Ideal) ℓ) (g' : Dev Cert.EvDhnRefIdeal.nD → PrngReg), Pre_EvDhnIdeal m →
    (∀ c : Dev Cert.EvDhnIdeal.nD,
      m' ((c.tc : Thread Cert.EvDhnRefIdeal.nD Cert.EvDhnRefIdeal.τ).loc Cert.EvDhnRefIdeal.main_arg0) = m ((c.tc : Thread Cert.EvDhnIdeal.nD Cert.EvDhnIdeal.τ).loc Cert.EvDhnIdeal.main_arg0)
      ∧ m' ((c.tc : Thread Cert.EvDhnRefIdeal.nD Cert.EvDhnRefIdeal.τ).loc Cert.EvDhnRefIdeal.main_arg1) = m ((c.tc : Thread Cert.EvDhnIdeal.nD Cert.EvDhnIdeal.τ).loc Cert.EvDhnIdeal.main_arg1)
      ∧ m' ((c.tc : Thread Cert.EvDhnRefIdeal.nD Cert.EvDhnRefIdeal.τ).loc Cert.EvDhnRefIdeal.main_arg2) = m ((c.tc : Thread Cert.EvDhnIdeal.nD Cert.EvDhnIdeal.τ).loc Cert.EvDhnIdeal.main_arg2)
      ∧ m' ((c.tc : Thread Cert.EvDhnRefIdeal.nD Cert.EvDhnRefIdeal.τ).loc Cert.EvDhnRefIdeal.main_arg3) = m ((c.tc : Thread Cert.EvDhnIdeal.nD Cert.EvDhnIdeal.τ).loc Cert.EvDhnIdeal.main_arg3)
      ∧ m' ((c.tc : Thread Cert.EvDhnRefIdeal.nD Cert.EvDhnRefIdeal.τ).loc Cert.EvDhnRefIdeal.main_arg4) = m ((c.tc : Thread Cert.EvDhnIdeal.nD Cert.EvDhnIdeal.τ).loc Cert.EvDhnIdeal.main_arg4)
      ∧ m' ((c.tc : Thread Cert.EvDhnRefIdeal.nD Cert.EvDhnRefIdeal.τ).loc Cert.EvDhnRefIdeal.main_arg5) = m ((c.tc : Thread Cert.EvDhnIdeal.nD Cert.EvDhnIdeal.τ).loc Cert.EvDhnIdeal.main_arg5)) →
    ∃ (v0 : (c : Dev Cert.EvDhnIdeal.nD) → Buf (Elt Ideal) ((c.tc : Thread Cert.EvDhnIdeal.nD Cert.EvDhnIdeal.τ).loc Cert.EvDhnIdeal.main_v17)),
      θ_run (Cert.EvDhnIdeal.defs (F := Ideal)) (onTc (τ := Cert.EvDhnIdeal.τ) (Cert.EvDhnIdeal.main (F := Ideal))) ⟨m, fun _ => 0, g⟩ (fun r => ∀ c : Dev Cert.EvDhnIdeal.nD,
          r.2.mem ((c.tc : Thread Cert.EvDhnIdeal.nD Cert.EvDhnIdeal.τ).loc Cert.EvDhnIdeal.main_v17) = v0 c
          ∧ r.2.mem ((c.tc : Thread Cert.EvDhnIdeal.nD Cert.EvDhnIdeal.τ).loc Cert.EvDhnIdeal.main_arg0) = m ((c.tc : Thread Cert.EvDhnIdeal.nD Cert.EvDhnIdeal.τ).loc Cert.EvDhnIdeal.main_arg0)
          ∧ r.2.mem ((c.tc : Thread Cert.EvDhnIdeal.nD Cert.EvDhnIdeal.τ).loc Cert.EvDhnIdeal.main_arg1) = m ((c.tc : Thread Cert.EvDhnIdeal.nD Cert.EvDhnIdeal.τ).loc Cert.EvDhnIdeal.main_arg1)
          ∧ r.2.mem ((c.tc : Thread Cert.EvDhnIdeal.nD Cert.EvDhnIdeal.τ).loc Cert.EvDhnIdeal.main_arg2) = m ((c.tc : Thread Cert.EvDhnIdeal.nD Cert.EvDhnIdeal.τ).loc Cert.EvDhnIdeal.main_arg2)
          ∧ r.2.mem ((c.tc : Thread Cert.EvDhnIdeal.nD Cert.EvDhnIdeal.τ).loc Cert.EvDhnIdeal.main_arg3) = m ((c.tc : Thread Cert.EvDhnIdeal.nD Cert.EvDhnIdeal.τ).loc Cert.EvDhnIdeal.main_arg3)
          ∧ r.2.mem ((c.tc : Thread Cert.EvDhnIdeal.nD Cert.EvDhnIdeal.τ).loc Cert.EvDhnIdeal.main_arg4) = m ((c.tc : Thread Cert.EvDhnIdeal.nD Cert.EvDhnIdeal.τ).loc Cert.EvDhnIdeal.main_arg4)
          ∧ r.2.mem ((c.tc : Thread Cert.EvDhnIdeal.nD Cert.EvDhnIdeal.τ).loc Cert.EvDhnIdeal.main_arg5) = m ((c.tc : Thread Cert.EvDhnIdeal.nD Cert.EvDhnIdeal.τ).loc Cert.EvDhnIdeal.main_arg5))
      ∧ θ_run (Cert.EvDhnRefIdeal.defs (F := Ideal)) (onTc (τ := Cert.EvDhnRefIdeal.τ) (Cert.EvDhnRefIdeal.main (F := Ideal))) ⟨m', fun _ => 0, g'⟩ (fun r => ∀ c : Dev Cert.EvDhnRefIdeal.nD,
          r.2.mem ((c.tc : Thread Cert.EvDhnRefIdeal.nD Cert.EvDhnRefIdeal.τ).loc Cert.EvDhnRefIdeal.main_v14) = v0 c
          ∧ r.2.mem ((c.tc : Thread Cert.EvDhnRefIdeal.nD Cert.EvDhnRefIdeal.τ).loc Cert.EvDhnRefIdeal.main_arg0) = m' ((c.tc : Thread Cert.EvDhnRefIdeal.nD Cert.EvDhnRefIdeal.τ).loc Cert.EvDhnRefIdeal.main_arg0)
          ∧ r.2.mem ((c.tc : Thread Cert.EvDhnRefIdeal.nD Cert.EvDhnRefIdeal.τ).loc Cert.EvDhnRefIdeal.main_arg1) = m' ((c.tc : Thread Cert.EvDhnRefIdeal.nD Cert.EvDhnRefIdeal.τ).loc Cert.EvDhnRefIdeal.main_arg1)
          ∧ r.2.mem ((c.tc : Thread Cert.EvDhnRefIdeal.nD Cert.EvDhnRefIdeal.τ).loc Cert.EvDhnRefIdeal.main_arg2) = m' ((c.tc : Thread Cert.EvDhnRefIdeal.nD Cert.EvDhnRefIdeal.τ).loc Cert.EvDhnRefIdeal.main_arg2)
          ∧ r.2.mem ((c.tc : Thread Cert.EvDhnRefIdeal.nD Cert.EvDhnRefIdeal.τ).loc Cert.EvDhnRefIdeal.main_arg3) = m' ((c.tc : Thread Cert.EvDhnRefIdeal.nD Cert.EvDhnRefIdeal.τ).loc Cert.EvDhnRefIdeal.main_arg3)
          ∧ r.2.mem ((c.tc : Thread Cert.EvDhnRefIdeal.nD Cert.EvDhnRefIdeal.τ).loc Cert.EvDhnRefIdeal.main_arg4) = m' ((c.tc : Thread Cert.EvDhnRefIdeal.nD Cert.EvDhnRefIdeal.τ).loc Cert.EvDhnRefIdeal.main_arg4)
          ∧ r.2.mem ((c.tc : Thread Cert.EvDhnRefIdeal.nD Cert.EvDhnRefIdeal.τ).loc Cert.EvDhnRefIdeal.main_arg5) = m' ((c.tc : Thread Cert.EvDhnRefIdeal.nD Cert.EvDhnRefIdeal.τ).loc Cert.EvDhnRefIdeal.main_arg5))

def preserves_OdDhn_OdDhnIdeal : Prop :=
  True

def algebraic_OdDhnIdeal_OdDhnRefIdeal [hOdDhnIdeal : Cert.OdDhnIdeal.Facts] [hOdDhnRefIdeal : Cert.OdDhnRefIdeal.Facts] : Prop :=
  ∀ (m : (ℓ : Loc Cert.OdDhnIdeal.nD Cert.OdDhnIdeal.τ Cert.OdDhnIdeal.sig) → Buf (Elt Ideal) ℓ) (g : Dev Cert.OdDhnIdeal.nD → PrngReg)
    (m' : (ℓ : Loc Cert.OdDhnRefIdeal.nD Cert.OdDhnRefIdeal.τ Cert.OdDhnRefIdeal.sig) → Buf (Elt Ideal) ℓ) (g' : Dev Cert.OdDhnRefIdeal.nD → PrngReg), Pre_OdDhnIdeal m →
    (∀ c : Dev Cert.OdDhnIdeal.nD,
      m' ((c.tc : Thread Cert.OdDhnRefIdeal.nD Cert.OdDhnRefIdeal.τ).loc Cert.OdDhnRefIdeal.main_arg0) = m ((c.tc : Thread Cert.OdDhnIdeal.nD Cert.OdDhnIdeal.τ).loc Cert.OdDhnIdeal.main_arg0)
      ∧ m' ((c.tc : Thread Cert.OdDhnRefIdeal.nD Cert.OdDhnRefIdeal.τ).loc Cert.OdDhnRefIdeal.main_arg1) = m ((c.tc : Thread Cert.OdDhnIdeal.nD Cert.OdDhnIdeal.τ).loc Cert.OdDhnIdeal.main_arg1)
      ∧ m' ((c.tc : Thread Cert.OdDhnRefIdeal.nD Cert.OdDhnRefIdeal.τ).loc Cert.OdDhnRefIdeal.main_arg2) = m ((c.tc : Thread Cert.OdDhnIdeal.nD Cert.OdDhnIdeal.τ).loc Cert.OdDhnIdeal.main_arg2)
      ∧ m' ((c.tc : Thread Cert.OdDhnRefIdeal.nD Cert.OdDhnRefIdeal.τ).loc Cert.OdDhnRefIdeal.main_arg3) = m ((c.tc : Thread Cert.OdDhnIdeal.nD Cert.OdDhnIdeal.τ).loc Cert.OdDhnIdeal.main_arg3)
      ∧ m' ((c.tc : Thread Cert.OdDhnRefIdeal.nD Cert.OdDhnRefIdeal.τ).loc Cert.OdDhnRefIdeal.main_arg4) = m ((c.tc : Thread Cert.OdDhnIdeal.nD Cert.OdDhnIdeal.τ).loc Cert.OdDhnIdeal.main_arg4)
      ∧ m' ((c.tc : Thread Cert.OdDhnRefIdeal.nD Cert.OdDhnRefIdeal.τ).loc Cert.OdDhnRefIdeal.main_arg5) = m ((c.tc : Thread Cert.OdDhnIdeal.nD Cert.OdDhnIdeal.τ).loc Cert.OdDhnIdeal.main_arg5)
      ∧ m' ((c.tc : Thread Cert.OdDhnRefIdeal.nD Cert.OdDhnRefIdeal.τ).loc Cert.OdDhnRefIdeal.main_arg6) = m ((c.tc : Thread Cert.OdDhnIdeal.nD Cert.OdDhnIdeal.τ).loc Cert.OdDhnIdeal.main_arg6)) →
    ∃ (v0 : (c : Dev Cert.OdDhnIdeal.nD) → Buf (Elt Ideal) ((c.tc : Thread Cert.OdDhnIdeal.nD Cert.OdDhnIdeal.τ).loc Cert.OdDhnIdeal.main_v18)),
      θ_run (Cert.OdDhnIdeal.defs (F := Ideal)) (onTc (τ := Cert.OdDhnIdeal.τ) (Cert.OdDhnIdeal.main (F := Ideal))) ⟨m, fun _ => 0, g⟩ (fun r => ∀ c : Dev Cert.OdDhnIdeal.nD,
          r.2.mem ((c.tc : Thread Cert.OdDhnIdeal.nD Cert.OdDhnIdeal.τ).loc Cert.OdDhnIdeal.main_v18) = v0 c
          ∧ r.2.mem ((c.tc : Thread Cert.OdDhnIdeal.nD Cert.OdDhnIdeal.τ).loc Cert.OdDhnIdeal.main_arg0) = m ((c.tc : Thread Cert.OdDhnIdeal.nD Cert.OdDhnIdeal.τ).loc Cert.OdDhnIdeal.main_arg0)
          ∧ r.2.mem ((c.tc : Thread Cert.OdDhnIdeal.nD Cert.OdDhnIdeal.τ).loc Cert.OdDhnIdeal.main_arg1) = m ((c.tc : Thread Cert.OdDhnIdeal.nD Cert.OdDhnIdeal.τ).loc Cert.OdDhnIdeal.main_arg1)
          ∧ r.2.mem ((c.tc : Thread Cert.OdDhnIdeal.nD Cert.OdDhnIdeal.τ).loc Cert.OdDhnIdeal.main_arg2) = m ((c.tc : Thread Cert.OdDhnIdeal.nD Cert.OdDhnIdeal.τ).loc Cert.OdDhnIdeal.main_arg2)
          ∧ r.2.mem ((c.tc : Thread Cert.OdDhnIdeal.nD Cert.OdDhnIdeal.τ).loc Cert.OdDhnIdeal.main_arg3) = m ((c.tc : Thread Cert.OdDhnIdeal.nD Cert.OdDhnIdeal.τ).loc Cert.OdDhnIdeal.main_arg3)
          ∧ r.2.mem ((c.tc : Thread Cert.OdDhnIdeal.nD Cert.OdDhnIdeal.τ).loc Cert.OdDhnIdeal.main_arg4) = m ((c.tc : Thread Cert.OdDhnIdeal.nD Cert.OdDhnIdeal.τ).loc Cert.OdDhnIdeal.main_arg4)
          ∧ r.2.mem ((c.tc : Thread Cert.OdDhnIdeal.nD Cert.OdDhnIdeal.τ).loc Cert.OdDhnIdeal.main_arg5) = m ((c.tc : Thread Cert.OdDhnIdeal.nD Cert.OdDhnIdeal.τ).loc Cert.OdDhnIdeal.main_arg5)
          ∧ r.2.mem ((c.tc : Thread Cert.OdDhnIdeal.nD Cert.OdDhnIdeal.τ).loc Cert.OdDhnIdeal.main_arg6) = m ((c.tc : Thread Cert.OdDhnIdeal.nD Cert.OdDhnIdeal.τ).loc Cert.OdDhnIdeal.main_arg6))
      ∧ θ_run (Cert.OdDhnRefIdeal.defs (F := Ideal)) (onTc (τ := Cert.OdDhnRefIdeal.τ) (Cert.OdDhnRefIdeal.main (F := Ideal))) ⟨m', fun _ => 0, g'⟩ (fun r => ∀ c : Dev Cert.OdDhnRefIdeal.nD,
          r.2.mem ((c.tc : Thread Cert.OdDhnRefIdeal.nD Cert.OdDhnRefIdeal.τ).loc Cert.OdDhnRefIdeal.main_v15) = v0 c
          ∧ r.2.mem ((c.tc : Thread Cert.OdDhnRefIdeal.nD Cert.OdDhnRefIdeal.τ).loc Cert.OdDhnRefIdeal.main_arg0) = m' ((c.tc : Thread Cert.OdDhnRefIdeal.nD Cert.OdDhnRefIdeal.τ).loc Cert.OdDhnRefIdeal.main_arg0)
          ∧ r.2.mem ((c.tc : Thread Cert.OdDhnRefIdeal.nD Cert.OdDhnRefIdeal.τ).loc Cert.OdDhnRefIdeal.main_arg1) = m' ((c.tc : Thread Cert.OdDhnRefIdeal.nD Cert.OdDhnRefIdeal.τ).loc Cert.OdDhnRefIdeal.main_arg1)
          ∧ r.2.mem ((c.tc : Thread Cert.OdDhnRefIdeal.nD Cert.OdDhnRefIdeal.τ).loc Cert.OdDhnRefIdeal.main_arg2) = m' ((c.tc : Thread Cert.OdDhnRefIdeal.nD Cert.OdDhnRefIdeal.τ).loc Cert.OdDhnRefIdeal.main_arg2)
          ∧ r.2.mem ((c.tc : Thread Cert.OdDhnRefIdeal.nD Cert.OdDhnRefIdeal.τ).loc Cert.OdDhnRefIdeal.main_arg3) = m' ((c.tc : Thread Cert.OdDhnRefIdeal.nD Cert.OdDhnRefIdeal.τ).loc Cert.OdDhnRefIdeal.main_arg3)
          ∧ r.2.mem ((c.tc : Thread Cert.OdDhnRefIdeal.nD Cert.OdDhnRefIdeal.τ).loc Cert.OdDhnRefIdeal.main_arg4) = m' ((c.tc : Thread Cert.OdDhnRefIdeal.nD Cert.OdDhnRefIdeal.τ).loc Cert.OdDhnRefIdeal.main_arg4)
          ∧ r.2.mem ((c.tc : Thread Cert.OdDhnRefIdeal.nD Cert.OdDhnRefIdeal.τ).loc Cert.OdDhnRefIdeal.main_arg5) = m' ((c.tc : Thread Cert.OdDhnRefIdeal.nD Cert.OdDhnRefIdeal.τ).loc Cert.OdDhnRefIdeal.main_arg5)
          ∧ r.2.mem ((c.tc : Thread Cert.OdDhnRefIdeal.nD Cert.OdDhnRefIdeal.τ).loc Cert.OdDhnRefIdeal.main_arg6) = m' ((c.tc : Thread Cert.OdDhnRefIdeal.nD Cert.OdDhnRefIdeal.τ).loc Cert.OdDhnRefIdeal.main_arg6))

def preserves_LruConvBwd_LruConvBwdIdeal : Prop :=
  True

def algebraic_LruConvBwdIdeal_LruConvBwdRefIdeal [hLruConvBwdIdeal : Cert.LruConvBwdIdeal.Facts] [hLruConvBwdRefIdeal : Cert.LruConvBwdRefIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg)
    (m' : (ℓ : Loc Cert.LruConvBwdRefIdeal.nD Cert.LruConvBwdRefIdeal.τ Cert.LruConvBwdRefIdeal.sig) → Buf (Elt Ideal) ℓ) (g' : Dev Cert.LruConvBwdRefIdeal.nD → PrngReg), Pre_LruConvBwdIdeal m →
    (∀ c : Dev Cert.LruConvBwdIdeal.nD,
      m' ((c.tc : Thread Cert.LruConvBwdRefIdeal.nD Cert.LruConvBwdRefIdeal.τ).loc Cert.LruConvBwdRefIdeal.main_arg0) = m ((c.tc : Thread Cert.LruConvBwdIdeal.nD Cert.LruConvBwdIdeal.τ).loc Cert.LruConvBwdIdeal.main_arg0)
      ∧ m' ((c.tc : Thread Cert.LruConvBwdRefIdeal.nD Cert.LruConvBwdRefIdeal.τ).loc Cert.LruConvBwdRefIdeal.main_arg1) = m ((c.tc : Thread Cert.LruConvBwdIdeal.nD Cert.LruConvBwdIdeal.τ).loc Cert.LruConvBwdIdeal.main_arg1)
      ∧ m' ((c.tc : Thread Cert.LruConvBwdRefIdeal.nD Cert.LruConvBwdRefIdeal.τ).loc Cert.LruConvBwdRefIdeal.main_arg2) = m ((c.tc : Thread Cert.LruConvBwdIdeal.nD Cert.LruConvBwdIdeal.τ).loc Cert.LruConvBwdIdeal.main_arg2)
      ∧ m' ((c.tc : Thread Cert.LruConvBwdRefIdeal.nD Cert.LruConvBwdRefIdeal.τ).loc Cert.LruConvBwdRefIdeal.main_arg3) = m ((c.tc : Thread Cert.LruConvBwdIdeal.nD Cert.LruConvBwdIdeal.τ).loc Cert.LruConvBwdIdeal.main_arg3)) →
    ∃ (v0 : (c : Dev Cert.LruConvBwdIdeal.nD) → Buf (Elt Ideal) ((c.tc : Thread Cert.LruConvBwdIdeal.nD Cert.LruConvBwdIdeal.τ).loc Cert.LruConvBwdIdeal.main_v1_0)) (v1 : (c : Dev Cert.LruConvBwdIdeal.nD) → Buf (Elt Ideal) ((c.tc : Thread Cert.LruConvBwdIdeal.nD Cert.LruConvBwdIdeal.τ).loc Cert.LruConvBwdIdeal.main_v1_1)) (v2 : (c : Dev Cert.LruConvBwdIdeal.nD) → Buf (Elt Ideal) ((c.tc : Thread Cert.LruConvBwdIdeal.nD Cert.LruConvBwdIdeal.τ).loc Cert.LruConvBwdIdeal.main_v1_2)),
      θ_run (Cert.LruConvBwdIdeal.defs (F := Ideal)) (onTc (τ := Cert.LruConvBwdIdeal.τ) (Cert.LruConvBwdIdeal.main (F := Ideal))) ⟨m, fun _ => 0, g⟩ (fun r => ∀ c : Dev Cert.LruConvBwdIdeal.nD,
          r.2.mem ((c.tc : Thread Cert.LruConvBwdIdeal.nD Cert.LruConvBwdIdeal.τ).loc Cert.LruConvBwdIdeal.main_v1_0) = v0 c
          ∧ r.2.mem ((c.tc : Thread Cert.LruConvBwdIdeal.nD Cert.LruConvBwdIdeal.τ).loc Cert.LruConvBwdIdeal.main_v1_1) = v1 c
          ∧ r.2.mem ((c.tc : Thread Cert.LruConvBwdIdeal.nD Cert.LruConvBwdIdeal.τ).loc Cert.LruConvBwdIdeal.main_v1_2) = v2 c
          ∧ r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
          ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
          ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2)
          ∧ r.2.mem ((c.tc : Thread Cert.LruConvBwdIdeal.nD Cert.LruConvBwdIdeal.τ).loc Cert.LruConvBwdIdeal.main_arg3) = m ((c.tc : Thread Cert.LruConvBwdIdeal.nD Cert.LruConvBwdIdeal.τ).loc Cert.LruConvBwdIdeal.main_arg3))
      ∧ θ_run (Cert.LruConvBwdRefIdeal.defs (F := Ideal)) (onTc (τ := Cert.LruConvBwdRefIdeal.τ) (Cert.LruConvBwdRefIdeal.main (F := Ideal))) ⟨m', fun _ => 0, g'⟩ (fun r => ∀ c : Dev Cert.LruConvBwdRefIdeal.nD,
          r.2.mem ((c.tc : Thread Cert.LruConvBwdRefIdeal.nD Cert.LruConvBwdRefIdeal.τ).loc Cert.LruConvBwdRefIdeal.main_v112) = v0 c
          ∧ r.2.mem ((c.tc : Thread Cert.LruConvBwdRefIdeal.nD Cert.LruConvBwdRefIdeal.τ).loc Cert.LruConvBwdRefIdeal.main_v109) = v1 c
          ∧ r.2.mem ((c.tc : Thread Cert.LruConvBwdRefIdeal.nD Cert.LruConvBwdRefIdeal.τ).loc Cert.LruConvBwdRefIdeal.main_v113) = v2 c
          ∧ r.2.mem ((c.tc : Thread Cert.LruConvBwdRefIdeal.nD Cert.LruConvBwdRefIdeal.τ).loc Cert.LruConvBwdRefIdeal.main_arg0) = m' ((c.tc : Thread Cert.LruConvBwdRefIdeal.nD Cert.LruConvBwdRefIdeal.τ).loc Cert.LruConvBwdRefIdeal.main_arg0)
          ∧ r.2.mem ((c.tc : Thread Cert.LruConvBwdRefIdeal.nD Cert.LruConvBwdRefIdeal.τ).loc Cert.LruConvBwdRefIdeal.main_arg1) = m' ((c.tc : Thread Cert.LruConvBwdRefIdeal.nD Cert.LruConvBwdRefIdeal.τ).loc Cert.LruConvBwdRefIdeal.main_arg1)
          ∧ r.2.mem ((c.tc : Thread Cert.LruConvBwdRefIdeal.nD Cert.LruConvBwdRefIdeal.τ).loc Cert.LruConvBwdRefIdeal.main_arg2) = m' ((c.tc : Thread Cert.LruConvBwdRefIdeal.nD Cert.LruConvBwdRefIdeal.τ).loc Cert.LruConvBwdRefIdeal.main_arg2)
          ∧ r.2.mem ((c.tc : Thread Cert.LruConvBwdRefIdeal.nD Cert.LruConvBwdRefIdeal.τ).loc Cert.LruConvBwdRefIdeal.main_arg3) = m' ((c.tc : Thread Cert.LruConvBwdRefIdeal.nD Cert.LruConvBwdRefIdeal.τ).loc Cert.LruConvBwdRefIdeal.main_arg3))

def preserves_SsdConvBwd_SsdConvBwdIdeal : Prop :=
  True

def algebraic_SsdConvBwdIdeal_SsdConvBwdRefIdeal_pre_finite_line [hSsdConvBwdIdeal : Cert.SsdConvBwdIdeal.Facts] [hSsdConvBwdRefIdeal : Cert.SsdConvBwdRefIdeal.Facts] [hPre_finite_line : Cert.Pre_finite_line.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg)
    (m' : (ℓ : Loc Cert.SsdConvBwdRefIdeal.nD Cert.SsdConvBwdRefIdeal.τ Cert.SsdConvBwdRefIdeal.sig) → Buf (Elt Ideal) ℓ) (g' : Dev Cert.SsdConvBwdRefIdeal.nD → PrngReg), Pre_SsdConvBwdIdeal_finite_line m →
    (∀ c : Dev Cert.SsdConvBwdIdeal.nD,
      m' ((c.tc : Thread Cert.SsdConvBwdRefIdeal.nD Cert.SsdConvBwdRefIdeal.τ).loc Cert.SsdConvBwdRefIdeal.main_arg0) = m ((c.tc : Thread Cert.SsdConvBwdIdeal.nD Cert.SsdConvBwdIdeal.τ).loc Cert.SsdConvBwdIdeal.main_arg0)
      ∧ m' ((c.tc : Thread Cert.SsdConvBwdRefIdeal.nD Cert.SsdConvBwdRefIdeal.τ).loc Cert.SsdConvBwdRefIdeal.main_arg1) = m ((c.tc : Thread Cert.SsdConvBwdIdeal.nD Cert.SsdConvBwdIdeal.τ).loc Cert.SsdConvBwdIdeal.main_arg1)
      ∧ m' ((c.tc : Thread Cert.SsdConvBwdRefIdeal.nD Cert.SsdConvBwdRefIdeal.τ).loc Cert.SsdConvBwdRefIdeal.main_arg2) = m ((c.tc : Thread Cert.SsdConvBwdIdeal.nD Cert.SsdConvBwdIdeal.τ).loc Cert.SsdConvBwdIdeal.main_arg2)
      ∧ m' ((c.tc : Thread Cert.SsdConvBwdRefIdeal.nD Cert.SsdConvBwdRefIdeal.τ).loc Cert.SsdConvBwdRefIdeal.main_arg3) = m ((c.tc : Thread Cert.SsdConvBwdIdeal.nD Cert.SsdConvBwdIdeal.τ).loc Cert.SsdConvBwdIdeal.main_arg3)) →
    ∃ (v0 : (c : Dev Cert.SsdConvBwdIdeal.nD) → Buf (Elt Ideal) ((c.tc : Thread Cert.SsdConvBwdIdeal.nD Cert.SsdConvBwdIdeal.τ).loc Cert.SsdConvBwdIdeal.main_v1_0)) (v1 : (c : Dev Cert.SsdConvBwdIdeal.nD) → Buf (Elt Ideal) ((c.tc : Thread Cert.SsdConvBwdIdeal.nD Cert.SsdConvBwdIdeal.τ).loc Cert.SsdConvBwdIdeal.main_v1_1)) (v2 : (c : Dev Cert.SsdConvBwdIdeal.nD) → Buf (Elt Ideal) ((c.tc : Thread Cert.SsdConvBwdIdeal.nD Cert.SsdConvBwdIdeal.τ).loc Cert.SsdConvBwdIdeal.main_v1_2)),
      θ_run (Cert.SsdConvBwdIdeal.defs (F := Ideal)) (onTc (τ := Cert.SsdConvBwdIdeal.τ) (Cert.SsdConvBwdIdeal.main (F := Ideal))) ⟨m, fun _ => 0, g⟩ (fun r => ∀ c : Dev Cert.SsdConvBwdIdeal.nD,
          r.2.mem ((c.tc : Thread Cert.SsdConvBwdIdeal.nD Cert.SsdConvBwdIdeal.τ).loc Cert.SsdConvBwdIdeal.main_v1_0) = v0 c
          ∧ r.2.mem ((c.tc : Thread Cert.SsdConvBwdIdeal.nD Cert.SsdConvBwdIdeal.τ).loc Cert.SsdConvBwdIdeal.main_v1_1) = v1 c
          ∧ r.2.mem ((c.tc : Thread Cert.SsdConvBwdIdeal.nD Cert.SsdConvBwdIdeal.τ).loc Cert.SsdConvBwdIdeal.main_v1_2) = v2 c
          ∧ r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
          ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
          ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
          ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3))
      ∧ θ_run (Cert.SsdConvBwdRefIdeal.defs (F := Ideal)) (onTc (τ := Cert.SsdConvBwdRefIdeal.τ) (Cert.SsdConvBwdRefIdeal.main (F := Ideal))) ⟨m', fun _ => 0, g'⟩ (fun r => ∀ c : Dev Cert.SsdConvBwdRefIdeal.nD,
          r.2.mem ((c.tc : Thread Cert.SsdConvBwdRefIdeal.nD Cert.SsdConvBwdRefIdeal.τ).loc Cert.SsdConvBwdRefIdeal.main_v114) = v0 c
          ∧ r.2.mem ((c.tc : Thread Cert.SsdConvBwdRefIdeal.nD Cert.SsdConvBwdRefIdeal.τ).loc Cert.SsdConvBwdRefIdeal.main_v111) = v1 c
          ∧ r.2.mem ((c.tc : Thread Cert.SsdConvBwdRefIdeal.nD Cert.SsdConvBwdRefIdeal.τ).loc Cert.SsdConvBwdRefIdeal.main_v115) = v2 c
          ∧ r.2.mem ((c.tc : Thread Cert.SsdConvBwdRefIdeal.nD Cert.SsdConvBwdRefIdeal.τ).loc Cert.SsdConvBwdRefIdeal.main_arg0) = m' ((c.tc : Thread Cert.SsdConvBwdRefIdeal.nD Cert.SsdConvBwdRefIdeal.τ).loc Cert.SsdConvBwdRefIdeal.main_arg0)
          ∧ r.2.mem ((c.tc : Thread Cert.SsdConvBwdRefIdeal.nD Cert.SsdConvBwdRefIdeal.τ).loc Cert.SsdConvBwdRefIdeal.main_arg1) = m' ((c.tc : Thread Cert.SsdConvBwdRefIdeal.nD Cert.SsdConvBwdRefIdeal.τ).loc Cert.SsdConvBwdRefIdeal.main_arg1)
          ∧ r.2.mem ((c.tc : Thread Cert.SsdConvBwdRefIdeal.nD Cert.SsdConvBwdRefIdeal.τ).loc Cert.SsdConvBwdRefIdeal.main_arg2) = m' ((c.tc : Thread Cert.SsdConvBwdRefIdeal.nD Cert.SsdConvBwdRefIdeal.τ).loc Cert.SsdConvBwdRefIdeal.main_arg2)
          ∧ r.2.mem ((c.tc : Thread Cert.SsdConvBwdRefIdeal.nD Cert.SsdConvBwdRefIdeal.τ).loc Cert.SsdConvBwdRefIdeal.main_arg3) = m' ((c.tc : Thread Cert.SsdConvBwdRefIdeal.nD Cert.SsdConvBwdRefIdeal.τ).loc Cert.SsdConvBwdRefIdeal.main_arg3))

def preserves_LruConv_LruConvIdeal : Prop :=
  True

def algebraic_LruConvIdeal_LruConvRefIdeal [hLruConvIdeal : Cert.LruConvIdeal.Facts] [hLruConvRefIdeal : Cert.LruConvRefIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvRefIdeal.nD Cert.LruConvRefIdeal.τ Cert.LruConvRefIdeal.sig) → Buf (Elt Ideal) ℓ) (g' : Dev Cert.LruConvRefIdeal.nD → PrngReg), Pre_LruConvIdeal m →
    (∀ c : Dev Cert.LruConvIdeal.nD,
      m' ((c.tc : Thread Cert.LruConvRefIdeal.nD Cert.LruConvRefIdeal.τ).loc Cert.LruConvRefIdeal.main_arg0) = m ((c.tc : Thread Cert.LruConvIdeal.nD Cert.LruConvIdeal.τ).loc Cert.LruConvIdeal.main_arg0)
      ∧ m' ((c.tc : Thread Cert.LruConvRefIdeal.nD Cert.LruConvRefIdeal.τ).loc Cert.LruConvRefIdeal.main_arg1) = m ((c.tc : Thread Cert.LruConvIdeal.nD Cert.LruConvIdeal.τ).loc Cert.LruConvIdeal.main_arg1)
      ∧ m' ((c.tc : Thread Cert.LruConvRefIdeal.nD Cert.LruConvRefIdeal.τ).loc Cert.LruConvRefIdeal.main_arg2) = m ((c.tc : Thread Cert.LruConvIdeal.nD Cert.LruConvIdeal.τ).loc Cert.LruConvIdeal.main_arg2)) →
    ∃ (v0 : (c : Dev Cert.LruConvIdeal.nD) → Buf (Elt Ideal) ((c.tc : Thread Cert.LruConvIdeal.nD Cert.LruConvIdeal.τ).loc Cert.LruConvIdeal.main_v1)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v1) = v0 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ θ_run (Cert.LruConvRefIdeal.defs (F := Ideal)) (onTc (τ := Cert.LruConvRefIdeal.τ) (Cert.LruConvRefIdeal.main (F := Ideal))) ⟨m', fun _ => 0, g'⟩ (fun r => ∀ c : Dev Cert.LruConvRefIdeal.nD,
          r.2.mem ((c.tc : Thread Cert.LruConvRefIdeal.nD Cert.LruConvRefIdeal.τ).loc Cert.LruConvRefIdeal.main_v40) = v0 c
          ∧ r.2.mem ((c.tc : Thread Cert.LruConvRefIdeal.nD Cert.LruConvRefIdeal.τ).loc Cert.LruConvRefIdeal.main_arg0) = m' ((c.tc : Thread Cert.LruConvRefIdeal.nD Cert.LruConvRefIdeal.τ).loc Cert.LruConvRefIdeal.main_arg0)
          ∧ r.2.mem ((c.tc : Thread Cert.LruConvRefIdeal.nD Cert.LruConvRefIdeal.τ).loc Cert.LruConvRefIdeal.main_arg1) = m' ((c.tc : Thread Cert.LruConvRefIdeal.nD Cert.LruConvRefIdeal.τ).loc Cert.LruConvRefIdeal.main_arg1)
          ∧ r.2.mem ((c.tc : Thread Cert.LruConvRefIdeal.nD Cert.LruConvRefIdeal.τ).loc Cert.LruConvRefIdeal.main_arg2) = m' ((c.tc : Thread Cert.LruConvRefIdeal.nD Cert.LruConvRefIdeal.τ).loc Cert.LruConvRefIdeal.main_arg2))

def preserves_SsdConv_SsdConvIdeal : Prop :=
  True

def algebraic_SsdConvIdeal_SsdConvRefIdeal [hSsdConvIdeal : Cert.SsdConvIdeal.Facts] [hSsdConvRefIdeal : Cert.SsdConvRefIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.SsdConvRefIdeal.nD Cert.SsdConvRefIdeal.τ Cert.SsdConvRefIdeal.sig) → Buf (Elt Ideal) ℓ) (g' : Dev Cert.SsdConvRefIdeal.nD → PrngReg), Pre_SsdConvIdeal m →
    (∀ c : Dev Cert.SsdConvIdeal.nD,
      m' ((c.tc : Thread Cert.SsdConvRefIdeal.nD Cert.SsdConvRefIdeal.τ).loc Cert.SsdConvRefIdeal.main_arg0) = m ((c.tc : Thread Cert.SsdConvIdeal.nD Cert.SsdConvIdeal.τ).loc Cert.SsdConvIdeal.main_arg0)
      ∧ m' ((c.tc : Thread Cert.SsdConvRefIdeal.nD Cert.SsdConvRefIdeal.τ).loc Cert.SsdConvRefIdeal.main_arg1) = m ((c.tc : Thread Cert.SsdConvIdeal.nD Cert.SsdConvIdeal.τ).loc Cert.SsdConvIdeal.main_arg1)
      ∧ m' ((c.tc : Thread Cert.SsdConvRefIdeal.nD Cert.SsdConvRefIdeal.τ).loc Cert.SsdConvRefIdeal.main_arg2) = m ((c.tc : Thread Cert.SsdConvIdeal.nD Cert.SsdConvIdeal.τ).loc Cert.SsdConvIdeal.main_arg2)) →
    ∃ (v0 : (c : Dev Cert.SsdConvIdeal.nD) → Buf (Elt Ideal) ((c.tc : Thread Cert.SsdConvIdeal.nD Cert.SsdConvIdeal.τ).loc Cert.SsdConvIdeal.main_v1)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v1) = v0 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ θ_run (Cert.SsdConvRefIdeal.defs (F := Ideal)) (onTc (τ := Cert.SsdConvRefIdeal.τ) (Cert.SsdConvRefIdeal.main (F := Ideal))) ⟨m', fun _ => 0, g'⟩ (fun r => ∀ c : Dev Cert.SsdConvRefIdeal.nD,
          r.2.mem ((c.tc : Thread Cert.SsdConvRefIdeal.nD Cert.SsdConvRefIdeal.τ).loc Cert.SsdConvRefIdeal.main_v41) = v0 c
          ∧ r.2.mem ((c.tc : Thread Cert.SsdConvRefIdeal.nD Cert.SsdConvRefIdeal.τ).loc Cert.SsdConvRefIdeal.main_arg0) = m' ((c.tc : Thread Cert.SsdConvRefIdeal.nD Cert.SsdConvRefIdeal.τ).loc Cert.SsdConvRefIdeal.main_arg0)
          ∧ r.2.mem ((c.tc : Thread Cert.SsdConvRefIdeal.nD Cert.SsdConvRefIdeal.τ).loc Cert.SsdConvRefIdeal.main_arg1) = m' ((c.tc : Thread Cert.SsdConvRefIdeal.nD Cert.SsdConvRefIdeal.τ).loc Cert.SsdConvRefIdeal.main_arg1)
          ∧ r.2.mem ((c.tc : Thread Cert.SsdConvRefIdeal.nD Cert.SsdConvRefIdeal.τ).loc Cert.SsdConvRefIdeal.main_arg2) = m' ((c.tc : Thread Cert.SsdConvRefIdeal.nD Cert.SsdConvRefIdeal.τ).loc Cert.SsdConvRefIdeal.main_arg2))

def preserves_FfnConv_FfnConvIdeal : Prop :=
  True

def algebraic_FfnConvIdeal_FfnConvRefIdeal [hFfnConvIdeal : Cert.FfnConvIdeal.Facts] [hFfnConvRefIdeal : Cert.FfnConvRefIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg)
    (m' : (ℓ : Loc Cert.FfnConvRefIdeal.nD Cert.FfnConvRefIdeal.τ Cert.FfnConvRefIdeal.sig) → Buf (Elt Ideal) ℓ) (g' : Dev Cert.FfnConvRefIdeal.nD → PrngReg), Pre_FfnConvIdeal m →
    (∀ c : Dev Cert.FfnConvIdeal.nD,
      m' ((c.tc : Thread Cert.FfnConvRefIdeal.nD Cert.FfnConvRefIdeal.τ).loc Cert.FfnConvRefIdeal.main_arg0) = m ((c.tc : Thread Cert.FfnConvIdeal.nD Cert.FfnConvIdeal.τ).loc Cert.FfnConvIdeal.main_arg0)
      ∧ m' ((c.tc : Thread Cert.FfnConvRefIdeal.nD Cert.FfnConvRefIdeal.τ).loc Cert.FfnConvRefIdeal.main_arg1) = m ((c.tc : Thread Cert.FfnConvIdeal.nD Cert.FfnConvIdeal.τ).loc Cert.FfnConvIdeal.main_arg1)
      ∧ m' ((c.tc : Thread Cert.FfnConvRefIdeal.nD Cert.FfnConvRefIdeal.τ).loc Cert.FfnConvRefIdeal.main_arg2) = m ((c.tc : Thread Cert.FfnConvIdeal.nD Cert.FfnConvIdeal.τ).loc Cert.FfnConvIdeal.main_arg2)
      ∧ m' ((c.tc : Thread Cert.FfnConvRefIdeal.nD Cert.FfnConvRefIdeal.τ).loc Cert.FfnConvRefIdeal.main_arg3) = m ((c.tc : Thread Cert.FfnConvIdeal.nD Cert.FfnConvIdeal.τ).loc Cert.FfnConvIdeal.main_arg3)) →
    ∃ (v0 : (c : Dev Cert.FfnConvIdeal.nD) → Buf (Elt Ideal) ((c.tc : Thread Cert.FfnConvIdeal.nD Cert.FfnConvIdeal.τ).loc Cert.FfnConvIdeal.main_v2)),
      θ_run (Cert.FfnConvIdeal.defs (F := Ideal)) (onTc (τ := Cert.FfnConvIdeal.τ) (Cert.FfnConvIdeal.main (F := Ideal))) ⟨m, fun _ => 0, g⟩ (fun r => ∀ c : Dev Cert.FfnConvIdeal.nD,
          r.2.mem ((c.tc : Thread Cert.FfnConvIdeal.nD Cert.FfnConvIdeal.τ).loc Cert.FfnConvIdeal.main_v2) = v0 c
          ∧ r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
          ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
          ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2)
          ∧ r.2.mem ((c.tc : Thread Cert.FfnConvIdeal.nD Cert.FfnConvIdeal.τ).loc Cert.FfnConvIdeal.main_arg3) = m ((c.tc : Thread Cert.FfnConvIdeal.nD Cert.FfnConvIdeal.τ).loc Cert.FfnConvIdeal.main_arg3))
      ∧ θ_run (Cert.FfnConvRefIdeal.defs (F := Ideal)) (onTc (τ := Cert.FfnConvRefIdeal.τ) (Cert.FfnConvRefIdeal.main (F := Ideal))) ⟨m', fun _ => 0, g'⟩ (fun r => ∀ c : Dev Cert.FfnConvRefIdeal.nD,
          r.2.mem ((c.tc : Thread Cert.FfnConvRefIdeal.nD Cert.FfnConvRefIdeal.τ).loc Cert.FfnConvRefIdeal.main_v53) = v0 c
          ∧ r.2.mem ((c.tc : Thread Cert.FfnConvRefIdeal.nD Cert.FfnConvRefIdeal.τ).loc Cert.FfnConvRefIdeal.main_arg0) = m' ((c.tc : Thread Cert.FfnConvRefIdeal.nD Cert.FfnConvRefIdeal.τ).loc Cert.FfnConvRefIdeal.main_arg0)
          ∧ r.2.mem ((c.tc : Thread Cert.FfnConvRefIdeal.nD Cert.FfnConvRefIdeal.τ).loc Cert.FfnConvRefIdeal.main_arg1) = m' ((c.tc : Thread Cert.FfnConvRefIdeal.nD Cert.FfnConvRefIdeal.τ).loc Cert.FfnConvRefIdeal.main_arg1)
          ∧ r.2.mem ((c.tc : Thread Cert.FfnConvRefIdeal.nD Cert.FfnConvRefIdeal.τ).loc Cert.FfnConvRefIdeal.main_arg2) = m' ((c.tc : Thread Cert.FfnConvRefIdeal.nD Cert.FfnConvRefIdeal.τ).loc Cert.FfnConvRefIdeal.main_arg2)
          ∧ r.2.mem ((c.tc : Thread Cert.FfnConvRefIdeal.nD Cert.FfnConvRefIdeal.τ).loc Cert.FfnConvRefIdeal.main_arg3) = m' ((c.tc : Thread Cert.FfnConvRefIdeal.nD Cert.FfnConvRefIdeal.τ).loc Cert.FfnConvRefIdeal.main_arg3))

def preserves_EvDt_EvDtIdeal : Prop :=
  True

def algebraic_EvDtIdeal_EvDtRefIdeal [hEvDtIdeal : Cert.EvDtIdeal.Facts] [hEvDtRefIdeal : Cert.EvDtRefIdeal.Facts] : Prop :=
  ∀ (m : (ℓ : Loc Cert.EvDtIdeal.nD Cert.EvDtIdeal.τ Cert.EvDtIdeal.sig) → Buf (Elt Ideal) ℓ) (g : Dev Cert.EvDtIdeal.nD → PrngReg)
    (m' : (ℓ : Loc Cert.EvDtRefIdeal.nD Cert.EvDtRefIdeal.τ Cert.EvDtRefIdeal.sig) → Buf (Elt Ideal) ℓ) (g' : Dev Cert.EvDtRefIdeal.nD → PrngReg), Pre_EvDtIdeal m →
    (∀ c : Dev Cert.EvDtIdeal.nD,
      m' ((c.tc : Thread Cert.EvDtRefIdeal.nD Cert.EvDtRefIdeal.τ).loc Cert.EvDtRefIdeal.main_arg0) = m ((c.tc : Thread Cert.EvDtIdeal.nD Cert.EvDtIdeal.τ).loc Cert.EvDtIdeal.main_arg0)
      ∧ m' ((c.tc : Thread Cert.EvDtRefIdeal.nD Cert.EvDtRefIdeal.τ).loc Cert.EvDtRefIdeal.main_arg1) = m ((c.tc : Thread Cert.EvDtIdeal.nD Cert.EvDtIdeal.τ).loc Cert.EvDtIdeal.main_arg1)) →
    ∃ (v0 : (c : Dev Cert.EvDtIdeal.nD) → Buf (Elt Ideal) ((c.tc : Thread Cert.EvDtIdeal.nD Cert.EvDtIdeal.τ).loc Cert.EvDtIdeal.main_v1)),
      θ_run (Cert.EvDtIdeal.defs (F := Ideal)) (onTc (τ := Cert.EvDtIdeal.τ) (Cert.EvDtIdeal.main (F := Ideal))) ⟨m, fun _ => 0, g⟩ (fun r => ∀ c : Dev Cert.EvDtIdeal.nD,
          r.2.mem ((c.tc : Thread Cert.EvDtIdeal.nD Cert.EvDtIdeal.τ).loc Cert.EvDtIdeal.main_v1) = v0 c
          ∧ r.2.mem ((c.tc : Thread Cert.EvDtIdeal.nD Cert.EvDtIdeal.τ).loc Cert.EvDtIdeal.main_arg0) = m ((c.tc : Thread Cert.EvDtIdeal.nD Cert.EvDtIdeal.τ).loc Cert.EvDtIdeal.main_arg0)
          ∧ r.2.mem ((c.tc : Thread Cert.EvDtIdeal.nD Cert.EvDtIdeal.τ).loc Cert.EvDtIdeal.main_arg1) = m ((c.tc : Thread Cert.EvDtIdeal.nD Cert.EvDtIdeal.τ).loc Cert.EvDtIdeal.main_arg1))
      ∧ θ_run (Cert.EvDtRefIdeal.defs (F := Ideal)) (onTc (τ := Cert.EvDtRefIdeal.τ) (Cert.EvDtRefIdeal.main (F := Ideal))) ⟨m', fun _ => 0, g'⟩ (fun r => ∀ c : Dev Cert.EvDtRefIdeal.nD,
          r.2.mem ((c.tc : Thread Cert.EvDtRefIdeal.nD Cert.EvDtRefIdeal.τ).loc Cert.EvDtRefIdeal.main_v3) = v0 c
          ∧ r.2.mem ((c.tc : Thread Cert.EvDtRefIdeal.nD Cert.EvDtRefIdeal.τ).loc Cert.EvDtRefIdeal.main_arg0) = m' ((c.tc : Thread Cert.EvDtRefIdeal.nD Cert.EvDtRefIdeal.τ).loc Cert.EvDtRefIdeal.main_arg0)
          ∧ r.2.mem ((c.tc : Thread Cert.EvDtRefIdeal.nD Cert.EvDtRefIdeal.τ).loc Cert.EvDtRefIdeal.main_arg1) = m' ((c.tc : Thread Cert.EvDtRefIdeal.nD Cert.EvDtRefIdeal.τ).loc Cert.EvDtRefIdeal.main_arg1))

def preserves_EvDwDt_EvDwDtIdeal : Prop :=
  True

def algebraic_EvDwDtIdeal_EvDwDtRefIdeal [hEvDwDtIdeal : Cert.EvDwDtIdeal.Facts] [hEvDwDtRefIdeal : Cert.EvDwDtRefIdeal.Facts] : Prop :=
  ∀ (m : (ℓ : Loc Cert.EvDwDtIdeal.nD Cert.EvDwDtIdeal.τ Cert.EvDwDtIdeal.sig) → Buf (Elt Ideal) ℓ) (g : Dev Cert.EvDwDtIdeal.nD → PrngReg)
    (m' : (ℓ : Loc Cert.EvDwDtRefIdeal.nD Cert.EvDwDtRefIdeal.τ Cert.EvDwDtRefIdeal.sig) → Buf (Elt Ideal) ℓ) (g' : Dev Cert.EvDwDtRefIdeal.nD → PrngReg), Pre_EvDwDtIdeal m →
    (∀ c : Dev Cert.EvDwDtIdeal.nD,
      m' ((c.tc : Thread Cert.EvDwDtRefIdeal.nD Cert.EvDwDtRefIdeal.τ).loc Cert.EvDwDtRefIdeal.main_arg0) = m ((c.tc : Thread Cert.EvDwDtIdeal.nD Cert.EvDwDtIdeal.τ).loc Cert.EvDwDtIdeal.main_arg0)
      ∧ m' ((c.tc : Thread Cert.EvDwDtRefIdeal.nD Cert.EvDwDtRefIdeal.τ).loc Cert.EvDwDtRefIdeal.main_arg1) = m ((c.tc : Thread Cert.EvDwDtIdeal.nD Cert.EvDwDtIdeal.τ).loc Cert.EvDwDtIdeal.main_arg1)) →
    ∃ (v0 : (c : Dev Cert.EvDwDtIdeal.nD) → Buf (Elt Ideal) ((c.tc : Thread Cert.EvDwDtIdeal.nD Cert.EvDwDtIdeal.τ).loc Cert.EvDwDtIdeal.main_v2)),
      θ_run (Cert.EvDwDtIdeal.defs (F := Ideal)) (onTc (τ := Cert.EvDwDtIdeal.τ) (Cert.EvDwDtIdeal.main (F := Ideal))) ⟨m, fun _ => 0, g⟩ (fun r => ∀ c : Dev Cert.EvDwDtIdeal.nD,
          r.2.mem ((c.tc : Thread Cert.EvDwDtIdeal.nD Cert.EvDwDtIdeal.τ).loc Cert.EvDwDtIdeal.main_v2) = v0 c
          ∧ r.2.mem ((c.tc : Thread Cert.EvDwDtIdeal.nD Cert.EvDwDtIdeal.τ).loc Cert.EvDwDtIdeal.main_arg0) = m ((c.tc : Thread Cert.EvDwDtIdeal.nD Cert.EvDwDtIdeal.τ).loc Cert.EvDwDtIdeal.main_arg0)
          ∧ r.2.mem ((c.tc : Thread Cert.EvDwDtIdeal.nD Cert.EvDwDtIdeal.τ).loc Cert.EvDwDtIdeal.main_arg1) = m ((c.tc : Thread Cert.EvDwDtIdeal.nD Cert.EvDwDtIdeal.τ).loc Cert.EvDwDtIdeal.main_arg1))
      ∧ θ_run (Cert.EvDwDtRefIdeal.defs (F := Ideal)) (onTc (τ := Cert.EvDwDtRefIdeal.τ) (Cert.EvDwDtRefIdeal.main (F := Ideal))) ⟨m', fun _ => 0, g'⟩ (fun r => ∀ c : Dev Cert.EvDwDtRefIdeal.nD,
          r.2.mem ((c.tc : Thread Cert.EvDwDtRefIdeal.nD Cert.EvDwDtRefIdeal.τ).loc Cert.EvDwDtRefIdeal.main_v4) = v0 c
          ∧ r.2.mem ((c.tc : Thread Cert.EvDwDtRefIdeal.nD Cert.EvDwDtRefIdeal.τ).loc Cert.EvDwDtRefIdeal.main_arg0) = m' ((c.tc : Thread Cert.EvDwDtRefIdeal.nD Cert.EvDwDtRefIdeal.τ).loc Cert.EvDwDtRefIdeal.main_arg0)
          ∧ r.2.mem ((c.tc : Thread Cert.EvDwDtRefIdeal.nD Cert.EvDwDtRefIdeal.τ).loc Cert.EvDwDtRefIdeal.main_arg1) = m' ((c.tc : Thread Cert.EvDwDtRefIdeal.nD Cert.EvDwDtRefIdeal.τ).loc Cert.EvDwDtRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v1) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v1)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v1) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_ModDctx_ModDctxIdeal : Prop :=
  True

def algebraic_ModDctxIdeal_ModDctxRefIdeal [hModDctxIdeal : Cert.ModDctxIdeal.Facts] [hModDctxRefIdeal : Cert.ModDctxRefIdeal.Facts] : Prop :=
  ∀ (m : (ℓ : Loc Cert.ModDctxIdeal.nD Cert.ModDctxIdeal.τ Cert.ModDctxIdeal.sig) → Buf (Elt Ideal) ℓ) (g : Dev Cert.ModDctxIdeal.nD → PrngReg)
    (m' : (ℓ : Loc Cert.ModDctxRefIdeal.nD Cert.ModDctxRefIdeal.τ Cert.ModDctxRefIdeal.sig) → Buf (Elt Ideal) ℓ) (g' : Dev Cert.ModDctxRefIdeal.nD → PrngReg), Pre_ModDctxIdeal m →
    (∀ c : Dev Cert.ModDctxIdeal.nD,
      m' ((c.tc : Thread Cert.ModDctxRefIdeal.nD Cert.ModDctxRefIdeal.τ).loc Cert.ModDctxRefIdeal.main_arg0) = m ((c.tc : Thread Cert.ModDctxIdeal.nD Cert.ModDctxIdeal.τ).loc Cert.ModDctxIdeal.main_arg0)
      ∧ m' ((c.tc : Thread Cert.ModDctxRefIdeal.nD Cert.ModDctxRefIdeal.τ).loc Cert.ModDctxRefIdeal.main_arg1) = m ((c.tc : Thread Cert.ModDctxIdeal.nD Cert.ModDctxIdeal.τ).loc Cert.ModDctxIdeal.main_arg1)) →
    ∃ (v0 : (c : Dev Cert.ModDctxIdeal.nD) → Buf (Elt Ideal) ((c.tc : Thread Cert.ModDctxIdeal.nD Cert.ModDctxIdeal.τ).loc Cert.ModDctxIdeal.main_v1)),
      θ_run (Cert.ModDctxIdeal.defs (F := Ideal)) (onTc (τ := Cert.ModDctxIdeal.τ) (Cert.ModDctxIdeal.main (F := Ideal))) ⟨m, fun _ => 0, g⟩ (fun r => ∀ c : Dev Cert.ModDctxIdeal.nD,
          r.2.mem ((c.tc : Thread Cert.ModDctxIdeal.nD Cert.ModDctxIdeal.τ).loc Cert.ModDctxIdeal.main_v1) = v0 c
          ∧ r.2.mem ((c.tc : Thread Cert.ModDctxIdeal.nD Cert.ModDctxIdeal.τ).loc Cert.ModDctxIdeal.main_arg0) = m ((c.tc : Thread Cert.ModDctxIdeal.nD Cert.ModDctxIdeal.τ).loc Cert.ModDctxIdeal.main_arg0)
          ∧ r.2.mem ((c.tc : Thread Cert.ModDctxIdeal.nD Cert.ModDctxIdeal.τ).loc Cert.ModDctxIdeal.main_arg1) = m ((c.tc : Thread Cert.ModDctxIdeal.nD Cert.ModDctxIdeal.τ).loc Cert.ModDctxIdeal.main_arg1))
      ∧ θ_run (Cert.ModDctxRefIdeal.defs (F := Ideal)) (onTc (τ := Cert.ModDctxRefIdeal.τ) (Cert.ModDctxRefIdeal.main (F := Ideal))) ⟨m', fun _ => 0, g'⟩ (fun r => ∀ c : Dev Cert.ModDctxRefIdeal.nD,
          r.2.mem ((c.tc : Thread Cert.ModDctxRefIdeal.nD Cert.ModDctxRefIdeal.τ).loc Cert.ModDctxRefIdeal.main_v3) = v0 c
          ∧ r.2.mem ((c.tc : Thread Cert.ModDctxRefIdeal.nD Cert.ModDctxRefIdeal.τ).loc Cert.ModDctxRefIdeal.main_arg0) = m' ((c.tc : Thread Cert.ModDctxRefIdeal.nD Cert.ModDctxRefIdeal.τ).loc Cert.ModDctxRefIdeal.main_arg0)
          ∧ r.2.mem ((c.tc : Thread Cert.ModDctxRefIdeal.nD Cert.ModDctxRefIdeal.τ).loc Cert.ModDctxRefIdeal.main_arg1) = m' ((c.tc : Thread Cert.ModDctxRefIdeal.nD Cert.ModDctxRefIdeal.τ).loc Cert.ModDctxRefIdeal.main_arg1))

def preserves_ModSilu_ModSiluIdeal : Prop :=
  True

def algebraic_ModSiluIdeal_ModSiluRefIdeal [hModSiluIdeal : Cert.ModSiluIdeal.Facts] [hModSiluRefIdeal : Cert.ModSiluRefIdeal.Facts] : Prop :=
  ∀ (m : (ℓ : Loc Cert.ModSiluIdeal.nD Cert.ModSiluIdeal.τ Cert.ModSiluIdeal.sig) → Buf (Elt Ideal) ℓ) (g : Dev Cert.ModSiluIdeal.nD → PrngReg)
    (m' : (ℓ : Loc Cert.ModSiluRefIdeal.nD Cert.ModSiluRefIdeal.τ Cert.ModSiluRefIdeal.sig) → Buf (Elt Ideal) ℓ) (g' : Dev Cert.ModSiluRefIdeal.nD → PrngReg), Pre_ModSiluIdeal m →
    (∀ c : Dev Cert.ModSiluIdeal.nD,
      m' ((c.tc : Thread Cert.ModSiluRefIdeal.nD Cert.ModSiluRefIdeal.τ).loc Cert.ModSiluRefIdeal.main_arg0) = m ((c.tc : Thread Cert.ModSiluIdeal.nD Cert.ModSiluIdeal.τ).loc Cert.ModSiluIdeal.main_arg0)) →
    ∃ (v0 : (c : Dev Cert.ModSiluIdeal.nD) → Buf (Elt Ideal) ((c.tc : Thread Cert.ModSiluIdeal.nD Cert.ModSiluIdeal.τ).loc Cert.ModSiluIdeal.main_v0)),
      θ_run (Cert.ModSiluIdeal.defs (F := Ideal)) (onTc (τ := Cert.ModSiluIdeal.τ) (Cert.ModSiluIdeal.main (F := Ideal))) ⟨m, fun _ => 0, g⟩ (fun r => ∀ c : Dev Cert.ModSiluIdeal.nD,
          r.2.mem ((c.tc : Thread Cert.ModSiluIdeal.nD Cert.ModSiluIdeal.τ).loc Cert.ModSiluIdeal.main_v0) = v0 c
          ∧ r.2.mem ((c.tc : Thread Cert.ModSiluIdeal.nD Cert.ModSiluIdeal.τ).loc Cert.ModSiluIdeal.main_arg0) = m ((c.tc : Thread Cert.ModSiluIdeal.nD Cert.ModSiluIdeal.τ).loc Cert.ModSiluIdeal.main_arg0))
      ∧ θ_run (Cert.ModSiluRefIdeal.defs (F := Ideal)) (onTc (τ := Cert.ModSiluRefIdeal.τ) (Cert.ModSiluRefIdeal.main (F := Ideal))) ⟨m', fun _ => 0, g'⟩ (fun r => ∀ c : Dev Cert.ModSiluRefIdeal.nD,
          r.2.mem ((c.tc : Thread Cert.ModSiluRefIdeal.nD Cert.ModSiluRefIdeal.τ).loc Cert.ModSiluRefIdeal.main_v0) = v0 c
          ∧ r.2.mem ((c.tc : Thread Cert.ModSiluRefIdeal.nD Cert.ModSiluRefIdeal.τ).loc Cert.ModSiluRefIdeal.main_arg0) = m' ((c.tc : Thread Cert.ModSiluRefIdeal.nD Cert.ModSiluRefIdeal.τ).loc Cert.ModSiluRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v78) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_ResA_ResAIdeal : Prop :=
  True

def algebraic_ResAIdeal_ResARefIdeal [hResAIdeal : Cert.ResAIdeal.Facts] [hResARefIdeal : Cert.ResARefIdeal.Facts] : Prop :=
  ∀ (m : (ℓ : Loc Cert.ResAIdeal.nD Cert.ResAIdeal.τ Cert.ResAIdeal.sig) → Buf (Elt Ideal) ℓ) (g : Dev Cert.ResAIdeal.nD → PrngReg)
    (m' : (ℓ : Loc Cert.ResARefIdeal.nD Cert.ResARefIdeal.τ Cert.ResARefIdeal.sig) → Buf (Elt Ideal) ℓ) (g' : Dev Cert.ResARefIdeal.nD → PrngReg), Pre_ResAIdeal m →
    (∀ c : Dev Cert.ResAIdeal.nD,
      m' ((c.tc : Thread Cert.ResARefIdeal.nD Cert.ResARefIdeal.τ).loc Cert.ResARefIdeal.main_arg0) = m ((c.tc : Thread Cert.ResAIdeal.nD Cert.ResAIdeal.τ).loc Cert.ResAIdeal.main_arg0)
      ∧ m' ((c.tc : Thread Cert.ResARefIdeal.nD Cert.ResARefIdeal.τ).loc Cert.ResARefIdeal.main_arg1) = m ((c.tc : Thread Cert.ResAIdeal.nD Cert.ResAIdeal.τ).loc Cert.ResAIdeal.main_arg1)
      ∧ m' ((c.tc : Thread Cert.ResARefIdeal.nD Cert.ResARefIdeal.τ).loc Cert.ResARefIdeal.main_arg2) = m ((c.tc : Thread Cert.ResAIdeal.nD Cert.ResAIdeal.τ).loc Cert.ResAIdeal.main_arg2)
      ∧ m' ((c.tc : Thread Cert.ResARefIdeal.nD Cert.ResARefIdeal.τ).loc Cert.ResARefIdeal.main_arg3) = m ((c.tc : Thread Cert.ResAIdeal.nD Cert.ResAIdeal.τ).loc Cert.ResAIdeal.main_arg3)) →
    ∃ (v0 : (c : Dev Cert.ResAIdeal.nD) → Buf (Elt Ideal) ((c.tc : Thread Cert.ResAIdeal.nD Cert.ResAIdeal.τ).loc Cert.ResAIdeal.main_v1_0)) (v1 : (c : Dev Cert.ResAIdeal.nD) → Buf (Elt Ideal) ((c.tc : Thread Cert.ResAIdeal.nD Cert.ResAIdeal.τ).loc Cert.ResAIdeal.main_v1_1)),
      θ_run (Cert.ResAIdeal.defs (F := Ideal)) (onTc (τ := Cert.ResAIdeal.τ) (Cert.ResAIdeal.main (F := Ideal))) ⟨m, fun _ => 0, g⟩ (fun r => ∀ c : Dev Cert.ResAIdeal.nD,
          r.2.mem ((c.tc : Thread Cert.ResAIdeal.nD Cert.ResAIdeal.τ).loc Cert.ResAIdeal.main_v1_0) = v0 c
          ∧ r.2.mem ((c.tc : Thread Cert.ResAIdeal.nD Cert.ResAIdeal.τ).loc Cert.ResAIdeal.main_v1_1) = v1 c
          ∧ r.2.mem ((c.tc : Thread Cert.ResAIdeal.nD Cert.ResAIdeal.τ).loc Cert.ResAIdeal.main_arg0) = m ((c.tc : Thread Cert.ResAIdeal.nD Cert.ResAIdeal.τ).loc Cert.ResAIdeal.main_arg0)
          ∧ r.2.mem ((c.tc : Thread Cert.ResAIdeal.nD Cert.ResAIdeal.τ).loc Cert.ResAIdeal.main_arg1) = m ((c.tc : Thread Cert.ResAIdeal.nD Cert.ResAIdeal.τ).loc Cert.ResAIdeal.main_arg1)
          ∧ r.2.mem ((c.tc : Thread Cert.ResAIdeal.nD Cert.ResAIdeal.τ).loc Cert.ResAIdeal.main_arg2) = m ((c.tc : Thread Cert.ResAIdeal.nD Cert.ResAIdeal.τ).loc Cert.ResAIdeal.main_arg2)
          ∧ r.2.mem ((c.tc : Thread Cert.ResAIdeal.nD Cert.ResAIdeal.τ).loc Cert.ResAIdeal.main_arg3) = m ((c.tc : Thread Cert.ResAIdeal.nD Cert.ResAIdeal.τ).loc Cert.ResAIdeal.main_arg3))
      ∧ θ_run (Cert.ResARefIdeal.defs (F := Ideal)) (onTc (τ := Cert.ResARefIdeal.τ) (Cert.ResARefIdeal.main (F := Ideal))) ⟨m', fun _ => 0, g'⟩ (fun r => ∀ c : Dev Cert.ResARefIdeal.nD,
          r.2.mem ((c.tc : Thread Cert.ResARefIdeal.nD Cert.ResARefIdeal.τ).loc Cert.ResARefIdeal.main_v85) = v0 c
          ∧ r.2.mem ((c.tc : Thread Cert.ResARefIdeal.nD Cert.ResARefIdeal.τ).loc Cert.ResARefIdeal.main_v87) = v1 c
          ∧ r.2.mem ((c.tc : Thread Cert.ResARefIdeal.nD Cert.ResARefIdeal.τ).loc Cert.ResARefIdeal.main_arg0) = m' ((c.tc : Thread Cert.ResARefIdeal.nD Cert.ResARefIdeal.τ).loc Cert.ResARefIdeal.main_arg0)
          ∧ r.2.mem ((c.tc : Thread Cert.ResARefIdeal.nD Cert.ResARefIdeal.τ).loc Cert.ResARefIdeal.main_arg1) = m' ((c.tc : Thread Cert.ResARefIdeal.nD Cert.ResARefIdeal.τ).loc Cert.ResARefIdeal.main_arg1)
          ∧ r.2.mem ((c.tc : Thread Cert.ResARefIdeal.nD Cert.ResARefIdeal.τ).loc Cert.ResARefIdeal.main_arg2) = m' ((c.tc : Thread Cert.ResARefIdeal.nD Cert.ResARefIdeal.τ).loc Cert.ResARefIdeal.main_arg2)
          ∧ r.2.mem ((c.tc : Thread Cert.ResARefIdeal.nD Cert.ResARefIdeal.τ).loc Cert.ResARefIdeal.main_arg3) = m' ((c.tc : Thread Cert.ResARefIdeal.nD Cert.ResARefIdeal.τ).loc Cert.ResARefIdeal.main_arg3))

def preserves_ResB_ResBIdeal : Prop :=
  True

def algebraic_ResBIdeal_ResBRefIdeal [hResBIdeal : Cert.ResBIdeal.Facts] [hResBRefIdeal : Cert.ResBRefIdeal.Facts] : Prop :=
  ∀ (m : (ℓ : Loc Cert.ResBIdeal.nD Cert.ResBIdeal.τ Cert.ResBIdeal.sig) → Buf (Elt Ideal) ℓ) (g : Dev Cert.ResBIdeal.nD → PrngReg)
    (m' : (ℓ : Loc Cert.ResBRefIdeal.nD Cert.ResBRefIdeal.τ Cert.ResBRefIdeal.sig) → Buf (Elt Ideal) ℓ) (g' : Dev Cert.ResBRefIdeal.nD → PrngReg), Pre_ResBIdeal m →
    (∀ c : Dev Cert.ResBIdeal.nD,
      m' ((c.tc : Thread Cert.ResBRefIdeal.nD Cert.ResBRefIdeal.τ).loc Cert.ResBRefIdeal.main_arg0) = m ((c.tc : Thread Cert.ResBIdeal.nD Cert.ResBIdeal.τ).loc Cert.ResBIdeal.main_arg0)
      ∧ m' ((c.tc : Thread Cert.ResBRefIdeal.nD Cert.ResBRefIdeal.τ).loc Cert.ResBRefIdeal.main_arg1) = m ((c.tc : Thread Cert.ResBIdeal.nD Cert.ResBIdeal.τ).loc Cert.ResBIdeal.main_arg1)
      ∧ m' ((c.tc : Thread Cert.ResBRefIdeal.nD Cert.ResBRefIdeal.τ).loc Cert.ResBRefIdeal.main_arg2) = m ((c.tc : Thread Cert.ResBIdeal.nD Cert.ResBIdeal.τ).loc Cert.ResBIdeal.main_arg2)
      ∧ m' ((c.tc : Thread Cert.ResBRefIdeal.nD Cert.ResBRefIdeal.τ).loc Cert.ResBRefIdeal.main_arg3) = m ((c.tc : Thread Cert.ResBIdeal.nD Cert.ResBIdeal.τ).loc Cert.ResBIdeal.main_arg3)) →
    ∃ (v0 : (c : Dev Cert.ResBIdeal.nD) → Buf (Elt Ideal) ((c.tc : Thread Cert.ResBIdeal.nD Cert.ResBIdeal.τ).loc Cert.ResBIdeal.main_v1_0)) (v1 : (c : Dev Cert.ResBIdeal.nD) → Buf (Elt Ideal) ((c.tc : Thread Cert.ResBIdeal.nD Cert.ResBIdeal.τ).loc Cert.ResBIdeal.main_v1_1)),
      θ_run (Cert.ResBIdeal.defs (F := Ideal)) (onTc (τ := Cert.ResBIdeal.τ) (Cert.ResBIdeal.main (F := Ideal))) ⟨m, fun _ => 0, g⟩ (fun r => ∀ c : Dev Cert.ResBIdeal.nD,
          r.2.mem ((c.tc : Thread Cert.ResBIdeal.nD Cert.ResBIdeal.τ).loc Cert.ResBIdeal.main_v1_0) = v0 c
          ∧ r.2.mem ((c.tc : Thread Cert.ResBIdeal.nD Cert.ResBIdeal.τ).loc Cert.ResBIdeal.main_v1_1) = v1 c
          ∧ r.2.mem ((c.tc : Thread Cert.ResBIdeal.nD Cert.ResBIdeal.τ).loc Cert.ResBIdeal.main_arg0) = m ((c.tc : Thread Cert.ResBIdeal.nD Cert.ResBIdeal.τ).loc Cert.ResBIdeal.main_arg0)
          ∧ r.2.mem ((c.tc : Thread Cert.ResBIdeal.nD Cert.ResBIdeal.τ).loc Cert.ResBIdeal.main_arg1) = m ((c.tc : Thread Cert.ResBIdeal.nD Cert.ResBIdeal.τ).loc Cert.ResBIdeal.main_arg1)
          ∧ r.2.mem ((c.tc : Thread Cert.ResBIdeal.nD Cert.ResBIdeal.τ).loc Cert.ResBIdeal.main_arg2) = m ((c.tc : Thread Cert.ResBIdeal.nD Cert.ResBIdeal.τ).loc Cert.ResBIdeal.main_arg2)
          ∧ r.2.mem ((c.tc : Thread Cert.ResBIdeal.nD Cert.ResBIdeal.τ).loc Cert.ResBIdeal.main_arg3) = m ((c.tc : Thread Cert.ResBIdeal.nD Cert.ResBIdeal.τ).loc Cert.ResBIdeal.main_arg3))
      ∧ θ_run (Cert.ResBRefIdeal.defs (F := Ideal)) (onTc (τ := Cert.ResBRefIdeal.τ) (Cert.ResBRefIdeal.main (F := Ideal))) ⟨m', fun _ => 0, g'⟩ (fun r => ∀ c : Dev Cert.ResBRefIdeal.nD,
          r.2.mem ((c.tc : Thread Cert.ResBRefIdeal.nD Cert.ResBRefIdeal.τ).loc Cert.ResBRefIdeal.main_v85) = v0 c
          ∧ r.2.mem ((c.tc : Thread Cert.ResBRefIdeal.nD Cert.ResBRefIdeal.τ).loc Cert.ResBRefIdeal.main_v87) = v1 c
          ∧ r.2.mem ((c.tc : Thread Cert.ResBRefIdeal.nD Cert.ResBRefIdeal.τ).loc Cert.ResBRefIdeal.main_arg0) = m' ((c.tc : Thread Cert.ResBRefIdeal.nD Cert.ResBRefIdeal.τ).loc Cert.ResBRefIdeal.main_arg0)
          ∧ r.2.mem ((c.tc : Thread Cert.ResBRefIdeal.nD Cert.ResBRefIdeal.τ).loc Cert.ResBRefIdeal.main_arg1) = m' ((c.tc : Thread Cert.ResBRefIdeal.nD Cert.ResBRefIdeal.τ).loc Cert.ResBRefIdeal.main_arg1)
          ∧ r.2.mem ((c.tc : Thread Cert.ResBRefIdeal.nD Cert.ResBRefIdeal.τ).loc Cert.ResBRefIdeal.main_arg2) = m' ((c.tc : Thread Cert.ResBRefIdeal.nD Cert.ResBRefIdeal.τ).loc Cert.ResBRefIdeal.main_arg2)
          ∧ r.2.mem ((c.tc : Thread Cert.ResBRefIdeal.nD Cert.ResBRefIdeal.τ).loc Cert.ResBRefIdeal.main_arg3) = m' ((c.tc : Thread Cert.ResBRefIdeal.nD Cert.ResBRefIdeal.τ).loc Cert.ResBRefIdeal.main_arg3))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnDact : Cert.FfnDact.Facts) (hFfnDactIdeal : Cert.FfnDactIdeal.Facts) (hFfnDactRefIdeal : Cert.FfnDactRefIdeal.Facts) (hFfnDin : Cert.FfnDin.Facts) (hFfnDinIdeal : Cert.FfnDinIdeal.Facts) (hFfnDinRefIdeal : Cert.FfnDinRefIdeal.Facts) (hFfnDw : Cert.FfnDw.Facts) (hFfnDwIdeal : Cert.FfnDwIdeal.Facts) (hFfnDwRefIdeal : Cert.FfnDwRefIdeal.Facts) (hFfnDwDown : Cert.FfnDwDown.Facts) (hFfnDwDownIdeal : Cert.FfnDwDownIdeal.Facts) (hFfnDwDownRefIdeal : Cert.FfnDwDownRefIdeal.Facts) (hEvIn : Cert.EvIn.Facts) (hEvInIdeal : Cert.EvInIdeal.Facts) (hEvInRefIdeal : Cert.EvInRefIdeal.Facts) (hEvXbc : Cert.EvXbc.Facts) (hEvXbcIdeal : Cert.EvXbcIdeal.Facts) (hEvXbcRefIdeal : Cert.EvXbcRefIdeal.Facts) (hOdIn : Cert.OdIn.Facts) (hOdInIdeal : Cert.OdInIdeal.Facts) (hOdInRefIdeal : Cert.OdInRefIdeal.Facts) (hOdU : Cert.OdU.Facts) (hOdUIdeal : Cert.OdUIdeal.Facts) (hOdURefIdeal : Cert.OdURefIdeal.Facts) (hEvMix : Cert.EvMix.Facts) (hEvMixIdeal : Cert.EvMixIdeal.Facts) (hEvMixRefIdeal : Cert.EvMixRefIdeal.Facts) (hOdMix : Cert.OdMix.Facts) (hOdMixIdeal : Cert.OdMixIdeal.Facts) (hOdMixRefIdeal : Cert.OdMixRefIdeal.Facts) (hEvDout : Cert.EvDout.Facts) (hEvDoutIdeal : Cert.EvDoutIdeal.Facts) (hEvDoutRefIdeal : Cert.EvDoutRefIdeal.Facts) (hOdDout : Cert.OdDout.Facts) (hOdDoutIdeal : Cert.OdDoutIdeal.Facts) (hOdDoutRefIdeal : Cert.OdDoutRefIdeal.Facts) (hOdDoutU : Cert.OdDoutU.Facts) (hOdDoutUIdeal : Cert.OdDoutUIdeal.Facts) (hOdDoutURefIdeal : Cert.OdDoutURefIdeal.Facts) (hEvDw : Cert.EvDw.Facts) (hEvDwIdeal : Cert.EvDwIdeal.Facts) (hEvDwRefIdeal : Cert.EvDwRefIdeal.Facts) (hEvDwXbc : Cert.EvDwXbc.Facts) (hEvDwXbcIdeal : Cert.EvDwXbcIdeal.Facts) (hEvDwXbcRefIdeal : Cert.EvDwXbcRefIdeal.Facts) (hOdDw : Cert.OdDw.Facts) (hOdDwIdeal : Cert.OdDwIdeal.Facts) (hOdDwRefIdeal : Cert.OdDwRefIdeal.Facts) (hOdDwV : Cert.OdDwV.Facts) (hOdDwVIdeal : Cert.OdDwVIdeal.Facts) (hOdDwVRefIdeal : Cert.OdDwVRefIdeal.Facts) (hOdDwU : Cert.OdDwU.Facts) (hOdDwUIdeal : Cert.OdDwUIdeal.Facts) (hOdDwURefIdeal : Cert.OdDwURefIdeal.Facts) (hOdDwOut : Cert.OdDwOut.Facts) (hOdDwOutIdeal : Cert.OdDwOutIdeal.Facts) (hOdDwOutRefIdeal : Cert.OdDwOutRefIdeal.Facts) (hOdDwOutU : Cert.OdDwOutU.Facts) (hOdDwOutUIdeal : Cert.OdDwOutUIdeal.Facts) (hOdDwOutURefIdeal : Cert.OdDwOutURefIdeal.Facts) (hEvDhn : Cert.EvDhn.Facts) (hEvDhnIdeal : Cert.EvDhnIdeal.Facts) (hEvDhnRefIdeal : Cert.EvDhnRefIdeal.Facts) (hOdDhn : Cert.OdDhn.Facts) (hOdDhnIdeal : Cert.OdDhnIdeal.Facts) (hOdDhnRefIdeal : Cert.OdDhnRefIdeal.Facts) (hLruConvBwd : Cert.LruConvBwd.Facts) (hLruConvBwdIdeal : Cert.LruConvBwdIdeal.Facts) (hLruConvBwdRefIdeal : Cert.LruConvBwdRefIdeal.Facts) (hSsdConvBwd : Cert.SsdConvBwd.Facts) (hSsdConvBwdIdeal : Cert.SsdConvBwdIdeal.Facts) (hSsdConvBwdRefIdeal : Cert.SsdConvBwdRefIdeal.Facts) (hLruConv : Cert.LruConv.Facts) (hLruConvIdeal : Cert.LruConvIdeal.Facts) (hLruConvRefIdeal : Cert.LruConvRefIdeal.Facts) (hSsdConv : Cert.SsdConv.Facts) (hSsdConvIdeal : Cert.SsdConvIdeal.Facts) (hSsdConvRefIdeal : Cert.SsdConvRefIdeal.Facts) (hFfnConv : Cert.FfnConv.Facts) (hFfnConvIdeal : Cert.FfnConvIdeal.Facts) (hFfnConvRefIdeal : Cert.FfnConvRefIdeal.Facts) (hEvDt : Cert.EvDt.Facts) (hEvDtIdeal : Cert.EvDtIdeal.Facts) (hEvDtRefIdeal : Cert.EvDtRefIdeal.Facts) (hEvDwDt : Cert.EvDwDt.Facts) (hEvDwDtIdeal : Cert.EvDwDtIdeal.Facts) (hEvDwDtRefIdeal : Cert.EvDwDtRefIdeal.Facts) (hMod : Cert.Mod.Facts) (hModIdeal : Cert.ModIdeal.Facts) (hModRefIdeal : Cert.ModRefIdeal.Facts) (hModDw : Cert.ModDw.Facts) (hModDwIdeal : Cert.ModDwIdeal.Facts) (hModDwRefIdeal : Cert.ModDwRefIdeal.Facts) (hModDctx : Cert.ModDctx.Facts) (hModDctxIdeal : Cert.ModDctxIdeal.Facts) (hModDctxRefIdeal : Cert.ModDctxRefIdeal.Facts) (hModSilu : Cert.ModSilu.Facts) (hModSiluIdeal : Cert.ModSiluIdeal.Facts) (hModSiluRefIdeal : Cert.ModSiluRefIdeal.Facts) (hNorm : Cert.Norm.Facts) (hNormIdeal : Cert.NormIdeal.Facts) (hNormRefIdeal : Cert.NormRefIdeal.Facts) (hResA : Cert.ResA.Facts) (hResAIdeal : Cert.ResAIdeal.Facts) (hResARefIdeal : Cert.ResARefIdeal.Facts) (hResB : Cert.ResB.Facts) (hResBIdeal : Cert.ResBIdeal.Facts) (hResBRefIdeal : Cert.ResBRefIdeal.Facts) (hPre_finite : Cert.Pre_finite.Facts) (hPre_finite_line : Cert.Pre_finite_line.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnDact (hFfnDact := hFfnDact)
    ∧ quiescent_FfnDactIdeal (hFfnDactIdeal := hFfnDactIdeal)
    ∧ quiescent_FfnDactRefIdeal (hFfnDactRefIdeal := hFfnDactRefIdeal)
    ∧ quiescent_FfnDin (hFfnDin := hFfnDin)
    ∧ quiescent_FfnDinIdeal (hFfnDinIdeal := hFfnDinIdeal)
    ∧ quiescent_FfnDinRefIdeal (hFfnDinRefIdeal := hFfnDinRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvXbc (hEvXbc := hEvXbc)
    ∧ quiescent_EvXbcIdeal (hEvXbcIdeal := hEvXbcIdeal)
    ∧ quiescent_EvXbcRefIdeal (hEvXbcRefIdeal := hEvXbcRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_OdU (hOdU := hOdU)
    ∧ quiescent_OdUIdeal (hOdUIdeal := hOdUIdeal)
    ∧ quiescent_OdURefIdeal (hOdURefIdeal := hOdURefIdeal)
    ∧ quiescent_EvMix (hEvMix := hEvMix)
    ∧ quiescent_EvMixIdeal (hEvMixIdeal := hEvMixIdeal)
    ∧ quiescent_EvMixRefIdeal (hEvMixRefIdeal := hEvMixRefIdeal)
    ∧ quiescent_OdMix (hOdMix := hOdMix)
    ∧ quiescent_OdMixIdeal (hOdMixIdeal := hOdMixIdeal)
    ∧ quiescent_OdMixRefIdeal (hOdMixRefIdeal := hOdMixRefIdeal)
    ∧ quiescent_EvDout (hEvDout := hEvDout)
    ∧ quiescent_EvDoutIdeal (hEvDoutIdeal := hEvDoutIdeal)
    ∧ quiescent_EvDoutRefIdeal (hEvDoutRefIdeal := hEvDoutRefIdeal)
    ∧ quiescent_OdDout (hOdDout := hOdDout)
    ∧ quiescent_OdDoutIdeal (hOdDoutIdeal := hOdDoutIdeal)
    ∧ quiescent_OdDoutRefIdeal (hOdDoutRefIdeal := hOdDoutRefIdeal)
    ∧ quiescent_OdDoutU (hOdDoutU := hOdDoutU)
    ∧ quiescent_OdDoutUIdeal (hOdDoutUIdeal := hOdDoutUIdeal)
    ∧ quiescent_OdDoutURefIdeal (hOdDoutURefIdeal := hOdDoutURefIdeal)
    ∧ quiescent_EvDw (hEvDw := hEvDw)
    ∧ quiescent_EvDwIdeal (hEvDwIdeal := hEvDwIdeal)
    ∧ quiescent_EvDwRefIdeal (hEvDwRefIdeal := hEvDwRefIdeal)
    ∧ quiescent_EvDwXbc (hEvDwXbc := hEvDwXbc)
    ∧ quiescent_EvDwXbcIdeal (hEvDwXbcIdeal := hEvDwXbcIdeal)
    ∧ quiescent_EvDwXbcRefIdeal (hEvDwXbcRefIdeal := hEvDwXbcRefIdeal)
    ∧ quiescent_OdDw (hOdDw := hOdDw)
    ∧ quiescent_OdDwIdeal (hOdDwIdeal := hOdDwIdeal)
    ∧ quiescent_OdDwRefIdeal (hOdDwRefIdeal := hOdDwRefIdeal)
    ∧ quiescent_OdDwV (hOdDwV := hOdDwV)
    ∧ quiescent_OdDwVIdeal (hOdDwVIdeal := hOdDwVIdeal)
    ∧ quiescent_OdDwVRefIdeal (hOdDwVRefIdeal := hOdDwVRefIdeal)
    ∧ quiescent_OdDwU (hOdDwU := hOdDwU)
    ∧ quiescent_OdDwUIdeal (hOdDwUIdeal := hOdDwUIdeal)
    ∧ quiescent_OdDwURefIdeal (hOdDwURefIdeal := hOdDwURefIdeal)
    ∧ quiescent_OdDwOut (hOdDwOut := hOdDwOut)
    ∧ quiescent_OdDwOutIdeal (hOdDwOutIdeal := hOdDwOutIdeal)
    ∧ quiescent_OdDwOutRefIdeal (hOdDwOutRefIdeal := hOdDwOutRefIdeal)
    ∧ quiescent_OdDwOutU (hOdDwOutU := hOdDwOutU)
    ∧ quiescent_OdDwOutUIdeal (hOdDwOutUIdeal := hOdDwOutUIdeal)
    ∧ quiescent_OdDwOutURefIdeal (hOdDwOutURefIdeal := hOdDwOutURefIdeal)
    ∧ quiescent_EvDhn (hEvDhn := hEvDhn)
    ∧ quiescent_EvDhnIdeal (hEvDhnIdeal := hEvDhnIdeal)
    ∧ quiescent_EvDhnRefIdeal (hEvDhnRefIdeal := hEvDhnRefIdeal)
    ∧ quiescent_OdDhn (hOdDhn := hOdDhn)
    ∧ quiescent_OdDhnIdeal (hOdDhnIdeal := hOdDhnIdeal)
    ∧ quiescent_OdDhnRefIdeal (hOdDhnRefIdeal := hOdDhnRefIdeal)
    ∧ quiescent_LruConvBwd (hLruConvBwd := hLruConvBwd)
    ∧ quiescent_LruConvBwdIdeal (hLruConvBwdIdeal := hLruConvBwdIdeal)
    ∧ quiescent_LruConvBwdRefIdeal (hLruConvBwdRefIdeal := hLruConvBwdRefIdeal)
    ∧ quiescent_SsdConvBwd (hSsdConvBwd := hSsdConvBwd)
    ∧ quiescent_SsdConvBwdIdeal (hSsdConvBwdIdeal := hSsdConvBwdIdeal)
    ∧ quiescent_SsdConvBwdIdeal_pre_finite_line (hSsdConvBwdIdeal := hSsdConvBwdIdeal) (hPre_finite_line := hPre_finite_line)
    ∧ quiescent_SsdConvBwdRefIdeal (hSsdConvBwdRefIdeal := hSsdConvBwdRefIdeal)
    ∧ quiescent_SsdConvBwdRefIdeal_pre_finite_line (hSsdConvBwdRefIdeal := hSsdConvBwdRefIdeal) (hPre_finite_line := hPre_finite_line)
    ∧ quiescent_LruConv (hLruConv := hLruConv)
    ∧ quiescent_LruConvIdeal (hLruConvIdeal := hLruConvIdeal)
    ∧ quiescent_LruConvRefIdeal (hLruConvRefIdeal := hLruConvRefIdeal)
    ∧ quiescent_SsdConv (hSsdConv := hSsdConv)
    ∧ quiescent_SsdConvIdeal (hSsdConvIdeal := hSsdConvIdeal)
    ∧ quiescent_SsdConvRefIdeal (hSsdConvRefIdeal := hSsdConvRefIdeal)
    ∧ quiescent_FfnConv (hFfnConv := hFfnConv)
    ∧ quiescent_FfnConvIdeal (hFfnConvIdeal := hFfnConvIdeal)
    ∧ quiescent_FfnConvRefIdeal (hFfnConvRefIdeal := hFfnConvRefIdeal)
    ∧ quiescent_EvDt (hEvDt := hEvDt)
    ∧ quiescent_EvDtIdeal (hEvDtIdeal := hEvDtIdeal)
    ∧ quiescent_EvDtRefIdeal (hEvDtRefIdeal := hEvDtRefIdeal)
    ∧ quiescent_EvDwDt (hEvDwDt := hEvDwDt)
    ∧ quiescent_EvDwDtIdeal (hEvDwDtIdeal := hEvDwDtIdeal)
    ∧ quiescent_EvDwDtRefIdeal (hEvDwDtRefIdeal := hEvDwDtRefIdeal)
    ∧ quiescent_Mod (hMod := hMod)
    ∧ quiescent_ModIdeal (hModIdeal := hModIdeal)
    ∧ quiescent_ModRefIdeal (hModRefIdeal := hModRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_ModDctx (hModDctx := hModDctx)
    ∧ quiescent_ModDctxIdeal (hModDctxIdeal := hModDctxIdeal)
    ∧ quiescent_ModDctxRefIdeal (hModDctxRefIdeal := hModDctxRefIdeal)
    ∧ quiescent_ModSilu (hModSilu := hModSilu)
    ∧ quiescent_ModSiluIdeal (hModSiluIdeal := hModSiluIdeal)
    ∧ quiescent_ModSiluRefIdeal (hModSiluRefIdeal := hModSiluRefIdeal)
    ∧ quiescent_Norm (hNorm := hNorm)
    ∧ quiescent_NormIdeal (hNormIdeal := hNormIdeal)
    ∧ quiescent_NormRefIdeal (hNormRefIdeal := hNormRefIdeal)
    ∧ quiescent_ResA (hResA := hResA)
    ∧ quiescent_ResAIdeal (hResAIdeal := hResAIdeal)
    ∧ quiescent_ResARefIdeal (hResARefIdeal := hResARefIdeal)
    ∧ quiescent_ResB (hResB := hResB)
    ∧ quiescent_ResBIdeal (hResBIdeal := hResBIdeal)
    ∧ quiescent_ResBRefIdeal (hResBRefIdeal := hResBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnDact_FfnDactIdeal
    ∧ algebraic_FfnDactIdeal_FfnDactRefIdeal (hFfnDactIdeal := hFfnDactIdeal) (hFfnDactRefIdeal := hFfnDactRefIdeal)
    ∧ preserves_FfnDin_FfnDinIdeal
    ∧ algebraic_FfnDinIdeal_FfnDinRefIdeal (hFfnDinIdeal := hFfnDinIdeal) (hFfnDinRefIdeal := hFfnDinRefIdeal)
    ∧ preserves_FfnDw_FfnDwIdeal
    ∧ algebraic_FfnDwIdeal_FfnDwRefIdeal (hFfnDwIdeal := hFfnDwIdeal) (hFfnDwRefIdeal := hFfnDwRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_EvIn_EvInIdeal
    ∧ algebraic_EvInIdeal_EvInRefIdeal (hEvInIdeal := hEvInIdeal) (hEvInRefIdeal := hEvInRefIdeal)
    ∧ preserves_EvXbc_EvXbcIdeal
    ∧ algebraic_EvXbcIdeal_EvXbcRefIdeal (hEvXbcIdeal := hEvXbcIdeal) (hEvXbcRefIdeal := hEvXbcRefIdeal)
    ∧ preserves_OdIn_OdInIdeal
    ∧ algebraic_OdInIdeal_OdInRefIdeal (hOdInIdeal := hOdInIdeal) (hOdInRefIdeal := hOdInRefIdeal)
    ∧ preserves_OdU_OdUIdeal
    ∧ algebraic_OdUIdeal_OdURefIdeal (hOdUIdeal := hOdUIdeal) (hOdURefIdeal := hOdURefIdeal)
    ∧ preserves_EvMix_EvMixIdeal
    ∧ algebraic_EvMixIdeal_EvMixRefIdeal (hEvMixIdeal := hEvMixIdeal) (hEvMixRefIdeal := hEvMixRefIdeal)
    ∧ preserves_OdMix_OdMixIdeal
    ∧ algebraic_OdMixIdeal_OdMixRefIdeal (hOdMixIdeal := hOdMixIdeal) (hOdMixRefIdeal := hOdMixRefIdeal)
    ∧ preserves_EvDout_EvDoutIdeal
    ∧ algebraic_EvDoutIdeal_EvDoutRefIdeal (hEvDoutIdeal := hEvDoutIdeal) (hEvDoutRefIdeal := hEvDoutRefIdeal)
    ∧ preserves_OdDout_OdDoutIdeal
    ∧ algebraic_OdDoutIdeal_OdDoutRefIdeal (hOdDoutIdeal := hOdDoutIdeal) (hOdDoutRefIdeal := hOdDoutRefIdeal)
    ∧ preserves_OdDoutU_OdDoutUIdeal
    ∧ algebraic_OdDoutUIdeal_OdDoutURefIdeal (hOdDoutUIdeal := hOdDoutUIdeal) (hOdDoutURefIdeal := hOdDoutURefIdeal)
    ∧ preserves_EvDw_EvDwIdeal
    ∧ algebraic_EvDwIdeal_EvDwRefIdeal (hEvDwIdeal := hEvDwIdeal) (hEvDwRefIdeal := hEvDwRefIdeal)
    ∧ preserves_EvDwXbc_EvDwXbcIdeal
    ∧ algebraic_EvDwXbcIdeal_EvDwXbcRefIdeal (hEvDwXbcIdeal := hEvDwXbcIdeal) (hEvDwXbcRefIdeal := hEvDwXbcRefIdeal)
    ∧ preserves_OdDw_OdDwIdeal
    ∧ algebraic_OdDwIdeal_OdDwRefIdeal (hOdDwIdeal := hOdDwIdeal) (hOdDwRefIdeal := hOdDwRefIdeal)
    ∧ preserves_OdDwV_OdDwVIdeal
    ∧ algebraic_OdDwVIdeal_OdDwVRefIdeal (hOdDwVIdeal := hOdDwVIdeal) (hOdDwVRefIdeal := hOdDwVRefIdeal)
    ∧ preserves_OdDwU_OdDwUIdeal
    ∧ algebraic_OdDwUIdeal_OdDwURefIdeal (hOdDwUIdeal := hOdDwUIdeal) (hOdDwURefIdeal := hOdDwURefIdeal)
    ∧ preserves_OdDwOut_OdDwOutIdeal
    ∧ algebraic_OdDwOutIdeal_OdDwOutRefIdeal (hOdDwOutIdeal := hOdDwOutIdeal) (hOdDwOutRefIdeal := hOdDwOutRefIdeal)
    ∧ preserves_OdDwOutU_OdDwOutUIdeal
    ∧ algebraic_OdDwOutUIdeal_OdDwOutURefIdeal (hOdDwOutUIdeal := hOdDwOutUIdeal) (hOdDwOutURefIdeal := hOdDwOutURefIdeal)
    ∧ preserves_EvDhn_EvDhnIdeal
    ∧ algebraic_EvDhnIdeal_EvDhnRefIdeal (hEvDhnIdeal := hEvDhnIdeal) (hEvDhnRefIdeal := hEvDhnRefIdeal)
    ∧ preserves_OdDhn_OdDhnIdeal
    ∧ algebraic_OdDhnIdeal_OdDhnRefIdeal (hOdDhnIdeal := hOdDhnIdeal) (hOdDhnRefIdeal := hOdDhnRefIdeal)
    ∧ preserves_LruConvBwd_LruConvBwdIdeal
    ∧ algebraic_LruConvBwdIdeal_LruConvBwdRefIdeal (hLruConvBwdIdeal := hLruConvBwdIdeal) (hLruConvBwdRefIdeal := hLruConvBwdRefIdeal)
    ∧ preserves_SsdConvBwd_SsdConvBwdIdeal
    ∧ algebraic_SsdConvBwdIdeal_SsdConvBwdRefIdeal_pre_finite_line (hSsdConvBwdIdeal := hSsdConvBwdIdeal) (hSsdConvBwdRefIdeal := hSsdConvBwdRefIdeal) (hPre_finite_line := hPre_finite_line)
    ∧ preserves_LruConv_LruConvIdeal
    ∧ algebraic_LruConvIdeal_LruConvRefIdeal (hLruConvIdeal := hLruConvIdeal) (hLruConvRefIdeal := hLruConvRefIdeal)
    ∧ preserves_SsdConv_SsdConvIdeal
    ∧ algebraic_SsdConvIdeal_SsdConvRefIdeal (hSsdConvIdeal := hSsdConvIdeal) (hSsdConvRefIdeal := hSsdConvRefIdeal)
    ∧ preserves_FfnConv_FfnConvIdeal
    ∧ algebraic_FfnConvIdeal_FfnConvRefIdeal (hFfnConvIdeal := hFfnConvIdeal) (hFfnConvRefIdeal := hFfnConvRefIdeal)
    ∧ preserves_EvDt_EvDtIdeal
    ∧ algebraic_EvDtIdeal_EvDtRefIdeal (hEvDtIdeal := hEvDtIdeal) (hEvDtRefIdeal := hEvDtRefIdeal)
    ∧ preserves_EvDwDt_EvDwDtIdeal
    ∧ algebraic_EvDwDtIdeal_EvDwDtRefIdeal (hEvDwDtIdeal := hEvDwDtIdeal) (hEvDwDtRefIdeal := hEvDwDtRefIdeal)
    ∧ preserves_Mod_ModIdeal
    ∧ algebraic_ModIdeal_ModRefIdeal (hModIdeal := hModIdeal) (hModRefIdeal := hModRefIdeal)
    ∧ preserves_ModDw_ModDwIdeal
    ∧ algebraic_ModDwIdeal_ModDwRefIdeal (hModDwIdeal := hModDwIdeal) (hModDwRefIdeal := hModDwRefIdeal)
    ∧ preserves_ModDctx_ModDctxIdeal
    ∧ algebraic_ModDctxIdeal_ModDctxRefIdeal (hModDctxIdeal := hModDctxIdeal) (hModDctxRefIdeal := hModDctxRefIdeal)
    ∧ preserves_ModSilu_ModSiluIdeal
    ∧ algebraic_ModSiluIdeal_ModSiluRefIdeal (hModSiluIdeal := hModSiluIdeal) (hModSiluRefIdeal := hModSiluRefIdeal)
    ∧ preserves_Norm_NormIdeal
    ∧ algebraic_NormIdeal_NormRefIdeal (hNormIdeal := hNormIdeal) (hNormRefIdeal := hNormRefIdeal)
    ∧ preserves_ResA_ResAIdeal
    ∧ algebraic_ResAIdeal_ResARefIdeal (hResAIdeal := hResAIdeal) (hResARefIdeal := hResARefIdeal)
    ∧ preserves_ResB_ResBIdeal
    ∧ algebraic_ResBIdeal_ResBRefIdeal (hResBIdeal := hResBIdeal) (hResBRefIdeal := hResBRefIdeal)
-- ==== Pre_finite.lean ====
abbrev S4x2304x2816 : Shape := ⟨3, ![4, 2304, 2816]⟩
abbrev S3x3x2816 : Shape := ⟨3, ![3, 3, 2816]⟩
abbrev S2816 : Shape := ⟨1, ![2816]⟩
abbrev S_ : Shape := ⟨0, ![]⟩

class Facts : Prop where
  bcast_S_S4x2304x2816 : S_.BroadcastsInDim S4x2304x2816 (![] : Fin 0 → Fin S4x2304x2816.rank)

variable [Facts]

def fn {F : FTy → Type} [FloatOps F] (main_arg0 : FVec F S4x2304x2816 .f32) (main_arg1 : FVec F S3x3x2816 .f32) (main_arg2 : FVec F S2816 .f32) (main_arg3 : FVec F S4x2304x2816 .f32) (main_arg4 : FVec F S4x2304x2816 .f32) : IVec S4x2304x2816 1 × IVec S4x2304x2816 1 :=
  let main_v0 : FVec F S4x2304x2816 .f32 := Host.absf main_arg3
  let main_cst : FVec F S_ .f32 := constant S_ .f32 0x7F800000#32
  let main_v1 : FVec F S4x2304x2816 .f32 := broadcastInDim S4x2304x2816 ![] bcast_S_S4x2304x2816 main_cst
  let main_v2 : IVec S4x2304x2816 1 := cmpf .olt main_v0 main_v1
  let main_v3 : FVec F S4x2304x2816 .f32 := Host.absf main_arg4
  let main_cst_0 : FVec F S_ .f32 := constant S_ .f32 0x7F800000#32
  let main_v4 : FVec F S4x2304x2816 .f32 := broadcastInDim S4x2304x2816 ![] bcast_S_S4x2304x2816 main_cst_0
  let main_v5 : IVec S4x2304x2816 1 := cmpf .olt main_v3 main_v4
  (main_v2, main_v5)
-- ==== Pre_finite_line.lean ====
abbrev S4x2304x1536 : Shape := ⟨3, ![4, 2304, 1536]⟩
abbrev S4x1536 : Shape := ⟨2, ![4, 1536]⟩
abbrev S1536 : Shape := ⟨1, ![1536]⟩
abbrev S_ : Shape := ⟨0, ![]⟩

class Facts : Prop where
  bcast_S_S4x2304x1536 : S_.BroadcastsInDim S4x2304x1536 (![] : Fin 0 → Fin S4x2304x1536.rank)

variable [Facts]

def fn {F : FTy → Type} [FloatOps F] (main_arg0 : FVec F S4x2304x1536 .f32) (main_arg1 : FVec F S4x1536 .f32) (main_arg2 : FVec F S1536 .f32) (main_arg3 : FVec F S4x2304x1536 .f32) : IVec S4x2304x1536 1 :=
  let main_v0 : FVec F S4x2304x1536 .f32 := Host.absf main_arg3
  let main_cst : FVec F S_ .f32 := constant S_ .f32 0x7F800000#32
  let main_v1 : FVec F S4x2304x1536 .f32 := broadcastInDim S4x2304x1536 ![] bcast_S_S4x2304x1536 main_cst
  let main_v2 : IVec S4x2304x1536 1 := cmpf .olt main_v0 main_v1
  main_v2
-- ==== Kernel.lean ====
abbrev S4x2304x2816 : Shape := ⟨3, ![4, 2304, 2816]⟩
abbrev S3x3x2816 : Shape := ⟨3, ![3, 3, 2816]⟩
abbrev S2816 : Shape := ⟨1, ![2816]⟩
abbrev S9x2816 : Shape := ⟨2, ![9, 2816]⟩
abbrev S1x2816 : Shape := ⟨2, ![1, 2816]⟩
abbrev S1x2304x256 : Shape := ⟨3, ![1, 2304, 256]⟩
abbrev S9x256 : Shape := ⟨2, ![9, 256]⟩
abbrev S1x256 : Shape := ⟨2, ![1, 256]⟩
abbrev S2304x256 : Shape := ⟨2, ![2304, 256]⟩
abbrev S2304x1 : Shape := ⟨2, ![2304, 1]⟩
abbrev S256 : Shape := ⟨1, ![256]⟩

abbrev nBuf : Space → Nat
  | .hbm => 11
  | .vmem => 18
  | .smem => 0
  | _ => 0

abbrev bufTy : (tb : Table) → Fin (tcTables nBuf tb) → BufTy
  | .hbm, ⟨0, _⟩ => ⟨S4x2304x2816, .f32⟩
  | .hbm, ⟨1, _⟩ => ⟨S3x3x2816, .f32⟩
  | .hbm, ⟨2, _⟩ => ⟨S2816, .f32⟩
  | .hbm, ⟨3, _⟩ => ⟨S4x2304x2816, .f32⟩
  | .hbm, ⟨4, _⟩ => ⟨S4x2304x2816, .f32⟩
  | .hbm, ⟨5, _⟩ => ⟨S9x2816, .f32⟩
  | .hbm, ⟨6, _⟩ => ⟨S1x2816, .f32⟩
  | .hbm, ⟨7, _⟩ => ⟨S4x2304x2816, .bf16⟩
  | .hbm, ⟨8, _⟩ => ⟨S9x2816, .f32⟩
  | .hbm, ⟨9, _⟩ => ⟨S1x2816, .f32⟩
  | .hbm, ⟨10, _⟩ => ⟨S4x2304x2816, .bf16⟩
  | .local _ .vmem, ⟨0, _⟩ => ⟨S1x2304x256, .f32⟩
  | .local _ .vmem, ⟨1, _⟩ => ⟨S1x2304x256, .f32⟩
  | .local _ .vmem, ⟨2, _⟩ => ⟨S9x256, .f32⟩
  | .local _ .vmem, ⟨3, _⟩ => ⟨S9x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .f32⟩
  | .local _ .vmem, ⟨9, _⟩ => ⟨S1x2304x256, .f32⟩
  | .local _ .vmem, ⟨10, _⟩ => ⟨S1x2304x256, .bf16⟩
  | .local _ .vmem, ⟨11, _⟩ => ⟨S1x2304x256, .bf16⟩
  | .local _ .vmem, ⟨12, _⟩ => ⟨S9x256, .f32⟩
  | .local _ .vmem, ⟨13, _⟩ => ⟨S9x256, .f32⟩
  | .local _ .vmem, ⟨14, _⟩ => ⟨S1x256, .f32⟩
  | .local _ .vmem, ⟨15, _⟩ => ⟨S1x256, .f32⟩
  | .local _ .vmem, ⟨16, _⟩ => ⟨S1x2304x256, .bf16⟩
  | .local _ .vmem, ⟨17, _⟩ => ⟨S1x2304x256, .bf16⟩
  | _, _ => ⟨S4x2304x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32_190 : BitVec 32 := 0#32
  let v465 : BitVec 1 := Scalar.cmpi .eq arg1 c0_i32_190
  let v466 : BitVec 32 := Scalar.extui v465
  let c0_i32_191 : BitVec 32 := 0#32
  let v467 : BitVec 1 := Scalar.cmpi .ne v466 c0_i32_191
  v467

def k0_cond2 (i : grid0.Coords) : BitVec 1 :=
  let arg1 : BitVec 32 := BitVec.ofNat 32 (i 1).val
  let c0_i32_192 : BitVec 32 := 0#32
  let v468 : BitVec 1 := Scalar.cmpi .sgt arg1 c0_i32_192
  let v469 : BitVec 32 := Scalar.extui v468
  let c0_i32_193 : BitVec 32 := 0#32
  let v470 : BitVec 1 := Scalar.cmpi .ne v469 c0_i32_193
  v470

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S9x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2304x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x2304x2816 : Shape := ⟨3, ![4, 2304, 2816]⟩
abbrev S3x3x2816 : Shape := ⟨3, ![3, 3, 2816]⟩
abbrev S2816 : Shape := ⟨1, ![2816]⟩
abbrev S4x256x2816 : Shape := ⟨3, ![4, 256, 2816]⟩
abbrev S4x2048x2816 : Shape := ⟨3, ![4, 2048, 2816]⟩
abbrev S1x3x2816 : Shape := ⟨3, ![1, 3, 2816]⟩
abbrev S3x2816 : Shape := ⟨2, ![3, 2816]⟩
abbrev S3x1x1x2816 : Shape := ⟨4, ![3, 1, 1, 2816]⟩
abbrev S4x1x2816 : Shape := ⟨3, ![4, 1, 2816]⟩
abbrev S_ : Shape := ⟨0, ![]⟩
abbrev S4x258x2816 : Shape := ⟨3, ![4, 258, 2816]⟩
abbrev S1x4x256x2816 : Shape := ⟨4, ![1, 4, 256, 2816]⟩
abbrev S3x4x256x2816 : Shape := ⟨4, ![3, 4, 256, 2816]⟩
abbrev S1x1x2816 : Shape := ⟨3, ![1, 1, 2816]⟩
abbrev S4x32x64x2816 : Shape := ⟨4, ![4, 32, 64, 2816]⟩
abbrev S3x3x1x1x1x2816 : Shape := ⟨6, ![3, 3, 1, 1, 1, 2816]⟩
abbrev S4x32x1x2816 : Shape := ⟨4, ![4, 32, 1, 2816]⟩
abbrev S4x32x66x2816 : Shape := ⟨4, ![4, 32, 66, 2816]⟩
abbrev S1x4x32x64x2816 : Shape := ⟨5, ![1, 4, 32, 64, 2816]⟩
abbrev S3x4x32x64x2816 : Shape := ⟨5, ![3, 4, 32, 64, 2816]⟩
abbrev S3x4x1x64x2816 : Shape := ⟨5, ![3, 4, 1, 64, 2816]⟩
abbrev S3x4x34x64x2816 : Shape := ⟨5, ![3, 4, 34, 64, 2816]⟩
abbrev S1x3x4x32x64x2816 : Shape := ⟨6, ![1, 3, 4, 32, 64, 2816]⟩
abbrev S3x3x4x32x64x2816 : Shape := ⟨6, ![3, 3, 4, 32, 64, 2816]⟩
abbrev S1x1x1x2816 : Shape := ⟨4, ![1, 1, 1, 2816]⟩
abbrev S9x2816 : Shape := ⟨2, ![9, 2816]⟩
abbrev S1x2816 : Shape := ⟨2, ![1, 2816]⟩

abbrev nBuf : Space → Nat
  | .hbm => 190
  | .vmem => 0
  | .smem => 0
  | _ => 0

abbrev hbmTy0_0 (i : Nat) : BufTy := match i % 128 with
  | 0 => ⟨S4x2304x2816, .f32⟩
  | 1 => ⟨S3x3x2816, .f32⟩
  | 2 => ⟨S2816, .f32⟩
  | 3 => ⟨S4x2304x2816, .f32⟩
  | 4 => ⟨S4x2304x2816, .f32⟩
  | 5 => ⟨S4x256x2816, .f32⟩
  | 6 => ⟨S4x2048x2816, .f32⟩
  | 7 => ⟨S1x3x2816, .f32⟩
  | 8 => ⟨S3x2816, .f32⟩
  | 9 => ⟨S3x1x1x2816, .f32⟩
  | 10 => ⟨S4x1x2816, .f32⟩
  | 11 => ⟨S_, .f32⟩
  | 12 => ⟨S4x1x2816, .f32⟩
  | 13 => ⟨S4x258x2816, .f32⟩
  | 14 => ⟨S_, .f32⟩
  | 15 => ⟨S4x1x2816, .f32⟩
  | 16 => ⟨S_, .f32⟩
  | 17 => ⟨S4x1x2816, .f32⟩
  | 18 => ⟨S4x256x2816, .f32⟩
  | 19 => ⟨S4x256x2816, .f32⟩
  | 20 => ⟨S4x256x2816, .f32⟩
  | 21 => ⟨S1x4x256x2816, .f32⟩
  | 22 => ⟨S1x4x256x2816, .f32⟩
  | 23 => ⟨S1x4x256x2816, .f32⟩
  | 24 => ⟨S3x4x256x2816, .f32⟩
  | 25 => ⟨S3x4x256x2816, .f32⟩
  | 26 => ⟨S3x4x256x2816, .f32⟩
  | 27 => ⟨S_, .f32⟩
  | 28 => ⟨S4x256x2816, .f32⟩
  | 29 => ⟨S1x1x2816, .f32⟩
  | 30 => ⟨S4x256x2816, .f32⟩
  | 31 => ⟨S4x256x2816, .f32⟩
  | 32 => ⟨S4x32x64x2816, .f32⟩
  | 33 => ⟨S3x3x1x1x1x2816, .f32⟩
  | 34 => ⟨S4x32x1x2816, .f32⟩
  | 35 => ⟨S_, .f32⟩
  | 36 => ⟨S4x32x1x2816, .f32⟩
  | 37 => ⟨S4x32x66x2816, .f32⟩
  | 38 => ⟨S_, .f32⟩
  | 39 => ⟨S4x32x1x2816, .f32⟩
  | 40 => ⟨S_, .f32⟩
  | 41 => ⟨S4x32x1x2816, .f32⟩
  | 42 => ⟨S4x32x64x2816, .f32⟩
  | 43 => ⟨S4x32x64x2816, .f32⟩
  | 44 => ⟨S4x32x64x2816, .f32⟩
  | 45 => ⟨S1x4x32x64x2816, .f32⟩
  | 46 => ⟨S1x4x32x64x2816, .f32⟩
  | 47 => ⟨S1x4x32x64x2816, .f32⟩
  | 48 => ⟨S3x4x32x64x2816, .f32⟩
  | 49 => ⟨S3x4x1x64x2816, .f32⟩
  | 50 => ⟨S_, .f32⟩
  | 51 => ⟨S3x4x1x64x2816, .f32⟩
  | 52 => ⟨S3x4x34x64x2816, .f32⟩
  | 53 => ⟨S_, .f32⟩
  | 54 => ⟨S3x4x1x64x2816, .f32⟩
  | 55 => ⟨S_, .f32⟩
  | 56 => ⟨S3x4x1x64x2816, .f32⟩
  | 57 => ⟨S3x4x32x64x2816, .f32⟩
  | 58 => ⟨S3x4x32x64x2816, .f32⟩
  | 59 => ⟨S3x4x32x64x2816, .f32⟩
  | 60 => ⟨S1x3x4x32x64x2816, .f32⟩
  | 61 => ⟨S1x3x4x32x64x2816, .f32⟩
  | 62 => ⟨S1x3x4x32x64x2816, .f32⟩
  | 63 => ⟨S3x3x4x32x64x2816, .f32⟩
  | 64 => ⟨S3x3x4x32x64x2816, .f32⟩
  | 65 => ⟨S3x3x4x32x64x2816, .f32⟩
  | 66 => ⟨S_, .f32⟩
  | 67 => ⟨S4x32x64x2816, .f32⟩
  | 68 => ⟨S1x1x1x2816, .f32⟩
  | 69 => ⟨S4x32x64x2816, .f32⟩
  | 70 => ⟨S4x32x64x2816, .f32⟩
  | 71 => ⟨S4x2048x2816, .f32⟩
  | 72 => ⟨S4x2304x2816, .f32⟩
  | 73 => ⟨S4x2304x2816, .f32⟩
  | 74 => ⟨S4x2304x2816, .f32⟩
  | 75 => ⟨S_, .f32⟩
  | 76 => ⟨S4x2304x2816, .f32⟩
  | 77 => ⟨S4x2304x2816, .f32⟩
  | 78 => ⟨S_, .f32⟩
  | 79 => ⟨S4x2304x2816, .f32⟩
  | 80 => ⟨S4x2304x2816, .f32⟩
  | 81 => ⟨S_, .f32⟩
  | 82 => ⟨S4x2304x2816, .f32⟩
  | 83 => ⟨S4x2304x2816, .f32⟩
  | 84 => ⟨S4x2304x2816, .f32⟩
  | 85 => ⟨S4x2304x2816, .f32⟩
  | 86 => ⟨S4x2304x2816, .f32⟩
  | 87 => ⟨S4x2304x2816, .f32⟩
  | 88 => ⟨S4x2304x2816, .f32⟩
  | 89 => ⟨S4x2304x2816, .f32⟩
  | 90 => ⟨S4x2304x2816, .f32⟩
  | 91 => ⟨S4x2304x2816, .f32⟩
  | 92 => ⟨S4x2304x2816, .f32⟩
  | 93 => ⟨S4x256x2816, .f32⟩
  | 94 => ⟨S4x2048x2816, .f32⟩
  | 95 => ⟨S4x32x64x2816, .f32⟩
  | 96 => ⟨S_, .f32⟩
  | 97 => ⟨S2816, .f32⟩
  | 98 => ⟨S1x1x1x2816, .f32⟩
  | 99 => ⟨S_, .f32⟩
  | 100 => ⟨S2816, .f32⟩
  | 101 => ⟨S3x3x4x32x64x2816, .f32⟩
  | 102 => ⟨S3x3x4x32x64x2816, .f32⟩
  | 103 => ⟨S3x3x4x32x64x2816, .f32⟩
  | 104 => ⟨S3x3x4x32x64x2816, .f32⟩
  | 105 => ⟨S_, .f32⟩
  | 106 => ⟨S3x3x2816, .f32⟩
  | 107 => ⟨S3x3x1x1x1x2816, .f32⟩
  | 108 => ⟨S1x3x4x32x64x2816, .f32⟩
  | 109 => ⟨S3x4x32x64x2816, .f32⟩
  | 110 => ⟨S1x3x4x32x64x2816, .f32⟩
  | 111 => ⟨S3x4x32x64x2816, .f32⟩
  | 112 => ⟨S1x3x4x32x64x2816, .f32⟩
  | 113 => ⟨S3x4x32x64x2816, .f32⟩
  | 114 => ⟨S_, .f32⟩
  | 115 => ⟨S3x4x34x64x2816, .f32⟩
  | 116 => ⟨S_, .f32⟩
  | 117 => ⟨S3x4x34x64x2816, .f32⟩
  | 118 => ⟨S3x4x34x64x2816, .f32⟩
  | 119 => ⟨S_, .f32⟩
  | 120 => ⟨S3x4x34x64x2816, .f32⟩
  | 121 => ⟨S3x4x34x64x2816, .f32⟩
  | 122 => ⟨S3x4x1x64x2816, .f32⟩
  | 123 => ⟨S3x4x32x64x2816, .f32⟩
  | 124 => ⟨S3x4x1x64x2816, .f32⟩
  | 125 => ⟨S1x4x32x64x2816, .f32⟩
  | 126 => ⟨S4x32x64x2816, .f32⟩
  | 127 => ⟨S1x4x32x64x2816, .f32⟩
  | _ => ⟨S4x2304x2816, .f32⟩

abbrev hbmTy0_1 (i : Nat) : BufTy := match i % 128 with
  | 0 => ⟨S4x32x64x2816, .f32⟩
  | 1 => ⟨S1x4x32x64x2816, .f32⟩
  | 2 => ⟨S4x32x64x2816, .f32⟩
  | 3 => ⟨S_, .f32⟩
  | 4 => ⟨S4x32x66x2816, .f32⟩
  | 5 => ⟨S_, .f32⟩
  | 6 => ⟨S4x32x66x2816, .f32⟩
  | 7 => ⟨S4x32x66x2816, .f32⟩
  | 8 => ⟨S_, .f32⟩
  | 9 => ⟨S4x32x66x2816, .f32⟩
  | 10 => ⟨S4x32x66x2816, .f32⟩
  | 11 => ⟨S4x32x1x2816, .f32⟩
  | 12 => ⟨S4x32x64x2816, .f32⟩
  | 13 => ⟨S4x32x1x2816, .f32⟩
  | 14 => ⟨S_, .f32⟩
  | 15 => ⟨S3x3x2816, .f32⟩
  | 16 => ⟨S4x2048x2816, .f32⟩
  | 17 => ⟨S_, .f32⟩
  | 18 => ⟨S2816, .f32⟩
  | 19 => ⟨S1x1x2816, .f32⟩
  | 20 => ⟨S_, .f32⟩
  | 21 => ⟨S2816, .f32⟩
  | 22 => ⟨S2816, .f32⟩
  | 23 => ⟨S3x4x256x2816, .f32⟩
  | 24 => ⟨S3x4x256x2816, .f32⟩
  | 25 => ⟨S3x4x256x2816, .f32⟩
  | 26 => ⟨S3x4x256x2816, .f32⟩
  | 27 => ⟨S_, .f32⟩
  | 28 => ⟨S3x2816, .f32⟩
  | 29 => ⟨S3x1x1x2816, .f32⟩
  | 30 => ⟨S1x4x256x2816, .f32⟩
  | 31 => ⟨S4x256x2816, .f32⟩
  | 32 => ⟨S1x4x256x2816, .f32⟩
  | 33 => ⟨S4x256x2816, .f32⟩
  | 34 => ⟨S1x4x256x2816, .f32⟩
  | 35 => ⟨S4x256x2816, .f32⟩
  | 36 => ⟨S_, .f32⟩
  | 37 => ⟨S4x258x2816, .f32⟩
  | 38 => ⟨S_, .f32⟩
  | 39 => ⟨S4x258x2816, .f32⟩
  | 40 => ⟨S4x258x2816, .f32⟩
  | 41 => ⟨S_, .f32⟩
  | 42 => ⟨S4x258x2816, .f32⟩
  | 43 => ⟨S4x258x2816, .f32⟩
  | 44 => ⟨S4x1x2816, .f32⟩
  | 45 => ⟨S4x256x2816, .f32⟩
  | 46 => ⟨S4x1x2816, .f32⟩
  | 47 => ⟨S_, .f32⟩
  | 48 => ⟨S3x2816, .f32⟩
  | 49 => ⟨S1x3x2816, .f32⟩
  | 50 => ⟨S_, .f32⟩
  | 51 => ⟨S3x3x2816, .f32⟩
  | 52 => ⟨S3x3x2816, .f32⟩
  | 53 => ⟨S_, .f32⟩
  | 54 => ⟨S4x2304x2816, .f32⟩
  | 55 => ⟨S_, .f32⟩
  | 56 => ⟨S4x2304x2816, .f32⟩
  | 57 => ⟨S4x2304x2816, .f32⟩
  | 58 => ⟨S4x2304x2816, .bf16⟩
  | 59 => ⟨S9x2816, .f32⟩
  | 60 => ⟨S1x2816, .f32⟩
  | 61 => ⟨S4x2304x2816, .bf16⟩
  | _ => ⟨S4x2304x2816, .f32⟩

abbrev hbmTy (i : Nat) : BufTy := match i / 128 with
  | 0 => hbmTy0_0 i
  | 1 => hbmTy0_1 i
  | _ => ⟨S4x2304x2816, .f32⟩

abbrev bufTy : (tb : Table) → Fin (tcTables nBuf tb) → BufTy
  | .hbm, ⟨i, _⟩ => hbmTy i
  | _, _ => ⟨S4x2304x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_v57_2 : Ref sig .tc := ⟨.hbm, 80, rfl⟩
abbrev main_call0_cst_1 : Ref sig .tc := ⟨.hbm, 81, rfl⟩
abbrev main_call0_v6 : Ref sig .tc := ⟨.hbm, 82, rfl⟩
abbrev main_call0_v7 : Ref sig .tc := ⟨.hbm, 83, rfl⟩
abbrev main_v57_1 : Ref sig .tc := ⟨.hbm, 84, rfl⟩
abbrev main_v57_0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_16 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_19 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_v105 : Ref sig .tc := ⟨.hbm, 147, rfl⟩
abbrev main_cst_21 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_22 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_23 : Ref sig .tc := ⟨.hbm, 164, rfl⟩
abbrev main_v120 : Ref sig .tc := ⟨.hbm, 165, rfl⟩
abbrev main_cst_24 : Ref sig .tc := ⟨.hbm, 166, rfl⟩
abbrev main_v121 : Ref sig .tc := ⟨.hbm, 167, rfl⟩
abbrev main_v122 : Ref sig .tc := ⟨.hbm, 168, rfl⟩
abbrev main_cst_25 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_26 : Ref sig .tc := ⟨.hbm, 175, rfl⟩
abbrev main_v128 : Ref sig .tc := ⟨.hbm, 176, rfl⟩
abbrev main_v129 : Ref sig .tc := ⟨.hbm, 177, rfl⟩
abbrev main_cst_27 : Ref sig .tc := ⟨.hbm, 178, rfl⟩
abbrev main_v130 : Ref sig .tc := ⟨.hbm, 179, rfl⟩
abbrev main_v131 : Ref sig .tc := ⟨.hbm, 180, rfl⟩
abbrev main_cst_28 : Ref sig .tc := ⟨.hbm, 181, rfl⟩
abbrev main_v132 : Ref sig .tc := ⟨.hbm, 182, rfl⟩
abbrev main_cst_29 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩

abbrev nD : Nat := 1
abbrev τ : Topo := Topo.v7x

variable {F : FTy → Type} [FloatOps F]
-- ==== FfnIn.lean ====
abbrev S4x2304x1024 : Shape := ⟨3, ![4, 2304, 1024]⟩
abbrev S1024x2816 : Shape := ⟨2, ![1024, 2816]⟩
abbrev S9216x1024 : Shape := ⟨2, ![9216, 1024]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S1024x2816, .bf16⟩
  | .hbm, ⟨2, _⟩ => ⟨S9216x1024, .bf16⟩
  | .hbm, ⟨3, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInIdeal.lean ====
abbrev S4x2304x1024 : Shape := ⟨3, ![4, 2304, 1024]⟩
abbrev S1024x2816 : Shape := ⟨2, ![1024, 2816]⟩
abbrev S9216x1024 : Shape := ⟨2, ![9216, 1024]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S1024x2816, .bf16⟩
  | .hbm, ⟨2, _⟩ => ⟨S9216x1024, .bf16⟩
  | .hbm, ⟨3, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4x2304x1024 : Shape := ⟨3, ![4, 2304, 1024]⟩
abbrev S1024x2816 : Shape := ⟨2, ![1024, 2816]⟩
abbrev S4x2304x2816 : Shape := ⟨3, ![4, 2304, 2816]⟩
abbrev S9216x2816 : Shape := ⟨2, ![9216, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x2816, .bf16⟩
  | .hbm, ⟨2, _⟩ => ⟨S4x2304x1024, .f32⟩
  | .hbm, ⟨3, _⟩ => ⟨S1024x2816, .f32⟩
  | .hbm, ⟨4, _⟩ => ⟨S4x2304x2816, .f32⟩
  | .hbm, ⟨5, _⟩ => ⟨S9216x2816, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnOut.lean ====
abbrev S4x2304x2816 : Shape := ⟨3, ![4, 2304, 2816]⟩
abbrev S2816x1024 : Shape := ⟨2, ![2816, 1024]⟩
abbrev S9216x2816 : Shape := ⟨2, ![9216, 2816]⟩
abbrev S9216x1024 : Shape := ⟨2, ![9216, 1024]⟩
abbrev S1024x2816 : Shape := ⟨2, ![1024, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x2816, .bf16⟩
  | .hbm, ⟨1, _⟩ => ⟨S2816x1024, .bf16⟩
  | .hbm, ⟨2, _⟩ => ⟨S9216x2816, .bf16⟩
  | .hbm, ⟨3, _⟩ => ⟨S9216x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4x2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutIdeal.lean ====
abbrev S4x2304x2816 : Shape := ⟨3, ![4, 2304, 2816]⟩
abbrev S2816x1024 : Shape := ⟨2, ![2816, 1024]⟩
abbrev S9216x2816 : Shape := ⟨2, ![9216, 2816]⟩
abbrev S9216x1024 : Shape := ⟨2, ![9216, 1024]⟩
abbrev S1024x2816 : Shape := ⟨2, ![1024, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x2816, .bf16⟩
  | .hbm, ⟨1, _⟩ => ⟨S2816x1024, .bf16⟩
  | .hbm, ⟨2, _⟩ => ⟨S9216x2816, .bf16⟩
  | .hbm, ⟨3, _⟩ => ⟨S9216x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4x2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4x2304x2816 : Shape := ⟨3, ![4, 2304, 2816]⟩
abbrev S2816x1024 : Shape := ⟨2, ![2816, 1024]⟩
abbrev S4x2304x1024 : Shape := ⟨3, ![4, 2304, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x2816, .bf16⟩
  | .hbm, ⟨1, _⟩ => ⟨S2816x1024, .bf16⟩
  | .hbm, ⟨2, _⟩ => ⟨S4x2304x2816, .f32⟩
  | .hbm, ⟨3, _⟩ => ⟨S2816x1024, .f32⟩
  | .hbm, ⟨4, _⟩ => ⟨S4x2304x1024, .f32⟩
  | .hbm, ⟨5, _⟩ => ⟨S9216x1024, .f32⟩
  | _, _ => ⟨S4x2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDact.lean ====
abbrev S4x2304x1024 : Shape := ⟨3, ![4, 2304, 1024]⟩
abbrev S2816x1024 : Shape := ⟨2, ![2816, 1024]⟩
abbrev S9216x1024 : Shape := ⟨2, ![9216, 1024]⟩
abbrev S1024x2816 : Shape := ⟨2, ![1024, 2816]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S2816x1024, .bf16⟩
  | .hbm, ⟨2, _⟩ => ⟨S9216x1024, .bf16⟩
  | .hbm, ⟨3, _⟩ => ⟨S1024x2816, .bf16⟩
  | .hbm, ⟨4, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactIdeal.lean ====
abbrev S4x2304x1024 : Shape := ⟨3, ![4, 2304, 1024]⟩
abbrev S2816x1024 : Shape := ⟨2, ![2816, 1024]⟩
abbrev S9216x1024 : Shape := ⟨2, ![9216, 1024]⟩
abbrev S1024x2816 : Shape := ⟨2, ![1024, 2816]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S2816x1024, .bf16⟩
  | .hbm, ⟨2, _⟩ => ⟨S9216x1024, .bf16⟩
  | .hbm, ⟨3, _⟩ => ⟨S1024x2816, .bf16⟩
  | .hbm, ⟨4, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactRefIdeal.lean ====
abbrev S4x2304x1024 : Shape := ⟨3, ![4, 2304, 1024]⟩
abbrev S2816x1024 : Shape := ⟨2, ![2816, 1024]⟩
abbrev S_ : Shape := ⟨0, ![]⟩
abbrev S4x2304x2816 : Shape := ⟨3, ![4, 2304, 2816]⟩
abbrev S9216x2816 : Shape := ⟨2, ![9216, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S2816x1024, .bf16⟩
  | .hbm, ⟨2, _⟩ => ⟨S_, .f32⟩
  | .hbm, ⟨3, _⟩ => ⟨S4x2304x2816, .f32⟩
  | .hbm, ⟨4, _⟩ => ⟨S2816x1024, .f32⟩
  | .hbm, ⟨5, _⟩ => ⟨S4x2304x1024, .f32⟩
  | .hbm, ⟨6, _⟩ => ⟨S4x2304x1024, .f32⟩
  | .hbm, ⟨7, _⟩ => ⟨S4x2304x2816, .f32⟩
  | .hbm, ⟨8, _⟩ => ⟨S9216x2816, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDin.lean ====
abbrev S4x2304x2816 : Shape := ⟨3, ![4, 2304, 2816]⟩
abbrev S1024x2816 : Shape := ⟨2, ![1024, 2816]⟩
abbrev S9216x2816 : Shape := ⟨2, ![9216, 2816]⟩
abbrev S2816x1024 : Shape := ⟨2, ![2816, 1024]⟩
abbrev S9216x1024 : Shape := ⟨2, ![9216, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x2304x2816, .bf16⟩
  | .hbm, ⟨1, _⟩ => ⟨S4x2304x2816, .bf16⟩
  | .hbm, ⟨2, _⟩ => ⟨S1024x2816, .bf16⟩
  | .hbm, ⟨3, _⟩ => ⟨S1024x2816, .bf16⟩
  | .hbm, ⟨4, _⟩ => ⟨S9216x2816, .bf16⟩
  | .hbm, ⟨5, _⟩ => ⟨S2816x1024, .bf16⟩
  | .hbm, ⟨6, _⟩ => ⟨S9216x2816, .bf16⟩
  | .hbm, ⟨7, _⟩ => ⟨S2816x1024, .bf16⟩
  | .hbm, ⟨8, _⟩ => ⟨S9216x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .bf16⟩
  | .local _ .vmem, ⟨3, _⟩ => ⟨S2816x512, .bf16⟩
  | .local _ .vmem, ⟨4, _⟩ => ⟨S512x2816, .bf16⟩
  | .local _ .vmem, ⟨5, _⟩ => ⟨S512x2816, .bf16⟩
  | .local _ .vmem, ⟨6, _⟩ => ⟨S2816x512, .bf16⟩
  | .local _ .vmem, ⟨7, _⟩ => ⟨S2816x512, .bf16⟩
  | .local _ .vmem, ⟨8, _⟩ => ⟨S512x512, .f32⟩
  | .local _ .vmem, ⟨9, _⟩ => ⟨S512x512, .f32⟩
  | _, _ => ⟨S4x2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![18, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDinRefIdeal.lean ====
abbrev S4x2304x2816 : Shape := ⟨3, ![4, 2304, 2816]⟩
abbrev S1024x2816 : Shape := ⟨2, ![1024, 2816]⟩
abbrev S_ : Shape := ⟨0, ![]⟩
abbrev S4x2304x1024 : Shape := ⟨3, ![4, 2304, 1024]⟩
abbrev S9216x1024 : Shape := ⟨2, ![9216, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2304x2816, .bf16⟩
  | .hbm, ⟨1, _⟩ => ⟨S4x2304x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S4x2304x1024, .f32⟩
  | .hbm, ⟨6, _⟩ => ⟨S1024x2816, .f32⟩
  | .hbm, ⟨7, _⟩ => ⟨S4x2304x2816, .f32⟩
  | .hbm, ⟨8, _⟩ => ⟨S1024x2816, .f32⟩
  | .hbm, ⟨9, _⟩ => ⟨S4x2304x2816, .f32⟩
  | .hbm, ⟨10, _⟩ => ⟨S4x2304x2816, .f32⟩
  | .hbm, ⟨11, _⟩ => ⟨S4x2304x2816, .f32⟩
  | .hbm, ⟨12, _⟩ => ⟨S4x2304x1024, .f32⟩
  | .hbm, ⟨13, _⟩ => ⟨S4x2304x1024, .f32⟩
  | .hbm, ⟨14, _⟩ => ⟨S4x2304x1024, .f32⟩
  | .hbm, ⟨15, _⟩ => ⟨S9216x1024, .f32⟩
  | _, _ => ⟨S4x2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FfnDw.lean ====
abbrev S4x2304x1024 : Shape := ⟨3, ![4, 2304, 1024]⟩
abbrev S4x2304x2816 : Shape := ⟨3, ![4, 2304, 2816]⟩
abbrev S9216x1024 : Shape := ⟨2, ![9216, 1024]⟩
abbrev S9216x2816 : Shape := ⟨2, ![9216, 2816]⟩
abbrev S1024x2816 : Shape := ⟨2, ![1024, 2816]⟩
abbrev S2304x1024 : Shape := ⟨2, ![2304, 1024]⟩
abbrev S2304x1408 : Shape := ⟨2, ![2304, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x2816, .bf16⟩
  | .hbm, ⟨2, _⟩ => ⟨S9216x1024, .bf16⟩
  | .hbm, ⟨3, _⟩ => ⟨S9216x2816, .bf16⟩
  | .hbm, ⟨4, _⟩ => ⟨S1024x2816, .f32⟩
  | .local _ .vmem, ⟨0, _⟩ => ⟨S2304x1024, .bf16⟩
  | .local _ .vmem, ⟨1, _⟩ => ⟨S2304x1024, .bf16⟩
  | .local _ .vmem, ⟨2, _⟩ => ⟨S2304x1408, .bf16⟩
  | .local _ .vmem, ⟨3, _⟩ => ⟨S2304x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwIdeal.lean ====
abbrev S4x2304x1024 : Shape := ⟨3, ![4, 2304, 1024]⟩
abbrev S4x2304x2816 : Shape := ⟨3, ![4, 2304, 2816]⟩
abbrev S9216x1024 : Shape := ⟨2, ![9216, 1024]⟩
abbrev S9216x2816 : Shape := ⟨2, ![9216, 2816]⟩
abbrev S1024x2816 : Shape := ⟨2, ![1024, 2816]⟩
abbrev S2304x1024 : Shape := ⟨2, ![2304, 1024]⟩
abbrev S2304x1408 : Shape := ⟨2, ![2304, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x2816, .bf16⟩
  | .hbm, ⟨2, _⟩ => ⟨S9216x1024, .bf16⟩
  | .hbm, ⟨3, _⟩ => ⟨S9216x2816, .bf16⟩
  | .hbm, ⟨4, _⟩ => ⟨S1024x2816, .f32⟩
  | .local _ .vmem, ⟨0, _⟩ => ⟨S2304x1024, .bf16⟩
  | .local _ .vmem, ⟨1, _⟩ => ⟨S2304x1024, .bf16⟩
  | .local _ .vmem, ⟨2, _⟩ => ⟨S2304x1408, .bf16⟩
  | .local _ .vmem, ⟨3, _⟩ => ⟨S2304x1408, .bf16⟩
  | .local _ .vmem, ⟨4, _⟩ => ⟨S1024x1408, .f32⟩
  | .local _ .vmem, ⟨5, _⟩ => ⟨S1024x1408, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwRefIdeal.lean ====
abbrev S4x2304x1024 : Shape := ⟨3, ![4, 2304, 1024]⟩
abbrev S4x2304x2816 : Shape := ⟨3, ![4, 2304, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x2816, .bf16⟩
  | .hbm, ⟨2, _⟩ => ⟨S_, .f32⟩
  | .hbm, ⟨3, _⟩ => ⟨S1024x2816, .f32⟩
  | .hbm, ⟨4, _⟩ => ⟨S4x2304x1024, .f32⟩
  | .hbm, ⟨5, _⟩ => ⟨S4x2304x2816, .f32⟩
  | .hbm, ⟨6, _⟩ => ⟨S4x2304x2816, .f32⟩
  | .hbm, ⟨7, _⟩ => ⟨S2816x1024, .f32⟩
  | .hbm, ⟨8, _⟩ => ⟨S1024x2816, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDwDown.lean ====
abbrev S4x2304x2816 : Shape := ⟨3, ![4, 2304, 2816]⟩
abbrev S4x2304x1024 : Shape := ⟨3, ![4, 2304, 1024]⟩
abbrev S9216x2816 : Shape := ⟨2, ![9216, 2816]⟩
abbrev S9216x1024 : Shape := ⟨2, ![9216, 1024]⟩
abbrev S2816x1024 : Shape := ⟨2, ![2816, 1024]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x2816, .bf16⟩
  | .hbm, ⟨1, _⟩ => ⟨S4x2304x1024, .bf16⟩
  | .hbm, ⟨2, _⟩ => ⟨S9216x2816, .bf16⟩
  | .hbm, ⟨3, _⟩ => ⟨S9216x1024, .bf16⟩
  | .hbm, ⟨4, _⟩ => ⟨S2816x1024, .f32⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .f32⟩
  | .local _ .vmem, ⟨5, _⟩ => ⟨S1408x1024, .f32⟩
  | _, _ => ⟨S4x2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownIdeal.lean ====
abbrev S4x2304x2816 : Shape := ⟨3, ![4, 2304, 2816]⟩
abbrev S4x2304x1024 : Shape := ⟨3, ![4, 2304, 1024]⟩
abbrev S9216x2816 : Shape := ⟨2, ![9216, 2816]⟩
abbrev S9216x1024 : Shape := ⟨2, ![9216, 1024]⟩
abbrev S2816x1024 : Shape := ⟨2, ![2816, 1024]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x2816, .bf16⟩
  | .hbm, ⟨1, _⟩ => ⟨S4x2304x1024, .bf16⟩
  | .hbm, ⟨2, _⟩ => ⟨S9216x2816, .bf16⟩
  | .hbm, ⟨3, _⟩ => ⟨S9216x1024, .bf16⟩
  | .hbm, ⟨4, _⟩ => ⟨S2816x1024, .f32⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .f32⟩
  | .local _ .vmem, ⟨5, _⟩ => ⟨S1408x1024, .f32⟩
  | _, _ => ⟨S4x2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownRefIdeal.lean ====
abbrev S4x2304x2816 : Shape := ⟨3, ![4, 2304, 2816]⟩
abbrev S4x2304x1024 : Shape := ⟨3, ![4, 2304, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x2816, .bf16⟩
  | .hbm, ⟨1, _⟩ => ⟨S4x2304x1024, .bf16⟩
  | .hbm, ⟨2, _⟩ => ⟨S_, .f32⟩
  | .hbm, ⟨3, _⟩ => ⟨S2816x1024, .f32⟩
  | .hbm, ⟨4, _⟩ => ⟨S4x2304x2816, .f32⟩
  | .hbm, ⟨5, _⟩ => ⟨S4x2304x1024, .f32⟩
  | .hbm, ⟨6, _⟩ => ⟨S4x2304x1024, .f32⟩
  | .hbm, ⟨7, _⟩ => ⟨S1024x2816, .f32⟩
  | .hbm, ⟨8, _⟩ => ⟨S2816x1024, .f32⟩
  | _, _ => ⟨S4x2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvIn.lean ====
abbrev S4x2304x1024 : Shape := ⟨3, ![4, 2304, 1024]⟩
abbrev S1024x1024 : Shape := ⟨2, ![1024, 1024]⟩
abbrev S9216x1024 : Shape := ⟨2, ![9216, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S9216x1024, .bf16⟩
  | .hbm, ⟨3, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInIdeal.lean ====
abbrev S4x2304x1024 : Shape := ⟨3, ![4, 2304, 1024]⟩
abbrev S1024x1024 : Shape := ⟨2, ![1024, 1024]⟩
abbrev S9216x1024 : Shape := ⟨2, ![9216, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S9216x1024, .bf16⟩
  | .hbm, ⟨3, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S4x2304x1024 : Shape := ⟨3, ![4, 2304, 1024]⟩
abbrev S1024x1024 : Shape := ⟨2, ![1024, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S4x2304x1024, .f32⟩
  | .hbm, ⟨3, _⟩ => ⟨S1024x1024, .f32⟩
  | .hbm, ⟨4, _⟩ => ⟨S4x2304x1024, .f32⟩
  | .hbm, ⟨5, _⟩ => ⟨S9216x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvXbc.lean ====
abbrev S4x2304x1024 : Shape := ⟨3, ![4, 2304, 1024]⟩
abbrev S1024x1536 : Shape := ⟨2, ![1024, 1536]⟩
abbrev S9216x1024 : Shape := ⟨2, ![9216, 1024]⟩
abbrev S9216x1536 : Shape := ⟨2, ![9216, 1536]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S1024x1536, .bf16⟩
  | .hbm, ⟨2, _⟩ => ⟨S9216x1024, .bf16⟩
  | .hbm, ⟨3, _⟩ => ⟨S9216x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvXbcIdeal.lean ====
abbrev S4x2304x1024 : Shape := ⟨3, ![4, 2304, 1024]⟩
abbrev S1024x1536 : Shape := ⟨2, ![1024, 1536]⟩
abbrev S9216x1024 : Shape := ⟨2, ![9216, 1024]⟩
abbrev S9216x1536 : Shape := ⟨2, ![9216, 1536]⟩
abbrev S1024x1024 : Shape := ⟨2, ![1024, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S1024x1536, .bf16⟩
  | .hbm, ⟨2, _⟩ => ⟨S9216x1024, .bf16⟩
  | .hbm, ⟨3, _⟩ => ⟨S9216x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvXbcRefIdeal.lean ====
abbrev S4x2304x1024 : Shape := ⟨3, ![4, 2304, 1024]⟩
abbrev S1024x1536 : Shape := ⟨2, ![1024, 1536]⟩
abbrev S4x2304x1536 : Shape := ⟨3, ![4, 2304, 1536]⟩
abbrev S9216x1536 : Shape := ⟨2, ![9216, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x1536, .bf16⟩
  | .hbm, ⟨2, _⟩ => ⟨S4x2304x1024, .f32⟩
  | .hbm, ⟨3, _⟩ => ⟨S1024x1536, .f32⟩
  | .hbm, ⟨4, _⟩ => ⟨S4x2304x1536, .f32⟩
  | .hbm, ⟨5, _⟩ => ⟨S9216x1536, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OdIn.lean ====
abbrev S4x2304x1024 : Shape := ⟨3, ![4, 2304, 1024]⟩
abbrev S1024x768 : Shape := ⟨2, ![1024, 768]⟩
abbrev S9216x1024 : Shape := ⟨2, ![9216, 1024]⟩
abbrev S9216x768 : Shape := ⟨2, ![9216, 768]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x768, .bf16⟩
  | .hbm, ⟨2, _⟩ => ⟨S9216x1024, .bf16⟩
  | .hbm, ⟨3, _⟩ => ⟨S9216x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInIdeal.lean ====
abbrev S4x2304x1024 : Shape := ⟨3, ![4, 2304, 1024]⟩
abbrev S1024x768 : Shape := ⟨2, ![1024, 768]⟩
abbrev S9216x1024 : Shape := ⟨2, ![9216, 1024]⟩
abbrev S9216x768 : Shape := ⟨2, ![9216, 768]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x768, .bf16⟩
  | .hbm, ⟨2, _⟩ => ⟨S9216x1024, .bf16⟩
  | .hbm, ⟨3, _⟩ => ⟨S9216x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInRefIdeal.lean ====
abbrev S4x2304x1024 : Shape := ⟨3, ![4, 2304, 1024]⟩
abbrev S1024x768 : Shape := ⟨2, ![1024, 768]⟩
abbrev S4x2304x768 : Shape := ⟨3, ![4, 2304, 768]⟩
abbrev S9216x768 : Shape := ⟨2, ![9216, 768]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x768, .bf16⟩
  | .hbm, ⟨2, _⟩ => ⟨S4x2304x1024, .f32⟩
  | .hbm, ⟨3, _⟩ => ⟨S1024x768, .f32⟩
  | .hbm, ⟨4, _⟩ => ⟨S4x2304x768, .f32⟩
  | .hbm, ⟨5, _⟩ => ⟨S9216x768, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OdU.lean ====
abbrev S4x2304x1024 : Shape := ⟨3, ![4, 2304, 1024]⟩
abbrev S1024x256 : Shape := ⟨2, ![1024, 256]⟩
abbrev S9216x1024 : Shape := ⟨2, ![9216, 1024]⟩
abbrev S9216x256 : Shape := ⟨2, ![9216, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x256, .bf16⟩
  | .hbm, ⟨2, _⟩ => ⟨S9216x1024, .bf16⟩
  | .hbm, ⟨3, _⟩ => ⟨S9216x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdUIdeal.lean ====
abbrev S4x2304x1024 : Shape := ⟨3, ![4, 2304, 1024]⟩
abbrev S1024x256 : Shape := ⟨2, ![1024, 256]⟩
abbrev S9216x1024 : Shape := ⟨2, ![9216, 1024]⟩
abbrev S9216x256 : Shape := ⟨2, ![9216, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x256, .bf16⟩
  | .hbm, ⟨2, _⟩ => ⟨S9216x1024, .bf16⟩
  | .hbm, ⟨3, _⟩ => ⟨S9216x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdURefIdeal.lean ====
abbrev S4x2304x1024 : Shape := ⟨3, ![4, 2304, 1024]⟩
abbrev S1024x256 : Shape := ⟨2, ![1024, 256]⟩
abbrev S4x2304x256 : Shape := ⟨3, ![4, 2304, 256]⟩
abbrev S9216x256 : Shape := ⟨2, ![9216, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x256, .bf16⟩
  | .hbm, ⟨2, _⟩ => ⟨S4x2304x1024, .f32⟩
  | .hbm, ⟨3, _⟩ => ⟨S1024x256, .f32⟩
  | .hbm, ⟨4, _⟩ => ⟨S4x2304x256, .f32⟩
  | .hbm, ⟨5, _⟩ => ⟨S9216x256, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvMix.lean ====
abbrev S4x2304x1024 : Shape := ⟨3, ![4, 2304, 1024]⟩
abbrev S2048x1024 : Shape := ⟨2, ![2048, 1024]⟩
abbrev S9216x1024 : Shape := ⟨2, ![9216, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S2048x1024, .bf16⟩
  | .hbm, ⟨3, _⟩ => ⟨S9216x1024, .bf16⟩
  | .hbm, ⟨4, _⟩ => ⟨S1024x1024, .bf16⟩
  | .hbm, ⟨5, _⟩ => ⟨S9216x1024, .bf16⟩
  | .hbm, ⟨6, _⟩ => ⟨S1024x1024, .bf16⟩
  | .hbm, ⟨7, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== EvMixIdeal.lean ====
abbrev S4x2304x1024 : Shape := ⟨3, ![4, 2304, 1024]⟩
abbrev S2048x1024 : Shape := ⟨2, ![2048, 1024]⟩
abbrev S9216x1024 : Shape := ⟨2, ![9216, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S2048x1024, .bf16⟩
  | .hbm, ⟨3, _⟩ => ⟨S9216x1024, .bf16⟩
  | .hbm, ⟨4, _⟩ => ⟨S1024x1024, .bf16⟩
  | .hbm, ⟨5, _⟩ => ⟨S9216x1024, .bf16⟩
  | .hbm, ⟨6, _⟩ => ⟨S1024x1024, .bf16⟩
  | .hbm, ⟨7, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== EvMixRefIdeal.lean ====
abbrev S4x2304x1024 : Shape := ⟨3, ![4, 2304, 1024]⟩
abbrev S2048x1024 : Shape := ⟨2, ![2048, 1024]⟩
abbrev S4x2304x2048 : Shape := ⟨3, ![4, 2304, 2048]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S2048x1024, .bf16⟩
  | .hbm, ⟨3, _⟩ => ⟨S4x2304x2048, .bf16⟩
  | .hbm, ⟨4, _⟩ => ⟨S4x2304x2048, .f32⟩
  | .hbm, ⟨5, _⟩ => ⟨S2048x1024, .f32⟩
  | .hbm, ⟨6, _⟩ => ⟨S4x2304x1024, .f32⟩
  | .hbm, ⟨7, _⟩ => ⟨S9216x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdMix.lean ====
abbrev S4x2304x768 : Shape := ⟨3, ![4, 2304, 768]⟩
abbrev S4x2304x256 : Shape := ⟨3, ![4, 2304, 256]⟩
abbrev S1024x1024 : Shape := ⟨2, ![1024, 1024]⟩
abbrev S9216x768 : Shape := ⟨2, ![9216, 768]⟩
abbrev S768x1024 : Shape := ⟨2, ![768, 1024]⟩
abbrev S9216x256 : Shape := ⟨2, ![9216, 256]⟩
abbrev S256x1024 : Shape := ⟨2, ![256, 1024]⟩
abbrev S9216x1024 : Shape := ⟨2, ![9216, 1024]⟩
abbrev S1024x768 : Shape := ⟨2, ![1024, 768]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x2304x768, .bf16⟩
  | .hbm, ⟨1, _⟩ => ⟨S4x2304x256, .bf16⟩
  | .hbm, ⟨2, _⟩ => ⟨S1024x1024, .bf16⟩
  | .hbm, ⟨3, _⟩ => ⟨S9216x768, .bf16⟩
  | .hbm, ⟨4, _⟩ => ⟨S768x1024, .bf16⟩
  | .hbm, ⟨5, _⟩ => ⟨S9216x256, .bf16⟩
  | .hbm, ⟨6, _⟩ => ⟨S256x1024, .bf16⟩
  | .hbm, ⟨7, _⟩ => ⟨S9216x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x256, .bf16⟩
  | .local _ .vmem, ⟨4, _⟩ => ⟨S1024x256, .bf16⟩
  | .local _ .vmem, ⟨5, _⟩ => ⟨S256x1024, .bf16⟩
  | .local _ .vmem, ⟨6, _⟩ => ⟨S1024x1024, .f32⟩
  | .local _ .vmem, ⟨7, _⟩ => ⟨S1024x1024, .f32⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OdMixRefIdeal.lean ====
abbrev S4x2304x768 : Shape := ⟨3, ![4, 2304, 768]⟩
abbrev S4x2304x256 : Shape := ⟨3, ![4, 2304, 256]⟩
abbrev S1024x1024 : Shape := ⟨2, ![1024, 1024]⟩
abbrev S4x2304x1024 : Shape := ⟨3, ![4, 2304, 1024]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x768, .bf16⟩
  | .hbm, ⟨1, _⟩ => ⟨S4x2304x256, .bf16⟩
  | .hbm, ⟨2, _⟩ => ⟨S1024x1024, .bf16⟩
  | .hbm, ⟨3, _⟩ => ⟨S4x2304x1024, .bf16⟩
  | .hbm, ⟨4, _⟩ => ⟨S4x2304x1024, .f32⟩
  | .hbm, ⟨5, _⟩ => ⟨S1024x1024, .f32⟩
  | .hbm, ⟨6, _⟩ => ⟨S4x2304x1024, .f32⟩
  | .hbm, ⟨7, _⟩ => ⟨S9216x1024, .f32⟩
  | _, _ => ⟨S4x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvDout.lean ====
abbrev S4x2304x1024 : Shape := ⟨3, ![4, 2304, 1024]⟩
abbrev S1024x1024 : Shape := ⟨2, ![1024, 1024]⟩
abbrev S9216x1024 : Shape := ⟨2, ![9216, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S9216x1024, .bf16⟩
  | .hbm, ⟨3, _⟩ => ⟨S1024x1024, .bf16⟩
  | .hbm, ⟨4, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDoutIdeal.lean ====
abbrev S4x2304x1024 : Shape := ⟨3, ![4, 2304, 1024]⟩
abbrev S1024x1024 : Shape := ⟨2, ![1024, 1024]⟩
abbrev S9216x1024 : Shape := ⟨2, ![9216, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S9216x1024, .bf16⟩
  | .hbm, ⟨3, _⟩ => ⟨S1024x1024, .bf16⟩
  | .hbm, ⟨4, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDoutRefIdeal.lean ====
abbrev S4x2304x1024 : Shape := ⟨3, ![4, 2304, 1024]⟩
abbrev S1024x1024 : Shape := ⟨2, ![1024, 1024]⟩
abbrev S_ : Shape := ⟨0, ![]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x1024, .bf16⟩
  | .hbm, ⟨2, _⟩ => ⟨S_, .f32⟩
  | .hbm, ⟨3, _⟩ => ⟨S4x2304x1024, .f32⟩
  | .hbm, ⟨4, _⟩ => ⟨S1024x1024, .f32⟩
  | .hbm, ⟨5, _⟩ => ⟨S4x2304x1024, .f32⟩
  | .hbm, ⟨6, _⟩ => ⟨S4x2304x1024, .f32⟩
  | .hbm, ⟨7, _⟩ => ⟨S4x2304x1024, .f32⟩
  | .hbm, ⟨8, _⟩ => ⟨S9216x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDout.lean ====
abbrev S4x2304x1024 : Shape := ⟨3, ![4, 2304, 1024]⟩
abbrev S768x1024 : Shape := ⟨2, ![768, 1024]⟩
abbrev S9216x1024 : Shape := ⟨2, ![9216, 1024]⟩
abbrev S1024x768 : Shape := ⟨2, ![1024, 768]⟩
abbrev S9216x768 : Shape := ⟨2, ![9216, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S768x1024, .bf16⟩
  | .hbm, ⟨2, _⟩ => ⟨S9216x1024, .bf16⟩
  | .hbm, ⟨3, _⟩ => ⟨S1024x768, .bf16⟩
  | .hbm, ⟨4, _⟩ => ⟨S9216x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDoutIdeal.lean ====
abbrev S4x2304x1024 : Shape := ⟨3, ![4, 2304, 1024]⟩
abbrev S768x1024 : Shape := ⟨2, ![768, 1024]⟩
abbrev S9216x1024 : Shape := ⟨2, ![9216, 1024]⟩
abbrev S1024x768 : Shape := ⟨2, ![1024, 768]⟩
abbrev S9216x768 : Shape := ⟨2, ![9216, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S768x1024, .bf16⟩
  | .hbm, ⟨2, _⟩ => ⟨S9216x1024, .bf16⟩
  | .hbm, ⟨3, _⟩ => ⟨S1024x768, .bf16⟩
  | .hbm, ⟨4, _⟩ => ⟨S9216x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDoutRefIdeal.lean ====
abbrev S4x2304x1024 : Shape := ⟨3, ![4, 2304, 1024]⟩
abbrev S768x1024 : Shape := ⟨2, ![768, 1024]⟩
abbrev S_ : Shape := ⟨0, ![]⟩
abbrev S4x2304x768 : Shape := ⟨3, ![4, 2304, 768]⟩
abbrev S9216x768 : Shape := ⟨2, ![9216, 768]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S768x1024, .bf16⟩
  | .hbm, ⟨2, _⟩ => ⟨S_, .f32⟩
  | .hbm, ⟨3, _⟩ => ⟨S4x2304x768, .f32⟩
  | .hbm, ⟨4, _⟩ => ⟨S768x1024, .f32⟩
  | .hbm, ⟨5, _⟩ => ⟨S4x2304x1024, .f32⟩
  | .hbm, ⟨6, _⟩ => ⟨S4x2304x1024, .f32⟩
  | .hbm, ⟨7, _⟩ => ⟨S4x2304x768, .f32⟩
  | .hbm, ⟨8, _⟩ => ⟨S9216x768, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDoutU.lean ====
abbrev S4x2304x1024 : Shape := ⟨3, ![4, 2304, 1024]⟩
abbrev S256x1024 : Shape := ⟨2, ![256, 1024]⟩
abbrev S9216x1024 : Shape := ⟨2, ![9216, 1024]⟩
abbrev S1024x256 : Shape := ⟨2, ![1024, 256]⟩
abbrev S9216x256 : Shape := ⟨2, ![9216, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S256x1024, .bf16⟩
  | .hbm, ⟨2, _⟩ => ⟨S9216x1024, .bf16⟩
  | .hbm, ⟨3, _⟩ => ⟨S1024x256, .bf16⟩
  | .hbm, ⟨4, _⟩ => ⟨S9216x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDoutURefIdeal.lean ====
abbrev S4x2304x1024 : Shape := ⟨3, ![4, 2304, 1024]⟩
abbrev S256x1024 : Shape := ⟨2, ![256, 1024]⟩
abbrev S_ : Shape := ⟨0, ![]⟩
abbrev S4x2304x256 : Shape := ⟨3, ![4, 2304, 256]⟩
abbrev S9216x256 : Shape := ⟨2, ![9216, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S256x1024, .bf16⟩
  | .hbm, ⟨2, _⟩ => ⟨S_, .f32⟩
  | .hbm, ⟨3, _⟩ => ⟨S4x2304x256, .f32⟩
  | .hbm, ⟨4, _⟩ => ⟨S256x1024, .f32⟩
  | .hbm, ⟨5, _⟩ => ⟨S4x2304x1024, .f32⟩
  | .hbm, ⟨6, _⟩ => ⟨S4x2304x1024, .f32⟩
  | .hbm, ⟨7, _⟩ => ⟨S4x2304x256, .f32⟩
  | .hbm, ⟨8, _⟩ => ⟨S9216x256, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvDw.lean ====
abbrev S4x2304x1024 : Shape := ⟨3, ![4, 2304, 1024]⟩
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvDwIdeal.lean ====
abbrev S4x2304x1024 : Shape := ⟨3, ![4, 2304, 1024]⟩
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S9216x1024, .bf16⟩
  | .hbm, ⟨3, _⟩ => ⟨S9216x1024, .bf16⟩
  | .hbm, ⟨4, _⟩ => ⟨S1024x1024, .f32⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvDwRefIdeal.lean ====
abbrev S4x2304x1024 : Shape := ⟨3, ![4, 2304, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S_, .f32⟩
  | .hbm, ⟨3, _⟩ => ⟨S1024x1024, .f32⟩
  | .hbm, ⟨4, _⟩ => ⟨S4x2304x1024, .f32⟩
  | .hbm, ⟨5, _⟩ => ⟨S4x2304x1024, .f32⟩
  | .hbm, ⟨6, _⟩ => ⟨S4x2304x1024, .f32⟩
  | .hbm, ⟨7, _⟩ => ⟨S1024x1024, .f32⟩
  | .hbm, ⟨8, _⟩ => ⟨S1024x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvDwXbc.lean ====
abbrev S4x2304x1024 : Shape := ⟨3, ![4, 2304, 1024]⟩
abbrev S4x2304x1536 : Shape := ⟨3, ![4, 2304, 1536]⟩
abbrev S9216x1024 : Shape := ⟨2, ![9216, 1024]⟩
abbrev S9216x1536 : Shape := ⟨2, ![9216, 1536]⟩
abbrev S1024x1536 : Shape := ⟨2, ![1024, 1536]⟩
abbrev S2304x1024 : Shape := ⟨2, ![2304, 1024]⟩
abbrev S2304x768 : Shape := ⟨2, ![2304, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1536, .bf16⟩
  | .hbm, ⟨2, _⟩ => ⟨S9216x1024, .bf16⟩
  | .hbm, ⟨3, _⟩ => ⟨S9216x1536, .bf16⟩
  | .hbm, ⟨4, _⟩ => ⟨S1024x1536, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1024x768, .f32⟩
  | .local _ .vmem, ⟨5, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwXbcIdeal.lean ====
abbrev S4x2304x1024 : Shape := ⟨3, ![4, 2304, 1024]⟩
abbrev S4x2304x1536 : Shape := ⟨3, ![4, 2304, 1536]⟩
abbrev S9216x1024 : Shape := ⟨2, ![9216, 1024]⟩
abbrev S9216x1536 : Shape := ⟨2, ![9216, 1536]⟩
abbrev S1024x1536 : Shape := ⟨2, ![1024, 1536]⟩
abbrev S2304x1024 : Shape := ⟨2, ![2304, 1024]⟩
abbrev S2304x768 : Shape := ⟨2, ![2304, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1536, .bf16⟩
  | .hbm, ⟨2, _⟩ => ⟨S9216x1024, .bf16⟩
  | .hbm, ⟨3, _⟩ => ⟨S9216x1536, .bf16⟩
  | .hbm, ⟨4, _⟩ => ⟨S1024x1536, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1024x768, .f32⟩
  | .local _ .vmem, ⟨5, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwXbcRefIdeal.lean ====
abbrev S4x2304x1024 : Shape := ⟨3, ![4, 2304, 1024]⟩
abbrev S4x2304x1536 : Shape := ⟨3, ![4, 2304, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1536, .bf16⟩
  | .hbm, ⟨2, _⟩ => ⟨S_, .f32⟩
  | .hbm, ⟨3, _⟩ => ⟨S1024x1536, .f32⟩
  | .hbm, ⟨4, _⟩ => ⟨S4x2304x1024, .f32⟩
  | .hbm, ⟨5, _⟩ => ⟨S4x2304x1536, .f32⟩
  | .hbm, ⟨6, _⟩ => ⟨S4x2304x1536, .f32⟩
  | .hbm, ⟨7, _⟩ => ⟨S1536x1024, .f32⟩
  | .hbm, ⟨8, _⟩ => ⟨S1024x1536, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDw.lean ====
abbrev S4x2304x1024 : Shape := ⟨3, ![4, 2304, 1024]⟩
abbrev S4x2304x768 : Shape := ⟨3, ![4, 2304, 768]⟩
abbrev S9216x1024 : Shape := ⟨2, ![9216, 1024]⟩
abbrev S9216x768 : Shape := ⟨2, ![9216, 768]⟩
abbrev S1024x768 : Shape := ⟨2, ![1024, 768]⟩
abbrev S2304x1024 : Shape := ⟨2, ![2304, 1024]⟩
abbrev S2304x768 : Shape := ⟨2, ![2304, 768]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .bf16⟩
  | .hbm, ⟨2, _⟩ => ⟨S9216x1024, .bf16⟩
  | .hbm, ⟨3, _⟩ => ⟨S9216x768, .bf16⟩
  | .hbm, ⟨4, _⟩ => ⟨S1024x768, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwIdeal.lean ====
abbrev S4x2304x1024 : Shape := ⟨3, ![4, 2304, 1024]⟩
abbrev S4x2304x768 : Shape := ⟨3, ![4, 2304, 768]⟩
abbrev S9216x1024 : Shape := ⟨2, ![9216, 1024]⟩
abbrev S9216x768 : Shape := ⟨2, ![9216, 768]⟩
abbrev S1024x768 : Shape := ⟨2, ![1024, 768]⟩
abbrev S2304x1024 : Shape := ⟨2, ![2304, 1024]⟩
abbrev S2304x768 : Shape := ⟨2, ![2304, 768]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .bf16⟩
  | .hbm, ⟨2, _⟩ => ⟨S9216x1024, .bf16⟩
  | .hbm, ⟨3, _⟩ => ⟨S9216x768, .bf16⟩
  | .hbm, ⟨4, _⟩ => ⟨S1024x768, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwRefIdeal.lean ====
abbrev S4x2304x1024 : Shape := ⟨3, ![4, 2304, 1024]⟩
abbrev S4x2304x768 : Shape := ⟨3, ![4, 2304, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .bf16⟩
  | .hbm, ⟨2, _⟩ => ⟨S_, .f32⟩
  | .hbm, ⟨3, _⟩ => ⟨S1024x768, .f32⟩
  | .hbm, ⟨4, _⟩ => ⟨S4x2304x1024, .f32⟩
  | .hbm, ⟨5, _⟩ => ⟨S4x2304x768, .f32⟩
  | .hbm, ⟨6, _⟩ => ⟨S4x2304x768, .f32⟩
  | .hbm, ⟨7, _⟩ => ⟨S768x1024, .f32⟩
  | .hbm, ⟨8, _⟩ => ⟨S1024x768, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDwV.lean ====
abbrev S4x2304x1024 : Shape := ⟨3, ![4, 2304, 1024]⟩
abbrev S4x2304x768 : Shape := ⟨3, ![4, 2304, 768]⟩
abbrev S9216x1024 : Shape := ⟨2, ![9216, 1024]⟩
abbrev S9216x768 : Shape := ⟨2, ![9216, 768]⟩
abbrev S1024x768 : Shape := ⟨2, ![1024, 768]⟩
abbrev S2304x1024 : Shape := ⟨2, ![2304, 1024]⟩
abbrev S2304x768 : Shape := ⟨2, ![2304, 768]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .f32⟩
  | .hbm, ⟨2, _⟩ => ⟨S9216x1024, .bf16⟩
  | .hbm, ⟨3, _⟩ => ⟨S9216x768, .f32⟩
  | .hbm, ⟨4, _⟩ => ⟨S1024x768, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .f32⟩
  | .local _ .vmem, ⟨3, _⟩ => ⟨S2304x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwVIdeal.lean ====
abbrev S4x2304x1024 : Shape := ⟨3, ![4, 2304, 1024]⟩
abbrev S4x2304x768 : Shape := ⟨3, ![4, 2304, 768]⟩
abbrev S9216x1024 : Shape := ⟨2, ![9216, 1024]⟩
abbrev S9216x768 : Shape := ⟨2, ![9216, 768]⟩
abbrev S1024x768 : Shape := ⟨2, ![1024, 768]⟩
abbrev S2304x1024 : Shape := ⟨2, ![2304, 1024]⟩
abbrev S2304x768 : Shape := ⟨2, ![2304, 768]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .f32⟩
  | .hbm, ⟨2, _⟩ => ⟨S9216x1024, .bf16⟩
  | .hbm, ⟨3, _⟩ => ⟨S9216x768, .f32⟩
  | .hbm, ⟨4, _⟩ => ⟨S1024x768, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .f32⟩
  | .local _ .vmem, ⟨3, _⟩ => ⟨S2304x768, .f32⟩
  | .local _ .vmem, ⟨4, _⟩ => ⟨S1024x768, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwVRefIdeal.lean ====
abbrev S4x2304x1024 : Shape := ⟨3, ![4, 2304, 1024]⟩
abbrev S4x2304x768 : Shape := ⟨3, ![4, 2304, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x768, .f32⟩
  | .hbm, ⟨2, _⟩ => ⟨S_, .f32⟩
  | .hbm, ⟨3, _⟩ => ⟨S1024x768, .f32⟩
  | .hbm, ⟨4, _⟩ => ⟨S4x2304x1024, .f32⟩
  | .hbm, ⟨5, _⟩ => ⟨S4x2304x768, .f32⟩
  | .hbm, ⟨6, _⟩ => ⟨S768x1024, .f32⟩
  | .hbm, ⟨7, _⟩ => ⟨S1024x768, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdDwU.lean ====
abbrev S4x2304x1024 : Shape := ⟨3, ![4, 2304, 1024]⟩
abbrev S4x2304x256 : Shape := ⟨3, ![4, 2304, 256]⟩
abbrev S9216x1024 : Shape := ⟨2, ![9216, 1024]⟩
abbrev S9216x256 : Shape := ⟨2, ![9216, 256]⟩
abbrev S1024x256 : Shape := ⟨2, ![1024, 256]⟩
abbrev S2304x1024 : Shape := ⟨2, ![2304, 1024]⟩
abbrev S2304x256 : Shape := ⟨2, ![2304, 256]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x256, .f32⟩
  | .hbm, ⟨2, _⟩ => ⟨S9216x1024, .bf16⟩
  | .hbm, ⟨3, _⟩ => ⟨S9216x256, .f32⟩
  | .hbm, ⟨4, _⟩ => ⟨S1024x256, .f32⟩
  | .local _ .vmem, ⟨0, _⟩ => ⟨S2304x1024, .bf16⟩
  | .local _ .vmem, ⟨1, _⟩ => ⟨S2304x1024, .bf16⟩
  | .local _ .vmem, ⟨2, _⟩ => ⟨S2304x256, .f32⟩
  | .local _ .vmem, ⟨3, _⟩ => ⟨S2304x256, .f32⟩
  | .local _ .vmem, ⟨4, _⟩ => ⟨S1024x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwUIdeal.lean ====
abbrev S4x2304x1024 : Shape := ⟨3, ![4, 2304, 1024]⟩
abbrev S4x2304x256 : Shape := ⟨3, ![4, 2304, 256]⟩
abbrev S9216x1024 : Shape := ⟨2, ![9216, 1024]⟩
abbrev S9216x256 : Shape := ⟨2, ![9216, 256]⟩
abbrev S1024x256 : Shape := ⟨2, ![1024, 256]⟩
abbrev S2304x1024 : Shape := ⟨2, ![2304, 1024]⟩
abbrev S2304x256 : Shape := ⟨2, ![2304, 256]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x256, .f32⟩
  | .hbm, ⟨2, _⟩ => ⟨S9216x1024, .bf16⟩
  | .hbm, ⟨3, _⟩ => ⟨S9216x256, .f32⟩
  | .hbm, ⟨4, _⟩ => ⟨S1024x256, .f32⟩
  | .local _ .vmem, ⟨0, _⟩ => ⟨S2304x1024, .bf16⟩
  | .local _ .vmem, ⟨1, _⟩ => ⟨S2304x1024, .bf16⟩
  | .local _ .vmem, ⟨2, _⟩ => ⟨S2304x256, .f32⟩
  | .local _ .vmem, ⟨3, _⟩ => ⟨S2304x256, .f32⟩
  | .local _ .vmem, ⟨4, _⟩ => ⟨S1024x256, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwURefIdeal.lean ====
abbrev S4x2304x1024 : Shape := ⟨3, ![4, 2304, 1024]⟩
abbrev S4x2304x256 : Shape := ⟨3, ![4, 2304, 256]⟩
abbrev S_ : Shape := ⟨0, ![]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x256, .f32⟩
  | .hbm, ⟨2, _⟩ => ⟨S_, .f32⟩
  | .hbm, ⟨3, _⟩ => ⟨S1024x256, .f32⟩
  | .hbm, ⟨4, _⟩ => ⟨S4x2304x1024, .f32⟩
  | .hbm, ⟨5, _⟩ => ⟨S4x2304x256, .f32⟩
  | .hbm, ⟨6, _⟩ => ⟨S256x1024, .f32⟩
  | .hbm, ⟨7, _⟩ => ⟨S1024x256, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdDwOut.lean ====
abbrev S4x2304x768 : Shape := ⟨3, ![4, 2304, 768]⟩
abbrev S4x2304x1024 : Shape := ⟨3, ![4, 2304, 1024]⟩
abbrev S9216x768 : Shape := ⟨2, ![9216, 768]⟩
abbrev S9216x1024 : Shape := ⟨2, ![9216, 1024]⟩
abbrev S768x1024 : Shape := ⟨2, ![768, 1024]⟩
abbrev S2304x768 : Shape := ⟨2, ![2304, 768]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S9216x768, .bf16⟩
  | .hbm, ⟨3, _⟩ => ⟨S9216x1024, .bf16⟩
  | .hbm, ⟨4, _⟩ => ⟨S768x1024, .f32⟩
  | .local _ .vmem, ⟨0, _⟩ => ⟨S2304x768, .bf16⟩
  | .local _ .vmem, ⟨1, _⟩ => ⟨S2304x768, .bf16⟩
  | .local _ .vmem, ⟨2, _⟩ => ⟨S2304x1024, .bf16⟩
  | .local _ .vmem, ⟨3, _⟩ => ⟨S2304x1024, .bf16⟩
  | .local _ .vmem, ⟨4, _⟩ => ⟨S768x1024, .f32⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwOutIdeal.lean ====
abbrev S4x2304x768 : Shape := ⟨3, ![4, 2304, 768]⟩
abbrev S4x2304x1024 : Shape := ⟨3, ![4, 2304, 1024]⟩
abbrev S9216x768 : Shape := ⟨2, ![9216, 768]⟩
abbrev S9216x1024 : Shape := ⟨2, ![9216, 1024]⟩
abbrev S768x1024 : Shape := ⟨2, ![768, 1024]⟩
abbrev S2304x768 : Shape := ⟨2, ![2304, 768]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S9216x768, .bf16⟩
  | .hbm, ⟨3, _⟩ => ⟨S9216x1024, .bf16⟩
  | .hbm, ⟨4, _⟩ => ⟨S768x1024, .f32⟩
  | .local _ .vmem, ⟨0, _⟩ => ⟨S2304x768, .bf16⟩
  | .local _ .vmem, ⟨1, _⟩ => ⟨S2304x768, .bf16⟩
  | .local _ .vmem, ⟨2, _⟩ => ⟨S2304x1024, .bf16⟩
  | .local _ .vmem, ⟨3, _⟩ => ⟨S2304x1024, .bf16⟩
  | .local _ .vmem, ⟨4, _⟩ => ⟨S768x1024, .f32⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwOutRefIdeal.lean ====
abbrev S4x2304x768 : Shape := ⟨3, ![4, 2304, 768]⟩
abbrev S4x2304x1024 : Shape := ⟨3, ![4, 2304, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x768, .bf16⟩
  | .hbm, ⟨1, _⟩ => ⟨S4x2304x1024, .bf16⟩
  | .hbm, ⟨2, _⟩ => ⟨S_, .f32⟩
  | .hbm, ⟨3, _⟩ => ⟨S768x1024, .f32⟩
  | .hbm, ⟨4, _⟩ => ⟨S4x2304x768, .f32⟩
  | .hbm, ⟨5, _⟩ => ⟨S4x2304x1024, .f32⟩
  | .hbm, ⟨6, _⟩ => ⟨S4x2304x1024, .f32⟩
  | .hbm, ⟨7, _⟩ => ⟨S1024x768, .f32⟩
  | .hbm, ⟨8, _⟩ => ⟨S768x1024, .f32⟩
  | _, _ => ⟨S4x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdDwOutU.lean ====
abbrev S4x2304x256 : Shape := ⟨3, ![4, 2304, 256]⟩
abbrev S4x2304x1024 : Shape := ⟨3, ![4, 2304, 1024]⟩
abbrev S9216x256 : Shape := ⟨2, ![9216, 256]⟩
abbrev S9216x1024 : Shape := ⟨2, ![9216, 1024]⟩
abbrev S256x1024 : Shape := ⟨2, ![256, 1024]⟩
abbrev S2304x256 : Shape := ⟨2, ![2304, 256]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x256, .bf16⟩
  | .hbm, ⟨1, _⟩ => ⟨S4x2304x1024, .bf16⟩
  | .hbm, ⟨2, _⟩ => ⟨S9216x256, .bf16⟩
  | .hbm, ⟨3, _⟩ => ⟨S9216x1024, .bf16⟩
  | .hbm, ⟨4, _⟩ => ⟨S256x1024, .f32⟩
  | .local _ .vmem, ⟨0, _⟩ => ⟨S2304x256, .bf16⟩
  | .local _ .vmem, ⟨1, _⟩ => ⟨S2304x256, .bf16⟩
  | .local _ .vmem, ⟨2, _⟩ => ⟨S2304x1024, .bf16⟩
  | .local _ .vmem, ⟨3, _⟩ => ⟨S2304x1024, .bf16⟩
  | .local _ .vmem, ⟨4, _⟩ => ⟨S256x1024, .f32⟩
  | _, _ => ⟨S4x2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwOutUIdeal.lean ====
abbrev S4x2304x256 : Shape := ⟨3, ![4, 2304, 256]⟩
abbrev S4x2304x1024 : Shape := ⟨3, ![4, 2304, 1024]⟩
abbrev S9216x256 : Shape := ⟨2, ![9216, 256]⟩
abbrev S9216x1024 : Shape := ⟨2, ![9216, 1024]⟩
abbrev S256x1024 : Shape := ⟨2, ![256, 1024]⟩
abbrev S2304x256 : Shape := ⟨2, ![2304, 256]⟩
abbrev S2304x1024 : Shape := ⟨2, ![2304, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x256, .bf16⟩
  | .hbm, ⟨1, _⟩ => ⟨S4x2304x1024, .bf16⟩
  | .hbm, ⟨2, _⟩ => ⟨S9216x256, .bf16⟩
  | .hbm, ⟨3, _⟩ => ⟨S9216x1024, .bf16⟩
  | .hbm, ⟨4, _⟩ => ⟨S256x1024, .f32⟩
  | .local _ .vmem, ⟨0, _⟩ => ⟨S2304x256, .bf16⟩
  | .local _ .vmem, ⟨1, _⟩ => ⟨S2304x256, .bf16⟩
  | .local _ .vmem, ⟨2, _⟩ => ⟨S2304x1024, .bf16⟩
  | .local _ .vmem, ⟨3, _⟩ => ⟨S2304x1024, .bf16⟩
  | .local _ .vmem, ⟨4, _⟩ => ⟨S256x1024, .f32⟩
  | _, _ => ⟨S4x2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdDwOutURefIdeal.lean ====
abbrev S4x2304x256 : Shape := ⟨3, ![4, 2304, 256]⟩
abbrev S4x2304x1024 : Shape := ⟨3, ![4, 2304, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x2304x256, .bf16⟩
  | .hbm, ⟨1, _⟩ => ⟨S4x2304x1024, .bf16⟩
  | .hbm, ⟨2, _⟩ => ⟨S_, .f32⟩
  | .hbm, ⟨3, _⟩ => ⟨S256x1024, .f32⟩
  | .hbm, ⟨4, _⟩ => ⟨S4x2304x256, .f32⟩
  | .hbm, ⟨5, _⟩ => ⟨S4x2304x1024, .f32⟩
  | .hbm, ⟨6, _⟩ => ⟨S4x2304x1024, .f32⟩
  | .hbm, ⟨7, _⟩ => ⟨S1024x256, .f32⟩
  | .hbm, ⟨8, _⟩ => ⟨S256x1024, .f32⟩
  | _, _ => ⟨S4x2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvDhn.lean ====
abbrev S4x2304x1024 : Shape := ⟨3, ![4, 2304, 1024]⟩
abbrev S4x2304x1536 : Shape := ⟨3, ![4, 2304, 1536]⟩
abbrev S4x2304x32 : Shape := ⟨3, ![4, 2304, 32]⟩
abbrev S1024x4640 : Shape := ⟨2, ![1024, 4640]⟩
abbrev S9216x1024 : Shape := ⟨2, ![9216, 1024]⟩
abbrev S9216x1536 : Shape := ⟨2, ![9216, 1536]⟩
abbrev S9216x32 : Shape := ⟨2, ![9216, 32]⟩
abbrev S_ : Shape := ⟨0, ![]⟩
abbrev S9216x128 : Shape := ⟨2, ![9216, 128]⟩
abbrev S1024x1024 : Shape := ⟨2, ![1024, 1024]⟩
abbrev S1024x1536 : Shape := ⟨2, ![1024, 1536]⟩
abbrev S1536x1024 : Shape := ⟨2, ![1536, 1024]⟩
abbrev S1024x32 : Shape := ⟨2, ![1024, 32]⟩
abbrev S1024x128 : Shape := ⟨2, ![1024, 128]⟩
abbrev S128x1024 : Shape := ⟨2, ![128, 1024]⟩
abbrev S768x1024 : Shape := ⟨2, ![768, 1024]⟩
abbrev S1024x512 : Shape := ⟨2, ![1024, 512]⟩
abbrev S768x1536 : Shape := ⟨2, ![768, 1536]⟩
abbrev S1536x512 : Shape := ⟨2, ![1536, 512]⟩
abbrev S768x128 : Shape := ⟨2, ![768, 128]⟩
abbrev S128x512 : Shape := ⟨2, ![128, 512]⟩
abbrev S768x512 : Shape := ⟨2, ![768, 512]⟩

abbrev nBuf : Space → Nat
  | .hbm => 28
  | .vmem => 22
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1536, .bf16⟩
  | .hbm, ⟨2, _⟩ => ⟨S4x2304x32, .f32⟩
  | .hbm, ⟨3, _⟩ => ⟨S4x2304x1024, .bf16⟩
  | .hbm, ⟨4, _⟩ => ⟨S4x2304x1024, .bf16⟩
  | .hbm, ⟨5, _⟩ => ⟨S1024x4640, .bf16⟩
  | .hbm, ⟨6, _⟩ => ⟨S9216x1024, .bf16⟩
  | .hbm, ⟨7, _⟩ => ⟨S9216x1536, .bf16⟩
  | .hbm, ⟨8, _⟩ => ⟨S9216x32, .f32⟩
  | .hbm, ⟨9, _⟩ => ⟨S_, .i32⟩
  | .hbm, ⟨10, _⟩ => ⟨S_, .f32⟩
  | .hbm, ⟨11, _⟩ => ⟨S9216x128, .f32⟩
  | .hbm, ⟨12, _⟩ => ⟨S9216x1024, .bf16⟩
  | .hbm, ⟨13, _⟩ => ⟨S9216x1024, .bf16⟩
  | .hbm, ⟨14, _⟩ => ⟨S1024x1024, .bf16⟩
  | .hbm, ⟨15, _⟩ => ⟨S1024x1024, .bf16⟩
  | .hbm, ⟨16, _⟩ => ⟨S1024x1536, .bf16⟩
  | .hbm, ⟨17, _⟩ => ⟨S1536x1024, .bf16⟩
  | .hbm, ⟨18, _⟩ => ⟨S1024x32, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S128x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S9216x1024, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x1536, .bf16⟩
  | .local _ .vmem, ⟨5, _⟩ => ⟨S768x1536, .bf16⟩
  | .local _ .vmem, ⟨6, _⟩ => ⟨S1536x512, .bf16⟩
  | .local _ .vmem, ⟨7, _⟩ => ⟨S1536x512, .bf16⟩
  | .local _ .vmem, ⟨8, _⟩ => ⟨S768x128, .f32⟩
  | .local _ .vmem, ⟨9, _⟩ => ⟨S768x128, .f32⟩
  | .local _ .vmem, ⟨10, _⟩ => ⟨S128x512, .bf16⟩
  | .local _ .vmem, ⟨11, _⟩ => ⟨S128x512, .bf16⟩
  | .local _ .vmem, ⟨12, _⟩ => ⟨S768x1024, .bf16⟩
  | .local _ .vmem, ⟨13, _⟩ => ⟨S768x1024, .bf16⟩
  | .local _ .vmem, ⟨14, _⟩ => ⟨S1024x512, .bf16⟩
  | .local _ .vmem, ⟨15, _⟩ => ⟨S1024x512, .bf16⟩
  | .local _ .vmem, ⟨16, _⟩ => ⟨S768x1024, .bf16⟩
  | .local _ .vmem, ⟨17, _⟩ => ⟨S768x1024, .bf16⟩
  | .local _ .vmem, ⟨18, _⟩ => ⟨S1024x512, .bf16⟩
  | .local _ .vmem, ⟨19, _⟩ => ⟨S1024x512, .bf16⟩
  | .local _ .vmem, ⟨20, _⟩ => ⟨S768x512, .f32⟩
  | .local _ .vmem, ⟨21, _⟩ => ⟨S768x512, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![12, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== EvDhnRefIdeal.lean ====
abbrev S4x2304x1024 : Shape := ⟨3, ![4, 2304, 1024]⟩
abbrev S4x2304x1536 : Shape := ⟨3, ![4, 2304, 1536]⟩
abbrev S4x2304x32 : Shape := ⟨3, ![4, 2304, 32]⟩
abbrev S1024x4640 : Shape := ⟨2, ![1024, 4640]⟩
abbrev S_ : Shape := ⟨0, ![]⟩
abbrev S4x2304x4640 : Shape := ⟨3, ![4, 2304, 4640]⟩
abbrev S9216x1024 : Shape := ⟨2, ![9216, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1536, .bf16⟩
  | .hbm, ⟨2, _⟩ => ⟨S4x2304x32, .f32⟩
  | .hbm, ⟨3, _⟩ => ⟨S4x2304x1024, .bf16⟩
  | .hbm, ⟨4, _⟩ => ⟨S4x2304x1024, .bf16⟩
  | .hbm, ⟨5, _⟩ => ⟨S1024x4640, .bf16⟩
  | .hbm, ⟨6, _⟩ => ⟨S_, .f32⟩
  | .hbm, ⟨7, _⟩ => ⟨S4x2304x1024, .f32⟩
  | .hbm, ⟨8, _⟩ => ⟨S4x2304x1024, .f32⟩
  | .hbm, ⟨9, _⟩ => ⟨S4x2304x1536, .f32⟩
  | .hbm, ⟨10, _⟩ => ⟨S4x2304x1024, .f32⟩
  | .hbm, ⟨11, _⟩ => ⟨S4x2304x1024, .f32⟩
  | .hbm, ⟨12, _⟩ => ⟨S1024x4640, .f32⟩
  | .hbm, ⟨13, _⟩ => ⟨S4x2304x4640, .f32⟩
  | .hbm, ⟨14, _⟩ => ⟨S4x2304x1024, .f32⟩
  | .hbm, ⟨15, _⟩ => ⟨S4x2304x1536, .f32⟩
  | .hbm, ⟨16, _⟩ => ⟨S4x2304x32, .f32⟩
  | .hbm, ⟨17, _⟩ => ⟨S4x2304x1024, .f32⟩
  | .hbm, ⟨18, _⟩ => ⟨S4x2304x1024, .f32⟩
  | .hbm, ⟨19, _⟩ => ⟨S4x2304x4640, .f32⟩
  | .hbm, ⟨20, _⟩ => ⟨S4x2304x1024, .f32⟩
  | .hbm, ⟨21, _⟩ => ⟨S9216x1024, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OdDhn.lean ====
abbrev S4x2304x768 : Shape := ⟨3, ![4, 2304, 768]⟩
abbrev S4x2304x256 : Shape := ⟨3, ![4, 2304, 256]⟩
abbrev S1024x4096 : Shape := ⟨2, ![1024, 4096]⟩
abbrev S9216x768 : Shape := ⟨2, ![9216, 768]⟩
abbrev S1024x768 : Shape := ⟨2, ![1024, 768]⟩
abbrev S768x1024 : Shape := ⟨2, ![768, 1024]⟩
abbrev S9216x256 : Shape := ⟨2, ![9216, 256]⟩
abbrev S1024x256 : Shape := ⟨2, ![1024, 256]⟩
abbrev S256x1024 : Shape := ⟨2, ![256, 1024]⟩
abbrev S9216x1024 : Shape := ⟨2, ![9216, 1024]⟩
abbrev S768x768 : Shape := ⟨2, ![768, 768]⟩
abbrev S768x256 : Shape := ⟨2, ![768, 256]⟩

abbrev nBuf : Space → Nat
  | .hbm => 26
  | .vmem => 20
  | .smem => 0
  | _ => 0

abbrev bufTy : (tb : Table) → Fin (tcTables nBuf tb) → BufTy
  | .hbm, ⟨0, _⟩ => ⟨S4x2304x768, .bf16⟩
  | .hbm, ⟨1, _⟩ => ⟨S4x2304x768, .bf16⟩
  | .hbm, ⟨2, _⟩ => ⟨S4x2304x768, .bf16⟩
  | .hbm, ⟨3, _⟩ => ⟨S4x2304x768, .f32⟩
  | .hbm, ⟨4, _⟩ => ⟨S4x2304x768, .bf16⟩
  | .hbm, ⟨5, _⟩ => ⟨S4x2304x256, .f32⟩
  | .hbm, ⟨6, _⟩ => ⟨S1024x4096, .bf16⟩
  | .hbm, ⟨7, _⟩ => ⟨S9216x768, .bf16⟩
  | .hbm, ⟨8, _⟩ => ⟨S1024x768, .bf16⟩
  | .hbm, ⟨9, _⟩ => ⟨S768x1024, .bf16⟩
  | .hbm, ⟨10, _⟩ => ⟨S9216x768, .bf16⟩
  | .hbm, ⟨11, _⟩ => ⟨S1024x768, .bf16⟩
  | .hbm, ⟨12, _⟩ => ⟨S768x1024, .bf16⟩
  | .hbm, ⟨13, _⟩ => ⟨S9216x768, .bf16⟩
  | .hbm, ⟨14, _⟩ => ⟨S1024x768, .bf16⟩
  | .hbm, ⟨15, _⟩ => ⟨S768x1024, .bf16⟩
  | .hbm, ⟨16, _⟩ => ⟨S9216x768, .f32⟩
  | .hbm, ⟨17, _⟩ => ⟨S1024x768, .bf16⟩
  | .hbm, ⟨18, _⟩ => ⟨S768x1024, .bf16⟩
  | .hbm, ⟨19, _⟩ => ⟨S9216x768, .bf16⟩
  | .hbm, ⟨20, _⟩ => ⟨S1024x768, .bf16⟩
  | .hbm, ⟨21, _⟩ => ⟨S768x1024, .bf16⟩
  | .hbm, ⟨22, _⟩ => ⟨S9216x256, .f32⟩
  | .hbm, ⟨23, _⟩ => ⟨S1024x256, .bf16⟩
  | .hbm, ⟨24, _⟩ => ⟨S256x1024, .bf16⟩
  | .hbm, ⟨25, _⟩ => ⟨S9216x1024, .f32⟩
  | .local _ .vmem, ⟨0, _⟩ => ⟨S768x768, .bf16⟩
  | .local _ .vmem, ⟨1, _⟩ => ⟨S768x768, .bf16⟩
  | .local _ .vmem, ⟨2, _⟩ => ⟨S768x1024, .bf16⟩
  | .local _ .vmem, ⟨3, _⟩ => ⟨S768x768, .bf16⟩
  | .local _ .vmem, ⟨4, _⟩ => ⟨S768x768, .bf16⟩
  | .local _ .vmem, ⟨5, _⟩ => ⟨S768x1024, .bf16⟩
  | .local _ .vmem, ⟨6, _⟩ => ⟨S768x768, .bf16⟩
  | .local _ .vmem, ⟨7, _⟩ => ⟨S768x768, .bf16⟩
  | .local _ .vmem, ⟨8, _⟩ => ⟨S768x1024, .bf16⟩
  | .local _ .vmem, ⟨9, _⟩ => ⟨S768x768, .f32⟩
  | .local _ .vmem, ⟨10, _⟩ => ⟨S768x768, .f32⟩
  | .local _ .vmem, ⟨11, _⟩ => ⟨S768x1024, .bf16⟩
  | .local _ .vmem, ⟨12, _⟩ => ⟨S768x768, .bf16⟩
  | .local _ .vmem, ⟨13, _⟩ => ⟨S768x768, .bf16⟩
  | .local _ .vmem, ⟨14, _⟩ => ⟨S768x1024, .bf16⟩
  | .local _ .vmem, ⟨15, _⟩ => ⟨S768x256, .f32⟩
  | .local _ .vmem, ⟨16, _⟩ => ⟨S768x256, .f32⟩
  | .local _ .vmem, ⟨17, _⟩ => ⟨S256x1024, .bf16⟩
  | .local _ .vmem, ⟨18, _⟩ => ⟨S768x1024, .f32⟩
  | .local _ .vmem, ⟨19, _⟩ => ⟨S768x1024, .f32⟩
  | _, _ => ⟨S4x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S768x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, true]

abbrev stage0_8 : Fin 2 → Memref sig .tc .vmem S768x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, true]

abbrev stage0_10 : Fin 2 → Memref sig .tc .vmem S768x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, true]

abbrev stage0_12 : Fin 2 → Memref sig .tc .vmem S768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== OdDhnRefIdeal.lean ====
abbrev S4x2304x768 : Shape := ⟨3, ![4, 2304, 768]⟩
abbrev S4x2304x256 : Shape := ⟨3, ![4, 2304, 256]⟩
abbrev S1024x4096 : Shape := ⟨2, ![1024, 4096]⟩
abbrev S_ : Shape := ⟨0, ![]⟩
abbrev S4x2304x1024 : Shape := ⟨3, ![4, 2304, 1024]⟩
abbrev S4x2304x4096 : Shape := ⟨3, ![4, 2304, 4096]⟩
abbrev S9216x1024 : Shape := ⟨2, ![9216, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2304x768, .bf16⟩
  | .hbm, ⟨1, _⟩ => ⟨S4x2304x768, .bf16⟩
  | .hbm, ⟨2, _⟩ => ⟨S4x2304x768, .bf16⟩
  | .hbm, ⟨3, _⟩ => ⟨S4x2304x768, .f32⟩
  | .hbm, ⟨4, _⟩ => ⟨S4x2304x768, .bf16⟩
  | .hbm, ⟨5, _⟩ => ⟨S4x2304x256, .f32⟩
  | .hbm, ⟨6, _⟩ => ⟨S1024x4096, .bf16⟩
  | .hbm, ⟨7, _⟩ => ⟨S_, .f32⟩
  | .hbm, ⟨8, _⟩ => ⟨S4x2304x1024, .f32⟩
  | .hbm, ⟨9, _⟩ => ⟨S4x2304x768, .f32⟩
  | .hbm, ⟨10, _⟩ => ⟨S4x2304x768, .f32⟩
  | .hbm, ⟨11, _⟩ => ⟨S4x2304x768, .f32⟩
  | .hbm, ⟨12, _⟩ => ⟨S4x2304x768, .f32⟩
  | .hbm, ⟨13, _⟩ => ⟨S1024x4096, .f32⟩
  | .hbm, ⟨14, _⟩ => ⟨S4x2304x4096, .f32⟩
  | .hbm, ⟨15, _⟩ => ⟨S4x2304x768, .f32⟩
  | .hbm, ⟨16, _⟩ => ⟨S4x2304x768, .f32⟩
  | .hbm, ⟨17, _⟩ => ⟨S4x2304x768, .f32⟩
  | .hbm, ⟨18, _⟩ => ⟨S4x2304x768, .f32⟩
  | .hbm, ⟨19, _⟩ => ⟨S4x2304x768, .f32⟩
  | .hbm, ⟨20, _⟩ => ⟨S4x2304x256, .f32⟩
  | .hbm, ⟨21, _⟩ => ⟨S4x2304x4096, .f32⟩
  | .hbm, ⟨22, _⟩ => ⟨S4x2304x1024, .f32⟩
  | .hbm, ⟨23, _⟩ => ⟨S9216x1024, .f32⟩
  | _, _ => ⟨S4x2304x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== LruConvBwd.lean ====
abbrev S4x2304x1024 : Shape := ⟨3, ![4, 2304, 1024]⟩
abbrev S4x1024 : Shape := ⟨2, ![4, 1024]⟩
abbrev S1024 : Shape := ⟨1, ![1024]⟩
abbrev S1x1024 : Shape := ⟨2, ![1, 1024]⟩
abbrev S1x2304x256 : Shape := ⟨3, ![1, 2304, 256]⟩
abbrev S4x256 : Shape := ⟨2, ![4, 256]⟩
abbrev S1x256 : Shape := ⟨2, ![1, 256]⟩
abbrev S2304x256 : Shape := ⟨2, ![2304, 256]⟩
abbrev S2304x1 : Shape := ⟨2, ![2304, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4x2304x1024, .f32⟩
  | .hbm, ⟨1, _⟩ => ⟨S4x1024, .f32⟩
  | .hbm, ⟨2, _⟩ => ⟨S1024, .f32⟩
  | .hbm, ⟨3, _⟩ => ⟨S4x2304x1024, .f32⟩
  | .hbm, ⟨4, _⟩ => ⟨S1x1024, .f32⟩
  | .hbm, ⟨5, _⟩ => ⟨S4x2304x1024, .bf16⟩
  | .hbm, ⟨6, _⟩ => ⟨S4x1024, .f32⟩
  | .hbm, ⟨7, _⟩ => ⟨S1x1024, .f32⟩
  | .local _ .vmem, ⟨0, _⟩ => ⟨S1x2304x256, .f32⟩
  | .local _ .vmem, ⟨1, _⟩ => ⟨S1x2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .bf16⟩
  | .local _ .vmem, ⟨9, _⟩ => ⟨S1x2304x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_100 : BitVec 32 := 0#32
  let v222 : BitVec 1 := Scalar.cmpi .eq arg1 c0_i32_100
  let v223 : BitVec 32 := Scalar.extui v222
  let c0_i32_101 : BitVec 32 := 0#32
  let v224 : BitVec 1 := Scalar.cmpi .ne v223 c0_i32_101
  v224

def k0_cond2 (i : grid0.Coords) : BitVec 1 :=
  let arg1 : BitVec 32 := BitVec.ofNat 32 (i 1).val
  let c0_i32_102 : BitVec 32 := 0#32
  let v225 : BitVec 1 := Scalar.cmpi .sgt arg1 c0_i32_102
  let v226 : BitVec 32 := Scalar.extui v225
  let c0_i32_103 : BitVec 32 := 0#32
  let v227 : BitVec 1 := Scalar.cmpi .ne v226 c0_i32_103
  v227

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LruConvBwdRefIdeal.lean ====
abbrev S4x2304x1024 : Shape := ⟨3, ![4, 2304, 1024]⟩
abbrev S4x1024 : Shape := ⟨2, ![4, 1024]⟩
abbrev S1024 : Shape := ⟨1, ![1024]⟩
abbrev S4x256x1024 : Shape := ⟨3, ![4, 256, 1024]⟩
abbrev S4x1x1x1024 : Shape := ⟨4, ![4, 1, 1, 1024]⟩
abbrev S4x1x1024 : Shape := ⟨3, ![4, 1, 1024]⟩
abbrev S_ : Shape := ⟨0, ![]⟩
abbrev S4x259x1024 : Shape := ⟨3, ![4, 259, 1024]⟩
abbrev S1x4x256x1024 : Shape := ⟨4, ![1, 4, 256, 1024]⟩
abbrev S4x4x256x1024 : Shape := ⟨4, ![4, 4, 256, 1024]⟩
abbrev S1x1x1024 : Shape := ⟨3, ![1, 1, 1024]⟩
abbrev S4x2048x1024 : Shape := ⟨3, ![4, 2048, 1024]⟩
abbrev S4x2051x1024 : Shape := ⟨3, ![4, 2051, 1024]⟩
abbrev S1x4x2048x1024 : Shape := ⟨4, ![1, 4, 2048, 1024]⟩
abbrev S4x4x2048x1024 : Shape := ⟨4, ![4, 4, 2048, 1024]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S4x2304x1024, .f32⟩
  | 1 => ⟨S4x1024, .f32⟩
  | 2 => ⟨S1024, .f32⟩
  | 3 => ⟨S4x2304x1024, .f32⟩
  | 4 => ⟨S4x256x1024, .f32⟩
  | 5 => ⟨S4x1x1x1024, .f32⟩
  | 6 => ⟨S4x1x1024, .f32⟩
  | 7 => ⟨S_, .f32⟩
  | 8 => ⟨S4x1x1024, .f32⟩
  | 9 => ⟨S4x259x1024, .f32⟩
  | 10 => ⟨S_, .f32⟩
  | 11 => ⟨S4x1x1024, .f32⟩
  | 12 => ⟨S_, .f32⟩
  | 13 => ⟨S4x1x1024, .f32⟩
  | 14 => ⟨S_, .f32⟩
  | 15 => ⟨S4x1x1024, .f32⟩
  | 16 => ⟨S4x256x1024, .f32⟩
  | 17 => ⟨S4x256x1024, .f32⟩
  | 18 => ⟨S4x256x1024, .f32⟩
  | 19 => ⟨S4x256x1024, .f32⟩
  | 20 => ⟨S1x4x256x1024, .f32⟩
  | 21 => ⟨S1x4x256x1024, .f32⟩
  | 22 => ⟨S1x4x256x1024, .f32⟩
  | 23 => ⟨S1x4x256x1024, .f32⟩
  | 24 => ⟨S4x4x256x1024, .f32⟩
  | 25 => ⟨S4x4x256x1024, .f32⟩
  | 26 => ⟨S4x4x256x1024, .f32⟩
  | 27 => ⟨S_, .f32⟩
  | 28 => ⟨S4x256x1024, .f32⟩
  | 29 => ⟨S1x1x1024, .f32⟩
  | 30 => ⟨S4x256x1024, .f32⟩
  | 31 => ⟨S4x256x1024, .f32⟩
  | 32 => ⟨S4x2048x1024, .f32⟩
  | 33 => ⟨S4x1x1x1024, .f32⟩
  | 34 => ⟨S4x1x1024, .f32⟩
  | 35 => ⟨S_, .f32⟩
  | 36 => ⟨S4x1x1024, .f32⟩
  | 37 => ⟨S4x2051x1024, .f32⟩
  | 38 => ⟨S_, .f32⟩
  | 39 => ⟨S4x1x1024, .f32⟩
  | 40 => ⟨S_, .f32⟩
  | 41 => ⟨S4x1x1024, .f32⟩
  | 42 => ⟨S_, .f32⟩
  | 43 => ⟨S4x1x1024, .f32⟩
  | 44 => ⟨S4x2048x1024, .f32⟩
  | 45 => ⟨S4x2048x1024, .f32⟩
  | 46 => ⟨S4x2048x1024, .f32⟩
  | 47 => ⟨S4x2048x1024, .f32⟩
  | 48 => ⟨S1x4x2048x1024, .f32⟩
  | 49 => ⟨S1x4x2048x1024, .f32⟩
  | 50 => ⟨S1x4x2048x1024, .f32⟩
  | 51 => ⟨S1x4x2048x1024, .f32⟩
  | 52 => ⟨S4x4x2048x1024, .f32⟩
  | 53 => ⟨S4x4x2048x1024, .f32⟩
  | 54 => ⟨S4x4x2048x1024, .f32⟩
  | 55 => ⟨S_, .f32⟩
  | 56 => ⟨S4x2048x1024, .f32⟩
  | 57 => ⟨S1x1x1024, .f32⟩
  | 58 => ⟨S4x2048x1024, .f32⟩
  | 59 => ⟨S4x2048x1024, .f32⟩
  | 60 => ⟨S4x2304x1024, .f32⟩
  | 61 => ⟨S4x256x1024, .f32⟩
  | 62 => ⟨S4x2048x1024, .f32⟩
  | 63 => ⟨S_, .f32⟩
  | 64 => ⟨S1024, .f32⟩
  | 65 => ⟨S1x1x1024, .f32⟩
  | 66 => ⟨S_, .f32⟩
  | 67 => ⟨S1024, .f32⟩
  | 68 => ⟨S4x4x2048x1024, .f32⟩
  | 69 => ⟨S4x4x2048x1024, .f32⟩
  | 70 => ⟨S4x4x2048x1024, .f32⟩
  | 71 => ⟨S4x4x2048x1024, .f32⟩
  | 72 => ⟨S_, .f32⟩
  | 73 => ⟨S4x1024, .f32⟩
  | 74 => ⟨S4x1x1x1024, .f32⟩
  | 75 => ⟨S1x4x2048x1024, .f32⟩
  | 76 => ⟨S4x2048x1024, .f32⟩
  | 77 => ⟨S1x4x2048x1024, .f32⟩
  | 78 => ⟨S4x2048x1024, .f32⟩
  | 79 => ⟨S1x4x2048x1024, .f32⟩
  | 80 => ⟨S4x2048x1024, .f32⟩
  | 81 => ⟨S1x4x2048x1024, .f32⟩
  | 82 => ⟨S4x2048x1024, .f32⟩
  | 83 => ⟨S_, .f32⟩
  | 84 => ⟨S4x2051x1024, .f32⟩
  | 85 => ⟨S_, .f32⟩
  | 86 => ⟨S4x2051x1024, .f32⟩
  | 87 => ⟨S4x2051x1024, .f32⟩
  | 88 => ⟨S_, .f32⟩
  | 89 => ⟨S4x2051x1024, .f32⟩
  | 90 => ⟨S4x2051x1024, .f32⟩
  | 91 => ⟨S_, .f32⟩
  | 92 => ⟨S4x2051x1024, .f32⟩
  | 93 => ⟨S4x2051x1024, .f32⟩
  | 94 => ⟨S4x1x1024, .f32⟩
  | 95 => ⟨S4x2048x1024, .f32⟩
  | 96 => ⟨S4x1x1024, .f32⟩
  | 97 => ⟨S4x1x1024, .f32⟩
  | 98 => ⟨S_, .f32⟩
  | 99 => ⟨S4x1024, .f32⟩
  | 100 => ⟨S_, .f32⟩
  | 101 => ⟨S4x2304x1024, .f32⟩
  | 102 => ⟨S_, .f32⟩
  | 103 => ⟨S1024, .f32⟩
  | 104 => ⟨S1x1x1024, .f32⟩
  | 105 => ⟨S_, .f32⟩
  | 106 => ⟨S1024, .f32⟩
  | 107 => ⟨S1024, .f32⟩
  | 108 => ⟨S4x4x256x1024, .f32⟩
  | 109 => ⟨S4x4x256x1024, .f32⟩
  | 110 => ⟨S4x4x256x1024, .f32⟩
  | 111 => ⟨S4x4x256x1024, .f32⟩
  | 112 => ⟨S_, .f32⟩
  | 113 => ⟨S4x1024, .f32⟩
  | 114 => ⟨S4x1x1x1024, .f32⟩
  | 115 => ⟨S1x4x256x1024, .f32⟩
  | 116 => ⟨S4x256x1024, .f32⟩
  | 117 => ⟨S1x4x256x1024, .f32⟩
  | 118 => ⟨S4x256x1024, .f32⟩
  | 119 => ⟨S1x4x256x1024, .f32⟩
  | 120 => ⟨S4x256x1024, .f32⟩
  | 121 => ⟨S1x4x256x1024, .f32⟩
  | 122 => ⟨S4x256x1024, .f32⟩
  | 123 => ⟨S_, .f32⟩
  | 124 => ⟨S4x259x1024, .f32⟩
  | 125 => ⟨S_, .f32⟩
  | 126 => ⟨S4x259x1024, .f32⟩
  | 127 => ⟨S4x259x1024, .f32⟩
  | _ => ⟨S4x2304x1024, .f32⟩

abbrev hbmTy0_1 (i : Nat) : BufTy := match i % 128 with
  | 0 => ⟨S_, .f32⟩
  | 1 => ⟨S4x259x1024, .f32⟩
  | 2 => ⟨S4x259x1024, .f32⟩
  | 3 => ⟨S_, .f32⟩
  | 4 => ⟨S4x259x1024, .f32⟩
  | 5 => ⟨S4x259x1024, .f32⟩
  | 6 => ⟨S4x1x1024, .f32⟩
  | 7 => ⟨S4x256x1024, .f32⟩
  | 8 => ⟨S4x1x1024, .f32⟩
  | 9 => ⟨S4x1x1024, .f32⟩
  | 10 => ⟨S_, .f32⟩
  | 11 => ⟨S4x1024, .f32⟩
  | 12 => ⟨S4x1024, .f32⟩
  | 13 => ⟨S_, .f32⟩
  | 14 => ⟨S4x2304x1024, .f32⟩
  | 15 => ⟨S4x2304x1024, .f32⟩
  | 16 => ⟨S4x2304x1024, .bf16⟩
  | 17 => ⟨S1x1024, .f32⟩
  | _ => ⟨S4x2304x1024, .f32⟩

abbrev hbmTy (i : Nat) : BufTy := match i / 128 with
  | 0 => hbmTy0_0 i
  | 1 => hbmTy0_1 i
  | _ => ⟨S4x2304x1024, .f32⟩

abbrev bufTy : (tb : Table) → Fin (tcTables nBuf tb) → BufTy
  | .hbm, ⟨i, _⟩ => hbmTy i
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_21 : Ref sig .tc := ⟨.hbm, 123, rfl⟩
abbrev main_v97 : Ref sig .tc := ⟨.hbm, 124, rfl⟩
abbrev main_cst_22 : Ref sig .tc := ⟨.hbm, 125, rfl⟩
abbrev main_v98 : Ref sig .tc := ⟨.hbm, 126, rfl⟩
abbrev main_v99 : Ref sig .tc := ⟨.hbm, 127, rfl⟩
abbrev main_cst_23 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_25 : Ref sig .tc := ⟨.hbm, 138, rfl⟩
abbrev main_v108 : Ref sig .tc := ⟨.hbm, 139, rfl⟩
abbrev main_v109 : Ref sig .tc := ⟨.hbm, 140, rfl⟩
abbrev main_cst_26 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]
-- ==== SsdConvBwd.lean ====
abbrev S4x2304x1536 : Shape := ⟨3, ![4, 2304, 1536]⟩
abbrev S4x1536 : Shape := ⟨2, ![4, 1536]⟩
abbrev S1536 : Shape := ⟨1, ![1536]⟩
abbrev S1x1536 : Shape := ⟨2, ![1, 1536]⟩
abbrev S1x2304x256 : Shape := ⟨3, ![1, 2304, 256]⟩
abbrev S4x256 : Shape := ⟨2, ![4, 256]⟩
abbrev S1x256 : Shape := ⟨2, ![1, 256]⟩
abbrev S2304x256 : Shape := ⟨2, ![2304, 256]⟩
abbrev S2304x1 : Shape := ⟨2, ![2304, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4x2304x1536, .f32⟩
  | .hbm, ⟨1, _⟩ => ⟨S4x1536, .f32⟩
  | .hbm, ⟨2, _⟩ => ⟨S1536, .f32⟩
  | .hbm, ⟨3, _⟩ => ⟨S4x2304x1536, .f32⟩
  | .hbm, ⟨4, _⟩ => ⟨S1x1536, .f32⟩
  | .hbm, ⟨5, _⟩ => ⟨S4x2304x1536, .bf16⟩
  | .hbm, ⟨6, _⟩ => ⟨S4x1536, .f32⟩
  | .hbm, ⟨7, _⟩ => ⟨S1x1536, .f32⟩
  | .local _ .vmem, ⟨0, _⟩ => ⟨S1x2304x256, .f32⟩
  | .local _ .vmem, ⟨1, _⟩ => ⟨S1x2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .bf16⟩
  | .local _ .vmem, ⟨9, _⟩ => ⟨S1x2304x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4x2304x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg1 : BitVec 32 := BitVec.ofNat 32 (i 1).val
  let c0_i32_199 : BitVec 32 := 0#32
  let v430 : BitVec 1 := Scalar.cmpi .eq arg1 c0_i32_199
  let v431 : BitVec 32 := Scalar.extui v430
  let c0_i32_200 : BitVec 32 := 0#32
  let v432 : BitVec 1 := Scalar.cmpi .ne v431 c0_i32_200
  v432

def k0_cond2 (i : grid0.Coords) : BitVec 1 :=
  let arg1 : BitVec 32 := BitVec.ofNat 32 (i 1).val
  let c0_i32_201 : BitVec 32 := 0#32
  let v433 : BitVec 1 := Scalar.cmpi .sgt arg1 c0_i32_201
  let v434 : BitVec 32 := Scalar.extui v433
  let c0_i32_202 : BitVec 32 := 0#32
  let v435 : BitVec 1 := Scalar.cmpi .ne v434 c0_i32_202
  v435

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SsdConvBwdRefIdeal.lean ====
abbrev S4x2304x1536 : Shape := ⟨3, ![4, 2304, 1536]⟩
abbrev S4x1536 : Shape := ⟨2, ![4, 1536]⟩
abbrev S1536 : Shape := ⟨1, ![1536]⟩
abbrev S4x256x1536 : Shape := ⟨3, ![4, 256, 1536]⟩
abbrev S4x1x1x1536 : Shape := ⟨4, ![4, 1, 1, 1536]⟩
abbrev S4x1x1536 : Shape := ⟨3, ![4, 1, 1536]⟩
abbrev S_ : Shape := ⟨0, ![]⟩
abbrev S4x259x1536 : Shape := ⟨3, ![4, 259, 1536]⟩
abbrev S1x4x256x1536 : Shape := ⟨4, ![1, 4, 256, 1536]⟩
abbrev S4x4x256x1536 : Shape := ⟨4, ![4, 4, 256, 1536]⟩
abbrev S1x1x1536 : Shape := ⟨3, ![1, 1, 1536]⟩
abbrev S4x2048x1536 : Shape := ⟨3, ![4, 2048, 1536]⟩
abbrev S4x2051x1536 : Shape := ⟨3, ![4, 2051, 1536]⟩
abbrev S1x4x2048x1536 : Shape := ⟨4, ![1, 4, 2048, 1536]⟩
abbrev S4x4x2048x1536 : Shape := ⟨4, ![4, 4, 2048, 1536]⟩
abbrev S1x1536 : Shape := ⟨2, ![1, 1536]⟩

abbrev nBuf : Space → Nat
  | .hbm => 163
  | .vmem => 0
  | .smem => 0
  | _ => 0

abbrev hbmTy0_0 (i : Nat) : BufTy := match i % 128 with
  | 0 => ⟨S4x2304x1536, .f32⟩
  | 1 => ⟨S4x1536, .f32⟩
  | 2 => ⟨S1536, .f32⟩
  | 3 => ⟨S4x2304x1536, .f32⟩
  | 4 => ⟨S4x256x1536, .f32⟩
  | 5 => ⟨S4x1x1x1536, .f32⟩
  | 6 => ⟨S4x1x1536, .f32⟩
  | 7 => ⟨S_, .f32⟩
  | 8 => ⟨S4x1x1536, .f32⟩
  | 9 => ⟨S4x259x1536, .f32⟩
  | 10 => ⟨S_, .f32⟩
  | 11 => ⟨S4x1x1536, .f32⟩
  | 12 => ⟨S_, .f32⟩
  | 13 => ⟨S4x1x1536, .f32⟩
  | 14 => ⟨S_, .f32⟩
  | 15 => ⟨S4x1x1536, .f32⟩
  | 16 => ⟨S4x256x1536, .f32⟩
  | 17 => ⟨S4x256x1536, .f32⟩
  | 18 => ⟨S4x256x1536, .f32⟩
  | 19 => ⟨S4x256x1536, .f32⟩
  | 20 => ⟨S1x4x256x1536, .f32⟩
  | 21 => ⟨S1x4x256x1536, .f32⟩
  | 22 => ⟨S1x4x256x1536, .f32⟩
  | 23 => ⟨S1x4x256x1536, .f32⟩
  | 24 => ⟨S4x4x256x1536, .f32⟩
  | 25 => ⟨S4x4x256x1536, .f32⟩
  | 26 => ⟨S4x4x256x1536, .f32⟩
  | 27 => ⟨S_, .f32⟩
  | 28 => ⟨S4x256x1536, .f32⟩
  | 29 => ⟨S1x1x1536, .f32⟩
  | 30 => ⟨S4x256x1536, .f32⟩
  | 31 => ⟨S4x256x1536, .f32⟩
  | 32 => ⟨S4x2048x1536, .f32⟩
  | 33 => ⟨S4x1x1x1536, .f32⟩
  | 34 => ⟨S4x1x1536, .f32⟩
  | 35 => ⟨S_, .f32⟩
  | 36 => ⟨S4x1x1536, .f32⟩
  | 37 => ⟨S4x2051x1536, .f32⟩
  | 38 => ⟨S_, .f32⟩
  | 39 => ⟨S4x1x1536, .f32⟩
  | 40 => ⟨S_, .f32⟩
  | 41 => ⟨S4x1x1536, .f32⟩
  | 42 => ⟨S_, .f32⟩
  | 43 => ⟨S4x1x1536, .f32⟩
  | 44 => ⟨S4x2048x1536, .f32⟩
  | 45 => ⟨S4x2048x1536, .f32⟩
  | 46 => ⟨S4x2048x1536, .f32⟩
  | 47 => ⟨S4x2048x1536, .f32⟩
  | 48 => ⟨S1x4x2048x1536, .f32⟩
  | 49 => ⟨S1x4x2048x1536, .f32⟩
  | 50 => ⟨S1x4x2048x1536, .f32⟩
  | 51 => ⟨S1x4x2048x1536, .f32⟩
  | 52 => ⟨S4x4x2048x1536, .f32⟩
  | 53 => ⟨S4x4x2048x1536, .f32⟩
  | 54 => ⟨S4x4x2048x1536, .f32⟩
  | 55 => ⟨S_, .f32⟩
  | 56 => ⟨S4x2048x1536, .f32⟩
  | 57 => ⟨S1x1x1536, .f32⟩
  | 58 => ⟨S4x2048x1536, .f32⟩
  | 59 => ⟨S4x2048x1536, .f32⟩
  | 60 => ⟨S4x2304x1536, .f32⟩
  | 61 => ⟨S4x2304x1536, .f32⟩
  | 62 => ⟨S4x2304x1536, .f32⟩
  | 63 => ⟨S_, .f32⟩
  | 64 => ⟨S4x2304x1536, .f32⟩
  | 65 => ⟨S4x2304x1536, .f32⟩
  | 66 => ⟨S_, .f32⟩
  | 67 => ⟨S4x2304x1536, .f32⟩
  | 68 => ⟨S4x2304x1536, .f32⟩
  | 69 => ⟨S_, .f32⟩
  | 70 => ⟨S4x2304x1536, .f32⟩
  | 71 => ⟨S4x2304x1536, .f32⟩
  | 72 => ⟨S4x2304x1536, .f32⟩
  | 73 => ⟨S4x2304x1536, .f32⟩
  | 74 => ⟨S4x2304x1536, .f32⟩
  | 75 => ⟨S4x2304x1536, .f32⟩
  | 76 => ⟨S4x2304x1536, .f32⟩
  | 77 => ⟨S4x2304x1536, .f32⟩
  | 78 => ⟨S4x256x1536, .f32⟩
  | 79 => ⟨S4x2048x1536, .f32⟩
  | 80 => ⟨S_, .f32⟩
  | 81 => ⟨S1536, .f32⟩
  | 82 => ⟨S1x1x1536, .f32⟩
  | 83 => ⟨S_, .f32⟩
  | 84 => ⟨S1536, .f32⟩
  | 85 => ⟨S4x4x2048x1536, .f32⟩
  | 86 => ⟨S4x4x2048x1536, .f32⟩
  | 87 => ⟨S4x4x2048x1536, .f32⟩
  | 88 => ⟨S4x4x2048x1536, .f32⟩
  | 89 => ⟨S_, .f32⟩
  | 90 => ⟨S4x1536, .f32⟩
  | 91 => ⟨S4x1x1x1536, .f32⟩
  | 92 => ⟨S1x4x2048x1536, .f32⟩
  | 93 => ⟨S4x2048x1536, .f32⟩
  | 94 => ⟨S1x4x2048x1536, .f32⟩
  | 95 => ⟨S4x2048x1536, .f32⟩
  | 96 => ⟨S1x4x2048x1536, .f32⟩
  | 97 => ⟨S4x2048x1536, .f32⟩
  | 98 => ⟨S1x4x2048x1536, .f32⟩
  | 99 => ⟨S4x2048x1536, .f32⟩
  | 100 => ⟨S_, .f32⟩
  | 101 => ⟨S4x2051x1536, .f32⟩
  | 102 => ⟨S_, .f32⟩
  | 103 => ⟨S4x2051x1536, .f32⟩
  | 104 => ⟨S4x2051x1536, .f32⟩
  | 105 => ⟨S_, .f32⟩
  | 106 => ⟨S4x2051x1536, .f32⟩
  | 107 => ⟨S4x2051x1536, .f32⟩
  | 108 => ⟨S_, .f32⟩
  | 109 => ⟨S4x2051x1536, .f32⟩
  | 110 => ⟨S4x2051x1536, .f32⟩
  | 111 => ⟨S4x1x1536, .f32⟩
  | 112 => ⟨S4x2048x1536, .f32⟩
  | 113 => ⟨S4x1x1536, .f32⟩
  | 114 => ⟨S4x1x1536, .f32⟩
  | 115 => ⟨S_, .f32⟩
  | 116 => ⟨S4x1536, .f32⟩
  | 117 => ⟨S_, .f32⟩
  | 118 => ⟨S4x2304x1536, .f32⟩
  | 119 => ⟨S_, .f32⟩
  | 120 => ⟨S1536, .f32⟩
  | 121 => ⟨S1x1x1536, .f32⟩
  | 122 => ⟨S_, .f32⟩
  | 123 => ⟨S1536, .f32⟩
  | 124 => ⟨S1536, .f32⟩
  | 125 => ⟨S4x4x256x1536, .f32⟩
  | 126 => ⟨S4x4x256x1536, .f32⟩
  | 127 => ⟨S4x4x256x1536, .f32⟩
  | _ => ⟨S4x2304x1536, .f32⟩

abbrev hbmTy0_1 (i : Nat) : BufTy := match i % 128 with
  | 0 => ⟨S4x4x256x1536, .f32⟩
  | 1 => ⟨S_, .f32⟩
  | 2 => ⟨S4x1536, .f32⟩
  | 3 => ⟨S4x1x1x1536, .f32⟩
  | 4 => ⟨S1x4x256x1536, .f32⟩
  | 5 => ⟨S4x256x1536, .f32⟩
  | 6 => ⟨S1x4x256x1536, .f32⟩
  | 7 => ⟨S4x256x1536, .f32⟩
  | 8 => ⟨S1x4x256x1536, .f32⟩
  | 9 => ⟨S4x256x1536, .f32⟩
  | 10 => ⟨S1x4x256x1536, .f32⟩
  | 11 => ⟨S4x256x1536, .f32⟩
  | 12 => ⟨S_, .f32⟩
  | 13 => ⟨S4x259x1536, .f32⟩
  | 14 => ⟨S_, .f32⟩
  | 15 => ⟨S4x259x1536, .f32⟩
  | 16 => ⟨S4x259x1536, .f32⟩
  | 17 => ⟨S_, .f32⟩
  | 18 => ⟨S4x259x1536, .f32⟩
  | 19 => ⟨S4x259x1536, .f32⟩
  | 20 => ⟨S_, .f32⟩
  | 21 => ⟨S4x259x1536, .f32⟩
  | 22 => ⟨S4x259x1536, .f32⟩
  | 23 => ⟨S4x1x1536, .f32⟩
  | 24 => ⟨S4x256x1536, .f32⟩
  | 25 => ⟨S4x1x1536, .f32⟩
  | 26 => ⟨S4x1x1536, .f32⟩
  | 27 => ⟨S_, .f32⟩
  | 28 => ⟨S4x1536, .f32⟩
  | 29 => ⟨S4x1536, .f32⟩
  | 30 => ⟨S_, .f32⟩
  | 31 => ⟨S4x2304x1536, .f32⟩
  | 32 => ⟨S4x2304x1536, .f32⟩
  | 33 => ⟨S4x2304x1536, .bf16⟩
  | 34 => ⟨S1x1536, .f32⟩
  | _ => ⟨S4x2304x1536, .f32⟩

abbrev hbmTy (i : Nat) : BufTy := match i / 128 with
  | 0 => hbmTy0_0 i
  | 1 => hbmTy0_1 i
  | _ => ⟨S4x2304x1536, .f32⟩

abbrev bufTy : (tb : Table) → Fin (tcTables nBuf tb) → BufTy
  | .hbm, ⟨i, _⟩ => hbmTy i
  | _, _ => ⟨S4x2304x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v47_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v47_1 : Ref sig .tc := ⟨.hbm, 72, rfl⟩
abbrev main_v47_0 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== LruConv.lean ====
abbrev S4x2304x1024 : Shape := ⟨3, ![4, 2304, 1024]⟩
abbrev S4x1024 : Shape := ⟨2, ![4, 1024]⟩
abbrev S1024 : Shape := ⟨1, ![1024]⟩
abbrev S1x1024 : Shape := ⟨2, ![1, 1024]⟩
abbrev S1x2304x256 : Shape := ⟨3, ![1, 2304, 256]⟩
abbrev S4x256 : Shape := ⟨2, ![4, 256]⟩
abbrev S1x256 : Shape := ⟨2, ![1, 256]⟩
abbrev S2304x256 : Shape := ⟨2, ![2304, 256]⟩
abbrev S2304x1 : Shape := ⟨2, ![2304, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x2304x1024, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S4x2304x1024, .f32⟩
  | .local _ .vmem, ⟨0, _⟩ => ⟨S1x2304x256, .f32⟩
  | .local _ .vmem, ⟨1, _⟩ => ⟨S1x2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruConvRefIdeal.lean ====
abbrev S4x2304x1024 : Shape := ⟨3, ![4, 2304, 1024]⟩
abbrev S4x1024 : Shape := ⟨2, ![4, 1024]⟩
abbrev S1024 : Shape := ⟨1, ![1024]⟩
abbrev S4x256x1024 : Shape := ⟨3, ![4, 256, 1024]⟩
abbrev S4x1x1x1024 : Shape := ⟨4, ![4, 1, 1, 1024]⟩
abbrev S4x1x1024 : Shape := ⟨3, ![4, 1, 1024]⟩
abbrev S_ : Shape := ⟨0, ![]⟩
abbrev S4x259x1024 : Shape := ⟨3, ![4, 259, 1024]⟩
abbrev S1x4x256x1024 : Shape := ⟨4, ![1, 4, 256, 1024]⟩
abbrev S4x4x256x1024 : Shape := ⟨4, ![4, 4, 256, 1024]⟩
abbrev S1x1x1024 : Shape := ⟨3, ![1, 1, 1024]⟩
abbrev S4x2048x1024 : Shape := ⟨3, ![4, 2048, 1024]⟩
abbrev S4x2051x1024 : Shape := ⟨3, ![4, 2051, 1024]⟩
abbrev S1x4x2048x1024 : Shape := ⟨4, ![1, 4, 2048, 1024]⟩
abbrev S4x4x2048x1024 : Shape := ⟨4, ![4, 4, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x1024, .f32⟩
  | .hbm, ⟨2, _⟩ => ⟨S1024, .f32⟩
  | .hbm, ⟨3, _⟩ => ⟨S4x256x1024, .f32⟩
  | .hbm, ⟨4, _⟩ => ⟨S4x1x1x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x259x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S1x4x256x1024, .f32⟩
  | .hbm, ⟨14, _⟩ => ⟨S1x4x256x1024, .f32⟩
  | .hbm, ⟨15, _⟩ => ⟨S1x4x256x1024, .f32⟩
  | .hbm, ⟨16, _⟩ => ⟨S1x4x256x1024, .f32⟩
  | .hbm, ⟨17, _⟩ => ⟨S4x4x256x1024, .f32⟩
  | .hbm, ⟨18, _⟩ => ⟨S4x4x256x1024, .f32⟩
  | .hbm, ⟨19, _⟩ => ⟨S4x4x256x1024, .f32⟩
  | .hbm, ⟨20, _⟩ => ⟨S_, .f32⟩
  | .hbm, ⟨21, _⟩ => ⟨S4x256x1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S4x2048x1024, .f32⟩
  | .hbm, ⟨26, _⟩ => ⟨S4x1x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x2051x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1x4x2048x1024, .f32⟩
  | .hbm, ⟨36, _⟩ => ⟨S1x4x2048x1024, .f32⟩
  | .hbm, ⟨37, _⟩ => ⟨S1x4x2048x1024, .f32⟩
  | .hbm, ⟨38, _⟩ => ⟨S1x4x2048x1024, .f32⟩
  | .hbm, ⟨39, _⟩ => ⟨S4x4x2048x1024, .f32⟩
  | .hbm, ⟨40, _⟩ => ⟨S4x4x2048x1024, .f32⟩
  | .hbm, ⟨41, _⟩ => ⟨S4x4x2048x1024, .f32⟩
  | .hbm, ⟨42, _⟩ => ⟨S_, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2304x1024, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== SsdConv.lean ====
abbrev S4x2304x1536 : Shape := ⟨3, ![4, 2304, 1536]⟩
abbrev S4x1536 : Shape := ⟨2, ![4, 1536]⟩
abbrev S1536 : Shape := ⟨1, ![1536]⟩
abbrev S1x1536 : Shape := ⟨2, ![1, 1536]⟩
abbrev S1x2304x256 : Shape := ⟨3, ![1, 2304, 256]⟩
abbrev S4x256 : Shape := ⟨2, ![4, 256]⟩
abbrev S1x256 : Shape := ⟨2, ![1, 256]⟩
abbrev S2304x256 : Shape := ⟨2, ![2304, 256]⟩
abbrev S2304x1 : Shape := ⟨2, ![2304, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x2304x1536, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S4x2304x1536, .f32⟩
  | .local _ .vmem, ⟨0, _⟩ => ⟨S1x2304x256, .f32⟩
  | .local _ .vmem, ⟨1, _⟩ => ⟨S1x2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | _, _ => ⟨S4x2304x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdConvRefIdeal.lean ====
abbrev S4x2304x1536 : Shape := ⟨3, ![4, 2304, 1536]⟩
abbrev S4x1536 : Shape := ⟨2, ![4, 1536]⟩
abbrev S1536 : Shape := ⟨1, ![1536]⟩
abbrev S4x256x1536 : Shape := ⟨3, ![4, 256, 1536]⟩
abbrev S4x1x1x1536 : Shape := ⟨4, ![4, 1, 1, 1536]⟩
abbrev S4x1x1536 : Shape := ⟨3, ![4, 1, 1536]⟩
abbrev S_ : Shape := ⟨0, ![]⟩
abbrev S4x259x1536 : Shape := ⟨3, ![4, 259, 1536]⟩
abbrev S1x4x256x1536 : Shape := ⟨4, ![1, 4, 256, 1536]⟩
abbrev S4x4x256x1536 : Shape := ⟨4, ![4, 4, 256, 1536]⟩
abbrev S1x1x1536 : Shape := ⟨3, ![1, 1, 1536]⟩
abbrev S4x2048x1536 : Shape := ⟨3, ![4, 2048, 1536]⟩
abbrev S4x2051x1536 : Shape := ⟨3, ![4, 2051, 1536]⟩
abbrev S1x4x2048x1536 : Shape := ⟨4, ![1, 4, 2048, 1536]⟩
abbrev S4x4x2048x1536 : Shape := ⟨4, ![4, 4, 2048, 1536]⟩

abbrev nBuf : Space → Nat
  | .hbm => 57
  | .vmem => 0
  | .smem => 0
  | _ => 0

abbrev bufTy : (tb : Table) → Fin (tcTables nBuf tb) → BufTy
  | .hbm, ⟨0, _⟩ => ⟨S4x2304x1536, .f32⟩
  | .hbm, ⟨1, _⟩ => ⟨S4x1536, .f32⟩
  | .hbm, ⟨2, _⟩ => ⟨S1536, .f32⟩
  | .hbm, ⟨3, _⟩ => ⟨S4x256x1536, .f32⟩
  | .hbm, ⟨4, _⟩ => ⟨S4x1x1x1536, .f32⟩
  | .hbm, ⟨5, _⟩ => ⟨S4x1x1536, .f32⟩
  | .hbm, ⟨6, _⟩ => ⟨S_, .f32⟩
  | .hbm, ⟨7, _⟩ => ⟨S4x1x1536, .f32⟩
  | .hbm, ⟨8, _⟩ => ⟨S4x259x1536, .f32⟩
  | .hbm, ⟨9, _⟩ => ⟨S4x256x1536, .f32⟩
  | .hbm, ⟨10, _⟩ => ⟨S4x256x1536, .f32⟩
  | .hbm, ⟨11, _⟩ => ⟨S4x256x1536, .f32⟩
  | .hbm, ⟨12, _⟩ => ⟨S4x256x1536, .f32⟩
  | .hbm, ⟨13, _⟩ => ⟨S1x4x256x1536, .f32⟩
  | .hbm, ⟨14, _⟩ => ⟨S1x4x256x1536, .f32⟩
  | .hbm, ⟨15, _⟩ => ⟨S1x4x256x1536, .f32⟩
  | .hbm, ⟨16, _⟩ => ⟨S1x4x256x1536, .f32⟩
  | .hbm, ⟨17, _⟩ => ⟨S4x4x256x1536, .f32⟩
  | .hbm, ⟨18, _⟩ => ⟨S4x4x256x1536, .f32⟩
  | .hbm, ⟨19, _⟩ => ⟨S4x4x256x1536, .f32⟩
  | .hbm, ⟨20, _⟩ => ⟨S_, .f32⟩
  | .hbm, ⟨21, _⟩ => ⟨S4x256x1536, .f32⟩
  | .hbm, ⟨22, _⟩ => ⟨S1x1x1536, .f32⟩
  | .hbm, ⟨23, _⟩ => ⟨S4x256x1536, .f32⟩
  | .hbm, ⟨24, _⟩ => ⟨S4x256x1536, .f32⟩
  | .hbm, ⟨25, _⟩ => ⟨S4x2048x1536, .f32⟩
  | .hbm, ⟨26, _⟩ => ⟨S4x1x1x1536, .f32⟩
  | .hbm, ⟨27, _⟩ => ⟨S4x1x1536, .f32⟩
  | .hbm, ⟨28, _⟩ => ⟨S_, .f32⟩
  | .hbm, ⟨29, _⟩ => ⟨S4x1x1536, .f32⟩
  | .hbm, ⟨30, _⟩ => ⟨S4x2051x1536, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S4x2048x1536, .f32⟩
  | .hbm, ⟨35, _⟩ => ⟨S1x4x2048x1536, .f32⟩
  | .hbm, ⟨36, _⟩ => ⟨S1x4x2048x1536, .f32⟩
  | .hbm, ⟨37, _⟩ => ⟨S1x4x2048x1536, .f32⟩
  | .hbm, ⟨38, _⟩ => ⟨S1x4x2048x1536, .f32⟩
  | .hbm, ⟨39, _⟩ => ⟨S4x4x2048x1536, .f32⟩
  | .hbm, ⟨40, _⟩ => ⟨S4x4x2048x1536, .f32⟩
  | .hbm, ⟨41, _⟩ => ⟨S4x4x2048x1536, .f32⟩
  | .hbm, ⟨42, _⟩ => ⟨S_, .f32⟩
  | .hbm, ⟨43, _⟩ => ⟨S4x2048x1536, .f32⟩
  | .hbm, ⟨44, _⟩ => ⟨S1x1x1536, .f32⟩
  | .hbm, ⟨45, _⟩ => ⟨S4x2048x1536, .f32⟩
  | .hbm, ⟨46, _⟩ => ⟨S4x2048x1536, .f32⟩
  | .hbm, ⟨47, _⟩ => ⟨S4x2304x1536, .f32⟩
  | .hbm, ⟨48, _⟩ => ⟨S4x2304x1536, .f32⟩
  | .hbm, ⟨49, _⟩ => ⟨S4x2304x1536, .f32⟩
  | .hbm, ⟨50, _⟩ => ⟨S_, .f32⟩
  | .hbm, ⟨51, _⟩ => ⟨S4x2304x1536, .f32⟩
  | .hbm, ⟨52, _⟩ => ⟨S4x2304x1536, .f32⟩
  | .hbm, ⟨53, _⟩ => ⟨S_, .f32⟩
  | .hbm, ⟨54, _⟩ => ⟨S4x2304x1536, .f32⟩
  | .hbm, ⟨55, _⟩ => ⟨S4x2304x1536, .f32⟩
  | .hbm, ⟨56, _⟩ => ⟨S4x2304x1536, .f32⟩
  | _, _ => ⟨S4x2304x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== FfnConv.lean ====
abbrev S4x2304x2816 : Shape := ⟨3, ![4, 2304, 2816]⟩
abbrev S3x3x2816 : Shape := ⟨3, ![3, 3, 2816]⟩
abbrev S2816 : Shape := ⟨1, ![2816]⟩
abbrev S9x2816 : Shape := ⟨2, ![9, 2816]⟩
abbrev S1x2816 : Shape := ⟨2, ![1, 2816]⟩
abbrev S1x2304x256 : Shape := ⟨3, ![1, 2304, 256]⟩
abbrev S9x256 : Shape := ⟨2, ![9, 256]⟩
abbrev S1x256 : Shape := ⟨2, ![1, 256]⟩
abbrev S2304x256 : Shape := ⟨2, ![2304, 256]⟩
abbrev S2304x1 : Shape := ⟨2, ![2304, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x2304x2816, .f32⟩
  | .hbm, ⟨1, _⟩ => ⟨S3x3x2816, .f32⟩
  | .hbm, ⟨2, _⟩ => ⟨S2816, .f32⟩
  | .hbm, ⟨3, _⟩ => ⟨S4x2304x2816, .f32⟩
  | .hbm, ⟨4, _⟩ => ⟨S9x2816, .f32⟩
  | .hbm, ⟨5, _⟩ => ⟨S1x2816, .f32⟩
  | .hbm, ⟨6, _⟩ => ⟨S4x2304x2816, .bf16⟩
  | .local _ .vmem, ⟨0, _⟩ => ⟨S1x2304x256, .f32⟩
  | .local _ .vmem, ⟨1, _⟩ => ⟨S1x2304x256, .f32⟩
  | .local _ .vmem, ⟨2, _⟩ => ⟨S9x256, .f32⟩
  | .local _ .vmem, ⟨3, _⟩ => ⟨S9x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .bf16⟩
  | .local _ .vmem, ⟨9, _⟩ => ⟨S1x2304x256, .bf16⟩
  | _, _ => ⟨S4x2304x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnConvRefIdeal.lean ====
abbrev S4x2304x2816 : Shape := ⟨3, ![4, 2304, 2816]⟩
abbrev S3x3x2816 : Shape := ⟨3, ![3, 3, 2816]⟩
abbrev S2816 : Shape := ⟨1, ![2816]⟩
abbrev S4x256x2816 : Shape := ⟨3, ![4, 256, 2816]⟩
abbrev S4x2048x2816 : Shape := ⟨3, ![4, 2048, 2816]⟩
abbrev S1x3x2816 : Shape := ⟨3, ![1, 3, 2816]⟩
abbrev S3x2816 : Shape := ⟨2, ![3, 2816]⟩
abbrev S3x1x1x2816 : Shape := ⟨4, ![3, 1, 1, 2816]⟩
abbrev S4x1x2816 : Shape := ⟨3, ![4, 1, 2816]⟩
abbrev S_ : Shape := ⟨0, ![]⟩
abbrev S4x258x2816 : Shape := ⟨3, ![4, 258, 2816]⟩
abbrev S1x4x256x2816 : Shape := ⟨4, ![1, 4, 256, 2816]⟩
abbrev S3x4x256x2816 : Shape := ⟨4, ![3, 4, 256, 2816]⟩
abbrev S1x1x2816 : Shape := ⟨3, ![1, 1, 2816]⟩
abbrev S4x32x64x2816 : Shape := ⟨4, ![4, 32, 64, 2816]⟩
abbrev S3x3x1x1x1x2816 : Shape := ⟨6, ![3, 3, 1, 1, 1, 2816]⟩
abbrev S4x32x1x2816 : Shape := ⟨4, ![4, 32, 1, 2816]⟩
abbrev S4x32x66x2816 : Shape := ⟨4, ![4, 32, 66, 2816]⟩
abbrev S1x4x32x64x2816 : Shape := ⟨5, ![1, 4, 32, 64, 2816]⟩
abbrev S3x4x32x64x2816 : Shape := ⟨5, ![3, 4, 32, 64, 2816]⟩
abbrev S3x4x1x64x2816 : Shape := ⟨5, ![3, 4, 1, 64, 2816]⟩
abbrev S3x4x34x64x2816 : Shape := ⟨5, ![3, 4, 34, 64, 2816]⟩
abbrev S1x3x4x32x64x2816 : Shape := ⟨6, ![1, 3, 4, 32, 64, 2816]⟩
abbrev S3x3x4x32x64x2816 : Shape := ⟨6, ![3, 3, 4, 32, 64, 2816]⟩
abbrev S1x1x1x2816 : Shape := ⟨4, ![1, 1, 1, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4x2304x2816, .f32⟩
  | .hbm, ⟨1, _⟩ => ⟨S3x3x2816, .f32⟩
  | .hbm, ⟨2, _⟩ => ⟨S2816, .f32⟩
  | .hbm, ⟨3, _⟩ => ⟨S4x2304x2816, .f32⟩
  | .hbm, ⟨4, _⟩ => ⟨S4x256x2816, .f32⟩
  | .hbm, ⟨5, _⟩ => ⟨S4x2048x2816, .f32⟩
  | .hbm, ⟨6, _⟩ => ⟨S1x3x2816, .f32⟩
  | .hbm, ⟨7, _⟩ => ⟨S3x2816, .f32⟩
  | .hbm, ⟨8, _⟩ => ⟨S3x1x1x2816, .f32⟩
  | .hbm, ⟨9, _⟩ => ⟨S4x1x2816, .f32⟩
  | .hbm, ⟨10, _⟩ => ⟨S_, .f32⟩
  | .hbm, ⟨11, _⟩ => ⟨S4x1x2816, .f32⟩
  | .hbm, ⟨12, _⟩ => ⟨S4x258x2816, .f32⟩
  | .hbm, ⟨13, _⟩ => ⟨S4x256x2816, .f32⟩
  | .hbm, ⟨14, _⟩ => ⟨S4x256x2816, .f32⟩
  | .hbm, ⟨15, _⟩ => ⟨S4x256x2816, .f32⟩
  | .hbm, ⟨16, _⟩ => ⟨S1x4x256x2816, .f32⟩
  | .hbm, ⟨17, _⟩ => ⟨S1x4x256x2816, .f32⟩
  | .hbm, ⟨18, _⟩ => ⟨S1x4x256x2816, .f32⟩
  | .hbm, ⟨19, _⟩ => ⟨S3x4x256x2816, .f32⟩
  | .hbm, ⟨20, _⟩ => ⟨S3x4x256x2816, .f32⟩
  | .hbm, ⟨21, _⟩ => ⟨S3x4x256x2816, .f32⟩
  | .hbm, ⟨22, _⟩ => ⟨S_, .f32⟩
  | .hbm, ⟨23, _⟩ => ⟨S4x256x2816, .f32⟩
  | .hbm, ⟨24, _⟩ => ⟨S1x1x2816, .f32⟩
  | .hbm, ⟨25, _⟩ => ⟨S4x256x2816, .f32⟩
  | .hbm, ⟨26, _⟩ => ⟨S4x256x2816, .f32⟩
  | .hbm, ⟨27, _⟩ => ⟨S4x32x64x2816, .f32⟩
  | .hbm, ⟨28, _⟩ => ⟨S3x3x1x1x1x2816, .f32⟩
  | .hbm, ⟨29, _⟩ => ⟨S4x32x1x2816, .f32⟩
  | .hbm, ⟨30, _⟩ => ⟨S_, .f32⟩
  | .hbm, ⟨31, _⟩ => ⟨S4x32x1x2816, .f32⟩
  | .hbm, ⟨32, _⟩ => ⟨S4x32x66x2816, .f32⟩
  | .hbm, ⟨33, _⟩ => ⟨S4x32x64x2816, .f32⟩
  | .hbm, ⟨34, _⟩ => ⟨S4x32x64x2816, .f32⟩
  | .hbm, ⟨35, _⟩ => ⟨S4x32x64x2816, .f32⟩
  | .hbm, ⟨36, _⟩ => ⟨S1x4x32x64x2816, .f32⟩
  | .hbm, ⟨37, _⟩ => ⟨S1x4x32x64x2816, .f32⟩
  | .hbm, ⟨38, _⟩ => ⟨S1x4x32x64x2816, .f32⟩
  | .hbm, ⟨39, _⟩ => ⟨S3x4x32x64x2816, .f32⟩
  | .hbm, ⟨40, _⟩ => ⟨S3x4x1x64x2816, .f32⟩
  | .hbm, ⟨41, _⟩ => ⟨S_, .f32⟩
  | .hbm, ⟨42, _⟩ => ⟨S3x4x1x64x2816, .f32⟩
  | .hbm, ⟨43, _⟩ => ⟨S3x4x34x64x2816, .f32⟩
  | .hbm, ⟨44, _⟩ => ⟨S3x4x32x64x2816, .f32⟩
  | .hbm, ⟨45, _⟩ => ⟨S3x4x32x64x2816, .f32⟩
  | .hbm, ⟨46, _⟩ => ⟨S3x4x32x64x2816, .f32⟩
  | .hbm, ⟨47, _⟩ => ⟨S1x3x4x32x64x2816, .f32⟩
  | .hbm, ⟨48, _⟩ => ⟨S1x3x4x32x64x2816, .f32⟩
  | .hbm, ⟨49, _⟩ => ⟨S1x3x4x32x64x2816, .f32⟩
  | .hbm, ⟨50, _⟩ => ⟨S3x3x4x32x64x2816, .f32⟩
  | .hbm, ⟨51, _⟩ => ⟨S3x3x4x32x64x2816, .f32⟩
  | .hbm, ⟨52, _⟩ => ⟨S3x3x4x32x64x2816, .f32⟩
  | .hbm, ⟨53, _⟩ => ⟨S_, .f32⟩
  | .hbm, ⟨54, _⟩ => ⟨S4x32x64x2816, .f32⟩
  | .hbm, ⟨55, _⟩ => ⟨S1x1x1x2816, .f32⟩
  | .hbm, ⟨56, _⟩ => ⟨S4x32x64x2816, .f32⟩
  | .hbm, ⟨57, _⟩ => ⟨S4x32x64x2816, .f32⟩
  | .hbm, ⟨58, _⟩ => ⟨S4x2048x2816, .f32⟩
  | .hbm, ⟨59, _⟩ => ⟨S4x2304x2816, .f32⟩
  | .hbm, ⟨60, _⟩ => ⟨S4x2304x2816, .f32⟩
  | .hbm, ⟨61, _⟩ => ⟨S4x2304x2816, .f32⟩
  | .hbm, ⟨62, _⟩ => ⟨S_, .f32⟩
  | .hbm, ⟨63, _⟩ => ⟨S4x2304x2816, .f32⟩
  | .hbm, ⟨64, _⟩ => ⟨S4x2304x2816, .f32⟩
  | .hbm, ⟨65, _⟩ => ⟨S_, .f32⟩
  | .hbm, ⟨66, _⟩ => ⟨S4x2304x2816, .f32⟩
  | .hbm, ⟨67, _⟩ => ⟨S4x2304x2816, .f32⟩
  | .hbm, ⟨68, _⟩ => ⟨S4x2304x2816, .f32⟩
  | .hbm, ⟨69, _⟩ => ⟨S4x2304x2816, .f32⟩
  | .hbm, ⟨70, _⟩ => ⟨S4x2304x2816, .bf16⟩
  | _, _ => ⟨S4x2304x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== EvDt.lean ====
abbrev S4x2304x1024 : Shape := ⟨3, ![4, 2304, 1024]⟩
abbrev S1024x128 : Shape := ⟨2, ![1024, 128]⟩
abbrev S9216x1024 : Shape := ⟨2, ![9216, 1024]⟩
abbrev S9216x128 : Shape := ⟨2, ![9216, 128]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S1024x128, .bf16⟩
  | .hbm, ⟨2, _⟩ => ⟨S9216x1024, .bf16⟩
  | .hbm, ⟨3, _⟩ => ⟨S9216x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDtRefIdeal.lean ====
abbrev S4x2304x1024 : Shape := ⟨3, ![4, 2304, 1024]⟩
abbrev S1024x128 : Shape := ⟨2, ![1024, 128]⟩
abbrev S4x2304x128 : Shape := ⟨3, ![4, 2304, 128]⟩
abbrev S9216x128 : Shape := ⟨2, ![9216, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S1024x128, .bf16⟩
  | .hbm, ⟨2, _⟩ => ⟨S4x2304x1024, .f32⟩
  | .hbm, ⟨3, _⟩ => ⟨S1024x128, .f32⟩
  | .hbm, ⟨4, _⟩ => ⟨S4x2304x128, .f32⟩
  | .hbm, ⟨5, _⟩ => ⟨S9216x128, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvDwDt.lean ====
abbrev S4x2304x1024 : Shape := ⟨3, ![4, 2304, 1024]⟩
abbrev S4x2304x128 : Shape := ⟨3, ![4, 2304, 128]⟩
abbrev S9216x1024 : Shape := ⟨2, ![9216, 1024]⟩
abbrev S9216x128 : Shape := ⟨2, ![9216, 128]⟩
abbrev S1024x128 : Shape := ⟨2, ![1024, 128]⟩
abbrev S2304x1024 : Shape := ⟨2, ![2304, 1024]⟩
abbrev S2304x128 : Shape := ⟨2, ![2304, 128]⟩

abbrev nBuf : Space → Nat
  | .hbm => 5
  | .vmem => 5
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x128, .f32⟩
  | .hbm, ⟨2, _⟩ => ⟨S9216x1024, .bf16⟩
  | .hbm, ⟨3, _⟩ => ⟨S9216x128, .f32⟩
  | .hbm, ⟨4, _⟩ => ⟨S1024x128, .f32⟩
  | .local _ .vmem, ⟨0, _⟩ => ⟨S2304x1024, .bf16⟩
  | .local _ .vmem, ⟨1, _⟩ => ⟨S2304x1024, .bf16⟩
  | .local _ .vmem, ⟨2, _⟩ => ⟨S2304x128, .f32⟩
  | .local _ .vmem, ⟨3, _⟩ => ⟨S2304x128, .f32⟩
  | .local _ .vmem, ⟨4, _⟩ => ⟨S1024x128, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvDwDtRefIdeal.lean ====
abbrev S4x2304x1024 : Shape := ⟨3, ![4, 2304, 1024]⟩
abbrev S4x2304x128 : Shape := ⟨3, ![4, 2304, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x128, .f32⟩
  | .hbm, ⟨2, _⟩ => ⟨S_, .f32⟩
  | .hbm, ⟨3, _⟩ => ⟨S1024x128, .f32⟩
  | .hbm, ⟨4, _⟩ => ⟨S4x2304x1024, .f32⟩
  | .hbm, ⟨5, _⟩ => ⟨S4x2304x128, .f32⟩
  | .hbm, ⟨6, _⟩ => ⟨S128x1024, .f32⟩
  | .hbm, ⟨7, _⟩ => ⟨S1024x128, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mod.lean ====
abbrev S48x1024 : Shape := ⟨2, ![48, 1024]⟩
abbrev S1024x3072 : Shape := ⟨2, ![1024, 3072]⟩
abbrev S48x3072 : Shape := ⟨2, ![48, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S48x1024, .f32⟩
  | .hbm, ⟨1, _⟩ => ⟨S1024x3072, .bf16⟩
  | .hbm, ⟨2, _⟩ => ⟨S48x3072, .f32⟩
  | .local _ .vmem, ⟨0, _⟩ => ⟨S48x1024, .f32⟩
  | .local _ .vmem, ⟨1, _⟩ => ⟨S1024x1024, .bf16⟩
  | .local _ .vmem, ⟨2, _⟩ => ⟨S1024x1024, .bf16⟩
  | .local _ .vmem, ⟨3, _⟩ => ⟨S48x1024, .f32⟩
  | .local _ .vmem, ⟨4, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S48x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModRefIdeal.lean ====
abbrev S48x1024 : Shape := ⟨2, ![48, 1024]⟩
abbrev S1024x3072 : Shape := ⟨2, ![1024, 3072]⟩
abbrev S48x3072 : Shape := ⟨2, ![48, 3072]⟩

abbrev nBuf : Space → Nat
  | .hbm => 4
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S1024x3072, .bf16⟩
  | .hbm, ⟨2, _⟩ => ⟨S1024x3072, .f32⟩
  | .hbm, ⟨3, _⟩ => ⟨S48x3072, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ModDw.lean ====
abbrev S48x1024 : Shape := ⟨2, ![48, 1024]⟩
abbrev S48x3072 : Shape := ⟨2, ![48, 3072]⟩
abbrev S1024x48 : Shape := ⟨2, ![1024, 48]⟩
abbrev S1024x3072 : Shape := ⟨2, ![1024, 3072]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S48x1024, .f32⟩
  | .hbm, ⟨1, _⟩ => ⟨S48x3072, .f32⟩
  | .hbm, ⟨2, _⟩ => ⟨S1024x48, .f32⟩
  | .hbm, ⟨3, _⟩ => ⟨S1024x3072, .f32⟩
  | .local _ .vmem, ⟨0, _⟩ => ⟨S1024x48, .f32⟩
  | .local _ .vmem, ⟨1, _⟩ => ⟨S48x1024, .f32⟩
  | .local _ .vmem, ⟨2, _⟩ => ⟨S48x1024, .f32⟩
  | .local _ .vmem, ⟨3, _⟩ => ⟨S1024x1024, .f32⟩
  | .local _ .vmem, ⟨4, _⟩ => ⟨S1024x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwRefIdeal.lean ====
abbrev S48x1024 : Shape := ⟨2, ![48, 1024]⟩
abbrev S48x3072 : Shape := ⟨2, ![48, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x3072, .f32⟩
  | .hbm, ⟨2, _⟩ => ⟨S_, .f32⟩
  | .hbm, ⟨3, _⟩ => ⟨S1024x3072, .f32⟩
  | .hbm, ⟨4, _⟩ => ⟨S48x3072, .f32⟩
  | .hbm, ⟨5, _⟩ => ⟨S3072x1024, .f32⟩
  | .hbm, ⟨6, _⟩ => ⟨S1024x3072, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModDctx.lean ====
abbrev S8x3072 : Shape := ⟨2, ![8, 3072]⟩
abbrev S1024x3072 : Shape := ⟨2, ![1024, 3072]⟩
abbrev S3072x1024 : Shape := ⟨2, ![3072, 1024]⟩
abbrev S8x1024 : Shape := ⟨2, ![8, 1024]⟩

abbrev nBuf : Space → Nat
  | .hbm => 4
  | .vmem => 3
  | .smem => 0
  | _ => 0

abbrev bufTy : (tb : Table) → Fin (tcTables nBuf tb) → BufTy
  | .hbm, ⟨0, _⟩ => ⟨S8x3072, .f32⟩
  | .hbm, ⟨1, _⟩ => ⟨S1024x3072, .bf16⟩
  | .hbm, ⟨2, _⟩ => ⟨S3072x1024, .bf16⟩
  | .hbm, ⟨3, _⟩ => ⟨S8x1024, .f32⟩
  | .local _ .vmem, ⟨0, _⟩ => ⟨S8x3072, .f32⟩
  | .local _ .vmem, ⟨1, _⟩ => ⟨S3072x1024, .bf16⟩
  | .local _ .vmem, ⟨2, _⟩ => ⟨S8x1024, .f32⟩
  | _, _ => ⟨S8x3072, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ModDctxRefIdeal.lean ====
abbrev S8x3072 : Shape := ⟨2, ![8, 3072]⟩
abbrev S1024x3072 : Shape := ⟨2, ![1024, 3072]⟩
abbrev S_ : Shape := ⟨0, ![]⟩
abbrev S8x1024 : Shape := ⟨2, ![8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x3072, .f32⟩
  | .hbm, ⟨1, _⟩ => ⟨S1024x3072, .bf16⟩
  | .hbm, ⟨2, _⟩ => ⟨S_, .f32⟩
  | .hbm, ⟨3, _⟩ => ⟨S8x1024, .f32⟩
  | .hbm, ⟨4, _⟩ => ⟨S1024x3072, .f32⟩
  | .hbm, ⟨5, _⟩ => ⟨S8x3072, .f32⟩
  | .hbm, ⟨6, _⟩ => ⟨S8x1024, .f32⟩
  | _, _ => ⟨S8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModSilu.lean ====
abbrev S48x1024 : Shape := ⟨2, ![48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .local _ .vmem, ⟨0, _⟩ => ⟨S48x1024, .f32⟩
  | .local _ .vmem, ⟨1, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ModSiluRefIdeal.lean ====
abbrev S48x1024 : Shape := ⟨2, ![48, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S_, .f32⟩
  | .hbm, ⟨4, _⟩ => ⟨S48x1024, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Norm.lean ====
abbrev S4x2304x1024 : Shape := ⟨3, ![4, 2304, 1024]⟩
abbrev S8x6x1024 : Shape := ⟨3, ![8, 6, 1024]⟩
abbrev S1024 : Shape := ⟨1, ![1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4x2304x1024, .f32⟩
  | .hbm, ⟨1, _⟩ => ⟨S8x6x1024, .f32⟩
  | .hbm, ⟨2, _⟩ => ⟨S1024, .f32⟩
  | .hbm, ⟨3, _⟩ => ⟨S1x1024, .f32⟩
  | .hbm, ⟨4, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x256x1024, .bf16⟩
  | .local _ .vmem, ⟨6, _⟩ => ⟨S1x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormRefIdeal.lean ====
abbrev S4x2304x1024 : Shape := ⟨3, ![4, 2304, 1024]⟩
abbrev S8x6x1024 : Shape := ⟨3, ![8, 6, 1024]⟩
abbrev S1024 : Shape := ⟨1, ![1024]⟩
abbrev S4x2x6x1024 : Shape := ⟨4, ![4, 2, 6, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048x1024 : Shape := ⟨3, ![4, 2048, 1024]⟩
abbrev S4x2048 : Shape := ⟨2, ![4, 2048]⟩
abbrev S4x2048x1 : Shape := ⟨3, ![4, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S8x6x1024, .f32⟩
  | .hbm, ⟨2, _⟩ => ⟨S1024, .f32⟩
  | .hbm, ⟨3, _⟩ => ⟨S4x2x6x1024, .f32⟩
  | .hbm, ⟨4, _⟩ => ⟨S4x1x1x1024, .f32⟩
  | .hbm, ⟨5, _⟩ => ⟨S4x1024, .f32⟩
  | .hbm, ⟨6, _⟩ => ⟨S4x1x1024, .f32⟩
  | .hbm, ⟨7, _⟩ => ⟨S4x1x1x1024, .f32⟩
  | .hbm, ⟨8, _⟩ => ⟨S4x1024, .f32⟩
  | .hbm, ⟨9, _⟩ => ⟨S4x1x1024, .f32⟩
  | .hbm, ⟨10, _⟩ => ⟨S4x1x1x1024, .f32⟩
  | .hbm, ⟨11, _⟩ => ⟨S4x1024, .f32⟩
  | .hbm, ⟨12, _⟩ => ⟨S4x1x1024, .f32⟩
  | .hbm, ⟨13, _⟩ => ⟨S4x1x1x1024, .f32⟩
  | .hbm, ⟨14, _⟩ => ⟨S4x1024, .f32⟩
  | .hbm, ⟨15, _⟩ => ⟨S4x1x1024, .f32⟩
  | .hbm, ⟨16, _⟩ => ⟨S4x1x1x1024, .f32⟩
  | .hbm, ⟨17, _⟩ => ⟨S4x1024, .f32⟩
  | .hbm, ⟨18, _⟩ => ⟨S4x1x1024, .f32⟩
  | .hbm, ⟨19, _⟩ => ⟨S4x1x1x1024, .f32⟩
  | .hbm, ⟨20, _⟩ => ⟨S4x1024, .f32⟩
  | .hbm, ⟨21, _⟩ => ⟨S4x1x1024, .f32⟩
  | .hbm, ⟨22, _⟩ => ⟨S4x1x1x1024, .f32⟩
  | .hbm, ⟨23, _⟩ => ⟨S4x1024, .f32⟩
  | .hbm, ⟨24, _⟩ => ⟨S4x1x1024, .f32⟩
  | .hbm, ⟨25, _⟩ => ⟨S4x1x1x1024, .f32⟩
  | .hbm, ⟨26, _⟩ => ⟨S4x1024, .f32⟩
  | .hbm, ⟨27, _⟩ => ⟨S4x1x1024, .f32⟩
  | .hbm, ⟨28, _⟩ => ⟨S4x1x1x1024, .f32⟩
  | .hbm, ⟨29, _⟩ => ⟨S4x1024, .f32⟩
  | .hbm, ⟨30, _⟩ => ⟨S4x1x1024, .f32⟩
  | .hbm, ⟨31, _⟩ => ⟨S4x1x1x1024, .f32⟩
  | .hbm, ⟨32, _⟩ => ⟨S4x1024, .f32⟩
  | .hbm, ⟨33, _⟩ => ⟨S4x1x1024, .f32⟩
  | .hbm, ⟨34, _⟩ => ⟨S4x1x1x1024, .f32⟩
  | .hbm, ⟨35, _⟩ => ⟨S4x1024, .f32⟩
  | .hbm, ⟨36, _⟩ => ⟨S4x1x1024, .f32⟩
  | .hbm, ⟨37, _⟩ => ⟨S4x1x1x1024, .f32⟩
  | .hbm, ⟨38, _⟩ => ⟨S4x1024, .f32⟩
  | .hbm, ⟨39, _⟩ => ⟨S4x1x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S4x256x1024, .f32⟩
  | .hbm, ⟨56, _⟩ => ⟨S4x256x1024, .f32⟩
  | .hbm, ⟨57, _⟩ => ⟨S_, .f32⟩
  | .hbm, ⟨58, _⟩ => ⟨S4x1x1024, .f32⟩
  | .hbm, ⟨59, _⟩ => ⟨S4x1x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x256x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S4x2048x1, .f32⟩
  | .hbm, ⟨76, _⟩ => ⟨S4x2048x1024, .f32⟩
  | .hbm, ⟨77, _⟩ => ⟨S4x2048x1024, .f32⟩
  | .hbm, ⟨78, _⟩ => ⟨S1x1x1024, .f32⟩
  | .hbm, ⟨79, _⟩ => ⟨S4x2048x1024, .f32⟩
  | .hbm, ⟨80, _⟩ => ⟨S4x2048x1024, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2304x1024, .f32⟩
  | .hbm, ⟨89, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst : Ref sig .tc := ⟨.hbm, 42, rfl⟩
abbrev main_v39 : Ref sig .tc := ⟨.hbm, 43, rfl⟩
abbrev main_v40 : Ref sig .tc := ⟨.hbm, 44, rfl⟩
abbrev main_cst_0 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_2 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_3 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_6 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩

abbrev nD : Nat := 1
abbrev τ : Topo := Topo.v7x

variable {F : FTy → Type} [FloatOps F]
-- ==== ResA.lean ====
abbrev S4x2304x1024 : Shape := ⟨3, ![4, 2304, 1024]⟩
abbrev S8x6x1024 : Shape := ⟨3, ![8, 6, 1024]⟩
abbrev S1024 : Shape := ⟨1, ![1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S8x6x1024, .f32⟩
  | .hbm, ⟨3, _⟩ => ⟨S1024, .f32⟩
  | .hbm, ⟨4, _⟩ => ⟨S1x1024, .f32⟩
  | .hbm, ⟨5, _⟩ => ⟨S4x2304x1024, .f32⟩
  | .hbm, ⟨6, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .bf16⟩
  | .local _ .vmem, ⟨10, _⟩ => ⟨S1x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ResARefIdeal.lean ====
abbrev S4x2304x1024 : Shape := ⟨3, ![4, 2304, 1024]⟩
abbrev S8x6x1024 : Shape := ⟨3, ![8, 6, 1024]⟩
abbrev S1024 : Shape := ⟨1, ![1024]⟩
abbrev S4x2x6x1024 : Shape := ⟨4, ![4, 2, 6, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S8x6x1024, .f32⟩
  | .hbm, ⟨3, _⟩ => ⟨S1024, .f32⟩
  | .hbm, ⟨4, _⟩ => ⟨S4x2x6x1024, .f32⟩
  | .hbm, ⟨5, _⟩ => ⟨S4x1x1x1024, .f32⟩
  | .hbm, ⟨6, _⟩ => ⟨S4x1024, .f32⟩
  | .hbm, ⟨7, _⟩ => ⟨S4x1x1024, .f32⟩
  | .hbm, ⟨8, _⟩ => ⟨S4x1x1x1024, .f32⟩
  | .hbm, ⟨9, _⟩ => ⟨S4x1024, .f32⟩
  | .hbm, ⟨10, _⟩ => ⟨S4x1x1024, .f32⟩
  | .hbm, ⟨11, _⟩ => ⟨S4x1x1x1024, .f32⟩
  | .hbm, ⟨12, _⟩ => ⟨S4x1024, .f32⟩
  | .hbm, ⟨13, _⟩ => ⟨S4x1x1024, .f32⟩
  | .hbm, ⟨14, _⟩ => ⟨S4x1x1x1024, .f32⟩
  | .hbm, ⟨15, _⟩ => ⟨S4x1024, .f32⟩
  | .hbm, ⟨16, _⟩ => ⟨S4x1x1024, .f32⟩
  | .hbm, ⟨17, _⟩ => ⟨S4x1x1x1024, .f32⟩
  | .hbm, ⟨18, _⟩ => ⟨S4x1024, .f32⟩
  | .hbm, ⟨19, _⟩ => ⟨S4x1x1024, .f32⟩
  | .hbm, ⟨20, _⟩ => ⟨S4x1x1x1024, .f32⟩
  | .hbm, ⟨21, _⟩ => ⟨S4x1024, .f32⟩
  | .hbm, ⟨22, _⟩ => ⟨S4x1x1024, .f32⟩
  | .hbm, ⟨23, _⟩ => ⟨S4x1x1x1024, .f32⟩
  | .hbm, ⟨24, _⟩ => ⟨S4x1024, .f32⟩
  | .hbm, ⟨25, _⟩ => ⟨S4x1x1024, .f32⟩
  | .hbm, ⟨26, _⟩ => ⟨S4x1x1x1024, .f32⟩
  | .hbm, ⟨27, _⟩ => ⟨S4x1024, .f32⟩
  | .hbm, ⟨28, _⟩ => ⟨S4x1x1024, .f32⟩
  | .hbm, ⟨29, _⟩ => ⟨S4x1x1x1024, .f32⟩
  | .hbm, ⟨30, _⟩ => ⟨S4x1024, .f32⟩
  | .hbm, ⟨31, _⟩ => ⟨S4x1x1024, .f32⟩
  | .hbm, ⟨32, _⟩ => ⟨S4x1x1x1024, .f32⟩
  | .hbm, ⟨33, _⟩ => ⟨S4x1024, .f32⟩
  | .hbm, ⟨34, _⟩ => ⟨S4x1x1024, .f32⟩
  | .hbm, ⟨35, _⟩ => ⟨S4x1x1x1024, .f32⟩
  | .hbm, ⟨36, _⟩ => ⟨S4x1024, .f32⟩
  | .hbm, ⟨37, _⟩ => ⟨S4x1x1024, .f32⟩
  | .hbm, ⟨38, _⟩ => ⟨S4x1x1x1024, .f32⟩
  | .hbm, ⟨39, _⟩ => ⟨S4x1024, .f32⟩
  | .hbm, ⟨40, _⟩ => ⟨S4x1x1024, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x256x1024, .f32⟩
  | .hbm, ⟨52, _⟩ => ⟨S_, .f32⟩
  | .hbm, ⟨53, _⟩ => ⟨S4x256, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S4x256x1, .f32⟩
  | .hbm, ⟨62, _⟩ => ⟨S4x256x1024, .f32⟩
  | .hbm, ⟨63, _⟩ => ⟨S4x256x1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S_, .f32⟩
  | .hbm, ⟨68, _⟩ => ⟨S4x1x1024, .f32⟩
  | .hbm, ⟨69, _⟩ => ⟨S4x1x1024, .f32⟩
  | .hbm, ⟨70, _⟩ => ⟨S4x256x1024, .f32⟩
  | .hbm, ⟨71, _⟩ => ⟨S4x256x1024, .f32⟩
  | .hbm, ⟨72, _⟩ => ⟨S4x256x1024, .f32⟩
  | .hbm, ⟨73, _⟩ => ⟨S4x256x1024, .f32⟩
  | .hbm, ⟨74, _⟩ => ⟨S4x2048x1024, .f32⟩
  | .hbm, ⟨75, _⟩ => ⟨S_, .f32⟩
  | .hbm, ⟨76, _⟩ => ⟨S4x2048, .f32⟩
  | .hbm, ⟨77, _⟩ => ⟨S4x2048x1, .f32⟩
  | .hbm, ⟨78, _⟩ => ⟨S_, .f32⟩
  | .hbm, ⟨79, _⟩ => ⟨S4x2048x1, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S4x2048x1, .f32⟩
  | .hbm, ⟨85, _⟩ => ⟨S4x2048x1024, .f32⟩
  | .hbm, ⟨86, _⟩ => ⟨S4x2048x1024, .f32⟩
  | .hbm, ⟨87, _⟩ => ⟨S1x1x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x1x1024, .f32⟩
  | .hbm, ⟨92, _⟩ => ⟨S4x1x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2304x1024, .f32⟩
  | .hbm, ⟨98, _⟩ => ⟨S4x2304x1024, .f32⟩
  | .hbm, ⟨99, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst : Ref sig .tc := ⟨.hbm, 52, rfl⟩
abbrev main_v48 : Ref sig .tc := ⟨.hbm, 53, rfl⟩
abbrev main_v49 : Ref sig .tc := ⟨.hbm, 54, rfl⟩
abbrev main_cst_0 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_2 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev main_cst_4 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_6 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]
-- ==== ResB.lean ====
abbrev S4x2304x1024 : Shape := ⟨3, ![4, 2304, 1024]⟩
abbrev S8x6x1024 : Shape := ⟨3, ![8, 6, 1024]⟩
abbrev S1024 : Shape := ⟨1, ![1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S8x6x1024, .f32⟩
  | .hbm, ⟨3, _⟩ => ⟨S1024, .f32⟩
  | .hbm, ⟨4, _⟩ => ⟨S1x1024, .f32⟩
  | .hbm, ⟨5, _⟩ => ⟨S4x2304x1024, .f32⟩
  | .hbm, ⟨6, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .bf16⟩
  | .local _ .vmem, ⟨10, _⟩ => ⟨S1x256x1024, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ResBRefIdeal.lean ====
abbrev S4x2304x1024 : Shape := ⟨3, ![4, 2304, 1024]⟩
abbrev S8x6x1024 : Shape := ⟨3, ![8, 6, 1024]⟩
abbrev S1024 : Shape := ⟨1, ![1024]⟩
abbrev S4x2x6x1024 : Shape := ⟨4, ![4, 2, 6, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S8x6x1024, .f32⟩
  | .hbm, ⟨3, _⟩ => ⟨S1024, .f32⟩
  | .hbm, ⟨4, _⟩ => ⟨S4x2x6x1024, .f32⟩
  | .hbm, ⟨5, _⟩ => ⟨S4x1x1x1024, .f32⟩
  | .hbm, ⟨6, _⟩ => ⟨S4x1024, .f32⟩
  | .hbm, ⟨7, _⟩ => ⟨S4x1x1024, .f32⟩
  | .hbm, ⟨8, _⟩ => ⟨S4x1x1x1024, .f32⟩
  | .hbm, ⟨9, _⟩ => ⟨S4x1024, .f32⟩
  | .hbm, ⟨10, _⟩ => ⟨S4x1x1024, .f32⟩
  | .hbm, ⟨11, _⟩ => ⟨S4x1x1x1024, .f32⟩
  | .hbm, ⟨12, _⟩ => ⟨S4x1024, .f32⟩
  | .hbm, ⟨13, _⟩ => ⟨S4x1x1024, .f32⟩
  | .hbm, ⟨14, _⟩ => ⟨S4x1x1x1024, .f32⟩
  | .hbm, ⟨15, _⟩ => ⟨S4x1024, .f32⟩
  | .hbm, ⟨16, _⟩ => ⟨S4x1x1024, .f32⟩
  | .hbm, ⟨17, _⟩ => ⟨S4x1x1x1024, .f32⟩
  | .hbm, ⟨18, _⟩ => ⟨S4x1024, .f32⟩
  | .hbm, ⟨19, _⟩ => ⟨S4x1x1024, .f32⟩
  | .hbm, ⟨20, _⟩ => ⟨S4x1x1x1024, .f32⟩
  | .hbm, ⟨21, _⟩ => ⟨S4x1024, .f32⟩
  | .hbm, ⟨22, _⟩ => ⟨S4x1x1024, .f32⟩
  | .hbm, ⟨23, _⟩ => ⟨S4x1x1x1024, .f32⟩
  | .hbm, ⟨24, _⟩ => ⟨S4x1024, .f32⟩
  | .hbm, ⟨25, _⟩ => ⟨S4x1x1024, .f32⟩
  | .hbm, ⟨26, _⟩ => ⟨S4x1x1x1024, .f32⟩
  | .hbm, ⟨27, _⟩ => ⟨S4x1024, .f32⟩
  | .hbm, ⟨28, _⟩ => ⟨S4x1x1024, .f32⟩
  | .hbm, ⟨29, _⟩ => ⟨S4x1x1x1024, .f32⟩
  | .hbm, ⟨30, _⟩ => ⟨S4x1024, .f32⟩
  | .hbm, ⟨31, _⟩ => ⟨S4x1x1024, .f32⟩
  | .hbm, ⟨32, _⟩ => ⟨S4x1x1x1024, .f32⟩
  | .hbm, ⟨33, _⟩ => ⟨S4x1024, .f32⟩
  | .hbm, ⟨34, _⟩ => ⟨S4x1x1024, .f32⟩
  | .hbm, ⟨35, _⟩ => ⟨S4x1x1x1024, .f32⟩
  | .hbm, ⟨36, _⟩ => ⟨S4x1024, .f32⟩
  | .hbm, ⟨37, _⟩ => ⟨S4x1x1024, .f32⟩
  | .hbm, ⟨38, _⟩ => ⟨S4x1x1x1024, .f32⟩
  | .hbm, ⟨39, _⟩ => ⟨S4x1024, .f32⟩
  | .hbm, ⟨40, _⟩ => ⟨S4x1x1024, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x256x1024, .f32⟩
  | .hbm, ⟨52, _⟩ => ⟨S_, .f32⟩
  | .hbm, ⟨53, _⟩ => ⟨S4x256, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S4x256x1, .f32⟩
  | .hbm, ⟨62, _⟩ => ⟨S4x256x1024, .f32⟩
  | .hbm, ⟨63, _⟩ => ⟨S4x256x1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S_, .f32⟩
  | .hbm, ⟨68, _⟩ => ⟨S4x1x1024, .f32⟩
  | .hbm, ⟨69, _⟩ => ⟨S4x1x1024, .f32⟩
  | .hbm, ⟨70, _⟩ => ⟨S4x256x1024, .f32⟩
  | .hbm, ⟨71, _⟩ => ⟨S4x256x1024, .f32⟩
  | .hbm, ⟨72, _⟩ => ⟨S4x256x1024, .f32⟩
  | .hbm, ⟨73, _⟩ => ⟨S4x256x1024, .f32⟩
  | .hbm, ⟨74, _⟩ => ⟨S4x2048x1024, .f32⟩
  | .hbm, ⟨75, _⟩ => ⟨S_, .f32⟩
  | .hbm, ⟨76, _⟩ => ⟨S4x2048, .f32⟩
  | .hbm, ⟨77, _⟩ => ⟨S4x2048x1, .f32⟩
  | .hbm, ⟨78, _⟩ => ⟨S_, .f32⟩
  | .hbm, ⟨79, _⟩ => ⟨S4x2048x1, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S4x2048x1, .f32⟩
  | .hbm, ⟨85, _⟩ => ⟨S4x2048x1024, .f32⟩
  | .hbm, ⟨86, _⟩ => ⟨S4x2048x1024, .f32⟩
  | .hbm, ⟨87, _⟩ => ⟨S1x1x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x1x1024, .f32⟩
  | .hbm, ⟨92, _⟩ => ⟨S4x1x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2304x1024, .f32⟩
  | .hbm, ⟨98, _⟩ => ⟨S4x2304x1024, .f32⟩
  | .hbm, ⟨99, _⟩ => ⟨S4x2304x1024, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst : Ref sig .tc := ⟨.hbm, 52, rfl⟩
abbrev main_v48 : Ref sig .tc := ⟨.hbm, 53, rfl⟩
abbrev main_v49 : Ref sig .tc := ⟨.hbm, 54, rfl⟩
abbrev main_cst_0 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_2 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev main_cst_4 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_6 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]
-- ==== Proof.ConvSpec.lean ====
module

public import Idealize.ShloMosaic.Lib.Pointwise

@[expose] public section

set_option maxRecDepth 16384

noncomputable section

/-!
# The gradient of the position-mixing convolution, one channel at a time

A sample has 2304 positions: 256 of a context line, then a grid of 32 rows of 64 columns, row by row. Within one
channel, the convolution of the context line has the three taps `w 1 j`, that of the grid the nine taps `w i j`; both
read zero beyond their ends. `d` is the gradient that arrives at the convolution's result.
-/

namespace Cert.ConvSpec

open Idealize.ShloMosaic

/-- Position `t` has a neighbour at column offset `j - 1` (on the context line: at offset `j - 1` along the line). -/
def H (j : Fin 3) (t : ℕ) : Prop :=
  (t < 256 ∧ 1 ≤ t + j.val ∧ t + j.val < 257) ∨ (256 ≤ t ∧ 1 ≤ t % 64 + j.val ∧ t % 64 + j.val < 65)

instance (j : Fin 3) (t : ℕ) : Decidable (H j t) := by unfold H; infer_instance

/-- Position `t` has a neighbour at row offset `i - 1` (the context line only at offset 0). -/
def V (i : Fin 3) (t : ℕ) : Prop :=
  (t < 256 ∧ i.val = 1) ∨ (256 ≤ t ∧ 320 ≤ t + 64 * i.val ∧ t + 64 * i.val < 2368)

instance (i : Fin 3) (t : ℕ) : Decidable (V i t) := by unfold V; infer_instance

/-- The value at column offset `j - 1` of position `t`, zero where there is none. -/
def side (x : ℕ → EReal) (j : Fin 3) (t : ℕ) : EReal := if H j t then x (t + j.val - 1) else 0

/-- The value at row offset `i - 1` and column offset `j - 1` of position `t`, zero where there is none. -/
def tap (x : ℕ → EReal) (i j : Fin 3) (t : ℕ) : EReal := if V i t then side x j (t + 64 * i.val - 64) else 0

/-- The convolution before its activation. -/
def acc (w : Fin 3 → Fin 3 → EReal) (b : EReal) (x : ℕ → EReal) (t : ℕ) : EReal :=
  (∑ i, ∑ j, w i j * tap x i j t) + b

/-- The logistic function. -/
def sg (a : EReal) : EReal := Ideal.div 1 (1 + Ideal.exp (-a))

/-- The gradient of `a ↦ a * sg a` against the arriving gradient `d`. -/
def dsilu (a d : EReal) : EReal := d * sg a + a * d * (sg a * (1 - sg a))

/-- The arriving gradient at row offset `1 - i` of position `s`. -/
def adj (d : ℕ → EReal) (i : Fin 3) (s : ℕ) : EReal := if V i.rev s then d (s + 64 * i.rev.val - 64) else 0

/-- The part of the input's gradient that goes through column tap `j`, before the shift by that tap. -/
def dxc (w : Fin 3 → Fin 3 → EReal) (d : ℕ → EReal) (j : Fin 3) (s : ℕ) : EReal := ∑ i, w i j * adj d i s

/-- The gradient of the convolution's input. -/
def dx (w : Fin 3 → Fin 3 → EReal) (d : ℕ → EReal) (t : ℕ) : EReal :=
  ∑ j : Fin 3, if H j.rev t then dxc w d j (t + j.rev.val - 1) else 0

/-- One sample's part of the gradient of the tap `w i j`. -/
def dw (x d : ℕ → EReal) (i j : Fin 3) : EReal := ∑ t ∈ Finset.range 2304, d t * tap x i j t

/-- On the context line only the middle row of taps is read. -/
theorem tap_ctx (x : ℕ → EReal) (i j : Fin 3) (t : ℕ) (ht : t < 256) :
    tap x i j t = if i.val = 1 ∧ 1 ≤ t + j.val ∧ t + j.val < 257 then x (t + j.val - 1) else 0 := by
  unfold tap side
  split_ifs
  all_goals
    simp only [V, H] at * <;> first | (exfalso; omega) | rfl | (apply congrArg; omega)

/-- On the grid the nine taps are read by row and column. -/
theorem tap_lat (x : ℕ → EReal) (i j : Fin 3) (p q : ℕ) (hp : p < 32) (hq : q < 64) :
    tap x i j (256 + 64 * p + q) = if 1 ≤ p + i.val ∧ p + i.val < 33 ∧ 1 ≤ q + j.val ∧ q + j.val < 65 then
      x (256 + 64 * (p + i.val - 1) + (q + j.val - 1)) else 0 := by
  unfold tap side
  split_ifs
  all_goals
    simp only [V, H] at * <;> first | (exfalso; omega) | rfl | (apply congrArg; omega)

/-- The arriving gradient seen from the context line. -/
theorem adj_ctx (d : ℕ → EReal) (i : Fin 3) (t : ℕ) (ht : t < 256) : adj d i t = if i.val = 1 then d t else 0 := by
  unfold adj
  split_ifs
  all_goals
    simp only [V, Fin.val_rev] at * <;> first | (exfalso; omega) | rfl | (apply congrArg; omega)

/-- The arriving gradient seen from the grid. -/
theorem adj_lat (d : ℕ → EReal) (i : Fin 3) (p q : ℕ) (hp : p < 32) (hq : q < 64) :
    adj d i (256 + 64 * p + q) = if i.val ≤ p + 1 ∧ p + 1 < 32 + i.val then d (256 + 64 * (p + 1 - i.val) + q) else 0 := by
  unfold adj
  split_ifs
  all_goals
    simp only [V, Fin.val_rev] at * <;> first | (exfalso; omega) | rfl | (apply congrArg; omega)

/-- On the context line the column part is one product. -/
theorem dxc_ctx (w : Fin 3 → Fin 3 → EReal) (d : ℕ → EReal) (j : Fin 3) (t : ℕ) (ht : t < 256) :
    dxc w d j t = w 1 j * d t := by
  unfold dxc
  simp [Fin.sum_univ_three, adj_ctx _ _ _ ht]

/-- The input's gradient on the context line. -/
theorem dx_ctx (w : Fin 3 → Fin 3 → EReal) (d : ℕ → EReal) (t : ℕ) (ht : t < 256) :
    dx w d t = ((if 1 ≤ t then w 1 2 * d (t - 1) else 0) + w 1 1 * d t) + if t + 1 < 256 then w 1 0 * d (t + 1) else 0 := by
  unfold dx
  rw [Fin.sum_univ_three, add_comm, ← add_assoc, add_right_comm]
  refine congrArg₂ (· + ·) (congrArg₂ (· + ·) ?_ ?_) ?_
  all_goals
    split_ifs <;> simp only [H, Fin.rev] at * <;> simp at * <;>
      first | (exfalso; omega) | rfl | (rw [dxc_ctx _ _ _ _ (by omega)])

/-- The input's gradient on the grid. -/
theorem dx_lat (w : Fin 3 → Fin 3 → EReal) (d : ℕ → EReal) (p q : ℕ) (hp : p < 32) (hq : q < 64) :
    dx w d (256 + 64 * p + q) = ((if 1 ≤ q then dxc w d 2 (256 + 64 * p + (q - 1)) else 0) + dxc w d 1 (256 + 64 * p + q))
      + if q + 1 < 64 then dxc w d 0 (256 + 64 * p + (q + 1)) else 0 := by
  unfold dx
  rw [Fin.sum_univ_three, add_comm, ← add_assoc, add_right_comm]
  refine congrArg₂ (· + ·) (congrArg₂ (· + ·) ?_ ?_) ?_
  all_goals
    split_ifs <;> simp only [H, Fin.rev] at * <;> simp at * <;>
      first | (exfalso; omega) | rfl | (apply congrArg; omega)

/-- A sum over the 2304 positions is one over the context line and one over the grid. -/
theorem sum_split (f : ℕ → EReal) : (∑ t ∈ Finset.range 2304, f t)
    = (∑ p : Fin 256, f p.val) + ∑ p : Fin 32, ∑ q : Fin 64, f (256 + 64 * p.val + q.val) := by
  rw [Finset.range_eq_Ico, ← Finset.sum_Ico_consecutive f (Nat.zero_le 256) (by omega : 256 ≤ 2304), ← Finset.range_eq_Ico,
    Finset.sum_range, Finset.sum_Ico_eq_sum_range, Finset.sum_range]
  congr 1
  rw [← (finProdFinEquiv : Fin 32 × Fin 64 ≃ Fin (32 * 64)).sum_comp (fun i : Fin (32 * 64) => f (256 + i.val)), Fintype.sum_prod_type]
  refine Finset.sum_congr rfl fun p _ => Finset.sum_congr rfl fun q _ => ?_
  congr 1
  simp [finProdFinEquiv]
  omega

/-- The gradient of a tap may be summed at the tap's end instead of the result's end. -/
theorem dw_adj (x d : ℕ → EReal) (i j : Fin 3) :
    dw x d i j = ∑ t ∈ Finset.range 2304, adj d i t * side x j t := by
  have h1 : ∀ t, d t * tap x i j t = if V i t then d t * side x j (t + 64 * i.val - 64) else 0 := by
    intro t; unfold tap; split_ifs <;> simp
  have h2 : ∀ t, adj d i t * side x j t = if V i.rev t then d (t + 64 * i.rev.val - 64) * side x j t else 0 := by
    intro t; unfold adj; split_ifs <;> simp
  unfold dw
  simp only [h1, h2]
  rw [← Finset.sum_filter, ← Finset.sum_filter]
  refine Finset.sum_nbij' (fun t => t + 64 * i.val - 64) (fun t => t + 64 * i.rev.val - 64) ?_ ?_ ?_ ?_ ?_
  all_goals
    intro t ht
    rw [Finset.mem_filter, Finset.mem_range] at ht
    try rw [Finset.mem_filter, Finset.mem_range]
    simp only [V, Fin.val_rev] at ht ⊢
  · omega
  · omega
  · omega
  · omega
  · congr 2
    omega

end Cert.ConvSpec
-- ==== Proof.KernMask.lean ====
module

public import proofs.«01_k».proof.Proof.Gen.KernelIdeal.Value
public import proofs.«01_k».proof.Proof.ConvSpec
public import Idealize.ShloMosaic.Lib.Pointwise

@[expose] public section

set_option maxRecDepth 16384

noncomputable section

/-!
# The kernel's masks

The kernel marks the positions that have a given neighbour by columns of ones and zeros, computed from the position
number. Each is the indicator of the matching condition of `ConvSpec`.
-/

namespace Cert.KernMask

open Cert.KernelIdeal Cert.KernelIdeal.Gen Idealize.ShloMosaic Idealize.ShloMosaic.TcCoe Idealize.SL.Sem Cert.ConvSpec

/-- The position numbers. -/
abbrev I : IVec S2304x1 32 := iota Kind.tc S2304x1 32 [0] iota_S2304x1_d0_w32

/-- The word of 1. -/
abbrev one : Ideal .f32 := Scalar.ofBits .f32 1065353216#32

/-- The word of 0. -/
abbrev zero : Ideal .f32 := Scalar.ofBits .f32 0#32

/-- A column of ones. -/
abbrev ONE : FVec Ideal S2304x1 .f32 := broadcast S2304x1 one

/-- A column of zeros. -/
abbrev ZERO : FVec Ideal S2304x1 .f32 := broadcast S2304x1 zero

theorem mul_at (a b : FVec Ideal S2304x1 .f32) (i : S2304x1.Idx) : mulf a b i = (a i * b i : EReal) := rfl
theorem add_at (a b : FVec Ideal S2304x1 .f32) (i : S2304x1.Idx) : addf a b i = (a i + b i : EReal) := rfl
theorem sub_at (a b : FVec Ideal S2304x1 .f32) (i : S2304x1.Idx) : subf a b i = (a i - b i : EReal) := rfl
theorem one_at (i : S2304x1.Idx) : ONE i = (1 : EReal) := by pointwise [ONE]
theorem zero_at (i : S2304x1.Idx) : ZERO i = (0 : EReal) := by pointwise [ZERO]

/-- The indicator of a comparison. -/
theorem msk (P : ℕ → Prop) [DecidablePred P] (c : IVec S2304x1 1)
    (h : ∀ t : Fin 2304, c (ix2 t 0) = if P t.val then 1#1 else 0#1) (t : Fin 2304) :
    select c ONE ZERO (ix2 t 0) = if P t.val then (1 : EReal) else 0 := by
  have e : select c ONE ZERO (ix2 t 0) = Scalar.select (c (ix2 t 0)) (ONE (ix2 t 0)) (ZERO (ix2 t 0)) := rfl
  rw [e, h t, one_at, zero_at]
  split_ifs
  · rfl
  · rfl

theorem one_sub (P : Prop) [Decidable P] : (1 : EReal) - (if P then 1 else 0) = if P then 0 else 1 := by
  split_ifs
  · rw [← EReal.coe_one, ← EReal.coe_sub, sub_self, EReal.coe_zero]
  · rw [sub_zero]

theorem both (P Q W : Prop) [Decidable P] [Decidable Q] [Decidable W] (h : W ↔ P ∧ Q) :
    ((if P then (1 : EReal) else 0) * if Q then 1 else 0) = if W then 1 else 0 := by
  by_cases hp : P <;> by_cases hq : Q <;> simp [h, hp, hq]

theorem comb (C P Q R S W : Prop) [Decidable C] [Decidable P] [Decidable Q] [Decidable R] [Decidable S] [Decidable W]
    (h : W ↔ (C ∧ P ∧ Q) ∨ (¬C ∧ R ∧ S)) :
    ((if C then (1 : EReal) else 0) * ((if P then 1 else 0) * if Q then 1 else 0)
      + (if C then 0 else 1) * ((if R then 1 else 0) * if S then 1 else 0)) = if W then 1 else 0 := by
  by_cases hc : C <;> by_cases hp : P <;> by_cases hq : Q <;> by_cases hr : R <;> by_cases hs : S <;>
    simp [h, hc, hp, hq, hr, hs]

theorem off (C R S W : Prop) [Decidable C] [Decidable R] [Decidable S] [Decidable W]
    (h : W ↔ (¬C ∧ R ∧ S)) :
    ((if C then (0 : EReal) else 1) * ((if R then 1 else 0) * if S then 1 else 0)) = if W then 1 else 0 := by
  by_cases hc : C <;> by_cases hr : R <;> by_cases hs : S <;> simp [h, hc, hr, hs]

/-- The context line. -/
theorem ctx (t : Fin 2304) : k0_pay16 (F := Ideal) (ix2 t 0) = if t.val < 256 then (1 : EReal) else 0 := by
  unfold k0_pay16
  show mulf (select _ ONE ZERO) (select _ ONE ZERO) _ = _
  rw [mul_at, msk (fun _ => True) _ (by decide +kernel), msk (fun t => t < 256) _ (by decide +kernel)]
  exact both _ _ _ (by simp)

theorem ctx' (t : Fin 2304) : k0_pay39 (F := Ideal) (ix2 t 0) = if t.val < 256 then (1 : EReal) else 0 := ctx t

/-- The position has a neighbour to the left. -/
theorem left (t : Fin 2304) :
    k0_pay19 I (k0_pay17 (F := Ideal)) k0_pay18 (ix2 t 0) = if H 0 t.val then (1 : EReal) else 0 := by
  unfold k0_pay19 k0_pay17 k0_pay18
  show addf (mulf k0_pay16 (mulf (select _ ONE ZERO) (select _ ONE ZERO)))
    (mulf (subf ONE k0_pay16) (mulf (select _ ONE ZERO) (select _ ONE ZERO))) _ = _
  rw [add_at, mul_at, mul_at, mul_at, mul_at, sub_at, one_at, ctx, one_sub,
    msk (fun t => 1 ≤ t) _ (by decide +kernel), msk (fun t => t < 257 ∧ 1 ≤ t ∨ t = 0) _ (by decide +kernel),
    msk (fun t => 1 ≤ t % 64) _ (by decide +kernel), msk (fun t => True) _ (by decide +kernel)]
  exact comb _ _ _ _ _ _ (by simp [H]; omega)

/-- The position has a neighbour to the right. -/
theorem right (t : Fin 2304) : k0_pay23 I (k0_pay16 (F := Ideal)) (k0_pay21 I) (k0_pay22 I) one zero (ix2 t 0)
    = if H 2 t.val then (1 : EReal) else 0 := by
  unfold k0_pay23 k0_pay21
  show addf (mulf k0_pay16 (mulf (select _ ONE ZERO) (select _ ONE ZERO)))
    (mulf (subf ONE k0_pay16) (mulf (select _ ONE ZERO) (select _ ONE ZERO))) _ = _
  rw [add_at, mul_at, mul_at, mul_at, mul_at, sub_at, one_at, ctx, one_sub,
    msk (fun _ => True) _ (by decide +kernel), msk (fun t => t < 255) _ (by decide +kernel),
    msk (fun _ => True) _ (by decide +kernel), msk (fun t => t % 64 < 63) _ (by decide +kernel)]
  exact comb _ _ _ _ _ _ (by simp [H]; omega)

/-- The position has a neighbour in the row above. -/
theorem up (t : Fin 2304) : k0_pay27 (k0_pay24 (k0_pay16 (F := Ideal))) (k0_pay25 I) k0_pay26 (ix2 t 0)
    = if ConvSpec.V 0 t.val then (1 : EReal) else 0 := by
  unfold k0_pay27 k0_pay24
  show mulf (subf ONE k0_pay16) (mulf (select _ ONE ZERO) (select _ ONE ZERO)) _ = _
  rw [mul_at, mul_at, sub_at, one_at, ctx, one_sub,
    msk (fun t => 320 ≤ t) _ (by decide +kernel), msk (fun _ => True) _ (by decide +kernel)]
  exact off _ _ _ _ (by have := t.isLt; simp [ConvSpec.V]; omega)

/-- The position has a neighbour in the row below. -/
theorem down (t : Fin 2304) : k0_pay28 I (k0_pay16 (F := Ideal)) (ix2 t 0) = if ConvSpec.V 2 t.val then (1 : EReal) else 0 := by
  unfold k0_pay28
  show mulf (subf ONE k0_pay16) (mulf (select _ ONE ZERO) (select _ ONE ZERO)) _ = _
  rw [mul_at, mul_at, sub_at, one_at, ctx, one_sub,
    msk (fun t => 192 ≤ t) _ (by decide +kernel), msk (fun t => t < 2240) _ (by decide +kernel)]
  exact off _ _ _ _ (by simp [ConvSpec.V]; omega)

/-- The kernel computes each mask twice, the second time in another grouping. -/
theorem left' : k0_pay42 I (k0_pay39 (F := Ideal)) k0_pay40 k0_pay41 one zero = k0_pay19 I k0_pay17 k0_pay18 := rfl

theorem right' : k0_pay48 (k0_pay43 I (k0_pay39 (F := Ideal))) (k0_pay44 k0_pay39) (k0_pay46 I) (k0_pay47 I)
    = k0_pay23 I (k0_pay16 (F := Ideal)) (k0_pay21 I) (k0_pay22 I) one zero := rfl

theorem up' : k0_pay49 I (k0_pay39 (F := Ideal)) = k0_pay27 (k0_pay24 k0_pay16) (k0_pay25 I) k0_pay26 := rfl

theorem down' : k0_pay50 I (k0_pay39 (F := Ideal)) = k0_pay28 I k0_pay16 := rfl

end Cert.KernMask
-- ==== Proof.Silu.lean ====
module

public import proofs.«01_k».proof.Proof.ConvSpec

@[expose] public section

noncomputable section

/-!
# The derivative of `a * sg a`, in two groupings

Against a finite arriving gradient the two groupings agree at every extended real `a`.
-/

namespace Cert.ConvSpec

open Idealize.ShloMosaic

/-- The grouping with the logistic function factored out. -/
def dsilu' (a d : EReal) : EReal := d * (sg a * (1 + a * (1 - sg a)))

theorem one_sub_one : (1 : EReal) - 1 = 0 := by rw [← EReal.coe_one, ← EReal.coe_sub, sub_self, EReal.coe_zero]

theorem dsilu_eq (a : EReal) (d : ℝ) : dsilu' a d = dsilu a d := by
  have hs : ∀ a, sg a = Ideal.logistic a := fun _ => rfl
  unfold dsilu dsilu'
  rw [hs]
  induction a using EReal.rec with
  | bot => rw [Ideal.logistic_bot]; simp
  | top => rw [Ideal.logistic_top, one_sub_one]; simp
  | coe a =>
    rw [Ideal.logistic_coe]
    norm_cast
    ring

/-- A product of two finite numbers is finite. -/
theorem dsilu_mul (a x y : EReal) (hx : x ≠ ⊤ ∧ x ≠ ⊥) (hy : y ≠ ⊤ ∧ y ≠ ⊥) : dsilu' a (x * y) = dsilu a (x * y) := by
  lift x to ℝ using hx
  lift y to ℝ using hy
  rw [← EReal.coe_mul, dsilu_eq]

theorem dsilu_zero (a : EReal) : dsilu a 0 = 0 := by simp [dsilu]

end Cert.ConvSpec
-- ==== Proof.KernConv.lean ====
module

public import proofs.«01_k».proof.Proof.KernMask
public import proofs.«01_k».proof.Proof.Silu

@[expose] public section

set_option maxRecDepth 16384

noncomputable section

/-!
# The kernel's stages, read one channel at a time

A block of the kernel holds one sample's 2304 positions of 256 channels. Each stage of its body is read at a position
and a channel and found to be the matching function of `ConvSpec` on that channel's column.
-/

namespace Cert.KernConv

open Cert.KernelIdeal Cert.KernelIdeal.Gen Idealize.ShloMosaic Idealize.ShloMosaic.TcCoe Idealize.SL.Sem Cert.ConvSpec
  Cert.KernMask

/-- Channel `q` of a block, zero beyond the last position. -/
def colT (X : FVec Ideal S2304x256 .f32) (q : Fin 256) (t : ℕ) : EReal := if h : t < 2304 then X (ix2 ⟨t, h⟩ q) else 0

theorem colT_at (X : FVec Ideal S2304x256 .f32) (q : Fin 256) (t : Fin 2304) : X (ix2 t q) = colT X q t.val := by
  unfold colT; rw [dif_pos t.isLt]

/-- Channel `q` of the nine rows of taps. -/
def taps9 (W0 W1 W2 W3 W4 W5 W6 W7 W8 : Vec Ideal S1x256 .f32) (q : Fin 256) (i j : Fin 3) : EReal :=
  (![![W0, W1, W2], ![W3, W4, W5], ![W6, W7, W8]] i j) (ix2 0 q)

/-- The kernel's masks. -/
abbrev mL : FVec Ideal S2304x1 .f32 := k0_pay19 I (k0_pay17 (F := Ideal)) k0_pay18
abbrev mR : FVec Ideal S2304x1 .f32 := k0_pay23 I (k0_pay16 (F := Ideal)) (k0_pay21 I) (k0_pay22 I) one zero
abbrev mU : FVec Ideal S2304x1 .f32 := k0_pay27 (k0_pay24 (k0_pay16 (F := Ideal))) (k0_pay25 I) k0_pay26
abbrev mD : FVec Ideal S2304x1 .f32 := k0_pay28 I (k0_pay16 (F := Ideal))

variable (X : FVec Ideal S2304x256 .f32) (B : FVec Ideal S2304x256 .f32) (D : FVec Ideal S2304x256 .f32)
  (W0 W1 W2 W3 W4 W5 W6 W7 W8 : Vec Ideal S1x256 .f32) (t : Fin 2304) (q : Fin 256)

/-- The left neighbours. -/
theorem side0 (M : FVec Ideal S2304x1 .f32) (hM : ∀ t : Fin 2304, M (ix2 t 0) = if H 0 t.val then (1 : EReal) else 0) :
    k0_pay29 X M (ix2 t q) = side (colT X q) 0 t.val := by
  pointwise [k0_pay29, colT_at X, hM]
  unfold side
  have := t.isLt
  split_ifs with h
  · rw [mul_one]; congr 1; simp only [H] at h; simp at h ⊢; omega
  · rw [mul_zero]

/-- The right neighbours. -/
theorem side2 (M : FVec Ideal S2304x1 .f32) (hM : ∀ t : Fin 2304, M (ix2 t 0) = if H 2 t.val then (1 : EReal) else 0) :
    k0_pay30 X M (ix2 t q) = side (colT X q) 2 t.val := by
  pointwise [k0_pay30, colT_at X, hM]
  unfold side
  have := t.isLt
  split_ifs with h
  · rw [mul_one]; congr 1; simp only [H] at h; simp at h ⊢; omega
  · rw [mul_zero]

/-- The left neighbours, as the backward half of the body reads them. -/
theorem side0' (M : FVec Ideal S2304x1 .f32) (hM : ∀ t : Fin 2304, M (ix2 t 0) = if H 0 t.val then (1 : EReal) else 0) :
    k0_pay51 X M (ix2 t q) = side (colT X q) 0 t.val := side0 X t q M hM

/-- The right neighbours, as the backward half of the body reads them. -/
theorem side2' (M : FVec Ideal S2304x1 .f32) (hM : ∀ t : Fin 2304, M (ix2 t 0) = if H 2 t.val then (1 : EReal) else 0) :
    k0_pay52 X M (ix2 t q) = side (colT X q) 2 t.val := side2 X t q M hM

/-- The position itself. -/
theorem side1 : side (colT X q) 1 t.val = X (ix2 t q) := by
  rw [colT_at X]
  unfold side
  rw [if_pos (by simp only [H]; have := t.isLt; simp; omega)]
  simp

/-- The arriving gradient, read from the row below. -/
theorem adj0 (M : FVec Ideal S2304x1 .f32) (hM : ∀ t : Fin 2304, M (ix2 t 0) = if ConvSpec.V 0 t.val then (1 : EReal) else 0) :
    k0_pay53 D M (ix2 t q) = adj (colT D q) 0 t.val := by
  pointwise [k0_pay53, colT_at D, hM]
  unfold adj
  have := t.isLt
  split_ifs <;> simp only [ConvSpec.V, Fin.val_rev] at * <;> simp at * <;>
    first | (exfalso; omega) | rfl | (congr 1; omega)

/-- The arriving gradient, read from the row above. -/
theorem adj2 (M : FVec Ideal S2304x1 .f32) (hM : ∀ t : Fin 2304, M (ix2 t 0) = if ConvSpec.V 2 t.val then (1 : EReal) else 0) :
    k0_pay63 D M (ix2 t q) = adj (colT D q) 2 t.val := by
  pointwise [k0_pay63, colT_at D, hM]
  unfold adj
  have := t.isLt
  split_ifs <;> simp only [ConvSpec.V, Fin.val_rev] at * <;> simp at * <;>
    first | (exfalso; omega) | rfl | (congr 1; omega)

/-- The arriving gradient itself. -/
theorem adj1 : adj (colT D q) 1 t.val = D (ix2 t q) := by
  rw [colT_at D]
  unfold adj
  rw [if_pos (by simp only [ConvSpec.V]; have := t.isLt; simp; omega)]
  simp

/-- The convolution before its activation. -/
abbrev accT : FVec Ideal S2304x256 .f32 := k0_pay35 mD (k0_pay30 X mR)
  (k0_pay32 X B mU (k0_pay29 X mL) (k0_pay30 X mR) (k0_pay31 X mL W0) W1 W2 W3 W4 W5)
  (k0_pay33 X (k0_pay29 X mL) W6 W7) (k0_pay34 W8)

/-- A row of taps applied, then moved down by a row. -/
theorem row0 (x : ℕ → EReal) (w : Fin 3 → EReal) (y : EReal) (h : y = w 0 * side x 0 ((t.val + 2304 - 64) % 2304)
      + w 1 * side x 1 ((t.val + 2304 - 64) % 2304) + w 2 * side x 2 ((t.val + 2304 - 64) % 2304)) :
    (y * if ConvSpec.V 0 t.val then 1 else 0) = ∑ j, w j * tap x 0 j t.val := by
  rw [h, Fin.sum_univ_three]
  unfold tap
  have := t.isLt
  split_ifs with h
  · have e : (t.val + 2304 - 64) % 2304 = t.val + 64 * (0 : Fin 3).val - 64 := by simp [ConvSpec.V] at h ⊢; omega
    rw [e, mul_one]
  · simp

/-- A row of taps applied, then moved up by a row. -/
theorem row2 (x : ℕ → EReal) (w : Fin 3 → EReal) (y : EReal) (h : y = w 0 * side x 0 ((t.val + 2304 - 2240) % 2304)
      + w 1 * side x 1 ((t.val + 2304 - 2240) % 2304) + w 2 * side x 2 ((t.val + 2304 - 2240) % 2304)) :
    (y * if ConvSpec.V 2 t.val then 1 else 0) = ∑ j, w j * tap x 2 j t.val := by
  rw [h, Fin.sum_univ_three]
  unfold tap
  have := t.isLt
  split_ifs with h
  · have e : (t.val + 2304 - 2240) % 2304 = t.val + 64 * (2 : Fin 3).val - 64 := by simp [ConvSpec.V] at h ⊢; omega
    rw [e, mul_one]
  · simp

/-- The middle row of taps. -/
theorem row1 (x : ℕ → EReal) (w : Fin 3 → EReal) : ∑ j, w j * tap x 1 j t.val
    = w 0 * side x 0 t.val + w 1 * side x 1 t.val + w 2 * side x 2 t.val := by
  rw [Fin.sum_univ_three]
  unfold tap
  rw [if_pos (by simp only [ConvSpec.V]; have := t.isLt; simp; omega)]
  simp only [Fin.val_one, mul_one, Nat.add_sub_cancel]
  rw [if_pos (by simp only [ConvSpec.V]; have := t.isLt; simp; omega), if_pos (by simp only [ConvSpec.V]; have := t.isLt; simp; omega)]

/-- The convolution, with its bias, at every position. -/
theorem acc_at : accT X B W0 W1 W2 W3 W4 W5 W6 W7 W8 (ix2 t q)
    = (∑ i, ∑ j, taps9 W0 W1 W2 W3 W4 W5 W6 W7 W8 q i j * tap (colT X q) i j t.val) + B (ix2 t q) := by
  rw [Fin.sum_univ_three, ← row0 t (colT X q) (taps9 W0 W1 W2 W3 W4 W5 W6 W7 W8 q 0) _ rfl,
    ← row2 t (colT X q) (taps9 W0 W1 W2 W3 W4 W5 W6 W7 W8 q 2) _ rfl, row1]
  have hX : ∀ t : Fin 2304, X (ix2 t q) = side (colT X q) 1 t.val := fun t => (side1 X t q).symm
  have h0 : ∀ t : Fin 2304, k0_pay29 X mL (ix2 t q) = side (colT X q) 0 t.val := fun t => side0 X t q mL left
  have h2 : ∀ t : Fin 2304, k0_pay30 X mR (ix2 t q) = side (colT X q) 2 t.val := fun t => side2 X t q mR right
  pointwise [k0_pay35, k0_pay34, k0_pay33, k0_pay32, k0_pay31, up, down, h0, h2, hX]
  have hc : ∀ b p q r : EReal, b + p + q + r = p + q + r + b := fun _ _ _ _ => by ac_rfl
  exact hc _ _ _ _

/-- The gated output that the step saved, at every position. -/
theorem dup_at (G : FVec Ideal S2304x256 .f32) (A : EReal)
    (hA : accT X B W0 W1 W2 W3 W4 W5 W6 W7 W8 (ix2 t q) = A) :
    k0_pay37 G mD (k0_pay30 X mR)
      (k0_pay32 X B mU (k0_pay29 X mL) (k0_pay30 X mR) (k0_pay31 X mL W0) W1 W2 W3 W4 W5)
      (k0_pay33 X (k0_pay29 X mL) W6 W7) (k0_pay34 W8) (ix3 0 t q) = G (ix2 t q) * (A * sg A) := by
  pointwise [k0_pay37, k0_pay36, hA]
  rfl

/-- The gradient that arrives at the convolution. -/
abbrev ddT (G : FVec Ideal S2304x256 .f32) (U : Vec Ideal S1x2304x256 .f32) : FVec Ideal S2304x256 .f32 :=
  k0_pay38 G mD (k0_pay30 X mR)
    (k0_pay32 X B mU (k0_pay29 X mL) (k0_pay30 X mR) (k0_pay31 X mL W0) W1 W2 W3 W4 W5)
    (k0_pay33 X (k0_pay29 X mL) W6 W7) (k0_pay34 W8) U

/-- The gradient that arrives at the convolution, at every position. -/
theorem dd_at (G : FVec Ideal S2304x256 .f32) (U : Vec Ideal S1x2304x256 .f32) (A : EReal)
    (hA : accT X B W0 W1 W2 W3 W4 W5 W6 W7 W8 (ix2 t q) = A) :
    ddT X B W0 W1 W2 W3 W4 W5 W6 W7 W8 G U (ix2 t q) = dsilu' A (G (ix2 t q) * U (ix3 0 t q)) := by
  pointwise [ddT, k0_pay38, k0_pay36, hA]
  rfl

variable (U' D' L' R' : FVec Ideal S2304x1 .f32)
  (hU : ∀ t : Fin 2304, U' (ix2 t 0) = if ConvSpec.V 0 t.val then (1 : EReal) else 0)
  (hD : ∀ t : Fin 2304, D' (ix2 t 0) = if ConvSpec.V 2 t.val then (1 : EReal) else 0)
  (hL : ∀ t : Fin 2304, L' (ix2 t 0) = if H 0 t.val then (1 : EReal) else 0)
  (hR : ∀ t : Fin 2304, R' (ix2 t 0) = if H 2 t.val then (1 : EReal) else 0)

include hU hD in
/-- The middle column of taps against the gradient. -/
theorem dxc1 : k0_pay65 D D' (k0_pay55 D U' W1) W4 W7 (ix2 t q)
    = dxc (taps9 W0 W1 W2 W3 W4 W5 W6 W7 W8 q) (colT D q) 1 t.val := by
  have h0 : ∀ t : Fin 2304, k0_pay53 D U' (ix2 t q) = adj (colT D q) 0 t.val := fun t => adj0 D t q U' hU
  have h2 : ∀ t : Fin 2304, k0_pay63 D D' (ix2 t q) = adj (colT D q) 2 t.val := fun t => adj2 D t q D' hD
  unfold dxc
  rw [Fin.sum_univ_three, adj1]
  pointwise [k0_pay65, k0_pay55, h0, h2]
  rfl

include hU hD in
/-- The right column of taps against the gradient. -/
theorem dxc2 : k0_pay67 D D' (k0_pay57 D U' W2) W5 W8 (ix2 t q)
    = dxc (taps9 W0 W1 W2 W3 W4 W5 W6 W7 W8 q) (colT D q) 2 t.val := by
  have h0 : ∀ t : Fin 2304, k0_pay53 D U' (ix2 t q) = adj (colT D q) 0 t.val := fun t => adj0 D t q U' hU
  have h2 : ∀ t : Fin 2304, k0_pay63 D D' (ix2 t q) = adj (colT D q) 2 t.val := fun t => adj2 D t q D' hD
  unfold dxc
  rw [Fin.sum_univ_three, adj1]
  pointwise [k0_pay67, k0_pay57, h0, h2]
  rfl

include hU hD hL in
/-- The left column of taps against the gradient, where there is a left neighbour. -/
theorem dxc0 : k0_pay69 D L' D' (k0_pay59 D U' W0 W3) W6 (ix2 t q)
    = dxc (taps9 W0 W1 W2 W3 W4 W5 W6 W7 W8 q) (colT D q) 0 t.val * if H 0 t.val then (1 : EReal) else 0 := by
  have h0 : ∀ t : Fin 2304, k0_pay53 D U' (ix2 t q) = adj (colT D q) 0 t.val := fun t => adj0 D t q U' hU
  have h2 : ∀ t : Fin 2304, k0_pay63 D D' (ix2 t q) = adj (colT D q) 2 t.val := fun t => adj2 D t q D' hD
  unfold dxc
  rw [Fin.sum_univ_three, adj1]
  pointwise [k0_pay69, k0_pay59, h0, h2, hL]
  rfl

/-- A masked value at one position is the value at another, where the two conditions agree. -/
theorem moved (P Q : Prop) [Decidable P] [Decidable Q] (f : ℕ → EReal) (a b : ℕ) (hPQ : P ↔ Q) (hab : Q → a = b) :
    (f a * if P then (1 : EReal) else 0) = if Q then f b else 0 := by
  by_cases hq : Q
  · rw [if_pos (hPQ.mpr hq), if_pos hq, mul_one, hab hq]
  · rw [if_neg (fun hp => hq (hPQ.mp hp)), if_neg hq, mul_zero]

/-- Three columns, the outer two moved by one position, make the gradient of the input. -/
theorem dx_moves (w : Fin 3 → Fin 3 → EReal) (d : ℕ → EReal) (t : ℕ) (ht : t < 2304) :
    dxc w d 1 t + (dxc w d 0 ((t + 2304 - 2303) % 2304) * if H 0 ((t + 2304 - 2303) % 2304) then (1 : EReal) else 0)
      + (dxc w d 2 ((t + 2304 - 1) % 2304) * if H 2 ((t + 2304 - 1) % 2304) then (1 : EReal) else 0) = dx w d t := by
  unfold dx
  rw [Fin.sum_univ_three]
  have e1 : (if H (1 : Fin 3).rev t then dxc w d 1 (t + (1 : Fin 3).rev.val - 1) else 0) = dxc w d 1 t := by
    rw [if_pos (by simp only [H]; simp; omega)]; simp
  have e0 := moved (H 0 ((t + 2304 - 2303) % 2304)) (H (0 : Fin 3).rev t) (dxc w d 0) ((t + 2304 - 2303) % 2304)
    (t + (0 : Fin 3).rev.val - 1) (by simp only [H, Fin.val_rev, Fin.val_zero]; omega)
    (by simp only [H, Fin.val_rev, Fin.val_zero]; omega)
  have e2 := moved (H 2 ((t + 2304 - 1) % 2304)) (H (2 : Fin 3).rev t) (dxc w d 2) ((t + 2304 - 1) % 2304)
    (t + (2 : Fin 3).rev.val - 1) (by simp only [H, Fin.val_rev, Fin.val_two]; omega)
    (by simp only [H, Fin.val_rev, Fin.val_two]; omega)
  rw [e0, e1, e2, add_comm (dxc w d 1 t)]

include hU hD hL hR in
/-- The gradient of the input, at every position. -/
theorem dx_at : k0_pay1 R' (k0_pay65 D D' (k0_pay55 D U' W1) W4 W7) (k0_pay67 D D' (k0_pay57 D U' W2) W5 W8)
      (k0_pay69 D L' D' (k0_pay59 D U' W0 W3) W6) 2303#32 (ix3 0 t q)
    = dx (taps9 W0 W1 W2 W3 W4 W5 W6 W7 W8 q) (colT D q) t.val := by
  rw [← dx_moves _ _ _ t.isLt]
  have h0 := fun t => dxc0 D W0 W1 W2 W3 W4 W5 W6 W7 W8 t q U' D' L' hU hD hL
  have h1 := fun t => dxc1 D W0 W1 W2 W3 W4 W5 W6 W7 W8 t q U' D' hU hD
  have h2 := fun t => dxc2 D W0 W1 W2 W3 W4 W5 W6 W7 W8 t q U' D' hU hD
  pointwise [k0_pay1, h0, h1, h2, hR]

/-- The kernel's sum over positions, tap by tap. -/
theorem dw_sum (x d : ℕ → EReal) (i j : Fin 3) : ∑ t : Fin 2304, adj d i t.val * side x j t.val = dw x d i j := by
  rw [dw_adj, Finset.sum_range]

include hU in
/-- Tap 0, 0 against the gradient. -/
theorem dw_pay54 (Y : FVec Ideal S2304x256 .f32) (x : ℕ → EReal)
    (hY : ∀ t : Fin 2304, Y (ix2 t q) = side x 0 t.val) :
    k0_pay54 D U' Y (ix2 0 q) = dw x (colT D q) 0 0 := by
  have h0 : ∀ t : Fin 2304, k0_pay53 D U' (ix2 t q) = adj (colT D q) 0 t.val := fun t => adj0 D t q U' hU
  rw [← dw_sum]
  pointwise [k0_pay54, h0, hY]

include hU in
/-- Tap 0, 1 against the gradient. -/
theorem dw_pay56 (Y : FVec Ideal S2304x256 .f32) (x : ℕ → EReal)
    (hY : ∀ t : Fin 2304, Y (ix2 t q) = side x 1 t.val) :
    k0_pay56 Y D U' (ix2 0 q) = dw x (colT D q) 0 1 := by
  have h0 : ∀ t : Fin 2304, k0_pay53 D U' (ix2 t q) = adj (colT D q) 0 t.val := fun t => adj0 D t q U' hU
  rw [← dw_sum]
  pointwise [k0_pay56, h0, hY]

include hU hR in
/-- Tap 0, 2 against the gradient. -/
theorem dw_pay58 : k0_pay58 X D R' U' (ix2 0 q) = dw (colT X q) (colT D q) 0 2 := by
  have h0 : ∀ t : Fin 2304, k0_pay53 D U' (ix2 t q) = adj (colT D q) 0 t.val := fun t => adj0 D t q U' hU
  have hY : ∀ t : Fin 2304, k0_pay52 X R' (ix2 t q) = side (colT X q) 2 t.val := fun t => side2' X t q R' hR
  rw [← dw_sum]
  pointwise [k0_pay58, h0, hY]

/-- Tap 1, 0 against the gradient. -/
theorem dw_pay60 (Y : FVec Ideal S2304x256 .f32) (x : ℕ → EReal)
    (hY : ∀ t : Fin 2304, Y (ix2 t q) = side x 0 t.val) :
    k0_pay60 D Y (ix2 0 q) = dw x (colT D q) 1 0 := by
  have h0 : ∀ t : Fin 2304, D (ix2 t q) = adj (colT D q) 1 t.val := fun t => (adj1 D t q).symm
  rw [← dw_sum]
  pointwise [k0_pay60, h0, hY]

/-- Tap 1, 1 against the gradient. -/
theorem dw_pay61 (Y : FVec Ideal S2304x256 .f32) (x : ℕ → EReal)
    (hY : ∀ t : Fin 2304, Y (ix2 t q) = side x 1 t.val) :
    k0_pay61 Y D (ix2 0 q) = dw x (colT D q) 1 1 := by
  have h0 : ∀ t : Fin 2304, D (ix2 t q) = adj (colT D q) 1 t.val := fun t => (adj1 D t q).symm
  rw [← dw_sum]
  pointwise [k0_pay61, h0, hY]

/-- Tap 1, 2 against the gradient. -/
theorem dw_pay62 (Y : FVec Ideal S2304x256 .f32) (x : ℕ → EReal)
    (hY : ∀ t : Fin 2304, Y (ix2 t q) = side x 2 t.val) :
    k0_pay62 D Y (ix2 0 q) = dw x (colT D q) 1 2 := by
  have h0 : ∀ t : Fin 2304, D (ix2 t q) = adj (colT D q) 1 t.val := fun t => (adj1 D t q).symm
  rw [← dw_sum]
  pointwise [k0_pay62, h0, hY]

include hD in
/-- Tap 2, 0 against the gradient. -/
theorem dw_pay64 (Y : FVec Ideal S2304x256 .f32) (x : ℕ → EReal)
    (hY : ∀ t : Fin 2304, Y (ix2 t q) = side x 0 t.val) :
    k0_pay64 D D' Y (ix2 0 q) = dw x (colT D q) 2 0 := by
  have h0 : ∀ t : Fin 2304, k0_pay63 D D' (ix2 t q) = adj (colT D q) 2 t.val := fun t => adj2 D t q D' hD
  rw [← dw_sum]
  pointwise [k0_pay64, h0, hY]

include hD in
/-- Tap 2, 1 against the gradient. -/
theorem dw_pay66 (Y : FVec Ideal S2304x256 .f32) (x : ℕ → EReal)
    (hY : ∀ t : Fin 2304, Y (ix2 t q) = side x 1 t.val) :
    k0_pay66 Y D D' (ix2 0 q) = dw x (colT D q) 2 1 := by
  have h0 : ∀ t : Fin 2304, k0_pay63 D D' (ix2 t q) = adj (colT D q) 2 t.val := fun t => adj2 D t q D' hD
  rw [← dw_sum]
  pointwise [k0_pay66, h0, hY]

include hD in
/-- Tap 2, 2 against the gradient. -/
theorem dw_pay68 (Y : FVec Ideal S2304x256 .f32) (x : ℕ → EReal)
    (hY : ∀ t : Fin 2304, Y (ix2 t q) = side x 2 t.val) :
    k0_pay68 D D' Y (ix2 0 q) = dw x (colT D q) 2 2 := by
  have h0 : ∀ t : Fin 2304, k0_pay63 D D' (ix2 t q) = adj (colT D q) 2 t.val := fun t => adj2 D t q D' hD
  rw [← dw_sum]
  pointwise [k0_pay68, h0, hY]

/-- The kernel's sum of the gradient over positions. -/
theorem db_at : k0_pay2 D (ix2 0 q) = ∑ t ∈ Finset.range 2304, colT D q t := by
  rw [Finset.sum_range]
  have h0 : ∀ t : Fin 2304, D (ix2 t q) = colT D q t.val := fun t => colT_at D q t
  pointwise [k0_pay2, h0]

end Cert.KernConv
-- ==== Proof.KernOut.lean ====
module

public import proofs.«01_k».proof.Proof.KernConv
public import Idealize.ShloMosaic.Lib.Pipeline.ValueKit

@[expose] public section

set_option maxRecDepth 16384

noncomputable section

/-!
# What one grid point leaves in each output block

One grid point reads a sample's block of 256 channels and leaves the gradient of the input, the gradients of the taps
and of the bias (added to what the previous samples left), and the gated output. Each is stated on a channel's column.
-/

namespace Cert.KernOut

open Cert.KernelIdeal Cert.KernelIdeal.Gen Idealize.ShloMosaic Idealize.ShloMosaic.TcCoe Idealize.SL.Sem Cert.ConvSpec
  Cert.KernMask Cert.KernConv

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S9x256 .f32) (q : Fin 256) (i j : Fin 3) : EReal := x1 (ix2 ⟨3 * i.val + j.val, by omega⟩ q)

/-- The convolution at a position. -/
def bacc (x0 : Vec Ideal S1x2304x256 .f32) (x1 : Vec Ideal S9x256 .f32) (x2 : Vec Ideal S1x256 .f32) (q : Fin 256)
    (t : ℕ) : EReal := acc (btap x1 q) (x2 (ix2 0 q)) (bcol x0 q) t

/-- The gradient that arrives at the convolution. -/
def bct (x0 : Vec Ideal S1x2304x256 .f32) (x1 : Vec Ideal S9x256 .f32) (x2 : Vec Ideal S1x256 .f32)
    (x3 x4 : Vec Ideal S1x2304x256 .f32) (q : Fin 256) (t : ℕ) : EReal :=
  dsilu' (bacc x0 x1 x2 q t) (bcol x3 q t * bcol x4 q t)

variable (x0 : Vec Ideal S1x2304x256 .f32) (x1 : Vec Ideal S9x256 .f32) (x2 : Vec Ideal S1x256 .f32)
  (x3 x4 : Vec Ideal S1x2304x256 .f32) (W0 W1 W2 W3 W4 W5 W6 W7 W8 : Vec Ideal S1x256 .f32)
  (q : Fin 256)

/-- The body's working copy of a block. -/
theorem col_eq : colT (k0_pay13 x0) q = bcol x0 q := by
  funext t
  unfold colT bcol
  split_ifs
  · pointwise [k0_pay13]
  · rfl

/-- The body's nine loads of taps are the rows of the block. -/
abbrev Rows : Prop := W0 (ix2 0 q) = x1 (ix2 0 q) ∧ W1 (ix2 0 q) = x1 (ix2 1 q) ∧ W2 (ix2 0 q) = x1 (ix2 2 q)
  ∧ W3 (ix2 0 q) = x1 (ix2 3 q) ∧ W4 (ix2 0 q) = x1 (ix2 4 q) ∧ W5 (ix2 0 q) = x1 (ix2 5 q)
  ∧ W6 (ix2 0 q) = x1 (ix2 6 q) ∧ W7 (ix2 0 q) = x1 (ix2 7 q) ∧ W8 (ix2 0 q) = x1 (ix2 8 q)

variable (hW : Rows x1 W0 W1 W2 W3 W4 W5 W6 W7 W8 q)

include hW in
/-- The nine loads of taps, as one family. -/
theorem taps_eq : taps9 W0 W1 W2 W3 W4 W5 W6 W7 W8 q = btap x1 q := by
  obtain ⟨h0, h1, h2, h3, h4, h5, h6, h7, h8⟩ := hW
  funext i j
  fin_cases i <;> fin_cases j
  · exact h0
  · exact h1
  · exact h2
  · exact h3
  · exact h4
  · exact h5
  · exact h6
  · exact h7
  · exact h8

include hW in
/-- The convolution of the block. -/
theorem acc_eq (t : Fin 2304) : accT (k0_pay13 x0) (k0_pay15 x2) W0 W1 W2 W3 W4 W5 W6 W7 W8 (ix2 t q)
    = bacc x0 x1 x2 q t.val := by
  rw [acc_at, taps_eq x1 W0 W1 W2 W3 W4 W5 W6 W7 W8 q hW, col_eq]
  have hB : k0_pay15 x2 (ix2 t q) = x2 (ix2 0 q) := by pointwise [k0_pay15]
  rw [hB]
  rfl

include hW in
/-- The gradient that arrives at the convolution of the block. -/
theorem dd_eq : colT (ddT (k0_pay13 x0) (k0_pay15 x2) W0 W1 W2 W3 W4 W5 W6 W7 W8 (k0_pay14 x3) x4) q
    = bct x0 x1 x2 x3 x4 q := by
  funext t
  unfold colT bct
  split_ifs with h
  · have e := dd_at (k0_pay13 x0) (k0_pay15 x2) W0 W1 W2 W3 W4 W5 W6 W7 W8 ⟨t, h⟩ q (k0_pay14 x3) x4 _
      (acc_eq x0 x1 x2 W0 W1 W2 W3 W4 W5 W6 W7 W8 q hW ⟨t, h⟩)
    rw [e]
    have hG : k0_pay14 x3 (ix2 ⟨t, h⟩ q) = x3 (ix3 0 ⟨t, h⟩ q) := by pointwise [k0_pay14]
    rw [hG]
    unfold bcol
    rw [dif_pos h, dif_pos h]
  · unfold bcol
    rw [dif_neg h]
    simp [dsilu']

/-- An index of a one-row block. -/
theorem row_idx (x : S1x256.Idx) : ∃ q : Fin 256, x = ix2 0 q := by
  refine ⟨x 1, ?_⟩
  rw [eq_ix2 x]
  have h : x 0 = (0 : Fin 1) := Fin.ext (by have := (x 0).isLt; simp at this; simpa using this)
  rw [h]
  rfl

/-- The masks of the backward half. -/
theorem hL' (t : Fin 2304) : k0_pay42 I (k0_pay39 (F := Ideal)) k0_pay40 k0_pay41 one zero (ix2 t 0) = if H 0 t.val then (1 : EReal) else 0 := by
  rw [left']; exact left t
theorem hR' (t : Fin 2304) : k0_pay48 (k0_pay43 I (k0_pay39 (F := Ideal))) (k0_pay44 k0_pay39) (k0_pay46 I) (k0_pay47 I) (ix2 t 0)
    = if H 2 t.val then (1 : EReal) else 0 := by
  rw [right']; exact right t
theorem hU' (t : Fin 2304) : k0_pay49 I (k0_pay39 (F := Ideal)) (ix2 t 0) = if ConvSpec.V 0 t.val then (1 : EReal) else 0 := by
  rw [up']; exact up t
theorem hD' (t : Fin 2304) : k0_pay50 I (k0_pay39 (F := Ideal)) (ix2 t 0) = if ConvSpec.V 2 t.val then (1 : EReal) else 0 := by
  rw [down']; exact down t

/-- Tap gradients at an index of the block of nine rows. -/
def bdw (y : S9x256.Idx) : EReal := dw (bcol x0 (y 1)) (bct x0 x1 x2 x3 x4 (y 1))
  ⟨(y 0).val / 3, by have := (y 0).isLt; simp at this; omega⟩ ⟨(y 0).val % 3, by omega⟩

/-- Tap gradients at row `3 i + j`. -/
theorem bdw_row (y : S9x256.Idx) (i j : Fin 3) (h0 : (y 0).val = 3 * i.val + j.val) (h1 : (y 1).val = q.val) :
    bdw x0 x1 x2 x3 x4 y = dw (bcol x0 q) (bct x0 x1 x2 x3 x4 q) i j := by
  have e1 : y 1 = q := Fin.ext h1
  have hi : (⟨(y 0).val / 3, by have := (y 0).isLt; simp at this; omega⟩ : Fin 3) = i := Fin.ext (by simp only; omega)
  have hj : (⟨(y 0).val % 3, by omega⟩ : Fin 3) = j := Fin.ext (by simp only; omega)
  unfold bdw
  rw [hi, hj, e1]

/-! Adding a sample's share to what the block held. -/
theorem add_pay3 (v : FVec Ideal S1x256 .f32) (w : Vec Ideal S1x256 .f32) : k0_pay3 v w (ix2 0 q) = (w (ix2 0 q) + v (ix2 0 q) : EReal) := by
  pointwise [k0_pay3]
theorem add_pay4 (v : FVec Ideal S1x256 .f32) (w : Vec Ideal S1x256 .f32) : k0_pay4 v w (ix2 0 q) = (w (ix2 0 q) + v (ix2 0 q) : EReal) := by
  pointwise [k0_pay4]
theorem add_pay6 (v : FVec Ideal S1x256 .f32) (w : Vec Ideal S1x256 .f32) : k0_pay6 v w (ix2 0 q) = (w (ix2 0 q) + v (ix2 0 q) : EReal) := by
  pointwise [k0_pay6]
theorem add_pay7 (v : FVec Ideal S1x256 .f32) (w : Vec Ideal S1x256 .f32) : k0_pay7 v w (ix2 0 q) = (w (ix2 0 q) + v (ix2 0 q) : EReal) := by
  pointwise [k0_pay7]
theorem add_pay8 (v : FVec Ideal S1x256 .f32) (w : Vec Ideal S1x256 .f32) : k0_pay8 v w (ix2 0 q) = (w (ix2 0 q) + v (ix2 0 q) : EReal) := by
  pointwise [k0_pay8]
theorem add_pay9 (v : FVec Ideal S1x256 .f32) (w : Vec Ideal S1x256 .f32) : k0_pay9 v w (ix2 0 q) = (w (ix2 0 q) + v (ix2 0 q) : EReal) := by
  pointwise [k0_pay9]
theorem add_pay10 (v : FVec Ideal S1x256 .f32) (w : Vec Ideal S1x256 .f32) : k0_pay10 v w (ix2 0 q) = (w (ix2 0 q) + v (ix2 0 q) : EReal) := by
  pointwise [k0_pay10]
theorem add_pay11 (v : FVec Ideal S1x256 .f32) (w : Vec Ideal S1x256 .f32) : k0_pay11 v w (ix2 0 q) = (w (ix2 0 q) + v (ix2 0 q) : EReal) := by
  pointwise [k0_pay11]
theorem add_pay12 (v : FVec Ideal S1x256 .f32) (w : Vec Ideal S1x256 .f32) : k0_pay12 v w (ix2 0 q) = (w (ix2 0 q) + v (ix2 0 q) : EReal) := by
  pointwise [k0_pay12]
theorem add_pay5 (D : FVec Ideal S2304x256 .f32) (w : Vec Ideal S1x256 .f32) :
    k0_pay5 D w (ix2 0 q) = (w (ix2 0 q) + k0_pay2 D (ix2 0 q) : EReal) := by
  pointwise [k0_pay5]

/-- Two indices of the block of nine rows with the same coordinates. -/
theorem ix_eq (r : Rect S9x256) (x : r.shape.Idx) (y : S9x256.Idx) (h0 : (r.idx x 0).val = (y 0).val)
    (h1 : (r.idx x 1).val = (y 1).val) : r.idx x = y := by
  rw [eq_ix2 y]
  funext a
  fin_cases a
  · exact Fin.ext h0
  · exact Fin.ext h1

section point

variable (c : Dev nD) (t : Fin cfg0.N) (o6 : Vec Ideal S9x256 .f32) (o7 : Vec Ideal S1x256 .f32)

/-- The tap gradients of the first sample of a run. -/
theorem outA6 (hc0 : cond0_0 (grid0.coords t)) (hc1 : ¬ cond0_1 (grid0.coords t)) (y : S9x256.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 y
    = bdw x0 x1 x2 x3 x4 y := by
  unfold out0_A_6
  rw [View.read_writes_eq_canon VO0_6 VO0_6.junk _ (cover0_A_6 c _ _ _ _ _ _ _ _ _ _ _ _ _ _ _ _ _ _ _ hc0 hc1 x0 x1 x2 x3 x4)]
  unfold kernelRun0_A; dsimp only; sl_unfold_words
  simp only [View.readAt_eq_ld, (hs0_0 t).read_unread, (hs0_1 t).read_unread, (hs0_2 t).read_unread, (hs0_3 t).read_unread, (hs0_4 t).read_unread]
  clear hc0 hc1
  rw [View.ld_unit_lit _ x0 (by decide), View.ld_unit_lit _ x2 (by decide), View.ld_unit_lit _ x3 (by decide), View.ld_unit_lit _ x4 (by decide)]
  canon_tiles x h
  case piece0 =>
    obtain ⟨q, rfl⟩ := row_idx x
    rw [bdw_row x0 x1 x2 x3 x4 q y 2 2 (by simp at h0 ⊢; omega) h1]
    rw [dw_pay68 _ q _ hD' _ (colT (k0_pay13 x0) q) (fun t => side2' _ t q _ hR'), col_eq, dd_eq x0 x1 x2 x3 x4 _ _ _ _ _ _ _ _ _ q ?_]
    all_goals (refine ⟨?_, ?_, ?_, ?_, ?_, ?_, ?_, ?_, ?_⟩ <;> pointwise)
  case piece1 =>
    obtain ⟨q, rfl⟩ := row_idx x
    rw [bdw_row x0 x1 x2 x3 x4 q y 2 1 (by simp at h0 ⊢; omega) h1]
    rw [dw_pay66 _ q _ hD' _ (colT (k0_pay13 x0) q) (fun t => (side1 _ t q).symm), col_eq, dd_eq x0 x1 x2 x3 x4 _ _ _ _ _ _ _ _ _ q ?_]
    all_goals (refine ⟨?_, ?_, ?_, ?_, ?_, ?_, ?_, ?_, ?_⟩ <;> pointwise)
  case piece2 =>
    obtain ⟨q, rfl⟩ := row_idx x
    rw [bdw_row x0 x1 x2 x3 x4 q y 2 0 (by simp at h0 ⊢; omega) h1]
    rw [dw_pay64 _ q _ hD' _ (colT (k0_pay13 x0) q) (fun t => side0' _ t q _ hL'), col_eq, dd_eq x0 x1 x2 x3 x4 _ _ _ _ _ _ _ _ _ q ?_]
    all_goals (refine ⟨?_, ?_, ?_, ?_, ?_, ?_, ?_, ?_, ?_⟩ <;> pointwise)
  case piece3 =>
    obtain ⟨q, rfl⟩ := row_idx x
    rw [bdw_row x0 x1 x2 x3 x4 q y 1 2 (by simp at h0 ⊢; omega) h1]
    rw [dw_pay62 _ q _ (colT (k0_pay13 x0) q) (fun t => side2' _ t q _ hR'), col_eq, dd_eq x0 x1 x2 x3 x4 _ _ _ _ _ _ _ _ _ q ?_]
    all_goals (refine ⟨?_, ?_, ?_, ?_, ?_, ?_, ?_, ?_, ?_⟩ <;> pointwise)
  case piece4 =>
    obtain ⟨q, rfl⟩ := row_idx x
    rw [bdw_row x0 x1 x2 x3 x4 q y 1 1 (by simp at h0 ⊢; omega) h1]
    rw [dw_pay61 _ q _ (colT (k0_pay13 x0) q) (fun t => (side1 _ t q).symm), col_eq, dd_eq x0 x1 x2 x3 x4 _ _ _ _ _ _ _ _ _ q ?_]
    all_goals (refine ⟨?_, ?_, ?_, ?_, ?_, ?_, ?_, ?_, ?_⟩ <;> pointwise)
  case piece5 =>
    obtain ⟨q, rfl⟩ := row_idx x
    rw [bdw_row x0 x1 x2 x3 x4 q y 1 0 (by simp at h0 ⊢; omega) h1]
    rw [dw_pay60 _ q _ (colT (k0_pay13 x0) q) (fun t => side0' _ t q _ hL'), col_eq, dd_eq x0 x1 x2 x3 x4 _ _ _ _ _ _ _ _ _ q ?_]
    all_goals (refine ⟨?_, ?_, ?_, ?_, ?_, ?_, ?_, ?_, ?_⟩ <;> pointwise)
  case piece6 =>
    obtain ⟨q, rfl⟩ := row_idx x
    rw [bdw_row x0 x1 x2 x3 x4 q y 0 2 (by simp at h0 ⊢; omega) h1]
    rw [dw_pay58 _ _ q _ _ hU' hR', col_eq, dd_eq x0 x1 x2 x3 x4 _ _ _ _ _ _ _ _ _ q ?_]
    all_goals (refine ⟨?_, ?_, ?_, ?_, ?_, ?_, ?_, ?_, ?_⟩ <;> pointwise)
  case piece7 =>
    obtain ⟨q, rfl⟩ := row_idx x
    rw [bdw_row x0 x1 x2 x3 x4 q y 0 1 (by simp at h0 ⊢; omega) h1]
    rw [dw_pay56 _ q _ hU' _ (colT (k0_pay13 x0) q) (fun t => (side1 _ t q).symm), col_eq, dd_eq x0 x1 x2 x3 x4 _ _ _ _ _ _ _ _ _ q ?_]
    all_goals (refine ⟨?_, ?_, ?_, ?_, ?_, ?_, ?_, ?_, ?_⟩ <;> pointwise)
  case piece8 =>
    obtain ⟨q, rfl⟩ := row_idx x
    rw [bdw_row x0 x1 x2 x3 x4 q y 0 0 (by simp at h0 ⊢; omega) h1]
    rw [dw_pay54 _ q _ hU' _ (colT (k0_pay13 x0) q) (fun t => side0' _ t q _ hL'), col_eq, dd_eq x0 x1 x2 x3 x4 _ _ _ _ _ _ _ _ _ q ?_]
    all_goals (refine ⟨?_, ?_, ?_, ?_, ?_, ?_, ?_, ?_, ?_⟩ <;> pointwise)

/-- The gradient of the input, of the first sample of a run. -/
theorem outA5 (hc0 : cond0_0 (grid0.coords t)) (hc1 : ¬ cond0_1 (grid0.coords t)) (s : Fin 2304) (q : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 (ix3 0 s q)
    = dx (btap x1 q) (bct x0 x1 x2 x3 x4 q) s.val := by
  unfold out0_A_5
  rw [View.read_writes_eq_canon VO0_5 VO0_5.junk _ (cover0_A_5 c _ _ _ _ _ _ _ _ _ _ _ _ _ _ _ _ _ _ _ hc0 hc1 x0 x1 x2 x3 x4)]
  unfold kernelRun0_A; dsimp only; sl_unfold_words
  simp only [View.readAt_eq_ld, (hs0_0 t).read_unread, (hs0_1 t).read_unread, (hs0_2 t).read_unread, (hs0_3 t).read_unread, (hs0_4 t).read_unread]
  clear hc0 hc1
  rw [View.ld_unit_lit _ x0 (by decide), View.ld_unit_lit _ x2 (by decide), View.ld_unit_lit _ x3 (by decide), View.ld_unit_lit _ x4 (by decide)]
  rw [View.canon_cons_unit_lit _ _ _ (by decide), dx_at _ _ _ _ _ _ _ _ _ _ s q _ _ _ _ hU' hD' hL' hR',
    taps_eq x1 _ _ _ _ _ _ _ _ _ q ?_, dd_eq x0 x1 x2 x3 x4 _ _ _ _ _ _ _ _ _ q ?_]
  all_goals (refine ⟨?_, ?_, ?_, ?_, ?_, ?_, ?_, ?_, ?_⟩ <;> pointwise)

/-- The gradient of the bias, of the first sample of a run. -/
theorem outA7 (hc0 : cond0_0 (grid0.coords t)) (hc1 : ¬ cond0_1 (grid0.coords t)) (q : Fin 256) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 (ix2 0 q)
    = (∑ t ∈ Finset.range 2304, bct x0 x1 x2 x3 x4 q t : EReal) := by
  unfold out0_A_7
  rw [View.read_writes_eq_canon VO0_7 VO0_7.junk _ (cover0_A_7 c _ _ _ _ _ _ _ _ _ _ _ _ _ _ _ _ _ _ _ hc0 hc1 x0 x1 x2 x3 x4)]
  unfold kernelRun0_A; dsimp only; sl_unfold_words
  simp only [View.readAt_eq_ld, (hs0_0 t).read_unread, (hs0_1 t).read_unread, (hs0_2 t).read_unread, (hs0_3 t).read_unread, (hs0_4 t).read_unread]
  clear hc0 hc1
  rw [View.ld_unit_lit _ x0 (by decide), View.ld_unit_lit _ x2 (by decide), View.ld_unit_lit _ x3 (by decide), View.ld_unit_lit _ x4 (by decide)]
  rw [View.canon_cons_unit_lit _ _ _ (by decide), db_at, dd_eq x0 x1 x2 x3 x4 _ _ _ _ _ _ _ _ _ q ?_]
  all_goals (refine ⟨?_, ?_, ?_, ?_, ?_, ?_, ?_, ?_, ?_⟩ <;> pointwise)

/-- The gated output, of the first sample of a run. -/
theorem outA8 (hc0 : cond0_0 (grid0.coords t)) (hc1 : ¬ cond0_1 (grid0.coords t)) (s : Fin 2304) (q : Fin 256) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 (ix3 0 s q)
    = x3 (ix3 0 s q) * (bacc x0 x1 x2 q s.val * sg (bacc x0 x1 x2 q s.val)) := by
  unfold out0_A_8
  rw [View.read_writes_eq_canon VO0_8 VO0_8.junk _ (cover0_A_8 c _ _ _ _ _ _ _ _ _ _ _ _ _ _ _ _ _ _ _ hc0 hc1 x0 x1 x2 x3 x4)]
  unfold kernelRun0_A; dsimp only; sl_unfold_words
  simp only [View.readAt_eq_ld, (hs0_0 t).read_unread, (hs0_1 t).read_unread, (hs0_2 t).read_unread, (hs0_3 t).read_unread, (hs0_4 t).read_unread]
  clear hc0 hc1
  rw [View.ld_unit_lit _ x0 (by decide), View.ld_unit_lit _ x2 (by decide), View.ld_unit_lit _ x3 (by decide)]
  rw [View.canon_cons_unit_lit _ _ _ (by decide), dup_at _ _ _ _ _ _ _ _ _ _ _ s q _ _ (acc_eq x0 x1 x2 _ _ _ _ _ _ _ _ _ q ?_ s)]
  · have hG : k0_pay14 x3 (ix2 s q) = x3 (ix3 0 s q) := by pointwise [k0_pay14]
    rw [hG]
  all_goals (refine ⟨?_, ?_, ?_, ?_, ?_, ?_, ?_, ?_, ?_⟩ <;> pointwise)

/-- The gradient of the input, of a later sample of a run. -/
theorem outB5 (hc0 : ¬ cond0_0 (grid0.coords t)) (hc1 : cond0_1 (grid0.coords t)) (s : Fin 2304) (q : Fin 256) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 o6 o7 (ix3 0 s q)
    = dx (btap x1 q) (bct x0 x1 x2 x3 x4 q) s.val := by
  unfold out0_B_5
  rw [View.read_writes_eq_canon VO0_5 VO0_5.junk _ (cover0_B_5 c _ _ _ _ _ _ _ _ _ _ _ _ _ _ _ _ _ _ _ hc0 hc1 x0 x1 x2 x3 x4 o6 o7)]
  unfold kernelRun0_B; dsimp only; sl_unfold_words
  simp only [View.readAt_eq_ld, (hs0_0 t).read_unread, (hs0_1 t).read_unread, (hs0_2 t).read_unread, (hs0_3 t).read_unread, (hs0_4 t).read_unread, (hs0_6 t).read_unread, (hs0_7 t).read_unread]
  clear hc0 hc1
  rw [View.ld_unit_lit _ x0 (by decide), View.ld_unit_lit _ x2 (by decide), View.ld_unit_lit _ x3 (by decide), View.ld_unit_lit _ x4 (by decide)]
  rw [View.canon_cons_unit_lit _ _ _ (by decide), dx_at _ _ _ _ _ _ _ _ _ _ s q _ _ _ _ hU' hD' hL' hR',
    taps_eq x1 _ _ _ _ _ _ _ _ _ q ?_, dd_eq x0 x1 x2 x3 x4 _ _ _ _ _ _ _ _ _ q ?_]
  all_goals (refine ⟨?_, ?_, ?_, ?_, ?_, ?_, ?_, ?_, ?_⟩ <;> pointwise)

/-- The tap gradients, of a later sample of a run: added to what the block held. -/
theorem outB6 (hc0 : ¬ cond0_0 (grid0.coords t)) (hc1 : cond0_1 (grid0.coords t)) (y : S9x256.Idx) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 o6 o7 y
    = (o6 y + bdw x0 x1 x2 x3 x4 y : EReal) := by
  unfold out0_B_6
  rw [View.read_writes_eq_canon VO0_6 VO0_6.junk _ (cover0_B_6 c _ _ _ _ _ _ _ _ _ _ _ _ _ _ _ _ _ _ _ hc0 hc1 x0 x1 x2 x3 x4 o6 o7)]
  unfold kernelRun0_B; dsimp only; sl_unfold_words
  simp only [View.readAt_eq_ld, (hs0_0 t).read_unread, (hs0_1 t).read_unread, (hs0_2 t).read_unread, (hs0_3 t).read_unread, (hs0_4 t).read_unread, (hs0_6 t).read_unread, (hs0_7 t).read_unread]
  clear hc0 hc1
  rw [View.ld_unit_lit _ x0 (by decide), View.ld_unit_lit _ x2 (by decide), View.ld_unit_lit _ x3 (by decide), View.ld_unit_lit _ x4 (by decide)]
  canon_tiles x h
  case piece0 =>
    obtain ⟨q, rfl⟩ := row_idx x
    rw [bdw_row x0 x1 x2 x3 x4 q y 2 2 (by simp at h0 ⊢; omega) h1]
    rw [add_pay4, dw_pay68 _ q _ hD' _ (colT (k0_pay13 x0) q) (fun t => side2' _ t q _ hR'), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece1 =>
    obtain ⟨q, rfl⟩ := row_idx x
    rw [bdw_row x0 x1 x2 x3 x4 q y 2 1 (by simp at h0 ⊢; omega) h1]
    rw [add_pay3, dw_pay66 _ q _ hD' _ (colT (k0_pay13 x0) q) (fun t => (side1 _ t q).symm), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece2 =>
    obtain ⟨q, rfl⟩ := row_idx x
    rw [bdw_row x0 x1 x2 x3 x4 q y 2 0 (by simp at h0 ⊢; omega) h1]
    rw [add_pay12, dw_pay64 _ q _ hD' _ (colT (k0_pay13 x0) q) (fun t => side0' _ t q _ hL'), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece3 =>
    obtain ⟨q, rfl⟩ := row_idx x
    rw [bdw_row x0 x1 x2 x3 x4 q y 1 2 (by simp at h0 ⊢; omega) h1]
    rw [add_pay11, dw_pay62 _ q _ (colT (k0_pay13 x0) q) (fun t => side2' _ t q _ hR'), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece4 =>
    obtain ⟨q, rfl⟩ := row_idx x
    rw [bdw_row x0 x1 x2 x3 x4 q y 1 1 (by simp at h0 ⊢; omega) h1]
    rw [add_pay10, dw_pay61 _ q _ (colT (k0_pay13 x0) q) (fun t => (side1 _ t q).symm), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece5 =>
    obtain ⟨q, rfl⟩ := row_idx x
    rw [bdw_row x0 x1 x2 x3 x4 q y 1 0 (by simp at h0 ⊢; omega) h1]
    rw [add_pay9, dw_pay60 _ q _ (colT (k0_pay13 x0) q) (fun t => side0' _ t q _ hL'), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece6 =>
    obtain ⟨q, rfl⟩ := row_idx x
    rw [bdw_row x0 x1 x2 x3 x4 q y 0 2 (by simp at h0 ⊢; omega) h1]
    rw [add_pay8, dw_pay58 _ _ q _ _ hU' hR', col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece7 =>
    obtain ⟨q, rfl⟩ := row_idx x
    rw [bdw_row x0 x1 x2 x3 x4 q y 0 1 (by simp at h0 ⊢; omega) h1]
    rw [add_pay7, dw_pay56 _ q _ hU' _ (colT (k0_pay13 x0) q) (fun t => (side1 _ t q).symm), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)
  case piece8 =>
    obtain ⟨q, rfl⟩ := row_idx x
    rw [bdw_row x0 x1 x2 x3 x4 q y 0 0 (by simp at h0 ⊢; omega) h1]
    rw [add_pay6, dw_pay54 _ q _ hU' _ (colT (k0_pay13 x0) q) (fun t => side0' _ t q _ hL'), col_eq, dd_eq x0 x1 x2 x3 x4 _ _ _ _ _ _ _ _ _ q ?_]
    · refine congrArg₂ (· + ·) ?_ rfl
      rw [View.ld_apply]; apply congrArg; exact ix_eq _ _ y h0.symm ((Nat.zero_add _).trans ((Nat.one_mul _).trans h1.symm))
    all_goals (refine ⟨?_, ?_, ?_, ?_, ?_, ?_, ?_, ?_, ?_⟩ <;> pointwise)

/-- The gradient of the bias, of a later sample of a run. -/
theorem outB7 (hc0 : ¬ cond0_0 (grid0.coords t)) (hc1 : cond0_1 (grid0.coords t)) (q : Fin 256) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 o6 o7 (ix2 0 q)
    = (o7 (ix2 0 q) + ∑ t ∈ Finset.range 2304, bct x0 x1 x2 x3 x4 q t : EReal) := by
  unfold out0_B_7
  rw [View.read_writes_eq_canon VO0_7 VO0_7.junk _ (cover0_B_7 c _ _ _ _ _ _ _ _ _ _ _ _ _ _ _ _ _ _ _ hc0 hc1 x0 x1 x2 x3 x4 o6 o7)]
  unfold kernelRun0_B; dsimp only; sl_unfold_words
  simp only [View.readAt_eq_ld, (hs0_0 t).read_unread, (hs0_1 t).read_unread, (hs0_2 t).read_unread, (hs0_3 t).read_unread, (hs0_4 t).read_unread, (hs0_6 t).read_unread, (hs0_7 t).read_unread]
  clear hc0 hc1
  rw [View.ld_unit_lit _ x0 (by decide), View.ld_unit_lit _ x2 (by decide), View.ld_unit_lit _ x3 (by decide), View.ld_unit_lit _ x4 (by decide), View.ld_unit_lit _ o7 (by decide)]
  rw [View.canon_cons_unit_lit _ _ _ (by decide), add_pay5, db_at, dd_eq x0 x1 x2 x3 x4 _ _ _ _ _ _ _ _ _ q ?_]
  all_goals (refine ⟨?_, ?_, ?_, ?_, ?_, ?_, ?_, ?_, ?_⟩ <;> pointwise)

/-- The gated output, of a later sample of a run. -/
theorem outB8 (hc0 : ¬ cond0_0 (grid0.coords t)) (hc1 : cond0_1 (grid0.coords t)) (s : Fin 2304) (q : Fin 256) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc0 hc1 x0 x1 x2 x3 x4 o6 o7 (ix3 0 s q)
    = x3 (ix3 0 s q) * (bacc x0 x1 x2 q s.val * sg (bacc x0 x1 x2 q s.val)) := by
  unfold out0_B_8
  rw [View.read_writes_eq_canon VO0_8 VO0_8.junk _ (cover0_B_8 c _ _ _ _ _ _ _ _ _ _ _ _ _ _ _ _ _ _ _ hc0 hc1 x0 x1 x2 x3 x4 o6 o7)]
  unfold kernelRun0_B; dsimp only; sl_unfold_words
  simp only [View.readAt_eq_ld, (hs0_0 t).read_unread, (hs0_1 t).read_unread, (hs0_2 t).read_unread, (hs0_3 t).read_unread, (hs0_4 t).read_unread, (hs0_6 t).read_unread, (hs0_7 t).read_unread]
  clear hc0 hc1
  rw [View.ld_unit_lit _ x0 (by decide), View.ld_unit_lit _ x2 (by decide), View.ld_unit_lit _ x3 (by decide)]
  rw [View.canon_cons_unit_lit _ _ _ (by decide), dup_at _ _ _ _ _ _ _ _ _ _ _ s q _ _ (acc_eq x0 x1 x2 _ _ _ _ _ _ _ _ _ q ?_ s)]
  · have hG : k0_pay14 x3 (ix2 s q) = x3 (ix3 0 s q) := by pointwise [k0_pay14]
    rw [hG]
  all_goals (refine ⟨?_, ?_, ?_, ?_, ?_, ?_, ?_, ?_, ?_⟩ <;> pointwise)

end point

end Cert.KernOut
-- ==== Proof.HostSums.lean ====
module

public import Idealize.ShloMosaic.Lib.Pointwise

@[expose] public section

set_option maxRecDepth 16384

noncomputable section

/-!
# A host sum over several axes, read at an index

At the ideal values a host sum is the initial value plus the sum of the operand over all indices that drop to the
result index. Here those indices are listed by any type that enumerates the dropped coordinates.
-/

namespace Cert.HostSums

open Idealize.ShloMosaic Idealize.ShloMosaic.TcCoe

/-- If `f` lists, without repetition, the indices that drop to `j`, the host's sum at `j` is the initial value plus
    the sum of the operand along `f`. -/
theorem fiber {A : Type} [Fintype A] {s t : Shape} {axes : List (Fin s.rank)} (h : s.ReducesTo axes t)
    (x : s.Idx → EReal) (init : EReal) (j : t.Idx) (f : A → s.Idx) (g : s.Idx → A) (hf : ∀ a, h.drop (f a) = j)
    (hg : ∀ a, g (f a) = a) (hs : ∀ i, h.drop i = j → f (g i) = i) :
    Ideal.hostReduceAdd h x init j = init + ∑ a, x (f a) := by
  unfold Ideal.hostReduceAdd
  congr 1
  refine Finset.sum_nbij' g f (fun _ _ => Finset.mem_univ _) (fun a _ => by simp [hf a]) (fun i hi => hs i ?_)
    (fun a _ => hg a) (fun i hi => ?_)
  · simpa using hi
  · rw [hs i (by simpa using hi)]

variable {n0 n1 n2 n3 n4 n5 : ℕ}

/-- Rank 6, first two axes summed. -/
theorem r6_01 (h : (⟨6, ![n0, n1, n2, n3, n4, n5]⟩ : Shape).ReducesTo [0, 1] ⟨4, ![n2, n3, n4, n5]⟩)
    (x : (⟨6, ![n0, n1, n2, n3, n4, n5]⟩ : Shape).Idx → EReal) (init : EReal) (a : Fin n2) (b : Fin n3) (c : Fin n4)
    (d : Fin n5) :
    Ideal.hostReduceAdd h x init (ix4 a b c d) = init + ∑ i : Fin n0, ∑ j : Fin n1, x (ix6 i j a b c d) := by
  rw [fiber (A := Fin n0 × Fin n1) h x init _ (fun p => ix6 p.1 p.2 a b c d) (fun i => (i 0, i 1)) _ (fun _ => rfl),
    Fintype.sum_prod_type]
  · intro i hi
    have h0 := congrFun hi 0; have h1 := congrFun hi 1; have h2 := congrFun hi 2; have h3 := congrFun hi 3
    funext k; fin_cases k
    · rfl
    · rfl
    · exact h0.symm
    · exact h1.symm
    · exact h2.symm
    · exact h3.symm
  · intro p; funext k; fin_cases k <;> rfl

/-- Rank 6, axes 2, 3 and 4 summed. -/
theorem r6_234 (h : (⟨6, ![n0, n1, n2, n3, n4, n5]⟩ : Shape).ReducesTo [2, 3, 4] ⟨3, ![n0, n1, n5]⟩)
    (x : (⟨6, ![n0, n1, n2, n3, n4, n5]⟩ : Shape).Idx → EReal) (init : EReal) (a : Fin n0) (b : Fin n1) (c : Fin n5) :
    Ideal.hostReduceAdd h x init (ix3 a b c)
      = init + ∑ i : Fin n2, ∑ j : Fin n3, ∑ k : Fin n4, x (ix6 a b i j k c) := by
  rw [fiber (A := Fin n2 × Fin n3 × Fin n4) h x init _ (fun p => ix6 a b p.1 p.2.1 p.2.2 c)
    (fun i => (i 2, i 3, i 4)) _ (fun _ => rfl), Fintype.sum_prod_type]
  · simp only [Fintype.sum_prod_type]
  · intro i hi
    have h0 := congrFun hi 0; have h1 := congrFun hi 1; have h2 := congrFun hi 2
    funext k; fin_cases k
    · exact h0.symm
    · exact h1.symm
    · rfl
    · rfl
    · rfl
    · exact h2.symm
  · intro p; funext k; fin_cases k <;> rfl

/-- Rank 4, the first three axes summed. -/
theorem r4_012 (h : (⟨4, ![n0, n1, n2, n3]⟩ : Shape).ReducesTo [0, 1, 2] ⟨1, ![n3]⟩)
    (x : (⟨4, ![n0, n1, n2, n3]⟩ : Shape).Idx → EReal) (init : EReal) (a : Fin n3) :
    Ideal.hostReduceAdd h x init (ix1 a) = init + ∑ i : Fin n0, ∑ j : Fin n1, ∑ k : Fin n2, x (ix4 i j k a) := by
  rw [fiber (A := Fin n0 × Fin n1 × Fin n2) h x init _ (fun p => ix4 p.1 p.2.1 p.2.2 a)
    (fun i => (i 0, i 1, i 2)) _ (fun _ => rfl), Fintype.sum_prod_type]
  · simp only [Fintype.sum_prod_type]
  · intro i hi
    have h0 := congrFun hi 0
    funext k; fin_cases k
    · rfl
    · rfl
    · rfl
    · exact h0.symm
  · intro p; funext k; fin_cases k; rfl

/-- Rank 4, the two middle axes summed. -/
theorem r4_12 (h : (⟨4, ![n0, n1, n2, n3]⟩ : Shape).ReducesTo [1, 2] ⟨2, ![n0, n3]⟩)
    (x : (⟨4, ![n0, n1, n2, n3]⟩ : Shape).Idx → EReal) (init : EReal) (a : Fin n0) (b : Fin n3) :
    Ideal.hostReduceAdd h x init (ix2 a b) = init + ∑ i : Fin n1, ∑ j : Fin n2, x (ix4 a i j b) := by
  rw [fiber (A := Fin n1 × Fin n2) h x init _ (fun p => ix4 a p.1 p.2 b) (fun i => (i 1, i 2)) _ (fun _ => rfl),
    Fintype.sum_prod_type]
  · intro i hi
    have h0 := congrFun hi 0; have h1 := congrFun hi 1
    funext k; fin_cases k
    · exact h0.symm
    · rfl
    · rfl
    · exact h1.symm
  · intro p; funext k; fin_cases k <;> rfl

/-- Rank 3, the first two axes summed. -/
theorem r3_01 (h : (⟨3, ![n0, n1, n2]⟩ : Shape).ReducesTo [0, 1] ⟨1, ![n2]⟩)
    (x : (⟨3, ![n0, n1, n2]⟩ : Shape).Idx → EReal) (init : EReal) (a : Fin n2) :
    Ideal.hostReduceAdd h x init (ix1 a) = init + ∑ i : Fin n0, ∑ j : Fin n1, x (ix3 i j a) := by
  rw [fiber (A := Fin n0 × Fin n1) h x init _ (fun p => ix3 p.1 p.2 a) (fun i => (i 0, i 1)) _ (fun _ => rfl),
    Fintype.sum_prod_type]
  · intro i hi
    have h0 := congrFun hi 0
    funext k; fin_cases k
    · rfl
    · rfl
    · exact h0.symm
  · intro p; funext k; fin_cases k; rfl

end Cert.HostSums
-- ==== Proof.RefConv.lean ====
module

public import proofs.«01_k».proof.Proof.Gen.ReferenceIdeal.Read
public import proofs.«01_k».proof.Proof.ConvSpec
public import proofs.«01_k».proof.Proof.HostSums

@[expose] public section

set_option maxRecDepth 16384

noncomputable section

/-!
# The reference's operations, read one channel at a time

Each intermediate of the reference is read at an index and found to be the matching function of `ConvSpec` on the
columns (one sample, one channel, all positions) of the arguments.
-/

namespace Cert.RefConv

open Cert.ReferenceIdeal Cert.ReferenceIdeal.Gen Cert.ReferenceIdeal.Value Cert.ReferenceIdeal.Read Idealize.ShloMosaic
  Idealize.ShloMosaic.TcCoe Idealize.SL.Sem Cert.ConvSpec

/-- The column of sample `b` and channel `c`, zero beyond the last position. -/
def col (x : FVec Ideal S4x2304x2816 .f32) (b : Fin 4) (c : Fin 2816) (t : ℕ) : EReal :=
  if h : t < 2304 then x (ix3 b ⟨t, h⟩ c) else 0

/-- The nine taps of channel `c`. -/
def taps (w : FVec Ideal S3x3x2816 .f32) (c : Fin 2816) (i j : Fin 3) : EReal := w (ix3 i j c)

theorem col_at (x : FVec Ideal S4x2304x2816 .f32) (b : Fin 4) (c : Fin 2816) (t : ℕ) (h : t < 2304) :
    x (ix3 b ⟨t, h⟩ c) = col x b c t := by
  unfold col; rw [dif_pos h]

variable (x0 : FVec Ideal S4x2304x2816 .f32) (x1 : FVec Ideal S3x3x2816 .f32) (x2 : FVec Ideal S2816 .f32)
  (x3 x4 : FVec Ideal S4x2304x2816 .f32)

/-- The three taps of the context line. -/
theorem v16 (j : Fin 3) (b : Fin 4) (p : Fin 256) (c : Fin 2816) :
    val_main_v16 (F := Ideal) x0 (ix4 j b p c) = tap (col x0 b c) 1 j p.val := by
  rw [tap_ctx _ _ _ _ p.isLt]
  pointwise [val_main_v16, val_main_v13, val_main_v14, val_main_v15, val_main_v12, val_main_v11, val_main_v10, val_main_v7,
    val_main_v6, val_main_cst, val_main_v0, col_at]
  have := p.isLt
  fin_cases j <;> simp <;> split_ifs <;> first | rfl | (exfalso; omega) | (congr 1; omega)

/-- The three column taps of the grid. -/
theorem v36 (j : Fin 3) (b : Fin 4) (p : Fin 32) (q : Fin 64) (c : Fin 2816) :
    val_main_v36 (F := Ideal) x0 (ix5 j b p q c) = tap (col x0 b c) 1 j (256 + 64 * p.val + q.val) := by
  rw [tap_lat _ _ _ _ _ p.isLt q.isLt]
  pointwise [val_main_v36, val_main_v33, val_main_v34, val_main_v35, val_main_v32, val_main_v31, val_main_v30, val_main_v27,
    val_main_v26, val_main_cst_3, val_main_v23, val_main_v1, col_at]
  have := p.isLt
  have := q.isLt
  fin_cases j <;> simp <;> split_ifs <;> first | rfl | (exfalso; omega) | (congr 1; omega)

/-- The nine taps of the grid. -/
theorem v48 (i j : Fin 3) (b : Fin 4) (p : Fin 32) (q : Fin 64) (c : Fin 2816) :
    val_main_v48 (F := Ideal) x0 (ix6 i j b p q c) = tap (col x0 b c) i j (256 + 64 * p.val + q.val) := by
  rw [tap_lat _ _ _ _ _ p.isLt q.isLt]
  pointwise [val_main_v48, val_main_v45, val_main_v46, val_main_v47, val_main_v44, val_main_v43, val_main_v42, val_main_v39,
    val_main_v38, val_main_cst_6, v36]
  have := p.isLt
  have := q.isLt
  fin_cases i <;> simp <;> split_ifs <;>
    first
    | rfl
    | (exfalso; omega)
    | (rw [tap_lat _ _ _ _ _ (by omega) q.isLt]
       split_ifs <;> simp at * <;> first | (exfalso; omega) | rfl | (congr 1; omega))

/-- The convolution before its activation. -/
theorem v56 (b : Fin 4) (p : Fin 2304) (c : Fin 2816) :
    val_main_v56 (F := Ideal) x0 x1 x2 (ix3 b p c) = acc (taps x1 c) (x2 (ix1 c)) (col x0 b c) p.val := by
  pointwise [val_main_v56, val_main_v22, val_main_v55, val_main_v54, val_main_v53, val_main_v52, val_main_v19, val_main_v18,
    val_main_v21, val_main_v20, val_main_v17, val_main_v4, val_main_v3, val_main_v2, val_main_v51, HostSums.r6_01,
    val_main_v50, val_main_v49, val_main_v24, v16, v48, val_main_cst_2, val_main_cst_9]
  unfold acc taps
  split_ifs with h
  · congr 1
    simp only [Fin.sum_univ_three, tap_ctx _ _ _ _ h]
    simp
  · have : 256 + 64 * ((p.val - 256) / 64) + (p.val - 256) % 64 = p.val := by omega
    simp only [this, zero_add]

/-- The gradient that arrives at the convolution's result. -/
def ct (b : Fin 4) (c : Fin 2816) (t : ℕ) : EReal :=
  dsilu (acc (taps x1 c) (x2 (ix1 c)) (col x0 b c) t) (col x3 b c t * col x4 b c t)

theorem v61 (b : Fin 4) (p : Fin 2304) (c : Fin 2816) :
    val_main_v61 (F := Ideal) x0 x1 x2 x3 x4 (ix3 b p c) = ct x0 x1 x2 x3 x4 b c p.val := by
  unfold ct dsilu sg
  pointwise [val_main_v61, val_main_call1_v2, val_main_call1_v1, val_main_call1_v0, val_main_v60, val_main_v57_1,
    val_main_v57_2, val_main_call0_v7, val_main_call0_v6, val_main_call0_v4, val_main_call0_v3, val_main_call0_v2,
    val_main_call0_v1, val_main_call0_v0, val_main_call0_cst, val_main_call0_cst_0, val_main_call0_cst_1, v56]
  unfold col
  simp only [p.isLt, dif_pos]

/-- The gradient of the factor that multiplies the activated convolution. -/
theorem v59 (b : Fin 4) (p : Fin 2304) (c : Fin 2816) :
    val_main_v59 (F := Ideal) x0 x1 x2 x3 (ix3 b p c) = acc (taps x1 c) (x2 (ix1 c)) (col x0 b c) p.val
      * sg (acc (taps x1 c) (x2 (ix1 c)) (col x0 b c) p.val) * x3 (ix3 b p c) := by
  unfold sg
  pointwise [val_main_v59, val_main_v57_0, val_main_v57_2, val_main_call0_v4, val_main_call0_v3, val_main_call0_v2,
    val_main_call0_v1, val_main_call0_v0, val_main_call0_cst, val_main_call0_cst_0, val_main_call0_cst_1, v56]

/-- The grid part of the arriving gradient. -/
theorem v64 (b : Fin 4) (p : Fin 32) (q : Fin 64) (c : Fin 2816) :
    val_main_v64 (F := Ideal) x0 x1 x2 x3 x4 (ix4 b p q c) = ct x0 x1 x2 x3 x4 b c (256 + 64 * p.val + q.val) := by
  pointwise [val_main_v64, val_main_v63, v61]
  congr 1
  omega

/-- The context part of the arriving gradient. -/
theorem v62 (b : Fin 4) (p : Fin 256) (c : Fin 2816) :
    val_main_v62 (F := Ideal) x0 x1 x2 x3 x4 (ix3 b p c) = ct x0 x1 x2 x3 x4 b c p.val := by
  pointwise [val_main_v62, v61]

/-- The gradient of the bias. -/
theorem v137 (a : Fin 1) (c : Fin 2816) : val_main_v137 (F := Ideal) x0 x1 x2 x3 x4 (ix2 a c)
    = ∑ b : Fin 4, ∑ t ∈ Finset.range 2304, ct x0 x1 x2 x3 x4 b c t := by
  pointwise [val_main_v137, val_main_v107, val_main_v67, val_main_v66, val_main_v65, val_main_v104, val_main_v106,
    val_main_v105, val_main_cst_10, val_main_cst_11, val_main_cst_20, val_main_cst_21]
  simp only [HostSums.r4_012, HostSums.r3_01]
  pointwise [val_main_v65, val_main_v104, val_main_cst_10, val_main_cst_20]
  simp only [HostSums.r4_012, HostSums.r3_01, v64, v62, sum_split, Finset.sum_add_distrib, zero_add, Finset.univ_unique,
    Finset.sum_singleton]
  rw [add_comm]

/-- The nine taps' gradients, grid part. -/
theorem v102 (i j : Fin 3) (c : Fin 2816) : val_main_v102 (F := Ideal) x0 x1 x2 x3 x4 (ix3 i j c)
    = ∑ b : Fin 4, ∑ p : Fin 32, ∑ q : Fin 64, ct x0 x1 x2 x3 x4 b c (256 + 64 * p.val + q.val)
      * tap (col x0 b c) i j (256 + 64 * p.val + q.val) := by
  pointwise [val_main_v102, HostSums.r6_234, val_main_v73, val_main_v72, val_main_v71, val_main_v68, v64, v48,
    val_main_cst_12, val_main_cst_19]
  simp

/-- The three taps' gradients, context part. -/
theorem v128 (j : Fin 3) (c : Fin 2816) : val_main_v128 (F := Ideal) x0 x1 x2 x3 x4 (ix2 j c)
    = ∑ b : Fin 4, ∑ p : Fin 256, ct x0 x1 x2 x3 x4 b c p.val * tap (col x0 b c) 1 j p.val := by
  pointwise [val_main_v128, HostSums.r4_12, val_main_v113, val_main_v112, val_main_v111, val_main_v108, v62, v16,
    val_main_cst_22, val_main_cst_26]
  simp

/-- The gradient of the taps. -/
theorem v136 (r : Fin 9) (c : Fin 2816) : val_main_v136 (F := Ideal) x0 x1 x2 x3 x4 (ix2 r c)
    = ∑ b : Fin 4, dw (col x0 b c) (ct x0 x1 x2 x3 x4 b c) ⟨r.val / 3, by omega⟩ ⟨r.val % 3, by omega⟩ := by
  pointwise [val_main_v136, val_main_v131, val_main_v130, val_main_v129, v102, v128, val_main_cst_27]
  unfold dw
  simp only [sum_split, Finset.sum_add_distrib]
  rw [add_comm]
  congr 1
  have := r.isLt
  split_ifs with h
  · have h1 : (⟨r.val / 3, by omega⟩ : Fin 3) = 1 := by apply Fin.ext; simp; omega
    simp only [h1]
  · refine (Finset.sum_eq_zero fun b _ => Finset.sum_eq_zero fun p _ => ?_).symm
    rw [tap_ctx _ _ _ _ p.isLt, if_neg (by simp; omega), mul_zero]

/-- The column parts of the input's gradient on the grid. -/
theorem v86 (j : Fin 3) (b : Fin 4) (p : Fin 32) (q : Fin 64) (c : Fin 2816) :
    val_main_v86 (F := Ideal) x0 x1 x2 x3 x4 (ix5 j b p q c)
      = dxc (taps x1 c) (ct x0 x1 x2 x3 x4 b c) j (256 + 64 * p.val + q.val) := by
  unfold dxc taps
  simp only [Fin.sum_univ_three, adj_lat _ _ _ _ p.isLt q.isLt]
  pointwise [val_main_v86, val_main_v84, val_main_v82, val_main_v80, val_main_v81, val_main_v83, val_main_v79, val_main_v77,
    val_main_v75, val_main_v78, val_main_v76, val_main_v74, val_main_cst_13, val_main_cst_14, val_main_cst_15,
    val_main_v70, val_main_v69, val_main_v24, val_main_v68, v64]
  have := p.isLt
  have := q.isLt
  have hc : ∀ u v w : EReal, u + v + w = w + v + u := fun u v w => by ac_rfl
  rw [hc]
  refine congrArg₂ (· + ·) (congrArg₂ (· + ·) ?_ ?_) ?_
  · rw [mul_ite, mul_zero]
    split_ifs <;> first | rfl | (exfalso; omega) | (congr 2; omega)
  · rw [if_pos (by omega)]
    rfl
  · rw [mul_ite, mul_zero]
    split_ifs <;> first | rfl | (exfalso; omega) | (congr 2; omega)

/-- The input's gradient on the grid. -/
theorem v103 (b : Fin 4) (p : Fin 2048) (c : Fin 2816) :
    val_main_v103 (F := Ideal) x0 x1 x2 x3 x4 (ix3 b p c) = dx (taps x1 c) (ct x0 x1 x2 x3 x4 b c) (256 + p.val) := by
  pointwise [val_main_v103, val_main_v100, val_main_v98, val_main_v97, val_main_v96, val_main_v95, val_main_v94,
    val_main_cst_18, val_main_cst_17, val_main_cst_16, val_main_v93, val_main_v92, val_main_v91, val_main_v90,
    val_main_v89, val_main_v88, v86]
  have h1 : 256 + p.val = 256 + 64 * (p.val / 64) + p.val % 64 := by omega
  rw [h1, dx_lat _ _ _ _ (by omega) (by omega)]
  have := p.isLt
  refine congrArg₂ (· + ·) (congrArg₂ (· + ·) ?_ ?_) ?_ <;> split_ifs <;>
    first | rfl | (exfalso; omega) | (congr 1; omega)

/-- The input's gradient on the context line. -/
theorem v126 (b : Fin 4) (p : Fin 256) (c : Fin 2816) :
    val_main_v126 (F := Ideal) x0 x1 x2 x3 x4 (ix3 b p c) = dx (taps x1 c) (ct x0 x1 x2 x3 x4 b c) p.val := by
  rw [dx_ctx _ _ _ p.isLt]
  unfold taps
  pointwise [val_main_v126, val_main_v124, val_main_v123, val_main_v122, val_main_v121, val_main_v120,
    val_main_cst_25, val_main_cst_24, val_main_cst_23, val_main_v119, val_main_v118, val_main_v117, val_main_v116,
    val_main_v115, val_main_v114, val_main_v110, val_main_v109, val_main_v4, val_main_v3, val_main_v2, val_main_v108, v62]
  have := p.isLt
  refine congrArg₂ (· + ·) (congrArg₂ (· + ·) ?_ rfl) ?_ <;> split_ifs <;>
    first | rfl | (exfalso; omega) | (congr 2; omega)

/-- The gradient of the convolution's input. -/
theorem v135 (b : Fin 4) (p : Fin 2304) (c : Fin 2816) :
    val_main_v135 (F := Ideal) x0 x1 x2 x3 x4 (ix3 b p c) = dx (taps x1 c) (ct x0 x1 x2 x3 x4 b c) p.val := by
  pointwise [val_main_v135, val_main_v134, val_main_v133, val_main_v132, val_main_cst_28, val_main_cst_29, v103, v126]
  have := p.isLt
  split_ifs
  · omega
  · rw [add_zero]; congr 1; omega
  · rw [zero_add]
  · omega

end Cert.RefConv
-- ==== Proof.KernValue.lean ====
module

public import proofs.«01_k».proof.Proof.KernOut
public import proofs.«01_k».proof.Proof.RefConv
public import Idealize.ShloMosaic.Lib.Pipeline.ValueKit
public import Idealize.ShloMosaic.Lib.Claim

@[expose] public section

set_option maxRecDepth 16384

noncomputable section

/-!
# The kernel's four results

The grid visits eleven groups of 256 channels, and for each the four samples in turn. The input's gradient and the gated
output are written block by block; the gradients of the taps and of the bias are added up over a group's four samples.
-/

namespace Cert.KernelIdeal.Value

open Cert.KernelIdeal Cert.KernelIdeal.Gen Idealize.ShloMosaic Idealize.ShloMosaic.TcCoe Idealize.SL.Sem
open Cert.ConvSpec (acc dx dw sg dsilu')
open Cert.KernOut (bcol btap bacc bct bdw)
open Cert.RefConv (col taps)

variable (m : (ℓ : Loc nD τ sig) → Buf (Elt Ideal) ℓ) (c : Dev nD)

/-- Every window's block index at a grid point. -/
theorem idx : ∀ t : Fin cfg0.N, win0_0.index t = ![t.val % 4, 0, t.val / 4] ∧ win0_1.index t = ![0, t.val / 4]
    ∧ win0_2.index t = ![0, t.val / 4] ∧ win0_3.index t = ![t.val % 4, 0, t.val / 4]
    ∧ win0_4.index t = ![t.val % 4, 0, t.val / 4] ∧ win0_5.index t = ![t.val % 4, 0, t.val / 4]
    ∧ win0_6.index t = ![0, t.val / 4] ∧ win0_7.index t = ![0, t.val / 4] ∧ win0_8.index t = ![t.val % 4, 0, t.val / 4] :=
  (by decide +kernel : ∀ t : Fin grid0.N, _)

theorem lt44 (t : Fin cfg0.N) : t.val < 44 := lt_of_lt_of_eq t.isLt (show cfg0.N = 44 from N_0)

/-- The sample of a grid point. -/
def sm (t : Fin cfg0.N) : Fin 4 := ⟨t.val % 4, by omega⟩

/-- The channel of a grid point's block. -/
def ch (t : Fin cfg0.N) (q : Fin 256) : Fin 2816 := ⟨t.val / 4 * 256 + q.val, by have := lt44 t; omega⟩

/-- The five arguments. -/
abbrev a0 : FVec Ideal S4x2304x2816 .f32 := m ((c : Thread nD τ).loc main_arg0)
abbrev a1 : FVec Ideal S3x3x2816 .f32 := m ((c : Thread nD τ).loc main_arg1)
abbrev a2 : FVec Ideal S2816 .f32 := m ((c : Thread nD τ).loc main_arg2)
abbrev a3 : FVec Ideal S4x2304x2816 .f32 := m ((c : Thread nD τ).loc main_arg3)
abbrev a4 : FVec Ideal S4x2304x2816 .f32 := m ((c : Thread nD τ).loc main_arg4)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read3 (t : Fin cfg0.N) (s : Fin 2304) (q : Fin 256) :
    iblk m c 3 t (ix3 0 s q) = m ((c : Thread nD τ).loc main_arg3) (ix3 (sm t) s (ch t q)) := by
  unfold sm ch
  blk_ext [iblk, V, idx t]

theorem read4 (t : Fin cfg0.N) (s : Fin 2304) (q : Fin 256) :
    iblk m c 4 t (ix3 0 s q) = m ((c : Thread nD τ).loc main_arg4) (ix3 (sm t) s (ch t q)) := by
  unfold sm ch
  blk_ext [iblk, V, idx t]

theorem read1 (t : Fin cfg0.N) (r : Fin 9) (q : Fin 256) :
    iblk m c 1 t (ix2 r q) = m ((c : Thread nD τ).loc main_arg1) (ix3 ⟨r.val / 3, by omega⟩ ⟨r.val % 3, by omega⟩ (ch t q)) := by
  blk_simp [iblk, idx t]
  entry_read
  pointwise
  unfold ch
  blk_ext [idx t]

theorem read2 (t : Fin cfg0.N) (q : Fin 256) :
    iblk m c 2 t (ix2 0 q) = m ((c : Thread nD τ).loc main_arg2) (ix1 (ch t q)) := by
  blk_simp [iblk, idx t]
  entry_read
  pointwise
  unfold ch
  blk_ext [idx t]

/-- The gradient that arrives at the convolution, in the kernel's grouping. -/
def ctk (b : Fin 4) (k : Fin 2816) (t : ℕ) : EReal :=
  dsilu' (acc (taps (a1 m c) k) (a2 m c (ix1 k)) (col (a0 m c) b k) t) (col (a3 m c) b k t * col (a4 m c) b k t)

theorem col0 (t : Fin cfg0.N) (q : Fin 256) : bcol (iblk m c 0 t) q = col (a0 m c) (sm t) (ch t q) := by
  funext s
  unfold bcol col
  split_ifs with h
  · exact read0 m c t ⟨s, h⟩ q
  · rfl

theorem col3 (t : Fin cfg0.N) (q : Fin 256) : bcol (iblk m c 3 t) q = col (a3 m c) (sm t) (ch t q) := by
  funext s
  unfold bcol col
  split_ifs with h
  · exact read3 m c t ⟨s, h⟩ q
  · rfl

theorem col4 (t : Fin cfg0.N) (q : Fin 256) : bcol (iblk m c 4 t) q = col (a4 m c) (sm t) (ch t q) := by
  funext s
  unfold bcol col
  split_ifs with h
  · exact read4 m c t ⟨s, h⟩ q
  · rfl

theorem tap1 (t : Fin cfg0.N) (q : Fin 256) : btap (iblk m c 1 t) q = taps (a1 m c) (ch t q) := by
  funext i j
  unfold btap taps
  refine (read1 m c t ⟨3 * i.val + j.val, by omega⟩ q).trans ?_
  have hi : (⟨(3 * i.val + j.val) / 3, by omega⟩ : Fin 3) = i := Fin.ext (by simp only; omega)
  have hj : (⟨(3 * i.val + j.val) % 3, by omega⟩ : Fin 3) = j := Fin.ext (by simp only; omega)
  simp only [hi, hj]

theorem acc_blk (t : Fin cfg0.N) (q : Fin 256) (s : ℕ) : bacc (iblk m c 0 t) (iblk m c 1 t) (iblk m c 2 t) q s
    = acc (taps (a1 m c) (ch t q)) (a2 m c (ix1 (ch t q))) (col (a0 m c) (sm t) (ch t q)) s := by
  unfold bacc
  rw [col0, tap1]
  refine congrArg (fun z => acc _ z _ s) ?_
  exact read2 m c t q

theorem ct_blk (t : Fin cfg0.N) (q : Fin 256) :
    bct (iblk m c 0 t) (iblk m c 1 t) (iblk m c 2 t) (iblk m c 3 t) (iblk m c 4 t) q = ctk m c (sm t) (ch t q) := by
  funext s
  unfold bct ctk
  rw [acc_blk, col3, col4]

/-- What a grid point adds to the tap gradients. -/
theorem dw_blk (t : Fin cfg0.N) (y : S9x256.Idx) :
    bdw (iblk m c 0 t) (iblk m c 1 t) (iblk m c 2 t) (iblk m c 3 t) (iblk m c 4 t) y
      = dw (col (a0 m c) (sm t) (ch t (y 1))) (ctk m c (sm t) (ch t (y 1)))
        ⟨(y 0).val / 3, by have := (y 0).isLt; simp at this; omega⟩ ⟨(y 0).val % 3, by omega⟩ := by
  exact congrArg₂ (fun x d => dw x d _ _) (col0 m c t (y 1)) (ct_blk m c t (y 1))

/-- Every grid point leaves the gradient of the input for its sample and channels. -/
theorem out5 (t : Fin cfg0.N) (s : Fin 2304) (q : Fin 256) : (outsAt0 m c t.val t.isLt).1 (ix3 0 s q)
    = dx (taps (a1 m c) (ch t q)) (ctk m c (sm t) (ch t q)) s.val := by
  by_cases h : t.val % 4 = 0
  · rw [outsAt0_A m c t h (by omega)]
    dsimp only
    rw [Cert.KernOut.outA5, tap1, ct_blk]
  · rw [outsAt0_B m c t h (by omega)]
    dsimp only
    rw [Cert.KernOut.outB5, tap1, ct_blk]

/-- Every grid point leaves the gated output for its sample and channels. -/
theorem out8 (t : Fin cfg0.N) (s : Fin 2304) (q : Fin 256) : (outsAt0 m c t.val t.isLt).2.2.2 (ix3 0 s q)
    = a3 m c (ix3 (sm t) s (ch t q))
      * (acc (taps (a1 m c) (ch t q)) (a2 m c (ix1 (ch t q))) (col (a0 m c) (sm t) (ch t q)) s.val
        * sg (acc (taps (a1 m c) (ch t q)) (a2 m c (ix1 (ch t q))) (col (a0 m c) (sm t) (ch t q)) s.val)) := by
  by_cases h : t.val % 4 = 0
  · rw [outsAt0_A m c t h (by omega)]
    dsimp only
    rw [Cert.KernOut.outA8, acc_blk]
    exact Ideal.mul_congr (read3 m c t s q) rfl
  · rw [outsAt0_B m c t h (by omega)]
    dsimp only
    rw [Cert.KernOut.outB8, acc_blk]
    exact Ideal.mul_congr (read3 m c t s q) rfl

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The gradient of the input. -/
def F5 : FVec Ideal S4x2304x2816 .bf16 := fun j => dx (taps (a1 m c) (j 2)) (ctk m c (j 0) (j 2)) (j 1).val

/-- The gradients of the taps. -/
def F6 : FVec Ideal S9x2816 .f32 := fun j => ∑ b : Fin 4, dw (col (a0 m c) b (j 1)) (ctk m c b (j 1))
  ⟨(j 0).val / 3, by have := (j 0).isLt; simp at this; omega⟩ ⟨(j 0).val % 3, by omega⟩

/-- The gradient of the bias. -/
def F7 : FVec Ideal S1x2816 .f32 := fun j => ∑ b : Fin 4, ∑ t ∈ Finset.range 2304, ctk m c b (j 1) t

/-- The gated output. -/
def F8 : FVec Ideal S4x2304x2816 .bf16 := fun j => a3 m c j
  * (acc (taps (a1 m c) (j 2)) (a2 m c (ix1 (j 2))) (col (a0 m c) (j 0) (j 2)) (j 1).val
    * sg (acc (taps (a1 m c) (j 2)) (a2 m c (ix1 (j 2))) (col (a0 m c) (j 0) (j 2)) (j 1).val))

theorem sm_run (t t' : Fin cfg0.N) (b : Fin 4) (h : t'.val = 4 * (t.val / 4) + b.val) : sm t' = b :=
  Fin.ext (by show t'.val % 4 = b.val; omega)

theorem ch_run (t t' : Fin cfg0.N) (b : Fin 4) (h : t'.val = 4 * (t.val / 4) + b.val) (q : Fin 256) : ch t' q = ch t q :=
  Fin.ext (by show t'.val / 4 * 256 + q.val = t.val / 4 * 256 + q.val; omega)

/-- The gradient of the input, whole. -/
theorem final5 : (dats m 0 c).arrAt 5 cfg0.N = F5 m c := by
  refine (dats m 0 c).arrAt_eq_of_covers 5 _ (by decide +kernel) fun t _ y => ?_
  blk_simp
  rw [after0_5]
  obtain ⟨s, q, rfl⟩ := blk_idx y
  have e : (win0_5.blk t).view.emb (ix3 0 s q) = ix3 (sm t) s (ch t q) := by
    unfold sm ch
    blk_ext [idx t]
  rw [e]
  exact out5 m c t s q

/-- The gradients of the taps, whole: each group's four samples added up. -/
theorem final6 : (dats m 0 c).arrAt 6 cfg0.N = F6 m c := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => (0 : EReal))
    (fun t => bdw (iblk m c 0 t) (iblk m c 1 t) (iblk m c 2 t) (iblk m c 3 t) (iblk m c 4 t))
    (fun t h j => by rw [outsAt0_A m c t h (by omega)]; dsimp only; rw [Cert.KernOut.outA6, zero_add])
    (fun t h j => by rw [outsAt0_B m c t h (by omega)]; dsimp only; rw [Cert.KernOut.outB6])
    t ((flush0_6 t).mp hf) _, zero_add]
  obtain ⟨r, q, rfl⟩ : ∃ (r : Fin 9) (q : Fin 256), y = ix2 r q := ⟨y 0, y 1, eq_ix2 y⟩
  have e : (win0_6.blk t).view.emb (ix2 r q) = ix2 r (ch t q) := by
    unfold ch
    blk_ext [idx t]
  rw [e]
  refine Fin.sum_fin_congr fun b => ?_
  refine (dw_blk m c _ _).trans ?_
  rw [sm_run t _ b rfl]
  exact congrArg (fun k => dw (col (a0 m c) b k) (ctk m c b k) _ _) (ch_run t _ b rfl q)

/-- The gradient of the bias, whole: each group's four samples added up. -/
theorem final7 : (dats m 0 c).arrAt 7 cfg0.N = F7 m c := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => (0 : EReal))
    (fun t y => ∑ s ∈ Finset.range 2304, bct (iblk m c 0 t) (iblk m c 1 t) (iblk m c 2 t) (iblk m c 3 t) (iblk m c 4 t) (y 1) s)
    (fun t h j => by
      rw [outsAt0_A m c t h (by omega)]; dsimp only; obtain ⟨q, rfl⟩ := Cert.KernOut.row_idx j
      rw [Cert.KernOut.outA7, zero_add]; rfl)
    (fun t h j => by
      rw [outsAt0_B m c t h (by omega)]; dsimp only; obtain ⟨q, rfl⟩ := Cert.KernOut.row_idx j
      rw [Cert.KernOut.outB7]; rfl)
    t ((flush0_7 t).mp hf) _, zero_add]
  obtain ⟨q, rfl⟩ := Cert.KernOut.row_idx y
  have e : (win0_7.blk t).view.emb (ix2 0 q) = ix2 0 (ch t q) := by
    unfold ch
    blk_ext [idx t]
  rw [e]
  refine Fin.sum_fin_congr fun b => ?_
  show (_ : EReal) = _
  refine Finset.sum_congr rfl fun s _ => ?_
  refine (congrFun (ct_blk m c _ q) s).trans ?_
  rw [sm_run t _ b rfl]
  exact congrArg (fun k => ctk m c b k s) (ch_run t _ b rfl q)

/-- The gated output, whole. -/
theorem final8 : (dats m 0 c).arrAt 8 cfg0.N = F8 m c := by
  refine (dats m 0 c).arrAt_eq_of_covers 8 _ (by decide +kernel) fun t _ y => ?_
  blk_simp
  rw [after0_8]
  obtain ⟨s, q, rfl⟩ := blk_idx y
  have e : (win0_8.blk t).view.emb (ix3 0 s q) = ix3 (sm t) s (ch t q) := by
    unfold sm ch
    blk_ext [idx t]
  rw [e]
  exact out8 m c t s q

end Cert.KernelIdeal.Value
-- ==== Proof.Finite.lean ====
module

public import proofs.«01_k».proof.Defs
public import Idealize.ShloMosaic.Lib.Claim

@[expose] public section

set_option maxRecDepth 16384

noncomputable section

/-!
# The precondition

The precondition compares the absolute values of two arguments with infinity; it says that their entries are finite.
-/

namespace Cert.Finite

open Idealize.ShloMosaic Cert.Pre_finite

/-- The condition under which the predicate's comparison with a constant is well formed. -/
theorem facts : Cert.Pre_finite.Facts := ⟨by decide⟩

/-- The pattern of infinity denotes infinity. -/
theorem inf_top : Ideal.ofBits .f32 0x7F800000#32 = ⊤ := by
  simp [Ideal.ofBits, Ideal.ieee]

/-- An entry whose absolute value is less than infinity is finite. -/
theorem entry (x : FVec Ideal S4x2304x2816 .f32) (hb) (h : cmpf .olt (Host.absf x)
      (broadcastInDim S4x2304x2816 ![] hb (constant (F := Ideal) S_ .f32 0x7F800000#32)) = fun _ => 1#1)
    (i : S4x2304x2816.Idx) : x i ≠ ⊤ ∧ x i ≠ ⊥ := by
  have h1 : Ideal.cmp .olt (max (x i) (-(x i))) (Ideal.ofBits .f32 0x7F800000#32) = 1#1 := congrFun h i
  rw [inf_top] at h1
  constructor <;> intro h2 <;> rw [h2] at h1 <;> simp [Ideal.cmp] at h1

end Cert.Finite

end
-- ==== Proof.Equal.lean ====
module

public import proofs.«01_k».proof.Proof.KernValue
public import proofs.«01_k».proof.Proof.Silu
public import proofs.«01_k».proof.Proof.Finite
public import Idealize.ShloMosaic.Lib.Claim

@[expose] public section

set_option maxRecDepth 16384

noncomputable section

/-!
# The four results are the reference's

The two sides differ in how the derivative of `a * sigmoid a` is written. The two spellings agree on a product of two
finite numbers, and the precondition makes the two factors finite.
-/

namespace Cert.Equal

open Cert.KernelIdeal Cert.KernelIdeal.Gen Idealize.ShloMosaic Idealize.ShloMosaic.TcCoe Idealize.SL.Sem
open Cert.KernelIdeal.Value (a0 a1 a2 a3 a4 ctk F5 F6 F7 F8)
open Cert.ReferenceIdeal.Read (val_main_v135 val_main_v136 val_main_v137 val_main_v138 val_main_v138_apply)
open Cert.RefConv (col ct)

variable (m : (ℓ : Loc nD τ sig) → Buf (Elt Ideal) ℓ) (c : Dev nD)

/-- A column of finite entries is finite, beyond its end too. -/
theorem col_finite (x : FVec Ideal S4x2304x2816 .f32) (h : ∀ i, x i ≠ ⊤ ∧ x i ≠ ⊥) (b : Fin 4) (k : Fin 2816) (t : ℕ) :
    col x b k t ≠ ⊤ ∧ col x b k t ≠ ⊥ := by
  unfold col
  split_ifs
  · exact h _
  · exact ⟨EReal.zero_ne_top, EReal.zero_ne_bot⟩

variable (h3 : ∀ i, a3 m c i ≠ ⊤ ∧ a3 m c i ≠ ⊥) (h4 : ∀ i, a4 m c i ≠ ⊤ ∧ a4 m c i ≠ ⊥)

include h3 h4 in
/-- The gradient at the convolution's output, on both sides. -/
theorem ctk_eq (b : Fin 4) (k : Fin 2816) : ctk m c b k = ct (a0 m c) (a1 m c) (a2 m c) (a3 m c) (a4 m c) b k :=
  funext fun t => Cert.ConvSpec.dsilu_mul _ _ _ (col_finite _ h3 b k t) (col_finite _ h4 b k t)

include h3 h4 in
/-- The gradient of the convolution's input. -/
theorem eq5 : F5 m c = val_main_v135 (F := Ideal) (a0 m c) (a1 m c) (a2 m c) (a3 m c) (a4 m c) := by
  funext j
  obtain ⟨b, p, k, rfl⟩ : ∃ (b : Fin 4) (p : Fin 2304) (k : Fin 2816), j = ix3 b p k := ⟨j 0, j 1, j 2, eq_ix3 j⟩
  refine Eq.trans ?_ (Cert.RefConv.v135 _ _ _ _ _ b p k).symm
  rw [← ctk_eq m c h3 h4]
  rfl

include h3 h4 in
/-- The gradient of the nine taps. -/
theorem eq6 : F6 m c = val_main_v136 (F := Ideal) (a0 m c) (a1 m c) (a2 m c) (a3 m c) (a4 m c) := by
  funext j
  obtain ⟨r, k, rfl⟩ : ∃ (r : Fin 9) (k : Fin 2816), j = ix2 r k := ⟨j 0, j 1, eq_ix2 j⟩
  refine Eq.trans ?_ (Cert.RefConv.v136 _ _ _ _ _ r k).symm
  simp only [← ctk_eq m c h3 h4]
  rfl

include h3 h4 in
/-- The gradient of the bias. -/
theorem eq7 : F7 m c = val_main_v137 (F := Ideal) (a0 m c) (a1 m c) (a2 m c) (a3 m c) (a4 m c) := by
  funext j
  obtain ⟨r, k, rfl⟩ : ∃ (r : Fin 1) (k : Fin 2816), j = ix2 r k := ⟨j 0, j 1, eq_ix2 j⟩
  refine Eq.trans ?_ (Cert.RefConv.v137 _ _ _ _ _ r k).symm
  simp only [← ctk_eq m c h3 h4]
  rfl

/-- The gated output. -/
theorem eq8 : F8 m c = val_main_v138 (F := Ideal) (a0 m c) (a1 m c) (a2 m c) (a3 m c) := by
  funext j
  obtain ⟨b, p, k, rfl⟩ : ∃ (b : Fin 4) (p : Fin 2304) (k : Fin 2816), j = ix3 b p k := ⟨j 0, j 1, j 2, eq_ix3 j⟩
  exact (mul_comm _ _).trans (Cert.RefConv.v59 _ _ _ _ b p k).symm

end Cert.Equal

end
-- ==== Proof.Products.lean ====
module

public import Idealize.ShloMosaic.Lib.Pipeline.ValueKit
public import Idealize.ShloMosaic.Lib.Claim

@[expose] public section

/-!
# Rows of the flattened activations

The kernels of the products take the four samples' 2304 positions as 9216 rows.
-/

namespace Cert.Products

/-- The sample of a row. -/
def sam (r : Fin 9216) : Fin 4 := ⟨r.val / 2304, by omega⟩

/-- The position of a row in its sample. -/
def pos (r : Fin 9216) : Fin 2304 := ⟨r.val % 2304, by omega⟩

/-- A sum over `n` indices, cut at `a`. -/
theorem sum_append {a b n : Nat} (h : a + b = n) (f : Fin n → EReal) :
    (∑ k, f k) = (∑ k : Fin a, f ⟨k.val, by omega⟩) + ∑ k : Fin b, f ⟨a + k.val, by omega⟩ := by
  subst h
  exact Fin.sum_univ_add f

/-- Products of entries padded with zeros add up to the products of the entries. -/
theorem sum_pad {a n : Nat} (h : a ≤ n) (f g : Fin a → EReal) :
    (∑ k : Fin n, (if h : k.val < a then f ⟨k.val, h⟩ else 0) * (if h : k.val < a then g ⟨k.val, h⟩ else 0))
      = ∑ k : Fin a, f k * g k := by
  obtain ⟨b, rfl⟩ := Nat.exists_eq_add_of_le h
  rw [sum_append rfl]
  simp

end Cert.Products
-- ==== Proof.FfnInValue.lean ====
module

public import proofs.«01_k».proof.Defs
public import proofs.«01_k».proof.Proof.Products
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal.Value
public import proofs.«01_k».proof.Proof.Gen.FfnInRefIdeal.Read
public import Idealize.ShloMosaic.Lib.Pipeline.ValueKit
public import Idealize.ShloMosaic.Lib.Claim

@[expose] public section

set_option maxRecDepth 16384

noncomputable section

/-!
# The projections into the feed-forward block

The kernel multiplies a block of rows by a block of columns at each grid point; the blocks together are the product.
-/

namespace Cert.FfnInIdeal.Value

open Cert.FfnInIdeal Cert.FfnInIdeal.Gen Idealize.ShloMosaic Idealize.ShloMosaic.TcCoe Idealize.SL.Sem
open Cert.FfnInRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem lt_points (t : Fin cfg0.N) : t.val < 18 := lt_of_lt_of_eq t.isLt (show cfg0.N = 18 from N_0)

/-- A grid point's row of the product. -/
def row (t : Fin cfg0.N) (i : Fin 1024) : Fin 9216 := ⟨t.val / 2 * 1024 + i.val, by have := lt_points t; omega⟩

/-- A grid point's column of the product. -/
def clm (t : Fin cfg0.N) (j : Fin 1408) : Fin 2816 := ⟨t.val % 2 * 1408 + j.val, by omega⟩

/-- One block of the product. -/
theorem block (x0 : Vec Ideal S1024x1024 .bf16) (x1 : Vec Ideal S1024x1408 .bf16) (i : Fin 1024) (j : Fin 1408) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 1408) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x2816 .bf16) (r : Fin 9216) (n : Fin 2816) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1408), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.FfnInIdeal.Value

namespace Cert.Proof

open Idealize.ShloMosaic Idealize.SL.Sem

theorem quiescent_FfnInRef : Cert.quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

/-- The kernel's result is the reference's. -/
theorem algebraic_FfnIn : Cert.algebraic_FfnInIdeal_FfnInRefIdeal := by
  intro m ρ m' ρ' _ hagree
  refine ⟨fun c => (Cert.FfnInIdeal.Gen.dats (F := Ideal) m 0 c).arrAt 2 Cert.FfnInIdeal.cfg0.N,
    Cert.FfnInIdeal.Value.run_blocks (F := Ideal) m ρ, ?_⟩
  refine (θ_run Cert.FfnInRefIdeal.defs _ _).mono (fun r h c => ⟨?_, (h c).2⟩) (Cert.FfnInRefIdeal.Value.run (F := Ideal) m' ρ')
  obtain ⟨g0, g1⟩ := hagree c
  refine (h c).1.trans ((Cert.FfnInRefIdeal.Read.val_main_v3_eq _ _).trans ?_)
  rw [g0, g1]
  exact (Cert.FfnInIdeal.Value.final m c).symm

end Cert.Proof

end
-- ==== Proof.FfnOutValue.lean ====
module

public import proofs.«01_k».proof.Defs
public import proofs.«01_k».proof.Proof.Products
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal.Value
public import proofs.«01_k».proof.Proof.Gen.FfnOutRefIdeal.Read
public import Idealize.ShloMosaic.Lib.Pipeline.ValueKit
public import Idealize.ShloMosaic.Lib.Claim

@[expose] public section

set_option maxRecDepth 16384

noncomputable section

/-!
# The projection out of the feed-forward block

The kernel multiplies a block of rows by a block of columns at each grid point; the blocks together are the product.
-/

namespace Cert.FfnOutIdeal.Value

open Cert.FfnOutIdeal Cert.FfnOutIdeal.Gen Idealize.ShloMosaic Idealize.ShloMosaic.TcCoe Idealize.SL.Sem
open Cert.FfnOutRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S1024x2816 .bf16) (x1 : Vec Ideal S2816x1024 .bf16) (i : Fin 1024) (j : Fin 1024) :
    out0_2 x0 x1 (ix2 i j) = ((∑ k : Fin 2816, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 2816) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 2816) (j : Fin 1024) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x2816 .bf16) (x1 : FVec Ideal S2816x1024 .bf16) (r : Fin 9216) (n : Fin 1024) :
    val_main_v3 (F := Ideal) x0 x1 (ix2 r n) = ((∑ k : Fin 2816, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1024), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.FfnOutIdeal.Value

namespace Cert.Proof

open Idealize.ShloMosaic Idealize.SL.Sem

theorem quiescent_FfnOutRef : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

/-- The kernel's result is the reference's. -/
theorem algebraic_FfnOut : Cert.algebraic_FfnOutIdeal_FfnOutRefIdeal := by
  intro m ρ m' ρ' _ hagree
  refine ⟨fun c => (Cert.FfnOutIdeal.Gen.dats (F := Ideal) m 0 c).arrAt 2 Cert.FfnOutIdeal.cfg0.N,
    Cert.FfnOutIdeal.Value.run_blocks (F := Ideal) m ρ, ?_⟩
  refine (θ_run Cert.FfnOutRefIdeal.defs _ _).mono (fun r h c => ⟨?_, (h c).2⟩) (Cert.FfnOutRefIdeal.Value.run (F := Ideal) m' ρ')
  obtain ⟨g0, g1⟩ := hagree c
  refine (h c).1.trans ((Cert.FfnOutRefIdeal.Read.val_main_v3_eq _ _).trans ?_)
  rw [g0, g1]
  exact (Cert.FfnOutIdeal.Value.final m c).symm

end Cert.Proof

end
-- ==== Proof.FfnDactValue.lean ====
module

public import proofs.«01_k».proof.Defs
public import proofs.«01_k».proof.Proof.Products
public import proofs.«01_k».proof.Proof.Gen.FfnDact
public import proofs.«01_k».proof.Proof.Gen.FfnDact.Skeleton
public import proofs.«01_k».proof.Proof.Gen.FfnDact.Launch
public import proofs.«01_k».proof.Proof.Gen.FfnDact.Points
public import proofs.«01_k».proof.Proof.Gen.FfnDact.Frame
public import proofs.«01_k».proof.Proof.Gen.FfnDactIdeal.Value
public import proofs.«01_k».proof.Proof.Gen.FfnDactRefIdeal.Read
public import Idealize.ShloMosaic.Lib.Pipeline.ValueKit
public import Idealize.ShloMosaic.Lib.Claim

@[expose] public section

set_option maxRecDepth 16384

noncomputable section

/-!
# The gradient of the feed-forward block's inner activation

The kernel multiplies a block of rows by a block of columns at each grid point; the blocks together are the product.
-/

namespace Cert.FfnDactIdeal.Value

open Cert.FfnDactIdeal Cert.FfnDactIdeal.Gen Idealize.ShloMosaic Idealize.ShloMosaic.TcCoe Idealize.SL.Sem
open Cert.FfnDactRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem lt_points (t : Fin cfg0.N) : t.val < 18 := lt_of_lt_of_eq t.isLt (show cfg0.N = 18 from N_0)

/-- A grid point's row of the product. -/
def row (t : Fin cfg0.N) (i : Fin 1024) : Fin 9216 := ⟨t.val / 2 * 1024 + i.val, by have := lt_points t; omega⟩

/-- A grid point's column of the product. -/
def clm (t : Fin cfg0.N) (j : Fin 1408) : Fin 2816 := ⟨t.val % 2 * 1408 + j.val, by omega⟩

/-- One block of the product. -/
theorem block (x0 : Vec Ideal S1024x1024 .bf16) (x1 : Vec Ideal S1024x1408 .bf16) (i : Fin 1024) (j : Fin 1408) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 1408) :
    iblk m c 1 t (ix2 k j) = m ((c : Thread nD τ).loc main_arg1) (ix2 (clm t j) k) := by
  blk_simp [iblk, idx t]
  entry_read
  pointwise
  unfold clm
  blk_ext [idx t]

/-- The reference at a row and a column. -/
theorem ref_at (x0 : FVec Ideal S4x2304x1024 .bf16) (x1 : FVec Ideal S2816x1024 .bf16) (r : Fin 9216) (n : Fin 2816) :
    val_main_v5 (F := Ideal) x0 x1 (ix2 r n) = ((∑ k : Fin 1024, x0 (ix3 (sam r) (pos r) k) * x1 (ix2 n k)) : EReal) := by
  unfold sam pos
  pointwise [val_main_cst, val_main_v0, val_main_v1, val_main_v2, val_main_v3, val_main_v4, val_main_v5]

/-- The whole product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1408), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.FfnDactIdeal.Value

namespace Cert.Proof

open Idealize.ShloMosaic Idealize.SL.Sem

theorem quiescent_FfnDactRef : Cert.quiescent_FfnDactRefIdeal := fun m ρ _ =>
  (θ_run Cert.FfnDactRefIdeal.defs _ _).mono (fun r h => ⟨fun c => (h c).2, sem_eq_zero_of_no_sems (by decide) r.2⟩)
    (Cert.FfnDactRefIdeal.Value.run (F := Ideal) m ρ)

/-- The kernel's result is the reference's. -/
theorem algebraic_FfnDact : Cert.algebraic_FfnDactIdeal_FfnDactRefIdeal := by
  intro m ρ m' ρ' _ hagree
  refine ⟨fun c => (Cert.FfnDactIdeal.Gen.dats (F := Ideal) m 0 c).arrAt 2 Cert.FfnDactIdeal.cfg0.N,
    Cert.FfnDactIdeal.Value.run_blocks (F := Ideal) m ρ, ?_⟩
  refine (θ_run Cert.FfnDactRefIdeal.defs _ _).mono (fun r h c => ⟨?_, (h c).2⟩) (Cert.FfnDactRefIdeal.Value.run (F := Ideal) m' ρ')
  obtain ⟨g0, g1⟩ := hagree c
  refine (h c).1.trans ((Cert.FfnDactRefIdeal.Read.val_main_v5_eq _ _).trans ?_)
  rw [g0, g1]
  exact (Cert.FfnDactIdeal.Value.final m c).symm

end Cert.Proof

end
-- ==== Proof.FfnDinValue.lean ====
module

public import proofs.«01_k».proof.Defs
public import proofs.«01_k».proof.Proof.Products
public import proofs.«01_k».proof.Proof.Gen.FfnDin
public import proofs.«01_k».proof.Proof.Gen.FfnDin.Skeleton
public import proofs.«01_k».proof.Proof.Gen.FfnDin.Launch
public import proofs.«01_k».proof.Proof.Gen.FfnDin.Points
public import proofs.«01_k».proof.Proof.Gen.FfnDin.Frame
public import proofs.«01_k».proof.Proof.Gen.FfnDinIdeal.Value
public import proofs.«01_k».proof.Proof.Gen.FfnDinRefIdeal.Read
public import Idealize.ShloMosaic.Lib.Pipeline.ValueKit
public import Idealize.ShloMosaic.Lib.Claim

@[expose] public section

set_option maxRecDepth 16384

noncomputable section

/-!
# The gradient of the feed-forward block's input

The gradients of the two branches times their transposed weights, added, block by block.
-/

namespace Cert.FfnDinIdeal.Value

open Cert.FfnDinIdeal Cert.FfnDinIdeal.Gen Idealize.ShloMosaic Idealize.ShloMosaic.TcCoe Idealize.SL.Sem
open Cert.FfnDinRefIdeal.Read (val_main_cst val_main_v0 val_main_v1 val_main_v2 val_main_v3 val_main_v4 val_main_v5 val_main_v6 val_main_v7 val_main_v8 val_main_v9 val_main_v10)
open Cert.Products (sam pos)

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, t.val % 2] ∧ win0_2.index t = ![t.val / 2, 0] ∧ win0_3.index t = ![0, t.val % 2] ∧ win0_4.index t = ![t.val / 2, t.val % 2] :=
  (by decide +kernel : ∀ t : Fin grid0.N, _)

theorem lt_points (t : Fin cfg0.N) : t.val < 36 := lt_of_lt_of_eq t.isLt (show cfg0.N = 36 from N_0)

/-- A grid point's row of the product. -/
def row (t : Fin cfg0.N) (i : Fin 512) : Fin 9216 := ⟨t.val / 2 * 512 + i.val, by have := lt_points t; omega⟩

/-- A grid point's column of the product. -/
def clm (t : Fin cfg0.N) (j : Fin 512) : Fin 1024 := ⟨t.val % 2 * 512 + j.val, by omega⟩

/-- One block of the product. -/
theorem block (x0 : Vec Ideal S512x2816 .bf16) (x1 : Vec Ideal S2816x512 .bf16) (x2 : Vec Ideal S512x2816 .bf16) (x3 : Vec Ideal S2816x512 .bf16) (i : Fin 512) (j : Fin 512) :
    out0_4 x0 x1 x2 x3 (ix2 i j) = ((∑ k : Fin 2816, x0 (ix2 i k) * x1 (ix2 k j)) + (∑ k : Fin 2816, x2 (ix2 i k) * x3 (ix2 k j)) : EReal) := by
  unfold out0_4
  rw [View.canon_cons_unit_lit _ _ _ (by decide), View.ld_unit_lit _ x0 (by decide), View.ld_unit_lit _ x1 (by decide), View.ld_unit_lit _ x2 (by decide), View.ld_unit_lit _ x3 (by decide)]
  pointwise [k0_pay1]

theorem read0 (t : Fin cfg0.N) (i : Fin 512) (k : Fin 2816) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 2816) (j : Fin 512) :
    iblk m c 1 t (ix2 k j) = m ((c : Thread nD τ).loc main_arg2) (ix2 (clm t j) k) := by
  blk_simp [iblk, idx t]
  entry_read
  pointwise
  unfold clm
  blk_ext [idx t]

theorem read2 (t : Fin cfg0.N) (i : Fin 512) (k : Fin 2816) :
    iblk m c 2 t (ix2 i k) = m ((c : Thread nD τ).loc main_arg1) (ix3 (sam (row t i)) (pos (row t i)) k) := by
  blk_simp [iblk, idx t]
  entry_read
  pointwise
  unfold sam pos row
  blk_ext [idx t]

theorem read3 (t : Fin cfg0.N) (k : Fin 2816) (j : Fin 512) :
    iblk m c 3 t (ix2 k j) = m ((c : Thread nD τ).loc main_arg3) (ix2 (clm t j) k) := by
  blk_simp [iblk, idx t]
  entry_read
  pointwise
  unfold clm
  blk_ext [idx t]

/-- The reference at a row and a column. -/
theorem ref_at (x0 : FVec Ideal S4x2304x2816 .bf16) (x1 : FVec Ideal S4x2304x2816 .bf16) (x2 : FVec Ideal S1024x2816 .bf16) (x3 : FVec Ideal S1024x2816 .bf16) (r : Fin 9216) (n : Fin 1024) :
    val_main_v10 (F := Ideal) x0 x1 x2 x3 (ix2 r n) = ((∑ k : Fin 2816, x0 (ix3 (sam r) (pos r) k) * x2 (ix2 n k)) + (∑ k : Fin 2816, x1 (ix3 (sam r) (pos r) k) * x3 (ix2 n k)) : EReal) := by
  unfold sam pos
  pointwise [val_main_cst, val_main_v0, val_main_v1, val_main_v2, val_main_v3, val_main_v4, val_main_v5, val_main_v6, val_main_v7, val_main_v8, val_main_v9, val_main_v10]
  exact add_comm _ _

/-- The whole product. -/
theorem final : (dats m 0 c).arrAt 4 cfg0.N
    = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨i, j, rfl⟩ : ∃ (i : Fin 512) (j : Fin 512), y = ix2 i j := ⟨y 0, y 1, eq_ix2 y⟩
  have e : (win0_4.blk t).view.emb (ix2 i j) = ix2 (row t i) (clm t j) := by
    unfold row clm
    blk_ext [idx t]
  rw [e, block, ref_at]
  exact (congrArg₂ (· + · : EReal → EReal → EReal) (Finset.sum_congr rfl fun k _ => Ideal.mul_congr (read0 m c t i k) (read1 m c t k j)) (Finset.sum_congr rfl fun k _ => Ideal.mul_congr (read2 m c t i k) (read3 m c t k j)))

end Cert.FfnDinIdeal.Value

namespace Cert.Proof

open Idealize.ShloMosaic Idealize.SL.Sem

theorem quiescent_FfnDinRef : Cert.quiescent_FfnDinRefIdeal := fun m ρ _ =>
  (θ_run Cert.FfnDinRefIdeal.defs _ _).mono (fun r h => ⟨fun c => (h c).2, sem_eq_zero_of_no_sems (by decide) r.2⟩)
    (Cert.FfnDinRefIdeal.Value.run (F := Ideal) m ρ)

/-- The kernel's result is the reference's. -/
theorem algebraic_FfnDin : Cert.algebraic_FfnDinIdeal_FfnDinRefIdeal := by
  intro m ρ m' ρ' _ hagree
  refine ⟨fun c => (Cert.FfnDinIdeal.Gen.dats (F := Ideal) m 0 c).arrAt 4 Cert.FfnDinIdeal.cfg0.N,
    Cert.FfnDinIdeal.Value.run_blocks (F := Ideal) m ρ, ?_⟩
  refine (θ_run Cert.FfnDinRefIdeal.defs _ _).mono (fun r h c => ⟨?_, (h c).2⟩) (Cert.FfnDinRefIdeal.Value.run (F := Ideal) m' ρ')
  obtain ⟨g0, g1, g2, g3⟩ := hagree c
  refine (h c).1.trans ((Cert.FfnDinRefIdeal.Read.val_main_v10_eq _ _ _ _).trans ?_)
  rw [g0, g1, g2, g3]
  exact (Cert.FfnDinIdeal.Value.final m c).symm

end Cert.Proof

end
-- ==== Proof.FfnDwValue.lean ====
module

public import proofs.«01_k».proof.Defs
public import proofs.«01_k».proof.Proof.Products
public import proofs.«01_k».proof.Proof.Gen.FfnDw
public import proofs.«01_k».proof.Proof.Gen.FfnDw.Skeleton
public import proofs.«01_k».proof.Proof.Gen.FfnDw.Launch
public import proofs.«01_k».proof.Proof.Gen.FfnDw.Points
public import proofs.«01_k».proof.Proof.Gen.FfnDw.Frame
public import proofs.«01_k».proof.Proof.Gen.FfnDwIdeal.Value
public import proofs.«01_k».proof.Proof.Gen.FfnDwRefIdeal.Read
public import Idealize.ShloMosaic.Lib.Pipeline.ValueKit
public import Idealize.ShloMosaic.Lib.Claim

@[expose] public section

set_option maxRecDepth 16384

noncomputable section

/-!
# The gradient of the weights into the feed-forward block

At each grid point one sample's rows are multiplied and added to a block of the gradient; a block's first sample sets it.
-/

namespace Cert.FfnDwIdeal.Value

open Cert.FfnDwIdeal Cert.FfnDwIdeal.Gen Idealize.ShloMosaic Idealize.ShloMosaic.TcCoe Idealize.SL.Sem
open Cert.FfnDwRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem lt_points (t : Fin cfg0.N) : t.val < 8 := lt_of_lt_of_eq t.isLt (show cfg0.N = 8 from N_0)

/-- A grid point's sample. -/
def smp (t : Fin cfg0.N) : Fin 4 := ⟨t.val % 4, by omega⟩

/-- A grid point's row of the product. -/
def row (t : Fin cfg0.N) (i : Fin 1024) : Fin 1024 := ⟨t.val / 8 * 1024 + i.val, by have := lt_points t; omega⟩

/-- A grid point's column of the product. -/
def clm (t : Fin cfg0.N) (j : Fin 1408) : Fin 2816 := ⟨t.val / 4 % 2 * 1408 + j.val, by omega⟩

section point

variable (t : Fin cfg0.N) (x0 : Vec Ideal S2304x1024 .bf16) (x1 : Vec Ideal S2304x1408 .bf16) (o : Vec Ideal S1024x1408 .f32)

/-- What a sample adds to an entry of the product. -/
def part (x0 : Vec Ideal S2304x1024 .bf16) (x1 : Vec Ideal S2304x1408 .bf16) (y : S1024x1408.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x1408.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 1408), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x1408.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 1408), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 1408) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 8 * 1024 + i.val = t.val / 8 * 1024 + i.val; omega)

theorem clm_run (t t' : Fin cfg0.N) (b : Fin 4) (h : t'.val = 4 * (t.val / 4) + b.val) (j : Fin 1408) :
    clm t' j = clm t j := Fin.ext (by show t'.val / 4 % 2 * 1408 + j.val = t.val / 4 % 2 * 1408 + j.val; omega)

/-- The reference at a row and a column. -/
theorem ref_at (x0 : FVec Ideal S4x2304x1024 .bf16) (x1 : FVec Ideal S4x2304x2816 .bf16) (r : Fin 1024) (n : Fin 2816) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 1408), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.FfnDwIdeal.Value

namespace Cert.Proof

open Idealize.ShloMosaic Idealize.SL.Sem

theorem quiescent_FfnDwRef : Cert.quiescent_FfnDwRefIdeal := fun m ρ _ =>
  (θ_run Cert.FfnDwRefIdeal.defs _ _).mono (fun r h => ⟨fun c => (h c).2, sem_eq_zero_of_no_sems (by decide) r.2⟩)
    (Cert.FfnDwRefIdeal.Value.run (F := Ideal) m ρ)

/-- The kernel's result is the reference's. -/
theorem algebraic_FfnDw : Cert.algebraic_FfnDwIdeal_FfnDwRefIdeal := by
  intro m ρ m' ρ' _ hagree
  refine ⟨fun c => (Cert.FfnDwIdeal.Gen.dats (F := Ideal) m 0 c).arrAt 2 Cert.FfnDwIdeal.cfg0.N,
    Cert.FfnDwIdeal.Value.run_blocks (F := Ideal) m ρ, ?_⟩
  refine (θ_run Cert.FfnDwRefIdeal.defs _ _).mono (fun r h c => ⟨?_, (h c).2⟩) (Cert.FfnDwRefIdeal.Value.run (F := Ideal) m' ρ')
  obtain ⟨g0, g1⟩ := hagree c
  refine (h c).1.trans ((Cert.FfnDwRefIdeal.Read.val_main_v5_eq _ _).trans ?_)
  rw [g0, g1]
  exact (Cert.FfnDwIdeal.Value.final m c).symm

end Cert.Proof

end
-- ==== Proof.FfnDwDownValue.lean ====
module

public import proofs.«01_k».proof.Defs
public import proofs.«01_k».proof.Proof.Products
public import proofs.«01_k».proof.Proof.Gen.FfnDwDown
public import proofs.«01_k».proof.Proof.Gen.FfnDwDown.Skeleton
public import proofs.«01_k».proof.Proof.Gen.FfnDwDown.Launch
public import proofs.«01_k».proof.Proof.Gen.FfnDwDown.Points
public import proofs.«01_k».proof.Proof.Gen.FfnDwDown.Frame
public import proofs.«01_k».proof.Proof.Gen.FfnDwDownIdeal.Value
public import proofs.«01_k».proof.Proof.Gen.FfnDwDownRefIdeal.Read
public import Idealize.ShloMosaic.Lib.Pipeline.ValueKit
public import Idealize.ShloMosaic.Lib.Claim

@[expose] public section

set_option maxRecDepth 16384

noncomputable section

/-!
# The gradient of the weights out of the feed-forward block

At each grid point one sample's rows are multiplied and added to a block of the gradient; a block's first sample sets it.
-/

namespace Cert.FfnDwDownIdeal.Value

open Cert.FfnDwDownIdeal Cert.FfnDwDownIdeal.Gen Idealize.ShloMosaic Idealize.ShloMosaic.TcCoe Idealize.SL.Sem
open Cert.FfnDwDownRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 8 := lt_of_lt_of_eq t.isLt (show cfg0.N = 8 from N_0)

/-- A grid point's sample. -/
def smp (t : Fin cfg0.N) : Fin 4 := ⟨t.val % 4, by omega⟩

/-- A grid point's row of the product. -/
def row (t : Fin cfg0.N) (i : Fin 1408) : Fin 2816 := ⟨t.val / 4 * 1408 + i.val, by have := lt_points t; omega⟩

/-- A grid point's column of the product. -/
def clm (t : Fin cfg0.N) (j : Fin 1024) : Fin 1024 := ⟨t.val / 4 % 1 * 1024 + j.val, by omega⟩

section point

variable (t : Fin cfg0.N) (x0 : Vec Ideal S2304x1408 .bf16) (x1 : Vec Ideal S2304x1024 .bf16) (o : Vec Ideal S1408x1024 .f32)

/-- What a sample adds to an entry of the product. -/
def part (x0 : Vec Ideal S2304x1408 .bf16) (x1 : Vec Ideal S2304x1024 .bf16) (y : S1408x1024.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1408x1024.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1408) (j : Fin 1024), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1408x1024.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1408) (j : Fin 1024), y = ix2 i j := ⟨y 0, y 1, eq_ix2 y⟩
  unfold part
  pointwise [k0_pay1, k0_pay2]

end point

theorem read0 (t : Fin cfg0.N) (s : Fin 2304) (i : Fin 1408) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 1024) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1408) :
    row t' i = row t i := Fin.ext (by show t'.val / 4 * 1408 + i.val = t.val / 4 * 1408 + i.val; omega)

theorem clm_run (t t' : Fin cfg0.N) (b : Fin 4) (h : t'.val = 4 * (t.val / 4) + b.val) (j : Fin 1024) :
    clm t' j = clm t j := Fin.ext (by show t'.val / 4 % 1 * 1024 + j.val = t.val / 4 % 1 * 1024 + j.val; omega)

/-- The reference at a row and a column. -/
theorem ref_at (x0 : FVec Ideal S4x2304x2816 .bf16) (x1 : FVec Ideal S4x2304x1024 .bf16) (r : Fin 2816) (n : Fin 1024) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1408) (j : Fin 1024), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.FfnDwDownIdeal.Value

namespace Cert.Proof

open Idealize.ShloMosaic Idealize.SL.Sem

theorem quiescent_FfnDwDownRef : Cert.quiescent_FfnDwDownRefIdeal := fun m ρ _ =>
  (θ_run Cert.FfnDwDownRefIdeal.defs _ _).mono (fun r h => ⟨fun c => (h c).2, sem_eq_zero_of_no_sems (by decide) r.2⟩)
    (Cert.FfnDwDownRefIdeal.Value.run (F := Ideal) m ρ)

/-- The kernel's result is the reference's. -/
theorem algebraic_FfnDwDown : Cert.algebraic_FfnDwDownIdeal_FfnDwDownRefIdeal := by
  intro m ρ m' ρ' _ hagree
  refine ⟨fun c => (Cert.FfnDwDownIdeal.Gen.dats (F := Ideal) m 0 c).arrAt 2 Cert.FfnDwDownIdeal.cfg0.N,
    Cert.FfnDwDownIdeal.Value.run_blocks (F := Ideal) m ρ, ?_⟩
  refine (θ_run Cert.FfnDwDownRefIdeal.defs _ _).mono (fun r h c => ⟨?_, (h c).2⟩) (Cert.FfnDwDownRefIdeal.Value.run (F := Ideal) m' ρ')
  obtain ⟨g0, g1⟩ := hagree c
  refine (h c).1.trans ((Cert.FfnDwDownRefIdeal.Read.val_main_v5_eq _ _).trans ?_)
  rw [g0, g1]
  exact (Cert.FfnDwDownIdeal.Value.final m c).symm

end Cert.Proof

end
-- ==== Proof.EvInValue.lean ====
module

public import proofs.«01_k».proof.Defs
public import proofs.«01_k».proof.Proof.Products
public import proofs.«01_k».proof.Proof.Gen.EvIn
public import proofs.«01_k».proof.Proof.Gen.EvIn.Skeleton
public import proofs.«01_k».proof.Proof.Gen.EvIn.Launch
public import proofs.«01_k».proof.Proof.Gen.EvIn.Points
public import proofs.«01_k».proof.Proof.Gen.EvIn.Frame
public import proofs.«01_k».proof.Proof.Gen.EvInIdeal.Value
public import proofs.«01_k».proof.Proof.Gen.EvInRefIdeal.Read
public import Idealize.ShloMosaic.Lib.Pipeline.ValueKit
public import Idealize.ShloMosaic.Lib.Claim

@[expose] public section

set_option maxRecDepth 16384

noncomputable section

/-!
# The even layers' projections of width 1024

The kernel multiplies a block of rows by a block of columns at each grid point; the blocks together are the product.
-/

namespace Cert.EvInIdeal.Value

open Cert.EvInIdeal Cert.EvInIdeal.Gen Idealize.ShloMosaic Idealize.ShloMosaic.TcCoe Idealize.SL.Sem
open Cert.EvInRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S1024x1024 .bf16) (x1 : Vec Ideal S1024x1024 .bf16) (i : Fin 1024) (j : Fin 1024) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 1024) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x1024 .bf16) (r : Fin 9216) (n : Fin 1024) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1024), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.EvInIdeal.Value

namespace Cert.Proof

open Idealize.ShloMosaic Idealize.SL.Sem

theorem quiescent_EvInRef : Cert.quiescent_EvInRefIdeal := fun m ρ _ =>
  (θ_run Cert.EvInRefIdeal.defs _ _).mono (fun r h => ⟨fun c => (h c).2, sem_eq_zero_of_no_sems (by decide) r.2⟩)
    (Cert.EvInRefIdeal.Value.run (F := Ideal) m ρ)

/-- The kernel's result is the reference's. -/
theorem algebraic_EvIn : Cert.algebraic_EvInIdeal_EvInRefIdeal := by
  intro m ρ m' ρ' _ hagree
  refine ⟨fun c => (Cert.EvInIdeal.Gen.dats (F := Ideal) m 0 c).arrAt 2 Cert.EvInIdeal.cfg0.N,
    Cert.EvInIdeal.Value.run_blocks (F := Ideal) m ρ, ?_⟩
  refine (θ_run Cert.EvInRefIdeal.defs _ _).mono (fun r h c => ⟨?_, (h c).2⟩) (Cert.EvInRefIdeal.Value.run (F := Ideal) m' ρ')
  obtain ⟨g0, g1⟩ := hagree c
  refine (h c).1.trans ((Cert.EvInRefIdeal.Read.val_main_v3_eq _ _).trans ?_)
  rw [g0, g1]
  exact (Cert.EvInIdeal.Value.final m c).symm

end Cert.Proof

end
-- ==== Proof.EvXbcValue.lean ====
module

public import proofs.«01_k».proof.Defs
public import proofs.«01_k».proof.Proof.Products
public import proofs.«01_k».proof.Proof.Gen.EvXbc
public import proofs.«01_k».proof.Proof.Gen.EvXbc.Skeleton
public import proofs.«01_k».proof.Proof.Gen.EvXbc.Launch
public import proofs.«01_k».proof.Proof.Gen.EvXbc.Points
public import proofs.«01_k».proof.Proof.Gen.EvXbc.Frame
public import proofs.«01_k».proof.Proof.Gen.EvXbcIdeal.Value
public import proofs.«01_k».proof.Proof.Gen.EvXbcRefIdeal.Read
public import Idealize.ShloMosaic.Lib.Pipeline.ValueKit
public import Idealize.ShloMosaic.Lib.Claim

@[expose] public section

set_option maxRecDepth 16384

noncomputable section

/-!
# The even layers' projection of width 1536

The kernel multiplies a block of rows by a block of columns at each grid point; the blocks together are the product.
-/

namespace Cert.EvXbcIdeal.Value

open Cert.EvXbcIdeal Cert.EvXbcIdeal.Gen Idealize.ShloMosaic Idealize.ShloMosaic.TcCoe Idealize.SL.Sem
open Cert.EvXbcRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem lt_points (t : Fin cfg0.N) : t.val < 18 := lt_of_lt_of_eq t.isLt (show cfg0.N = 18 from N_0)

/-- A grid point's row of the product. -/
def row (t : Fin cfg0.N) (i : Fin 1024) : Fin 9216 := ⟨t.val / 2 * 1024 + i.val, by have := lt_points t; omega⟩

/-- A grid point's column of the product. -/
def clm (t : Fin cfg0.N) (j : Fin 768) : Fin 1536 := ⟨t.val % 2 * 768 + j.val, by omega⟩

/-- One block of the product. -/
theorem block (x0 : Vec Ideal S1024x1024 .bf16) (x1 : Vec Ideal S1024x768 .bf16) (i : Fin 1024) (j : Fin 768) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 768) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x1536 .bf16) (r : Fin 9216) (n : Fin 1536) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.EvXbcIdeal.Value

namespace Cert.Proof

open Idealize.ShloMosaic Idealize.SL.Sem

theorem quiescent_EvXbcRef : Cert.quiescent_EvXbcRefIdeal := fun m ρ _ =>
  (θ_run Cert.EvXbcRefIdeal.defs _ _).mono (fun r h => ⟨fun c => (h c).2, sem_eq_zero_of_no_sems (by decide) r.2⟩)
    (Cert.EvXbcRefIdeal.Value.run (F := Ideal) m ρ)

/-- The kernel's result is the reference's. -/
theorem algebraic_EvXbc : Cert.algebraic_EvXbcIdeal_EvXbcRefIdeal := by
  intro m ρ m' ρ' _ hagree
  refine ⟨fun c => (Cert.EvXbcIdeal.Gen.dats (F := Ideal) m 0 c).arrAt 2 Cert.EvXbcIdeal.cfg0.N,
    Cert.EvXbcIdeal.Value.run_blocks (F := Ideal) m ρ, ?_⟩
  refine (θ_run Cert.EvXbcRefIdeal.defs _ _).mono (fun r h c => ⟨?_, (h c).2⟩) (Cert.EvXbcRefIdeal.Value.run (F := Ideal) m' ρ')
  obtain ⟨g0, g1⟩ := hagree c
  refine (h c).1.trans ((Cert.EvXbcRefIdeal.Read.val_main_v3_eq _ _).trans ?_)
  rw [g0, g1]
  exact (Cert.EvXbcIdeal.Value.final m c).symm

end Cert.Proof

end
-- ==== Proof.OdInValue.lean ====
module

public import proofs.«01_k».proof.Defs
public import proofs.«01_k».proof.Proof.Products
public import proofs.«01_k».proof.Proof.Gen.OdIn
public import proofs.«01_k».proof.Proof.Gen.OdIn.Skeleton
public import proofs.«01_k».proof.Proof.Gen.OdIn.Launch
public import proofs.«01_k».proof.Proof.Gen.OdIn.Points
public import proofs.«01_k».proof.Proof.Gen.OdIn.Frame
public import proofs.«01_k».proof.Proof.Gen.OdInIdeal.Value
public import proofs.«01_k».proof.Proof.Gen.OdInRefIdeal.Read
public import Idealize.ShloMosaic.Lib.Pipeline.ValueKit
public import Idealize.ShloMosaic.Lib.Claim

@[expose] public section

set_option maxRecDepth 16384

noncomputable section

/-!
# The odd layers' projections of width 768

The kernel multiplies a block of rows by a block of columns at each grid point; the blocks together are the product.
-/

namespace Cert.OdInIdeal.Value

open Cert.OdInIdeal Cert.OdInIdeal.Gen Idealize.ShloMosaic Idealize.ShloMosaic.TcCoe Idealize.SL.Sem
open Cert.OdInRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 768) : Fin 768 := ⟨t.val % 1 * 768 + j.val, by omega⟩

/-- One block of the product. -/
theorem block (x0 : Vec Ideal S1024x1024 .bf16) (x1 : Vec Ideal S1024x768 .bf16) (i : Fin 1024) (j : Fin 768) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 768) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x768 .bf16) (r : Fin 9216) (n : Fin 768) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.OdInIdeal.Value

namespace Cert.Proof

open Idealize.ShloMosaic Idealize.SL.Sem

theorem quiescent_OdInRef : Cert.quiescent_OdInRefIdeal := fun m ρ _ =>
  (θ_run Cert.OdInRefIdeal.defs _ _).mono (fun r h => ⟨fun c => (h c).2, sem_eq_zero_of_no_sems (by decide) r.2⟩)
    (Cert.OdInRefIdeal.Value.run (F := Ideal) m ρ)

/-- The kernel's result is the reference's. -/
theorem algebraic_OdIn : Cert.algebraic_OdInIdeal_OdInRefIdeal := by
  intro m ρ m' ρ' _ hagree
  refine ⟨fun c => (Cert.OdInIdeal.Gen.dats (F := Ideal) m 0 c).arrAt 2 Cert.OdInIdeal.cfg0.N,
    Cert.OdInIdeal.Value.run_blocks (F := Ideal) m ρ, ?_⟩
  refine (θ_run Cert.OdInRefIdeal.defs _ _).mono (fun r h c => ⟨?_, (h c).2⟩) (Cert.OdInRefIdeal.Value.run (F := Ideal) m' ρ')
  obtain ⟨g0, g1⟩ := hagree c
  refine (h c).1.trans ((Cert.OdInRefIdeal.Read.val_main_v3_eq _ _).trans ?_)
  rw [g0, g1]
  exact (Cert.OdInIdeal.Value.final m c).symm

end Cert.Proof

end
-- ==== Proof.OdUValue.lean ====
module

public import proofs.«01_k».proof.Defs
public import proofs.«01_k».proof.Proof.Products
public import proofs.«01_k».proof.Proof.Gen.OdU
public import proofs.«01_k».proof.Proof.Gen.OdU.Skeleton
public import proofs.«01_k».proof.Proof.Gen.OdU.Launch
public import proofs.«01_k».proof.Proof.Gen.OdU.Points
public import proofs.«01_k».proof.Proof.Gen.OdU.Frame
public import proofs.«01_k».proof.Proof.Gen.OdUIdeal.Value
public import proofs.«01_k».proof.Proof.Gen.OdURefIdeal.Read
public import Idealize.ShloMosaic.Lib.Pipeline.ValueKit
public import Idealize.ShloMosaic.Lib.Claim

@[expose] public section

set_option maxRecDepth 16384

noncomputable section

/-!
# The odd layers' projection of width 256

The kernel multiplies a block of rows by a block of columns at each grid point; the blocks together are the product.
-/

namespace Cert.OdUIdeal.Value

open Cert.OdUIdeal Cert.OdUIdeal.Gen Idealize.ShloMosaic Idealize.ShloMosaic.TcCoe Idealize.SL.Sem
open Cert.OdURefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 256) : Fin 256 := ⟨t.val % 1 * 256 + j.val, by omega⟩

/-- One block of the product. -/
theorem block (x0 : Vec Ideal S1024x1024 .bf16) (x1 : Vec Ideal S1024x256 .bf16) (i : Fin 1024) (j : Fin 256) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 256) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x256 .bf16) (r : Fin 9216) (n : Fin 256) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 256), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.OdUIdeal.Value

namespace Cert.Proof

open Idealize.ShloMosaic Idealize.SL.Sem

theorem quiescent_OdURef : Cert.quiescent_OdURefIdeal := fun m ρ _ =>
  (θ_run Cert.OdURefIdeal.defs _ _).mono (fun r h => ⟨fun c => (h c).2, sem_eq_zero_of_no_sems (by decide) r.2⟩)
    (Cert.OdURefIdeal.Value.run (F := Ideal) m ρ)

/-- The kernel's result is the reference's. -/
theorem algebraic_OdU : Cert.algebraic_OdUIdeal_OdURefIdeal := by
  intro m ρ m' ρ' _ hagree
  refine ⟨fun c => (Cert.OdUIdeal.Gen.dats (F := Ideal) m 0 c).arrAt 2 Cert.OdUIdeal.cfg0.N,
    Cert.OdUIdeal.Value.run_blocks (F := Ideal) m ρ, ?_⟩
  refine (θ_run Cert.OdURefIdeal.defs _ _).mono (fun r h c => ⟨?_, (h c).2⟩) (Cert.OdURefIdeal.Value.run (F := Ideal) m' ρ')
  obtain ⟨g0, g1⟩ := hagree c
  refine (h c).1.trans ((Cert.OdURefIdeal.Read.val_main_v3_eq _ _).trans ?_)
  rw [g0, g1]
  exact (Cert.OdUIdeal.Value.final m c).symm

end Cert.Proof

end
-- ==== Proof.EvMixValue.lean ====
module

public import proofs.«01_k».proof.Defs
public import proofs.«01_k».proof.Proof.Products
public import proofs.«01_k».proof.Proof.Gen.EvMix
public import proofs.«01_k».proof.Proof.Gen.EvMix.Skeleton
public import proofs.«01_k».proof.Proof.Gen.EvMix.Launch
public import proofs.«01_k».proof.Proof.Gen.EvMix.Points
public import proofs.«01_k».proof.Proof.Gen.EvMix.Frame
public import proofs.«01_k».proof.Proof.Gen.EvMixIdeal.Value
public import proofs.«01_k».proof.Proof.Gen.EvMixRefIdeal.Read
public import Idealize.ShloMosaic.Lib.Pipeline.ValueKit
public import Idealize.ShloMosaic.Lib.Claim

@[expose] public section

set_option maxRecDepth 16384

noncomputable section

/-!
# The even layers' projection out of the mixer

The two outputs of the mixer times the weights' upper and lower rows, added: the concatenated outputs times the weights.
-/

namespace Cert.EvMixIdeal.Value

open Cert.EvMixIdeal Cert.EvMixIdeal.Gen Idealize.ShloMosaic Idealize.ShloMosaic.TcCoe Idealize.SL.Sem
open Cert.EvMixRefIdeal.Read (val_main_v0 val_main_v1 val_main_v2 val_main_v3 val_main_v4)
open Cert.Products (sam pos sum_append)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, 0] ∧ win0_3.index t = ![0, t.val % 1] ∧ win0_4.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S1024x1024 .bf16) (x1 : Vec Ideal S1024x1024 .bf16) (x2 : Vec Ideal S1024x1024 .bf16) (x3 : Vec Ideal S1024x1024 .bf16) (i : Fin 1024) (j : Fin 1024) :
    out0_4 x0 x1 x2 x3 (ix2 i j) = ((∑ k : Fin 1024, x0 (ix2 i k) * x1 (ix2 k j)) + (∑ k : Fin 1024, x2 (ix2 i k) * x3 (ix2 k j)) : EReal) := by
  unfold out0_4
  rw [View.canon_cons_unit_lit _ _ _ (by decide), View.ld_unit_lit _ x0 (by decide), View.ld_unit_lit _ x1 (by decide), View.ld_unit_lit _ x2 (by decide), View.ld_unit_lit _ x3 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 1024) :
    iblk m c 1 t (ix2 k j) = m ((c : Thread nD τ).loc main_arg2) (ix2 (⟨k.val, by omega⟩ : Fin 2048) (clm t j)) := by
  blk_simp [iblk, idx t]
  entry_read
  pointwise
  unfold clm
  blk_ext [idx t]

theorem read2 (t : Fin cfg0.N) (i : Fin 1024) (k : Fin 1024) :
    iblk m c 2 t (ix2 i k) = m ((c : Thread nD τ).loc main_arg1) (ix3 (sam (row t i)) (pos (row t i)) k) := by
  blk_simp [iblk, idx t]
  entry_read
  pointwise
  unfold sam pos row
  blk_ext [idx t]

theorem read3 (t : Fin cfg0.N) (k : Fin 1024) (j : Fin 1024) :
    iblk m c 3 t (ix2 k j) = m ((c : Thread nD τ).loc main_arg2) (ix2 (⟨1024 + k.val, by omega⟩ : Fin 2048) (clm t j)) := by
  blk_simp [iblk, idx t]
  entry_read
  pointwise
  unfold clm
  blk_ext [idx t]

/-- The reference at a row and a column. -/
theorem ref_at (x0 : FVec Ideal S4x2304x1024 .bf16) (x1 : FVec Ideal S4x2304x1024 .bf16) (x2 : FVec Ideal S2048x1024 .bf16) (r : Fin 9216) (n : Fin 1024) :
    val_main_v4 (F := Ideal) x0 x1 x2 (ix2 r n) = ((∑ k : Fin 1024, x0 (ix3 (sam r) (pos r) k) * x2 (ix2 (⟨k.val, by omega⟩ : Fin 2048) n)) + (∑ k : Fin 1024, x1 (ix3 (sam r) (pos r) k) * x2 (ix2 (⟨1024 + k.val, by omega⟩ : Fin 2048) n)) : EReal) := by
  unfold sam pos
  pointwise [val_main_v0, val_main_v1, val_main_v2, val_main_v3, val_main_v4]

/-- The whole product. -/
theorem final : (dats m 0 c).arrAt 4 cfg0.N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨i, j, rfl⟩ : ∃ (i : Fin 1024) (j : Fin 1024), y = ix2 i j := ⟨y 0, y 1, eq_ix2 y⟩
  have e : (win0_4.blk t).view.emb (ix2 i j) = ix2 (row t i) (clm t j) := by
    unfold row clm
    blk_ext [idx t]
  rw [e, block, ref_at]
  exact (congrArg₂ (· + · : EReal → EReal → EReal) (Finset.sum_congr rfl fun k _ => Ideal.mul_congr (read0 m c t i k) (read1 m c t k j))
    (Finset.sum_congr rfl fun k _ => Ideal.mul_congr (read2 m c t i k) (read3 m c t k j)))

end Cert.EvMixIdeal.Value

namespace Cert.Proof

open Idealize.ShloMosaic Idealize.SL.Sem

theorem quiescent_EvMixRef : Cert.quiescent_EvMixRefIdeal := fun m ρ _ =>
  (θ_run Cert.EvMixRefIdeal.defs _ _).mono (fun r h => ⟨fun c => (h c).2, sem_eq_zero_of_no_sems (by decide) r.2⟩)
    (Cert.EvMixRefIdeal.Value.run (F := Ideal) m ρ)

/-- The kernel's result is the reference's. -/
theorem algebraic_EvMix : Cert.algebraic_EvMixIdeal_EvMixRefIdeal := by
  intro m ρ m' ρ' _ hagree
  refine ⟨fun c => (Cert.EvMixIdeal.Gen.dats (F := Ideal) m 0 c).arrAt 4 Cert.EvMixIdeal.cfg0.N,
    Cert.EvMixIdeal.Value.run_blocks (F := Ideal) m ρ, ?_⟩
  refine (θ_run Cert.EvMixRefIdeal.defs _ _).mono (fun r h c => ⟨?_, (h c).2⟩) (Cert.EvMixRefIdeal.Value.run (F := Ideal) m' ρ')
  obtain ⟨g0, g1, g2⟩ := hagree c
  refine (h c).1.trans ((Cert.EvMixRefIdeal.Read.val_main_v4_eq _ _ _).trans ?_)
  rw [g0, g1, g2]
  exact (Cert.EvMixIdeal.Value.final m c).symm

end Cert.Proof

end
-- ==== Proof.OdMixValue.lean ====
module

public import proofs.«01_k».proof.Defs
public import proofs.«01_k».proof.Proof.Products
public import proofs.«01_k».proof.Proof.Gen.OdMix
public import proofs.«01_k».proof.Proof.Gen.OdMix.Skeleton
public import proofs.«01_k».proof.Proof.Gen.OdMix.Launch
public import proofs.«01_k».proof.Proof.Gen.OdMix.Points
public import proofs.«01_k».proof.Proof.Gen.OdMix.Frame
public import proofs.«01_k».proof.Proof.Gen.OdMixIdeal.Value
public import proofs.«01_k».proof.Proof.Gen.OdMixRefIdeal.Read
public import Idealize.ShloMosaic.Lib.Pipeline.ValueKit
public import Idealize.ShloMosaic.Lib.Claim

@[expose] public section

set_option maxRecDepth 16384

noncomputable section

/-!
# The odd layers' projection out of the mixer

The two outputs of the mixer times the weights' upper and lower rows, added: the concatenated outputs times the weights.
-/

namespace Cert.OdMixIdeal.Value

open Cert.OdMixIdeal Cert.OdMixIdeal.Gen Idealize.ShloMosaic Idealize.ShloMosaic.TcCoe Idealize.SL.Sem
open Cert.OdMixRefIdeal.Read (val_main_v0 val_main_v1 val_main_v2 val_main_v3 val_main_v4)
open Cert.Products (sam pos sum_append)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, 0] ∧ win0_3.index t = ![0, t.val % 1] ∧ win0_4.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S1024x768 .bf16) (x1 : Vec Ideal S768x1024 .bf16) (x2 : Vec Ideal S1024x256 .bf16) (x3 : Vec Ideal S256x1024 .bf16) (i : Fin 1024) (j : Fin 1024) :
    out0_4 x0 x1 x2 x3 (ix2 i j) = ((∑ k : Fin 768, x0 (ix2 i k) * x1 (ix2 k j)) + (∑ k : Fin 256, x2 (ix2 i k) * x3 (ix2 k j)) : EReal) := by
  unfold out0_4
  rw [View.canon_cons_unit_lit _ _ _ (by decide), View.ld_unit_lit _ x0 (by decide), View.ld_unit_lit _ x1 (by decide), View.ld_unit_lit _ x2 (by decide), View.ld_unit_lit _ x3 (by decide)]
  pointwise [k0_pay1]

theorem read0 (t : Fin cfg0.N) (i : Fin 1024) (k : Fin 768) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 768) (j : Fin 1024) :
    iblk m c 1 t (ix2 k j) = m ((c : Thread nD τ).loc main_arg2) (ix2 (⟨k.val, by omega⟩ : Fin 1024) (clm t j)) := by
  blk_simp [iblk, idx t]
  entry_read
  pointwise
  unfold clm
  blk_ext [idx t]

theorem read2 (t : Fin cfg0.N) (i : Fin 1024) (k : Fin 256) :
    iblk m c 2 t (ix2 i k) = m ((c : Thread nD τ).loc main_arg1) (ix3 (sam (row t i)) (pos (row t i)) k) := by
  blk_simp [iblk, idx t]
  entry_read
  pointwise
  unfold sam pos row
  blk_ext [idx t]

theorem read3 (t : Fin cfg0.N) (k : Fin 256) (j : Fin 1024) :
    iblk m c 3 t (ix2 k j) = m ((c : Thread nD τ).loc main_arg2) (ix2 (⟨768 + k.val, by omega⟩ : Fin 1024) (clm t j)) := by
  blk_simp [iblk, idx t]
  entry_read
  pointwise
  unfold clm
  blk_ext [idx t]

/-- The reference at a row and a column. -/
theorem ref_at (x0 : FVec Ideal S4x2304x768 .bf16) (x1 : FVec Ideal S4x2304x256 .bf16) (x2 : FVec Ideal S1024x1024 .bf16) (r : Fin 9216) (n : Fin 1024) :
    val_main_v4 (F := Ideal) x0 x1 x2 (ix2 r n) = ((∑ k : Fin 768, x0 (ix3 (sam r) (pos r) k) * x2 (ix2 (⟨k.val, by omega⟩ : Fin 1024) n)) + (∑ k : Fin 256, x1 (ix3 (sam r) (pos r) k) * x2 (ix2 (⟨768 + k.val, by omega⟩ : Fin 1024) n)) : EReal) := by
  unfold sam pos
  pointwise [val_main_v0, val_main_v1, val_main_v2, val_main_v3, val_main_v4]

/-- The whole product. -/
theorem final : (dats m 0 c).arrAt 4 cfg0.N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨i, j, rfl⟩ : ∃ (i : Fin 1024) (j : Fin 1024), y = ix2 i j := ⟨y 0, y 1, eq_ix2 y⟩
  have e : (win0_4.blk t).view.emb (ix2 i j) = ix2 (row t i) (clm t j) := by
    unfold row clm
    blk_ext [idx t]
  rw [e, block, ref_at]
  exact (congrArg₂ (· + · : EReal → EReal → EReal) (Finset.sum_congr rfl fun k _ => Ideal.mul_congr (read0 m c t i k) (read1 m c t k j))
    (Finset.sum_congr rfl fun k _ => Ideal.mul_congr (read2 m c t i k) (read3 m c t k j)))

end Cert.OdMixIdeal.Value

namespace Cert.Proof

open Idealize.ShloMosaic Idealize.SL.Sem

theorem quiescent_OdMixRef : Cert.quiescent_OdMixRefIdeal := fun m ρ _ =>
  (θ_run Cert.OdMixRefIdeal.defs _ _).mono (fun r h => ⟨fun c => (h c).2, sem_eq_zero_of_no_sems (by decide) r.2⟩)
    (Cert.OdMixRefIdeal.Value.run (F := Ideal) m ρ)

/-- The kernel's result is the reference's. -/
theorem algebraic_OdMix : Cert.algebraic_OdMixIdeal_OdMixRefIdeal := by
  intro m ρ m' ρ' _ hagree
  refine ⟨fun c => (Cert.OdMixIdeal.Gen.dats (F := Ideal) m 0 c).arrAt 4 Cert.OdMixIdeal.cfg0.N,
    Cert.OdMixIdeal.Value.run_blocks (F := Ideal) m ρ, ?_⟩
  refine (θ_run Cert.OdMixRefIdeal.defs _ _).mono (fun r h c => ⟨?_, (h c).2⟩) (Cert.OdMixRefIdeal.Value.run (F := Ideal) m' ρ')
  obtain ⟨g0, g1, g2⟩ := hagree c
  refine (h c).1.trans ((Cert.OdMixRefIdeal.Read.val_main_v4_eq _ _ _).trans ?_)
  rw [g0, g1, g2]
  exact (Cert.OdMixIdeal.Value.final m c).symm

end Cert.Proof

end
-- ==== Proof.EvDoutValue.lean ====
module

public import proofs.«01_k».proof.Defs
public import proofs.«01_k».proof.Proof.Products
public import proofs.«01_k».proof.Proof.Gen.EvDout
public import proofs.«01_k».proof.Proof.Gen.EvDout.Skeleton
public import proofs.«01_k».proof.Proof.Gen.EvDout.Launch
public import proofs.«01_k».proof.Proof.Gen.EvDout.Points
public import proofs.«01_k».proof.Proof.Gen.EvDout.Frame
public import proofs.«01_k».proof.Proof.Gen.EvDoutIdeal.Value
public import proofs.«01_k».proof.Proof.Gen.EvDoutRefIdeal.Read
public import Idealize.ShloMosaic.Lib.Pipeline.ValueKit
public import Idealize.ShloMosaic.Lib.Claim

@[expose] public section

set_option maxRecDepth 16384

noncomputable section

/-!
# The gradients of the even layers' two mixer outputs

The kernel multiplies a block of rows by a block of columns at each grid point; the blocks together are the product.
-/

namespace Cert.EvDoutIdeal.Value

open Cert.EvDoutIdeal Cert.EvDoutIdeal.Gen Idealize.ShloMosaic Idealize.ShloMosaic.TcCoe Idealize.SL.Sem
open Cert.EvDoutRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S1024x1024 .bf16) (x1 : Vec Ideal S1024x1024 .bf16) (i : Fin 1024) (j : Fin 1024) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 1024) :
    iblk m c 1 t (ix2 k j) = m ((c : Thread nD τ).loc main_arg1) (ix2 (clm t j) k) := by
  blk_simp [iblk, idx t]
  entry_read
  pointwise
  unfold clm
  blk_ext [idx t]

/-- The reference at a row and a column. -/
theorem ref_at (x0 : FVec Ideal S4x2304x1024 .bf16) (x1 : FVec Ideal S1024x1024 .bf16) (r : Fin 9216) (n : Fin 1024) :
    val_main_v5 (F := Ideal) x0 x1 (ix2 r n) = ((∑ k : Fin 1024, x0 (ix3 (sam r) (pos r) k) * x1 (ix2 n k)) : EReal) := by
  unfold sam pos
  pointwise [val_main_cst, val_main_v0, val_main_v1, val_main_v2, val_main_v3, val_main_v4, val_main_v5]

/-- The whole product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1024), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.EvDoutIdeal.Value

namespace Cert.Proof

open Idealize.ShloMosaic Idealize.SL.Sem

theorem quiescent_EvDoutRef : Cert.quiescent_EvDoutRefIdeal := fun m ρ _ =>
  (θ_run Cert.EvDoutRefIdeal.defs _ _).mono (fun r h => ⟨fun c => (h c).2, sem_eq_zero_of_no_sems (by decide) r.2⟩)
    (Cert.EvDoutRefIdeal.Value.run (F := Ideal) m ρ)

/-- The kernel's result is the reference's. -/
theorem algebraic_EvDout : Cert.algebraic_EvDoutIdeal_EvDoutRefIdeal := by
  intro m ρ m' ρ' _ hagree
  refine ⟨fun c => (Cert.EvDoutIdeal.Gen.dats (F := Ideal) m 0 c).arrAt 2 Cert.EvDoutIdeal.cfg0.N,
    Cert.EvDoutIdeal.Value.run_blocks (F := Ideal) m ρ, ?_⟩
  refine (θ_run Cert.EvDoutRefIdeal.defs _ _).mono (fun r h c => ⟨?_, (h c).2⟩) (Cert.EvDoutRefIdeal.Value.run (F := Ideal) m' ρ')
  obtain ⟨g0, g1⟩ := hagree c
  refine (h c).1.trans ((Cert.EvDoutRefIdeal.Read.val_main_v5_eq _ _).trans ?_)
  rw [g0, g1]
  exact (Cert.EvDoutIdeal.Value.final m c).symm

end Cert.Proof

end
-- ==== Proof.OdDoutValue.lean ====
module

public import proofs.«01_k».proof.Defs
public import proofs.«01_k».proof.Proof.Products
public import proofs.«01_k».proof.Proof.Gen.OdDout
public import proofs.«01_k».proof.Proof.Gen.OdDout.Skeleton
public import proofs.«01_k».proof.Proof.Gen.OdDout.Launch
public import proofs.«01_k».proof.Proof.Gen.OdDout.Points
public import proofs.«01_k».proof.Proof.Gen.OdDout.Frame
public import proofs.«01_k».proof.Proof.Gen.OdDoutIdeal.Value
public import proofs.«01_k».proof.Proof.Gen.OdDoutRefIdeal.Read
public import Idealize.ShloMosaic.Lib.Pipeline.ValueKit
public import Idealize.ShloMosaic.Lib.Claim

@[expose] public section

set_option maxRecDepth 16384

noncomputable section

/-!
# The gradient of the odd layers' first mixer output

The kernel multiplies a block of rows by a block of columns at each grid point; the blocks together are the product.
-/

namespace Cert.OdDoutIdeal.Value

open Cert.OdDoutIdeal Cert.OdDoutIdeal.Gen Idealize.ShloMosaic Idealize.ShloMosaic.TcCoe Idealize.SL.Sem
open Cert.OdDoutRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 768) : Fin 768 := ⟨t.val % 1 * 768 + j.val, by omega⟩

/-- One block of the product. -/
theorem block (x0 : Vec Ideal S1024x1024 .bf16) (x1 : Vec Ideal S1024x768 .bf16) (i : Fin 1024) (j : Fin 768) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 768) :
    iblk m c 1 t (ix2 k j) = m ((c : Thread nD τ).loc main_arg1) (ix2 (clm t j) k) := by
  blk_simp [iblk, idx t]
  entry_read
  pointwise
  unfold clm
  blk_ext [idx t]

/-- The reference at a row and a column. -/
theorem ref_at (x0 : FVec Ideal S4x2304x1024 .bf16) (x1 : FVec Ideal S768x1024 .bf16) (r : Fin 9216) (n : Fin 768) :
    val_main_v5 (F := Ideal) x0 x1 (ix2 r n) = ((∑ k : Fin 1024, x0 (ix3 (sam r) (pos r) k) * x1 (ix2 n k)) : EReal) := by
  unfold sam pos
  pointwise [val_main_cst, val_main_v0, val_main_v1, val_main_v2, val_main_v3, val_main_v4, val_main_v5]

/-- The whole product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.OdDoutIdeal.Value

namespace Cert.Proof

open Idealize.ShloMosaic Idealize.SL.Sem

theorem quiescent_OdDoutRef : Cert.quiescent_OdDoutRefIdeal := fun m ρ _ =>
  (θ_run Cert.OdDoutRefIdeal.defs _ _).mono (fun r h => ⟨fun c => (h c).2, sem_eq_zero_of_no_sems (by decide) r.2⟩)
    (Cert.OdDoutRefIdeal.Value.run (F := Ideal) m ρ)

/-- The kernel's result is the reference's. -/
theorem algebraic_OdDout : Cert.algebraic_OdDoutIdeal_OdDoutRefIdeal := by
  intro m ρ m' ρ' _ hagree
  refine ⟨fun c => (Cert.OdDoutIdeal.Gen.dats (F := Ideal) m 0 c).arrAt 2 Cert.OdDoutIdeal.cfg0.N,
    Cert.OdDoutIdeal.Value.run_blocks (F := Ideal) m ρ, ?_⟩
  refine (θ_run Cert.OdDoutRefIdeal.defs _ _).mono (fun r h c => ⟨?_, (h c).2⟩) (Cert.OdDoutRefIdeal.Value.run (F := Ideal) m' ρ')
  obtain ⟨g0, g1⟩ := hagree c
  refine (h c).1.trans ((Cert.OdDoutRefIdeal.Read.val_main_v5_eq _ _).trans ?_)
  rw [g0, g1]
  exact (Cert.OdDoutIdeal.Value.final m c).symm

end Cert.Proof

end
-- ==== Proof.OdDoutUValue.lean ====
module

public import proofs.«01_k».proof.Defs
public import proofs.«01_k».proof.Proof.Products
public import proofs.«01_k».proof.Proof.Gen.OdDoutU
public import proofs.«01_k».proof.Proof.Gen.OdDoutU.Skeleton
public import proofs.«01_k».proof.Proof.Gen.OdDoutU.Launch
public import proofs.«01_k».proof.Proof.Gen.OdDoutU.Points
public import proofs.«01_k».proof.Proof.Gen.OdDoutU.Frame
public import proofs.«01_k».proof.Proof.Gen.OdDoutUIdeal.Value
public import proofs.«01_k».proof.Proof.Gen.OdDoutURefIdeal.Read
public import Idealize.ShloMosaic.Lib.Pipeline.ValueKit
public import Idealize.ShloMosaic.Lib.Claim

@[expose] public section

set_option maxRecDepth 16384

noncomputable section

/-!
# The gradient of the odd layers' second mixer output

The kernel multiplies a block of rows by a block of columns at each grid point; the blocks together are the product.
-/

namespace Cert.OdDoutUIdeal.Value

open Cert.OdDoutUIdeal Cert.OdDoutUIdeal.Gen Idealize.ShloMosaic Idealize.ShloMosaic.TcCoe Idealize.SL.Sem
open Cert.OdDoutURefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 256) : Fin 256 := ⟨t.val % 1 * 256 + j.val, by omega⟩

/-- One block of the product. -/
theorem block (x0 : Vec Ideal S1024x1024 .bf16) (x1 : Vec Ideal S1024x256 .bf16) (i : Fin 1024) (j : Fin 256) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 256) :
    iblk m c 1 t (ix2 k j) = m ((c : Thread nD τ).loc main_arg1) (ix2 (clm t j) k) := by
  blk_simp [iblk, idx t]
  entry_read
  pointwise
  unfold clm
  blk_ext [idx t]

/-- The reference at a row and a column. -/
theorem ref_at (x0 : FVec Ideal S4x2304x1024 .bf16) (x1 : FVec Ideal S256x1024 .bf16) (r : Fin 9216) (n : Fin 256) :
    val_main_v5 (F := Ideal) x0 x1 (ix2 r n) = ((∑ k : Fin 1024, x0 (ix3 (sam r) (pos r) k) * x1 (ix2 n k)) : EReal) := by
  unfold sam pos
  pointwise [val_main_cst, val_main_v0, val_main_v1, val_main_v2, val_main_v3, val_main_v4, val_main_v5]

/-- The whole product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 256), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.OdDoutUIdeal.Value

namespace Cert.Proof

open Idealize.ShloMosaic Idealize.SL.Sem

theorem quiescent_OdDoutURef : Cert.quiescent_OdDoutURefIdeal := fun m ρ _ =>
  (θ_run Cert.OdDoutURefIdeal.defs _ _).mono (fun r h => ⟨fun c => (h c).2, sem_eq_zero_of_no_sems (by decide) r.2⟩)
    (Cert.OdDoutURefIdeal.Value.run (F := Ideal) m ρ)

/-- The kernel's result is the reference's. -/
theorem algebraic_OdDoutU : Cert.algebraic_OdDoutUIdeal_OdDoutURefIdeal := by
  intro m ρ m' ρ' _ hagree
  refine ⟨fun c => (Cert.OdDoutUIdeal.Gen.dats (F := Ideal) m 0 c).arrAt 2 Cert.OdDoutUIdeal.cfg0.N,
    Cert.OdDoutUIdeal.Value.run_blocks (F := Ideal) m ρ, ?_⟩
  refine (θ_run Cert.OdDoutURefIdeal.defs _ _).mono (fun r h c => ⟨?_, (h c).2⟩) (Cert.OdDoutURefIdeal.Value.run (F := Ideal) m' ρ')
  obtain ⟨g0, g1⟩ := hagree c
  refine (h c).1.trans ((Cert.OdDoutURefIdeal.Read.val_main_v5_eq _ _).trans ?_)
  rw [g0, g1]
  exact (Cert.OdDoutUIdeal.Value.final m c).symm

end Cert.Proof

end
-- ==== Proof.EvDwValue.lean ====
module

public import proofs.«01_k».proof.Defs
public import proofs.«01_k».proof.Proof.Products
public import proofs.«01_k».proof.Proof.Gen.EvDw
public import proofs.«01_k».proof.Proof.Gen.EvDw.Skeleton
public import proofs.«01_k».proof.Proof.Gen.EvDw.Launch
public import proofs.«01_k».proof.Proof.Gen.EvDw.Points
public import proofs.«01_k».proof.Proof.Gen.EvDw.Frame
public import proofs.«01_k».proof.Proof.Gen.EvDwIdeal.Value
public import proofs.«01_k».proof.Proof.Gen.EvDwRefIdeal.Read
public import Idealize.ShloMosaic.Lib.Pipeline.ValueKit
public import Idealize.ShloMosaic.Lib.Claim

@[expose] public section

set_option maxRecDepth 16384

noncomputable section

/-!
# The gradients of the even layers' weights of width 1024

At each grid point one sample's rows are multiplied and added to a block of the gradient; a block's first sample sets it.
-/

namespace Cert.EvDwIdeal.Value

open Cert.EvDwIdeal Cert.EvDwIdeal.Gen Idealize.ShloMosaic Idealize.ShloMosaic.TcCoe Idealize.SL.Sem
open Cert.EvDwRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 1024) : Fin 1024 := ⟨t.val / 4 * 1024 + i.val, by have := lt_points t; omega⟩

/-- A grid point's column of the product. -/
def clm (t : Fin cfg0.N) (j : Fin 1024) : Fin 1024 := ⟨t.val / 4 % 1 * 1024 + j.val, by omega⟩

section point

variable (t : Fin cfg0.N) (x0 : Vec Ideal S2304x1024 .bf16) (x1 : Vec Ideal S2304x1024 .bf16) (o : Vec Ideal S1024x1024 .f32)

/-- What a sample adds to an entry of the product. -/
def part (x0 : Vec Ideal S2304x1024 .bf16) (x1 : Vec Ideal S2304x1024 .bf16) (y : S1024x1024.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x1024.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 1024), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x1024.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 1024), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 1024) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 4 * 1024 + i.val = t.val / 4 * 1024 + i.val; omega)

theorem clm_run (t t' : Fin cfg0.N) (b : Fin 4) (h : t'.val = 4 * (t.val / 4) + b.val) (j : Fin 1024) :
    clm t' j = clm t j := Fin.ext (by show t'.val / 4 % 1 * 1024 + j.val = t.val / 4 % 1 * 1024 + j.val; omega)

/-- The reference at a row and a column. -/
theorem ref_at (x0 : FVec Ideal S4x2304x1024 .bf16) (x1 : FVec Ideal S4x2304x1024 .bf16) (r : Fin 1024) (n : Fin 1024) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 1024), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.EvDwIdeal.Value

namespace Cert.Proof

open Idealize.ShloMosaic Idealize.SL.Sem

theorem quiescent_EvDwRef : Cert.quiescent_EvDwRefIdeal := fun m ρ _ =>
  (θ_run Cert.EvDwRefIdeal.defs _ _).mono (fun r h => ⟨fun c => (h c).2, sem_eq_zero_of_no_sems (by decide) r.2⟩)
    (Cert.EvDwRefIdeal.Value.run (F := Ideal) m ρ)

/-- The kernel's result is the reference's. -/
theorem algebraic_EvDw : Cert.algebraic_EvDwIdeal_EvDwRefIdeal := by
  intro m ρ m' ρ' _ hagree
  refine ⟨fun c => (Cert.EvDwIdeal.Gen.dats (F := Ideal) m 0 c).arrAt 2 Cert.EvDwIdeal.cfg0.N,
    Cert.EvDwIdeal.Value.run_blocks (F := Ideal) m ρ, ?_⟩
  refine (θ_run Cert.EvDwRefIdeal.defs _ _).mono (fun r h c => ⟨?_, (h c).2⟩) (Cert.EvDwRefIdeal.Value.run (F := Ideal) m' ρ')
  obtain ⟨g0, g1⟩ := hagree c
  refine (h c).1.trans ((Cert.EvDwRefIdeal.Read.val_main_v5_eq _ _).trans ?_)
  rw [g0, g1]
  exact (Cert.EvDwIdeal.Value.final m c).symm

end Cert.Proof

end
-- ==== Proof.EvDwXbcValue.lean ====
module

public import proofs.«01_k».proof.Defs
public import proofs.«01_k».proof.Proof.Products
public import proofs.«01_k».proof.Proof.Gen.EvDwXbc
public import proofs.«01_k».proof.Proof.Gen.EvDwXbc.Skeleton
public import proofs.«01_k».proof.Proof.Gen.EvDwXbc.Launch
public import proofs.«01_k».proof.Proof.Gen.EvDwXbc.Points
public import proofs.«01_k».proof.Proof.Gen.EvDwXbc.Frame
public import proofs.«01_k».proof.Proof.Gen.EvDwXbcIdeal.Value
public import proofs.«01_k».proof.Proof.Gen.EvDwXbcRefIdeal.Read
public import Idealize.ShloMosaic.Lib.Pipeline.ValueKit
public import Idealize.ShloMosaic.Lib.Claim

@[expose] public section

set_option maxRecDepth 16384

noncomputable section

/-!
# The gradient of the even layers' weights of width 1536

At each grid point one sample's rows are multiplied and added to a block of the gradient; a block's first sample sets it.
-/

namespace Cert.EvDwXbcIdeal.Value

open Cert.EvDwXbcIdeal Cert.EvDwXbcIdeal.Gen Idealize.ShloMosaic Idealize.ShloMosaic.TcCoe Idealize.SL.Sem
open Cert.EvDwXbcRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem lt_points (t : Fin cfg0.N) : t.val < 8 := lt_of_lt_of_eq t.isLt (show cfg0.N = 8 from N_0)

/-- A grid point's sample. -/
def smp (t : Fin cfg0.N) : Fin 4 := ⟨t.val % 4, by omega⟩

/-- A grid point's row of the product. -/
def row (t : Fin cfg0.N) (i : Fin 1024) : Fin 1024 := ⟨t.val / 8 * 1024 + i.val, by have := lt_points t; omega⟩

/-- A grid point's column of the product. -/
def clm (t : Fin cfg0.N) (j : Fin 768) : Fin 1536 := ⟨t.val / 4 % 2 * 768 + j.val, by omega⟩

section point

variable (t : Fin cfg0.N) (x0 : Vec Ideal S2304x1024 .bf16) (x1 : Vec Ideal S2304x768 .bf16) (o : Vec Ideal S1024x768 .f32)

/-- What a sample adds to an entry of the product. -/
def part (x0 : Vec Ideal S2304x1024 .bf16) (x1 : Vec Ideal S2304x768 .bf16) (y : S1024x768.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x768.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 768), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x768.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 768), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 768) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 8 * 1024 + i.val = t.val / 8 * 1024 + i.val; omega)

theorem clm_run (t t' : Fin cfg0.N) (b : Fin 4) (h : t'.val = 4 * (t.val / 4) + b.val) (j : Fin 768) :
    clm t' j = clm t j := Fin.ext (by show t'.val / 4 % 2 * 768 + j.val = t.val / 4 % 2 * 768 + j.val; omega)

/-- The reference at a row and a column. -/
theorem ref_at (x0 : FVec Ideal S4x2304x1024 .bf16) (x1 : FVec Ideal S4x2304x1536 .bf16) (r : Fin 1024) (n : Fin 1536) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.EvDwXbcIdeal.Value

namespace Cert.Proof

open Idealize.ShloMosaic Idealize.SL.Sem

theorem quiescent_EvDwXbcRef : Cert.quiescent_EvDwXbcRefIdeal := fun m ρ _ =>
  (θ_run Cert.EvDwXbcRefIdeal.defs _ _).mono (fun r h => ⟨fun c => (h c).2, sem_eq_zero_of_no_sems (by decide) r.2⟩)
    (Cert.EvDwXbcRefIdeal.Value.run (F := Ideal) m ρ)

/-- The kernel's result is the reference's. -/
theorem algebraic_EvDwXbc : Cert.algebraic_EvDwXbcIdeal_EvDwXbcRefIdeal := by
  intro m ρ m' ρ' _ hagree
  refine ⟨fun c => (Cert.EvDwXbcIdeal.Gen.dats (F := Ideal) m 0 c).arrAt 2 Cert.EvDwXbcIdeal.cfg0.N,
    Cert.EvDwXbcIdeal.Value.run_blocks (F := Ideal) m ρ, ?_⟩
  refine (θ_run Cert.EvDwXbcRefIdeal.defs _ _).mono (fun r h c => ⟨?_, (h c).2⟩) (Cert.EvDwXbcRefIdeal.Value.run (F := Ideal) m' ρ')
  obtain ⟨g0, g1⟩ := hagree c
  refine (h c).1.trans ((Cert.EvDwXbcRefIdeal.Read.val_main_v5_eq _ _).trans ?_)
  rw [g0, g1]
  exact (Cert.EvDwXbcIdeal.Value.final m c).symm

end Cert.Proof

end
-- ==== Proof.OdDwValue.lean ====
module

public import proofs.«01_k».proof.Defs
public import proofs.«01_k».proof.Proof.Products
public import proofs.«01_k».proof.Proof.Gen.OdDw
public import proofs.«01_k».proof.Proof.Gen.OdDw.Skeleton
public import proofs.«01_k».proof.Proof.Gen.OdDw.Launch
public import proofs.«01_k».proof.Proof.Gen.OdDw.Points
public import proofs.«01_k».proof.Proof.Gen.OdDw.Frame
public import proofs.«01_k».proof.Proof.Gen.OdDwIdeal.Value
public import proofs.«01_k».proof.Proof.Gen.OdDwRefIdeal.Read
public import Idealize.ShloMosaic.Lib.Pipeline.ValueKit
public import Idealize.ShloMosaic.Lib.Claim

@[expose] public section

set_option maxRecDepth 16384

noncomputable section

/-!
# The gradients of the odd layers' weights of width 768

At each grid point one sample's rows are multiplied and added to a block of the gradient; a block's first sample sets it.
-/

namespace Cert.OdDwIdeal.Value

open Cert.OdDwIdeal Cert.OdDwIdeal.Gen Idealize.ShloMosaic Idealize.ShloMosaic.TcCoe Idealize.SL.Sem
open Cert.OdDwRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 1024) : Fin 1024 := ⟨t.val / 4 * 1024 + i.val, by have := lt_points t; omega⟩

/-- A grid point's column of the product. -/
def clm (t : Fin cfg0.N) (j : Fin 768) : Fin 768 := ⟨t.val / 4 % 1 * 768 + j.val, by omega⟩

section point

variable (t : Fin cfg0.N) (x0 : Vec Ideal S2304x1024 .bf16) (x1 : Vec Ideal S2304x768 .bf16) (o : Vec Ideal S1024x768 .f32)

/-- What a sample adds to an entry of the product. -/
def part (x0 : Vec Ideal S2304x1024 .bf16) (x1 : Vec Ideal S2304x768 .bf16) (y : S1024x768.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x768.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 768), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x768.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 768), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 768) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 4 * 1024 + i.val = t.val / 4 * 1024 + i.val; omega)

theorem clm_run (t t' : Fin cfg0.N) (b : Fin 4) (h : t'.val = 4 * (t.val / 4) + b.val) (j : Fin 768) :
    clm t' j = clm t j := Fin.ext (by show t'.val / 4 % 1 * 768 + j.val = t.val / 4 % 1 * 768 + j.val; omega)

/-- The reference at a row and a column. -/
theorem ref_at (x0 : FVec Ideal S4x2304x1024 .bf16) (x1 : FVec Ideal S4x2304x768 .bf16) (r : Fin 1024) (n : Fin 768) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.OdDwIdeal.Value

namespace Cert.Proof

open Idealize.ShloMosaic Idealize.SL.Sem

theorem quiescent_OdDwRef : Cert.quiescent_OdDwRefIdeal := fun m ρ _ =>
  (θ_run Cert.OdDwRefIdeal.defs _ _).mono (fun r h => ⟨fun c => (h c).2, sem_eq_zero_of_no_sems (by decide) r.2⟩)
    (Cert.OdDwRefIdeal.Value.run (F := Ideal) m ρ)

/-- The kernel's result is the reference's. -/
theorem algebraic_OdDw : Cert.algebraic_OdDwIdeal_OdDwRefIdeal := by
  intro m ρ m' ρ' _ hagree
  refine ⟨fun c => (Cert.OdDwIdeal.Gen.dats (F := Ideal) m 0 c).arrAt 2 Cert.OdDwIdeal.cfg0.N,
    Cert.OdDwIdeal.Value.run_blocks (F := Ideal) m ρ, ?_⟩
  refine (θ_run Cert.OdDwRefIdeal.defs _ _).mono (fun r h c => ⟨?_, (h c).2⟩) (Cert.OdDwRefIdeal.Value.run (F := Ideal) m' ρ')
  obtain ⟨g0, g1⟩ := hagree c
  refine (h c).1.trans ((Cert.OdDwRefIdeal.Read.val_main_v5_eq _ _).trans ?_)
  rw [g0, g1]
  exact (Cert.OdDwIdeal.Value.final m c).symm

end Cert.Proof

end
-- ==== Proof.OdDwVValue.lean ====
module

public import proofs.«01_k».proof.Defs
public import proofs.«01_k».proof.Proof.Products
public import proofs.«01_k».proof.Proof.Gen.OdDwV
public import proofs.«01_k».proof.Proof.Gen.OdDwV.Skeleton
public import proofs.«01_k».proof.Proof.Gen.OdDwV.Launch
public import proofs.«01_k».proof.Proof.Gen.OdDwV.Points
public import proofs.«01_k».proof.Proof.Gen.OdDwV.Frame
public import proofs.«01_k».proof.Proof.Gen.OdDwVIdeal.Value
public import proofs.«01_k».proof.Proof.Gen.OdDwVRefIdeal.Read
public import Idealize.ShloMosaic.Lib.Pipeline.ValueKit
public import Idealize.ShloMosaic.Lib.Claim

@[expose] public section

set_option maxRecDepth 16384

noncomputable section

/-!
# The gradient of the odd layers' value weights

At each grid point one sample's rows are multiplied and added to a block of the gradient; a block's first sample sets it.
-/

namespace Cert.OdDwVIdeal.Value

open Cert.OdDwVIdeal Cert.OdDwVIdeal.Gen Idealize.ShloMosaic Idealize.ShloMosaic.TcCoe Idealize.SL.Sem
open Cert.OdDwVRefIdeal.Read (val_main_cst val_main_v0 val_main_v1 val_main_v2 val_main_v3 val_main_v4)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 1024) : Fin 1024 := ⟨t.val / 4 * 1024 + i.val, by have := lt_points t; omega⟩

/-- A grid point's column of the product. -/
def clm (t : Fin cfg0.N) (j : Fin 768) : Fin 768 := ⟨t.val / 4 % 1 * 768 + j.val, by omega⟩

section point

variable (t : Fin cfg0.N) (x0 : Vec Ideal S2304x1024 .bf16) (x1 : Vec Ideal S2304x768 .f32) (o : Vec Ideal S1024x768 .f32)

/-- What a sample adds to an entry of the product. -/
def part (x0 : Vec Ideal S2304x1024 .bf16) (x1 : Vec Ideal S2304x768 .f32) (y : S1024x768.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x768.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 768), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x768.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 768), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 768) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 4 * 1024 + i.val = t.val / 4 * 1024 + i.val; omega)

theorem clm_run (t t' : Fin cfg0.N) (b : Fin 4) (h : t'.val = 4 * (t.val / 4) + b.val) (j : Fin 768) :
    clm t' j = clm t j := Fin.ext (by show t'.val / 4 % 1 * 768 + j.val = t.val / 4 % 1 * 768 + j.val; omega)

/-- The reference at a row and a column. -/
theorem ref_at (x0 : FVec Ideal S4x2304x1024 .bf16) (x1 : FVec Ideal S4x2304x768 .f32) (r : Fin 1024) (n : Fin 768) :
    val_main_v4 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4]
  exact Finset.sum_congr rfl fun b _ => Finset.sum_congr rfl fun s _ => mul_comm _ _

/-- The whole product: each block's four samples added up. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 768), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.OdDwVIdeal.Value

namespace Cert.Proof

open Idealize.ShloMosaic Idealize.SL.Sem

theorem quiescent_OdDwVRef : Cert.quiescent_OdDwVRefIdeal := fun m ρ _ =>
  (θ_run Cert.OdDwVRefIdeal.defs _ _).mono (fun r h => ⟨fun c => (h c).2, sem_eq_zero_of_no_sems (by decide) r.2⟩)
    (Cert.OdDwVRefIdeal.Value.run (F := Ideal) m ρ)

/-- The kernel's result is the reference's. -/
theorem algebraic_OdDwV : Cert.algebraic_OdDwVIdeal_OdDwVRefIdeal := by
  intro m ρ m' ρ' _ hagree
  refine ⟨fun c => (Cert.OdDwVIdeal.Gen.dats (F := Ideal) m 0 c).arrAt 2 Cert.OdDwVIdeal.cfg0.N,
    Cert.OdDwVIdeal.Value.run_blocks (F := Ideal) m ρ, ?_⟩
  refine (θ_run Cert.OdDwVRefIdeal.defs _ _).mono (fun r h c => ⟨?_, (h c).2⟩) (Cert.OdDwVRefIdeal.Value.run (F := Ideal) m' ρ')
  obtain ⟨g0, g1⟩ := hagree c
  refine (h c).1.trans ((Cert.OdDwVRefIdeal.Read.val_main_v4_eq _ _).trans ?_)
  rw [g0, g1]
  exact (Cert.OdDwVIdeal.Value.final m c).symm

end Cert.Proof

end
-- ==== Proof.OdDwUValue.lean ====
module

public import proofs.«01_k».proof.Defs
public import proofs.«01_k».proof.Proof.Products
public import proofs.«01_k».proof.Proof.Gen.OdDwU
public import proofs.«01_k».proof.Proof.Gen.OdDwU.Skeleton
public import proofs.«01_k».proof.Proof.Gen.OdDwU.Launch
public import proofs.«01_k».proof.Proof.Gen.OdDwU.Points
public import proofs.«01_k».proof.Proof.Gen.OdDwU.Frame
public import proofs.«01_k».proof.Proof.Gen.OdDwUIdeal.Value
public import proofs.«01_k».proof.Proof.Gen.OdDwURefIdeal.Read
public import Idealize.ShloMosaic.Lib.Pipeline.ValueKit
public import Idealize.ShloMosaic.Lib.Claim

@[expose] public section

set_option maxRecDepth 16384

noncomputable section

/-!
# The gradient of the odd layers' weights of width 256

At each grid point one sample's rows are multiplied and added to a block of the gradient; a block's first sample sets it.
-/

namespace Cert.OdDwUIdeal.Value

open Cert.OdDwUIdeal Cert.OdDwUIdeal.Gen Idealize.ShloMosaic Idealize.ShloMosaic.TcCoe Idealize.SL.Sem
open Cert.OdDwURefIdeal.Read (val_main_cst val_main_v0 val_main_v1 val_main_v2 val_main_v3 val_main_v4)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 1024) : Fin 1024 := ⟨t.val / 4 * 1024 + i.val, by have := lt_points t; omega⟩

/-- A grid point's column of the product. -/
def clm (t : Fin cfg0.N) (j : Fin 256) : Fin 256 := ⟨t.val / 4 % 1 * 256 + j.val, by omega⟩

section point

variable (t : Fin cfg0.N) (x0 : Vec Ideal S2304x1024 .bf16) (x1 : Vec Ideal S2304x256 .f32) (o : Vec Ideal S1024x256 .f32)

/-- What a sample adds to an entry of the product. -/
def part (x0 : Vec Ideal S2304x1024 .bf16) (x1 : Vec Ideal S2304x256 .f32) (y : S1024x256.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x256.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 256), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x256.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 256), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 256) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 4 * 1024 + i.val = t.val / 4 * 1024 + i.val; omega)

theorem clm_run (t t' : Fin cfg0.N) (b : Fin 4) (h : t'.val = 4 * (t.val / 4) + b.val) (j : Fin 256) :
    clm t' j = clm t j := Fin.ext (by show t'.val / 4 % 1 * 256 + j.val = t.val / 4 % 1 * 256 + j.val; omega)

/-- The reference at a row and a column. -/
theorem ref_at (x0 : FVec Ideal S4x2304x1024 .bf16) (x1 : FVec Ideal S4x2304x256 .f32) (r : Fin 1024) (n : Fin 256) :
    val_main_v4 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4]
  exact Finset.sum_congr rfl fun b _ => Finset.sum_congr rfl fun s _ => mul_comm _ _

/-- The whole product: each block's four samples added up. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 256), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.OdDwUIdeal.Value

namespace Cert.Proof

open Idealize.ShloMosaic Idealize.SL.Sem

theorem quiescent_OdDwURef : Cert.quiescent_OdDwURefIdeal := fun m ρ _ =>
  (θ_run Cert.OdDwURefIdeal.defs _ _).mono (fun r h => ⟨fun c => (h c).2, sem_eq_zero_of_no_sems (by decide) r.2⟩)
    (Cert.OdDwURefIdeal.Value.run (F := Ideal) m ρ)

/-- The kernel's result is the reference's. -/
theorem algebraic_OdDwU : Cert.algebraic_OdDwUIdeal_OdDwURefIdeal := by
  intro m ρ m' ρ' _ hagree
  refine ⟨fun c => (Cert.OdDwUIdeal.Gen.dats (F := Ideal) m 0 c).arrAt 2 Cert.OdDwUIdeal.cfg0.N,
    Cert.OdDwUIdeal.Value.run_blocks (F := Ideal) m ρ, ?_⟩
  refine (θ_run Cert.OdDwURefIdeal.defs _ _).mono (fun r h c => ⟨?_, (h c).2⟩) (Cert.OdDwURefIdeal.Value.run (F := Ideal) m' ρ')
  obtain ⟨g0, g1⟩ := hagree c
  refine (h c).1.trans ((Cert.OdDwURefIdeal.Read.val_main_v4_eq _ _).trans ?_)
  rw [g0, g1]
  exact (Cert.OdDwUIdeal.Value.final m c).symm

end Cert.Proof

end
-- ==== Proof.OdDwOutValue.lean ====
module

public import proofs.«01_k».proof.Defs
public import proofs.«01_k».proof.Proof.Products
public import proofs.«01_k».proof.Proof.Gen.OdDwOut
public import proofs.«01_k».proof.Proof.Gen.OdDwOut.Skeleton
public import proofs.«01_k».proof.Proof.Gen.OdDwOut.Launch
public import proofs.«01_k».proof.Proof.Gen.OdDwOut.Points
public import proofs.«01_k».proof.Proof.Gen.OdDwOut.Frame
public import proofs.«01_k».proof.Proof.Gen.OdDwOutIdeal.Value
public import proofs.«01_k».proof.Proof.Gen.OdDwOutRefIdeal.Read
public import Idealize.ShloMosaic.Lib.Pipeline.ValueKit
public import Idealize.ShloMosaic.Lib.Claim

@[expose] public section

set_option maxRecDepth 16384

noncomputable section

/-!
# The gradient of the odd layers' first output weights

At each grid point one sample's rows are multiplied and added to a block of the gradient; a block's first sample sets it.
-/

namespace Cert.OdDwOutIdeal.Value

open Cert.OdDwOutIdeal Cert.OdDwOutIdeal.Gen Idealize.ShloMosaic Idealize.ShloMosaic.TcCoe Idealize.SL.Sem
open Cert.OdDwOutRefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 768) : Fin 768 := ⟨t.val / 4 * 768 + i.val, by have := lt_points t; omega⟩

/-- A grid point's column of the product. -/
def clm (t : Fin cfg0.N) (j : Fin 1024) : Fin 1024 := ⟨t.val / 4 % 1 * 1024 + j.val, by omega⟩

section point

variable (t : Fin cfg0.N) (x0 : Vec Ideal S2304x768 .bf16) (x1 : Vec Ideal S2304x1024 .bf16) (o : Vec Ideal S768x1024 .f32)

/-- What a sample adds to an entry of the product. -/
def part (x0 : Vec Ideal S2304x768 .bf16) (x1 : Vec Ideal S2304x1024 .bf16) (y : S768x1024.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S768x1024.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 768) (j : Fin 1024), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S768x1024.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 768) (j : Fin 1024), y = ix2 i j := ⟨y 0, y 1, eq_ix2 y⟩
  unfold part
  pointwise [k0_pay1, k0_pay2]

end point

theorem read0 (t : Fin cfg0.N) (s : Fin 2304) (i : Fin 768) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 1024) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 768) :
    row t' i = row t i := Fin.ext (by show t'.val / 4 * 768 + i.val = t.val / 4 * 768 + i.val; omega)

theorem clm_run (t t' : Fin cfg0.N) (b : Fin 4) (h : t'.val = 4 * (t.val / 4) + b.val) (j : Fin 1024) :
    clm t' j = clm t j := Fin.ext (by show t'.val / 4 % 1 * 1024 + j.val = t.val / 4 % 1 * 1024 + j.val; omega)

/-- The reference at a row and a column. -/
theorem ref_at (x0 : FVec Ideal S4x2304x768 .bf16) (x1 : FVec Ideal S4x2304x1024 .bf16) (r : Fin 768) (n : Fin 1024) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 768) (j : Fin 1024), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.OdDwOutIdeal.Value

namespace Cert.Proof

open Idealize.ShloMosaic Idealize.SL.Sem

theorem quiescent_OdDwOutRef : Cert.quiescent_OdDwOutRefIdeal := fun m ρ _ =>
  (θ_run Cert.OdDwOutRefIdeal.defs _ _).mono (fun r h => ⟨fun c => (h c).2, sem_eq_zero_of_no_sems (by decide) r.2⟩)
    (Cert.OdDwOutRefIdeal.Value.run (F := Ideal) m ρ)

/-- The kernel's result is the reference's. -/
theorem algebraic_OdDwOut : Cert.algebraic_OdDwOutIdeal_OdDwOutRefIdeal := by
  intro m ρ m' ρ' _ hagree
  refine ⟨fun c => (Cert.OdDwOutIdeal.Gen.dats (F := Ideal) m 0 c).arrAt 2 Cert.OdDwOutIdeal.cfg0.N,
    Cert.OdDwOutIdeal.Value.run_blocks (F := Ideal) m ρ, ?_⟩
  refine (θ_run Cert.OdDwOutRefIdeal.defs _ _).mono (fun r h c => ⟨?_, (h c).2⟩) (Cert.OdDwOutRefIdeal.Value.run (F := Ideal) m' ρ')
  obtain ⟨g0, g1⟩ := hagree c
  refine (h c).1.trans ((Cert.OdDwOutRefIdeal.Read.val_main_v5_eq _ _).trans ?_)
  rw [g0, g1]
  exact (Cert.OdDwOutIdeal.Value.final m c).symm

end Cert.Proof

end
-- ==== Proof.OdDwOutUValue.lean ====
module

public import proofs.«01_k».proof.Defs
public import proofs.«01_k».proof.Proof.Products
public import proofs.«01_k».proof.Proof.Gen.OdDwOutU
public import proofs.«01_k».proof.Proof.Gen.OdDwOutU.Skeleton
public import proofs.«01_k».proof.Proof.Gen.OdDwOutU.Launch
public import proofs.«01_k».proof.Proof.Gen.OdDwOutU.Points
public import proofs.«01_k».proof.Proof.Gen.OdDwOutU.Frame
public import proofs.«01_k».proof.Proof.Gen.OdDwOutUIdeal.Value
public import proofs.«01_k».proof.Proof.Gen.OdDwOutURefIdeal.Read
public import Idealize.ShloMosaic.Lib.Pipeline.ValueKit
public import Idealize.ShloMosaic.Lib.Claim

@[expose] public section

set_option maxRecDepth 16384

noncomputable section

/-!
# The gradient of the odd layers' second output weights

At each grid point one sample's rows are multiplied and added to a block of the gradient; a block's first sample sets it.
-/

namespace Cert.OdDwOutUIdeal.Value

open Cert.OdDwOutUIdeal Cert.OdDwOutUIdeal.Gen Idealize.ShloMosaic Idealize.ShloMosaic.TcCoe Idealize.SL.Sem
open Cert.OdDwOutURefIdeal.Read (val_main_cst val_main_v0 val_main_v1 val_main_v2 val_main_v3 val_main_v4 val_main_v5)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 256) : Fin 256 := ⟨t.val / 4 * 256 + i.val, by have := lt_points t; omega⟩

/-- A grid point's column of the product. -/
def clm (t : Fin cfg0.N) (j : Fin 1024) : Fin 1024 := ⟨t.val / 4 % 1 * 1024 + j.val, by omega⟩

section point

variable (t : Fin cfg0.N) (x0 : Vec Ideal S2304x256 .bf16) (x1 : Vec Ideal S2304x1024 .bf16) (o : Vec Ideal S256x1024 .f32)

/-- What a sample adds to an entry of the product. -/
def part (x0 : Vec Ideal S2304x256 .bf16) (x1 : Vec Ideal S2304x1024 .bf16) (y : S256x1024.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S256x1024.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 256) (j : Fin 1024), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S256x1024.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 256) (j : Fin 1024), y = ix2 i j := ⟨y 0, y 1, eq_ix2 y⟩
  unfold part
  pointwise [k0_pay1, k0_pay2]

end point

theorem read0 (t : Fin cfg0.N) (s : Fin 2304) (i : Fin 256) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 1024) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 256) :
    row t' i = row t i := Fin.ext (by show t'.val / 4 * 256 + i.val = t.val / 4 * 256 + i.val; omega)

theorem clm_run (t t' : Fin cfg0.N) (b : Fin 4) (h : t'.val = 4 * (t.val / 4) + b.val) (j : Fin 1024) :
    clm t' j = clm t j := Fin.ext (by show t'.val / 4 % 1 * 1024 + j.val = t.val / 4 % 1 * 1024 + j.val; omega)

/-- The reference at a row and a column. -/
theorem ref_at (x0 : FVec Ideal S4x2304x256 .bf16) (x1 : FVec Ideal S4x2304x1024 .bf16) (r : Fin 256) (n : Fin 1024) :
    val_main_v5 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4, val_main_v5]
  exact Finset.sum_congr rfl fun b _ => Finset.sum_congr rfl fun s _ => mul_comm _ _

/-- The whole product: each block's four samples added up. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 256) (j : Fin 1024), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.OdDwOutUIdeal.Value

namespace Cert.Proof

open Idealize.ShloMosaic Idealize.SL.Sem

theorem quiescent_OdDwOutURef : Cert.quiescent_OdDwOutURefIdeal := fun m ρ _ =>
  (θ_run Cert.OdDwOutURefIdeal.defs _ _).mono (fun r h => ⟨fun c => (h c).2, sem_eq_zero_of_no_sems (by decide) r.2⟩)
    (Cert.OdDwOutURefIdeal.Value.run (F := Ideal) m ρ)

/-- The kernel's result is the reference's. -/
theorem algebraic_OdDwOutU : Cert.algebraic_OdDwOutUIdeal_OdDwOutURefIdeal := by
  intro m ρ m' ρ' _ hagree
  refine ⟨fun c => (Cert.OdDwOutUIdeal.Gen.dats (F := Ideal) m 0 c).arrAt 2 Cert.OdDwOutUIdeal.cfg0.N,
    Cert.OdDwOutUIdeal.Value.run_blocks (F := Ideal) m ρ, ?_⟩
  refine (θ_run Cert.OdDwOutURefIdeal.defs _ _).mono (fun r h c => ⟨?_, (h c).2⟩) (Cert.OdDwOutURefIdeal.Value.run (F := Ideal) m' ρ')
  obtain ⟨g0, g1⟩ := hagree c
  refine (h c).1.trans ((Cert.OdDwOutURefIdeal.Read.val_main_v5_eq _ _).trans ?_)
  rw [g0, g1]
  exact (Cert.OdDwOutUIdeal.Value.final m c).symm

end Cert.Proof

end
-- ==== Proof.EvDhnValue.lean ====
module

public import proofs.«01_k».proof.Defs
public import proofs.«01_k».proof.Proof.Products
public import proofs.«01_k».proof.Proof.Gen.EvDhn
public import proofs.«01_k».proof.Proof.Gen.EvDhn.Skeleton
public import proofs.«01_k».proof.Proof.Gen.EvDhn.Launch
public import proofs.«01_k».proof.Proof.Gen.EvDhn.Points
public import proofs.«01_k».proof.Proof.Gen.EvDhn.Frame
public import proofs.«01_k».proof.Proof.Gen.EvDhnIdeal.Value
public import proofs.«01_k».proof.Proof.Gen.EvDhnRefIdeal.Read
public import Idealize.ShloMosaic.Lib.Pipeline.ValueKit
public import Idealize.ShloMosaic.Lib.Claim

@[expose] public section

set_option maxRecDepth 16384

noncomputable section

/-!
# The gradient of the even layers' mixer input

The branches' gradients times the transposed columns of the weights that make each branch, added: the concatenated gradients
times the transposed weights. The narrow branch is padded with zeros to a whole tile.
-/

namespace Cert.EvDhnIdeal.Value

open Cert.EvDhnIdeal Cert.EvDhnIdeal.Gen Idealize.ShloMosaic Idealize.ShloMosaic.TcCoe Idealize.SL.Sem
open Cert.EvDhnRefIdeal.Read (val_main_cst val_main_v0 val_main_v1 val_main_v2 val_main_v3 val_main_v4 val_main_v5 val_main_v6 val_main_v7 val_main_v8 val_main_v9 val_main_v10 val_main_v11 val_main_v12 val_main_v13 val_main_v14)
open Cert.Products (sam pos sum_append sum_pad)

variable (m : (ℓ : Loc nD τ sig) → Buf (Elt Ideal) ℓ) (c : Dev nD)

/-- Every window's block index at a grid point. -/
theorem idx : ∀ t : Fin cfg0.N, win0_0.index t = ![t.val / 2, 0] ∧ win0_1.index t = ![0, t.val % 2] ∧ win0_2.index t = ![t.val / 2, 0] ∧ win0_3.index t = ![0, t.val % 2] ∧ win0_4.index t = ![t.val / 2, 0] ∧ win0_5.index t = ![0, t.val % 2] ∧ win0_6.index t = ![t.val / 2, 0] ∧ win0_7.index t = ![0, t.val % 2] ∧ win0_8.index t = ![t.val / 2, 0] ∧ win0_9.index t = ![0, t.val % 2] ∧ win0_10.index t = ![t.val / 2, t.val % 2] :=
  (by decide +kernel : ∀ t : Fin grid0.N, _)

theorem lt_points (t : Fin cfg0.N) : t.val < 24 := lt_of_lt_of_eq t.isLt (show cfg0.N = 24 from N_0)

/-- A grid point's row of the product. -/
def row (t : Fin cfg0.N) (i : Fin 768) : Fin 9216 := ⟨t.val / 2 * 768 + i.val, by have := lt_points t; omega⟩

/-- A grid point's column of the product. -/
def clm (t : Fin cfg0.N) (j : Fin 512) : Fin 1024 := ⟨t.val % 2 * 512 + j.val, by omega⟩

/-- The integer zero is the padding's zero. -/
theorem zero_f32 : (FloatOps.sitofp FTy.f32 0#32 : Ideal .f32) = (0 : EReal) := by
  show (((0#32).toInt : ℝ) : EReal) = 0
  simp

/-- The integer zero is the padding's zero. -/
theorem zero_bf16 : (FloatOps.sitofp FTy.bf16 0#32 : Ideal .bf16) = (0 : EReal) := by
  show (((0#32).toInt : ℝ) : EReal) = 0
  simp

/-- One block of the product. -/
theorem block (x0 : Vec Ideal S768x1024 .bf16) (x1 : Vec Ideal S1024x512 .bf16) (x2 : Vec Ideal S768x1536 .bf16) (x3 : Vec Ideal S1536x512 .bf16) (x4 : Vec Ideal S768x128 .f32) (x5 : Vec Ideal S128x512 .bf16) (x6 : Vec Ideal S768x1024 .bf16) (x7 : Vec Ideal S1024x512 .bf16) (x8 : Vec Ideal S768x1024 .bf16) (x9 : Vec Ideal S1024x512 .bf16) (i : Fin 768) (j : Fin 512) :
    out0_10 x0 x1 x2 x3 x4 x5 x6 x7 x8 x9 (ix2 i j) = ((∑ k : Fin 1024, x0 (ix2 i k) * x1 (ix2 k j)) + (∑ k : Fin 1536, x2 (ix2 i k) * x3 (ix2 k j)) + (∑ k : Fin 128, x4 (ix2 i k) * x5 (ix2 k j)) + (∑ k : Fin 1024, x6 (ix2 i k) * x7 (ix2 k j)) + (∑ k : Fin 1024, x8 (ix2 i k) * x9 (ix2 k j)) : EReal) := by
  unfold out0_10
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide)]
  pointwise [k0_pay1]

theorem read0 (t : Fin cfg0.N) (i : Fin 768) (k : Fin 1024) :
    iblk m c 0 t (ix2 i k) = m ((c : Thread nD τ).loc main_arg0) (ix3 (sam (row t i)) (pos (row t i)) k) := by
  blk_simp [iblk, idx t]
  simp only [V, hostOps0, hostOps0_1, hostOps0_2, hostOps0_3, hostOps0_4, List.flatten_cons, List.flatten_nil, List.append_nil,
    List.cons_append, List.nil_append]
  entry_read
  pointwise
  unfold sam pos row
  blk_ext [idx t]

theorem read1 (t : Fin cfg0.N) (k : Fin 1024) (j : Fin 512) :
    iblk m c 1 t (ix2 k j) = m ((c : Thread nD τ).loc main_arg5) (ix2 (clm t j) (⟨k.val, by omega⟩ : Fin 4640)) := by
  blk_simp [iblk, idx t]
  simp only [V, hostOps0, hostOps0_1, hostOps0_2, hostOps0_3, hostOps0_4, List.flatten_cons, List.flatten_nil, List.append_nil,
    List.cons_append, List.nil_append]
  entry_read
  pointwise
  unfold clm
  blk_ext [idx t]

theorem read2 (t : Fin cfg0.N) (i : Fin 768) (k : Fin 1536) :
    iblk m c 2 t (ix2 i k) = m ((c : Thread nD τ).loc main_arg1) (ix3 (sam (row t i)) (pos (row t i)) k) := by
  blk_simp [iblk, idx t]
  simp only [V, hostOps0, hostOps0_1, hostOps0_2, hostOps0_3, hostOps0_4, List.flatten_cons, List.flatten_nil, List.append_nil,
    List.cons_append, List.nil_append]
  entry_read
  pointwise
  unfold sam pos row
  blk_ext [idx t]

theorem read3 (t : Fin cfg0.N) (k : Fin 1536) (j : Fin 512) :
    iblk m c 3 t (ix2 k j) = m ((c : Thread nD τ).loc main_arg5) (ix2 (clm t j) (⟨1024 + k.val, by omega⟩ : Fin 4640)) := by
  blk_simp [iblk, idx t]
  simp only [V, hostOps0, hostOps0_1, hostOps0_2, hostOps0_3, hostOps0_4, List.flatten_cons, List.flatten_nil, List.append_nil,
    List.cons_append, List.nil_append]
  entry_read
  pointwise
  unfold clm
  blk_ext [idx t]

theorem read4 (t : Fin cfg0.N) (i : Fin 768) (k : Fin 128) :
    iblk m c 4 t (ix2 i k) = (if h : k.val < 32 then m ((c : Thread nD τ).loc main_arg2) (ix3 (sam (row t i)) (pos (row t i)) ⟨k.val, h⟩) else 0 : EReal) := by
  have e : (win0_4.blk t).view.emb (ix2 i k) = ix2 (row t i) k := by
    unfold row
    blk_ext [idx t]
  blk_simp [iblk, idx t]
  rw [e]
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  pointwise
  split_ifs with h
  · rfl
  · exact zero_f32

theorem read5 (t : Fin cfg0.N) (k : Fin 128) (j : Fin 512) :
    iblk m c 5 t (ix2 k j) = (if h : k.val < 32 then m ((c : Thread nD τ).loc main_arg5) (ix2 (clm t j) (⟨2560 + k.val, by omega⟩ : Fin 4640)) else 0 : EReal) := by
  have e : (win0_5.blk t).view.emb (ix2 k j) = ix2 k (clm t j) := by
    unfold clm
    blk_ext [idx t]
  blk_simp [iblk, idx t]
  rw [e]
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  pointwise
  split_ifs with h
  · rfl
  · exact zero_bf16

theorem read6 (t : Fin cfg0.N) (i : Fin 768) (k : Fin 1024) :
    iblk m c 6 t (ix2 i k) = m ((c : Thread nD τ).loc main_arg3) (ix3 (sam (row t i)) (pos (row t i)) k) := by
  blk_simp [iblk, idx t]
  simp only [V, hostOps0, hostOps0_1, hostOps0_2, hostOps0_3, hostOps0_4, List.flatten_cons, List.flatten_nil, List.append_nil,
    List.cons_append, List.nil_append]
  entry_read
  pointwise
  unfold sam pos row
  blk_ext [idx t]

theorem read7 (t : Fin cfg0.N) (k : Fin 1024) (j : Fin 512) :
    iblk m c 7 t (ix2 k j) = m ((c : Thread nD τ).loc main_arg5) (ix2 (clm t j) (⟨2592 + k.val, by omega⟩ : Fin 4640)) := by
  blk_simp [iblk, idx t]
  simp only [V, hostOps0, hostOps0_1, hostOps0_2, hostOps0_3, hostOps0_4, List.flatten_cons, List.flatten_nil, List.append_nil,
    List.cons_append, List.nil_append]
  entry_read
  pointwise
  unfold clm
  blk_ext [idx t]

theorem read8 (t : Fin cfg0.N) (i : Fin 768) (k : Fin 1024) :
    iblk m c 8 t (ix2 i k) = m ((c : Thread nD τ).loc main_arg4) (ix3 (sam (row t i)) (pos (row t i)) k) := by
  blk_simp [iblk, idx t]
  simp only [V, hostOps0, hostOps0_1, hostOps0_2, hostOps0_3, hostOps0_4, List.flatten_cons, List.flatten_nil, List.append_nil,
    List.cons_append, List.nil_append]
  entry_read
  pointwise
  unfold sam pos row
  blk_ext [idx t]

theorem read9 (t : Fin cfg0.N) (k : Fin 1024) (j : Fin 512) :
    iblk m c 9 t (ix2 k j) = m ((c : Thread nD τ).loc main_arg5) (ix2 (clm t j) (⟨3616 + k.val, by omega⟩ : Fin 4640)) := by
  blk_simp [iblk, idx t]
  simp only [V, hostOps0, hostOps0_1, hostOps0_2, hostOps0_3, hostOps0_4, List.flatten_cons, List.flatten_nil, List.append_nil,
    List.cons_append, List.nil_append]
  entry_read
  pointwise
  unfold clm
  blk_ext [idx t]

/-- The reference at a row and a column. -/
theorem ref_at (x0 : FVec Ideal S4x2304x1024 .bf16) (x1 : FVec Ideal S4x2304x1536 .bf16) (x2 : FVec Ideal S4x2304x32 .f32) (x3 : FVec Ideal S4x2304x1024 .bf16) (x4 : FVec Ideal S4x2304x1024 .bf16) (x5 : FVec Ideal S1024x4640 .bf16) (r : Fin 9216) (n : Fin 1024) :
    val_main_v14 (F := Ideal) x0 x1 x2 x3 x4 x5 (ix2 r n) = ((∑ k : Fin 1024, x0 (ix3 (sam r) (pos r) k) * x5 (ix2 n (⟨k.val, by omega⟩ : Fin 4640))) + (∑ k : Fin 1536, x1 (ix3 (sam r) (pos r) k) * x5 (ix2 n (⟨1024 + k.val, by omega⟩ : Fin 4640))) + (∑ k : Fin 32, x2 (ix3 (sam r) (pos r) k) * x5 (ix2 n (⟨2560 + k.val, by omega⟩ : Fin 4640))) + (∑ k : Fin 1024, x3 (ix3 (sam r) (pos r) k) * x5 (ix2 n (⟨2592 + k.val, by omega⟩ : Fin 4640))) + (∑ k : Fin 1024, x4 (ix3 (sam r) (pos r) k) * x5 (ix2 n (⟨3616 + k.val, by omega⟩ : Fin 4640))) : EReal) := by
  unfold sam pos
  pointwise [val_main_cst, val_main_v0, val_main_v1, val_main_v2, val_main_v3, val_main_v4, val_main_v5, val_main_v6, val_main_v7, val_main_v8, val_main_v9, val_main_v10, val_main_v11, val_main_v12, val_main_v13, val_main_v14]
  rw [sum_append (a := 3616) (b := 1024) (n := 4640) rfl, sum_append (a := 2592) (b := 1024) (n := 3616) rfl, sum_append (a := 2560) (b := 32) (n := 2592) rfl, sum_append (a := 1024) (b := 1536) (n := 2560) rfl]
  refine congrArg₂ (· + · : EReal → EReal → EReal) ?_ (Finset.sum_congr rfl fun k _ => by
    have hk := k.isLt
    dsimp only
    rw [dif_neg (show ¬ (3616 + k.val < 1024) by omega), dif_neg (show ¬ (3616 + k.val - 1024 < 1536) by omega), dif_neg (show ¬ (3616 + k.val - 1024 - 1536 < 32) by omega), dif_neg (show ¬ (3616 + k.val - 1024 - 1536 - 32 < 1024) by omega)]
    exact Ideal.mul_congr (congrArg (fun z => x4 (ix3 _ _ z)) (Fin.ext (by show 3616 + k.val - 1024 - 1536 - 32 - 1024 = k.val; omega))) rfl)
  refine congrArg₂ (· + · : EReal → EReal → EReal) ?_ (Finset.sum_congr rfl fun k _ => by
    have hk := k.isLt
    dsimp only
    rw [dif_neg (show ¬ (2592 + k.val < 1024) by omega), dif_neg (show ¬ (2592 + k.val - 1024 < 1536) by omega), dif_neg (show ¬ (2592 + k.val - 1024 - 1536 < 32) by omega), dif_pos (show 2592 + k.val - 1024 - 1536 - 32 < 1024 by omega)]
    exact Ideal.mul_congr (congrArg (fun z => x3 (ix3 _ _ z)) (Fin.ext (by show 2592 + k.val - 1024 - 1536 - 32 = k.val; omega))) rfl)
  refine congrArg₂ (· + · : EReal → EReal → EReal) ?_ (Finset.sum_congr rfl fun k _ => by
    have hk := k.isLt
    dsimp only
    rw [dif_neg (show ¬ (2560 + k.val < 1024) by omega), dif_neg (show ¬ (2560 + k.val - 1024 < 1536) by omega), dif_pos (show 2560 + k.val - 1024 - 1536 < 32 by omega)]
    exact Ideal.mul_congr (congrArg (fun z => x2 (ix3 _ _ z)) (Fin.ext (by show 2560 + k.val - 1024 - 1536 = k.val; omega))) rfl)
  refine congrArg₂ (· + · : EReal → EReal → EReal) ?_ (Finset.sum_congr rfl fun k _ => by
    have hk := k.isLt
    dsimp only
    rw [dif_neg (show ¬ (1024 + k.val < 1024) by omega), dif_pos (show 1024 + k.val - 1024 < 1536 by omega)]
    exact Ideal.mul_congr (congrArg (fun z => x1 (ix3 _ _ z)) (Fin.ext (by show 1024 + k.val - 1024 = k.val; omega))) rfl)
  exact Finset.sum_congr rfl fun k _ => by
    have hk := k.isLt
    dsimp only
    rw [dif_pos (show k.val < 1024 by omega)]

/-- The whole product. -/
theorem final : (dats m 0 c).arrAt 10 cfg0.N
    = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  obtain ⟨i, j, rfl⟩ : ∃ (i : Fin 768) (j : Fin 512), y = ix2 i j := ⟨y 0, y 1, eq_ix2 y⟩
  have e : (win0_10.blk t).view.emb (ix2 i j) = ix2 (row t i) (clm t j) := by
    unfold row clm
    blk_ext [idx t]
  rw [e, block, ref_at]
  exact (congrArg₂ (· + · : EReal → EReal → EReal) (congrArg₂ (· + · : EReal → EReal → EReal) (congrArg₂ (· + · : EReal → EReal → EReal) (congrArg₂ (· + · : EReal → EReal → EReal) (Finset.sum_congr rfl fun k _ => Ideal.mul_congr (read0 m c t i k) (read1 m c t k j))
    (Finset.sum_congr rfl fun k _ => Ideal.mul_congr (read2 m c t i k) (read3 m c t k j)))
    ((Finset.sum_congr rfl fun k _ => Ideal.mul_congr (read4 m c t i k) (read5 m c t k j)).trans
      (sum_pad (by decide) (fun k => (m ((c : Thread nD τ).loc main_arg2) (ix3 (sam (row t i)) (pos (row t i)) k) : EReal))
        (fun k => (m ((c : Thread nD τ).loc main_arg5) (ix2 (clm t j) (⟨2560 + k.val, by omega⟩ : Fin 4640)) : EReal)))))
    (Finset.sum_congr rfl fun k _ => Ideal.mul_congr (read6 m c t i k) (read7 m c t k j)))
    (Finset.sum_congr rfl fun k _ => Ideal.mul_congr (read8 m c t i k) (read9 m c t k j)))

end Cert.EvDhnIdeal.Value

namespace Cert.Proof

open Idealize.ShloMosaic Idealize.SL.Sem

theorem quiescent_EvDhnRef : Cert.quiescent_EvDhnRefIdeal := fun m ρ _ =>
  (θ_run Cert.EvDhnRefIdeal.defs _ _).mono (fun r h => ⟨fun c => (h c).2, sem_eq_zero_of_no_sems (by decide) r.2⟩)
    (Cert.EvDhnRefIdeal.Value.run (F := Ideal) m ρ)

/-- The kernel's result is the reference's. -/
theorem algebraic_EvDhn : Cert.algebraic_EvDhnIdeal_EvDhnRefIdeal := by
  intro m ρ m' ρ' _ hagree
  refine ⟨fun c => (Cert.EvDhnIdeal.Gen.dats (F := Ideal) m 0 c).arrAt 10 Cert.EvDhnIdeal.cfg0.N,
    Cert.EvDhnIdeal.Value.run_blocks (F := Ideal) m ρ, ?_⟩
  refine (θ_run Cert.EvDhnRefIdeal.defs _ _).mono (fun r h c => ⟨?_, (h c).2⟩) (Cert.EvDhnRefIdeal.Value.run (F := Ideal) m' ρ')
  obtain ⟨g0, g1, g2, g3, g4, g5⟩ := hagree c
  refine (h c).1.trans ((Cert.EvDhnRefIdeal.Read.val_main_v14_eq _ _ _ _ _ _).trans ?_)
  rw [g0, g1, g2, g3, g4, g5]
  exact (Cert.EvDhnIdeal.Value.final m c).symm

end Cert.Proof

end
-- ==== Proof.OdDhnValue.lean ====
module

public import proofs.«01_k».proof.Defs
public import proofs.«01_k».proof.Proof.Products
public import proofs.«01_k».proof.Proof.Gen.OdDhn
public import proofs.«01_k».proof.Proof.Gen.OdDhn.Skeleton
public import proofs.«01_k».proof.Proof.Gen.OdDhn.Launch
public import proofs.«01_k».proof.Proof.Gen.OdDhn.Points
public import proofs.«01_k».proof.Proof.Gen.OdDhn.Frame
public import proofs.«01_k».proof.Proof.Gen.OdDhnIdeal.Value
public import proofs.«01_k».proof.Proof.Gen.OdDhnRefIdeal.Read
public import Idealize.ShloMosaic.Lib.Pipeline.ValueKit
public import Idealize.ShloMosaic.Lib.Claim

@[expose] public section

set_option maxRecDepth 16384

noncomputable section

/-!
# The gradient of the odd layers' mixer input

The branches' gradients times the transposed columns of the weights that make each branch, added: the concatenated gradients
times the transposed weights.
-/

namespace Cert.OdDhnIdeal.Value

open Cert.OdDhnIdeal Cert.OdDhnIdeal.Gen Idealize.ShloMosaic Idealize.ShloMosaic.TcCoe Idealize.SL.Sem
open Cert.OdDhnRefIdeal.Read (val_main_cst val_main_v0 val_main_v1 val_main_v2 val_main_v3 val_main_v4 val_main_v5 val_main_v6 val_main_v7 val_main_v8 val_main_v9 val_main_v10 val_main_v11 val_main_v12 val_main_v13 val_main_v14 val_main_v15)
open Cert.Products (sam pos sum_append)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, 0] ∧ win0_3.index t = ![0, t.val % 1] ∧ win0_4.index t = ![t.val / 1, 0] ∧ win0_5.index t = ![0, t.val % 1] ∧ win0_6.index t = ![t.val / 1, 0] ∧ win0_7.index t = ![0, t.val % 1] ∧ win0_8.index t = ![t.val / 1, 0] ∧ win0_9.index t = ![0, t.val % 1] ∧ win0_10.index t = ![t.val / 1, 0] ∧ win0_11.index t = ![0, t.val % 1] ∧ win0_12.index t = ![t.val / 1, t.val % 1] :=
  (by decide +kernel : ∀ t : Fin grid0.N, _)

theorem lt_points (t : Fin cfg0.N) : t.val < 12 := lt_of_lt_of_eq t.isLt (show cfg0.N = 12 from N_0)

/-- A grid point's row of the product. -/
def row (t : Fin cfg0.N) (i : Fin 768) : Fin 9216 := ⟨t.val / 1 * 768 + i.val, by have := lt_points t; omega⟩

/-- A grid point's column of the product. -/
def clm (t : Fin cfg0.N) (j : Fin 1024) : Fin 1024 := ⟨t.val % 1 * 1024 + j.val, by omega⟩

/-- One block of the product. -/
theorem block (x0 : Vec Ideal S768x768 .bf16) (x1 : Vec Ideal S768x1024 .bf16) (x2 : Vec Ideal S768x768 .bf16) (x3 : Vec Ideal S768x1024 .bf16) (x4 : Vec Ideal S768x768 .bf16) (x5 : Vec Ideal S768x1024 .bf16) (x6 : Vec Ideal S768x768 .f32) (x7 : Vec Ideal S768x1024 .bf16) (x8 : Vec Ideal S768x768 .bf16) (x9 : Vec Ideal S768x1024 .bf16) (x10 : Vec Ideal S768x256 .f32) (x11 : Vec Ideal S256x1024 .bf16) (i : Fin 768) (j : Fin 1024) :
    out0_12 x0 x1 x2 x3 x4 x5 x6 x7 x8 x9 x10 x11 (ix2 i j) = ((∑ k : Fin 768, x0 (ix2 i k) * x1 (ix2 k j)) + (∑ k : Fin 768, x2 (ix2 i k) * x3 (ix2 k j)) + (∑ k : Fin 768, x4 (ix2 i k) * x5 (ix2 k j)) + (∑ k : Fin 768, x6 (ix2 i k) * x7 (ix2 k j)) + (∑ k : Fin 768, x8 (ix2 i k) * x9 (ix2 k j)) + (∑ k : Fin 256, x10 (ix2 i k) * x11 (ix2 k j)) : EReal) := by
  unfold out0_12
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), View.ld_unit_lit _ x10 (by decide), View.ld_unit_lit _ x11 (by decide)]
  pointwise [k0_pay2, k0_pay1]

theorem read0 (t : Fin cfg0.N) (i : Fin 768) (k : Fin 768) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 768) (j : Fin 1024) :
    iblk m c 1 t (ix2 k j) = m ((c : Thread nD τ).loc main_arg6) (ix2 (clm t j) (⟨k.val, by omega⟩ : Fin 4096)) := by
  blk_simp [iblk, idx t]
  entry_read
  pointwise
  unfold clm
  blk_ext [idx t]

theorem read2 (t : Fin cfg0.N) (i : Fin 768) (k : Fin 768) :
    iblk m c 2 t (ix2 i k) = m ((c : Thread nD τ).loc main_arg1) (ix3 (sam (row t i)) (pos (row t i)) k) := by
  blk_simp [iblk, idx t]
  entry_read
  pointwise
  unfold sam pos row
  blk_ext [idx t]

theorem read3 (t : Fin cfg0.N) (k : Fin 768) (j : Fin 1024) :
    iblk m c 3 t (ix2 k j) = m ((c : Thread nD τ).loc main_arg6) (ix2 (clm t j) (⟨768 + k.val, by omega⟩ : Fin 4096)) := by
  blk_simp [iblk, idx t]
  entry_read
  pointwise
  unfold clm
  blk_ext [idx t]

theorem read4 (t : Fin cfg0.N) (i : Fin 768) (k : Fin 768) :
    iblk m c 4 t (ix2 i k) = m ((c : Thread nD τ).loc main_arg2) (ix3 (sam (row t i)) (pos (row t i)) k) := by
  blk_simp [iblk, idx t]
  entry_read
  pointwise
  unfold sam pos row
  blk_ext [idx t]

theorem read5 (t : Fin cfg0.N) (k : Fin 768) (j : Fin 1024) :
    iblk m c 5 t (ix2 k j) = m ((c : Thread nD τ).loc main_arg6) (ix2 (clm t j) (⟨1536 + k.val, by omega⟩ : Fin 4096)) := by
  blk_simp [iblk, idx t]
  entry_read
  pointwise
  unfold clm
  blk_ext [idx t]

theorem read6 (t : Fin cfg0.N) (i : Fin 768) (k : Fin 768) :
    iblk m c 6 t (ix2 i k) = m ((c : Thread nD τ).loc main_arg3) (ix3 (sam (row t i)) (pos (row t i)) k) := by
  blk_simp [iblk, idx t]
  entry_read
  pointwise
  unfold sam pos row
  blk_ext [idx t]

theorem read7 (t : Fin cfg0.N) (k : Fin 768) (j : Fin 1024) :
    iblk m c 7 t (ix2 k j) = m ((c : Thread nD τ).loc main_arg6) (ix2 (clm t j) (⟨2304 + k.val, by omega⟩ : Fin 4096)) := by
  blk_simp [iblk, idx t]
  entry_read
  pointwise
  unfold clm
  blk_ext [idx t]

theorem read8 (t : Fin cfg0.N) (i : Fin 768) (k : Fin 768) :
    iblk m c 8 t (ix2 i k) = m ((c : Thread nD τ).loc main_arg4) (ix3 (sam (row t i)) (pos (row t i)) k) := by
  blk_simp [iblk, idx t]
  entry_read
  pointwise
  unfold sam pos row
  blk_ext [idx t]

theorem read9 (t : Fin cfg0.N) (k : Fin 768) (j : Fin 1024) :
    iblk m c 9 t (ix2 k j) = m ((c : Thread nD τ).loc main_arg6) (ix2 (clm t j) (⟨3072 + k.val, by omega⟩ : Fin 4096)) := by
  blk_simp [iblk, idx t]
  entry_read
  pointwise
  unfold clm
  blk_ext [idx t]

theorem read10 (t : Fin cfg0.N) (i : Fin 768) (k : Fin 256) :
    iblk m c 10 t (ix2 i k) = m ((c : Thread nD τ).loc main_arg5) (ix3 (sam (row t i)) (pos (row t i)) k) := by
  blk_simp [iblk, idx t]
  entry_read
  pointwise
  unfold sam pos row
  blk_ext [idx t]

theorem read11 (t : Fin cfg0.N) (k : Fin 256) (j : Fin 1024) :
    iblk m c 11 t (ix2 k j) = m ((c : Thread nD τ).loc main_arg6) (ix2 (clm t j) (⟨3840 + k.val, by omega⟩ : Fin 4096)) := by
  blk_simp [iblk, idx t]
  entry_read
  pointwise
  unfold clm
  blk_ext [idx t]

/-- The reference at a row and a column. -/
theorem ref_at (x0 : FVec Ideal S4x2304x768 .bf16) (x1 : FVec Ideal S4x2304x768 .bf16) (x2 : FVec Ideal S4x2304x768 .bf16) (x3 : FVec Ideal S4x2304x768 .f32) (x4 : FVec Ideal S4x2304x768 .bf16) (x5 : FVec Ideal S4x2304x256 .f32) (x6 : FVec Ideal S1024x4096 .bf16) (r : Fin 9216) (n : Fin 1024) :
    val_main_v15 (F := Ideal) x0 x1 x2 x3 x4 x5 x6 (ix2 r n) = ((∑ k : Fin 768, x0 (ix3 (sam r) (pos r) k) * x6 (ix2 n (⟨k.val, by omega⟩ : Fin 4096))) + (∑ k : Fin 768, x1 (ix3 (sam r) (pos r) k) * x6 (ix2 n (⟨768 + k.val, by omega⟩ : Fin 4096))) + (∑ k : Fin 768, x2 (ix3 (sam r) (pos r) k) * x6 (ix2 n (⟨1536 + k.val, by omega⟩ : Fin 4096))) + (∑ k : Fin 768, x3 (ix3 (sam r) (pos r) k) * x6 (ix2 n (⟨2304 + k.val, by omega⟩ : Fin 4096))) + (∑ k : Fin 768, x4 (ix3 (sam r) (pos r) k) * x6 (ix2 n (⟨3072 + k.val, by omega⟩ : Fin 4096))) + (∑ k : Fin 256, x5 (ix3 (sam r) (pos r) k) * x6 (ix2 n (⟨3840 + k.val, by omega⟩ : Fin 4096))) : EReal) := by
  unfold sam pos
  pointwise [val_main_cst, val_main_v0, val_main_v1, val_main_v2, val_main_v3, val_main_v4, val_main_v5, val_main_v6, val_main_v7, val_main_v8, val_main_v9, val_main_v10, val_main_v11, val_main_v12, val_main_v13, val_main_v14, val_main_v15]
  rw [sum_append (a := 3840) (b := 256) (n := 4096) rfl, sum_append (a := 3072) (b := 768) (n := 3840) rfl, sum_append (a := 2304) (b := 768) (n := 3072) rfl, sum_append (a := 1536) (b := 768) (n := 2304) rfl, sum_append (a := 768) (b := 768) (n := 1536) rfl]
  refine congrArg₂ (· + · : EReal → EReal → EReal) ?_ (Finset.sum_congr rfl fun k _ => by
    have hk := k.isLt
    dsimp only
    rw [dif_neg (show ¬ (3840 + k.val < 768) by omega), dif_neg (show ¬ (3840 + k.val - 768 < 768) by omega), dif_neg (show ¬ (3840 + k.val - 768 - 768 < 768) by omega), dif_neg (show ¬ (3840 + k.val - 768 - 768 - 768 < 768) by omega), dif_neg (show ¬ (3840 + k.val - 768 - 768 - 768 - 768 < 768) by omega)]
    exact Ideal.mul_congr (congrArg (fun z => x5 (ix3 _ _ z)) (Fin.ext (by show 3840 + k.val - 768 - 768 - 768 - 768 - 768 = k.val; omega))) rfl)
  refine congrArg₂ (· + · : EReal → EReal → EReal) ?_ (Finset.sum_congr rfl fun k _ => by
    have hk := k.isLt
    dsimp only
    rw [dif_neg (show ¬ (3072 + k.val < 768) by omega), dif_neg (show ¬ (3072 + k.val - 768 < 768) by omega), dif_neg (show ¬ (3072 + k.val - 768 - 768 < 768) by omega), dif_neg (show ¬ (3072 + k.val - 768 - 768 - 768 < 768) by omega), dif_pos (show 3072 + k.val - 768 - 768 - 768 - 768 < 768 by omega)]
    exact Ideal.mul_congr (congrArg (fun z => x4 (ix3 _ _ z)) (Fin.ext (by show 3072 + k.val - 768 - 768 - 768 - 768 = k.val; omega))) rfl)
  refine congrArg₂ (· + · : EReal → EReal → EReal) ?_ (Finset.sum_congr rfl fun k _ => by
    have hk := k.isLt
    dsimp only
    rw [dif_neg (show ¬ (2304 + k.val < 768) by omega), dif_neg (show ¬ (2304 + k.val - 768 < 768) by omega), dif_neg (show ¬ (2304 + k.val - 768 - 768 < 768) by omega), dif_pos (show 2304 + k.val - 768 - 768 - 768 < 768 by omega)]
    exact Ideal.mul_congr (congrArg (fun z => x3 (ix3 _ _ z)) (Fin.ext (by show 2304 + k.val - 768 - 768 - 768 = k.val; omega))) rfl)
  refine congrArg₂ (· + · : EReal → EReal → EReal) ?_ (Finset.sum_congr rfl fun k _ => by
    have hk := k.isLt
    dsimp only
    rw [dif_neg (show ¬ (1536 + k.val < 768) by omega), dif_neg (show ¬ (1536 + k.val - 768 < 768) by omega), dif_pos (show 1536 + k.val - 768 - 768 < 768 by omega)]
    exact Ideal.mul_congr (congrArg (fun z => x2 (ix3 _ _ z)) (Fin.ext (by show 1536 + k.val - 768 - 768 = k.val; omega))) rfl)
  refine congrArg₂ (· + · : EReal → EReal → EReal) ?_ (Finset.sum_congr rfl fun k _ => by
    have hk := k.isLt
    dsimp only
    rw [dif_neg (show ¬ (768 + k.val < 768) by omega), dif_pos (show 768 + k.val - 768 < 768 by omega)]
    exact Ideal.mul_congr (congrArg (fun z => x1 (ix3 _ _ z)) (Fin.ext (by show 768 + k.val - 768 = k.val; omega))) rfl)
  exact Finset.sum_congr rfl fun k _ => by
    have hk := k.isLt
    dsimp only
    rw [dif_pos (show k.val < 768 by omega)]

/-- The whole product. -/
theorem final : (dats m 0 c).arrAt 12 cfg0.N
    = val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]
  obtain ⟨i, j, rfl⟩ : ∃ (i : Fin 768) (j : Fin 1024), y = ix2 i j := ⟨y 0, y 1, eq_ix2 y⟩
  have e : (win0_12.blk t).view.emb (ix2 i j) = ix2 (row t i) (clm t j) := by
    unfold row clm
    blk_ext [idx t]
  rw [e, block, ref_at]
  exact (congrArg₂ (· + · : EReal → EReal → EReal) (congrArg₂ (· + · : EReal → EReal → EReal) (congrArg₂ (· + · : EReal → EReal → EReal) (congrArg₂ (· + · : EReal → EReal → EReal) (congrArg₂ (· + · : EReal → EReal → EReal) (Finset.sum_congr rfl fun k _ => Ideal.mul_congr (read0 m c t i k) (read1 m c t k j))
    (Finset.sum_congr rfl fun k _ => Ideal.mul_congr (read2 m c t i k) (read3 m c t k j)))
    (Finset.sum_congr rfl fun k _ => Ideal.mul_congr (read4 m c t i k) (read5 m c t k j)))
    (Finset.sum_congr rfl fun k _ => Ideal.mul_congr (read6 m c t i k) (read7 m c t k j)))
    (Finset.sum_congr rfl fun k _ => Ideal.mul_congr (read8 m c t i k) (read9 m c t k j)))
    (Finset.sum_congr rfl fun k _ => Ideal.mul_congr (read10 m c t i k) (read11 m c t k j)))

end Cert.OdDhnIdeal.Value

namespace Cert.Proof

open Idealize.ShloMosaic Idealize.SL.Sem

theorem quiescent_OdDhnRef : Cert.quiescent_OdDhnRefIdeal := fun m ρ _ =>
  (θ_run Cert.OdDhnRefIdeal.defs _ _).mono (fun r h => ⟨fun c => (h c).2, sem_eq_zero_of_no_sems (by decide) r.2⟩)
    (Cert.OdDhnRefIdeal.Value.run (F := Ideal) m ρ)

/-- The kernel's result is the reference's. -/
theorem algebraic_OdDhn : Cert.algebraic_OdDhnIdeal_OdDhnRefIdeal := by
  intro m ρ m' ρ' _ hagree
  refine ⟨fun c => (Cert.OdDhnIdeal.Gen.dats (F := Ideal) m 0 c).arrAt 12 Cert.OdDhnIdeal.cfg0.N,
    Cert.OdDhnIdeal.Value.run_blocks (F := Ideal) m ρ, ?_⟩
  refine (θ_run Cert.OdDhnRefIdeal.defs _ _).mono (fun r h c => ⟨?_, (h c).2⟩) (Cert.OdDhnRefIdeal.Value.run (F := Ideal) m' ρ')
  obtain ⟨g0, g1, g2, g3, g4, g5, g6⟩ := hagree c
  refine (h c).1.trans ((Cert.OdDhnRefIdeal.Read.val_main_v15_eq _ _ _ _ _ _ _).trans ?_)
  rw [g0, g1, g2, g3, g4, g5, g6]
  exact (Cert.OdDhnIdeal.Value.final m c).symm

end Cert.Proof

end
-- ==== Proof.LineSpec.lean ====
module

public import Idealize.ShloMosaic.Lib.Pointwise

@[expose] public section

set_option maxRecDepth 16384

noncomputable section

/-!
# The short convolution along a line and its gradient, one channel at a time

A sample's 2304 positions are two lines, 256 context positions and then 2048 others. The convolution has four taps, at
the offsets -1, 0, 1, 2, and reads zero beyond the ends of a line. `d` is the gradient that arrives at its result.
-/

namespace Cert.LineSpec

open Idealize.ShloMosaic

/-- Position `t` has a neighbour at offset `j - 1` on its line. -/
def N (j : Fin 4) (t : ℕ) : Prop :=
  (t < 256 ∧ 1 ≤ t + j.val ∧ t + j.val < 257) ∨ (256 ≤ t ∧ 257 ≤ t + j.val ∧ t + j.val < 2305)

instance (j : Fin 4) (t : ℕ) : Decidable (N j t) := by unfold N; infer_instance

/-- Position `t` has a neighbour at offset `1 - j` on its line. -/
def A (j : Fin 4) (t : ℕ) : Prop :=
  (t < 256 ∧ j.val ≤ t + 1 ∧ t + 1 < 256 + j.val) ∨ (256 ≤ t ∧ 256 + j.val ≤ t + 1 ∧ t + 1 < 2304 + j.val)

instance (j : Fin 4) (t : ℕ) : Decidable (A j t) := by unfold A; infer_instance

/-- The value at offset `j - 1` of position `t`, zero where there is none. -/
def tap (x : ℕ → EReal) (j : Fin 4) (t : ℕ) : EReal := if N j t then x (t + j.val - 1) else 0

/-- The convolution before any activation. -/
def acc (w : Fin 4 → EReal) (b : EReal) (x : ℕ → EReal) (t : ℕ) : EReal := (∑ j, w j * tap x j t) + b

/-- The part of the input's gradient that goes through tap `j`. -/
def back (w : Fin 4 → EReal) (d : ℕ → EReal) (j : Fin 4) (t : ℕ) : EReal := if A j t then w j * d (t + 1 - j.val) else 0

/-- The gradient of the convolution's input. -/
def dx (w : Fin 4 → EReal) (d : ℕ → EReal) (t : ℕ) : EReal := ∑ j, back w d j t

/-- One sample's part of the gradient of tap `j`. -/
def dw (x d : ℕ → EReal) (j : Fin 4) : EReal := ∑ t ∈ Finset.range 2304, d t * tap x j t

/-- A sum over the 2304 positions is one over each line. -/
theorem sum_split (f : ℕ → EReal) : (∑ t ∈ Finset.range 2304, f t)
    = (∑ p : Fin 256, f p.val) + ∑ p : Fin 2048, f (256 + p.val) := by
  rw [Finset.range_eq_Ico, ← Finset.sum_Ico_consecutive f (Nat.zero_le 256) (by omega : 256 ≤ 2304), ← Finset.range_eq_Ico,
    Finset.sum_range, Finset.sum_Ico_eq_sum_range, Finset.sum_range]

/-- The taps on the context line. -/
theorem tap_ctx (x : ℕ → EReal) (j : Fin 4) (t : ℕ) (ht : t < 256) :
    tap x j t = if 1 ≤ t + j.val ∧ t + j.val < 257 then x (t + j.val - 1) else 0 := by
  unfold tap
  split_ifs
  all_goals
    simp only [N] at * <;> first | (exfalso; omega) | rfl

/-- The taps on the other line. -/
theorem tap_lat (x : ℕ → EReal) (j : Fin 4) (t : ℕ) (ht : t < 2048) :
    tap x j (256 + t) = if 1 ≤ t + j.val ∧ t + j.val < 2049 then x (256 + (t + j.val - 1)) else 0 := by
  unfold tap
  split_ifs
  all_goals
    simp only [N] at * <;> first | (exfalso; omega) | rfl | (apply congrArg; omega)

/-- The parts of the input's gradient on the context line. -/
theorem back_ctx (w : Fin 4 → EReal) (d : ℕ → EReal) (j : Fin 4) (t : ℕ) (ht : t < 256) :
    back w d j t = if j.val ≤ t + 1 ∧ t + 1 < 256 + j.val then w j * d (t + 1 - j.val) else 0 := by
  unfold back
  split_ifs
  all_goals
    simp only [A] at * <;> first | (exfalso; omega) | rfl

/-- The parts of the input's gradient on the other line. -/
theorem back_lat (w : Fin 4 → EReal) (d : ℕ → EReal) (j : Fin 4) (t : ℕ) (ht : t < 2048) :
    back w d j (256 + t) = if j.val ≤ t + 1 ∧ t + 1 < 2048 + j.val then w j * d (256 + (t + 1 - j.val)) else 0 := by
  unfold back
  split_ifs
  all_goals
    simp only [A] at * <;> first | (exfalso; omega) | rfl | (congr 2; omega)

/-- A masked product moved by a tap: position `t` reads position `s`, which is `t + 1 - j` up to a turn of the line. -/
theorem moved (w : Fin 4 → EReal) (d : ℕ → EReal) (j : Fin 4) (s t : ℕ) (ht : t < 2304)
    (hs : s = (t + 2305 - j.val) % 2304) :
    w j * (d s * if N j s then (1 : EReal) else 0) = back w d j t := by
  have hj := j.isLt
  unfold back
  by_cases h : A j t
  · have e : s = t + 1 - j.val := by simp only [A] at h; omega
    rw [if_pos h, if_pos (by simp only [A] at h; simp only [N]; omega), mul_one, e]
  · rw [if_neg h, if_neg (by simp only [A] at h; simp only [N]; omega), mul_zero, mul_zero]

/-- A masked product with the moved input. -/
theorem masked (x d : ℕ → EReal) (j : Fin 4) (s t : ℕ) (ht : t < 2304) (hs : s = (t + j.val + 2303) % 2304) :
    (d t * if N j t then (1 : EReal) else 0) * x s = d t * tap x j t := by
  have hj := j.isLt
  unfold tap
  by_cases h : N j t
  · have e : s = t + j.val - 1 := by simp only [N] at h; omega
    rw [if_pos h, if_pos h, mul_one, e]
  · rw [if_neg h, if_neg h, mul_zero, zero_mul]

/-- The moved input, masked. -/
theorem masked' (x : ℕ → EReal) (j : Fin 4) (s t : ℕ) (ht : t < 2304) (hs : s = (t + j.val + 2303) % 2304) :
    (x s * if N j t then (1 : EReal) else 0) = tap x j t := by
  have hj := j.isLt
  unfold tap
  by_cases h : N j t
  · have e : s = t + j.val - 1 := by simp only [N] at h; omega
    rw [if_pos h, if_pos h, mul_one, e]
  · rw [if_neg h, if_neg h, mul_zero]

end Cert.LineSpec
-- ==== Proof.LineMask.lean ====
module

public import proofs.«01_k».proof.Proof.KernMask
public import proofs.«01_k».proof.Proof.LineSpec

@[expose] public section

set_option maxRecDepth 16384

noncomputable section

/-!
# The masks of the convolutions along a line

The kernels mark the positions that have a given neighbour on their line by columns of ones and zeros, computed from the
position number. Each is the indicator of the matching condition of `LineSpec`. A block holds one sample's 2304
positions of 256 channels.
-/

namespace Cert.LineMask

open Cert.KernelIdeal.Gen Idealize.ShloMosaic Idealize.ShloMosaic.TcCoe Idealize.SL.Sem Cert.LineSpec
open Cert.KernelIdeal (S2304x1 S2304x256)
open Cert.KernMask (I ONE ZERO mul_at add_at sub_at one_at zero_at msk one_sub both comb)

/-- Channel `q` of a block, zero beyond the last position. -/
def colT (X : FVec Ideal S2304x256 .f32) (q : Fin 256) (t : ℕ) : EReal := if h : t < 2304 then X (ix2 ⟨t, h⟩ q) else 0

theorem colT_at (X : FVec Ideal S2304x256 .f32) (q : Fin 256) (t : Fin 2304) : X (ix2 t q) = colT X q t.val := by
  unfold colT; rw [dif_pos t.isLt]

/-- The column of numbers `k`. -/
abbrev num (k : BitVec 32) : IVec S2304x1 32 := broadcast S2304x1 k

/-- The ones on the context line. -/
abbrev CTX : FVec Ideal S2304x1 .f32 :=
  mulf (select (cmpi .sge I (num 0#32)) ONE ZERO) (select (cmpi .slt I (num 256#32)) ONE ZERO)

/-- The ones at the positions with a neighbour at offset `k`. -/
abbrev MASK (k : BitVec 32) : FVec Ideal S2304x1 .f32 :=
  addf (mulf CTX (mulf (select (cmpi .sge (addi I (num k)) (num 0#32)) ONE ZERO)
      (select (cmpi .slt (addi I (num k)) (num 256#32)) ONE ZERO)))
    (mulf (subf ONE CTX) (mulf (select (cmpi .sge (addi I (num k)) (num 256#32)) ONE ZERO)
      (select (cmpi .slt (addi I (num k)) (num 2304#32)) ONE ZERO)))

theorem ctx (t : Fin 2304) : CTX (ix2 t 0) = if t.val < 256 then (1 : EReal) else 0 := by
  unfold CTX
  rw [mul_at, msk (fun _ => True) _ (by decide +kernel), msk (fun t => t < 256) _ (by decide +kernel)]
  exact both _ _ _ (by simp)

/-- The mask of the tap one position back. -/
theorem mask0 (t : Fin 2304) : MASK 4294967295#32 (ix2 t 0) = if N 0 t.val then (1 : EReal) else 0 := by
  unfold MASK
  rw [add_at, mul_at, mul_at, mul_at, mul_at, sub_at, one_at, ctx, one_sub,
    msk (fun t => 1 ≤ t) _ (by decide +kernel), msk (fun t => t < 257) _ (by decide +kernel),
    msk (fun t => 257 ≤ t) _ (by decide +kernel), msk (fun _ => True) _ (by decide +kernel)]
  exact comb _ _ _ _ _ _ (by have := t.isLt; simp [N]; omega)

/-- The mask of the tap at the position itself. -/
theorem mask1 (t : Fin 2304) : MASK 0#32 (ix2 t 0) = if N 1 t.val then (1 : EReal) else 0 := by
  unfold MASK
  rw [add_at, mul_at, mul_at, mul_at, mul_at, sub_at, one_at, ctx, one_sub,
    msk (fun _ => True) _ (by decide +kernel), msk (fun t => t < 256) _ (by decide +kernel),
    msk (fun t => 256 ≤ t) _ (by decide +kernel), msk (fun _ => True) _ (by decide +kernel)]
  exact comb _ _ _ _ _ _ (by have := t.isLt; simp [N]; omega)

/-- The mask of the tap one position on. -/
theorem mask2 (t : Fin 2304) : MASK 1#32 (ix2 t 0) = if N 2 t.val then (1 : EReal) else 0 := by
  unfold MASK
  rw [add_at, mul_at, mul_at, mul_at, mul_at, sub_at, one_at, ctx, one_sub,
    msk (fun _ => True) _ (by decide +kernel), msk (fun t => t < 255) _ (by decide +kernel),
    msk (fun t => 255 ≤ t) _ (by decide +kernel), msk (fun t => t < 2303) _ (by decide +kernel)]
  exact comb _ _ _ _ _ _ (by have := t.isLt; simp [N]; omega)

/-- The mask of the tap two positions on. -/
theorem mask3 (t : Fin 2304) : MASK 2#32 (ix2 t 0) = if N 3 t.val then (1 : EReal) else 0 := by
  unfold MASK
  rw [add_at, mul_at, mul_at, mul_at, mul_at, sub_at, one_at, ctx, one_sub,
    msk (fun _ => True) _ (by decide +kernel), msk (fun t => t < 254) _ (by decide +kernel),
    msk (fun t => 254 ≤ t) _ (by decide +kernel), msk (fun t => t < 2302) _ (by decide +kernel)]
  exact comb _ _ _ _ _ _ (by have := t.isLt; simp [N]; omega)

end Cert.LineMask
-- ==== Proof.LruConvBwdOut.lean ====
module

public import proofs.«01_k».proof.Proof.Gen.LruConvBwdIdeal.Value
public import proofs.«01_k».proof.Proof.LineMask
public import Idealize.ShloMosaic.Lib.Pipeline.ValueKit

@[expose] public section

set_option maxRecDepth 16384

noncomputable section

/-!
# The linear recurrence's convolution: what one grid point leaves

One grid point reads a sample's block of 256 channels and leaves the gradient of the input and the gradients of the taps
and of the bias, added to what the previous samples left. Each is stated on a channel's column.
-/

namespace Cert.LruConvBwdOut

open Cert.LruConvBwdIdeal Cert.LruConvBwdIdeal.Gen Idealize.ShloMosaic Idealize.ShloMosaic.TcCoe Idealize.SL.Sem Cert.LineSpec
  Cert.LineMask

/-- The four taps of channel `q`, from the four loads. -/
def taps4 (W0 W1 W2 W3 : Vec Ideal S1x256 .f32) (q : Fin 256) (j : Fin 4) : EReal := (![W0, W1, W2, W3] j) (ix2 0 q)

/-- The arriving gradient under each tap's mask. -/
abbrev g0 (D : FVec Ideal S2304x256 .f32) : FVec Ideal S2304x256 .f32 := k0_pay17 D k0_pay14 k0_pay15 k0_pay16 256#32
abbrev g1 (D : FVec Ideal S2304x256 .f32) : FVec Ideal S2304x256 .f32 :=
  k0_pay24 D KernMask.I (k0_pay20 KernMask.I) (k0_pay21 KernMask.I) (k0_pay22 KernMask.I) KernMask.zero k0_pay23
abbrev g2 (D : FVec Ideal S2304x256 .f32) : FVec Ideal S2304x256 .f32 :=
  k0_pay29 D KernMask.I (k0_pay27 KernMask.I) (k0_pay28 KernMask.I)
abbrev g3 (D : FVec Ideal S2304x256 .f32) : FVec Ideal S2304x256 .f32 :=
  k0_pay1 D (k0_pay34 KernMask.I) (k0_pay35 KernMask.I) (k0_pay36 KernMask.I) (k0_pay37 KernMask.I)

variable (X D : FVec Ideal S2304x256 .f32) (W0 W1 W2 W3 : Vec Ideal S1x256 .f32) (t : Fin 2304) (q : Fin 256)

/-- A block times a column spread over the channels. -/
theorem spread (M : FVec Ideal S2304x1 .f32) :
    mulf D (broadcastTo S2304x256 M broadcasts_S2304x1_S2304x256) (ix2 t q) = (D (ix2 t q) * M (ix2 t 0) : EReal) := by
  pointwise

theorem g0_at : g0 D (ix2 t q) = colT D q t.val * if N 0 t.val then (1 : EReal) else 0 := by
  rw [← mask0, ← colT_at D]
  exact spread D t q (MASK 4294967295#32)

theorem g1_at : g1 D (ix2 t q) = colT D q t.val * if N 1 t.val then (1 : EReal) else 0 := by
  rw [← mask1, ← colT_at D]
  exact spread D t q (MASK 0#32)

/-- The same with the word of 0 read as the number. -/
theorem g1_at' : k0_pay24 D KernMask.I (k0_pay20 KernMask.I) (k0_pay21 KernMask.I) (k0_pay22 KernMask.I) (0 : EReal) k0_pay23 (ix2 t q)
    = colT D q t.val * if N 1 t.val then (1 : EReal) else 0 := by
  have hz : (KernMask.zero : EReal) = 0 := by pointwise
  exact (congrArg (fun z : EReal => k0_pay24 D KernMask.I (k0_pay20 KernMask.I) (k0_pay21 KernMask.I) (k0_pay22 KernMask.I) z k0_pay23
    (ix2 t q)) hz.symm).trans (g1_at D t q)

theorem g2_at : g2 D (ix2 t q) = colT D q t.val * if N 2 t.val then (1 : EReal) else 0 := by
  rw [← mask2, ← colT_at D]
  exact spread D t q (MASK 1#32)

theorem g3_at : g3 D (ix2 t q) = colT D q t.val * if N 3 t.val then (1 : EReal) else 0 := by
  rw [← mask3, ← colT_at D]
  exact spread D t q (MASK 2#32)

/-- Tap 0 against the gradient. -/
theorem dw0 : k0_pay19 X D k0_pay14 k0_pay15 k0_pay16 256#32 (ix2 0 q) = dw (colT X q) (colT D q) 0 := by
  have h := fun t => g0_at D t q
  unfold dw
  rw [Finset.sum_range]
  pointwise [k0_pay19, h, colT_at X]
  refine Finset.sum_congr rfl fun t _ => masked _ _ _ _ _ t.isLt ?_
  first | rfl | (simp; omega)

/-- Tap 1 against the gradient. -/
theorem dw1 : k0_pay26 X D KernMask.I (k0_pay20 KernMask.I) (k0_pay21 KernMask.I) (k0_pay22 KernMask.I) KernMask.zero k0_pay23
    (ix2 0 q) = dw (colT X q) (colT D q) 1 := by
  have h := fun t => g1_at' D t q
  unfold dw
  rw [Finset.sum_range]
  pointwise [k0_pay26, h, colT_at X]
  refine Finset.sum_congr rfl fun t _ => masked _ _ _ _ _ t.isLt ?_
  have := t.isLt
  first | rfl | (simp; omega)

/-- Tap 2 against the gradient. -/
theorem dw2 : k0_pay32 X (g2 D) (ix2 0 q) = dw (colT X q) (colT D q) 2 := by
  have h := fun t => g2_at D t q
  unfold dw
  rw [Finset.sum_range]
  pointwise [k0_pay32, h, colT_at X]
  refine Finset.sum_congr rfl fun t _ => masked _ _ _ _ _ t.isLt ?_
  have := t.isLt
  first | rfl | (simp; omega)

/-- Tap 3 against the gradient. -/
theorem dw3 : k0_pay2 X D (k0_pay34 KernMask.I) (k0_pay35 KernMask.I) (k0_pay36 KernMask.I) (k0_pay37 KernMask.I) (ix2 0 q)
    = dw (colT X q) (colT D q) 3 := by
  have h := fun t => g3_at D t q
  unfold dw
  rw [Finset.sum_range]
  pointwise [k0_pay2, h, colT_at X]
  refine Finset.sum_congr rfl fun t _ => masked _ _ _ _ _ t.isLt ?_
  have := t.isLt
  first | rfl | (simp; omega)

/-- The sum of the gradient. -/
theorem db_at : k0_pay4 D (ix2 0 q) = ∑ t ∈ Finset.range 2304, colT D q t := by
  rw [Finset.sum_range]
  pointwise [k0_pay4, colT_at D]

/-- The gradient of the input, as the body computes it. -/
abbrev dxT : FVec Ideal S1x2304x256 .bf16 :=
  k0_pay3 D (k0_pay31 (k0_pay25 D KernMask.I (k0_pay18 D k0_pay12 k0_pay14 k0_pay15 k0_pay16 256#32 W0) (k0_pay20 KernMask.I) (k0_pay21 KernMask.I)
      (k0_pay22 KernMask.I) KernMask.zero k0_pay23 W1) (k0_pay30 D KernMask.I (k0_pay27 KernMask.I) (k0_pay28 KernMask.I) W2) 1#32)
    (k0_pay34 KernMask.I) (k0_pay35 KernMask.I) (k0_pay36 KernMask.I) (k0_pay37 KernMask.I) W3

/-- A masked product read at two equal positions. -/
theorem same (f : ℕ → EReal) (j : Fin 4) (w : EReal) (a b : ℕ) (h : a = b) :
    w * (f a * if N j a then (1 : EReal) else 0) = w * (f b * if N j b then (1 : EReal) else 0) := by rw [h]

theorem dx_at : dxT D W0 W1 W2 W3 (ix3 0 t q) = dx (taps4 W0 W1 W2 W3 q) (colT D q) t.val := by
  have h0 := fun t => g0_at D t q
  have h1 := fun t => g1_at' D t q
  have h2 := fun t => g2_at D t q
  have h3 := fun t => g3_at D t q
  have := t.isLt
  unfold dx
  rw [Fin.sum_univ_four, ← moved _ _ 0 _ _ t.isLt rfl, ← moved _ _ 1 _ _ t.isLt rfl, ← moved _ _ 2 _ _ t.isLt rfl,
    ← moved _ _ 3 _ _ t.isLt rfl]
  pointwise [dxT, k0_pay3, k0_pay31, k0_pay25, k0_pay18, k0_pay12, k0_pay30, h0, h1, h2, h3]
  refine congrArg₂ (· + ·) (congrArg₂ (· + ·) (congrArg₂ (· + ·) ?_ ?_) ?_) ?_
  · exact same (colT D q) 0 (W0 (ix2 0 q)) ((t.val + 2304 - 2303) % 2304) ((t.val + 2305) % 2304) (by omega)
  · exact same (colT D q) 1 (W1 (ix2 0 q)) t.val ((t.val + 2305 - 1) % 2304) (by omega)
  · exact same (colT D q) 2 (W2 (ix2 0 q)) ((t.val + 2304 - 1) % 2304) ((t.val + 2305 - 2) % 2304) (by omega)
  · exact same (colT D q) 3 (W3 (ix2 0 q)) ((t.val + 2304 - 2) % 2304) ((t.val + 2305 - 3) % 2304) (by omega)

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S4x256 .f32) (q : Fin 256) (j : Fin 4) : EReal := x1 (ix2 j q)

variable (x0 : Vec Ideal S1x2304x256 .f32) (x1 : Vec Ideal S4x256 .f32) (x2 : Vec Ideal S1x256 .f32)
  (x3 : Vec Ideal S1x2304x256 .f32)

/-- The body's working copies of its two blocks. -/
theorem col_eq : colT (k0_pay10 x0) q = bcol x0 q := by
  funext t
  unfold colT bcol
  split_ifs
  · pointwise [k0_pay10]
  · rfl

theorem col_eq' : colT (k0_pay11 x3) q = bcol x3 q := by
  funext t
  unfold colT bcol
  split_ifs
  · pointwise [k0_pay11]
  · rfl

/-- The four loads of taps, as one family. -/
theorem taps_eq (hW : W0 (ix2 0 q) = x1 (ix2 0 q) ∧ W1 (ix2 0 q) = x1 (ix2 1 q) ∧ W2 (ix2 0 q) = x1 (ix2 2 q)
    ∧ W3 (ix2 0 q) = x1 (ix2 3 q)) : taps4 W0 W1 W2 W3 q = btap x1 q := by
  obtain ⟨h0, h1, h2, h3⟩ := hW
  funext j
  fin_cases j
  · exact h0
  · exact h1
  · exact h2
  · exact h3

/-- An index of a one-row block. -/
theorem row_idx (x : S1x256.Idx) : ∃ q : Fin 256, x = ix2 0 q := by
  refine ⟨x 1, ?_⟩
  rw [eq_ix2 x]
  have h : x 0 = (0 : Fin 1) := Fin.ext (by have := (x 0).isLt; simp at this; simpa using this)
  rw [h]
  rfl

/-- Tap gradients at an index of the block of four rows. -/
def bdw (y : S4x256.Idx) : EReal := dw (bcol x0 (y 1)) (bcol x3 (y 1)) (y 0)

theorem bdw_row (y : S4x256.Idx) (j : Fin 4) (h0 : (y 0).val = j.val) (h1 : (y 1).val = q.val) :
    bdw x0 x3 y = dw (bcol x0 q) (bcol x3 q) j := by
  have e0 : y 0 = j := Fin.ext h0
  have e1 : y 1 = q := Fin.ext h1
  unfold bdw
  rw [e0, e1]

/-! Adding a sample's share to what the block held. -/
theorem add_pay5 (v : FVec Ideal S1x256 .f32) (w : Vec Ideal S1x256 .f32) : k0_pay5 v w (ix2 0 q) = (w (ix2 0 q) + v (ix2 0 q) : EReal) := by
  pointwise [k0_pay5]
theorem add_pay6 (v : FVec Ideal S1x256 .f32) (w : Vec Ideal S1x256 .f32) : k0_pay6 v w (ix2 0 q) = (w (ix2 0 q) + v (ix2 0 q) : EReal) := by
  pointwise [k0_pay6]
theorem add_pay7 (v : FVec Ideal S1x256 .f32) (w : Vec Ideal S1x256 .f32) : k0_pay7 v w (ix2 0 q) = (w (ix2 0 q) + v (ix2 0 q) : EReal) := by
  pointwise [k0_pay7]
theorem add_pay8 (w : Vec Ideal S1x256 .f32) :
    k0_pay8 X D (k0_pay34 KernMask.I) (k0_pay35 KernMask.I) (k0_pay36 KernMask.I) (k0_pay37 KernMask.I) w (ix2 0 q)
    = (w (ix2 0 q) + k0_pay2 X D (k0_pay34 KernMask.I) (k0_pay35 KernMask.I) (k0_pay36 KernMask.I) (k0_pay37 KernMask.I) (ix2 0 q) : EReal) := by
  pointwise [k0_pay8]
theorem add_pay9 (w : Vec Ideal S1x256 .f32) : k0_pay9 D w (ix2 0 q) = (w (ix2 0 q) + k0_pay4 D (ix2 0 q) : EReal) := by
  pointwise [k0_pay9]

/-- Two indices of the block of four rows with the same coordinates. -/
theorem ix_eq (r : Rect S4x256) (x : r.shape.Idx) (y : S4x256.Idx) (h0 : (r.idx x 0).val = (y 0).val)
    (h1 : (r.idx x 1).val = (y 1).val) : r.idx x = y := by
  rw [eq_ix2 y]
  funext a
  fin_cases a
  · exact Fin.ext h0
  · exact Fin.ext h1

section point

variable (c : Dev nD) (t : Fin cfg0.N) (o5 : Vec Ideal S4x256 .f32) (o6 : Vec Ideal S1x256 .f32)

/-- The gradient of the input, of the first sample of a run. -/
theorem outA4 (hc0 : cond0_0 (grid0.coords t)) (hc1 : ¬ cond0_1 (grid0.coords t)) (s : Fin 2304) (q : Fin 256) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 (ix3 0 s q)
    = dx (btap x1 q) (bcol x3 q) s.val := by
  unfold out0_A_4
  rw [View.read_writes_eq_canon VO0_4 VO0_4.junk _ (cover0_A_4 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x3 (by decide)]
  rw [View.canon_cons_unit_lit _ _ _ (by decide)]
  refine (dx_at (k0_pay11 x3) _ _ _ _ s q).trans ?_
  rw [taps_eq _ _ _ _ q x1 ?_, col_eq']
  refine ⟨?_, ?_, ?_, ?_⟩ <;> pointwise

/-- The gradient of the input, of a later sample of a run. -/
theorem outB4 (hc0 : ¬ cond0_0 (grid0.coords t)) (hc1 : cond0_1 (grid0.coords t)) (s : Fin 2304) (q : Fin 256) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 (ix3 0 s q)
    = dx (btap x1 q) (bcol x3 q) s.val := by
  unfold out0_B_4
  rw [View.read_writes_eq_canon VO0_4 VO0_4.junk _ (cover0_B_4 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x3 (by decide)]
  rw [View.canon_cons_unit_lit _ _ _ (by decide)]
  refine (dx_at (k0_pay11 x3) _ _ _ _ s q).trans ?_
  rw [taps_eq _ _ _ _ q x1 ?_, col_eq']
  refine ⟨?_, ?_, ?_, ?_⟩ <;> pointwise

/-- The gradients of the taps, of the first sample of a run. -/
theorem outA5 (hc0 : cond0_0 (grid0.coords t)) (hc1 : ¬ cond0_1 (grid0.coords t)) (y : S4x256.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 y
    = bdw x0 x3 y := by
  unfold out0_A_5
  rw [View.read_writes_eq_canon VO0_5 VO0_5.junk _ (cover0_A_5 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x0 (by decide), View.ld_unit_lit _ x3 (by decide)]
  canon_tiles x h
  case piece0 =>
    obtain ⟨q, rfl⟩ := row_idx x
    rw [bdw_row q x0 x3 y 3 (by simp at h0 ⊢; omega) h1]
    exact (dw3 (k0_pay10 x0) (k0_pay11 x3) q).trans (by rw [col_eq, col_eq'])
  case piece1 =>
    obtain ⟨q, rfl⟩ := row_idx x
    rw [bdw_row q x0 x3 y 2 (by simp at h0 ⊢; omega) h1]
    exact (dw2 (k0_pay10 x0) (k0_pay11 x3) q).trans (by rw [col_eq, col_eq'])
  case piece2 =>
    obtain ⟨q, rfl⟩ := row_idx x
    rw [bdw_row q x0 x3 y 1 (by simp at h0 ⊢; omega) h1]
    exact (dw1 (k0_pay10 x0) (k0_pay11 x3) q).trans (by rw [col_eq, col_eq'])
  case piece3 =>
    obtain ⟨q, rfl⟩ := row_idx x
    rw [bdw_row q x0 x3 y 0 (by simp at h0 ⊢; omega) h1]
    exact (dw0 (k0_pay10 x0) (k0_pay11 x3) q).trans (by rw [col_eq, col_eq'])

/-- The gradients of the taps, of a later sample of a run. -/
theorem outB5 (hc0 : ¬ cond0_0 (grid0.coords t)) (hc1 : cond0_1 (grid0.coords t)) (y : S4x256.Idx) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 y
    = (o5 y + bdw x0 x3 y : EReal) := by
  unfold out0_B_5
  rw [View.read_writes_eq_canon VO0_5 VO0_5.junk _ (cover0_B_5 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x0 (by decide), View.ld_unit_lit _ x3 (by decide)]
  canon_tiles x h
  case piece0 =>
    obtain ⟨q, rfl⟩ := row_idx x
    rw [bdw_row q x0 x3 y 3 (by simp at h0 ⊢; omega) h1]
    refine (add_pay8 _ _ q _).trans (congrArg₂ (· + ·) ?_ ((dw3 (k0_pay10 x0) (k0_pay11 x3) q).trans (by rw [col_eq, col_eq'])))
    rw [View.ld_apply]; apply congrArg; exact ix_eq _ _ y h0.symm ((Nat.zero_add _).trans ((Nat.one_mul _).trans h1.symm))
  case piece1 =>
    obtain ⟨q, rfl⟩ := row_idx x
    rw [bdw_row q x0 x3 y 2 (by simp at h0 ⊢; omega) h1]
    refine (add_pay7 q _ _).trans (congrArg₂ (· + ·) ?_ ((dw2 (k0_pay10 x0) (k0_pay11 x3) q).trans (by rw [col_eq, col_eq'])))
    rw [View.ld_apply]; apply congrArg; exact ix_eq _ _ y h0.symm ((Nat.zero_add _).trans ((Nat.one_mul _).trans h1.symm))
  case piece2 =>
    obtain ⟨q, rfl⟩ := row_idx x
    rw [bdw_row q x0 x3 y 1 (by simp at h0 ⊢; omega) h1]
    refine (add_pay6 q _ _).trans (congrArg₂ (· + ·) ?_ ((dw1 (k0_pay10 x0) (k0_pay11 x3) q).trans (by rw [col_eq, col_eq'])))
    rw [View.ld_apply]; apply congrArg; exact ix_eq _ _ y h0.symm ((Nat.zero_add _).trans ((Nat.one_mul _).trans h1.symm))
  case piece3 =>
    obtain ⟨q, rfl⟩ := row_idx x
    rw [bdw_row q x0 x3 y 0 (by simp at h0 ⊢; omega) h1]
    refine (add_pay5 q _ _).trans (congrArg₂ (· + ·) ?_ ((dw0 (k0_pay10 x0) (k0_pay11 x3) q).trans (by rw [col_eq, col_eq'])))
    rw [View.ld_apply]; apply congrArg; exact ix_eq _ _ y h0.symm ((Nat.zero_add _).trans ((Nat.one_mul _).trans h1.symm))

/-- The gradient of the bias, of the first sample of a run. -/
theorem outA6 (hc0 : cond0_0 (grid0.coords t)) (hc1 : ¬ cond0_1 (grid0.coords t)) (q : Fin 256) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 (ix2 0 q)
    = (∑ t ∈ Finset.range 2304, bcol x3 q t : EReal) := by
  unfold out0_A_6
  rw [View.read_writes_eq_canon VO0_6 VO0_6.junk _ (cover0_A_6 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x3 (by decide)]
  rw [View.canon_cons_unit_lit _ _ _ (by decide), db_at, col_eq']

/-- The gradient of the bias, of a later sample of a run. -/
theorem outB6 (hc0 : ¬ cond0_0 (grid0.coords t)) (hc1 : cond0_1 (grid0.coords t)) (q : Fin 256) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 (ix2 0 q)
    = (o6 (ix2 0 q) + ∑ t ∈ Finset.range 2304, bcol x3 q t : EReal) := by
  unfold out0_B_6
  rw [View.read_writes_eq_canon VO0_6 VO0_6.junk _ (cover0_B_6 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x3 (by decide), View.ld_unit_lit _ o6 (by decide)]
  rw [View.canon_cons_unit_lit _ _ _ (by decide), add_pay9, db_at, col_eq']

end point

end Cert.LruConvBwdOut

end
-- ==== Proof.LruConvBwdRef.lean ====
module

public import proofs.«01_k».proof.Proof.Gen.LruConvBwdRefIdeal.Read
public import proofs.«01_k».proof.Proof.LineSpec
public import proofs.«01_k».proof.Proof.HostSums

@[expose] public section

set_option maxRecDepth 16384

noncomputable section

/-!
# The linear recurrence's convolution: the reference's gradients, read one channel at a time
-/

namespace Cert.LruConvBwdRef

open Cert.LruConvBwdRefIdeal Cert.LruConvBwdRefIdeal.Gen Cert.LruConvBwdRefIdeal.Value Cert.LruConvBwdRefIdeal.Read Idealize.ShloMosaic
  Idealize.ShloMosaic.TcCoe Idealize.SL.Sem Cert.LineSpec

/-- The column of sample `b` and channel `c`, zero beyond the last position. -/
def col (x : FVec Ideal S4x2304x1024 .f32) (b : Fin 4) (c : Fin 1024) (t : ℕ) : EReal :=
  if h : t < 2304 then x (ix3 b ⟨t, h⟩ c) else 0

/-- The four taps of channel `c`. -/
def taps (w : FVec Ideal S4x1024 .f32) (c : Fin 1024) (j : Fin 4) : EReal := w (ix2 j c)

theorem col_at (x : FVec Ideal S4x2304x1024 .f32) (b : Fin 4) (c : Fin 1024) (t : ℕ) (h : t < 2304) :
    x (ix3 b ⟨t, h⟩ c) = col x b c t := by
  unfold col; rw [dif_pos h]

variable (x0 : FVec Ideal S4x2304x1024 .f32) (x1 : FVec Ideal S4x1024 .f32) (x3 : FVec Ideal S4x2304x1024 .f32)

/-- The four taps of the context line. -/
theorem v16 (j b : Fin 4) (p : Fin 256) (c : Fin 1024) :
    val_main_v16 (F := Ideal) x0 (ix4 j b p c) = tap (col x0 b c) j p.val := by
  rw [tap_ctx _ _ _ p.isLt]
  pointwise [val_main_v16, val_main_v12, val_main_v13, val_main_v14, val_main_v15, val_main_v8, val_main_v9, val_main_v10, val_main_v11, val_main_v4, val_main_v3, val_main_v2, val_main_cst, val_main_v0, col_at]
  have := p.isLt
  fin_cases j <;> simp <;> split_ifs <;> first | rfl | (exfalso; omega) | (congr 1; omega)

/-- The four taps of the other line. -/
theorem v39 (j b : Fin 4) (p : Fin 2048) (c : Fin 1024) :
    val_main_v39 (F := Ideal) x0 (ix4 j b p c) = tap (col x0 b c) j (256 + p.val) := by
  rw [tap_lat _ _ _ p.isLt]
  pointwise [val_main_v39, val_main_v35, val_main_v36, val_main_v37, val_main_v38, val_main_v31, val_main_v32, val_main_v33, val_main_v34, val_main_v27, val_main_v26, val_main_v25, val_main_cst_4, val_main_v23, col_at]
  have := p.isLt
  fin_cases j <;> simp <;> split_ifs <;> first | rfl | (exfalso; omega) | (congr 1; omega)

theorem v47 (b : Fin 4) (p : Fin 256) (c : Fin 1024) : val_main_v47 (F := Ideal) x3 (ix3 b p c) = col x3 b c p.val := by
  pointwise [val_main_v47, col_at]

theorem v48 (b : Fin 4) (p : Fin 2048) (c : Fin 1024) :
    val_main_v48 (F := Ideal) x3 (ix3 b p c) = col x3 b c (256 + p.val) := by
  pointwise [val_main_v48, col_at]

/-- The gradient of the bias. -/
theorem v113 (a : Fin 1) (c : Fin 1024) : val_main_v113 (F := Ideal) x3 (ix2 a c)
    = ∑ b : Fin 4, ∑ t ∈ Finset.range 2304, col x3 b c t := by
  pointwise [val_main_v113, val_main_v82, val_main_v51, val_main_v50, val_main_v49, val_main_v79, val_main_v80, val_main_v81, val_main_cst_9, val_main_cst_10, val_main_cst_18, val_main_cst_19, HostSums.r3_01]
  simp only [v47, v48, sum_split, Finset.sum_add_distrib, zero_add, Finset.univ_unique, Finset.sum_singleton]
  rw [add_comm]

/-- The gradients of the taps. -/
theorem v109 (j : Fin 4) (c : Fin 1024) : val_main_v109 (F := Ideal) x0 x3 (ix2 j c)
    = ∑ b : Fin 4, dw (col x0 b c) (col x3 b c) j := by
  pointwise [val_main_v109, val_main_v77, val_main_v108, HostSums.r4_12, val_main_v57, val_main_v88, val_main_cst_16, val_main_cst_25]
  pointwise [val_main_v56, val_main_v87, HostSums.r4_12, val_main_v55, val_main_v52, val_main_v86, val_main_v83, val_main_cst_11, val_main_cst_20, v47, v48, v16, v39]
  unfold dw
  simp only [sum_split, Finset.sum_add_distrib, zero_add, Finset.univ_unique, Finset.sum_singleton]
  rw [add_comm]

/-- The input's gradient on the context line. -/
theorem v105 (b : Fin 4) (p : Fin 256) (c : Fin 1024) :
    val_main_v105 (F := Ideal) x1 x3 (ix3 b p c) = dx (taps x1 c) (col x3 b c) p.val := by
  unfold dx
  simp only [Fin.sum_univ_four, back_ctx _ _ _ _ p.isLt]
  unfold taps
  pointwise [val_main_v105, val_main_v103, val_main_v102, val_main_v101, val_main_v100, val_main_v99, val_main_v98, val_main_v97, val_main_cst_21, val_main_cst_22, val_main_cst_23, val_main_cst_24, val_main_v96, val_main_v95, val_main_v94, val_main_v93, val_main_v92, val_main_v91, val_main_v90, val_main_v89, val_main_v85, val_main_v84, val_main_v83, val_main_v1, v47]
  have := p.isLt
  have hc : ∀ u v w z : EReal, u + v + w + z = z + w + v + u := fun u v w z => by ac_rfl
  rw [hc]
  refine congrArg₂ (· + ·) (congrArg₂ (· + ·) (congrArg₂ (· + ·) ?_ ?_) ?_) ?_ <;> split_ifs <;>
    first | rfl | (exfalso; simp at *; omega) | (refine congrArg₂ (· * ·) rfl (congrArg _ ?_); first | omega | (simp <;> omega))

/-- The input's gradient on the other line. -/
theorem v74 (b : Fin 4) (p : Fin 2048) (c : Fin 1024) :
    val_main_v74 (F := Ideal) x1 x3 (ix3 b p c) = dx (taps x1 c) (col x3 b c) (256 + p.val) := by
  unfold dx
  simp only [Fin.sum_univ_four, back_lat _ _ _ _ p.isLt]
  unfold taps
  pointwise [val_main_v74, val_main_v72, val_main_v71, val_main_v70, val_main_v69, val_main_v68, val_main_v67, val_main_v66, val_main_cst_12, val_main_cst_13, val_main_cst_14, val_main_cst_15, val_main_v65, val_main_v64, val_main_v63, val_main_v62, val_main_v61, val_main_v60, val_main_v59, val_main_v58, val_main_v54, val_main_v53, val_main_v52, val_main_v24, v48]
  have := p.isLt
  have hc : ∀ u v w z : EReal, u + v + w + z = z + w + v + u := fun u v w z => by ac_rfl
  rw [hc]
  refine congrArg₂ (· + ·) (congrArg₂ (· + ·) (congrArg₂ (· + ·) ?_ ?_) ?_) ?_ <;> split_ifs <;>
    first | rfl | (exfalso; simp at *; omega) | (refine congrArg₂ (· * ·) rfl (congrArg _ ?_); first | omega | (simp <;> omega))

/-- The gradient of the convolution's input. -/
theorem v112 (b : Fin 4) (p : Fin 2304) (c : Fin 1024) :
    val_main_v112 (F := Ideal) x1 x3 (ix3 b p c) = dx (taps x1 c) (col x3 b c) p.val := by
  pointwise [val_main_v112, val_main_v111, val_main_v110, val_main_v78, val_main_cst_17, val_main_cst_26, v74, v105]
  have := p.isLt
  split_ifs
  · omega
  · rw [add_zero]; congr 1; omega
  · rw [zero_add]
  · omega

end Cert.LruConvBwdRef

end
-- ==== Proof.LruConvBwdValue.lean ====
module

public import proofs.«01_k».proof.Proof.LruConvBwdOut
public import proofs.«01_k».proof.Proof.LruConvBwdRef
public import proofs.«01_k».proof.Proof.Gen.LruConvBwd.Frame
public import proofs.«01_k».proof.Proof.Gen.LruConvBwdRefIdeal.Run
public import proofs.«01_k».proof.Defs
public import Idealize.ShloMosaic.Lib.Pipeline.ValueKit
public import Idealize.ShloMosaic.Lib.Claim
public import Idealize.ShloMosaic.Init

@[expose] public section

set_option maxRecDepth 16384

noncomputable section

/-!
# The linear recurrence's convolution: the kernel's three gradients are the reference's

The grid visits four groups of 256 channels, and for each the four samples in turn. The input's gradient is written block
by block; the gradients of the taps and of the bias are added up over a group's four samples.
-/

namespace Cert.LruConvBwdIdeal.Value

open Cert.LruConvBwdIdeal Cert.LruConvBwdIdeal.Gen Idealize.ShloMosaic Idealize.ShloMosaic.TcCoe Idealize.SL.Sem
open Cert.LineSpec (dx dw)
open Cert.LruConvBwdOut (bcol btap bdw row_idx)
open Cert.LruConvBwdRef (col taps)

variable (m : (ℓ : Loc nD τ sig) → Buf (Elt Ideal) ℓ) (c : Dev nD)

/-- Every window's block index at a grid point. -/
theorem idx : ∀ t : Fin cfg0.N, win0_0.index t = ![t.val % 4, 0, t.val / 4] ∧ win0_1.index t = ![0, t.val / 4]
    ∧ win0_3.index t = ![t.val % 4, 0, t.val / 4]
    ∧ win0_4.index t = ![t.val % 4, 0, t.val / 4] ∧ win0_5.index t = ![0, t.val / 4] ∧ win0_6.index t = ![0, t.val / 4] :=
  (by decide +kernel : ∀ t : Fin grid0.N, _)

theorem lt_points (t : Fin cfg0.N) : t.val < 16 := lt_of_lt_of_eq t.isLt (show cfg0.N = 16 from N_0)

/-- The sample of a grid point. -/
def sm (t : Fin cfg0.N) : Fin 4 := ⟨t.val % 4, by omega⟩

/-- The channel of a grid point's block. -/
def ch (t : Fin cfg0.N) (q : Fin 256) : Fin 1024 := ⟨t.val / 4 * 256 + q.val, by have := lt_points t; omega⟩

/-- The convolution's input, its taps, and the arriving gradient. -/
abbrev a0 : FVec Ideal S4x2304x1024 .f32 := m ((c : Thread nD τ).loc main_arg0)
abbrev a1 : FVec Ideal S4x1024 .f32 := m ((c : Thread nD τ).loc main_arg1)
abbrev a3 : FVec Ideal S4x2304x1024 .f32 := m ((c : Thread nD τ).loc main_arg3)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read3 (t : Fin cfg0.N) (s : Fin 2304) (q : Fin 256) :
    iblk m c 3 t (ix3 0 s q) = m ((c : Thread nD τ).loc main_arg3) (ix3 (sm t) s (ch t q)) := by
  unfold sm ch
  blk_ext [iblk, V, idx t]

theorem read1 (t : Fin cfg0.N) (j : Fin 4) (q : Fin 256) :
    iblk m c 1 t (ix2 j q) = m ((c : Thread nD τ).loc main_arg1) (ix2 j (ch t q)) := by
  unfold ch
  blk_ext [iblk, V, idx t]

theorem col0 (t : Fin cfg0.N) (q : Fin 256) : bcol (iblk m c 0 t) q = col (a0 m c) (sm t) (ch t q) := by
  funext s
  unfold bcol col
  split_ifs with h
  · exact read0 m c t ⟨s, h⟩ q
  · rfl

theorem col3 (t : Fin cfg0.N) (q : Fin 256) : bcol (iblk m c 3 t) q = col (a3 m c) (sm t) (ch t q) := by
  funext s
  unfold bcol col
  split_ifs with h
  · exact read3 m c t ⟨s, h⟩ q
  · rfl

theorem tap1 (t : Fin cfg0.N) (q : Fin 256) : btap (iblk m c 1 t) q = taps (a1 m c) (ch t q) :=
  funext fun j => read1 m c t j q

/-- What a grid point adds to the tap gradients. -/
theorem dw_blk (t : Fin cfg0.N) (y : S4x256.Idx) : bdw (iblk m c 0 t) (iblk m c 3 t) y
    = dw (col (a0 m c) (sm t) (ch t (y 1))) (col (a3 m c) (sm t) (ch t (y 1))) (y 0) :=
  congrArg₂ (fun x d => dw x d _) (col0 m c t (y 1)) (col3 m c t (y 1))

/-- Every grid point leaves the gradient of the input for its sample and channels. -/
theorem out4 (t : Fin cfg0.N) (s : Fin 2304) (q : Fin 256) : (outsAt0 m c t.val t.isLt).1 (ix3 0 s q)
    = dx (taps (a1 m c) (ch t q)) (col (a3 m c) (sm t) (ch t q)) s.val := by
  by_cases h : t.val % 4 = 0
  · rw [outsAt0_A m c t h (by omega)]
    dsimp only
    rw [Cert.LruConvBwdOut.outA4, tap1, col3]
  · rw [outsAt0_B m c t h (by omega)]
    dsimp only
    rw [Cert.LruConvBwdOut.outB4, tap1, col3]

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The gradient of the input. -/
def F4 : FVec Ideal S4x2304x1024 .bf16 := fun j => dx (taps (a1 m c) (j 2)) (col (a3 m c) (j 0) (j 2)) (j 1).val

/-- The gradients of the taps. -/
def F5 : FVec Ideal S4x1024 .f32 := fun j => ∑ b : Fin 4, dw (col (a0 m c) b (j 1)) (col (a3 m c) b (j 1)) (j 0)

/-- The gradient of the bias. -/
def F6 : FVec Ideal S1x1024 .f32 := fun j => ∑ b : Fin 4, ∑ t ∈ Finset.range 2304, col (a3 m c) b (j 1) t

theorem sm_run (t t' : Fin cfg0.N) (b : Fin 4) (h : t'.val = 4 * (t.val / 4) + b.val) : sm t' = b :=
  Fin.ext (by show t'.val % 4 = b.val; omega)

theorem ch_run (t t' : Fin cfg0.N) (b : Fin 4) (h : t'.val = 4 * (t.val / 4) + b.val) (q : Fin 256) : ch t' q = ch t q :=
  Fin.ext (by show t'.val / 4 * 256 + q.val = t.val / 4 * 256 + q.val; omega)

/-- The gradient of the input, whole. -/
theorem final4 : (dats m 0 c).arrAt 4 cfg0.N = F4 m c := by
  refine (dats m 0 c).arrAt_eq_of_covers 4 _ (by decide +kernel) fun t _ y => ?_
  blk_simp
  rw [after0_4]
  obtain ⟨s, q, rfl⟩ := blk_idx y
  have e : (win0_4.blk t).view.emb (ix3 0 s q) = ix3 (sm t) s (ch t q) := by
    unfold sm ch
    blk_ext [idx t]
  rw [e]
  exact out4 m c t s q

/-- The gradients of the taps, whole: each group's four samples added up. -/
theorem final5 : (dats m 0 c).arrAt 5 cfg0.N = F5 m c := by
  refine (dats m 0 c).arrAt_eq_of_covers 5 _ (by decide +kernel) fun t hf y => ?_
  blk_simp
  rw [after0_5, Pipeline.eq_sum_fin_of_reset_step_apply_of_flush (fun n h => (outsAt0 m c n h).2.1) 4 (fun _ => (0 : EReal))
    (fun t => bdw (iblk m c 0 t) (iblk m c 3 t))
    (fun t h j => by rw [outsAt0_A m c t h (by omega)]; dsimp only; rw [Cert.LruConvBwdOut.outA5, zero_add])
    (fun t h j => by rw [outsAt0_B m c t h (by omega)]; dsimp only; rw [Cert.LruConvBwdOut.outB5])
    t ((flush0_5 t).mp hf) _, zero_add]
  obtain ⟨r, q, rfl⟩ : ∃ (r : Fin 4) (q : Fin 256), y = ix2 r q := ⟨y 0, y 1, eq_ix2 y⟩
  have e : (win0_5.blk t).view.emb (ix2 r q) = ix2 r (ch t q) := by
    unfold ch
    blk_ext [idx t]
  rw [e]
  refine Fin.sum_fin_congr fun b => ?_
  refine (dw_blk m c _ _).trans ?_
  rw [sm_run t _ b rfl]
  exact congrArg (fun k => dw (col (a0 m c) b k) (col (a3 m c) b k) _) (ch_run t _ b rfl q)

/-- The gradient of the bias, whole: each group's four samples added up. -/
theorem final6 : (dats m 0 c).arrAt 6 cfg0.N = F6 m c := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => (0 : EReal))
    (fun t y => ∑ s ∈ Finset.range 2304, bcol (iblk m c 3 t) (y 1) s)
    (fun t h j => by
      rw [outsAt0_A m c t h (by omega)]; dsimp only; obtain ⟨q, rfl⟩ := row_idx j
      rw [Cert.LruConvBwdOut.outA6, zero_add]; rfl)
    (fun t h j => by
      rw [outsAt0_B m c t h (by omega)]; dsimp only; obtain ⟨q, rfl⟩ := row_idx j
      rw [Cert.LruConvBwdOut.outB6]; rfl)
    t ((flush0_6 t).mp hf) _, zero_add]
  obtain ⟨q, rfl⟩ := row_idx y
  have e : (win0_6.blk t).view.emb (ix2 0 q) = ix2 0 (ch t q) := by
    unfold ch
    blk_ext [idx t]
  rw [e]
  refine Fin.sum_fin_congr fun b => ?_
  show (_ : EReal) = _
  refine Finset.sum_congr rfl fun s _ => ?_
  refine (congrFun (col3 m c _ q) s).trans ?_
  rw [sm_run t _ b rfl]
  exact congrArg (fun k => col (a3 m c) b k s) (ch_run t _ b rfl q)

/-- The gradient of the input is the reference's. -/
theorem eq4 : F4 m c = Cert.LruConvBwdRefIdeal.Read.val_main_v112 (F := Ideal) (a1 m c) (a3 m c) := by
  funext j
  obtain ⟨b, p, k, rfl⟩ : ∃ (b : Fin 4) (p : Fin 2304) (k : Fin 1024), j = ix3 b p k := ⟨j 0, j 1, j 2, eq_ix3 j⟩
  exact (Cert.LruConvBwdRef.v112 _ _ b p k).symm

/-- The gradients of the taps are the reference's. -/
theorem eq5 : F5 m c = Cert.LruConvBwdRefIdeal.Read.val_main_v109 (F := Ideal) (a0 m c) (a3 m c) := by
  funext j
  obtain ⟨r, k, rfl⟩ : ∃ (r : Fin 4) (k : Fin 1024), j = ix2 r k := ⟨j 0, j 1, eq_ix2 j⟩
  exact (Cert.LruConvBwdRef.v109 _ _ r k).symm

/-- The gradient of the bias is the reference's. -/
theorem eq6 : F6 m c = Cert.LruConvBwdRefIdeal.Read.val_main_v113 (F := Ideal) (a3 m c) := by
  funext j
  obtain ⟨r, k, rfl⟩ : ∃ (r : Fin 1) (k : Fin 1024), j = ix2 r k := ⟨j 0, j 1, eq_ix2 j⟩
  exact (Cert.LruConvBwdRef.v113 _ r k).symm

end Cert.LruConvBwdIdeal.Value

namespace Cert.Proof

open Idealize.ShloMosaic Idealize.ShloMosaic.TcCoe Idealize.SL.Sem
open Cert.LruConvBwdIdeal.Value (F4 F5 F6 final4 final5 final6 eq4 eq5 eq6)

/-- The reference ends with its arguments untouched and nothing in flight. -/
theorem quiescent_LruConvBwdRef : Cert.quiescent_LruConvBwdRefIdeal := fun m ρ _ =>
  (θ_run Cert.LruConvBwdRefIdeal.defs _ _).mono (fun r h => ⟨fun c => (h c).2.2.2, sem_eq_zero_of_no_sems (by decide) r.2⟩)
    (Cert.LruConvBwdRefIdeal.Value.run (F := Ideal) m ρ)

/-- The kernel's three gradients are the reference's. -/
theorem algebraic_LruConvBwd : Cert.algebraic_LruConvBwdIdeal_LruConvBwdRefIdeal := by
  intro m ρ m' ρ' _ hagree
  refine ⟨F4 m, F5 m, F6 m, ?_, ?_⟩
  · refine (θ_run Cert.LruConvBwdIdeal.defs _ _).mono (fun r h c => ?_) (Cert.LruConvBwdIdeal.Value.run_blocks (F := Ideal) m ρ)
    obtain ⟨e4, e5, e6, hk⟩ := h c
    exact ⟨e4.trans (final4 m c), e5.trans (final5 m c), e6.trans (final6 m c), hk⟩
  · refine (θ_run Cert.LruConvBwdRefIdeal.defs _ _).mono (fun r h c => ?_) (Cert.LruConvBwdRefIdeal.Value.run (F := Ideal) m' ρ')
    obtain ⟨e0, e1, e2, hk⟩ := h c
    obtain ⟨g0, g1, g2, g3⟩ := hagree c
    refine ⟨?_, ?_, ?_, hk⟩
    · refine e0.trans ((Cert.LruConvBwdRefIdeal.Read.val_main_v112_eq _ _).trans ?_)
      rw [g1, g3]
      exact (eq4 m c).symm
    · refine e1.trans ((Cert.LruConvBwdRefIdeal.Read.val_main_v109_eq _ _).trans ?_)
      rw [g0, g3]
      exact (eq5 m c).symm
    · refine e2.trans ((Cert.LruConvBwdRefIdeal.Read.val_main_v113_eq _).trans ?_)
      rw [g3]
      exact (eq6 m c).symm

end Cert.Proof

end
-- ==== Proof.SsdConvBwdOut.lean ====
module

public import proofs.«01_k».proof.Proof.Gen.SsdConvBwdIdeal.Value
public import proofs.«01_k».proof.Proof.LineMask
public import proofs.«01_k».proof.Proof.Silu
public import Idealize.ShloMosaic.Lib.Pipeline.ValueKit

@[expose] public section

set_option maxRecDepth 16384

noncomputable section

/-!
# The state-space scan's convolution: what one grid point leaves

One grid point reads a sample's block of 256 channels, computes the convolution again, and leaves the gradient of the
input and the gradients of the taps and of the bias, added to what the previous samples left. Each is stated on a channel's column.
-/

namespace Cert.SsdConvBwdOut

open Cert.SsdConvBwdIdeal Cert.SsdConvBwdIdeal.Gen Idealize.ShloMosaic Idealize.ShloMosaic.TcCoe Idealize.SL.Sem Cert.LineSpec
  Cert.LineMask
open Cert.ConvSpec (dsilu' sg)

/-- The four taps of channel `q`, from the four loads. -/
def taps4 (W0 W1 W2 W3 : Vec Ideal S1x256 .f32) (q : Fin 256) (j : Fin 4) : EReal := (![W0, W1, W2, W3] j) (ix2 0 q)

/-- The gradient at the convolution's result under each tap's mask. -/
abbrev g0 (D : FVec Ideal S2304x256 .f32) : FVec Ideal S2304x256 .f32 := k0_pay36 D KernMask.I k0_pay34 k0_pay35
abbrev g1 (D : FVec Ideal S2304x256 .f32) : FVec Ideal S2304x256 .f32 := k0_pay41 D KernMask.I (k0_pay39 KernMask.I) k0_pay40
abbrev g3 (D : FVec Ideal S2304x256 .f32) : FVec Ideal S2304x256 .f32 :=
  k0_pay53 D (k0_pay50 KernMask.I) (k0_pay51 KernMask.I) (k0_pay52 KernMask.I) 256#32

/-- The mask of the tap one position on, spread over the channels. -/
abbrev M2 : FVec Ideal S2304x256 .f32 := k0_pay45 KernMask.I (k0_pay44 KernMask.I) KernMask.one

variable (X D : FVec Ideal S2304x256 .f32) (W0 W1 W2 W3 : Vec Ideal S1x256 .f32) (t : Fin 2304) (q : Fin 256)

/-- A block times a column spread over the channels. -/
theorem spread (M : FVec Ideal S2304x1 .f32) :
    mulf D (broadcastTo S2304x256 M broadcasts_S2304x1_S2304x256) (ix2 t q) = (D (ix2 t q) * M (ix2 t 0) : EReal) := by
  pointwise

theorem g0_at : g0 D (ix2 t q) = colT D q t.val * if N 0 t.val then (1 : EReal) else 0 := by
  rw [← mask0, ← colT_at D]
  exact spread D t q (MASK 4294967295#32)

theorem g1_at : g1 D (ix2 t q) = colT D q t.val * if N 1 t.val then (1 : EReal) else 0 := by
  rw [← mask1, ← colT_at D]
  exact spread D t q (MASK 0#32)

/-- A column spread over the channels. -/
theorem spreadM (M : FVec Ideal S2304x1 .f32) :
    broadcastTo S2304x256 M broadcasts_S2304x1_S2304x256 (ix2 t q) = (M (ix2 t 0) : EReal) := by
  pointwise

theorem M2_at : M2 (ix2 t q) = if N 2 t.val then (1 : EReal) else 0 := by
  rw [← mask2]
  exact spreadM t q (MASK 1#32)

theorem g2_at (M : FVec Ideal S2304x256 .f32) (hM : ∀ t : Fin 2304, M (ix2 t q) = if N 2 t.val then (1 : EReal) else 0) :
    k0_pay46 D M (ix2 t q) = colT D q t.val * if N 2 t.val then (1 : EReal) else 0 := by
  rw [← colT_at D]
  pointwise [k0_pay46, hM]

theorem g3_at : g3 D (ix2 t q) = colT D q t.val * if N 3 t.val then (1 : EReal) else 0 := by
  rw [← mask3, ← colT_at D]
  exact spread D t q (MASK 2#32)

/-- Tap 0 against the gradient. -/
theorem dw0 : k0_pay38 X D KernMask.I k0_pay34 k0_pay35 (ix2 0 q) = dw (colT X q) (colT D q) 0 := by
  have h := fun t => g0_at D t q
  unfold dw
  rw [Finset.sum_range]
  pointwise [k0_pay38, h, colT_at X]
  refine Finset.sum_congr rfl fun t _ => masked _ _ _ _ _ t.isLt ?_
  have := t.isLt
  first | rfl | (simp; omega)

/-- Tap 1 against the gradient. -/
theorem dw1 : k0_pay43 X D KernMask.I (k0_pay39 KernMask.I) k0_pay40 (ix2 0 q) = dw (colT X q) (colT D q) 1 := by
  have h := fun t => g1_at D t q
  unfold dw
  rw [Finset.sum_range]
  pointwise [k0_pay43, h, colT_at X]
  refine Finset.sum_congr rfl fun t _ => masked _ _ _ _ _ t.isLt ?_
  have := t.isLt
  first | rfl | (simp; omega)

/-- Tap 2 against the gradient. -/
theorem dw2 (M : FVec Ideal S2304x256 .f32) (hM : ∀ t : Fin 2304, M (ix2 t q) = if N 2 t.val then (1 : EReal) else 0) : k0_pay48 X D M (ix2 0 q) = dw (colT X q) (colT D q) 2 := by
  have h := fun t => g2_at D t q M hM
  unfold dw
  rw [Finset.sum_range]
  pointwise [k0_pay48, h, colT_at X]
  refine Finset.sum_congr rfl fun t _ => masked _ _ _ _ _ t.isLt ?_
  have := t.isLt
  first | rfl | (simp; omega)

/-- Tap 3 against the gradient. -/
theorem dw3 : k0_pay54 X D (k0_pay50 KernMask.I) (k0_pay51 KernMask.I) (k0_pay52 KernMask.I) 256#32 (ix2 0 q) = dw (colT X q) (colT D q) 3 := by
  have h := fun t => g3_at D t q
  unfold dw
  rw [Finset.sum_range]
  pointwise [k0_pay54, h, colT_at X]
  refine Finset.sum_congr rfl fun t _ => masked _ _ _ _ _ t.isLt ?_
  have := t.isLt
  first | rfl | (simp; omega)

/-- The sum of the gradient. -/
theorem db_at : k0_pay56 D (ix2 0 q) = ∑ t ∈ Finset.range 2304, colT D q t := by
  rw [Finset.sum_range]
  pointwise [k0_pay56, colT_at D]

/-- The gradient of the input, as the body computes it. -/
abbrev dxT (M : FVec Ideal S2304x256 .f32) : FVec Ideal S1x2304x256 .bf16 :=
  k0_pay55 D (k0_pay47 D (k0_pay42 D KernMask.I (k0_pay37 D KernMask.I k0_pay33 k0_pay34 k0_pay35 W0) (k0_pay39 KernMask.I) k0_pay40 W1)
    M W2) (k0_pay50 KernMask.I) (k0_pay51 KernMask.I) (k0_pay52 KernMask.I) 256#32 W3

/-- A masked product read at two equal positions. -/
theorem same (f : ℕ → EReal) (j : Fin 4) (w : EReal) (a b : ℕ) (h : a = b) :
    w * (f a * if N j a then (1 : EReal) else 0) = w * (f b * if N j b then (1 : EReal) else 0) := by rw [h]

theorem dx_at (M : FVec Ideal S2304x256 .f32) (hM : ∀ t : Fin 2304, M (ix2 t q) = if N 2 t.val then (1 : EReal) else 0) :
    dxT D W0 W1 W2 W3 M (ix3 0 t q) = dx (taps4 W0 W1 W2 W3 q) (colT D q) t.val := by
  have h0 := fun t => g0_at D t q
  have h1 := fun t => g1_at D t q
  have h2 := fun t => g2_at D t q M hM
  have h3 := fun t => g3_at D t q
  have := t.isLt
  unfold dx
  rw [Fin.sum_univ_four, ← moved _ _ 0 _ _ t.isLt rfl, ← moved _ _ 1 _ _ t.isLt rfl, ← moved _ _ 2 _ _ t.isLt rfl,
    ← moved _ _ 3 _ _ t.isLt rfl]
  pointwise [dxT, k0_pay55, k0_pay47, k0_pay42, k0_pay37, k0_pay33, h0, h1, h2, h3]
  refine congrArg₂ (· + ·) (congrArg₂ (· + ·) (congrArg₂ (· + ·) ?_ ?_) ?_) ?_
  · exact same (colT D q) 0 (W0 (ix2 0 q)) ((t.val + 2304 - 2303) % 2304) ((t.val + 2305) % 2304) (by omega)
  · exact same (colT D q) 1 (W1 (ix2 0 q)) t.val ((t.val + 2305 - 1) % 2304) (by omega)
  · exact same (colT D q) 2 (W2 (ix2 0 q)) ((t.val + 2304 - 1) % 2304) ((t.val + 2305 - 2) % 2304) (by omega)
  · exact same (colT D q) 3 (W3 (ix2 0 q)) ((t.val + 2304 - 2) % 2304) ((t.val + 2305 - 3) % 2304) (by omega)

/-- A masked, moved input times a row of taps, added to a block. -/
theorem step (V R : FVec Ideal S2304x256 .f32) (W : Vec Ideal S1x256 .f32) (M : FVec Ideal S2304x1 .f32) (j : Fin 4) (s : ℕ)
    (hM : M (ix2 t 0) = if N j t.val then (1 : EReal) else 0) (hR : R (ix2 t q) = colT X q s)
    (hs : s = (t.val + j.val + 2303) % 2304) :
    addf V (mulf (broadcastTo S2304x256 W broadcasts_S1x256_S2304x256)
      (mulf R (broadcastTo S2304x256 M broadcasts_S2304x1_S2304x256))) (ix2 t q)
    = (V (ix2 t q) + W (ix2 0 q) * tap (colT X q) j t.val : EReal) := by
  pointwise [hM, hR]
  rw [masked' _ _ _ _ t.isLt hs]

/-- The activation's derivative, times a block. -/
theorem act (A : FVec Ideal S2304x256 .f32) :
    mulf D (mulf (logistic A) (addf (broadcast S2304x256 KernMask.one) (mulf A (subf (broadcast S2304x256 KernMask.one) (logistic A)))))
      (ix2 t q) = dsilu' (A (ix2 t q)) (D (ix2 t q)) := by
  unfold dsilu' sg
  pointwise
  try rfl

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S4x256 .f32) (q : Fin 256) (j : Fin 4) : EReal := x1 (ix2 j q)

variable (x0 : Vec Ideal S1x2304x256 .f32) (x1 : Vec Ideal S4x256 .f32) (x2 : Vec Ideal S1x256 .f32)
  (x3 : Vec Ideal S1x2304x256 .f32)

/-- The body's working copies of its two blocks. -/
theorem col_eq : colT (k0_pay6 x0) q = bcol x0 q := by
  funext t
  unfold colT bcol
  split_ifs
  · pointwise [k0_pay6]
  · rfl

theorem col_eq' : colT (k0_pay7 x3) q = bcol x3 q := by
  funext t
  unfold colT bcol
  split_ifs
  · pointwise [k0_pay7]
  · rfl

/-- The four loads of taps, as one family. -/
theorem taps_eq (hW : W0 (ix2 0 q) = x1 (ix2 0 q) ∧ W1 (ix2 0 q) = x1 (ix2 1 q) ∧ W2 (ix2 0 q) = x1 (ix2 2 q)
    ∧ W3 (ix2 0 q) = x1 (ix2 3 q)) : taps4 W0 W1 W2 W3 q = btap x1 q := by
  obtain ⟨h0, h1, h2, h3⟩ := hW
  funext j
  fin_cases j
  · exact h0
  · exact h1
  · exact h2
  · exact h3

/-- The convolution, one tap after another, and the gradient at its result, as the body computes them. -/
abbrev Y0 : FVec Ideal S2304x256 .f32 := k0_pay14 (k0_pay8 x2) KernMask.I W0 (k0_pay9 x0) k0_pay10 k0_pay12 k0_pay13
abbrev Y1 : FVec Ideal S2304x256 .f32 := k0_pay18 (k0_pay6 x0) KernMask.I (Y0 W0 x0 x2) W1 (k0_pay15 KernMask.I)
  (k0_pay16 KernMask.I) (k0_pay17 KernMask.I) KernMask.one KernMask.zero
abbrev Y2 : FVec Ideal S2304x256 .f32 := k0_pay22 KernMask.I (Y1 W0 W1 x0 x2) W2 (k0_pay19 (k0_pay6 x0)) (k0_pay20 KernMask.I)
  (k0_pay21 KernMask.I) KernMask.one
abbrev Y3 : FVec Ideal S2304x256 .f32 := addf (Y2 W0 W1 W2 x0 x2) (mulf (broadcastTo S2304x256 W3 broadcasts_S1x256_S2304x256)
  (mulf (k0_pay23 (k0_pay6 x0) 2302#32) (broadcastTo S2304x256 (MASK 2#32) broadcasts_S2304x1_S2304x256)))
abbrev CT : FVec Ideal S2304x256 .f32 := k0_pay32 (k0_pay7 x3) (Y2 W0 W1 W2 x0 x2) W3 (k0_pay23 (k0_pay6 x0) 2302#32)
  (k0_pay25 KernMask.I) (k0_pay26 KernMask.I) (k0_pay28 KernMask.I) (k0_pay29 KernMask.I) k0_pay30 k0_pay31

/-- The input, moved by each tap. -/
theorem rot0 : k0_pay9 x0 (ix2 t q) = colT (k0_pay6 x0) q ((t.val + 2303) % 2304) := by
  have h := t.isLt
  pointwise [k0_pay9, colT_at (k0_pay6 x0)]
  first | rfl | (congr 1; done) | (congr 1; omega)

theorem rot2 : k0_pay19 X (ix2 t q) = colT X q ((t.val + 1) % 2304) := by
  have h := t.isLt
  pointwise [k0_pay19, colT_at X]
  try first | rfl | (congr 1; done) | (congr 1; omega)

theorem rot3 : k0_pay23 X 2302#32 (ix2 t q) = colT X q ((t.val + 2) % 2304) := by
  have h := t.isLt
  pointwise [k0_pay23, colT_at X]
  try first | rfl | (congr 1; done) | (congr 1; omega)

theorem bias_at : k0_pay8 x2 (ix2 t q) = (x2 (ix2 0 q) : EReal) := by pointwise [k0_pay8]

theorem Y0_at : Y0 W0 x0 x2 (ix2 t q) = (x2 (ix2 0 q) + W0 (ix2 0 q) * tap (bcol x0 q) 0 t.val : EReal) := by
  rw [← bias_at t q x2, ← col_eq]
  exact step (k0_pay6 x0) t q (k0_pay8 x2) (k0_pay9 x0) W0 (MASK 4294967295#32) 0 _ (mask0 t) (rot0 t q x0) rfl

theorem Y1_at : Y1 W0 W1 x0 x2 (ix2 t q)
    = (Y0 W0 x0 x2 (ix2 t q) + W1 (ix2 0 q) * tap (bcol x0 q) 1 t.val : EReal) := by
  rw [← col_eq]
  exact step (k0_pay6 x0) t q (Y0 W0 x0 x2) (k0_pay6 x0) W1 (MASK 0#32) 1 t.val (mask1 t) (colT_at _ q t)
    (by have := t.isLt; simp; omega)

theorem Y2_at : Y2 W0 W1 W2 x0 x2 (ix2 t q)
    = (Y1 W0 W1 x0 x2 (ix2 t q) + W2 (ix2 0 q) * tap (bcol x0 q) 2 t.val : EReal) := by
  rw [← col_eq]
  exact step (k0_pay6 x0) t q (Y1 W0 W1 x0 x2) (k0_pay19 (k0_pay6 x0)) W2 (MASK 1#32) 2 _ (mask2 t) (rot2 _ t q)
    (by have := t.isLt; simp; omega)

theorem Y3_at : Y3 W0 W1 W2 W3 x0 x2 (ix2 t q)
    = (Y2 W0 W1 W2 x0 x2 (ix2 t q) + W3 (ix2 0 q) * tap (bcol x0 q) 3 t.val : EReal) := by
  rw [← col_eq]
  exact step (k0_pay6 x0) t q (Y2 W0 W1 W2 x0 x2) (k0_pay23 (k0_pay6 x0) 2302#32) W3 (MASK 2#32) 3 _ (mask3 t) (rot3 _ t q)
    (by have := t.isLt; simp; omega)

/-- The convolution before its activation. -/
theorem acc_at : Y3 W0 W1 W2 W3 x0 x2 (ix2 t q) = acc (taps4 W0 W1 W2 W3 q) (x2 (ix2 0 q)) (bcol x0 q) t.val := by
  rw [Y3_at, Y2_at, Y1_at, Y0_at]
  unfold acc
  rw [Fin.sum_univ_four]
  show x2 (ix2 0 q) + W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val
    = (W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val + x2 (ix2 0 q) : EReal)
  ac_rfl

/-- The gradient at the convolution's result, on channel `q`'s column. -/
def ctc (t : ℕ) : EReal := dsilu' (acc (btap x1 q) (x2 (ix2 0 q)) (bcol x0 q) t) (bcol x3 q t)

theorem ct_at : CT W0 W1 W2 W3 x0 x2 x3 (ix2 t q)
    = dsilu' (acc (taps4 W0 W1 W2 W3 q) (x2 (ix2 0 q)) (bcol x0 q) t.val) (bcol x3 q t.val) := by
  rw [← acc_at, ← col_eq', ← colT_at]
  exact act (k0_pay7 x3) t q (Y3 W0 W1 W2 W3 x0 x2)

theorem ct_col (hW : W0 (ix2 0 q) = x1 (ix2 0 q) ∧ W1 (ix2 0 q) = x1 (ix2 1 q) ∧ W2 (ix2 0 q) = x1 (ix2 2 q)
    ∧ W3 (ix2 0 q) = x1 (ix2 3 q)) : colT (CT W0 W1 W2 W3 x0 x2 x3) q = ctc q x0 x1 x2 x3 := by
  funext t
  unfold colT ctc
  split_ifs with h
  · rw [ct_at, taps_eq _ _ _ _ q x1 hW]
  · unfold bcol dsilu'
    rw [dif_neg h, zero_mul]

/-- An index of a one-row block. -/
theorem row_idx (x : S1x256.Idx) : ∃ q : Fin 256, x = ix2 0 q := by
  refine ⟨x 1, ?_⟩
  rw [eq_ix2 x]
  have h : x 0 = (0 : Fin 1) := Fin.ext (by have := (x 0).isLt; simp at this; simpa using this)
  rw [h]
  rfl

/-- Tap gradients at an index of the block of four rows. -/
def bdw (y : S4x256.Idx) : EReal := dw (bcol x0 (y 1)) (ctc (y 1) x0 x1 x2 x3) (y 0)

theorem bdw_row (y : S4x256.Idx) (j : Fin 4) (h0 : (y 0).val = j.val) (h1 : (y 1).val = q.val) :
    bdw x0 x1 x2 x3 y = dw (bcol x0 q) (ctc q x0 x1 x2 x3) j := by
  have e0 : y 0 = j := Fin.ext h0
  have e1 : y 1 = q := Fin.ext h1
  unfold bdw
  rw [e0, e1]

/-! Adding a sample's share to what the block held. -/
theorem add_pay1 (v : FVec Ideal S1x256 .f32) (w : Vec Ideal S1x256 .f32) : k0_pay1 v w (ix2 0 q) = (w (ix2 0 q) + v (ix2 0 q) : EReal) := by
  pointwise [k0_pay1]
theorem add_pay2 (v : FVec Ideal S1x256 .f32) (w : Vec Ideal S1x256 .f32) : k0_pay2 v w (ix2 0 q) = (w (ix2 0 q) + v (ix2 0 q) : EReal) := by
  pointwise [k0_pay2]
theorem add_pay3 (v : FVec Ideal S1x256 .f32) (w : Vec Ideal S1x256 .f32) : k0_pay3 v w (ix2 0 q) = (w (ix2 0 q) + v (ix2 0 q) : EReal) := by
  pointwise [k0_pay3]
theorem add_pay4 (v : FVec Ideal S1x256 .f32) (w : Vec Ideal S1x256 .f32) : k0_pay4 v w (ix2 0 q) = (w (ix2 0 q) + v (ix2 0 q) : EReal) := by
  pointwise [k0_pay4]
theorem add_pay5 (v : FVec Ideal S1x256 .f32) (w : Vec Ideal S1x256 .f32) : k0_pay5 v w (ix2 0 q) = (w (ix2 0 q) + v (ix2 0 q) : EReal) := by
  pointwise [k0_pay5]

/-- Two indices of the block of four rows with the same coordinates. -/
theorem ix_eq (r : Rect S4x256) (x : r.shape.Idx) (y : S4x256.Idx) (h0 : (r.idx x 0).val = (y 0).val)
    (h1 : (r.idx x 1).val = (y 1).val) : r.idx x = y := by
  rw [eq_ix2 y]
  funext a
  fin_cases a
  · exact Fin.ext h0
  · exact Fin.ext h1

section point

variable (c : Dev nD) (t : Fin cfg0.N) (o5 : Vec Ideal S4x256 .f32) (o6 : Vec Ideal S1x256 .f32)

/-- The gradient of the input, of the first sample of a run. -/
theorem outA4 (hc0 : cond0_0 (grid0.coords t)) (hc1 : ¬ cond0_1 (grid0.coords t)) (s : Fin 2304) (q : Fin 256) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 (ix3 0 s q)
    = dx (btap x1 q) (ctc q x0 x1 x2 x3) s.val := by
  unfold out0_A_4
  rw [View.read_writes_eq_canon VO0_4 VO0_4.junk _ (cover0_A_4 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x0 (by decide), View.ld_unit_lit _ x2 (by decide), View.ld_unit_lit _ x3 (by decide)]
  rw [View.canon_cons_unit_lit _ _ _ (by decide)]
  refine (dx_at _ _ _ _ _ s q _ (fun t => M2_at t q)).trans (congrArg₂ (fun w d => dx w d s.val) (taps_eq _ _ _ _ q x1 ?_)
    (ct_col _ _ _ _ q x0 x1 x2 x3 ?_)) <;> refine ⟨?_, ?_, ?_, ?_⟩ <;> pointwise

/-- The gradient of the input, of a later sample of a run. -/
theorem outB4 (hc0 : ¬ cond0_0 (grid0.coords t)) (hc1 : cond0_1 (grid0.coords t)) (s : Fin 2304) (q : Fin 256) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 (ix3 0 s q)
    = dx (btap x1 q) (ctc q x0 x1 x2 x3) s.val := by
  unfold out0_B_4
  rw [View.read_writes_eq_canon VO0_4 VO0_4.junk _ (cover0_B_4 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x0 (by decide), View.ld_unit_lit _ x2 (by decide), View.ld_unit_lit _ x3 (by decide)]
  rw [View.canon_cons_unit_lit _ _ _ (by decide)]
  refine (dx_at _ _ _ _ _ s q _ (fun t => M2_at t q)).trans (congrArg₂ (fun w d => dx w d s.val) (taps_eq _ _ _ _ q x1 ?_)
    (ct_col _ _ _ _ q x0 x1 x2 x3 ?_)) <;> refine ⟨?_, ?_, ?_, ?_⟩ <;> pointwise

/-- The gradients of the taps, of the first sample of a run. -/
theorem outA5 (hc0 : cond0_0 (grid0.coords t)) (hc1 : ¬ cond0_1 (grid0.coords t)) (y : S4x256.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 y
    = bdw x0 x1 x2 x3 y := by
  unfold out0_A_5
  rw [View.read_writes_eq_canon VO0_5 VO0_5.junk _ (cover0_A_5 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x0 (by decide), View.ld_unit_lit _ x2 (by decide), View.ld_unit_lit _ x3 (by decide)]
  canon_tiles x h
  case piece0 =>
    obtain ⟨q, rfl⟩ := row_idx x
    rw [bdw_row q x0 x1 x2 x3 y 3 (by simp at h0 ⊢; omega) h1]
    refine (dw3 _ _ q).trans (congrArg₂ (fun x d => dw x d 3) (col_eq q x0) (ct_col _ _ _ _ q x0 x1 x2 x3 ?_))
    refine ⟨?_, ?_, ?_, ?_⟩ <;> pointwise
  case piece1 =>
    obtain ⟨q, rfl⟩ := row_idx x
    rw [bdw_row q x0 x1 x2 x3 y 2 (by simp at h0 ⊢; omega) h1]
    refine (dw2 _ _ q _ (fun t => M2_at t q)).trans (congrArg₂ (fun x d => dw x d 2) (col_eq q x0) (ct_col _ _ _ _ q x0 x1 x2 x3 ?_))
    refine ⟨?_, ?_, ?_, ?_⟩ <;> pointwise
  case piece2 =>
    obtain ⟨q, rfl⟩ := row_idx x
    rw [bdw_row q x0 x1 x2 x3 y 1 (by simp at h0 ⊢; omega) h1]
    refine (dw1 _ _ q).trans (congrArg₂ (fun x d => dw x d 1) (col_eq q x0) (ct_col _ _ _ _ q x0 x1 x2 x3 ?_))
    refine ⟨?_, ?_, ?_, ?_⟩ <;> pointwise
  case piece3 =>
    obtain ⟨q, rfl⟩ := row_idx x
    rw [bdw_row q x0 x1 x2 x3 y 0 (by simp at h0 ⊢; omega) h1]
    refine (dw0 _ _ q).trans (congrArg₂ (fun x d => dw x d 0) (col_eq q x0) (ct_col _ _ _ _ q x0 x1 x2 x3 ?_))
    refine ⟨?_, ?_, ?_, ?_⟩ <;> pointwise

/-- The gradients of the taps, of a later sample of a run. -/
theorem outB5 (hc0 : ¬ cond0_0 (grid0.coords t)) (hc1 : cond0_1 (grid0.coords t)) (y : S4x256.Idx) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 y
    = (o5 y + bdw x0 x1 x2 x3 y : EReal) := by
  unfold out0_B_5
  rw [View.read_writes_eq_canon VO0_5 VO0_5.junk _ (cover0_B_5 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x0 (by decide), View.ld_unit_lit _ x2 (by decide), View.ld_unit_lit _ x3 (by decide)]
  canon_tiles x h
  case piece0 =>
    obtain ⟨q, rfl⟩ := row_idx x
    rw [bdw_row q x0 x1 x2 x3 y 3 (by simp at h0 ⊢; omega) h1]
    refine (add_pay4 q _ _).trans (congrArg₂ (· + ·) ?_ ((dw3 _ _ q).trans
      (congrArg₂ (fun x d => dw x d 3) (col_eq q x0) (ct_col _ _ _ _ q x0 x1 x2 x3 ?_))))
    · rw [View.ld_apply]; apply congrArg; exact ix_eq _ _ y h0.symm ((Nat.zero_add _).trans ((Nat.one_mul _).trans h1.symm))
    · refine ⟨?_, ?_, ?_, ?_⟩ <;> pointwise
  case piece1 =>
    obtain ⟨q, rfl⟩ := row_idx x
    rw [bdw_row q x0 x1 x2 x3 y 2 (by simp at h0 ⊢; omega) h1]
    refine (add_pay3 q _ _).trans (congrArg₂ (· + ·) ?_ ((dw2 _ _ q _ (fun t => M2_at t q)).trans
      (congrArg₂ (fun x d => dw x d 2) (col_eq q x0) (ct_col _ _ _ _ q x0 x1 x2 x3 ?_))))
    · rw [View.ld_apply]; apply congrArg; exact ix_eq _ _ y h0.symm ((Nat.zero_add _).trans ((Nat.one_mul _).trans h1.symm))
    · refine ⟨?_, ?_, ?_, ?_⟩ <;> pointwise
  case piece2 =>
    obtain ⟨q, rfl⟩ := row_idx x
    rw [bdw_row q x0 x1 x2 x3 y 1 (by simp at h0 ⊢; omega) h1]
    refine (add_pay2 q _ _).trans (congrArg₂ (· + ·) ?_ ((dw1 _ _ q).trans
      (congrArg₂ (fun x d => dw x d 1) (col_eq q x0) (ct_col _ _ _ _ q x0 x1 x2 x3 ?_))))
    · rw [View.ld_apply]; apply congrArg; exact ix_eq _ _ y h0.symm ((Nat.zero_add _).trans ((Nat.one_mul _).trans h1.symm))
    · refine ⟨?_, ?_, ?_, ?_⟩ <;> pointwise
  case piece3 =>
    obtain ⟨q, rfl⟩ := row_idx x
    rw [bdw_row q x0 x1 x2 x3 y 0 (by simp at h0 ⊢; omega) h1]
    refine (add_pay1 q _ _).trans (congrArg₂ (· + ·) ?_ ((dw0 _ _ q).trans
      (congrArg₂ (fun x d => dw x d 0) (col_eq q x0) (ct_col _ _ _ _ q x0 x1 x2 x3 ?_))))
    · rw [View.ld_apply]; apply congrArg; exact ix_eq _ _ y h0.symm ((Nat.zero_add _).trans ((Nat.one_mul _).trans h1.symm))
    · refine ⟨?_, ?_, ?_, ?_⟩ <;> pointwise

/-- The gradient of the bias, of the first sample of a run. -/
theorem outA6 (hc0 : cond0_0 (grid0.coords t)) (hc1 : ¬ cond0_1 (grid0.coords t)) (q : Fin 256) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 (ix2 0 q)
    = (∑ t ∈ Finset.range 2304, ctc q x0 x1 x2 x3 t : EReal) := by
  unfold out0_A_6
  rw [View.read_writes_eq_canon VO0_6 VO0_6.junk _ (cover0_A_6 c _ _ _ _ _ _ _ _ _ _ _ _ _ _ _ hc0 hc1 x0 x1 x2 x3)]
  unfold kernelRun0_A; dsimp only; sl_unfold_words
  simp only [View.readAt_eq_ld, (hs0_0 t).read_unread, (hs0_1 t).read_unread, (hs0_2 t).read_unread, (hs0_3 t).read_unread]
  clear hc0 hc1
  rw [View.ld_unit_lit _ x0 (by decide), View.ld_unit_lit _ x2 (by decide), View.ld_unit_lit _ x3 (by decide)]
  rw [View.canon_cons_unit_lit _ _ _ (by decide)]
  refine (db_at _ q).trans (congrArg (fun d : ℕ → EReal => ∑ t ∈ Finset.range 2304, d t) (ct_col _ _ _ _ q x0 x1 x2 x3 ?_))
  refine ⟨?_, ?_, ?_, ?_⟩ <;> pointwise

/-- The gradient of the bias, of a later sample of a run. -/
theorem outB6 (hc0 : ¬ cond0_0 (grid0.coords t)) (hc1 : cond0_1 (grid0.coords t)) (q : Fin 256) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 o5 o6 (ix2 0 q)
    = (o6 (ix2 0 q) + ∑ t ∈ Finset.range 2304, ctc q x0 x1 x2 x3 t : EReal) := by
  unfold out0_B_6
  rw [View.read_writes_eq_canon VO0_6 VO0_6.junk _ (cover0_B_6 c _ _ _ _ _ _ _ _ _ _ _ _ _ _ _ hc0 hc1 x0 x1 x2 x3 o5 o6)]
  unfold kernelRun0_B; dsimp only; sl_unfold_words
  simp only [View.readAt_eq_ld, (hs0_0 t).read_unread, (hs0_1 t).read_unread, (hs0_2 t).read_unread, (hs0_3 t).read_unread, (hs0_5 t).read_unread, (hs0_6 t).read_unread]
  clear hc0 hc1
  rw [View.ld_unit_lit _ x0 (by decide), View.ld_unit_lit _ x2 (by decide), View.ld_unit_lit _ x3 (by decide), View.ld_unit_lit _ o6 (by decide)]
  rw [View.canon_cons_unit_lit _ _ _ (by decide)]
  refine (add_pay5 q _ _).trans (congrArg₂ (· + ·) rfl ((db_at _ q).trans
    (congrArg (fun d : ℕ → EReal => ∑ t ∈ Finset.range 2304, d t) (ct_col _ _ _ _ q x0 x1 x2 x3 ?_))))
  refine ⟨?_, ?_, ?_, ?_⟩ <;> pointwise

end point

end Cert.SsdConvBwdOut

end
-- ==== Proof.SsdConvBwdRef.lean ====
module

public import proofs.«01_k».proof.Proof.Gen.SsdConvBwdRefIdeal.Read
public import proofs.«01_k».proof.Proof.LineSpec
public import proofs.«01_k».proof.Proof.Silu
public import proofs.«01_k».proof.Proof.HostSums

@[expose] public section

set_option maxRecDepth 16384

noncomputable section

/-!
# The state-space scan's convolution: the reference's gradients, read one channel at a time
-/

namespace Cert.SsdConvBwdRef

open Cert.SsdConvBwdRefIdeal Cert.SsdConvBwdRefIdeal.Gen Cert.SsdConvBwdRefIdeal.Value Cert.SsdConvBwdRefIdeal.Read Idealize.ShloMosaic
  Idealize.ShloMosaic.TcCoe Idealize.SL.Sem Cert.LineSpec
open Cert.ConvSpec (sg dsilu)

/-- The column of sample `b` and channel `c`, zero beyond the last position. -/
def col (x : FVec Ideal S4x2304x1536 .f32) (b : Fin 4) (c : Fin 1536) (t : ℕ) : EReal :=
  if h : t < 2304 then x (ix3 b ⟨t, h⟩ c) else 0

/-- The four taps of channel `c`. -/
def taps (w : FVec Ideal S4x1536 .f32) (c : Fin 1536) (j : Fin 4) : EReal := w (ix2 j c)

theorem col_at (x : FVec Ideal S4x2304x1536 .f32) (b : Fin 4) (c : Fin 1536) (t : ℕ) (h : t < 2304) :
    x (ix3 b ⟨t, h⟩ c) = col x b c t := by
  unfold col; rw [dif_pos h]

variable (x0 : FVec Ideal S4x2304x1536 .f32) (x1 : FVec Ideal S4x1536 .f32) (x2 : FVec Ideal S1536 .f32)
  (x3 : FVec Ideal S4x2304x1536 .f32)

/-- The four taps of the context line. -/
theorem v16 (j b : Fin 4) (p : Fin 256) (c : Fin 1536) :
    val_main_v16 (F := Ideal) x0 (ix4 j b p c) = tap (col x0 b c) j p.val := by
  rw [tap_ctx _ _ _ p.isLt]
  pointwise [val_main_v16, val_main_v12, val_main_v13, val_main_v14, val_main_v15, val_main_v8, val_main_v9, val_main_v10, val_main_v11, val_main_v4, val_main_v3, val_main_v2, val_main_cst, val_main_v0, col_at]
  have := p.isLt
  fin_cases j <;> simp <;> split_ifs <;> first | rfl | (exfalso; omega) | (congr 1; omega)

/-- The four taps of the other line. -/
theorem v39 (j b : Fin 4) (p : Fin 2048) (c : Fin 1536) :
    val_main_v39 (F := Ideal) x0 (ix4 j b p c) = tap (col x0 b c) j (256 + p.val) := by
  rw [tap_lat _ _ _ p.isLt]
  pointwise [val_main_v39, val_main_v35, val_main_v36, val_main_v37, val_main_v38, val_main_v31, val_main_v32, val_main_v33, val_main_v34, val_main_v27, val_main_v26, val_main_v25, val_main_cst_4, val_main_v23, col_at]
  have := p.isLt
  fin_cases j <;> simp <;> split_ifs <;> first | rfl | (exfalso; omega) | (congr 1; omega)

/-- The convolution before its activation. -/
theorem v46 (b : Fin 4) (p : Fin 2304) (c : Fin 1536) :
    val_main_v46 (F := Ideal) x0 x1 x2 (ix3 b p c) = acc (taps x1 c) (x2 (ix1 c)) (col x0 b c) p.val := by
  unfold acc
  simp only [Fin.sum_univ_four]
  pointwise [val_main_v46, val_main_v22, val_main_v45, val_main_v44, val_main_v43, val_main_v21, val_main_v20, val_main_v19, val_main_v42, val_main_v41, val_main_v40, val_main_v24, val_main_v18, val_main_v17, val_main_v1, val_main_cst_3, val_main_cst_8, Fin.sum_univ_four, v16, v39]
  split_ifs with h
  · simp [taps]
  · have e : 256 + (p.val - 256) = p.val := by omega
    simp [taps, e]

/-- The gradient that arrives at the convolution's result. -/
def ct (b : Fin 4) (c : Fin 1536) (t : ℕ) : EReal :=
  dsilu (acc (taps x1 c) (x2 (ix1 c)) (col x0 b c) t) (col x3 b c t)

theorem v48 (b : Fin 4) (p : Fin 2304) (c : Fin 1536) :
    val_main_v48 (F := Ideal) x0 x1 x2 x3 (ix3 b p c) = ct x0 x1 x2 x3 b c p.val := by
  unfold ct dsilu sg
  pointwise [val_main_v48, val_main_call1_v2, val_main_call1_v1, val_main_call1_v0, val_main_v47_1,
    val_main_v47_2, val_main_call0_v7, val_main_call0_v6, val_main_call0_v4, val_main_call0_v3, val_main_call0_v2,
    val_main_call0_v1, val_main_call0_v0, val_main_call0_cst, val_main_call0_cst_0, val_main_call0_cst_1, v46]
  unfold col
  simp only [p.isLt, dif_pos]

theorem v49 (b : Fin 4) (p : Fin 256) (c : Fin 1536) : val_main_v49 (F := Ideal) x0 x1 x2 x3 (ix3 b p c) = ct x0 x1 x2 x3 b c p.val := by
  pointwise [val_main_v49, v48]

theorem v50 (b : Fin 4) (p : Fin 2048) (c : Fin 1536) :
    val_main_v50 (F := Ideal) x0 x1 x2 x3 (ix3 b p c) = ct x0 x1 x2 x3 b c (256 + p.val) := by
  pointwise [val_main_v50, v48]

/-- The gradient of the bias. -/
theorem v115 (a : Fin 1) (c : Fin 1536) : val_main_v115 (F := Ideal) x0 x1 x2 x3 (ix2 a c)
    = ∑ b : Fin 4, ∑ t ∈ Finset.range 2304, ct x0 x1 x2 x3 b c t := by
  pointwise [val_main_v115, val_main_v84, val_main_v53, val_main_v52, val_main_v51, val_main_v81, val_main_v82, val_main_v83, val_main_cst_9, val_main_cst_10, val_main_cst_18, val_main_cst_19, HostSums.r3_01]
  simp only [v49, v50, sum_split, Finset.sum_add_distrib, zero_add, Finset.univ_unique, Finset.sum_singleton]
  rw [add_comm]

/-- The gradients of the taps. -/
theorem v111 (j : Fin 4) (c : Fin 1536) : val_main_v111 (F := Ideal) x0 x1 x2 x3 (ix2 j c)
    = ∑ b : Fin 4, dw (col x0 b c) (ct x0 x1 x2 x3 b c) j := by
  pointwise [val_main_v111, val_main_v79, val_main_v110, HostSums.r4_12, val_main_v59, val_main_v90, val_main_cst_16, val_main_cst_25]
  pointwise [val_main_v58, val_main_v89, HostSums.r4_12, val_main_v57, val_main_v54, val_main_v88, val_main_v85, val_main_cst_11, val_main_cst_20, v49, v50, v16, v39]
  unfold dw
  simp only [sum_split, Finset.sum_add_distrib, zero_add, Finset.univ_unique, Finset.sum_singleton]
  rw [add_comm]

/-- The input's gradient on the context line. -/
theorem v107 (b : Fin 4) (p : Fin 256) (c : Fin 1536) :
    val_main_v107 (F := Ideal) x0 x1 x2 x3 (ix3 b p c) = dx (taps x1 c) (ct x0 x1 x2 x3 b c) p.val := by
  unfold dx
  simp only [Fin.sum_univ_four, back_ctx _ _ _ _ p.isLt]
  unfold taps
  pointwise [val_main_v107, val_main_v105, val_main_v104, val_main_v103, val_main_v102, val_main_v101, val_main_v100, val_main_v99, val_main_cst_21, val_main_cst_22, val_main_cst_23, val_main_cst_24, val_main_v98, val_main_v97, val_main_v96, val_main_v95, val_main_v94, val_main_v93, val_main_v92, val_main_v91, val_main_v87, val_main_v86, val_main_v85, val_main_v1, v49]
  have := p.isLt
  have hc : ∀ u v w z : EReal, u + v + w + z = z + w + v + u := fun u v w z => by ac_rfl
  rw [hc]
  refine congrArg₂ (· + ·) (congrArg₂ (· + ·) (congrArg₂ (· + ·) ?_ ?_) ?_) ?_ <;> split_ifs <;>
    first | rfl | (exfalso; simp at *; omega) | (refine congrArg₂ (· * ·) rfl (congrArg _ ?_); first | omega | (simp <;> omega))

/-- The input's gradient on the other line. -/
theorem v76 (b : Fin 4) (p : Fin 2048) (c : Fin 1536) :
    val_main_v76 (F := Ideal) x0 x1 x2 x3 (ix3 b p c) = dx (taps x1 c) (ct x0 x1 x2 x3 b c) (256 + p.val) := by
  unfold dx
  simp only [Fin.sum_univ_four, back_lat _ _ _ _ p.isLt]
  unfold taps
  pointwise [val_main_v76, val_main_v74, val_main_v73, val_main_v72, val_main_v71, val_main_v70, val_main_v69, val_main_v68, val_main_cst_12, val_main_cst_13, val_main_cst_14, val_main_cst_15, val_main_v67, val_main_v66, val_main_v65, val_main_v64, val_main_v63, val_main_v62, val_main_v61, val_main_v60, val_main_v56, val_main_v55, val_main_v54, val_main_v24, v50]
  have := p.isLt
  have hc : ∀ u v w z : EReal, u + v + w + z = z + w + v + u := fun u v w z => by ac_rfl
  rw [hc]
  refine congrArg₂ (· + ·) (congrArg₂ (· + ·) (congrArg₂ (· + ·) ?_ ?_) ?_) ?_ <;> split_ifs <;>
    first | rfl | (exfalso; simp at *; omega) | (refine congrArg₂ (· * ·) rfl (congrArg _ ?_); first | omega | (simp <;> omega))

/-- The gradient of the convolution's input. -/
theorem v114 (b : Fin 4) (p : Fin 2304) (c : Fin 1536) :
    val_main_v114 (F := Ideal) x0 x1 x2 x3 (ix3 b p c) = dx (taps x1 c) (ct x0 x1 x2 x3 b c) p.val := by
  pointwise [val_main_v114, val_main_v113, val_main_v112, val_main_v80, val_main_cst_17, val_main_cst_26, v76, v107]
  have := p.isLt
  split_ifs
  · omega
  · rw [add_zero]; congr 1; omega
  · rw [zero_add]
  · omega

end Cert.SsdConvBwdRef

end
-- ==== Proof.FiniteLine.lean ====
module

public import proofs.«01_k».proof.Proof.Finite
public import Idealize.ShloMosaic.Lib.Claim

@[expose] public section

set_option maxRecDepth 16384

noncomputable section

/-!
# The precondition of the state-space scan's convolution

The precondition compares the absolute value of the arriving gradient with infinity; it says that its entries are finite.
-/

namespace Cert.FiniteLine

open Idealize.ShloMosaic Cert.Pre_finite_line

/-- The condition under which the predicate's comparison with a constant is well formed. -/
theorem facts : Cert.Pre_finite_line.Facts := ⟨by decide⟩

/-- An entry whose absolute value is less than infinity is finite. -/
theorem entry (x : FVec Ideal S4x2304x1536 .f32) (hb) (h : cmpf .olt (Host.absf x)
      (broadcastInDim S4x2304x1536 ![] hb (constant (F := Ideal) S_ .f32 0x7F800000#32)) = fun _ => 1#1)
    (i : S4x2304x1536.Idx) : x i ≠ ⊤ ∧ x i ≠ ⊥ := by
  have h1 : Ideal.cmp .olt (max (x i) (-(x i))) (Ideal.ofBits .f32 0x7F800000#32) = 1#1 := congrFun h i
  rw [Cert.Finite.inf_top] at h1
  constructor <;> intro h2 <;> rw [h2] at h1 <;> simp [Ideal.cmp] at h1

end Cert.FiniteLine

end
-- ==== Proof.SsdConvBwdValue.lean ====
module

public import proofs.«01_k».proof.Proof.SsdConvBwdOut
public import proofs.«01_k».proof.Proof.SsdConvBwdRef
public import proofs.«01_k».proof.Proof.Gen.SsdConvBwd.Frame
public import proofs.«01_k».proof.Proof.Gen.SsdConvBwdRefIdeal.Run
public import proofs.«01_k».proof.Proof.FiniteLine
public import proofs.«01_k».proof.Defs
public import Idealize.ShloMosaic.Lib.Pipeline.ValueKit
public import Idealize.ShloMosaic.Lib.Claim
public import Idealize.ShloMosaic.Init

@[expose] public section

set_option maxRecDepth 16384

noncomputable section

/-!
# The state-space scan's convolution: the kernel's three gradients are the reference's

The grid visits six groups of 256 channels, and for each the four samples in turn. The input's gradient is written block
by block; the gradients of the taps and of the bias are added up over a group's four samples.
-/

namespace Cert.SsdConvBwdIdeal.Value

open Cert.SsdConvBwdIdeal Cert.SsdConvBwdIdeal.Gen Idealize.ShloMosaic Idealize.ShloMosaic.TcCoe Idealize.SL.Sem
open Cert.LineSpec (dx dw acc)
open Cert.ConvSpec (dsilu' dsilu_eq)
open Cert.SsdConvBwdOut (bcol btap bdw ctc row_idx)
open Cert.SsdConvBwdRef (col taps ct)

variable (m : (ℓ : Loc nD τ sig) → Buf (Elt Ideal) ℓ) (c : Dev nD)

/-- Every window's block index at a grid point. -/
theorem idx : ∀ t : Fin cfg0.N, win0_0.index t = ![t.val % 4, 0, t.val / 4] ∧ win0_1.index t = ![0, t.val / 4]
    ∧ win0_2.index t = ![0, t.val / 4]
    ∧ win0_3.index t = ![t.val % 4, 0, t.val / 4]
    ∧ win0_4.index t = ![t.val % 4, 0, t.val / 4] ∧ win0_5.index t = ![0, t.val / 4] ∧ win0_6.index t = ![0, t.val / 4] :=
  (by decide +kernel : ∀ t : Fin grid0.N, _)

theorem lt_points (t : Fin cfg0.N) : t.val < 24 := lt_of_lt_of_eq t.isLt (show cfg0.N = 24 from N_0)

/-- The sample of a grid point. -/
def sm (t : Fin cfg0.N) : Fin 4 := ⟨t.val % 4, by omega⟩

/-- The channel of a grid point's block. -/
def ch (t : Fin cfg0.N) (q : Fin 256) : Fin 1536 := ⟨t.val / 4 * 256 + q.val, by have := lt_points t; omega⟩

/-- The convolution's input, its taps, its bias, and the arriving gradient. -/
abbrev a0 : FVec Ideal S4x2304x1536 .f32 := m ((c : Thread nD τ).loc main_arg0)
abbrev a1 : FVec Ideal S4x1536 .f32 := m ((c : Thread nD τ).loc main_arg1)
abbrev a2 : FVec Ideal S1536 .f32 := m ((c : Thread nD τ).loc main_arg2)
abbrev a3 : FVec Ideal S4x2304x1536 .f32 := m ((c : Thread nD τ).loc main_arg3)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read3 (t : Fin cfg0.N) (s : Fin 2304) (q : Fin 256) :
    iblk m c 3 t (ix3 0 s q) = m ((c : Thread nD τ).loc main_arg3) (ix3 (sm t) s (ch t q)) := by
  unfold sm ch
  blk_ext [iblk, V, idx t]

theorem read1 (t : Fin cfg0.N) (j : Fin 4) (q : Fin 256) :
    iblk m c 1 t (ix2 j q) = m ((c : Thread nD τ).loc main_arg1) (ix2 j (ch t q)) := by
  unfold ch
  blk_ext [iblk, V, idx t]

theorem read2 (t : Fin cfg0.N) (q : Fin 256) :
    iblk m c 2 t (ix2 0 q) = m ((c : Thread nD τ).loc main_arg2) (ix1 (ch t q)) := by
  blk_simp [iblk, idx t]
  entry_read
  pointwise
  unfold ch
  blk_ext [idx t]

theorem col0 (t : Fin cfg0.N) (q : Fin 256) : bcol (iblk m c 0 t) q = col (a0 m c) (sm t) (ch t q) := by
  funext s
  unfold bcol col
  split_ifs with h
  · exact read0 m c t ⟨s, h⟩ q
  · rfl

theorem col3 (t : Fin cfg0.N) (q : Fin 256) : bcol (iblk m c 3 t) q = col (a3 m c) (sm t) (ch t q) := by
  funext s
  unfold bcol col
  split_ifs with h
  · exact read3 m c t ⟨s, h⟩ q
  · rfl

theorem tap1 (t : Fin cfg0.N) (q : Fin 256) : btap (iblk m c 1 t) q = taps (a1 m c) (ch t q) :=
  funext fun j => read1 m c t j q

/-- The gradient at the convolution's result, with the activation's derivative as the kernel groups it. -/
def ctk (b : Fin 4) (k : Fin 1536) (s : ℕ) : EReal :=
  dsilu' (acc (taps (a1 m c) k) (a2 m c (ix1 k)) (col (a0 m c) b k) s) (col (a3 m c) b k s)

theorem ctk_blk (t : Fin cfg0.N) (q : Fin 256) :
    ctc q (iblk m c 0 t) (iblk m c 1 t) (iblk m c 2 t) (iblk m c 3 t) = ctk m c (sm t) (ch t q) := by
  funext s
  unfold ctc ctk
  rw [tap1, col0, col3, read2]

/-- Where the arriving gradient is finite, the reference's grouping gives the same. -/
theorem ctk_eq (h3 : ∀ i, a3 m c i ≠ ⊤ ∧ a3 m c i ≠ ⊥) (b : Fin 4) (k : Fin 1536) :
    ctk m c b k = ct (a0 m c) (a1 m c) (a2 m c) (a3 m c) b k := by
  funext s
  have hf : col (a3 m c) b k s ≠ ⊤ ∧ col (a3 m c) b k s ≠ ⊥ := by
    unfold col
    split_ifs
    · exact h3 _
    · exact ⟨EReal.zero_ne_top, EReal.zero_ne_bot⟩
  unfold ctk ct
  generalize col (a3 m c) b k s = d at hf ⊢
  lift d to ℝ using hf
  exact dsilu_eq _ d

/-- What a grid point adds to the tap gradients. -/
theorem dw_blk (t : Fin cfg0.N) (y : S4x256.Idx) : bdw (iblk m c 0 t) (iblk m c 1 t) (iblk m c 2 t) (iblk m c 3 t) y
    = dw (col (a0 m c) (sm t) (ch t (y 1))) (ctk m c (sm t) (ch t (y 1))) (y 0) :=
  congrArg₂ (fun x d => dw x d _) (col0 m c t (y 1)) (ctk_blk m c t (y 1))

/-- Every grid point leaves the gradient of the input for its sample and channels. -/
theorem out4 (t : Fin cfg0.N) (s : Fin 2304) (q : Fin 256) : (outsAt0 m c t.val t.isLt).1 (ix3 0 s q)
    = dx (taps (a1 m c) (ch t q)) (ctk m c (sm t) (ch t q)) s.val := by
  by_cases h : t.val % 4 = 0
  · rw [outsAt0_A m c t h (by omega)]
    dsimp only
    rw [Cert.SsdConvBwdOut.outA4, tap1, ctk_blk]
  · rw [outsAt0_B m c t h (by omega)]
    dsimp only
    rw [Cert.SsdConvBwdOut.outB4, tap1, ctk_blk]

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The gradient of the input. -/
def F4 : FVec Ideal S4x2304x1536 .bf16 := fun j => dx (taps (a1 m c) (j 2)) (ctk m c (j 0) (j 2)) (j 1).val

/-- The gradients of the taps. -/
def F5 : FVec Ideal S4x1536 .f32 := fun j => ∑ b : Fin 4, dw (col (a0 m c) b (j 1)) (ctk m c b (j 1)) (j 0)

/-- The gradient of the bias. -/
def F6 : FVec Ideal S1x1536 .f32 := fun j => ∑ b : Fin 4, ∑ t ∈ Finset.range 2304, ctk m c b (j 1) t

theorem sm_run (t t' : Fin cfg0.N) (b : Fin 4) (h : t'.val = 4 * (t.val / 4) + b.val) : sm t' = b :=
  Fin.ext (by show t'.val % 4 = b.val; omega)

theorem ch_run (t t' : Fin cfg0.N) (b : Fin 4) (h : t'.val = 4 * (t.val / 4) + b.val) (q : Fin 256) : ch t' q = ch t q :=
  Fin.ext (by show t'.val / 4 * 256 + q.val = t.val / 4 * 256 + q.val; omega)

/-- The gradient of the input, whole. -/
theorem final4 : (dats m 0 c).arrAt 4 cfg0.N = F4 m c := by
  refine (dats m 0 c).arrAt_eq_of_covers 4 _ (by decide +kernel) fun t _ y => ?_
  blk_simp
  rw [after0_4]
  obtain ⟨s, q, rfl⟩ := blk_idx y
  have e : (win0_4.blk t).view.emb (ix3 0 s q) = ix3 (sm t) s (ch t q) := by
    unfold sm ch
    blk_ext [idx t]
  rw [e]
  exact out4 m c t s q

/-- The gradients of the taps, whole: each group's four samples added up. -/
theorem final5 : (dats m 0 c).arrAt 5 cfg0.N = F5 m c := by
  refine (dats m 0 c).arrAt_eq_of_covers 5 _ (by decide +kernel) fun t hf y => ?_
  blk_simp
  rw [after0_5, Pipeline.eq_sum_fin_of_reset_step_apply_of_flush (fun n h => (outsAt0 m c n h).2.1) 4 (fun _ => (0 : EReal))
    (fun t => bdw (iblk m c 0 t) (iblk m c 1 t) (iblk m c 2 t) (iblk m c 3 t))
    (fun t h j => by rw [outsAt0_A m c t h (by omega)]; dsimp only; rw [Cert.SsdConvBwdOut.outA5, zero_add])
    (fun t h j => by rw [outsAt0_B m c t h (by omega)]; dsimp only; rw [Cert.SsdConvBwdOut.outB5])
    t ((flush0_5 t).mp hf) _, zero_add]
  obtain ⟨r, q, rfl⟩ : ∃ (r : Fin 4) (q : Fin 256), y = ix2 r q := ⟨y 0, y 1, eq_ix2 y⟩
  have e : (win0_5.blk t).view.emb (ix2 r q) = ix2 r (ch t q) := by
    unfold ch
    blk_ext [idx t]
  rw [e]
  refine Fin.sum_fin_congr fun b => ?_
  refine (dw_blk m c _ _).trans ?_
  rw [sm_run t _ b rfl]
  exact congrArg (fun k => dw (col (a0 m c) b k) (ctk m c b k) _) (ch_run t _ b rfl q)

/-- The gradient of the bias, whole: each group's four samples added up. -/
theorem final6 : (dats m 0 c).arrAt 6 cfg0.N = F6 m c := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => (0 : EReal))
    (fun t y => ∑ s ∈ Finset.range 2304, ctc (y 1) (iblk m c 0 t) (iblk m c 1 t) (iblk m c 2 t) (iblk m c 3 t) s)
    (fun t h j => by
      rw [outsAt0_A m c t h (by omega)]; dsimp only; obtain ⟨q, rfl⟩ := row_idx j
      rw [Cert.SsdConvBwdOut.outA6, zero_add]; rfl)
    (fun t h j => by
      rw [outsAt0_B m c t h (by omega)]; dsimp only; obtain ⟨q, rfl⟩ := row_idx j
      rw [Cert.SsdConvBwdOut.outB6]; rfl)
    t ((flush0_6 t).mp hf) _, zero_add]
  obtain ⟨q, rfl⟩ := row_idx y
  have e : (win0_6.blk t).view.emb (ix2 0 q) = ix2 0 (ch t q) := by
    unfold ch
    blk_ext [idx t]
  rw [e]
  refine Fin.sum_fin_congr fun b => ?_
  show (_ : EReal) = _
  refine Finset.sum_congr rfl fun s _ => ?_
  refine (congrFun (ctk_blk m c _ q) s).trans ?_
  rw [sm_run t _ b rfl]
  exact congrArg (fun k => ctk m c b k s) (ch_run t _ b rfl q)

/-- The gradient of the input is the reference's. -/
theorem eq4 (h3 : ∀ i, a3 m c i ≠ ⊤ ∧ a3 m c i ≠ ⊥) : F4 m c = Cert.SsdConvBwdRefIdeal.Read.val_main_v114 (F := Ideal) (a0 m c) (a1 m c) (a2 m c) (a3 m c) := by
  funext j
  obtain ⟨b, p, k, rfl⟩ : ∃ (b : Fin 4) (p : Fin 2304) (k : Fin 1536), j = ix3 b p k := ⟨j 0, j 1, j 2, eq_ix3 j⟩
  rw [Cert.SsdConvBwdRef.v114, ← ctk_eq m c h3]
  rfl

/-- The gradients of the taps are the reference's. -/
theorem eq5 (h3 : ∀ i, a3 m c i ≠ ⊤ ∧ a3 m c i ≠ ⊥) : F5 m c = Cert.SsdConvBwdRefIdeal.Read.val_main_v111 (F := Ideal) (a0 m c) (a1 m c) (a2 m c) (a3 m c) := by
  funext j
  obtain ⟨r, k, rfl⟩ : ∃ (r : Fin 4) (k : Fin 1536), j = ix2 r k := ⟨j 0, j 1, eq_ix2 j⟩
  rw [Cert.SsdConvBwdRef.v111]
  simp only [← ctk_eq m c h3]
  rfl

/-- The gradient of the bias is the reference's. -/
theorem eq6 (h3 : ∀ i, a3 m c i ≠ ⊤ ∧ a3 m c i ≠ ⊥) : F6 m c = Cert.SsdConvBwdRefIdeal.Read.val_main_v115 (F := Ideal) (a0 m c) (a1 m c) (a2 m c) (a3 m c) := by
  funext j
  obtain ⟨r, k, rfl⟩ : ∃ (r : Fin 1) (k : Fin 1536), j = ix2 r k := ⟨j 0, j 1, eq_ix2 j⟩
  rw [Cert.SsdConvBwdRef.v115]
  simp only [← ctk_eq m c h3]
  rfl

end Cert.SsdConvBwdIdeal.Value

namespace Cert.Proof

open Idealize.ShloMosaic Idealize.ShloMosaic.TcCoe Idealize.SL.Sem
open Cert.SsdConvBwdIdeal.Value (a3 F4 F5 F6 final4 final5 final6 eq4 eq5 eq6)

instance : Cert.Pre_finite_line.Facts := Cert.FiniteLine.facts

/-- The reference ends with its arguments untouched and nothing in flight. -/
theorem quiescent_SsdConvBwdRef : Cert.quiescent_SsdConvBwdRefIdeal := fun m ρ _ =>
  (θ_run Cert.SsdConvBwdRefIdeal.defs _ _).mono (fun r h => ⟨fun c => (h c).2.2.2, sem_eq_zero_of_no_sems (by decide) r.2⟩)
    (Cert.SsdConvBwdRefIdeal.Value.run (F := Ideal) m ρ)

/-- The kernel's three gradients are the reference's, wherever the arriving gradient is finite. -/
theorem algebraic_SsdConvBwd : Cert.algebraic_SsdConvBwdIdeal_SsdConvBwdRefIdeal_pre_finite_line := by
  intro m ρ m' ρ' hpre hagree
  have h3 : ∀ c i, a3 m c i ≠ ⊤ ∧ a3 m c i ≠ ⊥ := fun c i => Cert.FiniteLine.entry _ _ (hpre c) i
  refine ⟨F4 m, F5 m, F6 m, ?_, ?_⟩
  · refine (θ_run Cert.SsdConvBwdIdeal.defs _ _).mono (fun r h c => ?_) (Cert.SsdConvBwdIdeal.Value.run_blocks (F := Ideal) m ρ)
    obtain ⟨e4, e5, e6, hk⟩ := h c
    exact ⟨e4.trans (final4 m c), e5.trans (final5 m c), e6.trans (final6 m c), hk⟩
  · refine (θ_run Cert.SsdConvBwdRefIdeal.defs _ _).mono (fun r h c => ?_) (Cert.SsdConvBwdRefIdeal.Value.run (F := Ideal) m' ρ')
    obtain ⟨e0, e1, e2, hk⟩ := h c
    obtain ⟨g0, g1, g2, g3⟩ := hagree c
    refine ⟨?_, ?_, ?_, hk⟩
    · refine e0.trans ((Cert.SsdConvBwdRefIdeal.Read.val_main_v114_eq _).trans ?_)
      exact (congr (congr (congrArg₂ _ g0 g1) g2) g3).trans (eq4 m c (h3 c)).symm
    · refine e1.trans ((Cert.SsdConvBwdRefIdeal.Read.val_main_v111_eq _).trans ?_)
      exact (congr (congr (congrArg₂ _ g0 g1) g2) g3).trans (eq5 m c (h3 c)).symm
    · refine e2.trans ((Cert.SsdConvBwdRefIdeal.Read.val_main_v115_eq _).trans ?_)
      exact (congr (congr (congrArg₂ _ g0 g1) g2) g3).trans (eq6 m c (h3 c)).symm

end Cert.Proof

end
-- ==== Proof.LruConvRef.lean ====
module

public import proofs.«01_k».proof.Proof.Gen.LruConvRefIdeal.Read
public import proofs.«01_k».proof.Proof.LineSpec
public import proofs.«01_k».proof.Proof.Silu

@[expose] public section

set_option maxRecDepth 16384

noncomputable section

/-!
# The linear recurrence's convolution, forward: the reference, read one channel at a time
-/

namespace Cert.LruConvRef

open Cert.LruConvRefIdeal Cert.LruConvRefIdeal.Gen Cert.LruConvRefIdeal.Value Cert.LruConvRefIdeal.Read Idealize.ShloMosaic
  Idealize.ShloMosaic.TcCoe Idealize.SL.Sem Cert.LineSpec
open Cert.ConvSpec (sg)

/-- The column of sample `b` and channel `c`, zero beyond the last position. -/
def col (x : FVec Ideal S4x2304x1024 .f32) (b : Fin 4) (c : Fin 1024) (t : ℕ) : EReal :=
  if h : t < 2304 then x (ix3 b ⟨t, h⟩ c) else 0

/-- The four taps of channel `c`. -/
def taps (w : FVec Ideal S4x1024 .f32) (c : Fin 1024) (j : Fin 4) : EReal := w (ix2 j c)

theorem col_at (x : FVec Ideal S4x2304x1024 .f32) (b : Fin 4) (c : Fin 1024) (t : ℕ) (h : t < 2304) :
    x (ix3 b ⟨t, h⟩ c) = col x b c t := by
  unfold col; rw [dif_pos h]

variable (x0 : FVec Ideal S4x2304x1024 .f32) (x1 : FVec Ideal S4x1024 .f32) (x2 : FVec Ideal S1024 .f32)

/-- The four taps of the context line. -/
theorem v13 (j b : Fin 4) (p : Fin 256) (c : Fin 1024) :
    val_main_v13 (F := Ideal) x0 (ix4 j b p c) = tap (col x0 b c) j p.val := by
  rw [tap_ctx _ _ _ p.isLt]
  pointwise [val_main_v13, val_main_v9, val_main_v10, val_main_v11, val_main_v12, val_main_v5, val_main_v6, val_main_v7, val_main_v8, val_main_v4, val_main_v3, val_main_v0, val_main_cst, col_at]
  have := p.isLt
  fin_cases j <;> simp <;> split_ifs <;> first | rfl | (exfalso; omega) | (congr 1; omega)

/-- The four taps of the other line. -/
theorem v33 (j b : Fin 4) (p : Fin 2048) (c : Fin 1024) :
    val_main_v33 (F := Ideal) x0 (ix4 j b p c) = tap (col x0 b c) j (256 + p.val) := by
  rw [tap_lat _ _ _ p.isLt]
  pointwise [val_main_v33, val_main_v29, val_main_v30, val_main_v31, val_main_v32, val_main_v25, val_main_v26, val_main_v27, val_main_v28, val_main_v24, val_main_v23, val_main_v20, val_main_cst_1, col_at]
  have := p.isLt
  fin_cases j <;> simp <;> split_ifs <;> first | rfl | (exfalso; omega) | (congr 1; omega)

/-- The convolution. -/
theorem v40 (b : Fin 4) (p : Fin 2304) (c : Fin 1024) :
    val_main_v40 (F := Ideal) x0 x1 x2 (ix3 b p c) = acc (taps x1 c) (x2 (ix1 c)) (col x0 b c) p.val := by
  unfold acc
  simp only [Fin.sum_univ_four]
  pointwise [val_main_v40, val_main_v19, val_main_v16, val_main_v15, val_main_v14, val_main_v1, val_main_v18, val_main_v17, val_main_cst_0, val_main_v39, val_main_v36, val_main_v35, val_main_v34, val_main_v21, val_main_v38, val_main_v37, val_main_cst_2, Fin.sum_univ_four, v13, v33]
  split_ifs with h
  · simp [taps]
  · have e : 256 + (p.val - 256) = p.val := by omega
    simp [taps, e]

end Cert.LruConvRef

end
-- ==== Proof.LruConvValue.lean ====
module

public import proofs.«01_k».proof.Proof.Gen.LruConvIdeal.Value
public import proofs.«01_k».proof.Proof.Gen.LruConv.Frame
public import proofs.«01_k».proof.Proof.Gen.LruConvRefIdeal.Run
public import proofs.«01_k».proof.Proof.LruConvRef
public import proofs.«01_k».proof.Proof.LineMask
public import proofs.«01_k».proof.Defs
public import Idealize.ShloMosaic.Lib.Pipeline.ValueKit
public import Idealize.ShloMosaic.Lib.Claim
public import Idealize.ShloMosaic.Init

@[expose] public section

set_option maxRecDepth 16384

noncomputable section

/-!
# The linear recurrence's convolution, forward: the kernel's result is the reference's

One grid point computes a sample's block of 256 channels; the points' blocks make up the result.
-/

namespace Cert.LruConvIdeal.Value

open Cert.LruConvIdeal Cert.LruConvIdeal.Gen Idealize.ShloMosaic Idealize.ShloMosaic.TcCoe Idealize.SL.Sem Cert.LineMask
open Cert.LineSpec (N acc tap masked')
open Cert.ConvSpec (sg)
open Cert.LruConvRef (col taps)

/-- What is applied to the convolution: nothing. -/
def act (a : EReal) : EReal := a

section point

variable (X : FVec Ideal S2304x256 .f32) (W0 W1 W2 W3 : Vec Ideal S1x256 .f32) (t : Fin 2304) (q : Fin 256)

/-- The four taps of channel `q`, from the four loads. -/
def taps4 (W0 W1 W2 W3 : Vec Ideal S1x256 .f32) (q : Fin 256) (j : Fin 4) : EReal := (![W0, W1, W2, W3] j) (ix2 0 q)

/-- A masked, moved input times a row of taps, added to a block. -/
theorem step (V R : FVec Ideal S2304x256 .f32) (W : Vec Ideal S1x256 .f32) (M : FVec Ideal S2304x1 .f32) (j : Fin 4) (s : ℕ)
    (hM : M (ix2 t 0) = if N j t.val then (1 : EReal) else 0) (hR : R (ix2 t q) = colT X q s)
    (hs : s = (t.val + j.val + 2303) % 2304) :
    addf V (mulf (broadcastTo S2304x256 W broadcasts_S1x256_S2304x256)
      (mulf R (broadcastTo S2304x256 M broadcasts_S2304x1_S2304x256))) (ix2 t q)
    = (V (ix2 t q) + W (ix2 0 q) * tap (colT X q) j t.val : EReal) := by
  pointwise [hM, hR]
  rw [masked' _ _ _ _ t.isLt hs]

/-- A block, as the body stores it. -/
theorem stored (A : FVec Ideal S2304x256 .f32) :
    shapeCast S1x2304x256 A shapeCasts_S2304x256_S1x2304x256 (ix3 0 t q) = (act (A (ix2 t q)) : EReal) := by
  unfold act
  pointwise

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S4x256 .f32) (q : Fin 256) (j : Fin 4) : EReal := x1 (ix2 j q)

variable (x0 : Vec Ideal S1x2304x256 .f32) (x1 : Vec Ideal S4x256 .f32) (x2 : Vec Ideal S1x256 .f32)

/-- The body's working copy of its block. -/
theorem col_eq : colT (k0_pay2 x0) q = bcol x0 q := by
  funext t
  unfold colT bcol
  split_ifs
  · pointwise [k0_pay2]
  · rfl

/-- The four loads of taps, as one family. -/
theorem taps_eq (hW : W0 (ix2 0 q) = x1 (ix2 0 q) ∧ W1 (ix2 0 q) = x1 (ix2 1 q) ∧ W2 (ix2 0 q) = x1 (ix2 2 q)
    ∧ W3 (ix2 0 q) = x1 (ix2 3 q)) : taps4 W0 W1 W2 W3 q = btap x1 q := by
  obtain ⟨h0, h1, h2, h3⟩ := hW
  funext j
  fin_cases j
  · exact h0
  · exact h1
  · exact h2
  · exact h3

/-- The convolution, one tap after another. -/
abbrev Y0 : FVec Ideal S2304x256 .f32 := k0_pay8 (k0_pay3 x2) KernMask.I W0 (k0_pay4 x0) k0_pay6 k0_pay7
abbrev Y1 : FVec Ideal S2304x256 .f32 := k0_pay13 (k0_pay2 x0) KernMask.I (Y0 W0 x0 x2) W1 (k0_pay9 KernMask.I)
  (k0_pay10 KernMask.I) (k0_pay11 KernMask.I) k0_pay12
abbrev Y2 : FVec Ideal S2304x256 .f32 := k0_pay16 KernMask.I (Y1 W0 W1 x0 x2) W2 (k0_pay14 (k0_pay2 x0)) (k0_pay15 KernMask.I)
abbrev Y3 : FVec Ideal S2304x256 .f32 := addf (Y2 W0 W1 W2 x0 x2) (mulf (broadcastTo S2304x256 W3 broadcasts_S1x256_S2304x256)
  (mulf (k0_pay17 (k0_pay2 x0)) (broadcastTo S2304x256 (MASK 2#32) broadcasts_S2304x1_S2304x256)))

/-- The input, moved by each tap. -/
theorem rot0 : k0_pay4 x0 (ix2 t q) = colT (k0_pay2 x0) q ((t.val + 2303) % 2304) := by
  have h := t.isLt
  pointwise [k0_pay4, colT_at (k0_pay2 x0)]
  try first | rfl | (congr 1; done) | (congr 1; omega)

theorem rot2 : k0_pay14 X (ix2 t q) = colT X q ((t.val + 1) % 2304) := by
  have h := t.isLt
  pointwise [k0_pay14, colT_at X]
  try first | rfl | (congr 1; done) | (congr 1; omega)

theorem rot3 : k0_pay17 X (ix2 t q) = colT X q ((t.val + 2) % 2304) := by
  have h := t.isLt
  pointwise [k0_pay17, colT_at X]
  try first | rfl | (congr 1; done) | (congr 1; omega)

theorem bias_at : k0_pay3 x2 (ix2 t q) = (x2 (ix2 0 q) : EReal) := by pointwise [k0_pay3]

theorem Y0_at : Y0 W0 x0 x2 (ix2 t q) = (x2 (ix2 0 q) + W0 (ix2 0 q) * tap (bcol x0 q) 0 t.val : EReal) := by
  rw [← bias_at t q x2, ← col_eq]
  exact step (k0_pay2 x0) t q (k0_pay3 x2) (k0_pay4 x0) W0 (MASK 4294967295#32) 0 _ (mask0 t) (rot0 t q x0) rfl

theorem Y1_at : Y1 W0 W1 x0 x2 (ix2 t q)
    = (Y0 W0 x0 x2 (ix2 t q) + W1 (ix2 0 q) * tap (bcol x0 q) 1 t.val : EReal) := by
  rw [← col_eq]
  exact step (k0_pay2 x0) t q (Y0 W0 x0 x2) (k0_pay2 x0) W1 (MASK 0#32) 1 t.val (mask1 t) (colT_at _ q t)
    (by have := t.isLt; simp; omega)

theorem Y2_at : Y2 W0 W1 W2 x0 x2 (ix2 t q)
    = (Y1 W0 W1 x0 x2 (ix2 t q) + W2 (ix2 0 q) * tap (bcol x0 q) 2 t.val : EReal) := by
  rw [← col_eq]
  exact step (k0_pay2 x0) t q (Y1 W0 W1 x0 x2) (k0_pay14 (k0_pay2 x0)) W2 (MASK 1#32) 2 _ (mask2 t) (rot2 _ t q)
    (by have := t.isLt; simp; omega)

theorem Y3_at : Y3 W0 W1 W2 W3 x0 x2 (ix2 t q)
    = (Y2 W0 W1 W2 x0 x2 (ix2 t q) + W3 (ix2 0 q) * tap (bcol x0 q) 3 t.val : EReal) := by
  rw [← col_eq]
  exact step (k0_pay2 x0) t q (Y2 W0 W1 W2 x0 x2) (k0_pay17 (k0_pay2 x0)) W3 (MASK 2#32) 3 _ (mask3 t) (rot3 _ t q)
    (by have := t.isLt; simp; omega)

/-- The convolution. -/
theorem acc_at : Y3 W0 W1 W2 W3 x0 x2 (ix2 t q) = acc (taps4 W0 W1 W2 W3 q) (x2 (ix2 0 q)) (bcol x0 q) t.val := by
  rw [Y3_at, Y2_at, Y1_at, Y0_at]
  unfold acc
  rw [Fin.sum_univ_four]
  show x2 (ix2 0 q) + W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val
    = (W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val + x2 (ix2 0 q) : EReal)
  ac_rfl

/-- What the body stores, from its four loads of taps. -/
theorem body_at : k0_pay1 (Y2 W0 W1 W2 x0 x2) W3 (k0_pay17 (k0_pay2 x0))
      (k0_pay19 KernMask.I (k0_pay18 KernMask.I) KernMask.one) (ix3 0 t q)
    = (act (acc (taps4 W0 W1 W2 W3 q) (x2 (ix2 0 q)) (bcol x0 q) t.val) : EReal) := by
  rw [← acc_at]
  exact stored t q (Y3 W0 W1 W2 W3 x0 x2)

/-- What a grid point leaves. -/
theorem out_at : out0_3 x0 x1 x2 (ix3 0 t q) = (act (acc (btap x1 q) (x2 (ix2 0 q)) (bcol x0 q) t.val) : EReal) := by
  unfold out0_3 k0_pay20 k0_pay21
  rw [View.ld_unit_lit _ x0 (by decide), View.ld_unit_lit _ x2 (by decide)]
  rw [View.canon_cons_unit_lit _ _ _ (by decide)]
  refine (body_at _ _ _ _ t q x0 x2).trans (congrArg (fun w => act (acc w (x2 (ix2 0 q)) (bcol x0 q) t.val))
    (taps_eq _ _ _ _ q x1 ?_))
  refine ⟨?_, ?_, ?_, ?_⟩ <;> pointwise

end point

variable (m : (ℓ : Loc nD τ sig) → Buf (Elt Ideal) ℓ) (c : Dev nD)

/-- Every window's block index at a grid point. -/
theorem idx : ∀ t : Fin cfg0.N, win0_0.index t = ![t.val / 4, 0, t.val % 4] ∧ win0_1.index t = ![0, t.val % 4]
    ∧ win0_2.index t = ![0, t.val % 4] ∧ win0_3.index t = ![t.val / 4, 0, t.val % 4] :=
  (by decide +kernel : ∀ t : Fin grid0.N, _)

theorem lt_points (t : Fin cfg0.N) : t.val < 16 := lt_of_lt_of_eq t.isLt (show cfg0.N = 16 from N_0)

/-- The sample of a grid point. -/
def sm (t : Fin cfg0.N) : Fin 4 := ⟨t.val / 4, by have := lt_points t; omega⟩

/-- The channel of a grid point's block. -/
def ch (t : Fin cfg0.N) (q : Fin 256) : Fin 1024 := ⟨t.val % 4 * 256 + q.val, by have := lt_points t; omega⟩

/-- The convolution's input, its taps and its bias. -/
abbrev a0 : FVec Ideal S4x2304x1024 .f32 := m ((c : Thread nD τ).loc main_arg0)
abbrev a1 : FVec Ideal S4x1024 .f32 := m ((c : Thread nD τ).loc main_arg1)
abbrev a2 : FVec Ideal S1024 .f32 := m ((c : Thread nD τ).loc main_arg2)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read1 (t : Fin cfg0.N) (j : Fin 4) (q : Fin 256) :
    iblk m c 1 t (ix2 j q) = m ((c : Thread nD τ).loc main_arg1) (ix2 j (ch t q)) := by
  unfold ch
  blk_ext [iblk, V, idx t]

theorem read2 (t : Fin cfg0.N) (q : Fin 256) :
    iblk m c 2 t (ix2 0 q) = m ((c : Thread nD τ).loc main_arg2) (ix1 (ch t q)) := by
  blk_simp [iblk, idx t]
  entry_read
  pointwise
  unfold ch
  blk_ext [idx t]

theorem col0 (t : Fin cfg0.N) (q : Fin 256) : bcol (iblk m c 0 t) q = col (a0 m c) (sm t) (ch t q) := by
  funext s
  unfold bcol col
  split_ifs with h
  · exact read0 m c t ⟨s, h⟩ q
  · rfl

theorem tap1 (t : Fin cfg0.N) (q : Fin 256) : btap (iblk m c 1 t) q = taps (a1 m c) (ch t q) :=
  funext fun j => read1 m c t j q

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The result. -/
def F3 : FVec Ideal S4x2304x1024 .f32 := fun j =>
  act (acc (taps (a1 m c) (j 2)) (a2 m c (ix1 (j 2))) (col (a0 m c) (j 0) (j 2)) (j 1).val)

/-- The result, whole. -/
theorem final3 : (dats m 0 c).arrAt 3 cfg0.N = F3 m c := by
  refine (dats m 0 c).arrAt_eq_of_covers 3 _ (by decide +kernel) fun t _ y => ?_
  blk_simp
  rw [after0_3]
  obtain ⟨s, q, rfl⟩ := blk_idx y
  have e : (win0_3.blk t).view.emb (ix3 0 s q) = ix3 (sm t) s (ch t q) := by
    unfold sm ch
    blk_ext [idx t]
  rw [e]
  refine (out_at s q _ _ _).trans ?_
  rw [tap1, col0, read2]
  rfl

/-- The result is the reference's. -/
theorem eq3 : F3 m c = Cert.LruConvRefIdeal.Read.val_main_v40 (F := Ideal) (a0 m c) (a1 m c) (a2 m c) := by
  funext j
  obtain ⟨b, p, k, rfl⟩ : ∃ (b : Fin 4) (p : Fin 2304) (k : Fin 1024), j = ix3 b p k := ⟨j 0, j 1, j 2, eq_ix3 j⟩
  rw [Cert.LruConvRef.v40]
  rfl

end Cert.LruConvIdeal.Value

namespace Cert.Proof

open Idealize.ShloMosaic Idealize.ShloMosaic.TcCoe Idealize.SL.Sem
open Cert.LruConvIdeal.Value (F3 final3 eq3)

/-- The reference ends with its arguments untouched and nothing in flight. -/
theorem quiescent_LruConvRef : Cert.quiescent_LruConvRefIdeal := fun m ρ _ =>
  (θ_run Cert.LruConvRefIdeal.defs _ _).mono (fun r h => ⟨fun c => (h c).2, sem_eq_zero_of_no_sems (by decide) r.2⟩)
    (Cert.LruConvRefIdeal.Value.run (F := Ideal) m ρ)

/-- The kernel's result is the reference's. -/
theorem algebraic_LruConv : Cert.algebraic_LruConvIdeal_LruConvRefIdeal := by
  intro m ρ m' ρ' _ hagree
  refine ⟨F3 m, ?_, ?_⟩
  · refine (θ_run Cert.LruConvIdeal.defs _ _).mono (fun r h c => ?_) (Cert.LruConvIdeal.Value.run_blocks (F := Ideal) m ρ)
    obtain ⟨e, hk⟩ := h c
    exact ⟨e.trans (final3 m c), hk⟩
  · refine (θ_run Cert.LruConvRefIdeal.defs _ _).mono (fun r h c => ?_) (Cert.LruConvRefIdeal.Value.run (F := Ideal) m' ρ')
    obtain ⟨e, hk⟩ := h c
    obtain ⟨g0, g1, g2⟩ := hagree c
    refine ⟨?_, hk⟩
    refine e.trans ((Cert.LruConvRefIdeal.Read.val_main_v40_eq _ c).trans ?_)
    exact (congr (congrArg₂ _ g0 g1) g2).trans (eq3 m c).symm

end Cert.Proof

end
-- ==== Proof.SsdConvRef.lean ====
module

public import proofs.«01_k».proof.Proof.Gen.SsdConvRefIdeal.Read
public import proofs.«01_k».proof.Proof.LineSpec
public import proofs.«01_k».proof.Proof.Silu

@[expose] public section

set_option maxRecDepth 16384

noncomputable section

/-!
# The state-space scan's convolution, forward: the reference, read one channel at a time
-/

namespace Cert.SsdConvRef

open Cert.SsdConvRefIdeal Cert.SsdConvRefIdeal.Gen Cert.SsdConvRefIdeal.Value Cert.SsdConvRefIdeal.Read Idealize.ShloMosaic
  Idealize.ShloMosaic.TcCoe Idealize.SL.Sem Cert.LineSpec
open Cert.ConvSpec (sg)

/-- The column of sample `b` and channel `c`, zero beyond the last position. -/
def col (x : FVec Ideal S4x2304x1536 .f32) (b : Fin 4) (c : Fin 1536) (t : ℕ) : EReal :=
  if h : t < 2304 then x (ix3 b ⟨t, h⟩ c) else 0

/-- The four taps of channel `c`. -/
def taps (w : FVec Ideal S4x1536 .f32) (c : Fin 1536) (j : Fin 4) : EReal := w (ix2 j c)

theorem col_at (x : FVec Ideal S4x2304x1536 .f32) (b : Fin 4) (c : Fin 1536) (t : ℕ) (h : t < 2304) :
    x (ix3 b ⟨t, h⟩ c) = col x b c t := by
  unfold col; rw [dif_pos h]

variable (x0 : FVec Ideal S4x2304x1536 .f32) (x1 : FVec Ideal S4x1536 .f32) (x2 : FVec Ideal S1536 .f32)

/-- The four taps of the context line. -/
theorem v13 (j b : Fin 4) (p : Fin 256) (c : Fin 1536) :
    val_main_v13 (F := Ideal) x0 (ix4 j b p c) = tap (col x0 b c) j p.val := by
  rw [tap_ctx _ _ _ p.isLt]
  pointwise [val_main_v13, val_main_v9, val_main_v10, val_main_v11, val_main_v12, val_main_v5, val_main_v6, val_main_v7, val_main_v8, val_main_v4, val_main_v3, val_main_v0, val_main_cst, col_at]
  have := p.isLt
  fin_cases j <;> simp <;> split_ifs <;> first | rfl | (exfalso; omega) | (congr 1; omega)

/-- The four taps of the other line. -/
theorem v33 (j b : Fin 4) (p : Fin 2048) (c : Fin 1536) :
    val_main_v33 (F := Ideal) x0 (ix4 j b p c) = tap (col x0 b c) j (256 + p.val) := by
  rw [tap_lat _ _ _ p.isLt]
  pointwise [val_main_v33, val_main_v29, val_main_v30, val_main_v31, val_main_v32, val_main_v25, val_main_v26, val_main_v27, val_main_v28, val_main_v24, val_main_v23, val_main_v20, val_main_cst_1, col_at]
  have := p.isLt
  fin_cases j <;> simp <;> split_ifs <;> first | rfl | (exfalso; omega) | (congr 1; omega)

/-- The convolution before its activation. -/
theorem v40 (b : Fin 4) (p : Fin 2304) (c : Fin 1536) :
    val_main_v40 (F := Ideal) x0 x1 x2 (ix3 b p c) = acc (taps x1 c) (x2 (ix1 c)) (col x0 b c) p.val := by
  unfold acc
  simp only [Fin.sum_univ_four]
  pointwise [val_main_v40, val_main_v19, val_main_v16, val_main_v15, val_main_v14, val_main_v1, val_main_v18, val_main_v17, val_main_cst_0, val_main_v39, val_main_v36, val_main_v35, val_main_v34, val_main_v21, val_main_v38, val_main_v37, val_main_cst_2, Fin.sum_univ_four, v13, v33]
  split_ifs with h
  · simp [taps]
  · have e : 256 + (p.val - 256) = p.val := by omega
    simp [taps, e]

/-- The convolution. -/
theorem v41 (b : Fin 4) (p : Fin 2304) (c : Fin 1536) :
    val_main_v41 (F := Ideal) x0 x1 x2 (ix3 b p c) = acc (taps x1 c) (x2 (ix1 c)) (col x0 b c) p.val
      * sg (acc (taps x1 c) (x2 (ix1 c)) (col x0 b c) p.val) := by
  unfold sg
  pointwise [val_main_v41, val_main_call0_v5, val_main_call0_v4, val_main_call0_v3, val_main_call0_v2, val_main_call0_v1, val_main_call0_v0, val_main_call0_cst, val_main_call0_cst_0, v40]

end Cert.SsdConvRef

end
-- ==== Proof.SsdConvValue.lean ====
module

public import proofs.«01_k».proof.Proof.Gen.SsdConvIdeal.Value
public import proofs.«01_k».proof.Proof.Gen.SsdConv.Frame
public import proofs.«01_k».proof.Proof.Gen.SsdConvRefIdeal.Run
public import proofs.«01_k».proof.Proof.SsdConvRef
public import proofs.«01_k».proof.Proof.LineMask
public import proofs.«01_k».proof.Defs
public import Idealize.ShloMosaic.Lib.Pipeline.ValueKit
public import Idealize.ShloMosaic.Lib.Claim
public import Idealize.ShloMosaic.Init

@[expose] public section

set_option maxRecDepth 16384

noncomputable section

/-!
# The state-space scan's convolution, forward: the kernel's result is the reference's

One grid point computes a sample's block of 256 channels; the points' blocks make up the result.
-/

namespace Cert.SsdConvIdeal.Value

open Cert.SsdConvIdeal Cert.SsdConvIdeal.Gen Idealize.ShloMosaic Idealize.ShloMosaic.TcCoe Idealize.SL.Sem Cert.LineMask
open Cert.LineSpec (N acc tap masked')
open Cert.ConvSpec (sg)
open Cert.SsdConvRef (col taps)

/-- What is applied to the convolution. -/
def act (a : EReal) : EReal := a * sg a

section point

variable (X : FVec Ideal S2304x256 .f32) (W0 W1 W2 W3 : Vec Ideal S1x256 .f32) (t : Fin 2304) (q : Fin 256)

/-- The four taps of channel `q`, from the four loads. -/
def taps4 (W0 W1 W2 W3 : Vec Ideal S1x256 .f32) (q : Fin 256) (j : Fin 4) : EReal := (![W0, W1, W2, W3] j) (ix2 0 q)

/-- A masked, moved input times a row of taps, added to a block. -/
theorem step (V R : FVec Ideal S2304x256 .f32) (W : Vec Ideal S1x256 .f32) (M : FVec Ideal S2304x1 .f32) (j : Fin 4) (s : ℕ)
    (hM : M (ix2 t 0) = if N j t.val then (1 : EReal) else 0) (hR : R (ix2 t q) = colT X q s)
    (hs : s = (t.val + j.val + 2303) % 2304) :
    addf V (mulf (broadcastTo S2304x256 W broadcasts_S1x256_S2304x256)
      (mulf R (broadcastTo S2304x256 M broadcasts_S2304x1_S2304x256))) (ix2 t q)
    = (V (ix2 t q) + W (ix2 0 q) * tap (colT X q) j t.val : EReal) := by
  pointwise [hM, hR]
  rw [masked' _ _ _ _ t.isLt hs]

/-- The activation of a block, as the body stores it. -/
theorem stored (A : FVec Ideal S2304x256 .f32) :
    shapeCast S1x2304x256 (mulf A (logistic A)) shapeCasts_S2304x256_S1x2304x256 (ix3 0 t q) = (act (A (ix2 t q)) : EReal) := by
  unfold act sg
  pointwise
  try rfl

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S4x256 .f32) (q : Fin 256) (j : Fin 4) : EReal := x1 (ix2 j q)

variable (x0 : Vec Ideal S1x2304x256 .f32) (x1 : Vec Ideal S4x256 .f32) (x2 : Vec Ideal S1x256 .f32)

/-- The body's working copy of its block. -/
theorem col_eq : colT (k0_pay2 x0) q = bcol x0 q := by
  funext t
  unfold colT bcol
  split_ifs
  · pointwise [k0_pay2]
  · rfl

/-- The four loads of taps, as one family. -/
theorem taps_eq (hW : W0 (ix2 0 q) = x1 (ix2 0 q) ∧ W1 (ix2 0 q) = x1 (ix2 1 q) ∧ W2 (ix2 0 q) = x1 (ix2 2 q)
    ∧ W3 (ix2 0 q) = x1 (ix2 3 q)) : taps4 W0 W1 W2 W3 q = btap x1 q := by
  obtain ⟨h0, h1, h2, h3⟩ := hW
  funext j
  fin_cases j
  · exact h0
  · exact h1
  · exact h2
  · exact h3

/-- The convolution, one tap after another. -/
abbrev Y0 : FVec Ideal S2304x256 .f32 := k0_pay8 (k0_pay3 x2) KernMask.I W0 (k0_pay4 x0) k0_pay6 k0_pay7
abbrev Y1 : FVec Ideal S2304x256 .f32 := k0_pay13 (k0_pay2 x0) KernMask.I (Y0 W0 x0 x2) W1 (k0_pay9 KernMask.I)
  (k0_pay10 KernMask.I) (k0_pay11 KernMask.I) k0_pay12
abbrev Y2 : FVec Ideal S2304x256 .f32 := k0_pay16 KernMask.I (Y1 W0 W1 x0 x2) W2 (k0_pay14 (k0_pay2 x0)) (k0_pay15 KernMask.I)
abbrev Y3 : FVec Ideal S2304x256 .f32 := addf (Y2 W0 W1 W2 x0 x2) (mulf (broadcastTo S2304x256 W3 broadcasts_S1x256_S2304x256)
  (mulf (k0_pay17 (k0_pay2 x0)) (broadcastTo S2304x256 (MASK 2#32) broadcasts_S2304x1_S2304x256)))

/-- The input, moved by each tap. -/
theorem rot0 : k0_pay4 x0 (ix2 t q) = colT (k0_pay2 x0) q ((t.val + 2303) % 2304) := by
  have h := t.isLt
  pointwise [k0_pay4, colT_at (k0_pay2 x0)]
  try first | rfl | (congr 1; done) | (congr 1; omega)

theorem rot2 : k0_pay14 X (ix2 t q) = colT X q ((t.val + 1) % 2304) := by
  have h := t.isLt
  pointwise [k0_pay14, colT_at X]
  try first | rfl | (congr 1; done) | (congr 1; omega)

theorem rot3 : k0_pay17 X (ix2 t q) = colT X q ((t.val + 2) % 2304) := by
  have h := t.isLt
  pointwise [k0_pay17, colT_at X]
  try first | rfl | (congr 1; done) | (congr 1; omega)

theorem bias_at : k0_pay3 x2 (ix2 t q) = (x2 (ix2 0 q) : EReal) := by pointwise [k0_pay3]

theorem Y0_at : Y0 W0 x0 x2 (ix2 t q) = (x2 (ix2 0 q) + W0 (ix2 0 q) * tap (bcol x0 q) 0 t.val : EReal) := by
  rw [← bias_at t q x2, ← col_eq]
  exact step (k0_pay2 x0) t q (k0_pay3 x2) (k0_pay4 x0) W0 (MASK 4294967295#32) 0 _ (mask0 t) (rot0 t q x0) rfl

theorem Y1_at : Y1 W0 W1 x0 x2 (ix2 t q)
    = (Y0 W0 x0 x2 (ix2 t q) + W1 (ix2 0 q) * tap (bcol x0 q) 1 t.val : EReal) := by
  rw [← col_eq]
  exact step (k0_pay2 x0) t q (Y0 W0 x0 x2) (k0_pay2 x0) W1 (MASK 0#32) 1 t.val (mask1 t) (colT_at _ q t)
    (by have := t.isLt; simp; omega)

theorem Y2_at : Y2 W0 W1 W2 x0 x2 (ix2 t q)
    = (Y1 W0 W1 x0 x2 (ix2 t q) + W2 (ix2 0 q) * tap (bcol x0 q) 2 t.val : EReal) := by
  rw [← col_eq]
  exact step (k0_pay2 x0) t q (Y1 W0 W1 x0 x2) (k0_pay14 (k0_pay2 x0)) W2 (MASK 1#32) 2 _ (mask2 t) (rot2 _ t q)
    (by have := t.isLt; simp; omega)

theorem Y3_at : Y3 W0 W1 W2 W3 x0 x2 (ix2 t q)
    = (Y2 W0 W1 W2 x0 x2 (ix2 t q) + W3 (ix2 0 q) * tap (bcol x0 q) 3 t.val : EReal) := by
  rw [← col_eq]
  exact step (k0_pay2 x0) t q (Y2 W0 W1 W2 x0 x2) (k0_pay17 (k0_pay2 x0)) W3 (MASK 2#32) 3 _ (mask3 t) (rot3 _ t q)
    (by have := t.isLt; simp; omega)

/-- The convolution before its activation. -/
theorem acc_at : Y3 W0 W1 W2 W3 x0 x2 (ix2 t q) = acc (taps4 W0 W1 W2 W3 q) (x2 (ix2 0 q)) (bcol x0 q) t.val := by
  rw [Y3_at, Y2_at, Y1_at, Y0_at]
  unfold acc
  rw [Fin.sum_univ_four]
  show x2 (ix2 0 q) + W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val
    = (W0 (ix2 0 q) * tap (bcol x0 q) 0 t.val + W1 (ix2 0 q) * tap (bcol x0 q) 1 t.val
      + W2 (ix2 0 q) * tap (bcol x0 q) 2 t.val + W3 (ix2 0 q) * tap (bcol x0 q) 3 t.val + x2 (ix2 0 q) : EReal)
  ac_rfl

/-- What the body stores, from its four loads of taps. -/
theorem body_at : k0_pay1 (Y2 W0 W1 W2 x0 x2) W3 (k0_pay17 (k0_pay2 x0))
      (k0_pay19 KernMask.I (k0_pay18 KernMask.I) KernMask.one) (ix3 0 t q)
    = (act (acc (taps4 W0 W1 W2 W3 q) (x2 (ix2 0 q)) (bcol x0 q) t.val) : EReal) := by
  rw [← acc_at]
  exact stored t q (Y3 W0 W1 W2 W3 x0 x2)

/-- What a grid point leaves. -/
theorem out_at : out0_3 x0 x1 x2 (ix3 0 t q) = (act (acc (btap x1 q) (x2 (ix2 0 q)) (bcol x0 q) t.val) : EReal) := by
  unfold out0_3 k0_pay20 k0_pay21
  rw [View.ld_unit_lit _ x0 (by decide), View.ld_unit_lit _ x2 (by decide)]
  rw [View.canon_cons_unit_lit _ _ _ (by decide)]
  refine (body_at _ _ _ _ t q x0 x2).trans (congrArg (fun w => act (acc w (x2 (ix2 0 q)) (bcol x0 q) t.val))
    (taps_eq _ _ _ _ q x1 ?_))
  refine ⟨?_, ?_, ?_, ?_⟩ <;> pointwise

end point

variable (m : (ℓ : Loc nD τ sig) → Buf (Elt Ideal) ℓ) (c : Dev nD)

/-- Every window's block index at a grid point. -/
theorem idx : ∀ t : Fin cfg0.N, win0_0.index t = ![t.val / 6, 0, t.val % 6] ∧ win0_1.index t = ![0, t.val % 6]
    ∧ win0_2.index t = ![0, t.val % 6] ∧ win0_3.index t = ![t.val / 6, 0, t.val % 6] :=
  (by decide +kernel : ∀ t : Fin grid0.N, _)

theorem lt_points (t : Fin cfg0.N) : t.val < 24 := lt_of_lt_of_eq t.isLt (show cfg0.N = 24 from N_0)

/-- The sample of a grid point. -/
def sm (t : Fin cfg0.N) : Fin 4 := ⟨t.val / 6, by have := lt_points t; omega⟩

/-- The channel of a grid point's block. -/
def ch (t : Fin cfg0.N) (q : Fin 256) : Fin 1536 := ⟨t.val % 6 * 256 + q.val, by have := lt_points t; omega⟩

/-- The convolution's input, its taps and its bias. -/
abbrev a0 : FVec Ideal S4x2304x1536 .f32 := m ((c : Thread nD τ).loc main_arg0)
abbrev a1 : FVec Ideal S4x1536 .f32 := m ((c : Thread nD τ).loc main_arg1)
abbrev a2 : FVec Ideal S1536 .f32 := m ((c : Thread nD τ).loc main_arg2)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read1 (t : Fin cfg0.N) (j : Fin 4) (q : Fin 256) :
    iblk m c 1 t (ix2 j q) = m ((c : Thread nD τ).loc main_arg1) (ix2 j (ch t q)) := by
  unfold ch
  blk_ext [iblk, V, idx t]

theorem read2 (t : Fin cfg0.N) (q : Fin 256) :
    iblk m c 2 t (ix2 0 q) = m ((c : Thread nD τ).loc main_arg2) (ix1 (ch t q)) := by
  blk_simp [iblk, idx t]
  entry_read
  pointwise
  unfold ch
  blk_ext [idx t]

theorem col0 (t : Fin cfg0.N) (q : Fin 256) : bcol (iblk m c 0 t) q = col (a0 m c) (sm t) (ch t q) := by
  funext s
  unfold bcol col
  split_ifs with h
  · exact read0 m c t ⟨s, h⟩ q
  · rfl

theorem tap1 (t : Fin cfg0.N) (q : Fin 256) : btap (iblk m c 1 t) q = taps (a1 m c) (ch t q) :=
  funext fun j => read1 m c t j q

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The result. -/
def F3 : FVec Ideal S4x2304x1536 .f32 := fun j =>
  act (acc (taps (a1 m c) (j 2)) (a2 m c (ix1 (j 2))) (col (a0 m c) (j 0) (j 2)) (j 1).val)

/-- The result, whole. -/
theorem final3 : (dats m 0 c).arrAt 3 cfg0.N = F3 m c := by
  refine (dats m 0 c).arrAt_eq_of_covers 3 _ (by decide +kernel) fun t _ y => ?_
  blk_simp
  rw [after0_3]
  obtain ⟨s, q, rfl⟩ := blk_idx y
  have e : (win0_3.blk t).view.emb (ix3 0 s q) = ix3 (sm t) s (ch t q) := by
    unfold sm ch
    blk_ext [idx t]
  rw [e]
  refine (out_at s q _ _ _).trans ?_
  rw [tap1, col0, read2]
  rfl

/-- The result is the reference's. -/
theorem eq3 : F3 m c = Cert.SsdConvRefIdeal.Read.val_main_v41 (F := Ideal) (a0 m c) (a1 m c) (a2 m c) := by
  funext j
  obtain ⟨b, p, k, rfl⟩ : ∃ (b : Fin 4) (p : Fin 2304) (k : Fin 1536), j = ix3 b p k := ⟨j 0, j 1, j 2, eq_ix3 j⟩
  rw [Cert.SsdConvRef.v41]
  rfl

end Cert.SsdConvIdeal.Value

namespace Cert.Proof

open Idealize.ShloMosaic Idealize.ShloMosaic.TcCoe Idealize.SL.Sem
open Cert.SsdConvIdeal.Value (F3 final3 eq3)

/-- The reference ends with its arguments untouched and nothing in flight. -/
theorem quiescent_SsdConvRef : Cert.quiescent_SsdConvRefIdeal := fun m ρ _ =>
  (θ_run Cert.SsdConvRefIdeal.defs _ _).mono (fun r h => ⟨fun c => (h c).2, sem_eq_zero_of_no_sems (by decide) r.2⟩)
    (Cert.SsdConvRefIdeal.Value.run (F := Ideal) m ρ)

/-- The kernel's result is the reference's. -/
theorem algebraic_SsdConv : Cert.algebraic_SsdConvIdeal_SsdConvRefIdeal := by
  intro m ρ m' ρ' _ hagree
  refine ⟨F3 m, ?_, ?_⟩
  · refine (θ_run Cert.SsdConvIdeal.defs _ _).mono (fun r h c => ?_) (Cert.SsdConvIdeal.Value.run_blocks (F := Ideal) m ρ)
    obtain ⟨e, hk⟩ := h c
    exact ⟨e.trans (final3 m c), hk⟩
  · refine (θ_run Cert.SsdConvRefIdeal.defs _ _).mono (fun r h c => ?_) (Cert.SsdConvRefIdeal.Value.run (F := Ideal) m' ρ')
    obtain ⟨e, hk⟩ := h c
    obtain ⟨g0, g1, g2⟩ := hagree c
    refine ⟨?_, hk⟩
    refine e.trans ((Cert.SsdConvRefIdeal.Read.val_main_v41_eq _ c).trans ?_)
    exact (congr (congrArg₂ _ g0 g1) g2).trans (eq3 m c).symm

end Cert.Proof

end
-- ==== Proof.FfnConvRef.lean ====
module

public import proofs.«01_k».proof.Proof.Gen.FfnConvRefIdeal.Read
public import proofs.«01_k».proof.Proof.ConvSpec
public import proofs.«01_k».proof.Proof.HostSums

@[expose] public section

set_option maxRecDepth 16384

noncomputable section

/-!
# The gated convolution, forward: the reference, read one channel at a time
-/

namespace Cert.FfnConvRef

open Cert.FfnConvRefIdeal Cert.FfnConvRefIdeal.Gen Cert.FfnConvRefIdeal.Value Cert.FfnConvRefIdeal.Read Idealize.ShloMosaic
  Idealize.ShloMosaic.TcCoe Idealize.SL.Sem Cert.ConvSpec

/-- The column of sample `b` and channel `c`, zero beyond the last position. -/
def col (x : FVec Ideal S4x2304x2816 .f32) (b : Fin 4) (c : Fin 2816) (t : ℕ) : EReal :=
  if h : t < 2304 then x (ix3 b ⟨t, h⟩ c) else 0

/-- The nine taps of channel `c`. -/
def taps (w : FVec Ideal S3x3x2816 .f32) (c : Fin 2816) (i j : Fin 3) : EReal := w (ix3 i j c)

theorem col_at (x : FVec Ideal S4x2304x2816 .f32) (b : Fin 4) (c : Fin 2816) (t : ℕ) (h : t < 2304) :
    x (ix3 b ⟨t, h⟩ c) = col x b c t := by
  unfold col; rw [dif_pos h]

variable (x0 : FVec Ideal S4x2304x2816 .f32) (x1 : FVec Ideal S3x3x2816 .f32) (x2 : FVec Ideal S2816 .f32)
  (x3 : FVec Ideal S4x2304x2816 .f32)

/-- The three taps of the context line. -/
theorem v14 (j : Fin 3) (b : Fin 4) (p : Fin 256) (c : Fin 2816) :
    val_main_v14 (F := Ideal) x0 (ix4 j b p c) = tap (col x0 b c) 1 j p.val := by
  rw [tap_ctx _ _ _ _ p.isLt]
  pointwise [val_main_v14, val_main_v11, val_main_v12, val_main_v13, val_main_v8, val_main_v9, val_main_v10, val_main_v7, val_main_v6, val_main_v0, val_main_cst, col_at]
  have := p.isLt
  fin_cases j <;> simp <;> split_ifs <;> first | rfl | (exfalso; omega) | (congr 1; omega)

/-- The three column taps of the grid. -/
theorem v32 (j : Fin 3) (b : Fin 4) (p : Fin 32) (q : Fin 64) (c : Fin 2816) :
    val_main_v32 (F := Ideal) x0 (ix5 j b p q c) = tap (col x0 b c) 1 j (256 + 64 * p.val + q.val) := by
  rw [tap_lat _ _ _ _ _ p.isLt q.isLt]
  pointwise [val_main_v32, val_main_v29, val_main_v30, val_main_v31, val_main_v26, val_main_v27, val_main_v28, val_main_v25, val_main_v24, val_main_v21, val_main_v1, val_main_cst_1, col_at]
  have := p.isLt
  have := q.isLt
  fin_cases j <;> simp <;> split_ifs <;> first | rfl | (exfalso; omega) | (congr 1; omega)

/-- The nine taps of the grid. -/
theorem v42 (i j : Fin 3) (b : Fin 4) (p : Fin 32) (q : Fin 64) (c : Fin 2816) :
    val_main_v42 (F := Ideal) x0 (ix6 i j b p q c) = tap (col x0 b c) i j (256 + 64 * p.val + q.val) := by
  rw [tap_lat _ _ _ _ _ p.isLt q.isLt]
  pointwise [val_main_v42, val_main_v39, val_main_v40, val_main_v41, val_main_v36, val_main_v37, val_main_v38, val_main_v35, val_main_v34, val_main_cst_2, v32]
  have := p.isLt
  have := q.isLt
  fin_cases i <;> simp <;> split_ifs <;>
    first
    | rfl
    | (exfalso; omega)
    | (rw [tap_lat _ _ _ _ _ (by omega) q.isLt]
       split_ifs <;> simp at * <;> first | (exfalso; omega) | rfl | (congr 1; omega))

/-- The convolution before its activation. -/
theorem v50 (b : Fin 4) (p : Fin 2304) (c : Fin 2816) :
    val_main_v50 (F := Ideal) x0 x1 x2 (ix3 b p c) = acc (taps x1 c) (x2 (ix1 c)) (col x0 b c) p.val := by
  pointwise [val_main_v50, val_main_v20, val_main_v49, val_main_v48, val_main_v47, val_main_v46, val_main_v17, val_main_v16, val_main_v19, val_main_v18, val_main_v15, val_main_v4, val_main_v3, val_main_v2, val_main_v45, HostSums.r6_01, Fin.sum_univ_three,
    val_main_v44, val_main_v43, val_main_v22, v14, v42, val_main_cst_0, val_main_cst_3]
  unfold acc taps
  split_ifs with h
  · congr 1
    simp only [Fin.sum_univ_three, tap_ctx _ _ _ _ h]
    simp
  · have : 256 + 64 * ((p.val - 256) / 64) + (p.val - 256) % 64 = p.val := by omega
    simp only [this, zero_add, Fin.sum_univ_three]

/-- The gated convolution. -/
theorem v53 (b : Fin 4) (p : Fin 2304) (c : Fin 2816) :
    val_main_v53 (F := Ideal) x0 x1 x2 x3 (ix3 b p c) = acc (taps x1 c) (x2 (ix1 c)) (col x0 b c) p.val
      * sg (acc (taps x1 c) (x2 (ix1 c)) (col x0 b c) p.val) * x3 (ix3 b p c) := by
  unfold sg
  pointwise [val_main_v53, val_main_v52, val_main_v51, val_main_call0_v5, val_main_call0_v4, val_main_call0_v3, val_main_call0_v2, val_main_call0_v1, val_main_call0_v0, val_main_call0_cst, val_main_call0_cst_0, v50]

end Cert.FfnConvRef

end
-- ==== Proof.FfnConvValue.lean ====
module

public import proofs.«01_k».proof.Proof.Gen.FfnConvIdeal.Value
public import proofs.«01_k».proof.Proof.Gen.FfnConv.Frame
public import proofs.«01_k».proof.Proof.Gen.FfnConvRefIdeal.Run
public import proofs.«01_k».proof.Proof.FfnConvRef
public import proofs.«01_k».proof.Proof.KernConv
public import proofs.«01_k».proof.Defs
public import Idealize.ShloMosaic.Lib.Pipeline.ValueKit
public import Idealize.ShloMosaic.Lib.Claim
public import Idealize.ShloMosaic.Init

@[expose] public section

set_option maxRecDepth 16384

noncomputable section

/-!
# The gated convolution, forward: the kernel's result is the reference's

One grid point computes a sample's block of 256 channels, by the same convolution as the backward kernel; the points'
blocks make up the result.
-/

namespace Cert.FfnConvIdeal.Value

open Cert.FfnConvIdeal Cert.FfnConvIdeal.Gen Idealize.ShloMosaic Idealize.ShloMosaic.TcCoe Idealize.SL.Sem
open Cert.ConvSpec (acc sg)
open Cert.KernConv (colT taps9 accT)
open Cert.FfnConvRef (col taps)

section point

variable (W0 W1 W2 W3 W4 W5 W6 W7 W8 : Vec Ideal S1x256 .f32) (t : Fin 2304) (q : Fin 256)

/-- The gated activation of a block, as the body stores it. -/
theorem stored (A : FVec Ideal S2304x256 .f32) (U : Vec Ideal S1x2304x256 .f32) :
    shapeCast S1x2304x256 (truncf .bf16 (mulf (mulf A (logistic A)) (shapeCast S2304x256 U shapeCasts_S1x2304x256_S2304x256))
      bitsLt_bf16_f32) shapeCasts_S2304x256_S1x2304x256 (ix3 0 t q)
    = (A (ix2 t q) * sg (A (ix2 t q)) * U (ix3 0 t q) : EReal) := by
  unfold sg
  pointwise
  try rfl

/-- Channel `q` of a sample's block, zero beyond the last position. -/
def bcol (x : Vec Ideal S1x2304x256 .f32) (q : Fin 256) (t : ℕ) : EReal := if h : t < 2304 then x (ix3 0 ⟨t, h⟩ q) else 0

/-- Channel `q` of the block of taps. -/
def btap (x1 : Vec Ideal S9x256 .f32) (q : Fin 256) (i j : Fin 3) : EReal := x1 (ix2 ⟨3 * i.val + j.val, by omega⟩ q)

variable (x0 : Vec Ideal S1x2304x256 .f32) (x1 : Vec Ideal S9x256 .f32) (x2 : Vec Ideal S1x256 .f32)
  (x3 : Vec Ideal S1x2304x256 .f32)

/-- The body's working copy of its block. -/
theorem col_eq : colT (k0_pay2 x0) q = bcol x0 q := by
  funext t
  unfold colT bcol
  split_ifs
  · pointwise [k0_pay2]
  · rfl

/-- The nine loads of taps, as one family. -/
theorem taps_eq (hW : W0 (ix2 0 q) = x1 (ix2 0 q) ∧ W1 (ix2 0 q) = x1 (ix2 1 q) ∧ W2 (ix2 0 q) = x1 (ix2 2 q)
    ∧ W3 (ix2 0 q) = x1 (ix2 3 q) ∧ W4 (ix2 0 q) = x1 (ix2 4 q) ∧ W5 (ix2 0 q) = x1 (ix2 5 q)
    ∧ W6 (ix2 0 q) = x1 (ix2 6 q) ∧ W7 (ix2 0 q) = x1 (ix2 7 q) ∧ W8 (ix2 0 q) = x1 (ix2 8 q)) :
    taps9 W0 W1 W2 W3 W4 W5 W6 W7 W8 q = btap x1 q := by
  obtain ⟨h0, h1, h2, h3, h4, h5, h6, h7, h8⟩ := hW
  funext i j
  fin_cases i <;> fin_cases j
  · exact h0
  · exact h1
  · exact h2
  · exact h3
  · exact h4
  · exact h5
  · exact h6
  · exact h7
  · exact h8

/-! The kernel's masks, and its rows of taps. -/
abbrev C : FVec Ideal S2304x1 .f32 := k0_pay4
abbrev mL : FVec Ideal S2304x1 .f32 := k0_pay7 KernMask.I k0_pay5 k0_pay6 (Scalar.select (Scalar.cmpi .eq 64#32 0#32) 1#32 64#32)
abbrev mR : FVec Ideal S2304x1 .f32 := k0_pay9 KernMask.I C (k0_pay8 KernMask.I C)
abbrev mU : FVec Ideal S2304x1 .f32 := k0_pay15 (k0_pay10 C) (k0_pay11 KernMask.I) (k0_pay12 KernMask.I) k0_pay13 k0_pay14
abbrev mD : FVec Ideal S2304x1 .f32 := k0_pay16 KernMask.I C

/-- They are the backward kernel's. -/
theorem mL_eq : mL = KernConv.mL := rfl
theorem mR_eq : mR = KernConv.mR := rfl
theorem mU_eq : mU = KernConv.mU := rfl
theorem mD_eq : mD = KernConv.mD := rfl

/-- What the body stores, from its nine loads of taps. -/
theorem body_at : k0_pay1 mD (k0_pay20 (k0_pay2 x0) (k0_pay3 x2) mU (k0_pay17 (k0_pay2 x0) mL) (k0_pay18 (k0_pay2 x0) mR)
        (k0_pay19 (k0_pay2 x0) mL W0 W1) W2 W3 W4 W5)
      (k0_pay21 (k0_pay2 x0) (k0_pay17 (k0_pay2 x0) mL) (k0_pay18 (k0_pay2 x0) mR) W6 W7 W8) x3 (ix3 0 t q)
    = (acc (taps9 W0 W1 W2 W3 W4 W5 W6 W7 W8 q) (x2 (ix2 0 q)) (bcol x0 q) t.val
      * sg (acc (taps9 W0 W1 W2 W3 W4 W5 W6 W7 W8 q) (x2 (ix2 0 q)) (bcol x0 q) t.val) * x3 (ix3 0 t q) : EReal) := by
  have hA : accT (k0_pay2 x0) (k0_pay3 x2) W0 W1 W2 W3 W4 W5 W6 W7 W8 (ix2 t q)
      = acc (taps9 W0 W1 W2 W3 W4 W5 W6 W7 W8 q) (x2 (ix2 0 q)) (bcol x0 q) t.val := by
    rw [KernConv.acc_at, col_eq]
    have hB : k0_pay3 x2 (ix2 t q) = x2 (ix2 0 q) := by pointwise [k0_pay3]
    rw [hB]
    rfl
  rw [← hA, mL_eq, mR_eq, mU_eq, mD_eq]
  exact stored t q (accT (k0_pay2 x0) (k0_pay3 x2) W0 W1 W2 W3 W4 W5 W6 W7 W8) x3

/-- The gated convolution of a block. -/
def gated (w : Fin 3 → Fin 3 → EReal) (b : EReal) (x : ℕ → EReal) (u : EReal) (t : ℕ) : EReal :=
  acc w b x t * sg (acc w b x t) * u

/-- What a grid point leaves. -/
theorem out_at : out0_4 x0 x1 x2 x3 (ix3 0 t q) = gated (btap x1 q) (x2 (ix2 0 q)) (bcol x0 q) (x3 (ix3 0 t q)) t.val := by
  unfold out0_4 k0_pay27 k0_pay26 k0_pay25 k0_pay24 k0_pay23 k0_pay22
  rw [View.ld_unit_lit _ x0 (by decide), View.ld_unit_lit _ x2 (by decide), View.ld_unit_lit _ x3 (by decide)]
  rw [View.canon_cons_unit_lit _ _ _ (by decide)]
  refine (body_at _ _ _ _ _ _ _ _ _ t q x0 x2 x3).trans
    (congrArg (fun w => gated w (x2 (ix2 0 q)) (bcol x0 q) (x3 (ix3 0 t q)) t.val) (taps_eq _ _ _ _ _ _ _ _ _ q x1 ?_))
  refine ⟨?_, ?_, ?_, ?_, ?_, ?_, ?_, ?_, ?_⟩ <;> pointwise

end point

variable (m : (ℓ : Loc nD τ sig) → Buf (Elt Ideal) ℓ) (c : Dev nD)

/-- Every window's block index at a grid point. -/
theorem idx : ∀ t : Fin cfg0.N, win0_0.index t = ![t.val / 11, 0, t.val % 11] ∧ win0_1.index t = ![0, t.val % 11]
    ∧ win0_2.index t = ![0, t.val % 11] ∧ win0_3.index t = ![t.val / 11, 0, t.val % 11]
    ∧ win0_4.index t = ![t.val / 11, 0, t.val % 11] :=
  (by decide +kernel : ∀ t : Fin grid0.N, _)

theorem lt_points (t : Fin cfg0.N) : t.val < 44 := lt_of_lt_of_eq t.isLt (show cfg0.N = 44 from N_0)

/-- The sample of a grid point. -/
def sm (t : Fin cfg0.N) : Fin 4 := ⟨t.val / 11, by have := lt_points t; omega⟩

/-- The channel of a grid point's block. -/
def ch (t : Fin cfg0.N) (q : Fin 256) : Fin 2816 := ⟨t.val % 11 * 256 + q.val, by have := lt_points t; omega⟩

/-- The convolution's input, its taps, its bias, and the branch that gates it. -/
abbrev a0 : FVec Ideal S4x2304x2816 .f32 := m ((c : Thread nD τ).loc main_arg0)
abbrev a1 : FVec Ideal S3x3x2816 .f32 := m ((c : Thread nD τ).loc main_arg1)
abbrev a2 : FVec Ideal S2816 .f32 := m ((c : Thread nD τ).loc main_arg2)
abbrev a3 : FVec Ideal S4x2304x2816 .f32 := m ((c : Thread nD τ).loc main_arg3)

theorem read0 (t : Fin cfg0.N) (s : Fin 2304) (q : Fin 256) :
    iblk m c 0 t (ix3 0 s q) = m ((c : Thread nD τ).loc main_arg0) (ix3 (sm t) s (ch t q)) := by
  unfold sm ch
  blk_ext [iblk, V, idx t]

theorem read3 (t : Fin cfg0.N) (s : Fin 2304) (q : Fin 256) :
    iblk m c 3 t (ix3 0 s q) = m ((c : Thread nD τ).loc main_arg3) (ix3 (sm t) s (ch t q)) := by
  unfold sm ch
  blk_ext [iblk, V, idx t]

theorem read1 (t : Fin cfg0.N) (r : Fin 9) (q : Fin 256) :
    iblk m c 1 t (ix2 r q) = m ((c : Thread nD τ).loc main_arg1) (ix3 ⟨r.val / 3, by omega⟩ ⟨r.val % 3, by omega⟩ (ch t q)) := by
  blk_simp [iblk, idx t]
  entry_read
  pointwise
  unfold ch
  blk_ext [idx t]

theorem read2 (t : Fin cfg0.N) (q : Fin 256) :
    iblk m c 2 t (ix2 0 q) = m ((c : Thread nD τ).loc main_arg2) (ix1 (ch t q)) := by
  blk_simp [iblk, idx t]
  entry_read
  pointwise
  unfold ch
  blk_ext [idx t]

theorem col0 (t : Fin cfg0.N) (q : Fin 256) : bcol (iblk m c 0 t) q = col (a0 m c) (sm t) (ch t q) := by
  funext s
  unfold bcol col
  split_ifs with h
  · exact read0 m c t ⟨s, h⟩ q
  · rfl

theorem tap1 (t : Fin cfg0.N) (q : Fin 256) : btap (iblk m c 1 t) q = taps (a1 m c) (ch t q) := by
  funext i j
  unfold btap taps
  refine (read1 m c t ⟨3 * i.val + j.val, by omega⟩ q).trans ?_
  have hi : (⟨(3 * i.val + j.val) / 3, by omega⟩ : Fin 3) = i := Fin.ext (by simp only; omega)
  have hj : (⟨(3 * i.val + j.val) % 3, by omega⟩ : Fin 3) = j := Fin.ext (by simp only; omega)
  simp only [hi, hj]

/-- An index of a block of one sample. -/
theorem blk_idx (y : S1x2304x256.Idx) : ∃ (s : Fin 2304) (q : Fin 256), y = ix3 0 s q := by
  refine ⟨y 1, y 2, ?_⟩
  rw [eq_ix3 y]
  have h : y 0 = (0 : Fin 1) := Fin.ext (by have := (y 0).isLt; simp at this; simpa using this)
  rw [h]
  rfl

/-- The result. -/
def F4 : FVec Ideal S4x2304x2816 .bf16 := fun j =>
  gated (taps (a1 m c) (j 2)) (a2 m c (ix1 (j 2))) (col (a0 m c) (j 0) (j 2)) (a3 m c (ix3 (j 0) (j 1) (j 2))) (j 1).val

/-- The result, whole. -/
theorem final4 : (dats m 0 c).arrAt 4 cfg0.N = F4 m c := by
  refine (dats m 0 c).arrAt_eq_of_covers 4 _ (by decide +kernel) fun t _ y => ?_
  blk_simp
  rw [after0_4]
  obtain ⟨s, q, rfl⟩ := blk_idx y
  have e : (win0_4.blk t).view.emb (ix3 0 s q) = ix3 (sm t) s (ch t q) := by
    unfold sm ch
    blk_ext [idx t]
  rw [e]
  refine (out_at s q _ _ _ _).trans ?_
  rw [tap1, col0, read2, read3]
  rfl

/-- The result is the reference's. -/
theorem eq4 : F4 m c = Cert.FfnConvRefIdeal.Read.val_main_v53 (F := Ideal) (a0 m c) (a1 m c) (a2 m c) (a3 m c) := by
  funext j
  obtain ⟨b, p, k, rfl⟩ : ∃ (b : Fin 4) (p : Fin 2304) (k : Fin 2816), j = ix3 b p k := ⟨j 0, j 1, j 2, eq_ix3 j⟩
  rw [Cert.FfnConvRef.v53]
  rfl

end Cert.FfnConvIdeal.Value

namespace Cert.Proof

open Idealize.ShloMosaic Idealize.ShloMosaic.TcCoe Idealize.SL.Sem
open Cert.FfnConvIdeal.Value (F4 final4 eq4)

/-- The reference ends with its arguments untouched and nothing in flight. -/
theorem quiescent_FfnConvRef : Cert.quiescent_FfnConvRefIdeal := fun m ρ _ =>
  (θ_run Cert.FfnConvRefIdeal.defs _ _).mono (fun r h => ⟨fun c => (h c).2, sem_eq_zero_of_no_sems (by decide) r.2⟩)
    (Cert.FfnConvRefIdeal.Value.run (F := Ideal) m ρ)

/-- The kernel's result is the reference's. -/
theorem algebraic_FfnConv : Cert.algebraic_FfnConvIdeal_FfnConvRefIdeal := by
  intro m ρ m' ρ' _ hagree
  refine ⟨F4 m, ?_, ?_⟩
  · refine (θ_run Cert.FfnConvIdeal.defs _ _).mono (fun r h c => ?_) (Cert.FfnConvIdeal.Value.run_blocks (F := Ideal) m ρ)
    obtain ⟨e, hk⟩ := h c
    exact ⟨e.trans (final4 m c), hk⟩
  · refine (θ_run Cert.FfnConvRefIdeal.defs _ _).mono (fun r h c => ?_) (Cert.FfnConvRefIdeal.Value.run (F := Ideal) m' ρ')
    obtain ⟨e, hk⟩ := h c
    obtain ⟨g0, g1, g2, g3⟩ := hagree c
    refine ⟨?_, hk⟩
    refine e.trans ((Cert.FfnConvRefIdeal.Read.val_main_v53_eq _ c).trans ?_)
    exact (congr (congr (congrArg₂ _ g0 g1) g2) g3).trans (eq4 m c).symm

end Cert.Proof

end
-- ==== Proof.EvDtValue.lean ====
module

public import proofs.«01_k».proof.Defs
public import proofs.«01_k».proof.Proof.Products
public import proofs.«01_k».proof.Proof.Gen.EvDt
public import proofs.«01_k».proof.Proof.Gen.EvDt.Skeleton
public import proofs.«01_k».proof.Proof.Gen.EvDt.Launch
public import proofs.«01_k».proof.Proof.Gen.EvDt.Points
public import proofs.«01_k».proof.Proof.Gen.EvDt.Frame
public import proofs.«01_k».proof.Proof.Gen.EvDtIdeal.Value
public import proofs.«01_k».proof.Proof.Gen.EvDtRefIdeal.Read
public import Idealize.ShloMosaic.Lib.Pipeline.ValueKit
public import Idealize.ShloMosaic.Lib.Claim

@[expose] public section

set_option maxRecDepth 16384

noncomputable section

/-!
# The even layers' projection of the time-step branch, padded to width 128

The kernel multiplies a block of rows by a block of columns at each grid point; the blocks together are the product.
-/

namespace Cert.EvDtIdeal.Value

open Cert.EvDtIdeal Cert.EvDtIdeal.Gen Idealize.ShloMosaic Idealize.ShloMosaic.TcCoe Idealize.SL.Sem
open Cert.EvDtRefIdeal.Read (val_main_v0 val_main_v1 val_main_v2 val_main_v3)
open Cert.Products (sam pos)

variable (m : (ℓ : Loc nD τ sig) → Buf (Elt Ideal) ℓ) (c : Dev nD)

/-- Every window's block index at a grid point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem lt_points (t : Fin cfg0.N) : t.val < 9 := lt_of_lt_of_eq t.isLt (show cfg0.N = 9 from N_0)

/-- A grid point's row of the product. -/
def row (t : Fin cfg0.N) (i : Fin 1024) : Fin 9216 := ⟨t.val / 1 * 1024 + i.val, by have := lt_points t; omega⟩

/-- A grid point's column of the product. -/
def clm (t : Fin cfg0.N) (j : Fin 128) : Fin 128 := ⟨t.val % 1 * 128 + j.val, by omega⟩

/-- One block of the product. -/
theorem block (x0 : Vec Ideal S1024x1024 .bf16) (x1 : Vec Ideal S1024x128 .bf16) (i : Fin 1024) (j : Fin 128) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 1024) :
    iblk m c 0 t (ix2 i k) = m ((c : Thread nD τ).loc main_arg0) (ix3 (sam (row t i)) (pos (row t i)) k) := by
  blk_simp [iblk, idx t]
  entry_read
  pointwise
  unfold sam pos row
  blk_ext [idx t]

theorem read1 (t : Fin cfg0.N) (k : Fin 1024) (j : Fin 128) :
    iblk m c 1 t (ix2 k j) = m ((c : Thread nD τ).loc main_arg1) (ix2 k (clm t j)) := by
  unfold clm
  blk_ext [iblk, V, idx t]

/-- The reference at a row and a column. -/
theorem ref_at (x0 : FVec Ideal S4x2304x1024 .bf16) (x1 : FVec Ideal S1024x128 .bf16) (r : Fin 9216) (n : Fin 128) :
    val_main_v3 (F := Ideal) x0 x1 (ix2 r n) = ((∑ k : Fin 1024, x0 (ix3 (sam r) (pos r) k) * x1 (ix2 k n)) : EReal) := by
  unfold sam pos
  pointwise [val_main_v0, val_main_v1, val_main_v2, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 128), y = ix2 i j := ⟨y 0, y 1, eq_ix2 y⟩
  have e : (win0_2.blk t).view.emb (ix2 i j) = ix2 (row t i) (clm t j) := by
    unfold row clm
    blk_ext [idx t]
  rw [e, block, ref_at]
  show (_ : EReal) = _
  refine Finset.sum_congr rfl fun k _ => ?_
  exact Ideal.mul_congr (read0 m c t i k) (read1 m c t k j)

end Cert.EvDtIdeal.Value

namespace Cert.Proof

open Idealize.ShloMosaic Idealize.SL.Sem

theorem quiescent_EvDtRef : Cert.quiescent_EvDtRefIdeal := fun m ρ _ =>
  (θ_run Cert.EvDtRefIdeal.defs _ _).mono (fun r h => ⟨fun c => (h c).2, sem_eq_zero_of_no_sems (by decide) r.2⟩)
    (Cert.EvDtRefIdeal.Value.run (F := Ideal) m ρ)

/-- The kernel's result is the reference's. -/
theorem algebraic_EvDt : Cert.algebraic_EvDtIdeal_EvDtRefIdeal := by
  intro m ρ m' ρ' _ hagree
  refine ⟨fun c => (Cert.EvDtIdeal.Gen.dats (F := Ideal) m 0 c).arrAt 2 Cert.EvDtIdeal.cfg0.N,
    Cert.EvDtIdeal.Value.run_blocks (F := Ideal) m ρ, ?_⟩
  refine (θ_run Cert.EvDtRefIdeal.defs _ _).mono (fun r h c => ⟨?_, (h c).2⟩) (Cert.EvDtRefIdeal.Value.run (F := Ideal) m' ρ')
  obtain ⟨g0, g1⟩ := hagree c
  refine (h c).1.trans ((Cert.EvDtRefIdeal.Read.val_main_v3_eq _ _).trans ?_)
  rw [g0, g1]
  exact (Cert.EvDtIdeal.Value.final m c).symm

end Cert.Proof

end
-- ==== Proof.EvDwDtValue.lean ====
module

public import proofs.«01_k».proof.Defs
public import proofs.«01_k».proof.Proof.Products
public import proofs.«01_k».proof.Proof.Gen.EvDwDt
public import proofs.«01_k».proof.Proof.Gen.EvDwDt.Skeleton
public import proofs.«01_k».proof.Proof.Gen.EvDwDt.Launch
public import proofs.«01_k».proof.Proof.Gen.EvDwDt.Points
public import proofs.«01_k».proof.Proof.Gen.EvDwDt.Frame
public import proofs.«01_k».proof.Proof.Gen.EvDwDtIdeal.Value
public import proofs.«01_k».proof.Proof.Gen.EvDwDtRefIdeal.Read
public import Idealize.ShloMosaic.Lib.Pipeline.ValueKit
public import Idealize.ShloMosaic.Lib.Claim

@[expose] public section

set_option maxRecDepth 16384

noncomputable section

/-!
# The gradient of the even layers' time-step weights, padded to width 128

At each grid point one sample's rows are multiplied and added to a block of the gradient; a block's first sample sets it.
-/

namespace Cert.EvDwDtIdeal.Value

open Cert.EvDwDtIdeal Cert.EvDwDtIdeal.Gen Idealize.ShloMosaic Idealize.ShloMosaic.TcCoe Idealize.SL.Sem
open Cert.EvDwDtRefIdeal.Read (val_main_cst val_main_v0 val_main_v1 val_main_v2 val_main_v3 val_main_v4)
open Cert.Products (sam pos)

variable (m : (ℓ : Loc nD τ sig) → Buf (Elt Ideal) ℓ) (c : Dev nD)

/-- Every window's block index at a grid point. -/
theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem lt_points (t : Fin cfg0.N) : t.val < 4 := lt_of_lt_of_eq t.isLt (show cfg0.N = 4 from N_0)

/-- A grid point's sample. -/
def smp (t : Fin cfg0.N) : Fin 4 := ⟨t.val % 4, by omega⟩

/-- A grid point's row of the product. -/
def row (t : Fin cfg0.N) (i : Fin 1024) : Fin 1024 := ⟨t.val / 4 * 1024 + i.val, by have := lt_points t; omega⟩

/-- A grid point's column of the product. -/
def clm (t : Fin cfg0.N) (j : Fin 128) : Fin 128 := ⟨t.val / 4 % 1 * 128 + j.val, by omega⟩

section point

variable (t : Fin cfg0.N) (x0 : Vec Ideal S2304x1024 .bf16) (x1 : Vec Ideal S2304x128 .f32) (o : Vec Ideal S1024x128 .f32)

/-- What a sample adds to an entry of the product. -/
def part (x0 : Vec Ideal S2304x1024 .bf16) (x1 : Vec Ideal S2304x128 .f32) (y : S1024x128.Idx) : EReal :=
  ∑ s : Fin 2304, x0 (ix2 s (y 0)) * x1 (ix2 s (y 1))

/-- The first sample of a run leaves its own part. -/
theorem first (hc0 : cond0_0 (grid0.coords t)) (hc1 : ¬ cond0_1 (grid0.coords t)) (y : S1024x128.Idx) :
    out0_A_2 c (grid0.coords t) (ms0_0 t) (hs0_0 t) (ms0_1 t) (hs0_1 t) (ms0_2 t) (hs0_2 t) hc0 hc1 x0 x1 y = part x0 x1 y := by
  unfold out0_A_2
  rw [View.read_writes_eq_canon VO0_2 VO0_2.junk _ (cover0_A_2 c _ _ _ _ _ _ _ hc0 hc1 x0 x1)]
  unfold kernelRun0_A; dsimp only; sl_unfold_words
  simp only [View.readAt_eq_ld, (hs0_0 t).read_unread, (hs0_1 t).read_unread]
  clear hc0 hc1
  rw [View.ld_unit_lit _ x0 (by decide), View.ld_unit_lit _ x1 (by decide), View.canon_cons_unit_lit _ _ _ (by decide)]
  obtain ⟨i, j, rfl⟩ : ∃ (i : Fin 1024) (j : Fin 128), y = ix2 i j := ⟨y 0, y 1, eq_ix2 y⟩
  unfold part
  pointwise [k0_pay1]

/-- A later sample adds its part to what is there. -/
theorem later (hc0 : ¬ cond0_0 (grid0.coords t)) (hc1 : cond0_1 (grid0.coords t)) (y : S1024x128.Idx) :
    out0_B_2 c (grid0.coords t) (ms0_0 t) (hs0_0 t) (ms0_1 t) (hs0_1 t) (ms0_2 t) (hs0_2 t) hc0 hc1 x0 x1 o y = (o y + part x0 x1 y : EReal) := by
  unfold out0_B_2
  rw [View.read_writes_eq_canon VO0_2 VO0_2.junk _ (cover0_B_2 c _ _ _ _ _ _ _ hc0 hc1 x0 x1 o)]
  unfold kernelRun0_B; dsimp only; sl_unfold_words
  simp only [View.readAt_eq_ld, (hs0_0 t).read_unread, (hs0_1 t).read_unread, (hs0_2 t).read_unread]
  clear hc0 hc1
  rw [View.ld_unit_lit _ x0 (by decide), View.ld_unit_lit _ x1 (by decide), View.ld_unit_lit _ o (by decide),
    View.canon_cons_unit_lit _ _ _ (by decide)]
  obtain ⟨i, j, rfl⟩ : ∃ (i : Fin 1024) (j : Fin 128), y = ix2 i j := ⟨y 0, y 1, eq_ix2 y⟩
  unfold part
  pointwise [k0_pay1, k0_pay2]

end point

theorem read0 (t : Fin cfg0.N) (s : Fin 2304) (i : Fin 1024) :
    iblk m c 0 t (ix2 s i) = m ((c : Thread nD τ).loc main_arg0) (ix3 (smp t) s (row t i)) := by
  blk_simp [iblk, idx t]
  entry_read
  pointwise
  unfold smp row
  blk_ext [idx t]

theorem read1 (t : Fin cfg0.N) (s : Fin 2304) (j : Fin 128) :
    iblk m c 1 t (ix2 s j) = m ((c : Thread nD τ).loc main_arg1) (ix3 (smp t) s (clm t j)) := by
  blk_simp [iblk, idx t]
  entry_read
  pointwise
  unfold smp clm
  blk_ext [idx t]

/-- The point at sample `b` in the run of `t`: the same block. -/
theorem smp_run (t t' : Fin cfg0.N) (b : Fin 4) (h : t'.val = 4 * (t.val / 4) + b.val) : smp t' = b :=
  Fin.ext (by show t'.val % 4 = b.val; omega)

theorem row_run (t t' : Fin cfg0.N) (b : Fin 4) (h : t'.val = 4 * (t.val / 4) + b.val) (i : Fin 1024) :
    row t' i = row t i := Fin.ext (by show t'.val / 4 * 1024 + i.val = t.val / 4 * 1024 + i.val; omega)

theorem clm_run (t t' : Fin cfg0.N) (b : Fin 4) (h : t'.val = 4 * (t.val / 4) + b.val) (j : Fin 128) :
    clm t' j = clm t j := Fin.ext (by show t'.val / 4 % 1 * 128 + j.val = t.val / 4 % 1 * 128 + j.val; omega)

/-- The reference at a row and a column. -/
theorem ref_at (x0 : FVec Ideal S4x2304x1024 .bf16) (x1 : FVec Ideal S4x2304x128 .f32) (r : Fin 1024) (n : Fin 128) :
    val_main_v4 (F := Ideal) x0 x1 (ix2 r n) = (∑ b : Fin 4, ∑ s : Fin 2304, x0 (ix3 b s r) * x1 (ix3 b s n) : EReal) := by
  pointwise [val_main_cst, val_main_v0, val_main_v1, val_main_v2, val_main_v3, val_main_v4]
  exact Finset.sum_congr rfl fun b _ => Finset.sum_congr rfl fun s _ => mul_comm _ _

/-- The whole product: each block's four samples added up. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y)
    (fun t h j => by rw [outsAt0_A m c t h (by have := lt_points t; omega), first, zero_add])
    (fun t h j => by rw [outsAt0_B m c t h (by have := lt_points t; omega), later])
    t ((flush0_2 t).mp hf) _, zero_add]
  obtain ⟨i, j, rfl⟩ : ∃ (i : Fin 1024) (j : Fin 128), y = ix2 i j := ⟨y 0, y 1, eq_ix2 y⟩
  have e : (win0_2.blk t).view.emb (ix2 i j) = ix2 (row t i) (clm t j) := by
    unfold row clm
    blk_ext [idx t]
  rw [e, ref_at]
  refine Fin.sum_fin_congr fun b => ?_
  show (_ : EReal) = _
  refine Finset.sum_congr rfl fun s _ => ?_
  refine Ideal.mul_congr ((read0 m c _ s i).trans ?_) ((read1 m c _ s j).trans ?_)
  · rw [smp_run t _ b rfl, row_run t _ b rfl i]
  · rw [smp_run t _ b rfl, clm_run t _ b rfl j]

end Cert.EvDwDtIdeal.Value

namespace Cert.Proof

open Idealize.ShloMosaic Idealize.SL.Sem

theorem quiescent_EvDwDtRef : Cert.quiescent_EvDwDtRefIdeal := fun m ρ _ =>
  (θ_run Cert.EvDwDtRefIdeal.defs _ _).mono (fun r h => ⟨fun c => (h c).2, sem_eq_zero_of_no_sems (by decide) r.2⟩)
    (Cert.EvDwDtRefIdeal.Value.run (F := Ideal) m ρ)

/-- The kernel's result is the reference's. -/
theorem algebraic_EvDwDt : Cert.algebraic_EvDwDtIdeal_EvDwDtRefIdeal := by
  intro m ρ m' ρ' _ hagree
  refine ⟨fun c => (Cert.EvDwDtIdeal.Gen.dats (F := Ideal) m 0 c).arrAt 2 Cert.EvDwDtIdeal.cfg0.N,
    Cert.EvDwDtIdeal.Value.run_blocks (F := Ideal) m ρ, ?_⟩
  refine (θ_run Cert.EvDwDtRefIdeal.defs _ _).mono (fun r h c => ⟨?_, (h c).2⟩) (Cert.EvDwDtRefIdeal.Value.run (F := Ideal) m' ρ')
  obtain ⟨g0, g1⟩ := hagree c
  refine (h c).1.trans ((Cert.EvDwDtRefIdeal.Read.val_main_v4_eq _ _).trans ?_)
  rw [g0, g1]
  exact (Cert.EvDwDtIdeal.Value.final m c).symm

end Cert.Proof

end
-- ==== Proof.ModValue.lean ====
module

public import proofs.«01_k».proof.Defs
public import proofs.«01_k».proof.Proof.Products
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal.Value
public import proofs.«01_k».proof.Proof.Gen.ModRefIdeal.Read
public import Idealize.ShloMosaic.Lib.Pipeline.ValueKit
public import Idealize.ShloMosaic.Lib.Claim

@[expose] public section

set_option maxRecDepth 16384

noncomputable section

/-!
# The modulation's projection

The rows of all samples and the context's row times this device's columns of the modulation's weights, one block of
columns at each grid point.
-/

namespace Cert.ModIdeal.Value

open Cert.ModIdeal Cert.ModIdeal.Gen Idealize.ShloMosaic Idealize.ShloMosaic.TcCoe Idealize.SL.Sem
open Cert.ModRefIdeal.Read (val_main_v0 val_main_v1)

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

theorem lt_points (t : Fin cfg0.N) : t.val < 3 := lt_of_lt_of_eq t.isLt (show cfg0.N = 3 from N_0)

/-- A grid point's column of the product. -/
def clm (t : Fin cfg0.N) (j : Fin 1024) : Fin 3072 := ⟨t.val * 1024 + j.val, by have := lt_points t; omega⟩

/-- One block of the product. -/
theorem block (x0 : Vec Ideal S48x1024 .f32) (x1 : Vec Ideal S1024x1024 .bf16) (i : Fin 48) (j : Fin 1024) :
    out0_2 x0 x1 (ix2 i j) = ((∑ k : Fin 1024, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 48) (k : Fin 1024) :
    iblk m c 0 t (ix2 i k) = m ((c : Thread nD τ).loc main_arg0) (ix2 i k) := by
  blk_ext [iblk, V, idx t]

theorem read1 (t : Fin cfg0.N) (k : Fin 1024) (j : Fin 1024) :
    iblk m c 1 t (ix2 k j) = m ((c : Thread nD τ).loc main_arg1) (ix2 k (clm t j)) := by
  unfold clm
  blk_ext [iblk, V, idx t]

/-- The reference at a row and a column. -/
theorem ref_at (x0 : FVec Ideal S48x1024 .f32) (x1 : FVec Ideal S1024x3072 .bf16) (i : Fin 48) (n : Fin 3072) :
    val_main_v1 (F := Ideal) x0 x1 (ix2 i n) = ((∑ k : Fin 1024, x0 (ix2 i k) * x1 (ix2 k n)) : EReal) := by
  pointwise [val_main_v0, val_main_v1]

/-- The whole product. -/
theorem final : (dats m 0 c).arrAt 2 cfg0.N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 48) (j : Fin 1024), y = ix2 i j := ⟨y 0, y 1, eq_ix2 y⟩
  have e : (win0_2.blk t).view.emb (ix2 i j) = ix2 i (clm t j) := by
    unfold clm
    blk_ext [idx t]
  rw [e, block, ref_at]
  show (_ : EReal) = _
  refine Finset.sum_congr rfl fun k _ => ?_
  exact Ideal.mul_congr (read0 m c t i k) (read1 m c t k j)

end Cert.ModIdeal.Value

namespace Cert.Proof

open Idealize.ShloMosaic Idealize.SL.Sem

theorem quiescent_ModRef : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The kernel's result is the reference's. -/
theorem algebraic_Mod : Cert.algebraic_ModIdeal_ModRefIdeal := by
  intro m ρ m' ρ' _ hagree
  refine ⟨fun c => (Cert.ModIdeal.Gen.dats (F := Ideal) m 0 c).arrAt 2 Cert.ModIdeal.cfg0.N,
    Cert.ModIdeal.Value.run_blocks (F := Ideal) m ρ, ?_⟩
  refine (θ_run Cert.ModRefIdeal.defs _ _).mono (fun r h c => ⟨?_, (h c).2⟩) (Cert.ModRefIdeal.Value.run (F := Ideal) m' ρ')
  obtain ⟨g0, g1⟩ := hagree c
  refine (h c).1.trans ((Cert.ModRefIdeal.Read.val_main_v1_eq _ _).trans ?_)
  rw [g0, g1]
  exact (Cert.ModIdeal.Value.final m c).symm

end Cert.Proof

end
-- ==== Proof.ModDwValue.lean ====
module

public import proofs.«01_k».proof.Defs
public import proofs.«01_k».proof.Proof.Products
public import proofs.«01_k».proof.Proof.Gen.ModDw
public import proofs.«01_k».proof.Proof.Gen.ModDw.Skeleton
public import proofs.«01_k».proof.Proof.Gen.ModDw.Launch
public import proofs.«01_k».proof.Proof.Gen.ModDw.Points
public import proofs.«01_k».proof.Proof.Gen.ModDw.Frame
public import proofs.«01_k».proof.Proof.Gen.ModDwIdeal.Value
public import proofs.«01_k».proof.Proof.Gen.ModDwRefIdeal.Read
public import Idealize.ShloMosaic.Lib.Pipeline.ValueKit
public import Idealize.ShloMosaic.Lib.Claim

@[expose] public section

set_option maxRecDepth 16384

noncomputable section

/-!
# The gradient of the modulation's weights

The transposed rows times the gradient of the projection, one block of columns at each grid point.
-/

namespace Cert.ModDwIdeal.Value

open Cert.ModDwIdeal Cert.ModDwIdeal.Gen Idealize.ShloMosaic Idealize.ShloMosaic.TcCoe Idealize.SL.Sem
open Cert.ModDwRefIdeal.Read (val_main_v2 val_main_v3)

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

theorem lt_points (t : Fin cfg0.N) : t.val < 3 := lt_of_lt_of_eq t.isLt (show cfg0.N = 3 from N_0)

/-- A grid point's column of the product. -/
def clm (t : Fin cfg0.N) (j : Fin 1024) : Fin 3072 := ⟨t.val * 1024 + j.val, by have := lt_points t; omega⟩

/-- One block of the product. -/
theorem block (x0 : Vec Ideal S1024x48 .f32) (x1 : Vec Ideal S48x1024 .f32) (i : Fin 1024) (j : Fin 1024) :
    out0_2 x0 x1 (ix2 i j) = ((∑ k : Fin 48, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 1024) (k : Fin 48) :
    iblk m c 0 t (ix2 i k) = m ((c : Thread nD τ).loc main_arg0) (ix2 k i) := by
  blk_simp [iblk, idx t]
  entry_read
  pointwise
  blk_ext [idx t]

theorem read1 (t : Fin cfg0.N) (k : Fin 48) (j : Fin 1024) :
    iblk m c 1 t (ix2 k j) = m ((c : Thread nD τ).loc main_arg1) (ix2 k (clm t j)) := by
  unfold clm
  blk_ext [iblk, V, idx t]

/-- The reference at a row and a column. -/
theorem ref_at (x0 : FVec Ideal S48x1024 .f32) (x1 : FVec Ideal S48x3072 .f32) (i : Fin 1024) (n : Fin 3072) :
    val_main_v3 (F := Ideal) x0 x1 (ix2 i n) = ((∑ k : Fin 48, x0 (ix2 k i) * x1 (ix2 k n)) : EReal) := by
  pointwise [val_main_v2, val_main_v3]
  exact Finset.sum_congr rfl fun k _ => mul_comm _ _

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 1024) (j : Fin 1024), y = ix2 i j := ⟨y 0, y 1, eq_ix2 y⟩
  have e : (win0_2.blk t).view.emb (ix2 i j) = ix2 i (clm t j) := by
    unfold clm
    blk_ext [idx t]
  rw [e, block, ref_at]
  show (_ : EReal) = _
  refine Finset.sum_congr rfl fun k _ => ?_
  exact Ideal.mul_congr (read0 m c t i k) (read1 m c t k j)

end Cert.ModDwIdeal.Value

namespace Cert.Proof

open Idealize.ShloMosaic Idealize.SL.Sem

theorem quiescent_ModDwRef : Cert.quiescent_ModDwRefIdeal := fun m ρ _ =>
  (θ_run Cert.ModDwRefIdeal.defs _ _).mono (fun r h => ⟨fun c => (h c).2, sem_eq_zero_of_no_sems (by decide) r.2⟩)
    (Cert.ModDwRefIdeal.Value.run (F := Ideal) m ρ)

/-- The kernel's result is the reference's. -/
theorem algebraic_ModDw : Cert.algebraic_ModDwIdeal_ModDwRefIdeal := by
  intro m ρ m' ρ' _ hagree
  refine ⟨fun c => (Cert.ModDwIdeal.Gen.dats (F := Ideal) m 0 c).arrAt 2 Cert.ModDwIdeal.cfg0.N,
    Cert.ModDwIdeal.Value.run_blocks (F := Ideal) m ρ, ?_⟩
  refine (θ_run Cert.ModDwRefIdeal.defs _ _).mono (fun r h c => ⟨?_, (h c).2⟩) (Cert.ModDwRefIdeal.Value.run (F := Ideal) m' ρ')
  obtain ⟨g0, g1⟩ := hagree c
  refine (h c).1.trans ((Cert.ModDwRefIdeal.Read.val_main_v3_eq _ _).trans ?_)
  rw [g0, g1]
  exact (Cert.ModDwIdeal.Value.final m c).symm

end Cert.Proof

end
-- ==== Proof.ModDctxValue.lean ====
module

public import proofs.«01_k».proof.Defs
public import proofs.«01_k».proof.Proof.Products
public import proofs.«01_k».proof.Proof.Gen.ModDctx
public import proofs.«01_k».proof.Proof.Gen.ModDctx.Skeleton
public import proofs.«01_k».proof.Proof.Gen.ModDctx.Launch
public import proofs.«01_k».proof.Proof.Gen.ModDctx.Points
public import proofs.«01_k».proof.Proof.Gen.ModDctx.Frame
public import proofs.«01_k».proof.Proof.Gen.ModDctxIdeal.Value
public import proofs.«01_k».proof.Proof.Gen.ModDctxRefIdeal.Read
public import Idealize.ShloMosaic.Lib.Pipeline.ValueKit
public import Idealize.ShloMosaic.Lib.Claim

@[expose] public section

set_option maxRecDepth 16384

noncomputable section

/-!
# The gradient of the modulation's context row

The gradient of the projection times the transposed weights, in one block.
-/

namespace Cert.ModDctxIdeal.Value

open Cert.ModDctxIdeal Cert.ModDctxIdeal.Gen Idealize.ShloMosaic Idealize.ShloMosaic.TcCoe Idealize.SL.Sem
open Cert.ModDctxRefIdeal.Read (val_main_v1 val_main_v3)

variable (m : (ℓ : Loc nD τ sig) → Buf (Elt Ideal) ℓ) (c : Dev nD)

/-- Every window's block index at a grid point. -/
theorem idx : ∀ t : Fin cfg0.N, win0_0.index t = ![0, 0] ∧ win0_1.index t = ![0, t.val] ∧ win0_2.index t = ![0, t.val] :=
  (by decide +kernel : ∀ t : Fin grid0.N, _)

theorem lt_points (t : Fin cfg0.N) : t.val < 1 := lt_of_lt_of_eq t.isLt (show cfg0.N = 1 from N_0)

/-- A grid point's column of the product. -/
def clm (t : Fin cfg0.N) (j : Fin 1024) : Fin 1024 := ⟨t.val * 1024 + j.val, by have := lt_points t; omega⟩

/-- One block of the product. -/
theorem block (x0 : Vec Ideal S8x3072 .f32) (x1 : Vec Ideal S3072x1024 .bf16) (i : Fin 8) (j : Fin 1024) :
    out0_2 x0 x1 (ix2 i j) = ((∑ k : Fin 3072, x0 (ix2 i k) * x1 (ix2 k j)) : EReal) := by
  unfold out0_2
  rw [View.canon_cons_unit_lit _ _ _ (by decide), View.ld_unit_lit _ x0 (by decide), View.ld_unit_lit _ x1 (by decide)]
  pointwise [k0_pay1]

theorem read0 (t : Fin cfg0.N) (i : Fin 8) (k : Fin 3072) :
    iblk m c 0 t (ix2 i k) = m ((c : Thread nD τ).loc main_arg0) (ix2 i k) := by
  blk_ext [iblk, V, idx t]

theorem read1 (t : Fin cfg0.N) (k : Fin 3072) (j : Fin 1024) :
    iblk m c 1 t (ix2 k j) = m ((c : Thread nD τ).loc main_arg1) (ix2 (clm t j) k) := by
  blk_simp [iblk, idx t]
  entry_read
  pointwise
  unfold clm
  blk_ext [idx t]

/-- The reference at a row and a column. -/
theorem ref_at (x0 : FVec Ideal S8x3072 .f32) (x1 : FVec Ideal S1024x3072 .bf16) (i : Fin 8) (n : Fin 1024) :
    val_main_v3 (F := Ideal) x0 x1 (ix2 i n) = ((∑ k : Fin 3072, x0 (ix2 i k) * x1 (ix2 n k)) : EReal) := by
  pointwise [val_main_v1, val_main_v3]

/-- The whole product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, j, rfl⟩ : ∃ (i : Fin 8) (j : Fin 1024), y = ix2 i j := ⟨y 0, y 1, eq_ix2 y⟩
  have e : (win0_2.blk t).view.emb (ix2 i j) = ix2 i (clm t j) := by
    unfold clm
    blk_ext [idx t]
  rw [e, block, ref_at]
  show (_ : EReal) = _
  refine Finset.sum_congr rfl fun k _ => ?_
  exact Ideal.mul_congr (read0 m c t i k) (read1 m c t k j)

end Cert.ModDctxIdeal.Value

namespace Cert.Proof

open Idealize.ShloMosaic Idealize.SL.Sem

theorem quiescent_ModDctxRef : Cert.quiescent_ModDctxRefIdeal := fun m ρ _ =>
  (θ_run Cert.ModDctxRefIdeal.defs _ _).mono (fun r h => ⟨fun c => (h c).2, sem_eq_zero_of_no_sems (by decide) r.2⟩)
    (Cert.ModDctxRefIdeal.Value.run (F := Ideal) m ρ)

/-- The kernel's result is the reference's. -/
theorem algebraic_ModDctx : Cert.algebraic_ModDctxIdeal_ModDctxRefIdeal := by
  intro m ρ m' ρ' _ hagree
  refine ⟨fun c => (Cert.ModDctxIdeal.Gen.dats (F := Ideal) m 0 c).arrAt 2 Cert.ModDctxIdeal.cfg0.N,
    Cert.ModDctxIdeal.Value.run_blocks (F := Ideal) m ρ, ?_⟩
  refine (θ_run Cert.ModDctxRefIdeal.defs _ _).mono (fun r h c => ⟨?_, (h c).2⟩) (Cert.ModDctxRefIdeal.Value.run (F := Ideal) m' ρ')
  obtain ⟨g0, g1⟩ := hagree c
  refine (h c).1.trans ((Cert.ModDctxRefIdeal.Read.val_main_v3_eq _ _).trans ?_)
  rw [g0, g1]
  exact (Cert.ModDctxIdeal.Value.final m c).symm

end Cert.Proof

end
-- ==== Proof.ModSiluValue.lean ====
module

public import proofs.«01_k».proof.Defs
public import proofs.«01_k».proof.Proof.Gen.ModSilu
public import proofs.«01_k».proof.Proof.Gen.ModSilu.Skeleton
public import proofs.«01_k».proof.Proof.Gen.ModSilu.Launch
public import proofs.«01_k».proof.Proof.Gen.ModSilu.Points
public import proofs.«01_k».proof.Proof.Gen.ModSilu.Frame
public import proofs.«01_k».proof.Proof.Gen.ModSiluIdeal.Value
public import proofs.«01_k».proof.Proof.Gen.ModSiluRefIdeal.Read
public import Idealize.ShloMosaic.Lib.Pipeline.ValueKit
public import Idealize.ShloMosaic.Lib.Claim

@[expose] public section

set_option maxRecDepth 16384

noncomputable section

/-!
# The modulation's silu

The rows of all samples and the context's row, each entry times its logistic, at a single grid point.
-/

namespace Cert.ModSiluIdeal.Value

open Cert.ModSiluIdeal Cert.ModSiluIdeal.Gen Idealize.ShloMosaic Idealize.ShloMosaic.TcCoe Idealize.SL.Sem
open Cert.ModSiluRefIdeal.Read (val_main_v0 val_main_call0_v0 val_main_call0_v1 val_main_call0_cst val_main_call0_v2 val_main_call0_v3 val_main_call0_cst_0 val_main_call0_v4 val_main_call0_v5)

variable (m : (ℓ : Loc nD τ sig) → Buf (Elt Ideal) ℓ) (c : Dev nD)

/-- Every window's block index at a grid point. -/
theorem idx : ∀ t : Fin cfg0.N, win0_0.index t = ![0, 0] ∧ win0_1.index t = ![0, 0] :=
  (by decide +kernel : ∀ t : Fin grid0.N, _)

/-- A row at an entry. -/
theorem block (x0 : Vec Ideal S48x1024 .f32) (i : Fin 48) (j : Fin 1024) :
    out0_1 x0 (ix2 i j) = (x0 (ix2 i j) * Ideal.logistic (x0 (ix2 i j)) : EReal) := by
  unfold out0_1
  rw [View.canon_cons_unit_lit _ _ _ (by decide), View.ld_unit_lit _ x0 (by decide)]
  pointwise [k0_pay1]

theorem read0 (t : Fin cfg0.N) (i : Fin 48) (k : Fin 1024) :
    iblk m c 0 t (ix2 i k) = m ((c : Thread nD τ).loc main_arg0) (ix2 i k) := by
  blk_ext [iblk, V, idx t]

/-- The reference at an entry. -/
theorem ref_at (x0 : FVec Ideal S48x1024 .f32) (i : Fin 48) (j : Fin 1024) :
    val_main_v0 (F := Ideal) x0 (ix2 i j) = (x0 (ix2 i j) * Ideal.logistic (x0 (ix2 i j)) : EReal) := by
  pointwise [val_main_v0, val_main_call0_v0, val_main_call0_v1, val_main_call0_cst, val_main_call0_v2, val_main_call0_v3, val_main_call0_cst_0, val_main_call0_v4, val_main_call0_v5]
  rfl

/-- The whole result. -/
theorem final : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]
  obtain ⟨i, j, rfl⟩ : ∃ (i : Fin 48) (j : Fin 1024), y = ix2 i j := ⟨y 0, y 1, eq_ix2 y⟩
  have e : (win0_1.blk t).view.emb (ix2 i j) = ix2 i j := by
    blk_ext [idx t]
  rw [e, block, ref_at, read0]

end Cert.ModSiluIdeal.Value

namespace Cert.Proof

open Idealize.ShloMosaic Idealize.SL.Sem

theorem quiescent_ModSiluRef : Cert.quiescent_ModSiluRefIdeal := fun m ρ _ =>
  (θ_run Cert.ModSiluRefIdeal.defs _ _).mono (fun r h => ⟨fun c => (h c).2, sem_eq_zero_of_no_sems (by decide) r.2⟩)
    (Cert.ModSiluRefIdeal.Value.run (F := Ideal) m ρ)

/-- The kernel's result is the reference's. -/
theorem algebraic_ModSilu : Cert.algebraic_ModSiluIdeal_ModSiluRefIdeal := by
  intro m ρ m' ρ' _ hagree
  refine ⟨fun c => (Cert.ModSiluIdeal.Gen.dats (F := Ideal) m 0 c).arrAt 1 Cert.ModSiluIdeal.cfg0.N,
    Cert.ModSiluIdeal.Value.run_blocks (F := Ideal) m ρ, ?_⟩
  refine (θ_run Cert.ModSiluRefIdeal.defs _ _).mono (fun r h c => ⟨?_, (h c).2⟩) (Cert.ModSiluRefIdeal.Value.run (F := Ideal) m' ρ')
  have g0 := hagree c
  refine (h c).1.trans ((Cert.ModSiluRefIdeal.Read.val_main_v0_eq _).trans ?_)
  rw [g0]
  exact (Cert.ModSiluIdeal.Value.final m c).symm

end Cert.Proof

end
-- ==== Proof.NormSpec.lean ====
module

public import proofs.«01_k».proof.Defs
public import Idealize.ShloMosaic.Lib.Pipeline.ValueKit
public import Idealize.ShloMosaic.Lib.Claim

@[expose] public section

noncomputable section

/-!
# The modulated norm of a row

A row is divided by the root of its mean square, multiplied by its gains, scaled and shifted. A sample's first 256 rows are its
context, which has its own table of modulations.
-/

namespace Cert.NormSpec

open Idealize.ShloMosaic

/-- A row times the inverse root of its mean square. -/
def nrm (v : Fin 1024 → EReal) (q : Fin 1024) : EReal :=
  v q * Ideal.rsqrt (Ideal.div (∑ x, v x * v x) (Ideal.ofBits FTy.f32 1149239296#32) + Ideal.ofBits FTy.f32 897988541#32)

/-- The modulated norm. -/
def mdl (v g scale shift : Fin 1024 → EReal) (q : Fin 1024) : EReal := nrm v q * g q * (1 + scale q) + shift q

/-- The table of a row: a sample's context has the even one, its image the odd one. -/
def tbl (b : Fin 4) (p : Fin 2304) : Fin 8 := ⟨2 * b.val + min (p.val / 256) 1, by omega⟩

theorem tbl_ctx (b : Fin 4) (p : Fin 2304) (h : p.val < 256) : tbl b p = ⟨2 * b.val, by omega⟩ :=
  Fin.ext (by show 2 * b.val + min (p.val / 256) 1 = 2 * b.val; omega)

theorem tbl_img (b : Fin 4) (p : Fin 2304) (h : ¬ p.val < 256) : tbl b p = ⟨2 * b.val + 1, by omega⟩ :=
  Fin.ext (by show 2 * b.val + min (p.val / 256) 1 = 2 * b.val + 1; omega)

end Cert.NormSpec

end
-- ==== Proof.NormRef.lean ====
module

public import proofs.«01_k».proof.Defs
public import proofs.«01_k».proof.Proof.NormSpec
public import proofs.«01_k».proof.Proof.Gen.NormRefIdeal.Read
public import Idealize.ShloMosaic.Lib.Pipeline.ValueKit

@[expose] public section

set_option maxRecDepth 16384

noncomputable section

/-!
# The first norm: the reference, entry by entry
-/

namespace Cert.NormRef

open Cert.NormRefIdeal Cert.NormRefIdeal.Read Idealize.ShloMosaic Idealize.ShloMosaic.TcCoe Idealize.SL.Sem Cert.NormSpec

variable (x0 : FVec Ideal S4x2304x1024 .f32) (x1 : FVec Ideal S8x6x1024 .f32) (x2 : FVec Ideal S1024 .f32)

theorem v3 (b : Fin 4) (q : Fin 1024) :
    val_main_v3 (F := Ideal) x1 (ix3 b 0 q) = (x1 (ix3 (⟨2 * b.val, by omega⟩ : Fin 8) 0 q) : EReal) := by
  pointwise [val_main_v0, val_main_v1, val_main_v2, val_main_v3]
  try first | rfl | (congr 1; done) | (refine congrArg x1 (funext fun a => ?_); fin_cases a <;> apply Fin.ext <;> simp <;> omega)

theorem v21 (b : Fin 4) (q : Fin 1024) :
    val_main_v21 (F := Ideal) x1 (ix3 b 0 q) = (x1 (ix3 (⟨2 * b.val + 1, by omega⟩ : Fin 8) 0 q) : EReal) := by
  pointwise [val_main_v0, val_main_v19, val_main_v20, val_main_v21]
  try first | rfl | (congr 1; done) | (refine congrArg x1 (funext fun a => ?_); fin_cases a <;> apply Fin.ext <;> simp <;> omega)

theorem v6 (b : Fin 4) (q : Fin 1024) :
    val_main_v6 (F := Ideal) x1 (ix3 b 0 q) = (x1 (ix3 (⟨2 * b.val, by omega⟩ : Fin 8) 1 q) : EReal) := by
  pointwise [val_main_v0, val_main_v4, val_main_v5, val_main_v6]
  try first | rfl | (congr 1; done) | (refine congrArg x1 (funext fun a => ?_); fin_cases a <;> apply Fin.ext <;> simp <;> omega)

theorem v24 (b : Fin 4) (q : Fin 1024) :
    val_main_v24 (F := Ideal) x1 (ix3 b 0 q) = (x1 (ix3 (⟨2 * b.val + 1, by omega⟩ : Fin 8) 1 q) : EReal) := by
  pointwise [val_main_v0, val_main_v22, val_main_v23, val_main_v24]
  try first | rfl | (congr 1; done) | (refine congrArg x1 (funext fun a => ?_); fin_cases a <;> apply Fin.ext <;> simp <;> omega)

/-- The rows of the context and of the image, before the norm. -/
theorem v37 (b : Fin 4) (p : Fin 256) (q : Fin 1024) :
    val_main_v37 (F := Ideal) x0 (ix3 b p q) = (x0 (ix3 b (⟨p.val, by omega⟩ : Fin 2304) q) : EReal) := by
  pointwise [val_main_v37]

theorem v57 (b : Fin 4) (p : Fin 2048) (q : Fin 1024) :
    val_main_v57 (F := Ideal) x0 (ix3 b p q) = (x0 (ix3 b (⟨256 + p.val, by omega⟩ : Fin 2304) q) : EReal) := by
  pointwise [val_main_v57]

/-- The modulated norm of those rows. -/
theorem v56 (b : Fin 4) (p : Fin 256) (q : Fin 1024) :
    val_main_v56 (F := Ideal) x0 x1 x2 (ix3 b p q)
    = mdl (fun x => val_main_v37 (F := Ideal) x0 (ix3 b p x)) (fun x => x2 (ix1 x))
      (fun x => val_main_v6 (F := Ideal) x1 (ix3 b 0 x)) (fun x => val_main_v3 (F := Ideal) x1 (ix3 b 0 x)) q := by
  unfold mdl nrm
  pointwise [val_main_v38, val_main_cst, val_main_v39, val_main_v40, val_main_cst_0, val_main_v41, val_main_v42, val_main_cst_1, val_main_v43, val_main_v44, val_main_v45, val_main_v46, val_main_v47, val_main_v48, val_main_v49, val_main_v50, val_main_cst_2, val_main_v51, val_main_v52, val_main_v53, val_main_v54, val_main_v55, val_main_v56]

/-- The modulated norm of those rows. -/
theorem v76 (b : Fin 4) (p : Fin 2048) (q : Fin 1024) :
    val_main_v76 (F := Ideal) x0 x1 x2 (ix3 b p q)
    = mdl (fun x => val_main_v57 (F := Ideal) x0 (ix3 b p x)) (fun x => x2 (ix1 x))
      (fun x => val_main_v24 (F := Ideal) x1 (ix3 b 0 x)) (fun x => val_main_v21 (F := Ideal) x1 (ix3 b 0 x)) q := by
  unfold mdl nrm
  pointwise [val_main_v58, val_main_cst_3, val_main_v59, val_main_v60, val_main_cst_4, val_main_v61, val_main_v62, val_main_cst_5, val_main_v63, val_main_v64, val_main_v65, val_main_v66, val_main_v67, val_main_v68, val_main_v69, val_main_v70, val_main_cst_6, val_main_v71, val_main_v72, val_main_v73, val_main_v74, val_main_v75, val_main_v76]

/-- The reference's modulated norm. -/
theorem v78 (b : Fin 4) (p : Fin 2304) (q : Fin 1024) :
    val_main_v78 (F := Ideal) x0 x1 x2 (ix3 b p q)
    = mdl (fun x => x0 (ix3 b p x)) (fun x => x2 (ix1 x)) (fun x => x1 (ix3 (tbl b p) 1 x)) (fun x => x1 (ix3 (tbl b p) 0 x)) q := by
  by_cases h : p.val < 256
  · rw [tbl_ctx b p h]
    pointwise [val_main_v78, val_main_v77]
    rw [dif_pos h, v56]
    simp only [v37, v6, v3]
  · rw [tbl_img b p h]
    pointwise [val_main_v78, val_main_v77]
    rw [dif_neg h, v76]
    have e : (⟨256 + (p.val - 256), by omega⟩ : Fin 2304) = p := Fin.ext (by show 256 + (p.val - 256) = p.val; omega)
    simp only [v57, v24, v21, e]

end Cert.NormRef

end
-- ==== Proof.NormValue.lean ====
module

public import proofs.«01_k».proof.Defs
public import proofs.«01_k».proof.Proof.NormRef
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal.Value
public import proofs.«01_k».proof.Proof.Gen.NormRefIdeal.Read
public import Idealize.ShloMosaic.Lib.Pipeline.ValueKit
public import Idealize.ShloMosaic.Lib.Claim

@[expose] public section

set_option maxRecDepth 16384

noncomputable section

/-!
# The first norm

Each grid point writes the modulated norm of a block of rows.
-/

namespace Cert.NormIdeal.Value

open Cert.NormIdeal Cert.NormIdeal.Gen Idealize.ShloMosaic Idealize.ShloMosaic.TcCoe Idealize.SL.Sem Cert.NormSpec

section point

variable (x0 : Vec Ideal S1x256x1024 .f32) (x1 : Vec Ideal S1x6x1024 .f32) (x2 : Vec Ideal S1x1024 .f32) (i : Fin 256) (q : Fin 1024)

/-- A block's modulated norm. -/
theorem out3_at : out0_3 x0 x1 x2 (ix3 0 i q)
    = mdl (fun x => x0 (ix3 0 i x)) (fun x => x2 (ix2 0 x)) (fun x => x1 (ix3 0 1 x)) (fun x => x1 (ix3 0 0 x)) q := by
  unfold out0_3 mdl nrm
  rw [View.ld_unit_lit _ x0 (by decide), View.ld_unit_lit _ x2 (by decide), View.canon_cons_unit_lit _ _ _ (by decide)]
  pointwise [k0_pay1]

end point

variable (m : (ℓ : Loc nD τ sig) → Buf (Elt Ideal) ℓ) (c : Dev nD)

/-- Every window's block index at a grid point. -/
theorem idx : ∀ t : Fin cfg0.N, win0_0.index t = ![t.val / 9, t.val % 9, 0] ∧ win0_1.index t = ![2 * (t.val / 9) + min (t.val % 9) 1, 0, 0] ∧ win0_2.index t = ![0, 0] ∧ win0_3.index t = ![t.val / 9, t.val % 9, 0] :=
  (by decide +kernel : ∀ t : Fin grid0.N, _)

theorem lt_points (t : Fin cfg0.N) : t.val < 36 := lt_of_lt_of_eq t.isLt (show cfg0.N = 36 from N_0)

/-- The sample of a grid point. -/
def smp (t : Fin cfg0.N) : Fin 4 := ⟨t.val / 9, by have := lt_points t; omega⟩

/-- A row of a grid point's block. -/
def row (t : Fin cfg0.N) (i : Fin 256) : Fin 2304 := ⟨t.val % 9 * 256 + i.val, by omega⟩

/-- The arguments. -/
abbrev a0 : FVec Ideal S4x2304x1024 .f32 := m ((c : Thread nD τ).loc main_arg0)
abbrev a1 : FVec Ideal S8x6x1024 .f32 := m ((c : Thread nD τ).loc main_arg1)
abbrev a2 : FVec Ideal S1024 .f32 := m ((c : Thread nD τ).loc main_arg2)

theorem read0 (t : Fin cfg0.N) (i : Fin 256) (q : Fin 1024) :
    iblk m c 0 t (ix3 0 i q) = a0 m c (ix3 (smp t) (row t i) q) := by
  unfold smp row
  blk_ext [iblk, V, idx t]

theorem read1 (t : Fin cfg0.N) (i : Fin 256) (k : Fin 6) (q : Fin 1024) :
    iblk m c 1 t (ix3 0 k q) = a1 m c (ix3 (tbl (smp t) (row t i)) k q) := by
  have e : tbl (smp t) (row t i) = ⟨2 * (t.val / 9) + min (t.val % 9) 1, by have := lt_points t; omega⟩ :=
    Fin.ext (by show 2 * (t.val / 9) + min ((t.val % 9 * 256 + i.val) / 256) 1 = 2 * (t.val / 9) + min (t.val % 9) 1; omega)
  rw [e]
  blk_ext [iblk, V, idx t]

theorem read2 (t : Fin cfg0.N) (q : Fin 1024) : iblk m c 2 t (ix2 0 q) = a2 m c (ix1 q) := by
  blk_simp [iblk, idx t]
  entry_read
  pointwise
  blk_ext [idx t]

/-- An index of a block of one sample. -/
theorem blk_idx (y : S1x256x1024.Idx) : ∃ (s : Fin 256) (q : Fin 1024), y = ix3 0 s q := by
  refine ⟨y 1, y 2, ?_⟩
  rw [eq_ix3 y]
  have h : y 0 = (0 : Fin 1) := Fin.ext (by have := (y 0).isLt; simp at this; simpa using this)
  rw [h]
  rfl

/-- The modulated norm is the reference's. -/
theorem final3 : (dats m 0 c).arrAt 3 cfg0.N = Cert.NormRefIdeal.Read.val_main_v78 (F := Ideal) (a0 m c) (a1 m c) (a2 m c) := by
  refine (dats m 0 c).arrAt_eq_of_covers 3 _ (by decide +kernel) fun t _ y => ?_
  blk_simp
  rw [after0_3]
  obtain ⟨i, q, rfl⟩ := blk_idx y
  have e : (win0_3.blk t).view.emb (ix3 0 i q) = ix3 (smp t) (row t i) q := by
    unfold smp row
    blk_ext [idx t]
  rw [e, Cert.NormRef.v78]
  refine (out3_at _ _ _ i q).trans ?_
  simp only [read0 m c t i, read1 m c t i, read2 m c t]

end Cert.NormIdeal.Value

namespace Cert.Proof

open Idealize.ShloMosaic Idealize.ShloMosaic.TcCoe Idealize.SL.Sem
open Cert.NormIdeal.Value (final3)

/-- The reference ends with its arguments untouched and nothing in flight. -/
theorem quiescent_NormRef : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The kernel's result is the reference's. -/
theorem algebraic_Norm : Cert.algebraic_NormIdeal_NormRefIdeal := by
  intro m ρ m' ρ' _ hagree
  refine ⟨fun c => (Cert.NormIdeal.Gen.dats (F := Ideal) m 0 c).arrAt 3 Cert.NormIdeal.cfg0.N, Cert.NormIdeal.Value.run_blocks (F := Ideal) m ρ, ?_⟩
  refine (θ_run Cert.NormRefIdeal.defs _ _).mono (fun r h c => ?_) (Cert.NormRefIdeal.Value.run (F := Ideal) m' ρ')
  obtain ⟨e, hk⟩ := h c
  obtain ⟨g0, g1, g2⟩ := hagree c
  refine ⟨?_, hk⟩
  refine e.trans ((Cert.NormRefIdeal.Read.val_main_v78_eq _ _ _).trans ?_)
  exact (congr (congrArg₂ _ g0 g1) g2).trans (final3 m c).symm

end Cert.Proof

end
-- ==== Proof.ResARef.lean ====
module

public import proofs.«01_k».proof.Defs
public import proofs.«01_k».proof.Proof.NormSpec
public import proofs.«01_k».proof.Proof.Gen.ResARefIdeal.Read
public import Idealize.ShloMosaic.Lib.Pipeline.ValueKit

@[expose] public section

set_option maxRecDepth 16384

noncomputable section

/-!
# The sum and the norm before a mixer: the reference, entry by entry
-/

namespace Cert.ResARef

open Cert.ResARefIdeal Cert.ResARefIdeal.Read Idealize.ShloMosaic Idealize.ShloMosaic.TcCoe Idealize.SL.Sem Cert.NormSpec

variable (x0 x1 : FVec Ideal S4x2304x1024 .f32) (x2 : FVec Ideal S8x6x1024 .f32) (x3 : FVec Ideal S1024 .f32)

theorem v3 (b : Fin 4) (q : Fin 1024) :
    val_main_v3 (F := Ideal) x2 (ix3 b 0 q) = (x2 (ix3 (⟨2 * b.val, by omega⟩ : Fin 8) 0 q) : EReal) := by
  pointwise [val_main_v0, val_main_v1, val_main_v2, val_main_v3]
  try first | rfl | (congr 1; done) | (refine congrArg x2 (funext fun a => ?_); fin_cases a <;> apply Fin.ext <;> simp <;> omega)

theorem v21 (b : Fin 4) (q : Fin 1024) :
    val_main_v21 (F := Ideal) x2 (ix3 b 0 q) = (x2 (ix3 (⟨2 * b.val + 1, by omega⟩ : Fin 8) 0 q) : EReal) := by
  pointwise [val_main_v0, val_main_v19, val_main_v20, val_main_v21]
  try first | rfl | (congr 1; done) | (refine congrArg x2 (funext fun a => ?_); fin_cases a <;> apply Fin.ext <;> simp <;> omega)

theorem v6 (b : Fin 4) (q : Fin 1024) :
    val_main_v6 (F := Ideal) x2 (ix3 b 0 q) = (x2 (ix3 (⟨2 * b.val, by omega⟩ : Fin 8) 1 q) : EReal) := by
  pointwise [val_main_v0, val_main_v4, val_main_v5, val_main_v6]
  try first | rfl | (congr 1; done) | (refine congrArg x2 (funext fun a => ?_); fin_cases a <;> apply Fin.ext <;> simp <;> omega)

theorem v24 (b : Fin 4) (q : Fin 1024) :
    val_main_v24 (F := Ideal) x2 (ix3 b 0 q) = (x2 (ix3 (⟨2 * b.val + 1, by omega⟩ : Fin 8) 1 q) : EReal) := by
  pointwise [val_main_v0, val_main_v22, val_main_v23, val_main_v24]
  try first | rfl | (congr 1; done) | (refine congrArg x2 (funext fun a => ?_); fin_cases a <;> apply Fin.ext <;> simp <;> omega)

theorem v18 (b : Fin 4) (q : Fin 1024) :
    val_main_v18 (F := Ideal) x2 (ix3 b 0 q) = (x2 (ix3 (⟨2 * b.val, by omega⟩ : Fin 8) 5 q) : EReal) := by
  pointwise [val_main_v0, val_main_v16, val_main_v17, val_main_v18]
  try first | rfl | (congr 1; done) | (refine congrArg x2 (funext fun a => ?_); fin_cases a <;> apply Fin.ext <;> simp <;> omega)

theorem v36 (b : Fin 4) (q : Fin 1024) :
    val_main_v36 (F := Ideal) x2 (ix3 b 0 q) = (x2 (ix3 (⟨2 * b.val + 1, by omega⟩ : Fin 8) 5 q) : EReal) := by
  pointwise [val_main_v0, val_main_v34, val_main_v35, val_main_v36]
  try first | rfl | (congr 1; done) | (refine congrArg x2 (funext fun a => ?_); fin_cases a <;> apply Fin.ext <;> simp <;> omega)

/-- The rows of the context and of the image, before the norm. -/
theorem v41 (b : Fin 4) (p : Fin 256) (q : Fin 1024) :
    val_main_v41 (F := Ideal) x0 x1 x2 (ix3 b p q)
    = (x0 (ix3 b (⟨p.val, by omega⟩ : Fin 2304) q) + x2 (ix3 (⟨2 * b.val, by omega⟩ : Fin 8) 5 q) * x1 (ix3 b (⟨p.val, by omega⟩ : Fin 2304) q) : EReal) := by
  pointwise [val_main_v37, val_main_v38, val_main_v39, val_main_v40, val_main_v41, v18]

theorem v46 (b : Fin 4) (p : Fin 2048) (q : Fin 1024) :
    val_main_v46 (F := Ideal) x0 x1 x2 (ix3 b p q)
    = (x0 (ix3 b (⟨256 + p.val, by omega⟩ : Fin 2304) q) + x2 (ix3 (⟨2 * b.val + 1, by omega⟩ : Fin 8) 5 q) * x1 (ix3 b (⟨256 + p.val, by omega⟩ : Fin 2304) q) : EReal) := by
  pointwise [val_main_v42, val_main_v43, val_main_v44, val_main_v45, val_main_v46, v36]

/-- The modulated norm of those rows. -/
theorem v65 (b : Fin 4) (p : Fin 256) (q : Fin 1024) :
    val_main_v65 (F := Ideal) x0 x1 x2 x3 (ix3 b p q)
    = mdl (fun x => val_main_v41 (F := Ideal) x0 x1 x2 (ix3 b p x)) (fun x => x3 (ix1 x))
      (fun x => val_main_v6 (F := Ideal) x2 (ix3 b 0 x)) (fun x => val_main_v3 (F := Ideal) x2 (ix3 b 0 x)) q := by
  unfold mdl nrm
  pointwise [val_main_v47, val_main_cst, val_main_v48, val_main_v49, val_main_cst_0, val_main_v50, val_main_v51, val_main_cst_1, val_main_v52, val_main_v53, val_main_v54, val_main_v55, val_main_v56, val_main_v57, val_main_v58, val_main_v59, val_main_cst_2, val_main_v60, val_main_v61, val_main_v62, val_main_v63, val_main_v64, val_main_v65]

/-- The modulated norm of those rows. -/
theorem v84 (b : Fin 4) (p : Fin 2048) (q : Fin 1024) :
    val_main_v84 (F := Ideal) x0 x1 x2 x3 (ix3 b p q)
    = mdl (fun x => val_main_v46 (F := Ideal) x0 x1 x2 (ix3 b p x)) (fun x => x3 (ix1 x))
      (fun x => val_main_v24 (F := Ideal) x2 (ix3 b 0 x)) (fun x => val_main_v21 (F := Ideal) x2 (ix3 b 0 x)) q := by
  unfold mdl nrm
  pointwise [val_main_v66, val_main_cst_3, val_main_v67, val_main_v68, val_main_cst_4, val_main_v69, val_main_v70, val_main_cst_5, val_main_v71, val_main_v72, val_main_v73, val_main_v74, val_main_v75, val_main_v76, val_main_v77, val_main_v78, val_main_cst_6, val_main_v79, val_main_v80, val_main_v81, val_main_v82, val_main_v83, val_main_v84]

/-- The sum at an entry. -/
def sm (b : Fin 4) (p : Fin 2304) (q : Fin 1024) : EReal := x0 (ix3 b p q) + x2 (ix3 (tbl b p) 5 q) * x1 (ix3 b p q)

/-- The reference's sum. -/
theorem v85 (b : Fin 4) (p : Fin 2304) (q : Fin 1024) :
    val_main_v85 (F := Ideal) x0 x1 x2 (ix3 b p q) = sm x0 x1 x2 b p q := by
  unfold sm
  by_cases h : p.val < 256
  · rw [tbl_ctx b p h]
    pointwise [val_main_v85]
    rw [dif_pos h, v41]
  · rw [tbl_img b p h]
    pointwise [val_main_v85]
    rw [dif_neg h, v46]
    have e : (⟨256 + (p.val - 256), by omega⟩ : Fin 2304) = p := Fin.ext (by show 256 + (p.val - 256) = p.val; omega)
    simp only [e]

/-- The reference's modulated norm. -/
theorem v87 (b : Fin 4) (p : Fin 2304) (q : Fin 1024) :
    val_main_v87 (F := Ideal) x0 x1 x2 x3 (ix3 b p q)
    = mdl (fun x => sm x0 x1 x2 b p x) (fun x => x3 (ix1 x)) (fun x => x2 (ix3 (tbl b p) 1 x)) (fun x => x2 (ix3 (tbl b p) 0 x)) q := by
  by_cases h : p.val < 256
  · unfold sm
    rw [tbl_ctx b p h]
    pointwise [val_main_v87, val_main_v86]
    rw [dif_pos h, v65]
    simp only [v41, v6, v3]
  · unfold sm
    rw [tbl_img b p h]
    pointwise [val_main_v87, val_main_v86]
    rw [dif_neg h, v84]
    have e : (⟨256 + (p.val - 256), by omega⟩ : Fin 2304) = p := Fin.ext (by show 256 + (p.val - 256) = p.val; omega)
    simp only [v46, v24, v21, e]

end Cert.ResARef

end
-- ==== Proof.ResAValue.lean ====
module

public import proofs.«01_k».proof.Defs
public import proofs.«01_k».proof.Proof.ResARef
public import proofs.«01_k».proof.Proof.Gen.ResA
public import proofs.«01_k».proof.Proof.Gen.ResA.Skeleton
public import proofs.«01_k».proof.Proof.Gen.ResA.Launch
public import proofs.«01_k».proof.Proof.Gen.ResA.Points
public import proofs.«01_k».proof.Proof.Gen.ResA.Frame
public import proofs.«01_k».proof.Proof.Gen.ResAIdeal.Value
public import proofs.«01_k».proof.Proof.Gen.ResARefIdeal.Read
public import Idealize.ShloMosaic.Lib.Pipeline.ValueKit
public import Idealize.ShloMosaic.Lib.Claim

@[expose] public section

set_option maxRecDepth 16384

noncomputable section

/-!
# The sum and the norm before a mixer

Each grid point adds the gated branch to a block of rows, and writes the sum and its modulated norm.
-/

namespace Cert.ResAIdeal.Value

open Cert.ResAIdeal Cert.ResAIdeal.Gen Idealize.ShloMosaic Idealize.ShloMosaic.TcCoe Idealize.SL.Sem Cert.NormSpec
open Cert.ResARef (sm)
section point

variable (x0 x1 : Vec Ideal S1x256x1024 .f32) (x2 : Vec Ideal S1x6x1024 .f32) (x3 : Vec Ideal S1x1024 .f32) (i : Fin 256) (q : Fin 1024)

/-- A block's sum. -/
theorem out4_at : out0_4 x0 x1 x2 x3 (ix3 0 i q) = (x0 (ix3 0 i q) + x2 (ix3 0 5 q) * x1 (ix3 0 i q) : EReal) := by
  unfold out0_4
  rw [View.ld_unit_lit _ x0 (by decide), View.ld_unit_lit _ x1 (by decide), View.canon_cons_unit_lit _ _ _ (by decide)]
  pointwise [k0_pay1, k0_pay3]

/-- A block's modulated norm. -/
theorem out5_at : out0_5 x0 x1 x2 x3 (ix3 0 i q)
    = mdl (fun x => x0 (ix3 0 i x) + x2 (ix3 0 5 x) * x1 (ix3 0 i x)) (fun x => x3 (ix2 0 x)) (fun x => x2 (ix3 0 1 x)) (fun x => x2 (ix3 0 0 x)) q := by
  unfold out0_5 mdl nrm
  rw [View.ld_unit_lit _ x0 (by decide), View.ld_unit_lit _ x1 (by decide), View.ld_unit_lit _ x3 (by decide), View.canon_cons_unit_lit _ _ _ (by decide)]
  pointwise [k0_pay2, k0_pay3, k0_pay4]

end point

variable (m : (ℓ : Loc nD τ sig) → Buf (Elt Ideal) ℓ) (c : Dev nD)

/-- Every window's block index at a grid point. -/
theorem idx : ∀ t : Fin cfg0.N, win0_0.index t = ![t.val / 9, t.val % 9, 0] ∧ win0_1.index t = ![t.val / 9, t.val % 9, 0] ∧ win0_2.index t = ![2 * (t.val / 9) + min (t.val % 9) 1, 0, 0] ∧ win0_3.index t = ![0, 0] ∧ win0_4.index t = ![t.val / 9, t.val % 9, 0] ∧ win0_5.index t = ![t.val / 9, t.val % 9, 0] :=
  (by decide +kernel : ∀ t : Fin grid0.N, _)

theorem lt_points (t : Fin cfg0.N) : t.val < 36 := lt_of_lt_of_eq t.isLt (show cfg0.N = 36 from N_0)

/-- The sample of a grid point. -/
def smp (t : Fin cfg0.N) : Fin 4 := ⟨t.val / 9, by have := lt_points t; omega⟩

/-- A row of a grid point's block. -/
def row (t : Fin cfg0.N) (i : Fin 256) : Fin 2304 := ⟨t.val % 9 * 256 + i.val, by omega⟩

/-- The arguments. -/
abbrev a0 : FVec Ideal S4x2304x1024 .f32 := m ((c : Thread nD τ).loc main_arg0)
abbrev a1 : FVec Ideal S4x2304x1024 .f32 := m ((c : Thread nD τ).loc main_arg1)
abbrev a2 : FVec Ideal S8x6x1024 .f32 := m ((c : Thread nD τ).loc main_arg2)
abbrev a3 : FVec Ideal S1024 .f32 := m ((c : Thread nD τ).loc main_arg3)

theorem read0 (t : Fin cfg0.N) (i : Fin 256) (q : Fin 1024) :
    iblk m c 0 t (ix3 0 i q) = a0 m c (ix3 (smp t) (row t i) q) := by
  unfold smp row
  blk_ext [iblk, V, idx t]

theorem read1 (t : Fin cfg0.N) (i : Fin 256) (q : Fin 1024) :
    iblk m c 1 t (ix3 0 i q) = a1 m c (ix3 (smp t) (row t i) q) := by
  unfold smp row
  blk_ext [iblk, V, idx t]

theorem read2 (t : Fin cfg0.N) (i : Fin 256) (k : Fin 6) (q : Fin 1024) :
    iblk m c 2 t (ix3 0 k q) = a2 m c (ix3 (tbl (smp t) (row t i)) k q) := by
  have e : tbl (smp t) (row t i) = ⟨2 * (t.val / 9) + min (t.val % 9) 1, by have := lt_points t; omega⟩ :=
    Fin.ext (by show 2 * (t.val / 9) + min ((t.val % 9 * 256 + i.val) / 256) 1 = 2 * (t.val / 9) + min (t.val % 9) 1; omega)
  rw [e]
  blk_ext [iblk, V, idx t]

theorem read3 (t : Fin cfg0.N) (q : Fin 1024) : iblk m c 3 t (ix2 0 q) = a3 m c (ix1 q) := by
  blk_simp [iblk, idx t]
  entry_read
  pointwise
  blk_ext [idx t]

/-- An index of a block of one sample. -/
theorem blk_idx (y : S1x256x1024.Idx) : ∃ (s : Fin 256) (q : Fin 1024), y = ix3 0 s q := by
  refine ⟨y 1, y 2, ?_⟩
  rw [eq_ix3 y]
  have h : y 0 = (0 : Fin 1) := Fin.ext (by have := (y 0).isLt; simp at this; simpa using this)
  rw [h]
  rfl

/-- The sum is the reference's. -/
theorem final4 : (dats m 0 c).arrAt 4 cfg0.N = Cert.ResARefIdeal.Read.val_main_v85 (F := Ideal) (a0 m c) (a1 m c) (a2 m c) := by
  refine (dats m 0 c).arrAt_eq_of_covers 4 _ (by decide +kernel) fun t _ y => ?_
  blk_simp
  rw [after0_4]
  obtain ⟨i, q, rfl⟩ := blk_idx y
  have e : (win0_4.blk t).view.emb (ix3 0 i q) = ix3 (smp t) (row t i) q := by
    unfold smp row
    blk_ext [idx t]
  rw [e, Cert.ResARef.v85]
  refine (out4_at _ _ _ _ i q).trans ?_
  rw [read0, read1, read2 m c t i]
  rfl

/-- The modulated norm is the reference's. -/
theorem final5 : (dats m 0 c).arrAt 5 cfg0.N = Cert.ResARefIdeal.Read.val_main_v87 (F := Ideal) (a0 m c) (a1 m c) (a2 m c) (a3 m c) := by
  refine (dats m 0 c).arrAt_eq_of_covers 5 _ (by decide +kernel) fun t _ y => ?_
  blk_simp
  rw [after0_5]
  obtain ⟨i, q, rfl⟩ := blk_idx y
  have e : (win0_5.blk t).view.emb (ix3 0 i q) = ix3 (smp t) (row t i) q := by
    unfold smp row
    blk_ext [idx t]
  rw [e, Cert.ResARef.v87]
  refine (out5_at _ _ _ _ i q).trans ?_
  simp only [read0 m c t i, read1 m c t i, read2 m c t i, read3 m c t]
  rfl

end Cert.ResAIdeal.Value

namespace Cert.Proof

open Idealize.ShloMosaic Idealize.ShloMosaic.TcCoe Idealize.SL.Sem
open Cert.ResAIdeal.Value (final4 final5)

/-- The reference ends with its arguments untouched and nothing in flight. -/
theorem quiescent_ResARef : Cert.quiescent_ResARefIdeal := fun m ρ _ =>
  (θ_run Cert.ResARefIdeal.defs _ _).mono (fun r h => ⟨fun c => (h c).2.2, sem_eq_zero_of_no_sems (by decide) r.2⟩)
    (Cert.ResARefIdeal.Value.run (F := Ideal) m ρ)

/-- The kernel's results are the reference's. -/
theorem algebraic_ResA : Cert.algebraic_ResAIdeal_ResARefIdeal := by
  intro m ρ m' ρ' _ hagree
  refine ⟨fun c => (Cert.ResAIdeal.Gen.dats (F := Ideal) m 0 c).arrAt 4 Cert.ResAIdeal.cfg0.N,
    fun c => (Cert.ResAIdeal.Gen.dats (F := Ideal) m 0 c).arrAt 5 Cert.ResAIdeal.cfg0.N, Cert.ResAIdeal.Value.run_blocks (F := Ideal) m ρ, ?_⟩
  refine (θ_run Cert.ResARefIdeal.defs _ _).mono (fun r h c => ?_) (Cert.ResARefIdeal.Value.run (F := Ideal) m' ρ')
  obtain ⟨e0, e1, hk⟩ := h c
  obtain ⟨g0, g1, g2, g3⟩ := hagree c
  refine ⟨?_, ?_, hk⟩
  · refine e0.trans ((Cert.ResARefIdeal.Read.val_main_v85_eq _ _ _).trans ?_)
    exact (congr (congrArg₂ _ g0 g1) g2).trans (final4 m c).symm
  · refine e1.trans ((Cert.ResARefIdeal.Read.val_main_v87_eq _ c).trans ?_)
    exact (congr (congr (congrArg₂ _ g0 g1) g2) g3).trans (final5 m c).symm

end Cert.Proof

end
-- ==== Proof.ResBRef.lean ====
module

public import proofs.«01_k».proof.Defs
public import proofs.«01_k».proof.Proof.NormSpec
public import proofs.«01_k».proof.Proof.Gen.ResBRefIdeal.Read
public import Idealize.ShloMosaic.Lib.Pipeline.ValueKit

@[expose] public section

set_option maxRecDepth 16384

noncomputable section

/-!
# The sum and the norm before a feed-forward block: the reference, entry by entry
-/

namespace Cert.ResBRef

open Cert.ResBRefIdeal Cert.ResBRefIdeal.Read Idealize.ShloMosaic Idealize.ShloMosaic.TcCoe Idealize.SL.Sem Cert.NormSpec

variable (x0 x1 : FVec Ideal S4x2304x1024 .f32) (x2 : FVec Ideal S8x6x1024 .f32) (x3 : FVec Ideal S1024 .f32)

theorem v9 (b : Fin 4) (q : Fin 1024) :
    val_main_v9 (F := Ideal) x2 (ix3 b 0 q) = (x2 (ix3 (⟨2 * b.val, by omega⟩ : Fin 8) 2 q) : EReal) := by
  pointwise [val_main_v0, val_main_v7, val_main_v8, val_main_v9]
  try first | rfl | (congr 1; done) | (refine congrArg x2 (funext fun a => ?_); fin_cases a <;> apply Fin.ext <;> simp <;> omega)

theorem v27 (b : Fin 4) (q : Fin 1024) :
    val_main_v27 (F := Ideal) x2 (ix3 b 0 q) = (x2 (ix3 (⟨2 * b.val + 1, by omega⟩ : Fin 8) 2 q) : EReal) := by
  pointwise [val_main_v0, val_main_v25, val_main_v26, val_main_v27]
  try first | rfl | (congr 1; done) | (refine congrArg x2 (funext fun a => ?_); fin_cases a <;> apply Fin.ext <;> simp <;> omega)

theorem v12 (b : Fin 4) (q : Fin 1024) :
    val_main_v12 (F := Ideal) x2 (ix3 b 0 q) = (x2 (ix3 (⟨2 * b.val, by omega⟩ : Fin 8) 3 q) : EReal) := by
  pointwise [val_main_v0, val_main_v10, val_main_v11, val_main_v12]
  try first | rfl | (congr 1; done) | (refine congrArg x2 (funext fun a => ?_); fin_cases a <;> apply Fin.ext <;> simp <;> omega)

theorem v30 (b : Fin 4) (q : Fin 1024) :
    val_main_v30 (F := Ideal) x2 (ix3 b 0 q) = (x2 (ix3 (⟨2 * b.val + 1, by omega⟩ : Fin 8) 3 q) : EReal) := by
  pointwise [val_main_v0, val_main_v28, val_main_v29, val_main_v30]
  try first | rfl | (congr 1; done) | (refine congrArg x2 (funext fun a => ?_); fin_cases a <;> apply Fin.ext <;> simp <;> omega)

theorem v15 (b : Fin 4) (q : Fin 1024) :
    val_main_v15 (F := Ideal) x2 (ix3 b 0 q) = (x2 (ix3 (⟨2 * b.val, by omega⟩ : Fin 8) 4 q) : EReal) := by
  pointwise [val_main_v0, val_main_v13, val_main_v14, val_main_v15]
  try first | rfl | (congr 1; done) | (refine congrArg x2 (funext fun a => ?_); fin_cases a <;> apply Fin.ext <;> simp <;> omega)

theorem v33 (b : Fin 4) (q : Fin 1024) :
    val_main_v33 (F := Ideal) x2 (ix3 b 0 q) = (x2 (ix3 (⟨2 * b.val + 1, by omega⟩ : Fin 8) 4 q) : EReal) := by
  pointwise [val_main_v0, val_main_v31, val_main_v32, val_main_v33]
  try first | rfl | (congr 1; done) | (refine congrArg x2 (funext fun a => ?_); fin_cases a <;> apply Fin.ext <;> simp <;> omega)

/-- The rows of the context and of the image, before the norm. -/
theorem v41 (b : Fin 4) (p : Fin 256) (q : Fin 1024) :
    val_main_v41 (F := Ideal) x0 x1 x2 (ix3 b p q)
    = (x0 (ix3 b (⟨p.val, by omega⟩ : Fin 2304) q) + x2 (ix3 (⟨2 * b.val, by omega⟩ : Fin 8) 2 q) * x1 (ix3 b (⟨p.val, by omega⟩ : Fin 2304) q) : EReal) := by
  pointwise [val_main_v37, val_main_v38, val_main_v39, val_main_v40, val_main_v41, v9]

theorem v46 (b : Fin 4) (p : Fin 2048) (q : Fin 1024) :
    val_main_v46 (F := Ideal) x0 x1 x2 (ix3 b p q)
    = (x0 (ix3 b (⟨256 + p.val, by omega⟩ : Fin 2304) q) + x2 (ix3 (⟨2 * b.val + 1, by omega⟩ : Fin 8) 2 q) * x1 (ix3 b (⟨256 + p.val, by omega⟩ : Fin 2304) q) : EReal) := by
  pointwise [val_main_v42, val_main_v43, val_main_v44, val_main_v45, val_main_v46, v27]

/-- The modulated norm of those rows. -/
theorem v65 (b : Fin 4) (p : Fin 256) (q : Fin 1024) :
    val_main_v65 (F := Ideal) x0 x1 x2 x3 (ix3 b p q)
    = mdl (fun x => val_main_v41 (F := Ideal) x0 x1 x2 (ix3 b p x)) (fun x => x3 (ix1 x))
      (fun x => val_main_v15 (F := Ideal) x2 (ix3 b 0 x)) (fun x => val_main_v12 (F := Ideal) x2 (ix3 b 0 x)) q := by
  unfold mdl nrm
  pointwise [val_main_v47, val_main_cst, val_main_v48, val_main_v49, val_main_cst_0, val_main_v50, val_main_v51, val_main_cst_1, val_main_v52, val_main_v53, val_main_v54, val_main_v55, val_main_v56, val_main_v57, val_main_v58, val_main_v59, val_main_cst_2, val_main_v60, val_main_v61, val_main_v62, val_main_v63, val_main_v64, val_main_v65]

/-- The modulated norm of those rows. -/
theorem v84 (b : Fin 4) (p : Fin 2048) (q : Fin 1024) :
    val_main_v84 (F := Ideal) x0 x1 x2 x3 (ix3 b p q)
    = mdl (fun x => val_main_v46 (F := Ideal) x0 x1 x2 (ix3 b p x)) (fun x => x3 (ix1 x))
      (fun x => val_main_v33 (F := Ideal) x2 (ix3 b 0 x)) (fun x => val_main_v30 (F := Ideal) x2 (ix3 b 0 x)) q := by
  unfold mdl nrm
  pointwise [val_main_v66, val_main_cst_3, val_main_v67, val_main_v68, val_main_cst_4, val_main_v69, val_main_v70, val_main_cst_5, val_main_v71, val_main_v72, val_main_v73, val_main_v74, val_main_v75, val_main_v76, val_main_v77, val_main_v78, val_main_cst_6, val_main_v79, val_main_v80, val_main_v81, val_main_v82, val_main_v83, val_main_v84]

/-- The sum at an entry. -/
def sm (b : Fin 4) (p : Fin 2304) (q : Fin 1024) : EReal := x0 (ix3 b p q) + x2 (ix3 (tbl b p) 2 q) * x1 (ix3 b p q)

/-- The reference's sum. -/
theorem v85 (b : Fin 4) (p : Fin 2304) (q : Fin 1024) :
    val_main_v85 (F := Ideal) x0 x1 x2 (ix3 b p q) = sm x0 x1 x2 b p q := by
  unfold sm
  by_cases h : p.val < 256
  · rw [tbl_ctx b p h]
    pointwise [val_main_v85]
    rw [dif_pos h, v41]
  · rw [tbl_img b p h]
    pointwise [val_main_v85]
    rw [dif_neg h, v46]
    have e : (⟨256 + (p.val - 256), by omega⟩ : Fin 2304) = p := Fin.ext (by show 256 + (p.val - 256) = p.val; omega)
    simp only [e]

/-- The reference's modulated norm. -/
theorem v87 (b : Fin 4) (p : Fin 2304) (q : Fin 1024) :
    val_main_v87 (F := Ideal) x0 x1 x2 x3 (ix3 b p q)
    = mdl (fun x => sm x0 x1 x2 b p x) (fun x => x3 (ix1 x)) (fun x => x2 (ix3 (tbl b p) 4 x)) (fun x => x2 (ix3 (tbl b p) 3 x)) q := by
  by_cases h : p.val < 256
  · unfold sm
    rw [tbl_ctx b p h]
    pointwise [val_main_v87, val_main_v86]
    rw [dif_pos h, v65]
    simp only [v41, v15, v12]
  · unfold sm
    rw [tbl_img b p h]
    pointwise [val_main_v87, val_main_v86]
    rw [dif_neg h, v84]
    have e : (⟨256 + (p.val - 256), by omega⟩ : Fin 2304) = p := Fin.ext (by show 256 + (p.val - 256) = p.val; omega)
    simp only [v46, v33, v30, e]

end Cert.ResBRef

end
-- ==== Proof.ResBValue.lean ====
module

public import proofs.«01_k».proof.Defs
public import proofs.«01_k».proof.Proof.ResBRef
public import proofs.«01_k».proof.Proof.Gen.ResB
public import proofs.«01_k».proof.Proof.Gen.ResB.Skeleton
public import proofs.«01_k».proof.Proof.Gen.ResB.Launch
public import proofs.«01_k».proof.Proof.Gen.ResB.Points
public import proofs.«01_k».proof.Proof.Gen.ResB.Frame
public import proofs.«01_k».proof.Proof.Gen.ResBIdeal.Value
public import proofs.«01_k».proof.Proof.Gen.ResBRefIdeal.Read
public import Idealize.ShloMosaic.Lib.Pipeline.ValueKit
public import Idealize.ShloMosaic.Lib.Claim

@[expose] public section

set_option maxRecDepth 16384

noncomputable section

/-!
# The sum and the norm before a feed-forward block

Each grid point adds the gated branch to a block of rows, and writes the sum and its modulated norm.
-/

namespace Cert.ResBIdeal.Value

open Cert.ResBIdeal Cert.ResBIdeal.Gen Idealize.ShloMosaic Idealize.ShloMosaic.TcCoe Idealize.SL.Sem Cert.NormSpec
open Cert.ResBRef (sm)
section point

variable (x0 x1 : Vec Ideal S1x256x1024 .f32) (x2 : Vec Ideal S1x6x1024 .f32) (x3 : Vec Ideal S1x1024 .f32) (i : Fin 256) (q : Fin 1024)

/-- A block's sum. -/
theorem out4_at : out0_4 x0 x1 x2 x3 (ix3 0 i q) = (x0 (ix3 0 i q) + x2 (ix3 0 2 q) * x1 (ix3 0 i q) : EReal) := by
  unfold out0_4
  rw [View.ld_unit_lit _ x0 (by decide), View.ld_unit_lit _ x1 (by decide), View.canon_cons_unit_lit _ _ _ (by decide)]
  pointwise [k0_pay1, k0_pay3]

/-- A block's modulated norm. -/
theorem out5_at : out0_5 x0 x1 x2 x3 (ix3 0 i q)
    = mdl (fun x => x0 (ix3 0 i x) + x2 (ix3 0 2 x) * x1 (ix3 0 i x)) (fun x => x3 (ix2 0 x)) (fun x => x2 (ix3 0 4 x)) (fun x => x2 (ix3 0 3 x)) q := by
  unfold out0_5 mdl nrm
  rw [View.ld_unit_lit _ x0 (by decide), View.ld_unit_lit _ x1 (by decide), View.ld_unit_lit _ x3 (by decide), View.canon_cons_unit_lit _ _ _ (by decide)]
  pointwise [k0_pay2, k0_pay3, k0_pay4]

end point

variable (m : (ℓ : Loc nD τ sig) → Buf (Elt Ideal) ℓ) (c : Dev nD)

/-- Every window's block index at a grid point. -/
theorem idx : ∀ t : Fin cfg0.N, win0_0.index t = ![t.val / 9, t.val % 9, 0] ∧ win0_1.index t = ![t.val / 9, t.val % 9, 0] ∧ win0_2.index t = ![2 * (t.val / 9) + min (t.val % 9) 1, 0, 0] ∧ win0_3.index t = ![0, 0] ∧ win0_4.index t = ![t.val / 9, t.val % 9, 0] ∧ win0_5.index t = ![t.val / 9, t.val % 9, 0] :=
  (by decide +kernel : ∀ t : Fin grid0.N, _)

theorem lt_points (t : Fin cfg0.N) : t.val < 36 := lt_of_lt_of_eq t.isLt (show cfg0.N = 36 from N_0)

/-- The sample of a grid point. -/
def smp (t : Fin cfg0.N) : Fin 4 := ⟨t.val / 9, by have := lt_points t; omega⟩

/-- A row of a grid point's block. -/
def row (t : Fin cfg0.N) (i : Fin 256) : Fin 2304 := ⟨t.val % 9 * 256 + i.val, by omega⟩

/-- The arguments. -/
abbrev a0 : FVec Ideal S4x2304x1024 .f32 := m ((c : Thread nD τ).loc main_arg0)
abbrev a1 : FVec Ideal S4x2304x1024 .f32 := m ((c : Thread nD τ).loc main_arg1)
abbrev a2 : FVec Ideal S8x6x1024 .f32 := m ((c : Thread nD τ).loc main_arg2)
abbrev a3 : FVec Ideal S1024 .f32 := m ((c : Thread nD τ).loc main_arg3)

theorem read0 (t : Fin cfg0.N) (i : Fin 256) (q : Fin 1024) :
    iblk m c 0 t (ix3 0 i q) = a0 m c (ix3 (smp t) (row t i) q) := by
  unfold smp row
  blk_ext [iblk, V, idx t]

theorem read1 (t : Fin cfg0.N) (i : Fin 256) (q : Fin 1024) :
    iblk m c 1 t (ix3 0 i q) = a1 m c (ix3 (smp t) (row t i) q) := by
  unfold smp row
  blk_ext [iblk, V, idx t]

theorem read2 (t : Fin cfg0.N) (i : Fin 256) (k : Fin 6) (q : Fin 1024) :
    iblk m c 2 t (ix3 0 k q) = a2 m c (ix3 (tbl (smp t) (row t i)) k q) := by
  have e : tbl (smp t) (row t i) = ⟨2 * (t.val / 9) + min (t.val % 9) 1, by have := lt_points t; omega⟩ :=
    Fin.ext (by show 2 * (t.val / 9) + min ((t.val % 9 * 256 + i.val) / 256) 1 = 2 * (t.val / 9) + min (t.val % 9) 1; omega)
  rw [e]
  blk_ext [iblk, V, idx t]

theorem read3 (t : Fin cfg0.N) (q : Fin 1024) : iblk m c 3 t (ix2 0 q) = a3 m c (ix1 q) := by
  blk_simp [iblk, idx t]
  entry_read
  pointwise
  blk_ext [idx t]

/-- An index of a block of one sample. -/
theorem blk_idx (y : S1x256x1024.Idx) : ∃ (s : Fin 256) (q : Fin 1024), y = ix3 0 s q := by
  refine ⟨y 1, y 2, ?_⟩
  rw [eq_ix3 y]
  have h : y 0 = (0 : Fin 1) := Fin.ext (by have := (y 0).isLt; simp at this; simpa using this)
  rw [h]
  rfl

/-- The sum is the reference's. -/
theorem final4 : (dats m 0 c).arrAt 4 cfg0.N = Cert.ResBRefIdeal.Read.val_main_v85 (F := Ideal) (a0 m c) (a1 m c) (a2 m c) := by
  refine (dats m 0 c).arrAt_eq_of_covers 4 _ (by decide +kernel) fun t _ y => ?_
  blk_simp
  rw [after0_4]
  obtain ⟨i, q, rfl⟩ := blk_idx y
  have e : (win0_4.blk t).view.emb (ix3 0 i q) = ix3 (smp t) (row t i) q := by
    unfold smp row
    blk_ext [idx t]
  rw [e, Cert.ResBRef.v85]
  refine (out4_at _ _ _ _ i q).trans ?_
  rw [read0, read1, read2 m c t i]
  rfl

/-- The modulated norm is the reference's. -/
theorem final5 : (dats m 0 c).arrAt 5 cfg0.N = Cert.ResBRefIdeal.Read.val_main_v87 (F := Ideal) (a0 m c) (a1 m c) (a2 m c) (a3 m c) := by
  refine (dats m 0 c).arrAt_eq_of_covers 5 _ (by decide +kernel) fun t _ y => ?_
  blk_simp
  rw [after0_5]
  obtain ⟨i, q, rfl⟩ := blk_idx y
  have e : (win0_5.blk t).view.emb (ix3 0 i q) = ix3 (smp t) (row t i) q := by
    unfold smp row
    blk_ext [idx t]
  rw [e, Cert.ResBRef.v87]
  refine (out5_at _ _ _ _ i q).trans ?_
  simp only [read0 m c t i, read1 m c t i, read2 m c t i, read3 m c t]
  rfl

end Cert.ResBIdeal.Value

namespace Cert.Proof

open Idealize.ShloMosaic Idealize.ShloMosaic.TcCoe Idealize.SL.Sem
open Cert.ResBIdeal.Value (final4 final5)

/-- The reference ends with its arguments untouched and nothing in flight. -/
theorem quiescent_ResBRef : Cert.quiescent_ResBRefIdeal := fun m ρ _ =>
  (θ_run Cert.ResBRefIdeal.defs _ _).mono (fun r h => ⟨fun c => (h c).2.2, sem_eq_zero_of_no_sems (by decide) r.2⟩)
    (Cert.ResBRefIdeal.Value.run (F := Ideal) m ρ)

/-- The kernel's results are the reference's. -/
theorem algebraic_ResB : Cert.algebraic_ResBIdeal_ResBRefIdeal := by
  intro m ρ m' ρ' _ hagree
  refine ⟨fun c => (Cert.ResBIdeal.Gen.dats (F := Ideal) m 0 c).arrAt 4 Cert.ResBIdeal.cfg0.N,
    fun c => (Cert.ResBIdeal.Gen.dats (F := Ideal) m 0 c).arrAt 5 Cert.ResBIdeal.cfg0.N, Cert.ResBIdeal.Value.run_blocks (F := Ideal) m ρ, ?_⟩
  refine (θ_run Cert.ResBRefIdeal.defs _ _).mono (fun r h c => ?_) (Cert.ResBRefIdeal.Value.run (F := Ideal) m' ρ')
  obtain ⟨e0, e1, hk⟩ := h c
  obtain ⟨g0, g1, g2, g3⟩ := hagree c
  refine ⟨?_, ?_, hk⟩
  · refine e0.trans ((Cert.ResBRefIdeal.Read.val_main_v85_eq _ _ _).trans ?_)
    exact (congr (congrArg₂ _ g0 g1) g2).trans (final4 m c).symm
  · refine e1.trans ((Cert.ResBRefIdeal.Read.val_main_v87_eq _ c).trans ?_)
    exact (congr (congr (congrArg₂ _ g0 g1) g2) g3).trans (final5 m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Equal
public import proofs.«01_k».proof.Proof.FfnInValue
public import proofs.«01_k».proof.Proof.FfnOutValue
public import proofs.«01_k».proof.Proof.FfnDactValue
public import proofs.«01_k».proof.Proof.FfnDinValue
public import proofs.«01_k».proof.Proof.FfnDwValue
public import proofs.«01_k».proof.Proof.FfnDwDownValue
public import proofs.«01_k».proof.Proof.EvInValue
public import proofs.«01_k».proof.Proof.EvXbcValue
public import proofs.«01_k».proof.Proof.OdInValue
public import proofs.«01_k».proof.Proof.OdUValue
public import proofs.«01_k».proof.Proof.EvMixValue
public import proofs.«01_k».proof.Proof.OdMixValue
public import proofs.«01_k».proof.Proof.EvDoutValue
public import proofs.«01_k».proof.Proof.OdDoutValue
public import proofs.«01_k».proof.Proof.OdDoutUValue
public import proofs.«01_k».proof.Proof.EvDwValue
public import proofs.«01_k».proof.Proof.EvDwXbcValue
public import proofs.«01_k».proof.Proof.OdDwValue
public import proofs.«01_k».proof.Proof.OdDwVValue
public import proofs.«01_k».proof.Proof.OdDwUValue
public import proofs.«01_k».proof.Proof.OdDwOutValue
public import proofs.«01_k».proof.Proof.OdDwOutUValue
public import proofs.«01_k».proof.Proof.EvDhnValue
public import proofs.«01_k».proof.Proof.OdDhnValue
public import proofs.«01_k».proof.Proof.LruConvBwdValue
public import proofs.«01_k».proof.Proof.SsdConvBwdValue
public import proofs.«01_k».proof.Proof.LruConvValue
public import proofs.«01_k».proof.Proof.SsdConvValue
public import proofs.«01_k».proof.Proof.FfnConvValue
public import proofs.«01_k».proof.Proof.EvDtValue
public import proofs.«01_k».proof.Proof.EvDwDtValue
public import proofs.«01_k».proof.Proof.ModValue
public import proofs.«01_k».proof.Proof.ModDwValue
public import proofs.«01_k».proof.Proof.ModDctxValue
public import proofs.«01_k».proof.Proof.ModSiluValue
public import proofs.«01_k».proof.Proof.NormValue
public import proofs.«01_k».proof.Proof.ResAValue
public import proofs.«01_k».proof.Proof.ResBValue

@[expose] public section

noncomputable section

/-!
# The certificate

Every kernel runs to completion from any memory, as does its reference. Over the extended reals a product's kernel leaves
what its reference leaves; and from finite incoming gradients and gates, the four results of the backward kernel of the
gated convolution are the reference's.
-/

namespace Cert.Proof

open Idealize.ShloMosaic Idealize.SL.Sem

open Cert.KernelIdeal.Value (F5 F6 F7 F8)

/-- The reference completes and keeps its arguments. -/
theorem reference_quiescent : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Equal arguments give equal values. -/
theorem congr4 {A B C D X : Type} (f : A → B → C → D → X) {a a' : A} {b b' : B} {c c' : C} {d d' : D}
    (ha : a = a') (hb : b = b') (hc : c = c') (hd : d = d') : f a b c d = f a' b' c' d' := by
  rw [ha, hb, hc, hd]

/-- Equal arguments give equal values. -/
theorem congr5 {A B C D E X : Type} (f : A → B → C → D → E → X) {a a' : A} {b b' : B} {c c' : C} {d d' : D} {e e' : E}
    (ha : a = a') (hb : b = b') (hc : c = c') (hd : d = d') (he : e = e') : f a b c d e = f a' b' c' d' e' := by
  rw [ha, hb, hc, hd, he]

instance : Cert.Pre_finite.Facts := Cert.Finite.facts

/-- Over the extended reals the kernel's four results are the reference's. -/
theorem algebraic : Cert.algebraic_KernelIdeal_ReferenceIdeal_pre_finite := by
  intro m ρ m' ρ' hpre hagree
  have h3 := fun c => Cert.Finite.entry _ _ (hpre c).1
  have h4 := fun c => Cert.Finite.entry _ _ (hpre c).2
  refine ⟨F5 m, F6 m, F7 m, F8 m, ?_, ?_⟩
  · refine (θ_run Cert.KernelIdeal.defs _ _).mono (fun r h c => ?_) (Cert.KernelIdeal.Value.run_blocks (F := Ideal) m ρ)
    obtain ⟨e5, e6, e7, e8, hk⟩ := h c
    exact ⟨e5.trans (Cert.KernelIdeal.Value.final5 m c), e6.trans (Cert.KernelIdeal.Value.final6 m c),
      e7.trans (Cert.KernelIdeal.Value.final7 m c), e8.trans (Cert.KernelIdeal.Value.final8 m c), hk⟩
  · refine (θ_run Cert.ReferenceIdeal.defs _ _).mono (fun r h c => ?_) (Cert.ReferenceIdeal.Value.run (F := Ideal) m' ρ')
    obtain ⟨e0, e1, e2, e3, hk⟩ := h c
    obtain ⟨g0, g1, g2, g3, g4⟩ := hagree c
    refine ⟨?_, ?_, ?_, ?_, hk⟩
    · refine (e0.trans (Cert.ReferenceIdeal.Read.val_main_v135_eq _)).trans ?_
      rw [Cert.Equal.eq5 m c (h3 c) (h4 c)]
      exact congr5 _ g0 g1 g2 g3 g4
    · refine (e1.trans (Cert.ReferenceIdeal.Read.val_main_v136_eq _)).trans ?_
      rw [Cert.Equal.eq6 m c (h3 c) (h4 c)]
      exact congr5 _ g0 g1 g2 g3 g4
    · refine (e2.trans (Cert.ReferenceIdeal.Read.val_main_v137_eq _)).trans ?_
      rw [Cert.Equal.eq7 m c (h3 c) (h4 c)]
      exact congr5 _ g0 g1 g2 g3 g4
    · refine (e3.trans (Cert.ReferenceIdeal.Read.val_main_v138_eq _)).trans ?_
      rw [Cert.Equal.eq8 m c]
      exact congr4 _ g0 g1 g2 g3

/-- Everything the certificate claims. -/
theorem claim : Cert.Claim := ⟨Cert.Kernel.Gen.facts, Cert.KernelIdeal.Gen.facts, Cert.ReferenceIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.FfnDact.Gen.facts, Cert.FfnDactIdeal.Gen.facts, Cert.FfnDactRefIdeal.Gen.facts,
  Cert.FfnDin.Gen.facts, Cert.FfnDinIdeal.Gen.facts, Cert.FfnDinRefIdeal.Gen.facts,
  Cert.FfnDw.Gen.facts, Cert.FfnDwIdeal.Gen.facts, Cert.FfnDwRefIdeal.Gen.facts,
  Cert.FfnDwDown.Gen.facts, Cert.FfnDwDownIdeal.Gen.facts, Cert.FfnDwDownRefIdeal.Gen.facts,
  Cert.EvIn.Gen.facts, Cert.EvInIdeal.Gen.facts, Cert.EvInRefIdeal.Gen.facts,
  Cert.EvXbc.Gen.facts, Cert.EvXbcIdeal.Gen.facts, Cert.EvXbcRefIdeal.Gen.facts,
  Cert.OdIn.Gen.facts, Cert.OdInIdeal.Gen.facts, Cert.OdInRefIdeal.Gen.facts,
  Cert.OdU.Gen.facts, Cert.OdUIdeal.Gen.facts, Cert.OdURefIdeal.Gen.facts,
  Cert.EvMix.Gen.facts, Cert.EvMixIdeal.Gen.facts, Cert.EvMixRefIdeal.Gen.facts,
  Cert.OdMix.Gen.facts, Cert.OdMixIdeal.Gen.facts, Cert.OdMixRefIdeal.Gen.facts,
  Cert.EvDout.Gen.facts, Cert.EvDoutIdeal.Gen.facts, Cert.EvDoutRefIdeal.Gen.facts,
  Cert.OdDout.Gen.facts, Cert.OdDoutIdeal.Gen.facts, Cert.OdDoutRefIdeal.Gen.facts,
  Cert.OdDoutU.Gen.facts, Cert.OdDoutUIdeal.Gen.facts, Cert.OdDoutURefIdeal.Gen.facts,
  Cert.EvDw.Gen.facts, Cert.EvDwIdeal.Gen.facts, Cert.EvDwRefIdeal.Gen.facts,
  Cert.EvDwXbc.Gen.facts, Cert.EvDwXbcIdeal.Gen.facts, Cert.EvDwXbcRefIdeal.Gen.facts,
  Cert.OdDw.Gen.facts, Cert.OdDwIdeal.Gen.facts, Cert.OdDwRefIdeal.Gen.facts,
  Cert.OdDwV.Gen.facts, Cert.OdDwVIdeal.Gen.facts, Cert.OdDwVRefIdeal.Gen.facts,
  Cert.OdDwU.Gen.facts, Cert.OdDwUIdeal.Gen.facts, Cert.OdDwURefIdeal.Gen.facts,
  Cert.OdDwOut.Gen.facts, Cert.OdDwOutIdeal.Gen.facts, Cert.OdDwOutRefIdeal.Gen.facts,
  Cert.OdDwOutU.Gen.facts, Cert.OdDwOutUIdeal.Gen.facts, Cert.OdDwOutURefIdeal.Gen.facts,
  Cert.EvDhn.Gen.facts, Cert.EvDhnIdeal.Gen.facts, Cert.EvDhnRefIdeal.Gen.facts,
  Cert.OdDhn.Gen.facts, Cert.OdDhnIdeal.Gen.facts, Cert.OdDhnRefIdeal.Gen.facts,
  Cert.LruConvBwd.Gen.facts, Cert.LruConvBwdIdeal.Gen.facts, Cert.LruConvBwdRefIdeal.Gen.facts,
  Cert.SsdConvBwd.Gen.facts, Cert.SsdConvBwdIdeal.Gen.facts, Cert.SsdConvBwdRefIdeal.Gen.facts,
  Cert.LruConv.Gen.facts, Cert.LruConvIdeal.Gen.facts, Cert.LruConvRefIdeal.Gen.facts,
  Cert.SsdConv.Gen.facts, Cert.SsdConvIdeal.Gen.facts, Cert.SsdConvRefIdeal.Gen.facts,
  Cert.FfnConv.Gen.facts, Cert.FfnConvIdeal.Gen.facts, Cert.FfnConvRefIdeal.Gen.facts,
  Cert.EvDt.Gen.facts, Cert.EvDtIdeal.Gen.facts, Cert.EvDtRefIdeal.Gen.facts,
  Cert.EvDwDt.Gen.facts, Cert.EvDwDtIdeal.Gen.facts, Cert.EvDwDtRefIdeal.Gen.facts,
  Cert.Mod.Gen.facts, Cert.ModIdeal.Gen.facts, Cert.ModRefIdeal.Gen.facts,
  Cert.ModDw.Gen.facts, Cert.ModDwIdeal.Gen.facts, Cert.ModDwRefIdeal.Gen.facts,
  Cert.ModDctx.Gen.facts, Cert.ModDctxIdeal.Gen.facts, Cert.ModDctxRefIdeal.Gen.facts,
  Cert.ModSilu.Gen.facts, Cert.ModSiluIdeal.Gen.facts, Cert.ModSiluRefIdeal.Gen.facts,
  Cert.Norm.Gen.facts, Cert.NormIdeal.Gen.facts, Cert.NormRefIdeal.Gen.facts,
  Cert.ResA.Gen.facts, Cert.ResAIdeal.Gen.facts, Cert.ResARefIdeal.Gen.facts,
  Cert.ResB.Gen.facts, Cert.ResBIdeal.Gen.facts, Cert.ResBRefIdeal.Gen.facts,
  Cert.Finite.facts,
  Cert.FiniteLine.facts,
  fun m ρ _ => Cert.Kernel.Gen.frame m ρ, fun m ρ _ => Cert.KernelIdeal.Gen.frame m ρ,
  fun m ρ _ => Cert.KernelIdeal.Gen.frame m ρ, reference_quiescent, fun m ρ _ => reference_quiescent m ρ trivial,
  fun m ρ _ => Cert.FfnIn.Gen.frame m ρ, fun m ρ _ => Cert.FfnInIdeal.Gen.frame m ρ, quiescent_FfnInRef,
  fun m ρ _ => Cert.FfnOut.Gen.frame m ρ, fun m ρ _ => Cert.FfnOutIdeal.Gen.frame m ρ, quiescent_FfnOutRef,
  fun m ρ _ => Cert.FfnDact.Gen.frame m ρ, fun m ρ _ => Cert.FfnDactIdeal.Gen.frame m ρ, quiescent_FfnDactRef,
  fun m ρ _ => Cert.FfnDin.Gen.frame m ρ, fun m ρ _ => Cert.FfnDinIdeal.Gen.frame m ρ, quiescent_FfnDinRef,
  fun m ρ _ => Cert.FfnDw.Gen.frame m ρ, fun m ρ _ => Cert.FfnDwIdeal.Gen.frame m ρ, quiescent_FfnDwRef,
  fun m ρ _ => Cert.FfnDwDown.Gen.frame m ρ, fun m ρ _ => Cert.FfnDwDownIdeal.Gen.frame m ρ, quiescent_FfnDwDownRef,
  fun m ρ _ => Cert.EvIn.Gen.frame m ρ, fun m ρ _ => Cert.EvInIdeal.Gen.frame m ρ, quiescent_EvInRef,
  fun m ρ _ => Cert.EvXbc.Gen.frame m ρ, fun m ρ _ => Cert.EvXbcIdeal.Gen.frame m ρ, quiescent_EvXbcRef,
  fun m ρ _ => Cert.OdIn.Gen.frame m ρ, fun m ρ _ => Cert.OdInIdeal.Gen.frame m ρ, quiescent_OdInRef,
  fun m ρ _ => Cert.OdU.Gen.frame m ρ, fun m ρ _ => Cert.OdUIdeal.Gen.frame m ρ, quiescent_OdURef,
  fun m ρ _ => Cert.EvMix.Gen.frame m ρ, fun m ρ _ => Cert.EvMixIdeal.Gen.frame m ρ, quiescent_EvMixRef,
  fun m ρ _ => Cert.OdMix.Gen.frame m ρ, fun m ρ _ => Cert.OdMixIdeal.Gen.frame m ρ, quiescent_OdMixRef,
  fun m ρ _ => Cert.EvDout.Gen.frame m ρ, fun m ρ _ => Cert.EvDoutIdeal.Gen.frame m ρ, quiescent_EvDoutRef,
  fun m ρ _ => Cert.OdDout.Gen.frame m ρ, fun m ρ _ => Cert.OdDoutIdeal.Gen.frame m ρ, quiescent_OdDoutRef,
  fun m ρ _ => Cert.OdDoutU.Gen.frame m ρ, fun m ρ _ => Cert.OdDoutUIdeal.Gen.frame m ρ, quiescent_OdDoutURef,
  fun m ρ _ => Cert.EvDw.Gen.frame m ρ, fun m ρ _ => Cert.EvDwIdeal.Gen.frame m ρ, quiescent_EvDwRef,
  fun m ρ _ => Cert.EvDwXbc.Gen.frame m ρ, fun m ρ _ => Cert.EvDwXbcIdeal.Gen.frame m ρ, quiescent_EvDwXbcRef,
  fun m ρ _ => Cert.OdDw.Gen.frame m ρ, fun m ρ _ => Cert.OdDwIdeal.Gen.frame m ρ, quiescent_OdDwRef,
  fun m ρ _ => Cert.OdDwV.Gen.frame m ρ, fun m ρ _ => Cert.OdDwVIdeal.Gen.frame m ρ, quiescent_OdDwVRef,
  fun m ρ _ => Cert.OdDwU.Gen.frame m ρ, fun m ρ _ => Cert.OdDwUIdeal.Gen.frame m ρ, quiescent_OdDwURef,
  fun m ρ _ => Cert.OdDwOut.Gen.frame m ρ, fun m ρ _ => Cert.OdDwOutIdeal.Gen.frame m ρ, quiescent_OdDwOutRef,
  fun m ρ _ => Cert.OdDwOutU.Gen.frame m ρ, fun m ρ _ => Cert.OdDwOutUIdeal.Gen.frame m ρ, quiescent_OdDwOutURef,
  fun m ρ _ => Cert.EvDhn.Gen.frame m ρ, fun m ρ _ => Cert.EvDhnIdeal.Gen.frame m ρ, quiescent_EvDhnRef,
  fun m ρ _ => Cert.OdDhn.Gen.frame m ρ, fun m ρ _ => Cert.OdDhnIdeal.Gen.frame m ρ, quiescent_OdDhnRef,
  fun m ρ _ => Cert.LruConvBwd.Gen.frame m ρ, fun m ρ _ => Cert.LruConvBwdIdeal.Gen.frame m ρ, quiescent_LruConvBwdRef,
  fun m ρ _ => Cert.SsdConvBwd.Gen.frame m ρ, fun m ρ _ => Cert.SsdConvBwdIdeal.Gen.frame m ρ, fun m ρ _ => Cert.SsdConvBwdIdeal.Gen.frame m ρ,
  quiescent_SsdConvBwdRef, fun m ρ _ => quiescent_SsdConvBwdRef m ρ trivial,
  fun m ρ _ => Cert.LruConv.Gen.frame m ρ, fun m ρ _ => Cert.LruConvIdeal.Gen.frame m ρ, quiescent_LruConvRef,
  fun m ρ _ => Cert.SsdConv.Gen.frame m ρ, fun m ρ _ => Cert.SsdConvIdeal.Gen.frame m ρ, quiescent_SsdConvRef,
  fun m ρ _ => Cert.FfnConv.Gen.frame m ρ, fun m ρ _ => Cert.FfnConvIdeal.Gen.frame m ρ, quiescent_FfnConvRef,
  fun m ρ _ => Cert.EvDt.Gen.frame m ρ, fun m ρ _ => Cert.EvDtIdeal.Gen.frame m ρ, quiescent_EvDtRef,
  fun m ρ _ => Cert.EvDwDt.Gen.frame m ρ, fun m ρ _ => Cert.EvDwDtIdeal.Gen.frame m ρ, quiescent_EvDwDtRef,
  fun m ρ _ => Cert.Mod.Gen.frame m ρ, fun m ρ _ => Cert.ModIdeal.Gen.frame m ρ, quiescent_ModRef,
  fun m ρ _ => Cert.ModDw.Gen.frame m ρ, fun m ρ _ => Cert.ModDwIdeal.Gen.frame m ρ, quiescent_ModDwRef,
  fun m ρ _ => Cert.ModDctx.Gen.frame m ρ, fun m ρ _ => Cert.ModDctxIdeal.Gen.frame m ρ, quiescent_ModDctxRef,
  fun m ρ _ => Cert.ModSilu.Gen.frame m ρ, fun m ρ _ => Cert.ModSiluIdeal.Gen.frame m ρ, quiescent_ModSiluRef,
  fun m ρ _ => Cert.Norm.Gen.frame m ρ, fun m ρ _ => Cert.NormIdeal.Gen.frame m ρ, quiescent_NormRef,
  fun m ρ _ => Cert.ResA.Gen.frame m ρ, fun m ρ _ => Cert.ResAIdeal.Gen.frame m ρ, quiescent_ResARef,
  fun m ρ _ => Cert.ResB.Gen.frame m ρ, fun m ρ _ => Cert.ResBIdeal.Gen.frame m ρ, quiescent_ResBRef,
  trivial, algebraic,
  trivial, algebraic_FfnIn,
  trivial, algebraic_FfnOut,
  trivial, algebraic_FfnDact,
  trivial, algebraic_FfnDin,
  trivial, algebraic_FfnDw,
  trivial, algebraic_FfnDwDown,
  trivial, algebraic_EvIn,
  trivial, algebraic_EvXbc,
  trivial, algebraic_OdIn,
  trivial, algebraic_OdU,
  trivial, algebraic_EvMix,
  trivial, algebraic_OdMix,
  trivial, algebraic_EvDout,
  trivial, algebraic_OdDout,
  trivial, algebraic_OdDoutU,
  trivial, algebraic_EvDw,
  trivial, algebraic_EvDwXbc,
  trivial, algebraic_OdDw,
  trivial, algebraic_OdDwV,
  trivial, algebraic_OdDwU,
  trivial, algebraic_OdDwOut,
  trivial, algebraic_OdDwOutU,
  trivial, algebraic_EvDhn,
  trivial, algebraic_OdDhn,
  trivial, algebraic_LruConvBwd,
  trivial, algebraic_SsdConvBwd,
  trivial, algebraic_LruConv,
  trivial, algebraic_SsdConv,
  trivial, algebraic_FfnConv,
  trivial, algebraic_EvDt,
  trivial, algebraic_EvDwDt,
  trivial, algebraic_Mod,
  trivial, algebraic_ModDw,
  trivial, algebraic_ModDctx,
  trivial, algebraic_ModSilu,
  trivial, algebraic_Norm,
  trivial, algebraic_ResA,
  trivial, algebraic_ResB⟩

end Cert.Proof

end
